-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelWOut (m : (ℓ : Loc Cert.KernelWOut.nD Cert.KernelWOut.τ Cert.KernelWOut.sig) → Buf (Elt Bits) ℓ) : Prop :=
  True

def Pre_KernelWOutIdeal (m : (ℓ : Loc Cert.KernelWOutIdeal.nD Cert.KernelWOutIdeal.τ Cert.KernelWOutIdeal.sig) → Buf (Elt Ideal) ℓ) : Prop :=
  True

def Pre_ReferenceWOutIdeal (m : (ℓ : Loc Cert.ReferenceWOutIdeal.nD Cert.ReferenceWOutIdeal.τ Cert.ReferenceWOutIdeal.sig) → Buf (Elt Ideal) ℓ) : Prop :=
  True

def Pre_KernelWIn (m : (ℓ : Loc Cert.KernelWIn.nD Cert.KernelWIn.τ Cert.KernelWIn.sig) → Buf (Elt Bits) ℓ) : Prop :=
  True

def Pre_KernelWInIdeal (m : (ℓ : Loc Cert.KernelWInIdeal.nD Cert.KernelWInIdeal.τ Cert.KernelWInIdeal.sig) → Buf (Elt Ideal) ℓ) : Prop :=
  True

def Pre_ReferenceWInIdeal (m : (ℓ : Loc Cert.ReferenceWInIdeal.nD Cert.ReferenceWInIdeal.τ Cert.ReferenceWInIdeal.sig) → Buf (Elt Ideal) ℓ) : Prop :=
  True

def Pre_KernelWDown (m : (ℓ : Loc Cert.KernelWDown.nD Cert.KernelWDown.τ Cert.KernelWDown.sig) → Buf (Elt Bits) ℓ) : Prop :=
  True

def Pre_KernelWDownIdeal (m : (ℓ : Loc Cert.KernelWDownIdeal.nD Cert.KernelWDownIdeal.τ Cert.KernelWDownIdeal.sig) → Buf (Elt Ideal) ℓ) : Prop :=
  True

def Pre_ReferenceWDownIdeal (m : (ℓ : Loc Cert.ReferenceWDownIdeal.nD Cert.ReferenceWDownIdeal.τ Cert.ReferenceWDownIdeal.sig) → Buf (Elt Ideal) ℓ) : Prop :=
  True

def Pre_KernelWUpA (m : (ℓ : Loc Cert.KernelWUpA.nD Cert.KernelWUpA.τ Cert.KernelWUpA.sig) → Buf (Elt Bits) ℓ) : Prop :=
  True

def Pre_KernelWUpAIdeal (m : (ℓ : Loc Cert.KernelWUpAIdeal.nD Cert.KernelWUpAIdeal.τ Cert.KernelWUpAIdeal.sig) → Buf (Elt Ideal) ℓ) : Prop :=
  True

def Pre_ReferenceWUpAIdeal (m : (ℓ : Loc Cert.ReferenceWUpAIdeal.nD Cert.ReferenceWUpAIdeal.τ Cert.ReferenceWUpAIdeal.sig) → Buf (Elt Ideal) ℓ) : Prop :=
  True

def Pre_KernelWUpB (m : (ℓ : Loc Cert.KernelWUpB.nD Cert.KernelWUpB.τ Cert.KernelWUpB.sig) → Buf (Elt Bits) ℓ) : Prop :=
  True

def Pre_KernelWUpBIdeal (m : (ℓ : Loc Cert.KernelWUpBIdeal.nD Cert.KernelWUpBIdeal.τ Cert.KernelWUpBIdeal.sig) → Buf (Elt Ideal) ℓ) : Prop :=
  True

def Pre_ReferenceWUpBIdeal (m : (ℓ : Loc Cert.ReferenceWUpBIdeal.nD Cert.ReferenceWUpBIdeal.τ Cert.ReferenceWUpBIdeal.sig) → Buf (Elt Ideal) ℓ) : Prop :=
  True

def Pre_KernelWBr (m : (ℓ : Loc Cert.KernelWBr.nD Cert.KernelWBr.τ Cert.KernelWBr.sig) → Buf (Elt Bits) ℓ) : Prop :=
  True

def Pre_KernelWBrIdeal (m : (ℓ : Loc Cert.KernelWBrIdeal.nD Cert.KernelWBrIdeal.τ Cert.KernelWBrIdeal.sig) → Buf (Elt Ideal) ℓ) : Prop :=
  True

def Pre_ReferenceWBrIdeal (m : (ℓ : Loc Cert.ReferenceWBrIdeal.nD Cert.ReferenceWBrIdeal.τ Cert.ReferenceWBrIdeal.sig) → Buf (Elt Ideal) ℓ) : Prop :=
  True

def Pre_KernelWAttn (m : (ℓ : Loc Cert.KernelWAttn.nD Cert.KernelWAttn.τ Cert.KernelWAttn.sig) → Buf (Elt Bits) ℓ) : Prop :=
  True

def Pre_KernelWAttnIdeal (m : (ℓ : Loc Cert.KernelWAttnIdeal.nD Cert.KernelWAttnIdeal.τ Cert.KernelWAttnIdeal.sig) → Buf (Elt Ideal) ℓ) : Prop :=
  True

def Pre_ReferenceWAttnIdeal (m : (ℓ : Loc Cert.ReferenceWAttnIdeal.nD Cert.ReferenceWAttnIdeal.τ Cert.ReferenceWAttnIdeal.sig) → Buf (Elt Ideal) ℓ) : Prop :=
  True

def Pre_KernelWGlu (m : (ℓ : Loc Cert.KernelWGlu.nD Cert.KernelWGlu.τ Cert.KernelWGlu.sig) → Buf (Elt Bits) ℓ) : Prop :=
  True

def Pre_KernelWGluIdeal (m : (ℓ : Loc Cert.KernelWGluIdeal.nD Cert.KernelWGluIdeal.τ Cert.KernelWGluIdeal.sig) → Buf (Elt Ideal) ℓ) : Prop :=
  True

def Pre_ReferenceWGluIdeal (m : (ℓ : Loc Cert.ReferenceWGluIdeal.nD Cert.ReferenceWGluIdeal.τ Cert.ReferenceWGluIdeal.sig) → Buf (Elt Ideal) ℓ) : Prop :=
  True

def Pre_KernelFfnA (m : (ℓ : Loc Cert.KernelFfnA.nD Cert.KernelFfnA.τ Cert.KernelFfnA.sig) → Buf (Elt Bits) ℓ) : Prop :=
  True

def Pre_KernelFfnAIdeal (m : (ℓ : Loc Cert.KernelFfnAIdeal.nD Cert.KernelFfnAIdeal.τ Cert.KernelFfnAIdeal.sig) → Buf (Elt Ideal) ℓ) : Prop :=
  True

def Pre_ReferenceFfnAIdeal (m : (ℓ : Loc Cert.ReferenceFfnAIdeal.nD Cert.ReferenceFfnAIdeal.τ Cert.ReferenceFfnAIdeal.sig) → Buf (Elt Ideal) ℓ) : Prop :=
  True

def Pre_KernelFfnB (m : (ℓ : Loc Cert.KernelFfnB.nD Cert.KernelFfnB.τ Cert.KernelFfnB.sig) → Buf (Elt Bits) ℓ) : Prop :=
  True

def Pre_KernelFfnBIdeal (m : (ℓ : Loc Cert.KernelFfnBIdeal.nD Cert.KernelFfnBIdeal.τ Cert.KernelFfnBIdeal.sig) → Buf (Elt Ideal) ℓ) : Prop :=
  True

def Pre_ReferenceFfnBIdeal (m : (ℓ : Loc Cert.ReferenceFfnBIdeal.nD Cert.ReferenceFfnBIdeal.τ Cert.ReferenceFfnBIdeal.sig) → Buf (Elt Ideal) ℓ) : Prop :=
  True

def Pre_KernelFfnC (m : (ℓ : Loc Cert.KernelFfnC.nD Cert.KernelFfnC.τ Cert.KernelFfnC.sig) → Buf (Elt Bits) ℓ) : Prop :=
  True

def Pre_KernelFfnCIdeal (m : (ℓ : Loc Cert.KernelFfnCIdeal.nD Cert.KernelFfnCIdeal.τ Cert.KernelFfnCIdeal.sig) → Buf (Elt Ideal) ℓ) : Prop :=
  True

def Pre_ReferenceFfnCIdeal (m : (ℓ : Loc Cert.ReferenceFfnCIdeal.nD Cert.ReferenceFfnCIdeal.τ Cert.ReferenceFfnCIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMixA (m : (ℓ : Loc Cert.KernelMixA.nD Cert.KernelMixA.τ Cert.KernelMixA.sig) → Buf (Elt Bits) ℓ) : Prop :=
  True

def Pre_KernelMixAIdeal (m : (ℓ : Loc Cert.KernelMixAIdeal.nD Cert.KernelMixAIdeal.τ Cert.KernelMixAIdeal.sig) → Buf (Elt Ideal) ℓ) : Prop :=
  True

def Pre_ReferenceMixAIdeal (m : (ℓ : Loc Cert.ReferenceMixAIdeal.nD Cert.ReferenceMixAIdeal.τ Cert.ReferenceMixAIdeal.sig) → Buf (Elt Ideal) ℓ) : Prop :=
  True

def Pre_KernelMixB (m : (ℓ : Loc Cert.KernelMixB.nD Cert.KernelMixB.τ Cert.KernelMixB.sig) → Buf (Elt Bits) ℓ) : Prop :=
  True

def Pre_KernelMixBIdeal (m : (ℓ : Loc Cert.KernelMixBIdeal.nD Cert.KernelMixBIdeal.τ Cert.KernelMixBIdeal.sig) → Buf (Elt Ideal) ℓ) : Prop :=
  True

def Pre_ReferenceMixBIdeal (m : (ℓ : Loc Cert.ReferenceMixBIdeal.nD Cert.ReferenceMixBIdeal.τ Cert.ReferenceMixBIdeal.sig) → Buf (Elt Ideal) ℓ) : Prop :=
  True

def Pre_KernelBackA (m : (ℓ : Loc Cert.KernelBackA.nD Cert.KernelBackA.τ Cert.KernelBackA.sig) → Buf (Elt Bits) ℓ) : Prop :=
  True

def Pre_KernelBackAIdeal (m : (ℓ : Loc Cert.KernelBackAIdeal.nD Cert.KernelBackAIdeal.τ Cert.KernelBackAIdeal.sig) → Buf (Elt Ideal) ℓ) : Prop :=
  True

def Pre_ReferenceBackAIdeal (m : (ℓ : Loc Cert.ReferenceBackAIdeal.nD Cert.ReferenceBackAIdeal.τ Cert.ReferenceBackAIdeal.sig) → Buf (Elt Ideal) ℓ) : Prop :=
  True

def Pre_KernelProjA (m : (ℓ : Loc Cert.KernelProjA.nD Cert.KernelProjA.τ Cert.KernelProjA.sig) → Buf (Elt Bits) ℓ) : Prop :=
  True

def Pre_KernelProjAIdeal (m : (ℓ : Loc Cert.KernelProjAIdeal.nD Cert.KernelProjAIdeal.τ Cert.KernelProjAIdeal.sig) → Buf (Elt Ideal) ℓ) : Prop :=
  True

def Pre_ReferenceProjAIdeal (m : (ℓ : Loc Cert.ReferenceProjAIdeal.nD Cert.ReferenceProjAIdeal.τ Cert.ReferenceProjAIdeal.sig) → Buf (Elt Ideal) ℓ) : Prop :=
  True

def Pre_KernelProjB (m : (ℓ : Loc Cert.KernelProjB.nD Cert.KernelProjB.τ Cert.KernelProjB.sig) → Buf (Elt Bits) ℓ) : Prop :=
  True

def Pre_KernelProjBIdeal (m : (ℓ : Loc Cert.KernelProjBIdeal.nD Cert.KernelProjBIdeal.τ Cert.KernelProjBIdeal.sig) → Buf (Elt Ideal) ℓ) : Prop :=
  True

def Pre_ReferenceProjBIdeal (m : (ℓ : Loc Cert.ReferenceProjBIdeal.nD Cert.ReferenceProjBIdeal.τ Cert.ReferenceProjBIdeal.sig) → Buf (Elt Ideal) ℓ) : Prop :=
  True

def Pre_KernelOptSmall (m : (ℓ : Loc Cert.KernelOptSmall.nD Cert.KernelOptSmall.τ Cert.KernelOptSmall.sig) → Buf (Elt Bits) ℓ) : Prop :=
  True

def Pre_KernelOptSmallIdeal (m : (ℓ : Loc Cert.KernelOptSmallIdeal.nD Cert.KernelOptSmallIdeal.τ Cert.KernelOptSmallIdeal.sig) → Buf (Elt Ideal) ℓ) : Prop :=
  True

def Pre_ReferenceOptSmallIdeal (m : (ℓ : Loc Cert.ReferenceOptSmallIdeal.nD Cert.ReferenceOptSmallIdeal.τ Cert.ReferenceOptSmallIdeal.sig) → Buf (Elt Ideal) ℓ) : Prop :=
  True

def Pre_KernelOptUpB (m : (ℓ : Loc Cert.KernelOptUpB.nD Cert.KernelOptUpB.τ Cert.KernelOptUpB.sig) → Buf (Elt Bits) ℓ) : Prop :=
  True

def Pre_KernelOptUpBIdeal (m : (ℓ : Loc Cert.KernelOptUpBIdeal.nD Cert.KernelOptUpBIdeal.τ Cert.KernelOptUpBIdeal.sig) → Buf (Elt Ideal) ℓ) : Prop :=
  True

def Pre_ReferenceOptUpBIdeal (m : (ℓ : Loc Cert.ReferenceOptUpBIdeal.nD Cert.ReferenceOptUpBIdeal.τ Cert.ReferenceOptUpBIdeal.sig) → Buf (Elt Ideal) ℓ) : Prop :=
  True

def Pre_KernelOptUpA (m : (ℓ : Loc Cert.KernelOptUpA.nD Cert.KernelOptUpA.τ Cert.KernelOptUpA.sig) → Buf (Elt Bits) ℓ) : Prop :=
  True

def Pre_KernelOptUpAIdeal (m : (ℓ : Loc Cert.KernelOptUpAIdeal.nD Cert.KernelOptUpAIdeal.τ Cert.KernelOptUpAIdeal.sig) → Buf (Elt Ideal) ℓ) : Prop :=
  True

def Pre_ReferenceOptUpAIdeal (m : (ℓ : Loc Cert.ReferenceOptUpAIdeal.nD Cert.ReferenceOptUpAIdeal.τ Cert.ReferenceOptUpAIdeal.sig) → Buf (Elt Ideal) ℓ) : Prop :=
  True

def Pre_KernelOptDownB (m : (ℓ : Loc Cert.KernelOptDownB.nD Cert.KernelOptDownB.τ Cert.KernelOptDownB.sig) → Buf (Elt Bits) ℓ) : Prop :=
  True

def Pre_KernelOptDownBIdeal (m : (ℓ : Loc Cert.KernelOptDownBIdeal.nD Cert.KernelOptDownBIdeal.τ Cert.KernelOptDownBIdeal.sig) → Buf (Elt Ideal) ℓ) : Prop :=
  True

def Pre_ReferenceOptDownBIdeal (m : (ℓ : Loc Cert.ReferenceOptDownBIdeal.nD Cert.ReferenceOptDownBIdeal.τ Cert.ReferenceOptDownBIdeal.sig) → Buf (Elt Ideal) ℓ) : Prop :=
  True

def Pre_KernelOptDownA (m : (ℓ : Loc Cert.KernelOptDownA.nD Cert.KernelOptDownA.τ Cert.KernelOptDownA.sig) → Buf (Elt Bits) ℓ) : Prop :=
  True

def Pre_KernelOptDownAIdeal (m : (ℓ : Loc Cert.KernelOptDownAIdeal.nD Cert.KernelOptDownAIdeal.τ Cert.KernelOptDownAIdeal.sig) → Buf (Elt Ideal) ℓ) : Prop :=
  True

def Pre_ReferenceOptDownAIdeal (m : (ℓ : Loc Cert.ReferenceOptDownAIdeal.nD Cert.ReferenceOptDownAIdeal.τ Cert.ReferenceOptDownAIdeal.sig) → Buf (Elt Ideal) ℓ) : Prop :=
  True

def Pre_KernelOptInB (m : (ℓ : Loc Cert.KernelOptInB.nD Cert.KernelOptInB.τ Cert.KernelOptInB.sig) → Buf (Elt Bits) ℓ) : Prop :=
  True

def Pre_KernelOptInBIdeal (m : (ℓ : Loc Cert.KernelOptInBIdeal.nD Cert.KernelOptInBIdeal.τ Cert.KernelOptInBIdeal.sig) → Buf (Elt Ideal) ℓ) : Prop :=
  True

def Pre_ReferenceOptInBIdeal (m : (ℓ : Loc Cert.ReferenceOptInBIdeal.nD Cert.ReferenceOptInBIdeal.τ Cert.ReferenceOptInBIdeal.sig) → Buf (Elt Ideal) ℓ) : Prop :=
  True

def Pre_KernelOptInA (m : (ℓ : Loc Cert.KernelOptInA.nD Cert.KernelOptInA.τ Cert.KernelOptInA.sig) → Buf (Elt Bits) ℓ) : Prop :=
  True

def Pre_KernelOptInAIdeal (m : (ℓ : Loc Cert.KernelOptInAIdeal.nD Cert.KernelOptInAIdeal.τ Cert.KernelOptInAIdeal.sig) → Buf (Elt Ideal) ℓ) : Prop :=
  True

def Pre_ReferenceOptInAIdeal (m : (ℓ : Loc Cert.ReferenceOptInAIdeal.nD Cert.ReferenceOptInAIdeal.τ Cert.ReferenceOptInAIdeal.sig) → Buf (Elt Ideal) ℓ) : Prop :=
  True

def Pre_KernelOptGluB (m : (ℓ : Loc Cert.KernelOptGluB.nD Cert.KernelOptGluB.τ Cert.KernelOptGluB.sig) → Buf (Elt Bits) ℓ) : Prop :=
  True

def Pre_KernelOptGluBIdeal (m : (ℓ : Loc Cert.KernelOptGluBIdeal.nD Cert.KernelOptGluBIdeal.τ Cert.KernelOptGluBIdeal.sig) → Buf (Elt Ideal) ℓ) : Prop :=
  True

def Pre_ReferenceOptGluBIdeal (m : (ℓ : Loc Cert.ReferenceOptGluBIdeal.nD Cert.ReferenceOptGluBIdeal.τ Cert.ReferenceOptGluBIdeal.sig) → Buf (Elt Ideal) ℓ) : Prop :=
  True

def Pre_KernelOptGluA (m : (ℓ : Loc Cert.KernelOptGluA.nD Cert.KernelOptGluA.τ Cert.KernelOptGluA.sig) → Buf (Elt Bits) ℓ) : Prop :=
  True

def Pre_KernelOptGluAIdeal (m : (ℓ : Loc Cert.KernelOptGluAIdeal.nD Cert.KernelOptGluAIdeal.τ Cert.KernelOptGluAIdeal.sig) → Buf (Elt Ideal) ℓ) : Prop :=
  True

def Pre_ReferenceOptGluAIdeal (m : (ℓ : Loc Cert.ReferenceOptGluAIdeal.nD Cert.ReferenceOptGluAIdeal.τ Cert.ReferenceOptGluAIdeal.sig) → Buf (Elt Ideal) ℓ) : Prop :=
  True

def Pre_KernelOptBrB (m : (ℓ : Loc Cert.KernelOptBrB.nD Cert.KernelOptBrB.τ Cert.KernelOptBrB.sig) → Buf (Elt Bits) ℓ) : Prop :=
  True

def Pre_KernelOptBrBIdeal (m : (ℓ : Loc Cert.KernelOptBrBIdeal.nD Cert.KernelOptBrBIdeal.τ Cert.KernelOptBrBIdeal.sig) → Buf (Elt Ideal) ℓ) : Prop :=
  True

def Pre_ReferenceOptBrBIdeal (m : (ℓ : Loc Cert.ReferenceOptBrBIdeal.nD Cert.ReferenceOptBrBIdeal.τ Cert.ReferenceOptBrBIdeal.sig) → Buf (Elt Ideal) ℓ) : Prop :=
  True

def Pre_KernelOptBrA (m : (ℓ : Loc Cert.KernelOptBrA.nD Cert.KernelOptBrA.τ Cert.KernelOptBrA.sig) → Buf (Elt Bits) ℓ) : Prop :=
  True

def Pre_KernelOptBrAIdeal (m : (ℓ : Loc Cert.KernelOptBrAIdeal.nD Cert.KernelOptBrAIdeal.τ Cert.KernelOptBrAIdeal.sig) → Buf (Elt Ideal) ℓ) : Prop :=
  True

def Pre_ReferenceOptBrAIdeal (m : (ℓ : Loc Cert.ReferenceOptBrAIdeal.nD Cert.ReferenceOptBrAIdeal.τ Cert.ReferenceOptBrAIdeal.sig) → Buf (Elt Ideal) ℓ) : Prop :=
  True

def Pre_KernelOptAttnB (m : (ℓ : Loc Cert.KernelOptAttnB.nD Cert.KernelOptAttnB.τ Cert.KernelOptAttnB.sig) → Buf (Elt Bits) ℓ) : Prop :=
  True

def Pre_KernelOptAttnBIdeal (m : (ℓ : Loc Cert.KernelOptAttnBIdeal.nD Cert.KernelOptAttnBIdeal.τ Cert.KernelOptAttnBIdeal.sig) → Buf (Elt Ideal) ℓ) : Prop :=
  True

def Pre_ReferenceOptAttnBIdeal (m : (ℓ : Loc Cert.ReferenceOptAttnBIdeal.nD Cert.ReferenceOptAttnBIdeal.τ Cert.ReferenceOptAttnBIdeal.sig) → Buf (Elt Ideal) ℓ) : Prop :=
  True

def Pre_KernelOptAttnA (m : (ℓ : Loc Cert.KernelOptAttnA.nD Cert.KernelOptAttnA.τ Cert.KernelOptAttnA.sig) → Buf (Elt Bits) ℓ) : Prop :=
  True

def Pre_KernelOptAttnAIdeal (m : (ℓ : Loc Cert.KernelOptAttnAIdeal.nD Cert.KernelOptAttnAIdeal.τ Cert.KernelOptAttnAIdeal.sig) → Buf (Elt Ideal) ℓ) : Prop :=
  True

def Pre_ReferenceOptAttnAIdeal (m : (ℓ : Loc Cert.ReferenceOptAttnAIdeal.nD Cert.ReferenceOptAttnAIdeal.τ Cert.ReferenceOptAttnAIdeal.sig) → Buf (Elt Ideal) ℓ) : Prop :=
  True

def Pre_KernelOptConvB (m : (ℓ : Loc Cert.KernelOptConvB.nD Cert.KernelOptConvB.τ Cert.KernelOptConvB.sig) → Buf (Elt Bits) ℓ) : Prop :=
  True

def Pre_KernelOptConvBIdeal (m : (ℓ : Loc Cert.KernelOptConvBIdeal.nD Cert.KernelOptConvBIdeal.τ Cert.KernelOptConvBIdeal.sig) → Buf (Elt Ideal) ℓ) : Prop :=
  True

def Pre_ReferenceOptConvBIdeal (m : (ℓ : Loc Cert.ReferenceOptConvBIdeal.nD Cert.ReferenceOptConvBIdeal.τ Cert.ReferenceOptConvBIdeal.sig) → Buf (Elt Ideal) ℓ) : Prop :=
  True

def Pre_KernelOptConvA (m : (ℓ : Loc Cert.KernelOptConvA.nD Cert.KernelOptConvA.τ Cert.KernelOptConvA.sig) → Buf (Elt Bits) ℓ) : Prop :=
  True

def Pre_KernelOptConvAIdeal (m : (ℓ : Loc Cert.KernelOptConvAIdeal.nD Cert.KernelOptConvAIdeal.τ Cert.KernelOptConvAIdeal.sig) → Buf (Elt Ideal) ℓ) : Prop :=
  True

def Pre_ReferenceOptConvAIdeal (m : (ℓ : Loc Cert.ReferenceOptConvAIdeal.nD Cert.ReferenceOptConvAIdeal.τ Cert.ReferenceOptConvAIdeal.sig) → Buf (Elt Ideal) ℓ) : Prop :=
  True

def Pre_KernelOptOutB (m : (ℓ : Loc Cert.KernelOptOutB.nD Cert.KernelOptOutB.τ Cert.KernelOptOutB.sig) → Buf (Elt Bits) ℓ) : Prop :=
  True

def Pre_KernelOptOutBIdeal (m : (ℓ : Loc Cert.KernelOptOutBIdeal.nD Cert.KernelOptOutBIdeal.τ Cert.KernelOptOutBIdeal.sig) → Buf (Elt Ideal) ℓ) : Prop :=
  True

def Pre_ReferenceOptOutBIdeal (m : (ℓ : Loc Cert.ReferenceOptOutBIdeal.nD Cert.ReferenceOptOutBIdeal.τ Cert.ReferenceOptOutBIdeal.sig) → Buf (Elt Ideal) ℓ) : Prop :=
  True

def Pre_KernelOptOutA (m : (ℓ : Loc Cert.KernelOptOutA.nD Cert.KernelOptOutA.τ Cert.KernelOptOutA.sig) → Buf (Elt Bits) ℓ) : Prop :=
  True

def Pre_KernelOptOutAIdeal (m : (ℓ : Loc Cert.KernelOptOutAIdeal.nD Cert.KernelOptOutAIdeal.τ Cert.KernelOptOutAIdeal.sig) → Buf (Elt Ideal) ℓ) : Prop :=
  True

def Pre_ReferenceOptOutAIdeal (m : (ℓ : Loc Cert.ReferenceOptOutAIdeal.nD Cert.ReferenceOptOutAIdeal.τ Cert.ReferenceOptOutAIdeal.sig) → Buf (Elt Ideal) ℓ) : Prop :=
  True

def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelWSc (m : (ℓ : Loc Cert.KernelWSc.nD Cert.KernelWSc.τ Cert.KernelWSc.sig) → Buf (Elt Bits) ℓ) : Prop :=
  True

def Pre_KernelWScIdeal (m : (ℓ : Loc Cert.KernelWScIdeal.nD Cert.KernelWScIdeal.τ Cert.KernelWScIdeal.sig) → Buf (Elt Ideal) ℓ) : Prop :=
  True

def Pre_ReferenceWScIdeal (m : (ℓ : Loc Cert.ReferenceWScIdeal.nD Cert.ReferenceWScIdeal.τ Cert.ReferenceWScIdeal.sig) → Buf (Elt Ideal) ℓ) : Prop :=
  True

def Pre_KernelWSb (m : (ℓ : Loc Cert.KernelWSb.nD Cert.KernelWSb.τ Cert.KernelWSb.sig) → Buf (Elt Bits) ℓ) : Prop :=
  True

def Pre_KernelWSbIdeal (m : (ℓ : Loc Cert.KernelWSbIdeal.nD Cert.KernelWSbIdeal.τ Cert.KernelWSbIdeal.sig) → Buf (Elt Ideal) ℓ) : Prop :=
  True

def Pre_ReferenceWSbIdeal (m : (ℓ : Loc Cert.ReferenceWSbIdeal.nD Cert.ReferenceWSbIdeal.τ Cert.ReferenceWSbIdeal.sig) → Buf (Elt Ideal) ℓ) : Prop :=
  True

def Pre_KernelConvF (m : (ℓ : Loc Cert.KernelConvF.nD Cert.KernelConvF.τ Cert.KernelConvF.sig) → Buf (Elt Bits) ℓ) : Prop :=
  True

def Pre_KernelConvFIdeal (m : (ℓ : Loc Cert.KernelConvFIdeal.nD Cert.KernelConvFIdeal.τ Cert.KernelConvFIdeal.sig) → Buf (Elt Ideal) ℓ) : Prop :=
  True

def Pre_ReferenceConvFIdeal (m : (ℓ : Loc Cert.ReferenceConvFIdeal.nD Cert.ReferenceConvFIdeal.τ Cert.ReferenceConvFIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelWOut [hKernelWOut : Cert.KernelWOut.Facts] : Prop :=
  ∀ (m : (ℓ : Loc Cert.KernelWOut.nD Cert.KernelWOut.τ Cert.KernelWOut.sig) → Buf (Elt Bits) ℓ) (g : Dev Cert.KernelWOut.nD → PrngReg), Pre_KernelWOut m →
    θ_run (Cert.KernelWOut.defs (F := Bits)) (onTc (τ := Cert.KernelWOut.τ) (Cert.KernelWOut.main (F := Bits))) ⟨m, fun _ => 0, g⟩ (fun r => (∀ c : Dev Cert.KernelWOut.nD,
      r.2.mem ((c.tc : Thread Cert.KernelWOut.nD Cert.KernelWOut.τ).loc Cert.KernelWOut.main_arg0) = m ((c.tc : Thread Cert.KernelWOut.nD Cert.KernelWOut.τ).loc Cert.KernelWOut.main_arg0)
      ∧ r.2.mem ((c.tc : Thread Cert.KernelWOut.nD Cert.KernelWOut.τ).loc Cert.KernelWOut.main_arg1) = m ((c.tc : Thread Cert.KernelWOut.nD Cert.KernelWOut.τ).loc Cert.KernelWOut.main_arg1))
      ∧ r.2.sem = fun _ => 0)

def quiescent_KernelWOutIdeal [hKernelWOutIdeal : Cert.KernelWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg), Pre_KernelWOutIdeal m →
    θ_run (Cert.KernelWOutIdeal.defs (F := Ideal)) (onTc (τ := Cert.KernelWOutIdeal.τ) (Cert.KernelWOutIdeal.main (F := Ideal))) ⟨m, fun _ => 0, g⟩ (fun r => (∀ c : Dev Cert.KernelWOutIdeal.nD,
      r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
      ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ r.2.sem = fun _ => 0)

def quiescent_ReferenceWOutIdeal [hReferenceWOutIdeal : Cert.ReferenceWOutIdeal.Facts] : Prop :=
  ∀ (m : (ℓ : Loc Cert.ReferenceWOutIdeal.nD Cert.ReferenceWOutIdeal.τ Cert.ReferenceWOutIdeal.sig) → Buf (Elt Ideal) ℓ) (g : Dev Cert.ReferenceWOutIdeal.nD → PrngReg), Pre_ReferenceWOutIdeal m →
    θ_run (Cert.ReferenceWOutIdeal.defs (F := Ideal)) (onTc (τ := Cert.ReferenceWOutIdeal.τ) (Cert.ReferenceWOutIdeal.main (F := Ideal))) ⟨m, fun _ => 0, g⟩ (fun r => (∀ c : Dev Cert.ReferenceWOutIdeal.nD,
      r.2.mem ((c.tc : Thread Cert.ReferenceWOutIdeal.nD Cert.ReferenceWOutIdeal.τ).loc Cert.ReferenceWOutIdeal.main_arg0) = m ((c.tc : Thread Cert.ReferenceWOutIdeal.nD Cert.ReferenceWOutIdeal.τ).loc Cert.ReferenceWOutIdeal.main_arg0)
      ∧ r.2.mem ((c.tc : Thread Cert.ReferenceWOutIdeal.nD Cert.ReferenceWOutIdeal.τ).loc Cert.ReferenceWOutIdeal.main_arg1) = m ((c.tc : Thread Cert.ReferenceWOutIdeal.nD Cert.ReferenceWOutIdeal.τ).loc Cert.ReferenceWOutIdeal.main_arg1))
      ∧ r.2.sem = fun _ => 0)

def quiescent_KernelWIn [hKernelWIn : Cert.KernelWIn.Facts] : Prop :=
  ∀ (m : (ℓ : Loc Cert.KernelWIn.nD Cert.KernelWIn.τ Cert.KernelWIn.sig) → Buf (Elt Bits) ℓ) (g : Dev Cert.KernelWIn.nD → PrngReg), Pre_KernelWIn m →
    θ_run (Cert.KernelWIn.defs (F := Bits)) (onTc (τ := Cert.KernelWIn.τ) (Cert.KernelWIn.main (F := Bits))) ⟨m, fun _ => 0, g⟩ (fun r => (∀ c : Dev Cert.KernelWIn.nD,
      r.2.mem ((c.tc : Thread Cert.KernelWIn.nD Cert.KernelWIn.τ).loc Cert.KernelWIn.main_arg0) = m ((c.tc : Thread Cert.KernelWIn.nD Cert.KernelWIn.τ).loc Cert.KernelWIn.main_arg0)
      ∧ r.2.mem ((c.tc : Thread Cert.KernelWIn.nD Cert.KernelWIn.τ).loc Cert.KernelWIn.main_arg1) = m ((c.tc : Thread Cert.KernelWIn.nD Cert.KernelWIn.τ).loc Cert.KernelWIn.main_arg1))
      ∧ r.2.sem = fun _ => 0)

def quiescent_KernelWInIdeal [hKernelWInIdeal : Cert.KernelWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg), Pre_KernelWInIdeal m →
    θ_run (Cert.KernelWInIdeal.defs (F := Ideal)) (onTc (τ := Cert.KernelWInIdeal.τ) (Cert.KernelWInIdeal.main (F := Ideal))) ⟨m, fun _ => 0, g⟩ (fun r => (∀ c : Dev Cert.KernelWInIdeal.nD,
      r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
      ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1))
      ∧ r.2.sem = fun _ => 0)

def quiescent_ReferenceWInIdeal [hReferenceWInIdeal : Cert.ReferenceWInIdeal.Facts] : Prop :=
  ∀ (m : (ℓ : Loc Cert.ReferenceWInIdeal.nD Cert.ReferenceWInIdeal.τ Cert.ReferenceWInIdeal.sig) → Buf (Elt Ideal) ℓ) (g : Dev Cert.ReferenceWInIdeal.nD → PrngReg), Pre_ReferenceWInIdeal m →
    θ_run (Cert.ReferenceWInIdeal.defs (F := Ideal)) (onTc (τ := Cert.ReferenceWInIdeal.τ) (Cert.ReferenceWInIdeal.main (F := Ideal))) ⟨m, fun _ => 0, g⟩ (fun r => (∀ c : Dev Cert.ReferenceWInIdeal.nD,
      r.2.mem ((c.tc : Thread Cert.ReferenceWInIdeal.nD Cert.ReferenceWInIdeal.τ).loc Cert.ReferenceWInIdeal.main_arg0) = m ((c.tc : Thread Cert.ReferenceWInIdeal.nD Cert.ReferenceWInIdeal.τ).loc Cert.ReferenceWInIdeal.main_arg0)
      ∧ r.2.mem ((c.tc : Thread Cert.ReferenceWInIdeal.nD Cert.ReferenceWInIdeal.τ).loc Cert.ReferenceWInIdeal.main_arg1) = m ((c.tc : Thread Cert.ReferenceWInIdeal.nD Cert.ReferenceWInIdeal.τ).loc Cert.ReferenceWInIdeal.main_arg1))
      ∧ r.2.sem = fun _ => 0)

def quiescent_KernelWDown [hKernelWDown : Cert.KernelWDown.Facts] : Prop :=
  ∀ (m : (ℓ : Loc Cert.KernelWDown.nD Cert.KernelWDown.τ Cert.KernelWDown.sig) → Buf (Elt Bits) ℓ) (g : Dev Cert.KernelWDown.nD → PrngReg), Pre_KernelWDown m →
    θ_run (Cert.KernelWDown.defs (F := Bits)) (onTc (τ := Cert.KernelWDown.τ) (Cert.KernelWDown.main (F := Bits))) ⟨m, fun _ => 0, g⟩ (fun r => (∀ c : Dev Cert.KernelWDown.nD,
      r.2.mem ((c.tc : Thread Cert.KernelWDown.nD Cert.KernelWDown.τ).loc Cert.KernelWDown.main_arg0) = m ((c.tc : Thread Cert.KernelWDown.nD Cert.KernelWDown.τ).loc Cert.KernelWDown.main_arg0)
      ∧ r.2.mem ((c.tc : Thread Cert.KernelWDown.nD Cert.KernelWDown.τ).loc Cert.KernelWDown.main_arg1) = m ((c.tc : Thread Cert.KernelWDown.nD Cert.KernelWDown.τ).loc Cert.KernelWDown.main_arg1))
      ∧ r.2.sem = fun _ => 0)

def quiescent_KernelWDownIdeal [hKernelWDownIdeal : Cert.KernelWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg), Pre_KernelWDownIdeal m →
    θ_run (Cert.KernelWDownIdeal.defs (F := Ideal)) (onTc (τ := Cert.KernelWDownIdeal.τ) (Cert.KernelWDownIdeal.main (F := Ideal))) ⟨m, fun _ => 0, g⟩ (fun r => (∀ c : Dev Cert.KernelWDownIdeal.nD,
      r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
      ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ r.2.sem = fun _ => 0)

def quiescent_ReferenceWDownIdeal [hReferenceWDownIdeal : Cert.ReferenceWDownIdeal.Facts] : Prop :=
  ∀ (m : (ℓ : Loc Cert.ReferenceWDownIdeal.nD Cert.ReferenceWDownIdeal.τ Cert.ReferenceWDownIdeal.sig) → Buf (Elt Ideal) ℓ) (g : Dev Cert.ReferenceWDownIdeal.nD → PrngReg), Pre_ReferenceWDownIdeal m →
    θ_run (Cert.ReferenceWDownIdeal.defs (F := Ideal)) (onTc (τ := Cert.ReferenceWDownIdeal.τ) (Cert.ReferenceWDownIdeal.main (F := Ideal))) ⟨m, fun _ => 0, g⟩ (fun r => (∀ c : Dev Cert.ReferenceWDownIdeal.nD,
      r.2.mem ((c.tc : Thread Cert.ReferenceWDownIdeal.nD Cert.ReferenceWDownIdeal.τ).loc Cert.ReferenceWDownIdeal.main_arg0) = m ((c.tc : Thread Cert.ReferenceWDownIdeal.nD Cert.ReferenceWDownIdeal.τ).loc Cert.ReferenceWDownIdeal.main_arg0)
      ∧ r.2.mem ((c.tc : Thread Cert.ReferenceWDownIdeal.nD Cert.ReferenceWDownIdeal.τ).loc Cert.ReferenceWDownIdeal.main_arg1) = m ((c.tc : Thread Cert.ReferenceWDownIdeal.nD Cert.ReferenceWDownIdeal.τ).loc Cert.ReferenceWDownIdeal.main_arg1))
      ∧ r.2.sem = fun _ => 0)

def quiescent_KernelWUpA [hKernelWUpA : Cert.KernelWUpA.Facts] : Prop :=
  ∀ (m : (ℓ : Loc Cert.KernelWUpA.nD Cert.KernelWUpA.τ Cert.KernelWUpA.sig) → Buf (Elt Bits) ℓ) (g : Dev Cert.KernelWUpA.nD → PrngReg), Pre_KernelWUpA m →
    θ_run (Cert.KernelWUpA.defs (F := Bits)) (onTc (τ := Cert.KernelWUpA.τ) (Cert.KernelWUpA.main (F := Bits))) ⟨m, fun _ => 0, g⟩ (fun r => (∀ c : Dev Cert.KernelWUpA.nD,
      r.2.mem ((c.tc : Thread Cert.KernelWUpA.nD Cert.KernelWUpA.τ).loc Cert.KernelWUpA.main_arg0) = m ((c.tc : Thread Cert.KernelWUpA.nD Cert.KernelWUpA.τ).loc Cert.KernelWUpA.main_arg0)
      ∧ r.2.mem ((c.tc : Thread Cert.KernelWUpA.nD Cert.KernelWUpA.τ).loc Cert.KernelWUpA.main_arg1) = m ((c.tc : Thread Cert.KernelWUpA.nD Cert.KernelWUpA.τ).loc Cert.KernelWUpA.main_arg1))
      ∧ r.2.sem = fun _ => 0)

def quiescent_KernelWUpAIdeal [hKernelWUpAIdeal : Cert.KernelWUpAIdeal.Facts] : Prop :=
  ∀ (m : (ℓ : Loc Cert.KernelWUpAIdeal.nD Cert.KernelWUpAIdeal.τ Cert.KernelWUpAIdeal.sig) → Buf (Elt Ideal) ℓ) (g : Dev Cert.KernelWUpAIdeal.nD → PrngReg), Pre_KernelWUpAIdeal m →
    θ_run (Cert.KernelWUpAIdeal.defs (F := Ideal)) (onTc (τ := Cert.KernelWUpAIdeal.τ) (Cert.KernelWUpAIdeal.main (F := Ideal))) ⟨m, fun _ => 0, g⟩ (fun r => (∀ c : Dev Cert.KernelWUpAIdeal.nD,
      r.2.mem ((c.tc : Thread Cert.KernelWUpAIdeal.nD Cert.KernelWUpAIdeal.τ).loc Cert.KernelWUpAIdeal.main_arg0) = m ((c.tc : Thread Cert.KernelWUpAIdeal.nD Cert.KernelWUpAIdeal.τ).loc Cert.KernelWUpAIdeal.main_arg0)
      ∧ r.2.mem ((c.tc : Thread Cert.KernelWUpAIdeal.nD Cert.KernelWUpAIdeal.τ).loc Cert.KernelWUpAIdeal.main_arg1) = m ((c.tc : Thread Cert.KernelWUpAIdeal.nD Cert.KernelWUpAIdeal.τ).loc Cert.KernelWUpAIdeal.main_arg1))
      ∧ r.2.sem = fun _ => 0)

def quiescent_ReferenceWUpAIdeal [hReferenceWUpAIdeal : Cert.ReferenceWUpAIdeal.Facts] : Prop :=
  ∀ (m : (ℓ : Loc Cert.ReferenceWUpAIdeal.nD Cert.ReferenceWUpAIdeal.τ Cert.ReferenceWUpAIdeal.sig) → Buf (Elt Ideal) ℓ) (g : Dev Cert.ReferenceWUpAIdeal.nD → PrngReg), Pre_ReferenceWUpAIdeal m →
    θ_run (Cert.ReferenceWUpAIdeal.defs (F := Ideal)) (onTc (τ := Cert.ReferenceWUpAIdeal.τ) (Cert.ReferenceWUpAIdeal.main (F := Ideal))) ⟨m, fun _ => 0, g⟩ (fun r => (∀ c : Dev Cert.ReferenceWUpAIdeal.nD,
      r.2.mem ((c.tc : Thread Cert.ReferenceWUpAIdeal.nD Cert.ReferenceWUpAIdeal.τ).loc Cert.ReferenceWUpAIdeal.main_arg0) = m ((c.tc : Thread Cert.ReferenceWUpAIdeal.nD Cert.ReferenceWUpAIdeal.τ).loc Cert.ReferenceWUpAIdeal.main_arg0)
      ∧ r.2.mem ((c.tc : Thread Cert.ReferenceWUpAIdeal.nD Cert.ReferenceWUpAIdeal.τ).loc Cert.ReferenceWUpAIdeal.main_arg1) = m ((c.tc : Thread Cert.ReferenceWUpAIdeal.nD Cert.ReferenceWUpAIdeal.τ).loc Cert.ReferenceWUpAIdeal.main_arg1))
      ∧ r.2.sem = fun _ => 0)

def quiescent_KernelWUpB [hKernelWUpB : Cert.KernelWUpB.Facts] : Prop :=
  ∀ (m : (ℓ : Loc Cert.KernelWUpB.nD Cert.KernelWUpB.τ Cert.KernelWUpB.sig) → Buf (Elt Bits) ℓ) (g : Dev Cert.KernelWUpB.nD → PrngReg), Pre_KernelWUpB m →
    θ_run (Cert.KernelWUpB.defs (F := Bits)) (onTc (τ := Cert.KernelWUpB.τ) (Cert.KernelWUpB.main (F := Bits))) ⟨m, fun _ => 0, g⟩ (fun r => (∀ c : Dev Cert.KernelWUpB.nD,
      r.2.mem ((c.tc : Thread Cert.KernelWUpB.nD Cert.KernelWUpB.τ).loc Cert.KernelWUpB.main_arg0) = m ((c.tc : Thread Cert.KernelWUpB.nD Cert.KernelWUpB.τ).loc Cert.KernelWUpB.main_arg0)
      ∧ r.2.mem ((c.tc : Thread Cert.KernelWUpB.nD Cert.KernelWUpB.τ).loc Cert.KernelWUpB.main_arg1) = m ((c.tc : Thread Cert.KernelWUpB.nD Cert.KernelWUpB.τ).loc Cert.KernelWUpB.main_arg1)
      ∧ r.2.mem ((c.tc : Thread Cert.KernelWUpB.nD Cert.KernelWUpB.τ).loc Cert.KernelWUpB.main_arg2) = m ((c.tc : Thread Cert.KernelWUpB.nD Cert.KernelWUpB.τ).loc Cert.KernelWUpB.main_arg2))
      ∧ r.2.sem = fun _ => 0)

def quiescent_KernelWUpBIdeal [hKernelWUpBIdeal : Cert.KernelWUpBIdeal.Facts] : Prop :=
  ∀ (m : (ℓ : Loc Cert.KernelWUpBIdeal.nD Cert.KernelWUpBIdeal.τ Cert.KernelWUpBIdeal.sig) → Buf (Elt Ideal) ℓ) (g : Dev Cert.KernelWUpBIdeal.nD → PrngReg), Pre_KernelWUpBIdeal m →
    θ_run (Cert.KernelWUpBIdeal.defs (F := Ideal)) (onTc (τ := Cert.KernelWUpBIdeal.τ) (Cert.KernelWUpBIdeal.main (F := Ideal))) ⟨m, fun _ => 0, g⟩ (fun r => (∀ c : Dev Cert.KernelWUpBIdeal.nD,
      r.2.mem ((c.tc : Thread Cert.KernelWUpBIdeal.nD Cert.KernelWUpBIdeal.τ).loc Cert.KernelWUpBIdeal.main_arg0) = m ((c.tc : Thread Cert.KernelWUpBIdeal.nD Cert.KernelWUpBIdeal.τ).loc Cert.KernelWUpBIdeal.main_arg0)
      ∧ r.2.mem ((c.tc : Thread Cert.KernelWUpBIdeal.nD Cert.KernelWUpBIdeal.τ).loc Cert.KernelWUpBIdeal.main_arg1) = m ((c.tc : Thread Cert.KernelWUpBIdeal.nD Cert.KernelWUpBIdeal.τ).loc Cert.KernelWUpBIdeal.main_arg1)
      ∧ r.2.mem ((c.tc : Thread Cert.KernelWUpBIdeal.nD Cert.KernelWUpBIdeal.τ).loc Cert.KernelWUpBIdeal.main_arg2) = m ((c.tc : Thread Cert.KernelWUpBIdeal.nD Cert.KernelWUpBIdeal.τ).loc Cert.KernelWUpBIdeal.main_arg2))
      ∧ r.2.sem = fun _ => 0)

def quiescent_ReferenceWUpBIdeal [hReferenceWUpBIdeal : Cert.ReferenceWUpBIdeal.Facts] : Prop :=
  ∀ (m : (ℓ : Loc Cert.ReferenceWUpBIdeal.nD Cert.ReferenceWUpBIdeal.τ Cert.ReferenceWUpBIdeal.sig) → Buf (Elt Ideal) ℓ) (g : Dev Cert.ReferenceWUpBIdeal.nD → PrngReg), Pre_ReferenceWUpBIdeal m →
    θ_run (Cert.ReferenceWUpBIdeal.defs (F := Ideal)) (onTc (τ := Cert.ReferenceWUpBIdeal.τ) (Cert.ReferenceWUpBIdeal.main (F := Ideal))) ⟨m, fun _ => 0, g⟩ (fun r => (∀ c : Dev Cert.ReferenceWUpBIdeal.nD,
      r.2.mem ((c.tc : Thread Cert.ReferenceWUpBIdeal.nD Cert.ReferenceWUpBIdeal.τ).loc Cert.ReferenceWUpBIdeal.main_arg0) = m ((c.tc : Thread Cert.ReferenceWUpBIdeal.nD Cert.ReferenceWUpBIdeal.τ).loc Cert.ReferenceWUpBIdeal.main_arg0)
      ∧ r.2.mem ((c.tc : Thread Cert.ReferenceWUpBIdeal.nD Cert.ReferenceWUpBIdeal.τ).loc Cert.ReferenceWUpBIdeal.main_arg1) = m ((c.tc : Thread Cert.ReferenceWUpBIdeal.nD Cert.ReferenceWUpBIdeal.τ).loc Cert.ReferenceWUpBIdeal.main_arg1)
      ∧ r.2.mem ((c.tc : Thread Cert.ReferenceWUpBIdeal.nD Cert.ReferenceWUpBIdeal.τ).loc Cert.ReferenceWUpBIdeal.main_arg2) = m ((c.tc : Thread Cert.ReferenceWUpBIdeal.nD Cert.ReferenceWUpBIdeal.τ).loc Cert.ReferenceWUpBIdeal.main_arg2))
      ∧ r.2.sem = fun _ => 0)

def quiescent_KernelWBr [hKernelWBr : Cert.KernelWBr.Facts] : Prop :=
  ∀ (m : (ℓ : Loc Cert.KernelWBr.nD Cert.KernelWBr.τ Cert.KernelWBr.sig) → Buf (Elt Bits) ℓ) (g : Dev Cert.KernelWBr.nD → PrngReg), Pre_KernelWBr m →
    θ_run (Cert.KernelWBr.defs (F := Bits)) (onTc (τ := Cert.KernelWBr.τ) (Cert.KernelWBr.main (F := Bits))) ⟨m, fun _ => 0, g⟩ (fun r => (∀ c : Dev Cert.KernelWBr.nD,
      r.2.mem ((c.tc : Thread Cert.KernelWBr.nD Cert.KernelWBr.τ).loc Cert.KernelWBr.main_arg0) = m ((c.tc : Thread Cert.KernelWBr.nD Cert.KernelWBr.τ).loc Cert.KernelWBr.main_arg0)
      ∧ r.2.mem ((c.tc : Thread Cert.KernelWBr.nD Cert.KernelWBr.τ).loc Cert.KernelWBr.main_arg1) = m ((c.tc : Thread Cert.KernelWBr.nD Cert.KernelWBr.τ).loc Cert.KernelWBr.main_arg1))
      ∧ r.2.sem = fun _ => 0)

def quiescent_KernelWBrIdeal [hKernelWBrIdeal : Cert.KernelWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg), Pre_KernelWBrIdeal m →
    θ_run (Cert.KernelWBrIdeal.defs (F := Ideal)) (onTc (τ := Cert.KernelWBrIdeal.τ) (Cert.KernelWBrIdeal.main (F := Ideal))) ⟨m, fun _ => 0, g⟩ (fun r => (∀ c : Dev Cert.KernelWBrIdeal.nD,
      r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
      ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ r.2.sem = fun _ => 0)

def quiescent_ReferenceWBrIdeal [hReferenceWBrIdeal : Cert.ReferenceWBrIdeal.Facts] : Prop :=
  ∀ (m : (ℓ : Loc Cert.ReferenceWBrIdeal.nD Cert.ReferenceWBrIdeal.τ Cert.ReferenceWBrIdeal.sig) → Buf (Elt Ideal) ℓ) (g : Dev Cert.ReferenceWBrIdeal.nD → PrngReg), Pre_ReferenceWBrIdeal m →
    θ_run (Cert.ReferenceWBrIdeal.defs (F := Ideal)) (onTc (τ := Cert.ReferenceWBrIdeal.τ) (Cert.ReferenceWBrIdeal.main (F := Ideal))) ⟨m, fun _ => 0, g⟩ (fun r => (∀ c : Dev Cert.ReferenceWBrIdeal.nD,
      r.2.mem ((c.tc : Thread Cert.ReferenceWBrIdeal.nD Cert.ReferenceWBrIdeal.τ).loc Cert.ReferenceWBrIdeal.main_arg0) = m ((c.tc : Thread Cert.ReferenceWBrIdeal.nD Cert.ReferenceWBrIdeal.τ).loc Cert.ReferenceWBrIdeal.main_arg0)
      ∧ r.2.mem ((c.tc : Thread Cert.ReferenceWBrIdeal.nD Cert.ReferenceWBrIdeal.τ).loc Cert.ReferenceWBrIdeal.main_arg1) = m ((c.tc : Thread Cert.ReferenceWBrIdeal.nD Cert.ReferenceWBrIdeal.τ).loc Cert.ReferenceWBrIdeal.main_arg1))
      ∧ r.2.sem = fun _ => 0)

def quiescent_KernelWAttn [hKernelWAttn : Cert.KernelWAttn.Facts] : Prop :=
  ∀ (m : (ℓ : Loc Cert.KernelWAttn.nD Cert.KernelWAttn.τ Cert.KernelWAttn.sig) → Buf (Elt Bits) ℓ) (g : Dev Cert.KernelWAttn.nD → PrngReg), Pre_KernelWAttn m →
    θ_run (Cert.KernelWAttn.defs (F := Bits)) (onTc (τ := Cert.KernelWAttn.τ) (Cert.KernelWAttn.main (F := Bits))) ⟨m, fun _ => 0, g⟩ (fun r => (∀ c : Dev Cert.KernelWAttn.nD,
      r.2.mem ((c.tc : Thread Cert.KernelWAttn.nD Cert.KernelWAttn.τ).loc Cert.KernelWAttn.main_arg0) = m ((c.tc : Thread Cert.KernelWAttn.nD Cert.KernelWAttn.τ).loc Cert.KernelWAttn.main_arg0)
      ∧ r.2.mem ((c.tc : Thread Cert.KernelWAttn.nD Cert.KernelWAttn.τ).loc Cert.KernelWAttn.main_arg1) = m ((c.tc : Thread Cert.KernelWAttn.nD Cert.KernelWAttn.τ).loc Cert.KernelWAttn.main_arg1))
      ∧ r.2.sem = fun _ => 0)

def quiescent_KernelWAttnIdeal [hKernelWAttnIdeal : Cert.KernelWAttnIdeal.Facts] : Prop :=
  ∀ (m : (ℓ : Loc Cert.KernelWAttnIdeal.nD Cert.KernelWAttnIdeal.τ Cert.KernelWAttnIdeal.sig) → Buf (Elt Ideal) ℓ) (g : Dev Cert.KernelWAttnIdeal.nD → PrngReg), Pre_KernelWAttnIdeal m →
    θ_run (Cert.KernelWAttnIdeal.defs (F := Ideal)) (onTc (τ := Cert.KernelWAttnIdeal.τ) (Cert.KernelWAttnIdeal.main (F := Ideal))) ⟨m, fun _ => 0, g⟩ (fun r => (∀ c : Dev Cert.KernelWAttnIdeal.nD,
      r.2.mem ((c.tc : Thread Cert.KernelWAttnIdeal.nD Cert.KernelWAttnIdeal.τ).loc Cert.KernelWAttnIdeal.main_arg0) = m ((c.tc : Thread Cert.KernelWAttnIdeal.nD Cert.KernelWAttnIdeal.τ).loc Cert.KernelWAttnIdeal.main_arg0)
      ∧ r.2.mem ((c.tc : Thread Cert.KernelWAttnIdeal.nD Cert.KernelWAttnIdeal.τ).loc Cert.KernelWAttnIdeal.main_arg1) = m ((c.tc : Thread Cert.KernelWAttnIdeal.nD Cert.KernelWAttnIdeal.τ).loc Cert.KernelWAttnIdeal.main_arg1))
      ∧ r.2.sem = fun _ => 0)

def quiescent_ReferenceWAttnIdeal [hReferenceWAttnIdeal : Cert.ReferenceWAttnIdeal.Facts] : Prop :=
  ∀ (m : (ℓ : Loc Cert.ReferenceWAttnIdeal.nD Cert.ReferenceWAttnIdeal.τ Cert.ReferenceWAttnIdeal.sig) → Buf (Elt Ideal) ℓ) (g : Dev Cert.ReferenceWAttnIdeal.nD → PrngReg), Pre_ReferenceWAttnIdeal m →
    θ_run (Cert.ReferenceWAttnIdeal.defs (F := Ideal)) (onTc (τ := Cert.ReferenceWAttnIdeal.τ) (Cert.ReferenceWAttnIdeal.main (F := Ideal))) ⟨m, fun _ => 0, g⟩ (fun r => (∀ c : Dev Cert.ReferenceWAttnIdeal.nD,
      r.2.mem ((c.tc : Thread Cert.ReferenceWAttnIdeal.nD Cert.ReferenceWAttnIdeal.τ).loc Cert.ReferenceWAttnIdeal.main_arg0) = m ((c.tc : Thread Cert.ReferenceWAttnIdeal.nD Cert.ReferenceWAttnIdeal.τ).loc Cert.ReferenceWAttnIdeal.main_arg0)
      ∧ r.2.mem ((c.tc : Thread Cert.ReferenceWAttnIdeal.nD Cert.ReferenceWAttnIdeal.τ).loc Cert.ReferenceWAttnIdeal.main_arg1) = m ((c.tc : Thread Cert.ReferenceWAttnIdeal.nD Cert.ReferenceWAttnIdeal.τ).loc Cert.ReferenceWAttnIdeal.main_arg1))
      ∧ r.2.sem = fun _ => 0)

def quiescent_KernelWGlu [hKernelWGlu : Cert.KernelWGlu.Facts] : Prop :=
  ∀ (m : (ℓ : Loc Cert.KernelWGlu.nD Cert.KernelWGlu.τ Cert.KernelWGlu.sig) → Buf (Elt Bits) ℓ) (g : Dev Cert.KernelWGlu.nD → PrngReg), Pre_KernelWGlu m →
    θ_run (Cert.KernelWGlu.defs (F := Bits)) (onTc (τ := Cert.KernelWGlu.τ) (Cert.KernelWGlu.main (F := Bits))) ⟨m, fun _ => 0, g⟩ (fun r => (∀ c : Dev Cert.KernelWGlu.nD,
      r.2.mem ((c.tc : Thread Cert.KernelWGlu.nD Cert.KernelWGlu.τ).loc Cert.KernelWGlu.main_arg0) = m ((c.tc : Thread Cert.KernelWGlu.nD Cert.KernelWGlu.τ).loc Cert.KernelWGlu.main_arg0)
      ∧ r.2.mem ((c.tc : Thread Cert.KernelWGlu.nD Cert.KernelWGlu.τ).loc Cert.KernelWGlu.main_arg1) = m ((c.tc : Thread Cert.KernelWGlu.nD Cert.KernelWGlu.τ).loc Cert.KernelWGlu.main_arg1))
      ∧ r.2.sem = fun _ => 0)

def quiescent_KernelWGluIdeal [hKernelWGluIdeal : Cert.KernelWGluIdeal.Facts] : Prop :=
  ∀ (m : (ℓ : Loc Cert.KernelWGluIdeal.nD Cert.KernelWGluIdeal.τ Cert.KernelWGluIdeal.sig) → Buf (Elt Ideal) ℓ) (g : Dev Cert.KernelWGluIdeal.nD → PrngReg), Pre_KernelWGluIdeal m →
    θ_run (Cert.KernelWGluIdeal.defs (F := Ideal)) (onTc (τ := Cert.KernelWGluIdeal.τ) (Cert.KernelWGluIdeal.main (F := Ideal))) ⟨m, fun _ => 0, g⟩ (fun r => (∀ c : Dev Cert.KernelWGluIdeal.nD,
      r.2.mem ((c.tc : Thread Cert.KernelWGluIdeal.nD Cert.KernelWGluIdeal.τ).loc Cert.KernelWGluIdeal.main_arg0) = m ((c.tc : Thread Cert.KernelWGluIdeal.nD Cert.KernelWGluIdeal.τ).loc Cert.KernelWGluIdeal.main_arg0)
      ∧ r.2.mem ((c.tc : Thread Cert.KernelWGluIdeal.nD Cert.KernelWGluIdeal.τ).loc Cert.KernelWGluIdeal.main_arg1) = m ((c.tc : Thread Cert.KernelWGluIdeal.nD Cert.KernelWGluIdeal.τ).loc Cert.KernelWGluIdeal.main_arg1))
      ∧ r.2.sem = fun _ => 0)

def quiescent_ReferenceWGluIdeal [hReferenceWGluIdeal : Cert.ReferenceWGluIdeal.Facts] : Prop :=
  ∀ (m : (ℓ : Loc Cert.ReferenceWGluIdeal.nD Cert.ReferenceWGluIdeal.τ Cert.ReferenceWGluIdeal.sig) → Buf (Elt Ideal) ℓ) (g : Dev Cert.ReferenceWGluIdeal.nD → PrngReg), Pre_ReferenceWGluIdeal m →
    θ_run (Cert.ReferenceWGluIdeal.defs (F := Ideal)) (onTc (τ := Cert.ReferenceWGluIdeal.τ) (Cert.ReferenceWGluIdeal.main (F := Ideal))) ⟨m, fun _ => 0, g⟩ (fun r => (∀ c : Dev Cert.ReferenceWGluIdeal.nD,
      r.2.mem ((c.tc : Thread Cert.ReferenceWGluIdeal.nD Cert.ReferenceWGluIdeal.τ).loc Cert.ReferenceWGluIdeal.main_arg0) = m ((c.tc : Thread Cert.ReferenceWGluIdeal.nD Cert.ReferenceWGluIdeal.τ).loc Cert.ReferenceWGluIdeal.main_arg0)
      ∧ r.2.mem ((c.tc : Thread Cert.ReferenceWGluIdeal.nD Cert.ReferenceWGluIdeal.τ).loc Cert.ReferenceWGluIdeal.main_arg1) = m ((c.tc : Thread Cert.ReferenceWGluIdeal.nD Cert.ReferenceWGluIdeal.τ).loc Cert.ReferenceWGluIdeal.main_arg1))
      ∧ r.2.sem = fun _ => 0)

def quiescent_KernelFfnA [hKernelFfnA : Cert.KernelFfnA.Facts] : Prop :=
  ∀ (m : (ℓ : Loc Cert.KernelFfnA.nD Cert.KernelFfnA.τ Cert.KernelFfnA.sig) → Buf (Elt Bits) ℓ) (g : Dev Cert.KernelFfnA.nD → PrngReg), Pre_KernelFfnA m →
    θ_run (Cert.KernelFfnA.defs (F := Bits)) (onTc (τ := Cert.KernelFfnA.τ) (Cert.KernelFfnA.main (F := Bits))) ⟨m, fun _ => 0, g⟩ (fun r => (∀ c : Dev Cert.KernelFfnA.nD,
      r.2.mem ((c.tc : Thread Cert.KernelFfnA.nD Cert.KernelFfnA.τ).loc Cert.KernelFfnA.main_arg0) = m ((c.tc : Thread Cert.KernelFfnA.nD Cert.KernelFfnA.τ).loc Cert.KernelFfnA.main_arg0)
      ∧ r.2.mem ((c.tc : Thread Cert.KernelFfnA.nD Cert.KernelFfnA.τ).loc Cert.KernelFfnA.main_arg1) = m ((c.tc : Thread Cert.KernelFfnA.nD Cert.KernelFfnA.τ).loc Cert.KernelFfnA.main_arg1)
      ∧ r.2.mem ((c.tc : Thread Cert.KernelFfnA.nD Cert.KernelFfnA.τ).loc Cert.KernelFfnA.main_arg2) = m ((c.tc : Thread Cert.KernelFfnA.nD Cert.KernelFfnA.τ).loc Cert.KernelFfnA.main_arg2)
      ∧ r.2.mem ((c.tc : Thread Cert.KernelFfnA.nD Cert.KernelFfnA.τ).loc Cert.KernelFfnA.main_arg3) = m ((c.tc : Thread Cert.KernelFfnA.nD Cert.KernelFfnA.τ).loc Cert.KernelFfnA.main_arg3))
      ∧ r.2.sem = fun _ => 0)

def quiescent_KernelFfnAIdeal [hKernelFfnAIdeal : Cert.KernelFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg), Pre_KernelFfnAIdeal m →
    θ_run (Cert.KernelFfnAIdeal.defs (F := Ideal)) (onTc (τ := Cert.KernelFfnAIdeal.τ) (Cert.KernelFfnAIdeal.main (F := Ideal))) ⟨m, fun _ => 0, g⟩ (fun r => (∀ c : Dev Cert.KernelFfnAIdeal.nD,
      r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
      ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
      ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
      ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3))
      ∧ r.2.sem = fun _ => 0)

def quiescent_ReferenceFfnAIdeal [hReferenceFfnAIdeal : Cert.ReferenceFfnAIdeal.Facts] : Prop :=
  ∀ (m : (ℓ : Loc Cert.ReferenceFfnAIdeal.nD Cert.ReferenceFfnAIdeal.τ Cert.ReferenceFfnAIdeal.sig) → Buf (Elt Ideal) ℓ) (g : Dev Cert.ReferenceFfnAIdeal.nD → PrngReg), Pre_ReferenceFfnAIdeal m →
    θ_run (Cert.ReferenceFfnAIdeal.defs (F := Ideal)) (onTc (τ := Cert.ReferenceFfnAIdeal.τ) (Cert.ReferenceFfnAIdeal.main (F := Ideal))) ⟨m, fun _ => 0, g⟩ (fun r => (∀ c : Dev Cert.ReferenceFfnAIdeal.nD,
      r.2.mem ((c.tc : Thread Cert.ReferenceFfnAIdeal.nD Cert.ReferenceFfnAIdeal.τ).loc Cert.ReferenceFfnAIdeal.main_arg0) = m ((c.tc : Thread Cert.ReferenceFfnAIdeal.nD Cert.ReferenceFfnAIdeal.τ).loc Cert.ReferenceFfnAIdeal.main_arg0)
      ∧ r.2.mem ((c.tc : Thread Cert.ReferenceFfnAIdeal.nD Cert.ReferenceFfnAIdeal.τ).loc Cert.ReferenceFfnAIdeal.main_arg1) = m ((c.tc : Thread Cert.ReferenceFfnAIdeal.nD Cert.ReferenceFfnAIdeal.τ).loc Cert.ReferenceFfnAIdeal.main_arg1)
      ∧ r.2.mem ((c.tc : Thread Cert.ReferenceFfnAIdeal.nD Cert.ReferenceFfnAIdeal.τ).loc Cert.ReferenceFfnAIdeal.main_arg2) = m ((c.tc : Thread Cert.ReferenceFfnAIdeal.nD Cert.ReferenceFfnAIdeal.τ).loc Cert.ReferenceFfnAIdeal.main_arg2)
      ∧ r.2.mem ((c.tc : Thread Cert.ReferenceFfnAIdeal.nD Cert.ReferenceFfnAIdeal.τ).loc Cert.ReferenceFfnAIdeal.main_arg3) = m ((c.tc : Thread Cert.ReferenceFfnAIdeal.nD Cert.ReferenceFfnAIdeal.τ).loc Cert.ReferenceFfnAIdeal.main_arg3))
      ∧ r.2.sem = fun _ => 0)

def quiescent_KernelFfnB [hKernelFfnB : Cert.KernelFfnB.Facts] : Prop :=
  ∀ (m : (ℓ : Loc Cert.KernelFfnB.nD Cert.KernelFfnB.τ Cert.KernelFfnB.sig) → Buf (Elt Bits) ℓ) (g : Dev Cert.KernelFfnB.nD → PrngReg), Pre_KernelFfnB m →
    θ_run (Cert.KernelFfnB.defs (F := Bits)) (onTc (τ := Cert.KernelFfnB.τ) (Cert.KernelFfnB.main (F := Bits))) ⟨m, fun _ => 0, g⟩ (fun r => (∀ c : Dev Cert.KernelFfnB.nD,
      r.2.mem ((c.tc : Thread Cert.KernelFfnB.nD Cert.KernelFfnB.τ).loc Cert.KernelFfnB.main_arg0) = m ((c.tc : Thread Cert.KernelFfnB.nD Cert.KernelFfnB.τ).loc Cert.KernelFfnB.main_arg0)
      ∧ r.2.mem ((c.tc : Thread Cert.KernelFfnB.nD Cert.KernelFfnB.τ).loc Cert.KernelFfnB.main_arg1) = m ((c.tc : Thread Cert.KernelFfnB.nD Cert.KernelFfnB.τ).loc Cert.KernelFfnB.main_arg1)
      ∧ r.2.mem ((c.tc : Thread Cert.KernelFfnB.nD Cert.KernelFfnB.τ).loc Cert.KernelFfnB.main_arg2) = m ((c.tc : Thread Cert.KernelFfnB.nD Cert.KernelFfnB.τ).loc Cert.KernelFfnB.main_arg2)
      ∧ r.2.mem ((c.tc : Thread Cert.KernelFfnB.nD Cert.KernelFfnB.τ).loc Cert.KernelFfnB.main_arg3) = m ((c.tc : Thread Cert.KernelFfnB.nD Cert.KernelFfnB.τ).loc Cert.KernelFfnB.main_arg3))
      ∧ r.2.sem = fun _ => 0)

def quiescent_KernelFfnBIdeal [hKernelFfnBIdeal : Cert.KernelFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg), Pre_KernelFfnBIdeal m →
    θ_run (Cert.KernelFfnBIdeal.defs (F := Ideal)) (onTc (τ := Cert.KernelFfnBIdeal.τ) (Cert.KernelFfnBIdeal.main (F := Ideal))) ⟨m, fun _ => 0, g⟩ (fun r => (∀ c : Dev Cert.KernelFfnBIdeal.nD,
      r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
      ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
      ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
      ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ r.2.sem = fun _ => 0)

def quiescent_ReferenceFfnBIdeal [hReferenceFfnBIdeal : Cert.ReferenceFfnBIdeal.Facts] : Prop :=
  ∀ (m : (ℓ : Loc Cert.ReferenceFfnBIdeal.nD Cert.ReferenceFfnBIdeal.τ Cert.ReferenceFfnBIdeal.sig) → Buf (Elt Ideal) ℓ) (g : Dev Cert.ReferenceFfnBIdeal.nD → PrngReg), Pre_ReferenceFfnBIdeal m →
    θ_run (Cert.ReferenceFfnBIdeal.defs (F := Ideal)) (onTc (τ := Cert.ReferenceFfnBIdeal.τ) (Cert.ReferenceFfnBIdeal.main (F := Ideal))) ⟨m, fun _ => 0, g⟩ (fun r => (∀ c : Dev Cert.ReferenceFfnBIdeal.nD,
      r.2.mem ((c.tc : Thread Cert.ReferenceFfnBIdeal.nD Cert.ReferenceFfnBIdeal.τ).loc Cert.ReferenceFfnBIdeal.main_arg0) = m ((c.tc : Thread Cert.ReferenceFfnBIdeal.nD Cert.ReferenceFfnBIdeal.τ).loc Cert.ReferenceFfnBIdeal.main_arg0)
      ∧ r.2.mem ((c.tc : Thread Cert.ReferenceFfnBIdeal.nD Cert.ReferenceFfnBIdeal.τ).loc Cert.ReferenceFfnBIdeal.main_arg1) = m ((c.tc : Thread Cert.ReferenceFfnBIdeal.nD Cert.ReferenceFfnBIdeal.τ).loc Cert.ReferenceFfnBIdeal.main_arg1)
      ∧ r.2.mem ((c.tc : Thread Cert.ReferenceFfnBIdeal.nD Cert.ReferenceFfnBIdeal.τ).loc Cert.ReferenceFfnBIdeal.main_arg2) = m ((c.tc : Thread Cert.ReferenceFfnBIdeal.nD Cert.ReferenceFfnBIdeal.τ).loc Cert.ReferenceFfnBIdeal.main_arg2)
      ∧ r.2.mem ((c.tc : Thread Cert.ReferenceFfnBIdeal.nD Cert.ReferenceFfnBIdeal.τ).loc Cert.ReferenceFfnBIdeal.main_arg3) = m ((c.tc : Thread Cert.ReferenceFfnBIdeal.nD Cert.ReferenceFfnBIdeal.τ).loc Cert.ReferenceFfnBIdeal.main_arg3))
      ∧ r.2.sem = fun _ => 0)

def quiescent_KernelFfnC [hKernelFfnC : Cert.KernelFfnC.Facts] : Prop :=
  ∀ (m : (ℓ : Loc Cert.KernelFfnC.nD Cert.KernelFfnC.τ Cert.KernelFfnC.sig) → Buf (Elt Bits) ℓ) (g : Dev Cert.KernelFfnC.nD → PrngReg), Pre_KernelFfnC m →
    θ_run (Cert.KernelFfnC.defs (F := Bits)) (onTc (τ := Cert.KernelFfnC.τ) (Cert.KernelFfnC.main (F := Bits))) ⟨m, fun _ => 0, g⟩ (fun r => (∀ c : Dev Cert.KernelFfnC.nD,
      r.2.mem ((c.tc : Thread Cert.KernelFfnC.nD Cert.KernelFfnC.τ).loc Cert.KernelFfnC.main_arg0) = m ((c.tc : Thread Cert.KernelFfnC.nD Cert.KernelFfnC.τ).loc Cert.KernelFfnC.main_arg0)
      ∧ r.2.mem ((c.tc : Thread Cert.KernelFfnC.nD Cert.KernelFfnC.τ).loc Cert.KernelFfnC.main_arg1) = m ((c.tc : Thread Cert.KernelFfnC.nD Cert.KernelFfnC.τ).loc Cert.KernelFfnC.main_arg1)
      ∧ r.2.mem ((c.tc : Thread Cert.KernelFfnC.nD Cert.KernelFfnC.τ).loc Cert.KernelFfnC.main_arg2) = m ((c.tc : Thread Cert.KernelFfnC.nD Cert.KernelFfnC.τ).loc Cert.KernelFfnC.main_arg2)
      ∧ r.2.mem ((c.tc : Thread Cert.KernelFfnC.nD Cert.KernelFfnC.τ).loc Cert.KernelFfnC.main_arg3) = m ((c.tc : Thread Cert.KernelFfnC.nD Cert.KernelFfnC.τ).loc Cert.KernelFfnC.main_arg3))
      ∧ r.2.sem = fun _ => 0)

def quiescent_KernelFfnCIdeal [hKernelFfnCIdeal : Cert.KernelFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg), Pre_KernelFfnCIdeal m →
    θ_run (Cert.KernelFfnCIdeal.defs (F := Ideal)) (onTc (τ := Cert.KernelFfnCIdeal.τ) (Cert.KernelFfnCIdeal.main (F := Ideal))) ⟨m, fun _ => 0, g⟩ (fun r => (∀ c : Dev Cert.KernelFfnCIdeal.nD,
      r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
      ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
      ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
      ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3))
      ∧ r.2.sem = fun _ => 0)

def quiescent_ReferenceFfnCIdeal [hReferenceFfnCIdeal : Cert.ReferenceFfnCIdeal.Facts] : Prop :=
  ∀ (m : (ℓ : Loc Cert.ReferenceFfnCIdeal.nD Cert.ReferenceFfnCIdeal.τ Cert.ReferenceFfnCIdeal.sig) → Buf (Elt Ideal) ℓ) (g : Dev Cert.ReferenceFfnCIdeal.nD → PrngReg), Pre_ReferenceFfnCIdeal m →
    θ_run (Cert.ReferenceFfnCIdeal.defs (F := Ideal)) (onTc (τ := Cert.ReferenceFfnCIdeal.τ) (Cert.ReferenceFfnCIdeal.main (F := Ideal))) ⟨m, fun _ => 0, g⟩ (fun r => (∀ c : Dev Cert.ReferenceFfnCIdeal.nD,
      r.2.mem ((c.tc : Thread Cert.ReferenceFfnCIdeal.nD Cert.ReferenceFfnCIdeal.τ).loc Cert.ReferenceFfnCIdeal.main_arg0) = m ((c.tc : Thread Cert.ReferenceFfnCIdeal.nD Cert.ReferenceFfnCIdeal.τ).loc Cert.ReferenceFfnCIdeal.main_arg0)
      ∧ r.2.mem ((c.tc : Thread Cert.ReferenceFfnCIdeal.nD Cert.ReferenceFfnCIdeal.τ).loc Cert.ReferenceFfnCIdeal.main_arg1) = m ((c.tc : Thread Cert.ReferenceFfnCIdeal.nD Cert.ReferenceFfnCIdeal.τ).loc Cert.ReferenceFfnCIdeal.main_arg1)
      ∧ r.2.mem ((c.tc : Thread Cert.ReferenceFfnCIdeal.nD Cert.ReferenceFfnCIdeal.τ).loc Cert.ReferenceFfnCIdeal.main_arg2) = m ((c.tc : Thread Cert.ReferenceFfnCIdeal.nD Cert.ReferenceFfnCIdeal.τ).loc Cert.ReferenceFfnCIdeal.main_arg2)
      ∧ r.2.mem ((c.tc : Thread Cert.ReferenceFfnCIdeal.nD Cert.ReferenceFfnCIdeal.τ).loc Cert.ReferenceFfnCIdeal.main_arg3) = m ((c.tc : Thread Cert.ReferenceFfnCIdeal.nD Cert.ReferenceFfnCIdeal.τ).loc Cert.ReferenceFfnCIdeal.main_arg3))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2))
      ∧ r.2.sem = fun _ => 0)

def quiescent_KernelMixA [hKernelMixA : Cert.KernelMixA.Facts] : Prop :=
  ∀ (m : (ℓ : Loc Cert.KernelMixA.nD Cert.KernelMixA.τ Cert.KernelMixA.sig) → Buf (Elt Bits) ℓ) (g : Dev Cert.KernelMixA.nD → PrngReg), Pre_KernelMixA m →
    θ_run (Cert.KernelMixA.defs (F := Bits)) (onTc (τ := Cert.KernelMixA.τ) (Cert.KernelMixA.main (F := Bits))) ⟨m, fun _ => 0, g⟩ (fun r => (∀ c : Dev Cert.KernelMixA.nD,
      r.2.mem ((c.tc : Thread Cert.KernelMixA.nD Cert.KernelMixA.τ).loc Cert.KernelMixA.main_arg0) = m ((c.tc : Thread Cert.KernelMixA.nD Cert.KernelMixA.τ).loc Cert.KernelMixA.main_arg0)
      ∧ r.2.mem ((c.tc : Thread Cert.KernelMixA.nD Cert.KernelMixA.τ).loc Cert.KernelMixA.main_arg1) = m ((c.tc : Thread Cert.KernelMixA.nD Cert.KernelMixA.τ).loc Cert.KernelMixA.main_arg1)
      ∧ r.2.mem ((c.tc : Thread Cert.KernelMixA.nD Cert.KernelMixA.τ).loc Cert.KernelMixA.main_arg2) = m ((c.tc : Thread Cert.KernelMixA.nD Cert.KernelMixA.τ).loc Cert.KernelMixA.main_arg2)
      ∧ r.2.mem ((c.tc : Thread Cert.KernelMixA.nD Cert.KernelMixA.τ).loc Cert.KernelMixA.main_arg3) = m ((c.tc : Thread Cert.KernelMixA.nD Cert.KernelMixA.τ).loc Cert.KernelMixA.main_arg3)
      ∧ r.2.mem ((c.tc : Thread Cert.KernelMixA.nD Cert.KernelMixA.τ).loc Cert.KernelMixA.main_arg4) = m ((c.tc : Thread Cert.KernelMixA.nD Cert.KernelMixA.τ).loc Cert.KernelMixA.main_arg4)
      ∧ r.2.mem ((c.tc : Thread Cert.KernelMixA.nD Cert.KernelMixA.τ).loc Cert.KernelMixA.main_arg5) = m ((c.tc : Thread Cert.KernelMixA.nD Cert.KernelMixA.τ).loc Cert.KernelMixA.main_arg5)
      ∧ r.2.mem ((c.tc : Thread Cert.KernelMixA.nD Cert.KernelMixA.τ).loc Cert.KernelMixA.main_arg6) = m ((c.tc : Thread Cert.KernelMixA.nD Cert.KernelMixA.τ).loc Cert.KernelMixA.main_arg6)
      ∧ r.2.mem ((c.tc : Thread Cert.KernelMixA.nD Cert.KernelMixA.τ).loc Cert.KernelMixA.main_arg7) = m ((c.tc : Thread Cert.KernelMixA.nD Cert.KernelMixA.τ).loc Cert.KernelMixA.main_arg7)
      ∧ r.2.mem ((c.tc : Thread Cert.KernelMixA.nD Cert.KernelMixA.τ).loc Cert.KernelMixA.main_arg8) = m ((c.tc : Thread Cert.KernelMixA.nD Cert.KernelMixA.τ).loc Cert.KernelMixA.main_arg8)
      ∧ r.2.mem ((c.tc : Thread Cert.KernelMixA.nD Cert.KernelMixA.τ).loc Cert.KernelMixA.main_arg9) = m ((c.tc : Thread Cert.KernelMixA.nD Cert.KernelMixA.τ).loc Cert.KernelMixA.main_arg9))
      ∧ r.2.sem = fun _ => 0)

def quiescent_KernelMixAIdeal [hKernelMixAIdeal : Cert.KernelMixAIdeal.Facts] : Prop :=
  ∀ (m : (ℓ : Loc Cert.KernelMixAIdeal.nD Cert.KernelMixAIdeal.τ Cert.KernelMixAIdeal.sig) → Buf (Elt Ideal) ℓ) (g : Dev Cert.KernelMixAIdeal.nD → PrngReg), Pre_KernelMixAIdeal m →
    θ_run (Cert.KernelMixAIdeal.defs (F := Ideal)) (onTc (τ := Cert.KernelMixAIdeal.τ) (Cert.KernelMixAIdeal.main (F := Ideal))) ⟨m, fun _ => 0, g⟩ (fun r => (∀ c : Dev Cert.KernelMixAIdeal.nD,
      r.2.mem ((c.tc : Thread Cert.KernelMixAIdeal.nD Cert.KernelMixAIdeal.τ).loc Cert.KernelMixAIdeal.main_arg0) = m ((c.tc : Thread Cert.KernelMixAIdeal.nD Cert.KernelMixAIdeal.τ).loc Cert.KernelMixAIdeal.main_arg0)
      ∧ r.2.mem ((c.tc : Thread Cert.KernelMixAIdeal.nD Cert.KernelMixAIdeal.τ).loc Cert.KernelMixAIdeal.main_arg1) = m ((c.tc : Thread Cert.KernelMixAIdeal.nD Cert.KernelMixAIdeal.τ).loc Cert.KernelMixAIdeal.main_arg1)
      ∧ r.2.mem ((c.tc : Thread Cert.KernelMixAIdeal.nD Cert.KernelMixAIdeal.τ).loc Cert.KernelMixAIdeal.main_arg2) = m ((c.tc : Thread Cert.KernelMixAIdeal.nD Cert.KernelMixAIdeal.τ).loc Cert.KernelMixAIdeal.main_arg2)
      ∧ r.2.mem ((c.tc : Thread Cert.KernelMixAIdeal.nD Cert.KernelMixAIdeal.τ).loc Cert.KernelMixAIdeal.main_arg3) = m ((c.tc : Thread Cert.KernelMixAIdeal.nD Cert.KernelMixAIdeal.τ).loc Cert.KernelMixAIdeal.main_arg3)
      ∧ r.2.mem ((c.tc : Thread Cert.KernelMixAIdeal.nD Cert.KernelMixAIdeal.τ).loc Cert.KernelMixAIdeal.main_arg4) = m ((c.tc : Thread Cert.KernelMixAIdeal.nD Cert.KernelMixAIdeal.τ).loc Cert.KernelMixAIdeal.main_arg4)
      ∧ r.2.mem ((c.tc : Thread Cert.KernelMixAIdeal.nD Cert.KernelMixAIdeal.τ).loc Cert.KernelMixAIdeal.main_arg5) = m ((c.tc : Thread Cert.KernelMixAIdeal.nD Cert.KernelMixAIdeal.τ).loc Cert.KernelMixAIdeal.main_arg5)
      ∧ r.2.mem ((c.tc : Thread Cert.KernelMixAIdeal.nD Cert.KernelMixAIdeal.τ).loc Cert.KernelMixAIdeal.main_arg6) = m ((c.tc : Thread Cert.KernelMixAIdeal.nD Cert.KernelMixAIdeal.τ).loc Cert.KernelMixAIdeal.main_arg6)
      ∧ r.2.mem ((c.tc : Thread Cert.KernelMixAIdeal.nD Cert.KernelMixAIdeal.τ).loc Cert.KernelMixAIdeal.main_arg7) = m ((c.tc : Thread Cert.KernelMixAIdeal.nD Cert.KernelMixAIdeal.τ).loc Cert.KernelMixAIdeal.main_arg7)
      ∧ r.2.mem ((c.tc : Thread Cert.KernelMixAIdeal.nD Cert.KernelMixAIdeal.τ).loc Cert.KernelMixAIdeal.main_arg8) = m ((c.tc : Thread Cert.KernelMixAIdeal.nD Cert.KernelMixAIdeal.τ).loc Cert.KernelMixAIdeal.main_arg8)
      ∧ r.2.mem ((c.tc : Thread Cert.KernelMixAIdeal.nD Cert.KernelMixAIdeal.τ).loc Cert.KernelMixAIdeal.main_arg9) = m ((c.tc : Thread Cert.KernelMixAIdeal.nD Cert.KernelMixAIdeal.τ).loc Cert.KernelMixAIdeal.main_arg9))
      ∧ r.2.sem = fun _ => 0)

def quiescent_ReferenceMixAIdeal [hReferenceMixAIdeal : Cert.ReferenceMixAIdeal.Facts] : Prop :=
  ∀ (m : (ℓ : Loc Cert.ReferenceMixAIdeal.nD Cert.ReferenceMixAIdeal.τ Cert.ReferenceMixAIdeal.sig) → Buf (Elt Ideal) ℓ) (g : Dev Cert.ReferenceMixAIdeal.nD → PrngReg), Pre_ReferenceMixAIdeal m →
    θ_run (Cert.ReferenceMixAIdeal.defs (F := Ideal)) (onTc (τ := Cert.ReferenceMixAIdeal.τ) (Cert.ReferenceMixAIdeal.main (F := Ideal))) ⟨m, fun _ => 0, g⟩ (fun r => (∀ c : Dev Cert.ReferenceMixAIdeal.nD,
      r.2.mem ((c.tc : Thread Cert.ReferenceMixAIdeal.nD Cert.ReferenceMixAIdeal.τ).loc Cert.ReferenceMixAIdeal.main_arg0) = m ((c.tc : Thread Cert.ReferenceMixAIdeal.nD Cert.ReferenceMixAIdeal.τ).loc Cert.ReferenceMixAIdeal.main_arg0)
      ∧ r.2.mem ((c.tc : Thread Cert.ReferenceMixAIdeal.nD Cert.ReferenceMixAIdeal.τ).loc Cert.ReferenceMixAIdeal.main_arg1) = m ((c.tc : Thread Cert.ReferenceMixAIdeal.nD Cert.ReferenceMixAIdeal.τ).loc Cert.ReferenceMixAIdeal.main_arg1)
      ∧ r.2.mem ((c.tc : Thread Cert.ReferenceMixAIdeal.nD Cert.ReferenceMixAIdeal.τ).loc Cert.ReferenceMixAIdeal.main_arg2) = m ((c.tc : Thread Cert.ReferenceMixAIdeal.nD Cert.ReferenceMixAIdeal.τ).loc Cert.ReferenceMixAIdeal.main_arg2)
      ∧ r.2.mem ((c.tc : Thread Cert.ReferenceMixAIdeal.nD Cert.ReferenceMixAIdeal.τ).loc Cert.ReferenceMixAIdeal.main_arg3) = m ((c.tc : Thread Cert.ReferenceMixAIdeal.nD Cert.ReferenceMixAIdeal.τ).loc Cert.ReferenceMixAIdeal.main_arg3)
      ∧ r.2.mem ((c.tc : Thread Cert.ReferenceMixAIdeal.nD Cert.ReferenceMixAIdeal.τ).loc Cert.ReferenceMixAIdeal.main_arg4) = m ((c.tc : Thread Cert.ReferenceMixAIdeal.nD Cert.ReferenceMixAIdeal.τ).loc Cert.ReferenceMixAIdeal.main_arg4)
      ∧ r.2.mem ((c.tc : Thread Cert.ReferenceMixAIdeal.nD Cert.ReferenceMixAIdeal.τ).loc Cert.ReferenceMixAIdeal.main_arg5) = m ((c.tc : Thread Cert.ReferenceMixAIdeal.nD Cert.ReferenceMixAIdeal.τ).loc Cert.ReferenceMixAIdeal.main_arg5)
      ∧ r.2.mem ((c.tc : Thread Cert.ReferenceMixAIdeal.nD Cert.ReferenceMixAIdeal.τ).loc Cert.ReferenceMixAIdeal.main_arg6) = m ((c.tc : Thread Cert.ReferenceMixAIdeal.nD Cert.ReferenceMixAIdeal.τ).loc Cert.ReferenceMixAIdeal.main_arg6)
      ∧ r.2.mem ((c.tc : Thread Cert.ReferenceMixAIdeal.nD Cert.ReferenceMixAIdeal.τ).loc Cert.ReferenceMixAIdeal.main_arg7) = m ((c.tc : Thread Cert.ReferenceMixAIdeal.nD Cert.ReferenceMixAIdeal.τ).loc Cert.ReferenceMixAIdeal.main_arg7)
      ∧ r.2.mem ((c.tc : Thread Cert.ReferenceMixAIdeal.nD Cert.ReferenceMixAIdeal.τ).loc Cert.ReferenceMixAIdeal.main_arg8) = m ((c.tc : Thread Cert.ReferenceMixAIdeal.nD Cert.ReferenceMixAIdeal.τ).loc Cert.ReferenceMixAIdeal.main_arg8)
      ∧ r.2.mem ((c.tc : Thread Cert.ReferenceMixAIdeal.nD Cert.ReferenceMixAIdeal.τ).loc Cert.ReferenceMixAIdeal.main_arg9) = m ((c.tc : Thread Cert.ReferenceMixAIdeal.nD Cert.ReferenceMixAIdeal.τ).loc Cert.ReferenceMixAIdeal.main_arg9))
      ∧ r.2.sem = fun _ => 0)

def quiescent_KernelMixB [hKernelMixB : Cert.KernelMixB.Facts] : Prop :=
  ∀ (m : (ℓ : Loc Cert.KernelMixB.nD Cert.KernelMixB.τ Cert.KernelMixB.sig) → Buf (Elt Bits) ℓ) (g : Dev Cert.KernelMixB.nD → PrngReg), Pre_KernelMixB m →
    θ_run (Cert.KernelMixB.defs (F := Bits)) (onTc (τ := Cert.KernelMixB.τ) (Cert.KernelMixB.main (F := Bits))) ⟨m, fun _ => 0, g⟩ (fun r => (∀ c : Dev Cert.KernelMixB.nD,
      r.2.mem ((c.tc : Thread Cert.KernelMixB.nD Cert.KernelMixB.τ).loc Cert.KernelMixB.main_arg0) = m ((c.tc : Thread Cert.KernelMixB.nD Cert.KernelMixB.τ).loc Cert.KernelMixB.main_arg0)
      ∧ r.2.mem ((c.tc : Thread Cert.KernelMixB.nD Cert.KernelMixB.τ).loc Cert.KernelMixB.main_arg1) = m ((c.tc : Thread Cert.KernelMixB.nD Cert.KernelMixB.τ).loc Cert.KernelMixB.main_arg1)
      ∧ r.2.mem ((c.tc : Thread Cert.KernelMixB.nD Cert.KernelMixB.τ).loc Cert.KernelMixB.main_arg2) = m ((c.tc : Thread Cert.KernelMixB.nD Cert.KernelMixB.τ).loc Cert.KernelMixB.main_arg2)
      ∧ r.2.mem ((c.tc : Thread Cert.KernelMixB.nD Cert.KernelMixB.τ).loc Cert.KernelMixB.main_arg3) = m ((c.tc : Thread Cert.KernelMixB.nD Cert.KernelMixB.τ).loc Cert.KernelMixB.main_arg3)
      ∧ r.2.mem ((c.tc : Thread Cert.KernelMixB.nD Cert.KernelMixB.τ).loc Cert.KernelMixB.main_arg4) = m ((c.tc : Thread Cert.KernelMixB.nD Cert.KernelMixB.τ).loc Cert.KernelMixB.main_arg4)
      ∧ r.2.mem ((c.tc : Thread Cert.KernelMixB.nD Cert.KernelMixB.τ).loc Cert.KernelMixB.main_arg5) = m ((c.tc : Thread Cert.KernelMixB.nD Cert.KernelMixB.τ).loc Cert.KernelMixB.main_arg5)
      ∧ r.2.mem ((c.tc : Thread Cert.KernelMixB.nD Cert.KernelMixB.τ).loc Cert.KernelMixB.main_arg6) = m ((c.tc : Thread Cert.KernelMixB.nD Cert.KernelMixB.τ).loc Cert.KernelMixB.main_arg6)
      ∧ r.2.mem ((c.tc : Thread Cert.KernelMixB.nD Cert.KernelMixB.τ).loc Cert.KernelMixB.main_arg7) = m ((c.tc : Thread Cert.KernelMixB.nD Cert.KernelMixB.τ).loc Cert.KernelMixB.main_arg7)
      ∧ r.2.mem ((c.tc : Thread Cert.KernelMixB.nD Cert.KernelMixB.τ).loc Cert.KernelMixB.main_arg8) = m ((c.tc : Thread Cert.KernelMixB.nD Cert.KernelMixB.τ).loc Cert.KernelMixB.main_arg8)
      ∧ r.2.mem ((c.tc : Thread Cert.KernelMixB.nD Cert.KernelMixB.τ).loc Cert.KernelMixB.main_arg9) = m ((c.tc : Thread Cert.KernelMixB.nD Cert.KernelMixB.τ).loc Cert.KernelMixB.main_arg9))
      ∧ r.2.sem = fun _ => 0)

def quiescent_KernelMixBIdeal [hKernelMixBIdeal : Cert.KernelMixBIdeal.Facts] : Prop :=
  ∀ (m : (ℓ : Loc Cert.KernelMixBIdeal.nD Cert.KernelMixBIdeal.τ Cert.KernelMixBIdeal.sig) → Buf (Elt Ideal) ℓ) (g : Dev Cert.KernelMixBIdeal.nD → PrngReg), Pre_KernelMixBIdeal m →
    θ_run (Cert.KernelMixBIdeal.defs (F := Ideal)) (onTc (τ := Cert.KernelMixBIdeal.τ) (Cert.KernelMixBIdeal.main (F := Ideal))) ⟨m, fun _ => 0, g⟩ (fun r => (∀ c : Dev Cert.KernelMixBIdeal.nD,
      r.2.mem ((c.tc : Thread Cert.KernelMixBIdeal.nD Cert.KernelMixBIdeal.τ).loc Cert.KernelMixBIdeal.main_arg0) = m ((c.tc : Thread Cert.KernelMixBIdeal.nD Cert.KernelMixBIdeal.τ).loc Cert.KernelMixBIdeal.main_arg0)
      ∧ r.2.mem ((c.tc : Thread Cert.KernelMixBIdeal.nD Cert.KernelMixBIdeal.τ).loc Cert.KernelMixBIdeal.main_arg1) = m ((c.tc : Thread Cert.KernelMixBIdeal.nD Cert.KernelMixBIdeal.τ).loc Cert.KernelMixBIdeal.main_arg1)
      ∧ r.2.mem ((c.tc : Thread Cert.KernelMixBIdeal.nD Cert.KernelMixBIdeal.τ).loc Cert.KernelMixBIdeal.main_arg2) = m ((c.tc : Thread Cert.KernelMixBIdeal.nD Cert.KernelMixBIdeal.τ).loc Cert.KernelMixBIdeal.main_arg2)
      ∧ r.2.mem ((c.tc : Thread Cert.KernelMixBIdeal.nD Cert.KernelMixBIdeal.τ).loc Cert.KernelMixBIdeal.main_arg3) = m ((c.tc : Thread Cert.KernelMixBIdeal.nD Cert.KernelMixBIdeal.τ).loc Cert.KernelMixBIdeal.main_arg3)
      ∧ r.2.mem ((c.tc : Thread Cert.KernelMixBIdeal.nD Cert.KernelMixBIdeal.τ).loc Cert.KernelMixBIdeal.main_arg4) = m ((c.tc : Thread Cert.KernelMixBIdeal.nD Cert.KernelMixBIdeal.τ).loc Cert.KernelMixBIdeal.main_arg4)
      ∧ r.2.mem ((c.tc : Thread Cert.KernelMixBIdeal.nD Cert.KernelMixBIdeal.τ).loc Cert.KernelMixBIdeal.main_arg5) = m ((c.tc : Thread Cert.KernelMixBIdeal.nD Cert.KernelMixBIdeal.τ).loc Cert.KernelMixBIdeal.main_arg5)
      ∧ r.2.mem ((c.tc : Thread Cert.KernelMixBIdeal.nD Cert.KernelMixBIdeal.τ).loc Cert.KernelMixBIdeal.main_arg6) = m ((c.tc : Thread Cert.KernelMixBIdeal.nD Cert.KernelMixBIdeal.τ).loc Cert.KernelMixBIdeal.main_arg6)
      ∧ r.2.mem ((c.tc : Thread Cert.KernelMixBIdeal.nD Cert.KernelMixBIdeal.τ).loc Cert.KernelMixBIdeal.main_arg7) = m ((c.tc : Thread Cert.KernelMixBIdeal.nD Cert.KernelMixBIdeal.τ).loc Cert.KernelMixBIdeal.main_arg7)
      ∧ r.2.mem ((c.tc : Thread Cert.KernelMixBIdeal.nD Cert.KernelMixBIdeal.τ).loc Cert.KernelMixBIdeal.main_arg8) = m ((c.tc : Thread Cert.KernelMixBIdeal.nD Cert.KernelMixBIdeal.τ).loc Cert.KernelMixBIdeal.main_arg8)
      ∧ r.2.mem ((c.tc : Thread Cert.KernelMixBIdeal.nD Cert.KernelMixBIdeal.τ).loc Cert.KernelMixBIdeal.main_arg9) = m ((c.tc : Thread Cert.KernelMixBIdeal.nD Cert.KernelMixBIdeal.τ).loc Cert.KernelMixBIdeal.main_arg9))
      ∧ r.2.sem = fun _ => 0)

def quiescent_ReferenceMixBIdeal [hReferenceMixBIdeal : Cert.ReferenceMixBIdeal.Facts] : Prop :=
  ∀ (m : (ℓ : Loc Cert.ReferenceMixBIdeal.nD Cert.ReferenceMixBIdeal.τ Cert.ReferenceMixBIdeal.sig) → Buf (Elt Ideal) ℓ) (g : Dev Cert.ReferenceMixBIdeal.nD → PrngReg), Pre_ReferenceMixBIdeal m →
    θ_run (Cert.ReferenceMixBIdeal.defs (F := Ideal)) (onTc (τ := Cert.ReferenceMixBIdeal.τ) (Cert.ReferenceMixBIdeal.main (F := Ideal))) ⟨m, fun _ => 0, g⟩ (fun r => (∀ c : Dev Cert.ReferenceMixBIdeal.nD,
      r.2.mem ((c.tc : Thread Cert.ReferenceMixBIdeal.nD Cert.ReferenceMixBIdeal.τ).loc Cert.ReferenceMixBIdeal.main_arg0) = m ((c.tc : Thread Cert.ReferenceMixBIdeal.nD Cert.ReferenceMixBIdeal.τ).loc Cert.ReferenceMixBIdeal.main_arg0)
      ∧ r.2.mem ((c.tc : Thread Cert.ReferenceMixBIdeal.nD Cert.ReferenceMixBIdeal.τ).loc Cert.ReferenceMixBIdeal.main_arg1) = m ((c.tc : Thread Cert.ReferenceMixBIdeal.nD Cert.ReferenceMixBIdeal.τ).loc Cert.ReferenceMixBIdeal.main_arg1)
      ∧ r.2.mem ((c.tc : Thread Cert.ReferenceMixBIdeal.nD Cert.ReferenceMixBIdeal.τ).loc Cert.ReferenceMixBIdeal.main_arg2) = m ((c.tc : Thread Cert.ReferenceMixBIdeal.nD Cert.ReferenceMixBIdeal.τ).loc Cert.ReferenceMixBIdeal.main_arg2)
      ∧ r.2.mem ((c.tc : Thread Cert.ReferenceMixBIdeal.nD Cert.ReferenceMixBIdeal.τ).loc Cert.ReferenceMixBIdeal.main_arg3) = m ((c.tc : Thread Cert.ReferenceMixBIdeal.nD Cert.ReferenceMixBIdeal.τ).loc Cert.ReferenceMixBIdeal.main_arg3)
      ∧ r.2.mem ((c.tc : Thread Cert.ReferenceMixBIdeal.nD Cert.ReferenceMixBIdeal.τ).loc Cert.ReferenceMixBIdeal.main_arg4) = m ((c.tc : Thread Cert.ReferenceMixBIdeal.nD Cert.ReferenceMixBIdeal.τ).loc Cert.ReferenceMixBIdeal.main_arg4)
      ∧ r.2.mem ((c.tc : Thread Cert.ReferenceMixBIdeal.nD Cert.ReferenceMixBIdeal.τ).loc Cert.ReferenceMixBIdeal.main_arg5) = m ((c.tc : Thread Cert.ReferenceMixBIdeal.nD Cert.ReferenceMixBIdeal.τ).loc Cert.ReferenceMixBIdeal.main_arg5)
      ∧ r.2.mem ((c.tc : Thread Cert.ReferenceMixBIdeal.nD Cert.ReferenceMixBIdeal.τ).loc Cert.ReferenceMixBIdeal.main_arg6) = m ((c.tc : Thread Cert.ReferenceMixBIdeal.nD Cert.ReferenceMixBIdeal.τ).loc Cert.ReferenceMixBIdeal.main_arg6)
      ∧ r.2.mem ((c.tc : Thread Cert.ReferenceMixBIdeal.nD Cert.ReferenceMixBIdeal.τ).loc Cert.ReferenceMixBIdeal.main_arg7) = m ((c.tc : Thread Cert.ReferenceMixBIdeal.nD Cert.ReferenceMixBIdeal.τ).loc Cert.ReferenceMixBIdeal.main_arg7)
      ∧ r.2.mem ((c.tc : Thread Cert.ReferenceMixBIdeal.nD Cert.ReferenceMixBIdeal.τ).loc Cert.ReferenceMixBIdeal.main_arg8) = m ((c.tc : Thread Cert.ReferenceMixBIdeal.nD Cert.ReferenceMixBIdeal.τ).loc Cert.ReferenceMixBIdeal.main_arg8)
      ∧ r.2.mem ((c.tc : Thread Cert.ReferenceMixBIdeal.nD Cert.ReferenceMixBIdeal.τ).loc Cert.ReferenceMixBIdeal.main_arg9) = m ((c.tc : Thread Cert.ReferenceMixBIdeal.nD Cert.ReferenceMixBIdeal.τ).loc Cert.ReferenceMixBIdeal.main_arg9))
      ∧ r.2.sem = fun _ => 0)

def quiescent_KernelBackA [hKernelBackA : Cert.KernelBackA.Facts] : Prop :=
  ∀ (m : (ℓ : Loc Cert.KernelBackA.nD Cert.KernelBackA.τ Cert.KernelBackA.sig) → Buf (Elt Bits) ℓ) (g : Dev Cert.KernelBackA.nD → PrngReg), Pre_KernelBackA m →
    θ_run (Cert.KernelBackA.defs (F := Bits)) (onTc (τ := Cert.KernelBackA.τ) (Cert.KernelBackA.main (F := Bits))) ⟨m, fun _ => 0, g⟩ (fun r => (∀ c : Dev Cert.KernelBackA.nD,
      r.2.mem ((c.tc : Thread Cert.KernelBackA.nD Cert.KernelBackA.τ).loc Cert.KernelBackA.main_arg0) = m ((c.tc : Thread Cert.KernelBackA.nD Cert.KernelBackA.τ).loc Cert.KernelBackA.main_arg0)
      ∧ r.2.mem ((c.tc : Thread Cert.KernelBackA.nD Cert.KernelBackA.τ).loc Cert.KernelBackA.main_arg1) = m ((c.tc : Thread Cert.KernelBackA.nD Cert.KernelBackA.τ).loc Cert.KernelBackA.main_arg1)
      ∧ r.2.mem ((c.tc : Thread Cert.KernelBackA.nD Cert.KernelBackA.τ).loc Cert.KernelBackA.main_arg2) = m ((c.tc : Thread Cert.KernelBackA.nD Cert.KernelBackA.τ).loc Cert.KernelBackA.main_arg2)
      ∧ r.2.mem ((c.tc : Thread Cert.KernelBackA.nD Cert.KernelBackA.τ).loc Cert.KernelBackA.main_arg3) = m ((c.tc : Thread Cert.KernelBackA.nD Cert.KernelBackA.τ).loc Cert.KernelBackA.main_arg3)
      ∧ r.2.mem ((c.tc : Thread Cert.KernelBackA.nD Cert.KernelBackA.τ).loc Cert.KernelBackA.main_arg4) = m ((c.tc : Thread Cert.KernelBackA.nD Cert.KernelBackA.τ).loc Cert.KernelBackA.main_arg4)
      ∧ r.2.mem ((c.tc : Thread Cert.KernelBackA.nD Cert.KernelBackA.τ).loc Cert.KernelBackA.main_arg5) = m ((c.tc : Thread Cert.KernelBackA.nD Cert.KernelBackA.τ).loc Cert.KernelBackA.main_arg5)
      ∧ r.2.mem ((c.tc : Thread Cert.KernelBackA.nD Cert.KernelBackA.τ).loc Cert.KernelBackA.main_arg6) = m ((c.tc : Thread Cert.KernelBackA.nD Cert.KernelBackA.τ).loc Cert.KernelBackA.main_arg6)
      ∧ r.2.mem ((c.tc : Thread Cert.KernelBackA.nD Cert.KernelBackA.τ).loc Cert.KernelBackA.main_arg7) = m ((c.tc : Thread Cert.KernelBackA.nD Cert.KernelBackA.τ).loc Cert.KernelBackA.main_arg7)
      ∧ r.2.mem ((c.tc : Thread Cert.KernelBackA.nD Cert.KernelBackA.τ).loc Cert.KernelBackA.main_arg8) = m ((c.tc : Thread Cert.KernelBackA.nD Cert.KernelBackA.τ).loc Cert.KernelBackA.main_arg8)
      ∧ r.2.mem ((c.tc : Thread Cert.KernelBackA.nD Cert.KernelBackA.τ).loc Cert.KernelBackA.main_arg9) = m ((c.tc : Thread Cert.KernelBackA.nD Cert.KernelBackA.τ).loc Cert.KernelBackA.main_arg9))
      ∧ r.2.sem = fun _ => 0)

def quiescent_KernelBackAIdeal [hKernelBackAIdeal : Cert.KernelBackAIdeal.Facts] : Prop :=
  ∀ (m : (ℓ : Loc Cert.KernelBackAIdeal.nD Cert.KernelBackAIdeal.τ Cert.KernelBackAIdeal.sig) → Buf (Elt Ideal) ℓ) (g : Dev Cert.KernelBackAIdeal.nD → PrngReg), Pre_KernelBackAIdeal m →
    θ_run (Cert.KernelBackAIdeal.defs (F := Ideal)) (onTc (τ := Cert.KernelBackAIdeal.τ) (Cert.KernelBackAIdeal.main (F := Ideal))) ⟨m, fun _ => 0, g⟩ (fun r => (∀ c : Dev Cert.KernelBackAIdeal.nD,
      r.2.mem ((c.tc : Thread Cert.KernelBackAIdeal.nD Cert.KernelBackAIdeal.τ).loc Cert.KernelBackAIdeal.main_arg0) = m ((c.tc : Thread Cert.KernelBackAIdeal.nD Cert.KernelBackAIdeal.τ).loc Cert.KernelBackAIdeal.main_arg0)
      ∧ r.2.mem ((c.tc : Thread Cert.KernelBackAIdeal.nD Cert.KernelBackAIdeal.τ).loc Cert.KernelBackAIdeal.main_arg1) = m ((c.tc : Thread Cert.KernelBackAIdeal.nD Cert.KernelBackAIdeal.τ).loc Cert.KernelBackAIdeal.main_arg1)
      ∧ r.2.mem ((c.tc : Thread Cert.KernelBackAIdeal.nD Cert.KernelBackAIdeal.τ).loc Cert.KernelBackAIdeal.main_arg2) = m ((c.tc : Thread Cert.KernelBackAIdeal.nD Cert.KernelBackAIdeal.τ).loc Cert.KernelBackAIdeal.main_arg2)
      ∧ r.2.mem ((c.tc : Thread Cert.KernelBackAIdeal.nD Cert.KernelBackAIdeal.τ).loc Cert.KernelBackAIdeal.main_arg3) = m ((c.tc : Thread Cert.KernelBackAIdeal.nD Cert.KernelBackAIdeal.τ).loc Cert.KernelBackAIdeal.main_arg3)
      ∧ r.2.mem ((c.tc : Thread Cert.KernelBackAIdeal.nD Cert.KernelBackAIdeal.τ).loc Cert.KernelBackAIdeal.main_arg4) = m ((c.tc : Thread Cert.KernelBackAIdeal.nD Cert.KernelBackAIdeal.τ).loc Cert.KernelBackAIdeal.main_arg4)
      ∧ r.2.mem ((c.tc : Thread Cert.KernelBackAIdeal.nD Cert.KernelBackAIdeal.τ).loc Cert.KernelBackAIdeal.main_arg5) = m ((c.tc : Thread Cert.KernelBackAIdeal.nD Cert.KernelBackAIdeal.τ).loc Cert.KernelBackAIdeal.main_arg5)
      ∧ r.2.mem ((c.tc : Thread Cert.KernelBackAIdeal.nD Cert.KernelBackAIdeal.τ).loc Cert.KernelBackAIdeal.main_arg6) = m ((c.tc : Thread Cert.KernelBackAIdeal.nD Cert.KernelBackAIdeal.τ).loc Cert.KernelBackAIdeal.main_arg6)
      ∧ r.2.mem ((c.tc : Thread Cert.KernelBackAIdeal.nD Cert.KernelBackAIdeal.τ).loc Cert.KernelBackAIdeal.main_arg7) = m ((c.tc : Thread Cert.KernelBackAIdeal.nD Cert.KernelBackAIdeal.τ).loc Cert.KernelBackAIdeal.main_arg7)
      ∧ r.2.mem ((c.tc : Thread Cert.KernelBackAIdeal.nD Cert.KernelBackAIdeal.τ).loc Cert.KernelBackAIdeal.main_arg8) = m ((c.tc : Thread Cert.KernelBackAIdeal.nD Cert.KernelBackAIdeal.τ).loc Cert.KernelBackAIdeal.main_arg8)
      ∧ r.2.mem ((c.tc : Thread Cert.KernelBackAIdeal.nD Cert.KernelBackAIdeal.τ).loc Cert.KernelBackAIdeal.main_arg9) = m ((c.tc : Thread Cert.KernelBackAIdeal.nD Cert.KernelBackAIdeal.τ).loc Cert.KernelBackAIdeal.main_arg9))
      ∧ r.2.sem = fun _ => 0)

def quiescent_ReferenceBackAIdeal [hReferenceBackAIdeal : Cert.ReferenceBackAIdeal.Facts] : Prop :=
  ∀ (m : (ℓ : Loc Cert.ReferenceBackAIdeal.nD Cert.ReferenceBackAIdeal.τ Cert.ReferenceBackAIdeal.sig) → Buf (Elt Ideal) ℓ) (g : Dev Cert.ReferenceBackAIdeal.nD → PrngReg), Pre_ReferenceBackAIdeal m →
    θ_run (Cert.ReferenceBackAIdeal.defs (F := Ideal)) (onTc (τ := Cert.ReferenceBackAIdeal.τ) (Cert.ReferenceBackAIdeal.main (F := Ideal))) ⟨m, fun _ => 0, g⟩ (fun r => (∀ c : Dev Cert.ReferenceBackAIdeal.nD,
      r.2.mem ((c.tc : Thread Cert.ReferenceBackAIdeal.nD Cert.ReferenceBackAIdeal.τ).loc Cert.ReferenceBackAIdeal.main_arg0) = m ((c.tc : Thread Cert.ReferenceBackAIdeal.nD Cert.ReferenceBackAIdeal.τ).loc Cert.ReferenceBackAIdeal.main_arg0)
      ∧ r.2.mem ((c.tc : Thread Cert.ReferenceBackAIdeal.nD Cert.ReferenceBackAIdeal.τ).loc Cert.ReferenceBackAIdeal.main_arg1) = m ((c.tc : Thread Cert.ReferenceBackAIdeal.nD Cert.ReferenceBackAIdeal.τ).loc Cert.ReferenceBackAIdeal.main_arg1)
      ∧ r.2.mem ((c.tc : Thread Cert.ReferenceBackAIdeal.nD Cert.ReferenceBackAIdeal.τ).loc Cert.ReferenceBackAIdeal.main_arg2) = m ((c.tc : Thread Cert.ReferenceBackAIdeal.nD Cert.ReferenceBackAIdeal.τ).loc Cert.ReferenceBackAIdeal.main_arg2)
      ∧ r.2.mem ((c.tc : Thread Cert.ReferenceBackAIdeal.nD Cert.ReferenceBackAIdeal.τ).loc Cert.ReferenceBackAIdeal.main_arg3) = m ((c.tc : Thread Cert.ReferenceBackAIdeal.nD Cert.ReferenceBackAIdeal.τ).loc Cert.ReferenceBackAIdeal.main_arg3)
      ∧ r.2.mem ((c.tc : Thread Cert.ReferenceBackAIdeal.nD Cert.ReferenceBackAIdeal.τ).loc Cert.ReferenceBackAIdeal.main_arg4) = m ((c.tc : Thread Cert.ReferenceBackAIdeal.nD Cert.ReferenceBackAIdeal.τ).loc Cert.ReferenceBackAIdeal.main_arg4)
      ∧ r.2.mem ((c.tc : Thread Cert.ReferenceBackAIdeal.nD Cert.ReferenceBackAIdeal.τ).loc Cert.ReferenceBackAIdeal.main_arg5) = m ((c.tc : Thread Cert.ReferenceBackAIdeal.nD Cert.ReferenceBackAIdeal.τ).loc Cert.ReferenceBackAIdeal.main_arg5)
      ∧ r.2.mem ((c.tc : Thread Cert.ReferenceBackAIdeal.nD Cert.ReferenceBackAIdeal.τ).loc Cert.ReferenceBackAIdeal.main_arg6) = m ((c.tc : Thread Cert.ReferenceBackAIdeal.nD Cert.ReferenceBackAIdeal.τ).loc Cert.ReferenceBackAIdeal.main_arg6)
      ∧ r.2.mem ((c.tc : Thread Cert.ReferenceBackAIdeal.nD Cert.ReferenceBackAIdeal.τ).loc Cert.ReferenceBackAIdeal.main_arg7) = m ((c.tc : Thread Cert.ReferenceBackAIdeal.nD Cert.ReferenceBackAIdeal.τ).loc Cert.ReferenceBackAIdeal.main_arg7)
      ∧ r.2.mem ((c.tc : Thread Cert.ReferenceBackAIdeal.nD Cert.ReferenceBackAIdeal.τ).loc Cert.ReferenceBackAIdeal.main_arg8) = m ((c.tc : Thread Cert.ReferenceBackAIdeal.nD Cert.ReferenceBackAIdeal.τ).loc Cert.ReferenceBackAIdeal.main_arg8)
      ∧ r.2.mem ((c.tc : Thread Cert.ReferenceBackAIdeal.nD Cert.ReferenceBackAIdeal.τ).loc Cert.ReferenceBackAIdeal.main_arg9) = m ((c.tc : Thread Cert.ReferenceBackAIdeal.nD Cert.ReferenceBackAIdeal.τ).loc Cert.ReferenceBackAIdeal.main_arg9))
      ∧ r.2.sem = fun _ => 0)

def quiescent_KernelProjA [hKernelProjA : Cert.KernelProjA.Facts] : Prop :=
  ∀ (m : (ℓ : Loc Cert.KernelProjA.nD Cert.KernelProjA.τ Cert.KernelProjA.sig) → Buf (Elt Bits) ℓ) (g : Dev Cert.KernelProjA.nD → PrngReg), Pre_KernelProjA m →
    θ_run (Cert.KernelProjA.defs (F := Bits)) (onTc (τ := Cert.KernelProjA.τ) (Cert.KernelProjA.main (F := Bits))) ⟨m, fun _ => 0, g⟩ (fun r => (∀ c : Dev Cert.KernelProjA.nD,
      r.2.mem ((c.tc : Thread Cert.KernelProjA.nD Cert.KernelProjA.τ).loc Cert.KernelProjA.main_arg0) = m ((c.tc : Thread Cert.KernelProjA.nD Cert.KernelProjA.τ).loc Cert.KernelProjA.main_arg0)
      ∧ r.2.mem ((c.tc : Thread Cert.KernelProjA.nD Cert.KernelProjA.τ).loc Cert.KernelProjA.main_arg1) = m ((c.tc : Thread Cert.KernelProjA.nD Cert.KernelProjA.τ).loc Cert.KernelProjA.main_arg1)
      ∧ r.2.mem ((c.tc : Thread Cert.KernelProjA.nD Cert.KernelProjA.τ).loc Cert.KernelProjA.main_arg2) = m ((c.tc : Thread Cert.KernelProjA.nD Cert.KernelProjA.τ).loc Cert.KernelProjA.main_arg2)
      ∧ r.2.mem ((c.tc : Thread Cert.KernelProjA.nD Cert.KernelProjA.τ).loc Cert.KernelProjA.main_arg3) = m ((c.tc : Thread Cert.KernelProjA.nD Cert.KernelProjA.τ).loc Cert.KernelProjA.main_arg3)
      ∧ r.2.mem ((c.tc : Thread Cert.KernelProjA.nD Cert.KernelProjA.τ).loc Cert.KernelProjA.main_arg4) = m ((c.tc : Thread Cert.KernelProjA.nD Cert.KernelProjA.τ).loc Cert.KernelProjA.main_arg4))
      ∧ r.2.sem = fun _ => 0)

def quiescent_KernelProjAIdeal [hKernelProjAIdeal : Cert.KernelProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg), Pre_KernelProjAIdeal m →
    θ_run (Cert.KernelProjAIdeal.defs (F := Ideal)) (onTc (τ := Cert.KernelProjAIdeal.τ) (Cert.KernelProjAIdeal.main (F := Ideal))) ⟨m, fun _ => 0, g⟩ (fun r => (∀ c : Dev Cert.KernelProjAIdeal.nD,
      r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
      ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
      ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2)
      ∧ r.2.mem ((c.tc : Thread Cert.KernelProjAIdeal.nD Cert.KernelProjAIdeal.τ).loc Cert.KernelProjAIdeal.main_arg3) = m ((c.tc : Thread Cert.KernelProjAIdeal.nD Cert.KernelProjAIdeal.τ).loc Cert.KernelProjAIdeal.main_arg3)
      ∧ r.2.mem ((c.tc : Thread Cert.KernelProjAIdeal.nD Cert.KernelProjAIdeal.τ).loc Cert.KernelProjAIdeal.main_arg4) = m ((c.tc : Thread Cert.KernelProjAIdeal.nD Cert.KernelProjAIdeal.τ).loc Cert.KernelProjAIdeal.main_arg4))
      ∧ r.2.sem = fun _ => 0)

def quiescent_ReferenceProjAIdeal [hReferenceProjAIdeal : Cert.ReferenceProjAIdeal.Facts] : Prop :=
  ∀ (m : (ℓ : Loc Cert.ReferenceProjAIdeal.nD Cert.ReferenceProjAIdeal.τ Cert.ReferenceProjAIdeal.sig) → Buf (Elt Ideal) ℓ) (g : Dev Cert.ReferenceProjAIdeal.nD → PrngReg), Pre_ReferenceProjAIdeal m →
    θ_run (Cert.ReferenceProjAIdeal.defs (F := Ideal)) (onTc (τ := Cert.ReferenceProjAIdeal.τ) (Cert.ReferenceProjAIdeal.main (F := Ideal))) ⟨m, fun _ => 0, g⟩ (fun r => (∀ c : Dev Cert.ReferenceProjAIdeal.nD,
      r.2.mem ((c.tc : Thread Cert.ReferenceProjAIdeal.nD Cert.ReferenceProjAIdeal.τ).loc Cert.ReferenceProjAIdeal.main_arg0) = m ((c.tc : Thread Cert.ReferenceProjAIdeal.nD Cert.ReferenceProjAIdeal.τ).loc Cert.ReferenceProjAIdeal.main_arg0)
      ∧ r.2.mem ((c.tc : Thread Cert.ReferenceProjAIdeal.nD Cert.ReferenceProjAIdeal.τ).loc Cert.ReferenceProjAIdeal.main_arg1) = m ((c.tc : Thread Cert.ReferenceProjAIdeal.nD Cert.ReferenceProjAIdeal.τ).loc Cert.ReferenceProjAIdeal.main_arg1)
      ∧ r.2.mem ((c.tc : Thread Cert.ReferenceProjAIdeal.nD Cert.ReferenceProjAIdeal.τ).loc Cert.ReferenceProjAIdeal.main_arg2) = m ((c.tc : Thread Cert.ReferenceProjAIdeal.nD Cert.ReferenceProjAIdeal.τ).loc Cert.ReferenceProjAIdeal.main_arg2)
      ∧ r.2.mem ((c.tc : Thread Cert.ReferenceProjAIdeal.nD Cert.ReferenceProjAIdeal.τ).loc Cert.ReferenceProjAIdeal.main_arg3) = m ((c.tc : Thread Cert.ReferenceProjAIdeal.nD Cert.ReferenceProjAIdeal.τ).loc Cert.ReferenceProjAIdeal.main_arg3)
      ∧ r.2.mem ((c.tc : Thread Cert.ReferenceProjAIdeal.nD Cert.ReferenceProjAIdeal.τ).loc Cert.ReferenceProjAIdeal.main_arg4) = m ((c.tc : Thread Cert.ReferenceProjAIdeal.nD Cert.ReferenceProjAIdeal.τ).loc Cert.ReferenceProjAIdeal.main_arg4))
      ∧ r.2.sem = fun _ => 0)

def quiescent_KernelProjB [hKernelProjB : Cert.KernelProjB.Facts] : Prop :=
  ∀ (m : (ℓ : Loc Cert.KernelProjB.nD Cert.KernelProjB.τ Cert.KernelProjB.sig) → Buf (Elt Bits) ℓ) (g : Dev Cert.KernelProjB.nD → PrngReg), Pre_KernelProjB m →
    θ_run (Cert.KernelProjB.defs (F := Bits)) (onTc (τ := Cert.KernelProjB.τ) (Cert.KernelProjB.main (F := Bits))) ⟨m, fun _ => 0, g⟩ (fun r => (∀ c : Dev Cert.KernelProjB.nD,
      r.2.mem ((c.tc : Thread Cert.KernelProjB.nD Cert.KernelProjB.τ).loc Cert.KernelProjB.main_arg0) = m ((c.tc : Thread Cert.KernelProjB.nD Cert.KernelProjB.τ).loc Cert.KernelProjB.main_arg0)
      ∧ r.2.mem ((c.tc : Thread Cert.KernelProjB.nD Cert.KernelProjB.τ).loc Cert.KernelProjB.main_arg1) = m ((c.tc : Thread Cert.KernelProjB.nD Cert.KernelProjB.τ).loc Cert.KernelProjB.main_arg1)
      ∧ r.2.mem ((c.tc : Thread Cert.KernelProjB.nD Cert.KernelProjB.τ).loc Cert.KernelProjB.main_arg2) = m ((c.tc : Thread Cert.KernelProjB.nD Cert.KernelProjB.τ).loc Cert.KernelProjB.main_arg2)
      ∧ r.2.mem ((c.tc : Thread Cert.KernelProjB.nD Cert.KernelProjB.τ).loc Cert.KernelProjB.main_arg3) = m ((c.tc : Thread Cert.KernelProjB.nD Cert.KernelProjB.τ).loc Cert.KernelProjB.main_arg3)
      ∧ r.2.mem ((c.tc : Thread Cert.KernelProjB.nD Cert.KernelProjB.τ).loc Cert.KernelProjB.main_arg4) = m ((c.tc : Thread Cert.KernelProjB.nD Cert.KernelProjB.τ).loc Cert.KernelProjB.main_arg4))
      ∧ r.2.sem = fun _ => 0)

def quiescent_KernelProjBIdeal [hKernelProjBIdeal : Cert.KernelProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg), Pre_KernelProjBIdeal m →
    θ_run (Cert.KernelProjBIdeal.defs (F := Ideal)) (onTc (τ := Cert.KernelProjBIdeal.τ) (Cert.KernelProjBIdeal.main (F := Ideal))) ⟨m, fun _ => 0, g⟩ (fun r => (∀ c : Dev Cert.KernelProjBIdeal.nD,
      r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
      ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
      ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2)
      ∧ r.2.mem ((c.tc : Thread Cert.KernelProjBIdeal.nD Cert.KernelProjBIdeal.τ).loc Cert.KernelProjBIdeal.main_arg3) = m ((c.tc : Thread Cert.KernelProjBIdeal.nD Cert.KernelProjBIdeal.τ).loc Cert.KernelProjBIdeal.main_arg3)
      ∧ r.2.mem ((c.tc : Thread Cert.KernelProjBIdeal.nD Cert.KernelProjBIdeal.τ).loc Cert.KernelProjBIdeal.main_arg4) = m ((c.tc : Thread Cert.KernelProjBIdeal.nD Cert.KernelProjBIdeal.τ).loc Cert.KernelProjBIdeal.main_arg4))
      ∧ r.2.sem = fun _ => 0)

def quiescent_ReferenceProjBIdeal [hReferenceProjBIdeal : Cert.ReferenceProjBIdeal.Facts] : Prop :=
  ∀ (m : (ℓ : Loc Cert.ReferenceProjBIdeal.nD Cert.ReferenceProjBIdeal.τ Cert.ReferenceProjBIdeal.sig) → Buf (Elt Ideal) ℓ) (g : Dev Cert.ReferenceProjBIdeal.nD → PrngReg), Pre_ReferenceProjBIdeal m →
    θ_run (Cert.ReferenceProjBIdeal.defs (F := Ideal)) (onTc (τ := Cert.ReferenceProjBIdeal.τ) (Cert.ReferenceProjBIdeal.main (F := Ideal))) ⟨m, fun _ => 0, g⟩ (fun r => (∀ c : Dev Cert.ReferenceProjBIdeal.nD,
      r.2.mem ((c.tc : Thread Cert.ReferenceProjBIdeal.nD Cert.ReferenceProjBIdeal.τ).loc Cert.ReferenceProjBIdeal.main_arg0) = m ((c.tc : Thread Cert.ReferenceProjBIdeal.nD Cert.ReferenceProjBIdeal.τ).loc Cert.ReferenceProjBIdeal.main_arg0)
      ∧ r.2.mem ((c.tc : Thread Cert.ReferenceProjBIdeal.nD Cert.ReferenceProjBIdeal.τ).loc Cert.ReferenceProjBIdeal.main_arg1) = m ((c.tc : Thread Cert.ReferenceProjBIdeal.nD Cert.ReferenceProjBIdeal.τ).loc Cert.ReferenceProjBIdeal.main_arg1)
      ∧ r.2.mem ((c.tc : Thread Cert.ReferenceProjBIdeal.nD Cert.ReferenceProjBIdeal.τ).loc Cert.ReferenceProjBIdeal.main_arg2) = m ((c.tc : Thread Cert.ReferenceProjBIdeal.nD Cert.ReferenceProjBIdeal.τ).loc Cert.ReferenceProjBIdeal.main_arg2)
      ∧ r.2.mem ((c.tc : Thread Cert.ReferenceProjBIdeal.nD Cert.ReferenceProjBIdeal.τ).loc Cert.ReferenceProjBIdeal.main_arg3) = m ((c.tc : Thread Cert.ReferenceProjBIdeal.nD Cert.ReferenceProjBIdeal.τ).loc Cert.ReferenceProjBIdeal.main_arg3)
      ∧ r.2.mem ((c.tc : Thread Cert.ReferenceProjBIdeal.nD Cert.ReferenceProjBIdeal.τ).loc Cert.ReferenceProjBIdeal.main_arg4) = m ((c.tc : Thread Cert.ReferenceProjBIdeal.nD Cert.ReferenceProjBIdeal.τ).loc Cert.ReferenceProjBIdeal.main_arg4))
      ∧ r.2.sem = fun _ => 0)

def quiescent_KernelOptSmall [hKernelOptSmall : Cert.KernelOptSmall.Facts] : Prop :=
  ∀ (m : (ℓ : Loc Cert.KernelOptSmall.nD Cert.KernelOptSmall.τ Cert.KernelOptSmall.sig) → Buf (Elt Bits) ℓ) (g : Dev Cert.KernelOptSmall.nD → PrngReg), Pre_KernelOptSmall m →
    θ_run (Cert.KernelOptSmall.defs (F := Bits)) (onTc (τ := Cert.KernelOptSmall.τ) (Cert.KernelOptSmall.main (F := Bits))) ⟨m, fun _ => 0, g⟩ (fun r => (∀ c : Dev Cert.KernelOptSmall.nD,
      r.2.mem ((c.tc : Thread Cert.KernelOptSmall.nD Cert.KernelOptSmall.τ).loc Cert.KernelOptSmall.main_arg0) = m ((c.tc : Thread Cert.KernelOptSmall.nD Cert.KernelOptSmall.τ).loc Cert.KernelOptSmall.main_arg0)
      ∧ r.2.mem ((c.tc : Thread Cert.KernelOptSmall.nD Cert.KernelOptSmall.τ).loc Cert.KernelOptSmall.main_arg1) = m ((c.tc : Thread Cert.KernelOptSmall.nD Cert.KernelOptSmall.τ).loc Cert.KernelOptSmall.main_arg1)
      ∧ r.2.mem ((c.tc : Thread Cert.KernelOptSmall.nD Cert.KernelOptSmall.τ).loc Cert.KernelOptSmall.main_arg2) = m ((c.tc : Thread Cert.KernelOptSmall.nD Cert.KernelOptSmall.τ).loc Cert.KernelOptSmall.main_arg2)
      ∧ r.2.mem ((c.tc : Thread Cert.KernelOptSmall.nD Cert.KernelOptSmall.τ).loc Cert.KernelOptSmall.main_arg3) = m ((c.tc : Thread Cert.KernelOptSmall.nD Cert.KernelOptSmall.τ).loc Cert.KernelOptSmall.main_arg3))
      ∧ r.2.sem = fun _ => 0)

def quiescent_KernelOptSmallIdeal [hKernelOptSmallIdeal : Cert.KernelOptSmallIdeal.Facts] : Prop :=
  ∀ (m : (ℓ : Loc Cert.KernelOptSmallIdeal.nD Cert.KernelOptSmallIdeal.τ Cert.KernelOptSmallIdeal.sig) → Buf (Elt Ideal) ℓ) (g : Dev Cert.KernelOptSmallIdeal.nD → PrngReg), Pre_KernelOptSmallIdeal m →
    θ_run (Cert.KernelOptSmallIdeal.defs (F := Ideal)) (onTc (τ := Cert.KernelOptSmallIdeal.τ) (Cert.KernelOptSmallIdeal.main (F := Ideal))) ⟨m, fun _ => 0, g⟩ (fun r => (∀ c : Dev Cert.KernelOptSmallIdeal.nD,
      r.2.mem ((c.tc : Thread Cert.KernelOptSmallIdeal.nD Cert.KernelOptSmallIdeal.τ).loc Cert.KernelOptSmallIdeal.main_arg0) = m ((c.tc : Thread Cert.KernelOptSmallIdeal.nD Cert.KernelOptSmallIdeal.τ).loc Cert.KernelOptSmallIdeal.main_arg0)
      ∧ r.2.mem ((c.tc : Thread Cert.KernelOptSmallIdeal.nD Cert.KernelOptSmallIdeal.τ).loc Cert.KernelOptSmallIdeal.main_arg1) = m ((c.tc : Thread Cert.KernelOptSmallIdeal.nD Cert.KernelOptSmallIdeal.τ).loc Cert.KernelOptSmallIdeal.main_arg1)
      ∧ r.2.mem ((c.tc : Thread Cert.KernelOptSmallIdeal.nD Cert.KernelOptSmallIdeal.τ).loc Cert.KernelOptSmallIdeal.main_arg2) = m ((c.tc : Thread Cert.KernelOptSmallIdeal.nD Cert.KernelOptSmallIdeal.τ).loc Cert.KernelOptSmallIdeal.main_arg2)
      ∧ r.2.mem ((c.tc : Thread Cert.KernelOptSmallIdeal.nD Cert.KernelOptSmallIdeal.τ).loc Cert.KernelOptSmallIdeal.main_arg3) = m ((c.tc : Thread Cert.KernelOptSmallIdeal.nD Cert.KernelOptSmallIdeal.τ).loc Cert.KernelOptSmallIdeal.main_arg3))
      ∧ r.2.sem = fun _ => 0)

def quiescent_ReferenceOptSmallIdeal [hReferenceOptSmallIdeal : Cert.ReferenceOptSmallIdeal.Facts] : Prop :=
  ∀ (m : (ℓ : Loc Cert.ReferenceOptSmallIdeal.nD Cert.ReferenceOptSmallIdeal.τ Cert.ReferenceOptSmallIdeal.sig) → Buf (Elt Ideal) ℓ) (g : Dev Cert.ReferenceOptSmallIdeal.nD → PrngReg), Pre_ReferenceOptSmallIdeal m →
    θ_run (Cert.ReferenceOptSmallIdeal.defs (F := Ideal)) (onTc (τ := Cert.ReferenceOptSmallIdeal.τ) (Cert.ReferenceOptSmallIdeal.main (F := Ideal))) ⟨m, fun _ => 0, g⟩ (fun r => (∀ c : Dev Cert.ReferenceOptSmallIdeal.nD,
      r.2.mem ((c.tc : Thread Cert.ReferenceOptSmallIdeal.nD Cert.ReferenceOptSmallIdeal.τ).loc Cert.ReferenceOptSmallIdeal.main_arg0) = m ((c.tc : Thread Cert.ReferenceOptSmallIdeal.nD Cert.ReferenceOptSmallIdeal.τ).loc Cert.ReferenceOptSmallIdeal.main_arg0)
      ∧ r.2.mem ((c.tc : Thread Cert.ReferenceOptSmallIdeal.nD Cert.ReferenceOptSmallIdeal.τ).loc Cert.ReferenceOptSmallIdeal.main_arg1) = m ((c.tc : Thread Cert.ReferenceOptSmallIdeal.nD Cert.ReferenceOptSmallIdeal.τ).loc Cert.ReferenceOptSmallIdeal.main_arg1)
      ∧ r.2.mem ((c.tc : Thread Cert.ReferenceOptSmallIdeal.nD Cert.ReferenceOptSmallIdeal.τ).loc Cert.ReferenceOptSmallIdeal.main_arg2) = m ((c.tc : Thread Cert.ReferenceOptSmallIdeal.nD Cert.ReferenceOptSmallIdeal.τ).loc Cert.ReferenceOptSmallIdeal.main_arg2)
      ∧ r.2.mem ((c.tc : Thread Cert.ReferenceOptSmallIdeal.nD Cert.ReferenceOptSmallIdeal.τ).loc Cert.ReferenceOptSmallIdeal.main_arg3) = m ((c.tc : Thread Cert.ReferenceOptSmallIdeal.nD Cert.ReferenceOptSmallIdeal.τ).loc Cert.ReferenceOptSmallIdeal.main_arg3))
      ∧ r.2.sem = fun _ => 0)

def quiescent_KernelOptUpB [hKernelOptUpB : Cert.KernelOptUpB.Facts] : Prop :=
  ∀ (m : (ℓ : Loc Cert.KernelOptUpB.nD Cert.KernelOptUpB.τ Cert.KernelOptUpB.sig) → Buf (Elt Bits) ℓ) (g : Dev Cert.KernelOptUpB.nD → PrngReg), Pre_KernelOptUpB m →
    θ_run (Cert.KernelOptUpB.defs (F := Bits)) (onTc (τ := Cert.KernelOptUpB.τ) (Cert.KernelOptUpB.main (F := Bits))) ⟨m, fun _ => 0, g⟩ (fun r => (∀ c : Dev Cert.KernelOptUpB.nD,
      r.2.mem ((c.tc : Thread Cert.KernelOptUpB.nD Cert.KernelOptUpB.τ).loc Cert.KernelOptUpB.main_arg0) = m ((c.tc : Thread Cert.KernelOptUpB.nD Cert.KernelOptUpB.τ).loc Cert.KernelOptUpB.main_arg0)
      ∧ r.2.mem ((c.tc : Thread Cert.KernelOptUpB.nD Cert.KernelOptUpB.τ).loc Cert.KernelOptUpB.main_arg1) = m ((c.tc : Thread Cert.KernelOptUpB.nD Cert.KernelOptUpB.τ).loc Cert.KernelOptUpB.main_arg1)
      ∧ r.2.mem ((c.tc : Thread Cert.KernelOptUpB.nD Cert.KernelOptUpB.τ).loc Cert.KernelOptUpB.main_arg2) = m ((c.tc : Thread Cert.KernelOptUpB.nD Cert.KernelOptUpB.τ).loc Cert.KernelOptUpB.main_arg2)
      ∧ r.2.mem ((c.tc : Thread Cert.KernelOptUpB.nD Cert.KernelOptUpB.τ).loc Cert.KernelOptUpB.main_arg3) = m ((c.tc : Thread Cert.KernelOptUpB.nD Cert.KernelOptUpB.τ).loc Cert.KernelOptUpB.main_arg3))
      ∧ r.2.sem = fun _ => 0)

def quiescent_KernelOptUpBIdeal [hKernelOptUpBIdeal : Cert.KernelOptUpBIdeal.Facts] : Prop :=
  ∀ (m : (ℓ : Loc Cert.KernelOptUpBIdeal.nD Cert.KernelOptUpBIdeal.τ Cert.KernelOptUpBIdeal.sig) → Buf (Elt Ideal) ℓ) (g : Dev Cert.KernelOptUpBIdeal.nD → PrngReg), Pre_KernelOptUpBIdeal m →
    θ_run (Cert.KernelOptUpBIdeal.defs (F := Ideal)) (onTc (τ := Cert.KernelOptUpBIdeal.τ) (Cert.KernelOptUpBIdeal.main (F := Ideal))) ⟨m, fun _ => 0, g⟩ (fun r => (∀ c : Dev Cert.KernelOptUpBIdeal.nD,
      r.2.mem ((c.tc : Thread Cert.KernelOptUpBIdeal.nD Cert.KernelOptUpBIdeal.τ).loc Cert.KernelOptUpBIdeal.main_arg0) = m ((c.tc : Thread Cert.KernelOptUpBIdeal.nD Cert.KernelOptUpBIdeal.τ).loc Cert.KernelOptUpBIdeal.main_arg0)
      ∧ r.2.mem ((c.tc : Thread Cert.KernelOptUpBIdeal.nD Cert.KernelOptUpBIdeal.τ).loc Cert.KernelOptUpBIdeal.main_arg1) = m ((c.tc : Thread Cert.KernelOptUpBIdeal.nD Cert.KernelOptUpBIdeal.τ).loc Cert.KernelOptUpBIdeal.main_arg1)
      ∧ r.2.mem ((c.tc : Thread Cert.KernelOptUpBIdeal.nD Cert.KernelOptUpBIdeal.τ).loc Cert.KernelOptUpBIdeal.main_arg2) = m ((c.tc : Thread Cert.KernelOptUpBIdeal.nD Cert.KernelOptUpBIdeal.τ).loc Cert.KernelOptUpBIdeal.main_arg2)
      ∧ r.2.mem ((c.tc : Thread Cert.KernelOptUpBIdeal.nD Cert.KernelOptUpBIdeal.τ).loc Cert.KernelOptUpBIdeal.main_arg3) = m ((c.tc : Thread Cert.KernelOptUpBIdeal.nD Cert.KernelOptUpBIdeal.τ).loc Cert.KernelOptUpBIdeal.main_arg3))
      ∧ r.2.sem = fun _ => 0)

def quiescent_ReferenceOptUpBIdeal [hReferenceOptUpBIdeal : Cert.ReferenceOptUpBIdeal.Facts] : Prop :=
  ∀ (m : (ℓ : Loc Cert.ReferenceOptUpBIdeal.nD Cert.ReferenceOptUpBIdeal.τ Cert.ReferenceOptUpBIdeal.sig) → Buf (Elt Ideal) ℓ) (g : Dev Cert.ReferenceOptUpBIdeal.nD → PrngReg), Pre_ReferenceOptUpBIdeal m →
    θ_run (Cert.ReferenceOptUpBIdeal.defs (F := Ideal)) (onTc (τ := Cert.ReferenceOptUpBIdeal.τ) (Cert.ReferenceOptUpBIdeal.main (F := Ideal))) ⟨m, fun _ => 0, g⟩ (fun r => (∀ c : Dev Cert.ReferenceOptUpBIdeal.nD,
      r.2.mem ((c.tc : Thread Cert.ReferenceOptUpBIdeal.nD Cert.ReferenceOptUpBIdeal.τ).loc Cert.ReferenceOptUpBIdeal.main_arg0) = m ((c.tc : Thread Cert.ReferenceOptUpBIdeal.nD Cert.ReferenceOptUpBIdeal.τ).loc Cert.ReferenceOptUpBIdeal.main_arg0)
      ∧ r.2.mem ((c.tc : Thread Cert.ReferenceOptUpBIdeal.nD Cert.ReferenceOptUpBIdeal.τ).loc Cert.ReferenceOptUpBIdeal.main_arg1) = m ((c.tc : Thread Cert.ReferenceOptUpBIdeal.nD Cert.ReferenceOptUpBIdeal.τ).loc Cert.ReferenceOptUpBIdeal.main_arg1)
      ∧ r.2.mem ((c.tc : Thread Cert.ReferenceOptUpBIdeal.nD Cert.ReferenceOptUpBIdeal.τ).loc Cert.ReferenceOptUpBIdeal.main_arg2) = m ((c.tc : Thread Cert.ReferenceOptUpBIdeal.nD Cert.ReferenceOptUpBIdeal.τ).loc Cert.ReferenceOptUpBIdeal.main_arg2)
      ∧ r.2.mem ((c.tc : Thread Cert.ReferenceOptUpBIdeal.nD Cert.ReferenceOptUpBIdeal.τ).loc Cert.ReferenceOptUpBIdeal.main_arg3) = m ((c.tc : Thread Cert.ReferenceOptUpBIdeal.nD Cert.ReferenceOptUpBIdeal.τ).loc Cert.ReferenceOptUpBIdeal.main_arg3))
      ∧ r.2.sem = fun _ => 0)

def quiescent_KernelOptUpA [hKernelOptUpA : Cert.KernelOptUpA.Facts] : Prop :=
  ∀ (m : (ℓ : Loc Cert.KernelOptUpA.nD Cert.KernelOptUpA.τ Cert.KernelOptUpA.sig) → Buf (Elt Bits) ℓ) (g : Dev Cert.KernelOptUpA.nD → PrngReg), Pre_KernelOptUpA m →
    θ_run (Cert.KernelOptUpA.defs (F := Bits)) (onTc (τ := Cert.KernelOptUpA.τ) (Cert.KernelOptUpA.main (F := Bits))) ⟨m, fun _ => 0, g⟩ (fun r => (∀ c : Dev Cert.KernelOptUpA.nD,
      r.2.mem ((c.tc : Thread Cert.KernelOptUpA.nD Cert.KernelOptUpA.τ).loc Cert.KernelOptUpA.main_arg0) = m ((c.tc : Thread Cert.KernelOptUpA.nD Cert.KernelOptUpA.τ).loc Cert.KernelOptUpA.main_arg0)
      ∧ r.2.mem ((c.tc : Thread Cert.KernelOptUpA.nD Cert.KernelOptUpA.τ).loc Cert.KernelOptUpA.main_arg1) = m ((c.tc : Thread Cert.KernelOptUpA.nD Cert.KernelOptUpA.τ).loc Cert.KernelOptUpA.main_arg1)
      ∧ r.2.mem ((c.tc : Thread Cert.KernelOptUpA.nD Cert.KernelOptUpA.τ).loc Cert.KernelOptUpA.main_arg2) = m ((c.tc : Thread Cert.KernelOptUpA.nD Cert.KernelOptUpA.τ).loc Cert.KernelOptUpA.main_arg2)
      ∧ r.2.mem ((c.tc : Thread Cert.KernelOptUpA.nD Cert.KernelOptUpA.τ).loc Cert.KernelOptUpA.main_arg3) = m ((c.tc : Thread Cert.KernelOptUpA.nD Cert.KernelOptUpA.τ).loc Cert.KernelOptUpA.main_arg3)
      ∧ r.2.mem ((c.tc : Thread Cert.KernelOptUpA.nD Cert.KernelOptUpA.τ).loc Cert.KernelOptUpA.main_arg4) = m ((c.tc : Thread Cert.KernelOptUpA.nD Cert.KernelOptUpA.τ).loc Cert.KernelOptUpA.main_arg4)
      ∧ r.2.mem ((c.tc : Thread Cert.KernelOptUpA.nD Cert.KernelOptUpA.τ).loc Cert.KernelOptUpA.main_arg5) = m ((c.tc : Thread Cert.KernelOptUpA.nD Cert.KernelOptUpA.τ).loc Cert.KernelOptUpA.main_arg5)
      ∧ r.2.mem ((c.tc : Thread Cert.KernelOptUpA.nD Cert.KernelOptUpA.τ).loc Cert.KernelOptUpA.main_arg6) = m ((c.tc : Thread Cert.KernelOptUpA.nD Cert.KernelOptUpA.τ).loc Cert.KernelOptUpA.main_arg6)
      ∧ r.2.mem ((c.tc : Thread Cert.KernelOptUpA.nD Cert.KernelOptUpA.τ).loc Cert.KernelOptUpA.main_arg7) = m ((c.tc : Thread Cert.KernelOptUpA.nD Cert.KernelOptUpA.τ).loc Cert.KernelOptUpA.main_arg7))
      ∧ r.2.sem = fun _ => 0)

def quiescent_KernelOptUpAIdeal [hKernelOptUpAIdeal : Cert.KernelOptUpAIdeal.Facts] : Prop :=
  ∀ (m : (ℓ : Loc Cert.KernelOptUpAIdeal.nD Cert.KernelOptUpAIdeal.τ Cert.KernelOptUpAIdeal.sig) → Buf (Elt Ideal) ℓ) (g : Dev Cert.KernelOptUpAIdeal.nD → PrngReg), Pre_KernelOptUpAIdeal m →
    θ_run (Cert.KernelOptUpAIdeal.defs (F := Ideal)) (onTc (τ := Cert.KernelOptUpAIdeal.τ) (Cert.KernelOptUpAIdeal.main (F := Ideal))) ⟨m, fun _ => 0, g⟩ (fun r => (∀ c : Dev Cert.KernelOptUpAIdeal.nD,
      r.2.mem ((c.tc : Thread Cert.KernelOptUpAIdeal.nD Cert.KernelOptUpAIdeal.τ).loc Cert.KernelOptUpAIdeal.main_arg0) = m ((c.tc : Thread Cert.KernelOptUpAIdeal.nD Cert.KernelOptUpAIdeal.τ).loc Cert.KernelOptUpAIdeal.main_arg0)
      ∧ r.2.mem ((c.tc : Thread Cert.KernelOptUpAIdeal.nD Cert.KernelOptUpAIdeal.τ).loc Cert.KernelOptUpAIdeal.main_arg1) = m ((c.tc : Thread Cert.KernelOptUpAIdeal.nD Cert.KernelOptUpAIdeal.τ).loc Cert.KernelOptUpAIdeal.main_arg1)
      ∧ r.2.mem ((c.tc : Thread Cert.KernelOptUpAIdeal.nD Cert.KernelOptUpAIdeal.τ).loc Cert.KernelOptUpAIdeal.main_arg2) = m ((c.tc : Thread Cert.KernelOptUpAIdeal.nD Cert.KernelOptUpAIdeal.τ).loc Cert.KernelOptUpAIdeal.main_arg2)
      ∧ r.2.mem ((c.tc : Thread Cert.KernelOptUpAIdeal.nD Cert.KernelOptUpAIdeal.τ).loc Cert.KernelOptUpAIdeal.main_arg3) = m ((c.tc : Thread Cert.KernelOptUpAIdeal.nD Cert.KernelOptUpAIdeal.τ).loc Cert.KernelOptUpAIdeal.main_arg3)
      ∧ r.2.mem ((c.tc : Thread Cert.KernelOptUpAIdeal.nD Cert.KernelOptUpAIdeal.τ).loc Cert.KernelOptUpAIdeal.main_arg4) = m ((c.tc : Thread Cert.KernelOptUpAIdeal.nD Cert.KernelOptUpAIdeal.τ).loc Cert.KernelOptUpAIdeal.main_arg4)
      ∧ r.2.mem ((c.tc : Thread Cert.KernelOptUpAIdeal.nD Cert.KernelOptUpAIdeal.τ).loc Cert.KernelOptUpAIdeal.main_arg5) = m ((c.tc : Thread Cert.KernelOptUpAIdeal.nD Cert.KernelOptUpAIdeal.τ).loc Cert.KernelOptUpAIdeal.main_arg5)
      ∧ r.2.mem ((c.tc : Thread Cert.KernelOptUpAIdeal.nD Cert.KernelOptUpAIdeal.τ).loc Cert.KernelOptUpAIdeal.main_arg6) = m ((c.tc : Thread Cert.KernelOptUpAIdeal.nD Cert.KernelOptUpAIdeal.τ).loc Cert.KernelOptUpAIdeal.main_arg6)
      ∧ r.2.mem ((c.tc : Thread Cert.KernelOptUpAIdeal.nD Cert.KernelOptUpAIdeal.τ).loc Cert.KernelOptUpAIdeal.main_arg7) = m ((c.tc : Thread Cert.KernelOptUpAIdeal.nD Cert.KernelOptUpAIdeal.τ).loc Cert.KernelOptUpAIdeal.main_arg7))
      ∧ r.2.sem = fun _ => 0)

def quiescent_ReferenceOptUpAIdeal [hReferenceOptUpAIdeal : Cert.ReferenceOptUpAIdeal.Facts] : Prop :=
  ∀ (m : (ℓ : Loc Cert.ReferenceOptUpAIdeal.nD Cert.ReferenceOptUpAIdeal.τ Cert.ReferenceOptUpAIdeal.sig) → Buf (Elt Ideal) ℓ) (g : Dev Cert.ReferenceOptUpAIdeal.nD → PrngReg), Pre_ReferenceOptUpAIdeal m →
    θ_run (Cert.ReferenceOptUpAIdeal.defs (F := Ideal)) (onTc (τ := Cert.ReferenceOptUpAIdeal.τ) (Cert.ReferenceOptUpAIdeal.main (F := Ideal))) ⟨m, fun _ => 0, g⟩ (fun r => (∀ c : Dev Cert.ReferenceOptUpAIdeal.nD,
      r.2.mem ((c.tc : Thread Cert.ReferenceOptUpAIdeal.nD Cert.ReferenceOptUpAIdeal.τ).loc Cert.ReferenceOptUpAIdeal.main_arg0) = m ((c.tc : Thread Cert.ReferenceOptUpAIdeal.nD Cert.ReferenceOptUpAIdeal.τ).loc Cert.ReferenceOptUpAIdeal.main_arg0)
      ∧ r.2.mem ((c.tc : Thread Cert.ReferenceOptUpAIdeal.nD Cert.ReferenceOptUpAIdeal.τ).loc Cert.ReferenceOptUpAIdeal.main_arg1) = m ((c.tc : Thread Cert.ReferenceOptUpAIdeal.nD Cert.ReferenceOptUpAIdeal.τ).loc Cert.ReferenceOptUpAIdeal.main_arg1)
      ∧ r.2.mem ((c.tc : Thread Cert.ReferenceOptUpAIdeal.nD Cert.ReferenceOptUpAIdeal.τ).loc Cert.ReferenceOptUpAIdeal.main_arg2) = m ((c.tc : Thread Cert.ReferenceOptUpAIdeal.nD Cert.ReferenceOptUpAIdeal.τ).loc Cert.ReferenceOptUpAIdeal.main_arg2)
      ∧ r.2.mem ((c.tc : Thread Cert.ReferenceOptUpAIdeal.nD Cert.ReferenceOptUpAIdeal.τ).loc Cert.ReferenceOptUpAIdeal.main_arg3) = m ((c.tc : Thread Cert.ReferenceOptUpAIdeal.nD Cert.ReferenceOptUpAIdeal.τ).loc Cert.ReferenceOptUpAIdeal.main_arg3)
      ∧ r.2.mem ((c.tc : Thread Cert.ReferenceOptUpAIdeal.nD Cert.ReferenceOptUpAIdeal.τ).loc Cert.ReferenceOptUpAIdeal.main_arg4) = m ((c.tc : Thread Cert.ReferenceOptUpAIdeal.nD Cert.ReferenceOptUpAIdeal.τ).loc Cert.ReferenceOptUpAIdeal.main_arg4)
      ∧ r.2.mem ((c.tc : Thread Cert.ReferenceOptUpAIdeal.nD Cert.ReferenceOptUpAIdeal.τ).loc Cert.ReferenceOptUpAIdeal.main_arg5) = m ((c.tc : Thread Cert.ReferenceOptUpAIdeal.nD Cert.ReferenceOptUpAIdeal.τ).loc Cert.ReferenceOptUpAIdeal.main_arg5)
      ∧ r.2.mem ((c.tc : Thread Cert.ReferenceOptUpAIdeal.nD Cert.ReferenceOptUpAIdeal.τ).loc Cert.ReferenceOptUpAIdeal.main_arg6) = m ((c.tc : Thread Cert.ReferenceOptUpAIdeal.nD Cert.ReferenceOptUpAIdeal.τ).loc Cert.ReferenceOptUpAIdeal.main_arg6)
      ∧ r.2.mem ((c.tc : Thread Cert.ReferenceOptUpAIdeal.nD Cert.ReferenceOptUpAIdeal.τ).loc Cert.ReferenceOptUpAIdeal.main_arg7) = m ((c.tc : Thread Cert.ReferenceOptUpAIdeal.nD Cert.ReferenceOptUpAIdeal.τ).loc Cert.ReferenceOptUpAIdeal.main_arg7))
      ∧ r.2.sem = fun _ => 0)

def quiescent_KernelOptDownB [hKernelOptDownB : Cert.KernelOptDownB.Facts] : Prop :=
  ∀ (m : (ℓ : Loc Cert.KernelOptDownB.nD Cert.KernelOptDownB.τ Cert.KernelOptDownB.sig) → Buf (Elt Bits) ℓ) (g : Dev Cert.KernelOptDownB.nD → PrngReg), Pre_KernelOptDownB m →
    θ_run (Cert.KernelOptDownB.defs (F := Bits)) (onTc (τ := Cert.KernelOptDownB.τ) (Cert.KernelOptDownB.main (F := Bits))) ⟨m, fun _ => 0, g⟩ (fun r => (∀ c : Dev Cert.KernelOptDownB.nD,
      r.2.mem ((c.tc : Thread Cert.KernelOptDownB.nD Cert.KernelOptDownB.τ).loc Cert.KernelOptDownB.main_arg0) = m ((c.tc : Thread Cert.KernelOptDownB.nD Cert.KernelOptDownB.τ).loc Cert.KernelOptDownB.main_arg0)
      ∧ r.2.mem ((c.tc : Thread Cert.KernelOptDownB.nD Cert.KernelOptDownB.τ).loc Cert.KernelOptDownB.main_arg1) = m ((c.tc : Thread Cert.KernelOptDownB.nD Cert.KernelOptDownB.τ).loc Cert.KernelOptDownB.main_arg1)
      ∧ r.2.mem ((c.tc : Thread Cert.KernelOptDownB.nD Cert.KernelOptDownB.τ).loc Cert.KernelOptDownB.main_arg2) = m ((c.tc : Thread Cert.KernelOptDownB.nD Cert.KernelOptDownB.τ).loc Cert.KernelOptDownB.main_arg2)
      ∧ r.2.mem ((c.tc : Thread Cert.KernelOptDownB.nD Cert.KernelOptDownB.τ).loc Cert.KernelOptDownB.main_arg3) = m ((c.tc : Thread Cert.KernelOptDownB.nD Cert.KernelOptDownB.τ).loc Cert.KernelOptDownB.main_arg3))
      ∧ r.2.sem = fun _ => 0)

def quiescent_KernelOptDownBIdeal [hKernelOptDownBIdeal : Cert.KernelOptDownBIdeal.Facts] : Prop :=
  ∀ (m : (ℓ : Loc Cert.KernelOptDownBIdeal.nD Cert.KernelOptDownBIdeal.τ Cert.KernelOptDownBIdeal.sig) → Buf (Elt Ideal) ℓ) (g : Dev Cert.KernelOptDownBIdeal.nD → PrngReg), Pre_KernelOptDownBIdeal m →
    θ_run (Cert.KernelOptDownBIdeal.defs (F := Ideal)) (onTc (τ := Cert.KernelOptDownBIdeal.τ) (Cert.KernelOptDownBIdeal.main (F := Ideal))) ⟨m, fun _ => 0, g⟩ (fun r => (∀ c : Dev Cert.KernelOptDownBIdeal.nD,
      r.2.mem ((c.tc : Thread Cert.KernelOptDownBIdeal.nD Cert.KernelOptDownBIdeal.τ).loc Cert.KernelOptDownBIdeal.main_arg0) = m ((c.tc : Thread Cert.KernelOptDownBIdeal.nD Cert.KernelOptDownBIdeal.τ).loc Cert.KernelOptDownBIdeal.main_arg0)
      ∧ r.2.mem ((c.tc : Thread Cert.KernelOptDownBIdeal.nD Cert.KernelOptDownBIdeal.τ).loc Cert.KernelOptDownBIdeal.main_arg1) = m ((c.tc : Thread Cert.KernelOptDownBIdeal.nD Cert.KernelOptDownBIdeal.τ).loc Cert.KernelOptDownBIdeal.main_arg1)
      ∧ r.2.mem ((c.tc : Thread Cert.KernelOptDownBIdeal.nD Cert.KernelOptDownBIdeal.τ).loc Cert.KernelOptDownBIdeal.main_arg2) = m ((c.tc : Thread Cert.KernelOptDownBIdeal.nD Cert.KernelOptDownBIdeal.τ).loc Cert.KernelOptDownBIdeal.main_arg2)
      ∧ r.2.mem ((c.tc : Thread Cert.KernelOptDownBIdeal.nD Cert.KernelOptDownBIdeal.τ).loc Cert.KernelOptDownBIdeal.main_arg3) = m ((c.tc : Thread Cert.KernelOptDownBIdeal.nD Cert.KernelOptDownBIdeal.τ).loc Cert.KernelOptDownBIdeal.main_arg3))
      ∧ r.2.sem = fun _ => 0)

def quiescent_ReferenceOptDownBIdeal [hReferenceOptDownBIdeal : Cert.ReferenceOptDownBIdeal.Facts] : Prop :=
  ∀ (m : (ℓ : Loc Cert.ReferenceOptDownBIdeal.nD Cert.ReferenceOptDownBIdeal.τ Cert.ReferenceOptDownBIdeal.sig) → Buf (Elt Ideal) ℓ) (g : Dev Cert.ReferenceOptDownBIdeal.nD → PrngReg), Pre_ReferenceOptDownBIdeal m →
    θ_run (Cert.ReferenceOptDownBIdeal.defs (F := Ideal)) (onTc (τ := Cert.ReferenceOptDownBIdeal.τ) (Cert.ReferenceOptDownBIdeal.main (F := Ideal))) ⟨m, fun _ => 0, g⟩ (fun r => (∀ c : Dev Cert.ReferenceOptDownBIdeal.nD,
      r.2.mem ((c.tc : Thread Cert.ReferenceOptDownBIdeal.nD Cert.ReferenceOptDownBIdeal.τ).loc Cert.ReferenceOptDownBIdeal.main_arg0) = m ((c.tc : Thread Cert.ReferenceOptDownBIdeal.nD Cert.ReferenceOptDownBIdeal.τ).loc Cert.ReferenceOptDownBIdeal.main_arg0)
      ∧ r.2.mem ((c.tc : Thread Cert.ReferenceOptDownBIdeal.nD Cert.ReferenceOptDownBIdeal.τ).loc Cert.ReferenceOptDownBIdeal.main_arg1) = m ((c.tc : Thread Cert.ReferenceOptDownBIdeal.nD Cert.ReferenceOptDownBIdeal.τ).loc Cert.ReferenceOptDownBIdeal.main_arg1)
      ∧ r.2.mem ((c.tc : Thread Cert.ReferenceOptDownBIdeal.nD Cert.ReferenceOptDownBIdeal.τ).loc Cert.ReferenceOptDownBIdeal.main_arg2) = m ((c.tc : Thread Cert.ReferenceOptDownBIdeal.nD Cert.ReferenceOptDownBIdeal.τ).loc Cert.ReferenceOptDownBIdeal.main_arg2)
      ∧ r.2.mem ((c.tc : Thread Cert.ReferenceOptDownBIdeal.nD Cert.ReferenceOptDownBIdeal.τ).loc Cert.ReferenceOptDownBIdeal.main_arg3) = m ((c.tc : Thread Cert.ReferenceOptDownBIdeal.nD Cert.ReferenceOptDownBIdeal.τ).loc Cert.ReferenceOptDownBIdeal.main_arg3))
      ∧ r.2.sem = fun _ => 0)

def quiescent_KernelOptDownA [hKernelOptDownA : Cert.KernelOptDownA.Facts] : Prop :=
  ∀ (m : (ℓ : Loc Cert.KernelOptDownA.nD Cert.KernelOptDownA.τ Cert.KernelOptDownA.sig) → Buf (Elt Bits) ℓ) (g : Dev Cert.KernelOptDownA.nD → PrngReg), Pre_KernelOptDownA m →
    θ_run (Cert.KernelOptDownA.defs (F := Bits)) (onTc (τ := Cert.KernelOptDownA.τ) (Cert.KernelOptDownA.main (F := Bits))) ⟨m, fun _ => 0, g⟩ (fun r => (∀ c : Dev Cert.KernelOptDownA.nD,
      r.2.mem ((c.tc : Thread Cert.KernelOptDownA.nD Cert.KernelOptDownA.τ).loc Cert.KernelOptDownA.main_arg0) = m ((c.tc : Thread Cert.KernelOptDownA.nD Cert.KernelOptDownA.τ).loc Cert.KernelOptDownA.main_arg0)
      ∧ r.2.mem ((c.tc : Thread Cert.KernelOptDownA.nD Cert.KernelOptDownA.τ).loc Cert.KernelOptDownA.main_arg1) = m ((c.tc : Thread Cert.KernelOptDownA.nD Cert.KernelOptDownA.τ).loc Cert.KernelOptDownA.main_arg1)
      ∧ r.2.mem ((c.tc : Thread Cert.KernelOptDownA.nD Cert.KernelOptDownA.τ).loc Cert.KernelOptDownA.main_arg2) = m ((c.tc : Thread Cert.KernelOptDownA.nD Cert.KernelOptDownA.τ).loc Cert.KernelOptDownA.main_arg2)
      ∧ r.2.mem ((c.tc : Thread Cert.KernelOptDownA.nD Cert.KernelOptDownA.τ).loc Cert.KernelOptDownA.main_arg3) = m ((c.tc : Thread Cert.KernelOptDownA.nD Cert.KernelOptDownA.τ).loc Cert.KernelOptDownA.main_arg3)
      ∧ r.2.mem ((c.tc : Thread Cert.KernelOptDownA.nD Cert.KernelOptDownA.τ).loc Cert.KernelOptDownA.main_arg4) = m ((c.tc : Thread Cert.KernelOptDownA.nD Cert.KernelOptDownA.τ).loc Cert.KernelOptDownA.main_arg4)
      ∧ r.2.mem ((c.tc : Thread Cert.KernelOptDownA.nD Cert.KernelOptDownA.τ).loc Cert.KernelOptDownA.main_arg5) = m ((c.tc : Thread Cert.KernelOptDownA.nD Cert.KernelOptDownA.τ).loc Cert.KernelOptDownA.main_arg5)
      ∧ r.2.mem ((c.tc : Thread Cert.KernelOptDownA.nD Cert.KernelOptDownA.τ).loc Cert.KernelOptDownA.main_arg6) = m ((c.tc : Thread Cert.KernelOptDownA.nD Cert.KernelOptDownA.τ).loc Cert.KernelOptDownA.main_arg6)
      ∧ r.2.mem ((c.tc : Thread Cert.KernelOptDownA.nD Cert.KernelOptDownA.τ).loc Cert.KernelOptDownA.main_arg7) = m ((c.tc : Thread Cert.KernelOptDownA.nD Cert.KernelOptDownA.τ).loc Cert.KernelOptDownA.main_arg7))
      ∧ r.2.sem = fun _ => 0)

def quiescent_KernelOptDownAIdeal [hKernelOptDownAIdeal : Cert.KernelOptDownAIdeal.Facts] : Prop :=
  ∀ (m : (ℓ : Loc Cert.KernelOptDownAIdeal.nD Cert.KernelOptDownAIdeal.τ Cert.KernelOptDownAIdeal.sig) → Buf (Elt Ideal) ℓ) (g : Dev Cert.KernelOptDownAIdeal.nD → PrngReg), Pre_KernelOptDownAIdeal m →
    θ_run (Cert.KernelOptDownAIdeal.defs (F := Ideal)) (onTc (τ := Cert.KernelOptDownAIdeal.τ) (Cert.KernelOptDownAIdeal.main (F := Ideal))) ⟨m, fun _ => 0, g⟩ (fun r => (∀ c : Dev Cert.KernelOptDownAIdeal.nD,
      r.2.mem ((c.tc : Thread Cert.KernelOptDownAIdeal.nD Cert.KernelOptDownAIdeal.τ).loc Cert.KernelOptDownAIdeal.main_arg0) = m ((c.tc : Thread Cert.KernelOptDownAIdeal.nD Cert.KernelOptDownAIdeal.τ).loc Cert.KernelOptDownAIdeal.main_arg0)
      ∧ r.2.mem ((c.tc : Thread Cert.KernelOptDownAIdeal.nD Cert.KernelOptDownAIdeal.τ).loc Cert.KernelOptDownAIdeal.main_arg1) = m ((c.tc : Thread Cert.KernelOptDownAIdeal.nD Cert.KernelOptDownAIdeal.τ).loc Cert.KernelOptDownAIdeal.main_arg1)
      ∧ r.2.mem ((c.tc : Thread Cert.KernelOptDownAIdeal.nD Cert.KernelOptDownAIdeal.τ).loc Cert.KernelOptDownAIdeal.main_arg2) = m ((c.tc : Thread Cert.KernelOptDownAIdeal.nD Cert.KernelOptDownAIdeal.τ).loc Cert.KernelOptDownAIdeal.main_arg2)
      ∧ r.2.mem ((c.tc : Thread Cert.KernelOptDownAIdeal.nD Cert.KernelOptDownAIdeal.τ).loc Cert.KernelOptDownAIdeal.main_arg3) = m ((c.tc : Thread Cert.KernelOptDownAIdeal.nD Cert.KernelOptDownAIdeal.τ).loc Cert.KernelOptDownAIdeal.main_arg3)
      ∧ r.2.mem ((c.tc : Thread Cert.KernelOptDownAIdeal.nD Cert.KernelOptDownAIdeal.τ).loc Cert.KernelOptDownAIdeal.main_arg4) = m ((c.tc : Thread Cert.KernelOptDownAIdeal.nD Cert.KernelOptDownAIdeal.τ).loc Cert.KernelOptDownAIdeal.main_arg4)
      ∧ r.2.mem ((c.tc : Thread Cert.KernelOptDownAIdeal.nD Cert.KernelOptDownAIdeal.τ).loc Cert.KernelOptDownAIdeal.main_arg5) = m ((c.tc : Thread Cert.KernelOptDownAIdeal.nD Cert.KernelOptDownAIdeal.τ).loc Cert.KernelOptDownAIdeal.main_arg5)
      ∧ r.2.mem ((c.tc : Thread Cert.KernelOptDownAIdeal.nD Cert.KernelOptDownAIdeal.τ).loc Cert.KernelOptDownAIdeal.main_arg6) = m ((c.tc : Thread Cert.KernelOptDownAIdeal.nD Cert.KernelOptDownAIdeal.τ).loc Cert.KernelOptDownAIdeal.main_arg6)
      ∧ r.2.mem ((c.tc : Thread Cert.KernelOptDownAIdeal.nD Cert.KernelOptDownAIdeal.τ).loc Cert.KernelOptDownAIdeal.main_arg7) = m ((c.tc : Thread Cert.KernelOptDownAIdeal.nD Cert.KernelOptDownAIdeal.τ).loc Cert.KernelOptDownAIdeal.main_arg7))
      ∧ r.2.sem = fun _ => 0)

def quiescent_ReferenceOptDownAIdeal [hReferenceOptDownAIdeal : Cert.ReferenceOptDownAIdeal.Facts] : Prop :=
  ∀ (m : (ℓ : Loc Cert.ReferenceOptDownAIdeal.nD Cert.ReferenceOptDownAIdeal.τ Cert.ReferenceOptDownAIdeal.sig) → Buf (Elt Ideal) ℓ) (g : Dev Cert.ReferenceOptDownAIdeal.nD → PrngReg), Pre_ReferenceOptDownAIdeal m →
    θ_run (Cert.ReferenceOptDownAIdeal.defs (F := Ideal)) (onTc (τ := Cert.ReferenceOptDownAIdeal.τ) (Cert.ReferenceOptDownAIdeal.main (F := Ideal))) ⟨m, fun _ => 0, g⟩ (fun r => (∀ c : Dev Cert.ReferenceOptDownAIdeal.nD,
      r.2.mem ((c.tc : Thread Cert.ReferenceOptDownAIdeal.nD Cert.ReferenceOptDownAIdeal.τ).loc Cert.ReferenceOptDownAIdeal.main_arg0) = m ((c.tc : Thread Cert.ReferenceOptDownAIdeal.nD Cert.ReferenceOptDownAIdeal.τ).loc Cert.ReferenceOptDownAIdeal.main_arg0)
      ∧ r.2.mem ((c.tc : Thread Cert.ReferenceOptDownAIdeal.nD Cert.ReferenceOptDownAIdeal.τ).loc Cert.ReferenceOptDownAIdeal.main_arg1) = m ((c.tc : Thread Cert.ReferenceOptDownAIdeal.nD Cert.ReferenceOptDownAIdeal.τ).loc Cert.ReferenceOptDownAIdeal.main_arg1)
      ∧ r.2.mem ((c.tc : Thread Cert.ReferenceOptDownAIdeal.nD Cert.ReferenceOptDownAIdeal.τ).loc Cert.ReferenceOptDownAIdeal.main_arg2) = m ((c.tc : Thread Cert.ReferenceOptDownAIdeal.nD Cert.ReferenceOptDownAIdeal.τ).loc Cert.ReferenceOptDownAIdeal.main_arg2)
      ∧ r.2.mem ((c.tc : Thread Cert.ReferenceOptDownAIdeal.nD Cert.ReferenceOptDownAIdeal.τ).loc Cert.ReferenceOptDownAIdeal.main_arg3) = m ((c.tc : Thread Cert.ReferenceOptDownAIdeal.nD Cert.ReferenceOptDownAIdeal.τ).loc Cert.ReferenceOptDownAIdeal.main_arg3)
      ∧ r.2.mem ((c.tc : Thread Cert.ReferenceOptDownAIdeal.nD Cert.ReferenceOptDownAIdeal.τ).loc Cert.ReferenceOptDownAIdeal.main_arg4) = m ((c.tc : Thread Cert.ReferenceOptDownAIdeal.nD Cert.ReferenceOptDownAIdeal.τ).loc Cert.ReferenceOptDownAIdeal.main_arg4)
      ∧ r.2.mem ((c.tc : Thread Cert.ReferenceOptDownAIdeal.nD Cert.ReferenceOptDownAIdeal.τ).loc Cert.ReferenceOptDownAIdeal.main_arg5) = m ((c.tc : Thread Cert.ReferenceOptDownAIdeal.nD Cert.ReferenceOptDownAIdeal.τ).loc Cert.ReferenceOptDownAIdeal.main_arg5)
      ∧ r.2.mem ((c.tc : Thread Cert.ReferenceOptDownAIdeal.nD Cert.ReferenceOptDownAIdeal.τ).loc Cert.ReferenceOptDownAIdeal.main_arg6) = m ((c.tc : Thread Cert.ReferenceOptDownAIdeal.nD Cert.ReferenceOptDownAIdeal.τ).loc Cert.ReferenceOptDownAIdeal.main_arg6)
      ∧ r.2.mem ((c.tc : Thread Cert.ReferenceOptDownAIdeal.nD Cert.ReferenceOptDownAIdeal.τ).loc Cert.ReferenceOptDownAIdeal.main_arg7) = m ((c.tc : Thread Cert.ReferenceOptDownAIdeal.nD Cert.ReferenceOptDownAIdeal.τ).loc Cert.ReferenceOptDownAIdeal.main_arg7))
      ∧ r.2.sem = fun _ => 0)

def quiescent_KernelOptInB [hKernelOptInB : Cert.KernelOptInB.Facts] : Prop :=
  ∀ (m : (ℓ : Loc Cert.KernelOptInB.nD Cert.KernelOptInB.τ Cert.KernelOptInB.sig) → Buf (Elt Bits) ℓ) (g : Dev Cert.KernelOptInB.nD → PrngReg), Pre_KernelOptInB m →
    θ_run (Cert.KernelOptInB.defs (F := Bits)) (onTc (τ := Cert.KernelOptInB.τ) (Cert.KernelOptInB.main (F := Bits))) ⟨m, fun _ => 0, g⟩ (fun r => (∀ c : Dev Cert.KernelOptInB.nD,
      r.2.mem ((c.tc : Thread Cert.KernelOptInB.nD Cert.KernelOptInB.τ).loc Cert.KernelOptInB.main_arg0) = m ((c.tc : Thread Cert.KernelOptInB.nD Cert.KernelOptInB.τ).loc Cert.KernelOptInB.main_arg0)
      ∧ r.2.mem ((c.tc : Thread Cert.KernelOptInB.nD Cert.KernelOptInB.τ).loc Cert.KernelOptInB.main_arg1) = m ((c.tc : Thread Cert.KernelOptInB.nD Cert.KernelOptInB.τ).loc Cert.KernelOptInB.main_arg1)
      ∧ r.2.mem ((c.tc : Thread Cert.KernelOptInB.nD Cert.KernelOptInB.τ).loc Cert.KernelOptInB.main_arg2) = m ((c.tc : Thread Cert.KernelOptInB.nD Cert.KernelOptInB.τ).loc Cert.KernelOptInB.main_arg2)
      ∧ r.2.mem ((c.tc : Thread Cert.KernelOptInB.nD Cert.KernelOptInB.τ).loc Cert.KernelOptInB.main_arg3) = m ((c.tc : Thread Cert.KernelOptInB.nD Cert.KernelOptInB.τ).loc Cert.KernelOptInB.main_arg3))
      ∧ r.2.sem = fun _ => 0)

def quiescent_KernelOptInBIdeal [hKernelOptInBIdeal : Cert.KernelOptInBIdeal.Facts] : Prop :=
  ∀ (m : (ℓ : Loc Cert.KernelOptInBIdeal.nD Cert.KernelOptInBIdeal.τ Cert.KernelOptInBIdeal.sig) → Buf (Elt Ideal) ℓ) (g : Dev Cert.KernelOptInBIdeal.nD → PrngReg), Pre_KernelOptInBIdeal m →
    θ_run (Cert.KernelOptInBIdeal.defs (F := Ideal)) (onTc (τ := Cert.KernelOptInBIdeal.τ) (Cert.KernelOptInBIdeal.main (F := Ideal))) ⟨m, fun _ => 0, g⟩ (fun r => (∀ c : Dev Cert.KernelOptInBIdeal.nD,
      r.2.mem ((c.tc : Thread Cert.KernelOptInBIdeal.nD Cert.KernelOptInBIdeal.τ).loc Cert.KernelOptInBIdeal.main_arg0) = m ((c.tc : Thread Cert.KernelOptInBIdeal.nD Cert.KernelOptInBIdeal.τ).loc Cert.KernelOptInBIdeal.main_arg0)
      ∧ r.2.mem ((c.tc : Thread Cert.KernelOptInBIdeal.nD Cert.KernelOptInBIdeal.τ).loc Cert.KernelOptInBIdeal.main_arg1) = m ((c.tc : Thread Cert.KernelOptInBIdeal.nD Cert.KernelOptInBIdeal.τ).loc Cert.KernelOptInBIdeal.main_arg1)
      ∧ r.2.mem ((c.tc : Thread Cert.KernelOptInBIdeal.nD Cert.KernelOptInBIdeal.τ).loc Cert.KernelOptInBIdeal.main_arg2) = m ((c.tc : Thread Cert.KernelOptInBIdeal.nD Cert.KernelOptInBIdeal.τ).loc Cert.KernelOptInBIdeal.main_arg2)
      ∧ r.2.mem ((c.tc : Thread Cert.KernelOptInBIdeal.nD Cert.KernelOptInBIdeal.τ).loc Cert.KernelOptInBIdeal.main_arg3) = m ((c.tc : Thread Cert.KernelOptInBIdeal.nD Cert.KernelOptInBIdeal.τ).loc Cert.KernelOptInBIdeal.main_arg3))
      ∧ r.2.sem = fun _ => 0)

def quiescent_ReferenceOptInBIdeal [hReferenceOptInBIdeal : Cert.ReferenceOptInBIdeal.Facts] : Prop :=
  ∀ (m : (ℓ : Loc Cert.ReferenceOptInBIdeal.nD Cert.ReferenceOptInBIdeal.τ Cert.ReferenceOptInBIdeal.sig) → Buf (Elt Ideal) ℓ) (g : Dev Cert.ReferenceOptInBIdeal.nD → PrngReg), Pre_ReferenceOptInBIdeal m →
    θ_run (Cert.ReferenceOptInBIdeal.defs (F := Ideal)) (onTc (τ := Cert.ReferenceOptInBIdeal.τ) (Cert.ReferenceOptInBIdeal.main (F := Ideal))) ⟨m, fun _ => 0, g⟩ (fun r => (∀ c : Dev Cert.ReferenceOptInBIdeal.nD,
      r.2.mem ((c.tc : Thread Cert.ReferenceOptInBIdeal.nD Cert.ReferenceOptInBIdeal.τ).loc Cert.ReferenceOptInBIdeal.main_arg0) = m ((c.tc : Thread Cert.ReferenceOptInBIdeal.nD Cert.ReferenceOptInBIdeal.τ).loc Cert.ReferenceOptInBIdeal.main_arg0)
      ∧ r.2.mem ((c.tc : Thread Cert.ReferenceOptInBIdeal.nD Cert.ReferenceOptInBIdeal.τ).loc Cert.ReferenceOptInBIdeal.main_arg1) = m ((c.tc : Thread Cert.ReferenceOptInBIdeal.nD Cert.ReferenceOptInBIdeal.τ).loc Cert.ReferenceOptInBIdeal.main_arg1)
      ∧ r.2.mem ((c.tc : Thread Cert.ReferenceOptInBIdeal.nD Cert.ReferenceOptInBIdeal.τ).loc Cert.ReferenceOptInBIdeal.main_arg2) = m ((c.tc : Thread Cert.ReferenceOptInBIdeal.nD Cert.ReferenceOptInBIdeal.τ).loc Cert.ReferenceOptInBIdeal.main_arg2)
      ∧ r.2.mem ((c.tc : Thread Cert.ReferenceOptInBIdeal.nD Cert.ReferenceOptInBIdeal.τ).loc Cert.ReferenceOptInBIdeal.main_arg3) = m ((c.tc : Thread Cert.ReferenceOptInBIdeal.nD Cert.ReferenceOptInBIdeal.τ).loc Cert.ReferenceOptInBIdeal.main_arg3))
      ∧ r.2.sem = fun _ => 0)

def quiescent_KernelOptInA [hKernelOptInA : Cert.KernelOptInA.Facts] : Prop :=
  ∀ (m : (ℓ : Loc Cert.KernelOptInA.nD Cert.KernelOptInA.τ Cert.KernelOptInA.sig) → Buf (Elt Bits) ℓ) (g : Dev Cert.KernelOptInA.nD → PrngReg), Pre_KernelOptInA m →
    θ_run (Cert.KernelOptInA.defs (F := Bits)) (onTc (τ := Cert.KernelOptInA.τ) (Cert.KernelOptInA.main (F := Bits))) ⟨m, fun _ => 0, g⟩ (fun r => (∀ c : Dev Cert.KernelOptInA.nD,
      r.2.mem ((c.tc : Thread Cert.KernelOptInA.nD Cert.KernelOptInA.τ).loc Cert.KernelOptInA.main_arg0) = m ((c.tc : Thread Cert.KernelOptInA.nD Cert.KernelOptInA.τ).loc Cert.KernelOptInA.main_arg0)
      ∧ r.2.mem ((c.tc : Thread Cert.KernelOptInA.nD Cert.KernelOptInA.τ).loc Cert.KernelOptInA.main_arg1) = m ((c.tc : Thread Cert.KernelOptInA.nD Cert.KernelOptInA.τ).loc Cert.KernelOptInA.main_arg1)
      ∧ r.2.mem ((c.tc : Thread Cert.KernelOptInA.nD Cert.KernelOptInA.τ).loc Cert.KernelOptInA.main_arg2) = m ((c.tc : Thread Cert.KernelOptInA.nD Cert.KernelOptInA.τ).loc Cert.KernelOptInA.main_arg2)
      ∧ r.2.mem ((c.tc : Thread Cert.KernelOptInA.nD Cert.KernelOptInA.τ).loc Cert.KernelOptInA.main_arg3) = m ((c.tc : Thread Cert.KernelOptInA.nD Cert.KernelOptInA.τ).loc Cert.KernelOptInA.main_arg3)
      ∧ r.2.mem ((c.tc : Thread Cert.KernelOptInA.nD Cert.KernelOptInA.τ).loc Cert.KernelOptInA.main_arg4) = m ((c.tc : Thread Cert.KernelOptInA.nD Cert.KernelOptInA.τ).loc Cert.KernelOptInA.main_arg4)
      ∧ r.2.mem ((c.tc : Thread Cert.KernelOptInA.nD Cert.KernelOptInA.τ).loc Cert.KernelOptInA.main_arg5) = m ((c.tc : Thread Cert.KernelOptInA.nD Cert.KernelOptInA.τ).loc Cert.KernelOptInA.main_arg5)
      ∧ r.2.mem ((c.tc : Thread Cert.KernelOptInA.nD Cert.KernelOptInA.τ).loc Cert.KernelOptInA.main_arg6) = m ((c.tc : Thread Cert.KernelOptInA.nD Cert.KernelOptInA.τ).loc Cert.KernelOptInA.main_arg6)
      ∧ r.2.mem ((c.tc : Thread Cert.KernelOptInA.nD Cert.KernelOptInA.τ).loc Cert.KernelOptInA.main_arg7) = m ((c.tc : Thread Cert.KernelOptInA.nD Cert.KernelOptInA.τ).loc Cert.KernelOptInA.main_arg7))
      ∧ r.2.sem = fun _ => 0)

def quiescent_KernelOptInAIdeal [hKernelOptInAIdeal : Cert.KernelOptInAIdeal.Facts] : Prop :=
  ∀ (m : (ℓ : Loc Cert.KernelOptInAIdeal.nD Cert.KernelOptInAIdeal.τ Cert.KernelOptInAIdeal.sig) → Buf (Elt Ideal) ℓ) (g : Dev Cert.KernelOptInAIdeal.nD → PrngReg), Pre_KernelOptInAIdeal m →
    θ_run (Cert.KernelOptInAIdeal.defs (F := Ideal)) (onTc (τ := Cert.KernelOptInAIdeal.τ) (Cert.KernelOptInAIdeal.main (F := Ideal))) ⟨m, fun _ => 0, g⟩ (fun r => (∀ c : Dev Cert.KernelOptInAIdeal.nD,
      r.2.mem ((c.tc : Thread Cert.KernelOptInAIdeal.nD Cert.KernelOptInAIdeal.τ).loc Cert.KernelOptInAIdeal.main_arg0) = m ((c.tc : Thread Cert.KernelOptInAIdeal.nD Cert.KernelOptInAIdeal.τ).loc Cert.KernelOptInAIdeal.main_arg0)
      ∧ r.2.mem ((c.tc : Thread Cert.KernelOptInAIdeal.nD Cert.KernelOptInAIdeal.τ).loc Cert.KernelOptInAIdeal.main_arg1) = m ((c.tc : Thread Cert.KernelOptInAIdeal.nD Cert.KernelOptInAIdeal.τ).loc Cert.KernelOptInAIdeal.main_arg1)
      ∧ r.2.mem ((c.tc : Thread Cert.KernelOptInAIdeal.nD Cert.KernelOptInAIdeal.τ).loc Cert.KernelOptInAIdeal.main_arg2) = m ((c.tc : Thread Cert.KernelOptInAIdeal.nD Cert.KernelOptInAIdeal.τ).loc Cert.KernelOptInAIdeal.main_arg2)
      ∧ r.2.mem ((c.tc : Thread Cert.KernelOptInAIdeal.nD Cert.KernelOptInAIdeal.τ).loc Cert.KernelOptInAIdeal.main_arg3) = m ((c.tc : Thread Cert.KernelOptInAIdeal.nD Cert.KernelOptInAIdeal.τ).loc Cert.KernelOptInAIdeal.main_arg3)
      ∧ r.2.mem ((c.tc : Thread Cert.KernelOptInAIdeal.nD Cert.KernelOptInAIdeal.τ).loc Cert.KernelOptInAIdeal.main_arg4) = m ((c.tc : Thread Cert.KernelOptInAIdeal.nD Cert.KernelOptInAIdeal.τ).loc Cert.KernelOptInAIdeal.main_arg4)
      ∧ r.2.mem ((c.tc : Thread Cert.KernelOptInAIdeal.nD Cert.KernelOptInAIdeal.τ).loc Cert.KernelOptInAIdeal.main_arg5) = m ((c.tc : Thread Cert.KernelOptInAIdeal.nD Cert.KernelOptInAIdeal.τ).loc Cert.KernelOptInAIdeal.main_arg5)
      ∧ r.2.mem ((c.tc : Thread Cert.KernelOptInAIdeal.nD Cert.KernelOptInAIdeal.τ).loc Cert.KernelOptInAIdeal.main_arg6) = m ((c.tc : Thread Cert.KernelOptInAIdeal.nD Cert.KernelOptInAIdeal.τ).loc Cert.KernelOptInAIdeal.main_arg6)
      ∧ r.2.mem ((c.tc : Thread Cert.KernelOptInAIdeal.nD Cert.KernelOptInAIdeal.τ).loc Cert.KernelOptInAIdeal.main_arg7) = m ((c.tc : Thread Cert.KernelOptInAIdeal.nD Cert.KernelOptInAIdeal.τ).loc Cert.KernelOptInAIdeal.main_arg7))
      ∧ r.2.sem = fun _ => 0)

def quiescent_ReferenceOptInAIdeal [hReferenceOptInAIdeal : Cert.ReferenceOptInAIdeal.Facts] : Prop :=
  ∀ (m : (ℓ : Loc Cert.ReferenceOptInAIdeal.nD Cert.ReferenceOptInAIdeal.τ Cert.ReferenceOptInAIdeal.sig) → Buf (Elt Ideal) ℓ) (g : Dev Cert.ReferenceOptInAIdeal.nD → PrngReg), Pre_ReferenceOptInAIdeal m →
    θ_run (Cert.ReferenceOptInAIdeal.defs (F := Ideal)) (onTc (τ := Cert.ReferenceOptInAIdeal.τ) (Cert.ReferenceOptInAIdeal.main (F := Ideal))) ⟨m, fun _ => 0, g⟩ (fun r => (∀ c : Dev Cert.ReferenceOptInAIdeal.nD,
      r.2.mem ((c.tc : Thread Cert.ReferenceOptInAIdeal.nD Cert.ReferenceOptInAIdeal.τ).loc Cert.ReferenceOptInAIdeal.main_arg0) = m ((c.tc : Thread Cert.ReferenceOptInAIdeal.nD Cert.ReferenceOptInAIdeal.τ).loc Cert.ReferenceOptInAIdeal.main_arg0)
      ∧ r.2.mem ((c.tc : Thread Cert.ReferenceOptInAIdeal.nD Cert.ReferenceOptInAIdeal.τ).loc Cert.ReferenceOptInAIdeal.main_arg1) = m ((c.tc : Thread Cert.ReferenceOptInAIdeal.nD Cert.ReferenceOptInAIdeal.τ).loc Cert.ReferenceOptInAIdeal.main_arg1)
      ∧ r.2.mem ((c.tc : Thread Cert.ReferenceOptInAIdeal.nD Cert.ReferenceOptInAIdeal.τ).loc Cert.ReferenceOptInAIdeal.main_arg2) = m ((c.tc : Thread Cert.ReferenceOptInAIdeal.nD Cert.ReferenceOptInAIdeal.τ).loc Cert.ReferenceOptInAIdeal.main_arg2)
      ∧ r.2.mem ((c.tc : Thread Cert.ReferenceOptInAIdeal.nD Cert.ReferenceOptInAIdeal.τ).loc Cert.ReferenceOptInAIdeal.main_arg3) = m ((c.tc : Thread Cert.ReferenceOptInAIdeal.nD Cert.ReferenceOptInAIdeal.τ).loc Cert.ReferenceOptInAIdeal.main_arg3)
      ∧ r.2.mem ((c.tc : Thread Cert.ReferenceOptInAIdeal.nD Cert.ReferenceOptInAIdeal.τ).loc Cert.ReferenceOptInAIdeal.main_arg4) = m ((c.tc : Thread Cert.ReferenceOptInAIdeal.nD Cert.ReferenceOptInAIdeal.τ).loc Cert.ReferenceOptInAIdeal.main_arg4)
      ∧ r.2.mem ((c.tc : Thread Cert.ReferenceOptInAIdeal.nD Cert.ReferenceOptInAIdeal.τ).loc Cert.ReferenceOptInAIdeal.main_arg5) = m ((c.tc : Thread Cert.ReferenceOptInAIdeal.nD Cert.ReferenceOptInAIdeal.τ).loc Cert.ReferenceOptInAIdeal.main_arg5)
      ∧ r.2.mem ((c.tc : Thread Cert.ReferenceOptInAIdeal.nD Cert.ReferenceOptInAIdeal.τ).loc Cert.ReferenceOptInAIdeal.main_arg6) = m ((c.tc : Thread Cert.ReferenceOptInAIdeal.nD Cert.ReferenceOptInAIdeal.τ).loc Cert.ReferenceOptInAIdeal.main_arg6)
      ∧ r.2.mem ((c.tc : Thread Cert.ReferenceOptInAIdeal.nD Cert.ReferenceOptInAIdeal.τ).loc Cert.ReferenceOptInAIdeal.main_arg7) = m ((c.tc : Thread Cert.ReferenceOptInAIdeal.nD Cert.ReferenceOptInAIdeal.τ).loc Cert.ReferenceOptInAIdeal.main_arg7))
      ∧ r.2.sem = fun _ => 0)

def quiescent_KernelOptGluB [hKernelOptGluB : Cert.KernelOptGluB.Facts] : Prop :=
  ∀ (m : (ℓ : Loc Cert.KernelOptGluB.nD Cert.KernelOptGluB.τ Cert.KernelOptGluB.sig) → Buf (Elt Bits) ℓ) (g : Dev Cert.KernelOptGluB.nD → PrngReg), Pre_KernelOptGluB m →
    θ_run (Cert.KernelOptGluB.defs (F := Bits)) (onTc (τ := Cert.KernelOptGluB.τ) (Cert.KernelOptGluB.main (F := Bits))) ⟨m, fun _ => 0, g⟩ (fun r => (∀ c : Dev Cert.KernelOptGluB.nD,
      r.2.mem ((c.tc : Thread Cert.KernelOptGluB.nD Cert.KernelOptGluB.τ).loc Cert.KernelOptGluB.main_arg0) = m ((c.tc : Thread Cert.KernelOptGluB.nD Cert.KernelOptGluB.τ).loc Cert.KernelOptGluB.main_arg0)
      ∧ r.2.mem ((c.tc : Thread Cert.KernelOptGluB.nD Cert.KernelOptGluB.τ).loc Cert.KernelOptGluB.main_arg1) = m ((c.tc : Thread Cert.KernelOptGluB.nD Cert.KernelOptGluB.τ).loc Cert.KernelOptGluB.main_arg1)
      ∧ r.2.mem ((c.tc : Thread Cert.KernelOptGluB.nD Cert.KernelOptGluB.τ).loc Cert.KernelOptGluB.main_arg2) = m ((c.tc : Thread Cert.KernelOptGluB.nD Cert.KernelOptGluB.τ).loc Cert.KernelOptGluB.main_arg2)
      ∧ r.2.mem ((c.tc : Thread Cert.KernelOptGluB.nD Cert.KernelOptGluB.τ).loc Cert.KernelOptGluB.main_arg3) = m ((c.tc : Thread Cert.KernelOptGluB.nD Cert.KernelOptGluB.τ).loc Cert.KernelOptGluB.main_arg3))
      ∧ r.2.sem = fun _ => 0)

def quiescent_KernelOptGluBIdeal [hKernelOptGluBIdeal : Cert.KernelOptGluBIdeal.Facts] : Prop :=
  ∀ (m : (ℓ : Loc Cert.KernelOptGluBIdeal.nD Cert.KernelOptGluBIdeal.τ Cert.KernelOptGluBIdeal.sig) → Buf (Elt Ideal) ℓ) (g : Dev Cert.KernelOptGluBIdeal.nD → PrngReg), Pre_KernelOptGluBIdeal m →
    θ_run (Cert.KernelOptGluBIdeal.defs (F := Ideal)) (onTc (τ := Cert.KernelOptGluBIdeal.τ) (Cert.KernelOptGluBIdeal.main (F := Ideal))) ⟨m, fun _ => 0, g⟩ (fun r => (∀ c : Dev Cert.KernelOptGluBIdeal.nD,
      r.2.mem ((c.tc : Thread Cert.KernelOptGluBIdeal.nD Cert.KernelOptGluBIdeal.τ).loc Cert.KernelOptGluBIdeal.main_arg0) = m ((c.tc : Thread Cert.KernelOptGluBIdeal.nD Cert.KernelOptGluBIdeal.τ).loc Cert.KernelOptGluBIdeal.main_arg0)
      ∧ r.2.mem ((c.tc : Thread Cert.KernelOptGluBIdeal.nD Cert.KernelOptGluBIdeal.τ).loc Cert.KernelOptGluBIdeal.main_arg1) = m ((c.tc : Thread Cert.KernelOptGluBIdeal.nD Cert.KernelOptGluBIdeal.τ).loc Cert.KernelOptGluBIdeal.main_arg1)
      ∧ r.2.mem ((c.tc : Thread Cert.KernelOptGluBIdeal.nD Cert.KernelOptGluBIdeal.τ).loc Cert.KernelOptGluBIdeal.main_arg2) = m ((c.tc : Thread Cert.KernelOptGluBIdeal.nD Cert.KernelOptGluBIdeal.τ).loc Cert.KernelOptGluBIdeal.main_arg2)
      ∧ r.2.mem ((c.tc : Thread Cert.KernelOptGluBIdeal.nD Cert.KernelOptGluBIdeal.τ).loc Cert.KernelOptGluBIdeal.main_arg3) = m ((c.tc : Thread Cert.KernelOptGluBIdeal.nD Cert.KernelOptGluBIdeal.τ).loc Cert.KernelOptGluBIdeal.main_arg3))
      ∧ r.2.sem = fun _ => 0)

def quiescent_ReferenceOptGluBIdeal [hReferenceOptGluBIdeal : Cert.ReferenceOptGluBIdeal.Facts] : Prop :=
  ∀ (m : (ℓ : Loc Cert.ReferenceOptGluBIdeal.nD Cert.ReferenceOptGluBIdeal.τ Cert.ReferenceOptGluBIdeal.sig) → Buf (Elt Ideal) ℓ) (g : Dev Cert.ReferenceOptGluBIdeal.nD → PrngReg), Pre_ReferenceOptGluBIdeal m →
    θ_run (Cert.ReferenceOptGluBIdeal.defs (F := Ideal)) (onTc (τ := Cert.ReferenceOptGluBIdeal.τ) (Cert.ReferenceOptGluBIdeal.main (F := Ideal))) ⟨m, fun _ => 0, g⟩ (fun r => (∀ c : Dev Cert.ReferenceOptGluBIdeal.nD,
      r.2.mem ((c.tc : Thread Cert.ReferenceOptGluBIdeal.nD Cert.ReferenceOptGluBIdeal.τ).loc Cert.ReferenceOptGluBIdeal.main_arg0) = m ((c.tc : Thread Cert.ReferenceOptGluBIdeal.nD Cert.ReferenceOptGluBIdeal.τ).loc Cert.ReferenceOptGluBIdeal.main_arg0)
      ∧ r.2.mem ((c.tc : Thread Cert.ReferenceOptGluBIdeal.nD Cert.ReferenceOptGluBIdeal.τ).loc Cert.ReferenceOptGluBIdeal.main_arg1) = m ((c.tc : Thread Cert.ReferenceOptGluBIdeal.nD Cert.ReferenceOptGluBIdeal.τ).loc Cert.ReferenceOptGluBIdeal.main_arg1)
      ∧ r.2.mem ((c.tc : Thread Cert.ReferenceOptGluBIdeal.nD Cert.ReferenceOptGluBIdeal.τ).loc Cert.ReferenceOptGluBIdeal.main_arg2) = m ((c.tc : Thread Cert.ReferenceOptGluBIdeal.nD Cert.ReferenceOptGluBIdeal.τ).loc Cert.ReferenceOptGluBIdeal.main_arg2)
      ∧ r.2.mem ((c.tc : Thread Cert.ReferenceOptGluBIdeal.nD Cert.ReferenceOptGluBIdeal.τ).loc Cert.ReferenceOptGluBIdeal.main_arg3) = m ((c.tc : Thread Cert.ReferenceOptGluBIdeal.nD Cert.ReferenceOptGluBIdeal.τ).loc Cert.ReferenceOptGluBIdeal.main_arg3))
      ∧ r.2.sem = fun _ => 0)

def quiescent_KernelOptGluA [hKernelOptGluA : Cert.KernelOptGluA.Facts] : Prop :=
  ∀ (m : (ℓ : Loc Cert.KernelOptGluA.nD Cert.KernelOptGluA.τ Cert.KernelOptGluA.sig) → Buf (Elt Bits) ℓ) (g : Dev Cert.KernelOptGluA.nD → PrngReg), Pre_KernelOptGluA m →
    θ_run (Cert.KernelOptGluA.defs (F := Bits)) (onTc (τ := Cert.KernelOptGluA.τ) (Cert.KernelOptGluA.main (F := Bits))) ⟨m, fun _ => 0, g⟩ (fun r => (∀ c : Dev Cert.KernelOptGluA.nD,
      r.2.mem ((c.tc : Thread Cert.KernelOptGluA.nD Cert.KernelOptGluA.τ).loc Cert.KernelOptGluA.main_arg0) = m ((c.tc : Thread Cert.KernelOptGluA.nD Cert.KernelOptGluA.τ).loc Cert.KernelOptGluA.main_arg0)
      ∧ r.2.mem ((c.tc : Thread Cert.KernelOptGluA.nD Cert.KernelOptGluA.τ).loc Cert.KernelOptGluA.main_arg1) = m ((c.tc : Thread Cert.KernelOptGluA.nD Cert.KernelOptGluA.τ).loc Cert.KernelOptGluA.main_arg1)
      ∧ r.2.mem ((c.tc : Thread Cert.KernelOptGluA.nD Cert.KernelOptGluA.τ).loc Cert.KernelOptGluA.main_arg2) = m ((c.tc : Thread Cert.KernelOptGluA.nD Cert.KernelOptGluA.τ).loc Cert.KernelOptGluA.main_arg2)
      ∧ r.2.mem ((c.tc : Thread Cert.KernelOptGluA.nD Cert.KernelOptGluA.τ).loc Cert.KernelOptGluA.main_arg3) = m ((c.tc : Thread Cert.KernelOptGluA.nD Cert.KernelOptGluA.τ).loc Cert.KernelOptGluA.main_arg3)
      ∧ r.2.mem ((c.tc : Thread Cert.KernelOptGluA.nD Cert.KernelOptGluA.τ).loc Cert.KernelOptGluA.main_arg4) = m ((c.tc : Thread Cert.KernelOptGluA.nD Cert.KernelOptGluA.τ).loc Cert.KernelOptGluA.main_arg4)
      ∧ r.2.mem ((c.tc : Thread Cert.KernelOptGluA.nD Cert.KernelOptGluA.τ).loc Cert.KernelOptGluA.main_arg5) = m ((c.tc : Thread Cert.KernelOptGluA.nD Cert.KernelOptGluA.τ).loc Cert.KernelOptGluA.main_arg5)
      ∧ r.2.mem ((c.tc : Thread Cert.KernelOptGluA.nD Cert.KernelOptGluA.τ).loc Cert.KernelOptGluA.main_arg6) = m ((c.tc : Thread Cert.KernelOptGluA.nD Cert.KernelOptGluA.τ).loc Cert.KernelOptGluA.main_arg6)
      ∧ r.2.mem ((c.tc : Thread Cert.KernelOptGluA.nD Cert.KernelOptGluA.τ).loc Cert.KernelOptGluA.main_arg7) = m ((c.tc : Thread Cert.KernelOptGluA.nD Cert.KernelOptGluA.τ).loc Cert.KernelOptGluA.main_arg7))
      ∧ r.2.sem = fun _ => 0)

def quiescent_KernelOptGluAIdeal [hKernelOptGluAIdeal : Cert.KernelOptGluAIdeal.Facts] : Prop :=
  ∀ (m : (ℓ : Loc Cert.KernelOptGluAIdeal.nD Cert.KernelOptGluAIdeal.τ Cert.KernelOptGluAIdeal.sig) → Buf (Elt Ideal) ℓ) (g : Dev Cert.KernelOptGluAIdeal.nD → PrngReg), Pre_KernelOptGluAIdeal m →
    θ_run (Cert.KernelOptGluAIdeal.defs (F := Ideal)) (onTc (τ := Cert.KernelOptGluAIdeal.τ) (Cert.KernelOptGluAIdeal.main (F := Ideal))) ⟨m, fun _ => 0, g⟩ (fun r => (∀ c : Dev Cert.KernelOptGluAIdeal.nD,
      r.2.mem ((c.tc : Thread Cert.KernelOptGluAIdeal.nD Cert.KernelOptGluAIdeal.τ).loc Cert.KernelOptGluAIdeal.main_arg0) = m ((c.tc : Thread Cert.KernelOptGluAIdeal.nD Cert.KernelOptGluAIdeal.τ).loc Cert.KernelOptGluAIdeal.main_arg0)
      ∧ r.2.mem ((c.tc : Thread Cert.KernelOptGluAIdeal.nD Cert.KernelOptGluAIdeal.τ).loc Cert.KernelOptGluAIdeal.main_arg1) = m ((c.tc : Thread Cert.KernelOptGluAIdeal.nD Cert.KernelOptGluAIdeal.τ).loc Cert.KernelOptGluAIdeal.main_arg1)
      ∧ r.2.mem ((c.tc : Thread Cert.KernelOptGluAIdeal.nD Cert.KernelOptGluAIdeal.τ).loc Cert.KernelOptGluAIdeal.main_arg2) = m ((c.tc : Thread Cert.KernelOptGluAIdeal.nD Cert.KernelOptGluAIdeal.τ).loc Cert.KernelOptGluAIdeal.main_arg2)
      ∧ r.2.mem ((c.tc : Thread Cert.KernelOptGluAIdeal.nD Cert.KernelOptGluAIdeal.τ).loc Cert.KernelOptGluAIdeal.main_arg3) = m ((c.tc : Thread Cert.KernelOptGluAIdeal.nD Cert.KernelOptGluAIdeal.τ).loc Cert.KernelOptGluAIdeal.main_arg3)
      ∧ r.2.mem ((c.tc : Thread Cert.KernelOptGluAIdeal.nD Cert.KernelOptGluAIdeal.τ).loc Cert.KernelOptGluAIdeal.main_arg4) = m ((c.tc : Thread Cert.KernelOptGluAIdeal.nD Cert.KernelOptGluAIdeal.τ).loc Cert.KernelOptGluAIdeal.main_arg4)
      ∧ r.2.mem ((c.tc : Thread Cert.KernelOptGluAIdeal.nD Cert.KernelOptGluAIdeal.τ).loc Cert.KernelOptGluAIdeal.main_arg5) = m ((c.tc : Thread Cert.KernelOptGluAIdeal.nD Cert.KernelOptGluAIdeal.τ).loc Cert.KernelOptGluAIdeal.main_arg5)
      ∧ r.2.mem ((c.tc : Thread Cert.KernelOptGluAIdeal.nD Cert.KernelOptGluAIdeal.τ).loc Cert.KernelOptGluAIdeal.main_arg6) = m ((c.tc : Thread Cert.KernelOptGluAIdeal.nD Cert.KernelOptGluAIdeal.τ).loc Cert.KernelOptGluAIdeal.main_arg6)
      ∧ r.2.mem ((c.tc : Thread Cert.KernelOptGluAIdeal.nD Cert.KernelOptGluAIdeal.τ).loc Cert.KernelOptGluAIdeal.main_arg7) = m ((c.tc : Thread Cert.KernelOptGluAIdeal.nD Cert.KernelOptGluAIdeal.τ).loc Cert.KernelOptGluAIdeal.main_arg7))
      ∧ r.2.sem = fun _ => 0)

def quiescent_ReferenceOptGluAIdeal [hReferenceOptGluAIdeal : Cert.ReferenceOptGluAIdeal.Facts] : Prop :=
  ∀ (m : (ℓ : Loc Cert.ReferenceOptGluAIdeal.nD Cert.ReferenceOptGluAIdeal.τ Cert.ReferenceOptGluAIdeal.sig) → Buf (Elt Ideal) ℓ) (g : Dev Cert.ReferenceOptGluAIdeal.nD → PrngReg), Pre_ReferenceOptGluAIdeal m →
    θ_run (Cert.ReferenceOptGluAIdeal.defs (F := Ideal)) (onTc (τ := Cert.ReferenceOptGluAIdeal.τ) (Cert.ReferenceOptGluAIdeal.main (F := Ideal))) ⟨m, fun _ => 0, g⟩ (fun r => (∀ c : Dev Cert.ReferenceOptGluAIdeal.nD,
      r.2.mem ((c.tc : Thread Cert.ReferenceOptGluAIdeal.nD Cert.ReferenceOptGluAIdeal.τ).loc Cert.ReferenceOptGluAIdeal.main_arg0) = m ((c.tc : Thread Cert.ReferenceOptGluAIdeal.nD Cert.ReferenceOptGluAIdeal.τ).loc Cert.ReferenceOptGluAIdeal.main_arg0)
      ∧ r.2.mem ((c.tc : Thread Cert.ReferenceOptGluAIdeal.nD Cert.ReferenceOptGluAIdeal.τ).loc Cert.ReferenceOptGluAIdeal.main_arg1) = m ((c.tc : Thread Cert.ReferenceOptGluAIdeal.nD Cert.ReferenceOptGluAIdeal.τ).loc Cert.ReferenceOptGluAIdeal.main_arg1)
      ∧ r.2.mem ((c.tc : Thread Cert.ReferenceOptGluAIdeal.nD Cert.ReferenceOptGluAIdeal.τ).loc Cert.ReferenceOptGluAIdeal.main_arg2) = m ((c.tc : Thread Cert.ReferenceOptGluAIdeal.nD Cert.ReferenceOptGluAIdeal.τ).loc Cert.ReferenceOptGluAIdeal.main_arg2)
      ∧ r.2.mem ((c.tc : Thread Cert.ReferenceOptGluAIdeal.nD Cert.ReferenceOptGluAIdeal.τ).loc Cert.ReferenceOptGluAIdeal.main_arg3) = m ((c.tc : Thread Cert.ReferenceOptGluAIdeal.nD Cert.ReferenceOptGluAIdeal.τ).loc Cert.ReferenceOptGluAIdeal.main_arg3)
      ∧ r.2.mem ((c.tc : Thread Cert.ReferenceOptGluAIdeal.nD Cert.ReferenceOptGluAIdeal.τ).loc Cert.ReferenceOptGluAIdeal.main_arg4) = m ((c.tc : Thread Cert.ReferenceOptGluAIdeal.nD Cert.ReferenceOptGluAIdeal.τ).loc Cert.ReferenceOptGluAIdeal.main_arg4)
      ∧ r.2.mem ((c.tc : Thread Cert.ReferenceOptGluAIdeal.nD Cert.ReferenceOptGluAIdeal.τ).loc Cert.ReferenceOptGluAIdeal.main_arg5) = m ((c.tc : Thread Cert.ReferenceOptGluAIdeal.nD Cert.ReferenceOptGluAIdeal.τ).loc Cert.ReferenceOptGluAIdeal.main_arg5)
      ∧ r.2.mem ((c.tc : Thread Cert.ReferenceOptGluAIdeal.nD Cert.ReferenceOptGluAIdeal.τ).loc Cert.ReferenceOptGluAIdeal.main_arg6) = m ((c.tc : Thread Cert.ReferenceOptGluAIdeal.nD Cert.ReferenceOptGluAIdeal.τ).loc Cert.ReferenceOptGluAIdeal.main_arg6)
      ∧ r.2.mem ((c.tc : Thread Cert.ReferenceOptGluAIdeal.nD Cert.ReferenceOptGluAIdeal.τ).loc Cert.ReferenceOptGluAIdeal.main_arg7) = m ((c.tc : Thread Cert.ReferenceOptGluAIdeal.nD Cert.ReferenceOptGluAIdeal.τ).loc Cert.ReferenceOptGluAIdeal.main_arg7))
      ∧ r.2.sem = fun _ => 0)

def quiescent_KernelOptBrB [hKernelOptBrB : Cert.KernelOptBrB.Facts] : Prop :=
  ∀ (m : (ℓ : Loc Cert.KernelOptBrB.nD Cert.KernelOptBrB.τ Cert.KernelOptBrB.sig) → Buf (Elt Bits) ℓ) (g : Dev Cert.KernelOptBrB.nD → PrngReg), Pre_KernelOptBrB m →
    θ_run (Cert.KernelOptBrB.defs (F := Bits)) (onTc (τ := Cert.KernelOptBrB.τ) (Cert.KernelOptBrB.main (F := Bits))) ⟨m, fun _ => 0, g⟩ (fun r => (∀ c : Dev Cert.KernelOptBrB.nD,
      r.2.mem ((c.tc : Thread Cert.KernelOptBrB.nD Cert.KernelOptBrB.τ).loc Cert.KernelOptBrB.main_arg0) = m ((c.tc : Thread Cert.KernelOptBrB.nD Cert.KernelOptBrB.τ).loc Cert.KernelOptBrB.main_arg0)
      ∧ r.2.mem ((c.tc : Thread Cert.KernelOptBrB.nD Cert.KernelOptBrB.τ).loc Cert.KernelOptBrB.main_arg1) = m ((c.tc : Thread Cert.KernelOptBrB.nD Cert.KernelOptBrB.τ).loc Cert.KernelOptBrB.main_arg1)
      ∧ r.2.mem ((c.tc : Thread Cert.KernelOptBrB.nD Cert.KernelOptBrB.τ).loc Cert.KernelOptBrB.main_arg2) = m ((c.tc : Thread Cert.KernelOptBrB.nD Cert.KernelOptBrB.τ).loc Cert.KernelOptBrB.main_arg2)
      ∧ r.2.mem ((c.tc : Thread Cert.KernelOptBrB.nD Cert.KernelOptBrB.τ).loc Cert.KernelOptBrB.main_arg3) = m ((c.tc : Thread Cert.KernelOptBrB.nD Cert.KernelOptBrB.τ).loc Cert.KernelOptBrB.main_arg3))
      ∧ r.2.sem = fun _ => 0)

def quiescent_KernelOptBrBIdeal [hKernelOptBrBIdeal : Cert.KernelOptBrBIdeal.Facts] : Prop :=
  ∀ (m : (ℓ : Loc Cert.KernelOptBrBIdeal.nD Cert.KernelOptBrBIdeal.τ Cert.KernelOptBrBIdeal.sig) → Buf (Elt Ideal) ℓ) (g : Dev Cert.KernelOptBrBIdeal.nD → PrngReg), Pre_KernelOptBrBIdeal m →
    θ_run (Cert.KernelOptBrBIdeal.defs (F := Ideal)) (onTc (τ := Cert.KernelOptBrBIdeal.τ) (Cert.KernelOptBrBIdeal.main (F := Ideal))) ⟨m, fun _ => 0, g⟩ (fun r => (∀ c : Dev Cert.KernelOptBrBIdeal.nD,
      r.2.mem ((c.tc : Thread Cert.KernelOptBrBIdeal.nD Cert.KernelOptBrBIdeal.τ).loc Cert.KernelOptBrBIdeal.main_arg0) = m ((c.tc : Thread Cert.KernelOptBrBIdeal.nD Cert.KernelOptBrBIdeal.τ).loc Cert.KernelOptBrBIdeal.main_arg0)
      ∧ r.2.mem ((c.tc : Thread Cert.KernelOptBrBIdeal.nD Cert.KernelOptBrBIdeal.τ).loc Cert.KernelOptBrBIdeal.main_arg1) = m ((c.tc : Thread Cert.KernelOptBrBIdeal.nD Cert.KernelOptBrBIdeal.τ).loc Cert.KernelOptBrBIdeal.main_arg1)
      ∧ r.2.mem ((c.tc : Thread Cert.KernelOptBrBIdeal.nD Cert.KernelOptBrBIdeal.τ).loc Cert.KernelOptBrBIdeal.main_arg2) = m ((c.tc : Thread Cert.KernelOptBrBIdeal.nD Cert.KernelOptBrBIdeal.τ).loc Cert.KernelOptBrBIdeal.main_arg2)
      ∧ r.2.mem ((c.tc : Thread Cert.KernelOptBrBIdeal.nD Cert.KernelOptBrBIdeal.τ).loc Cert.KernelOptBrBIdeal.main_arg3) = m ((c.tc : Thread Cert.KernelOptBrBIdeal.nD Cert.KernelOptBrBIdeal.τ).loc Cert.KernelOptBrBIdeal.main_arg3))
      ∧ r.2.sem = fun _ => 0)

def quiescent_ReferenceOptBrBIdeal [hReferenceOptBrBIdeal : Cert.ReferenceOptBrBIdeal.Facts] : Prop :=
  ∀ (m : (ℓ : Loc Cert.ReferenceOptBrBIdeal.nD Cert.ReferenceOptBrBIdeal.τ Cert.ReferenceOptBrBIdeal.sig) → Buf (Elt Ideal) ℓ) (g : Dev Cert.ReferenceOptBrBIdeal.nD → PrngReg), Pre_ReferenceOptBrBIdeal m →
    θ_run (Cert.ReferenceOptBrBIdeal.defs (F := Ideal)) (onTc (τ := Cert.ReferenceOptBrBIdeal.τ) (Cert.ReferenceOptBrBIdeal.main (F := Ideal))) ⟨m, fun _ => 0, g⟩ (fun r => (∀ c : Dev Cert.ReferenceOptBrBIdeal.nD,
      r.2.mem ((c.tc : Thread Cert.ReferenceOptBrBIdeal.nD Cert.ReferenceOptBrBIdeal.τ).loc Cert.ReferenceOptBrBIdeal.main_arg0) = m ((c.tc : Thread Cert.ReferenceOptBrBIdeal.nD Cert.ReferenceOptBrBIdeal.τ).loc Cert.ReferenceOptBrBIdeal.main_arg0)
      ∧ r.2.mem ((c.tc : Thread Cert.ReferenceOptBrBIdeal.nD Cert.ReferenceOptBrBIdeal.τ).loc Cert.ReferenceOptBrBIdeal.main_arg1) = m ((c.tc : Thread Cert.ReferenceOptBrBIdeal.nD Cert.ReferenceOptBrBIdeal.τ).loc Cert.ReferenceOptBrBIdeal.main_arg1)
      ∧ r.2.mem ((c.tc : Thread Cert.ReferenceOptBrBIdeal.nD Cert.ReferenceOptBrBIdeal.τ).loc Cert.ReferenceOptBrBIdeal.main_arg2) = m ((c.tc : Thread Cert.ReferenceOptBrBIdeal.nD Cert.ReferenceOptBrBIdeal.τ).loc Cert.ReferenceOptBrBIdeal.main_arg2)
      ∧ r.2.mem ((c.tc : Thread Cert.ReferenceOptBrBIdeal.nD Cert.ReferenceOptBrBIdeal.τ).loc Cert.ReferenceOptBrBIdeal.main_arg3) = m ((c.tc : Thread Cert.ReferenceOptBrBIdeal.nD Cert.ReferenceOptBrBIdeal.τ).loc Cert.ReferenceOptBrBIdeal.main_arg3))
      ∧ r.2.sem = fun _ => 0)

def quiescent_KernelOptBrA [hKernelOptBrA : Cert.KernelOptBrA.Facts] : Prop :=
  ∀ (m : (ℓ : Loc Cert.KernelOptBrA.nD Cert.KernelOptBrA.τ Cert.KernelOptBrA.sig) → Buf (Elt Bits) ℓ) (g : Dev Cert.KernelOptBrA.nD → PrngReg), Pre_KernelOptBrA m →
    θ_run (Cert.KernelOptBrA.defs (F := Bits)) (onTc (τ := Cert.KernelOptBrA.τ) (Cert.KernelOptBrA.main (F := Bits))) ⟨m, fun _ => 0, g⟩ (fun r => (∀ c : Dev Cert.KernelOptBrA.nD,
      r.2.mem ((c.tc : Thread Cert.KernelOptBrA.nD Cert.KernelOptBrA.τ).loc Cert.KernelOptBrA.main_arg0) = m ((c.tc : Thread Cert.KernelOptBrA.nD Cert.KernelOptBrA.τ).loc Cert.KernelOptBrA.main_arg0)
      ∧ r.2.mem ((c.tc : Thread Cert.KernelOptBrA.nD Cert.KernelOptBrA.τ).loc Cert.KernelOptBrA.main_arg1) = m ((c.tc : Thread Cert.KernelOptBrA.nD Cert.KernelOptBrA.τ).loc Cert.KernelOptBrA.main_arg1)
      ∧ r.2.mem ((c.tc : Thread Cert.KernelOptBrA.nD Cert.KernelOptBrA.τ).loc Cert.KernelOptBrA.main_arg2) = m ((c.tc : Thread Cert.KernelOptBrA.nD Cert.KernelOptBrA.τ).loc Cert.KernelOptBrA.main_arg2)
      ∧ r.2.mem ((c.tc : Thread Cert.KernelOptBrA.nD Cert.KernelOptBrA.τ).loc Cert.KernelOptBrA.main_arg3) = m ((c.tc : Thread Cert.KernelOptBrA.nD Cert.KernelOptBrA.τ).loc Cert.KernelOptBrA.main_arg3)
      ∧ r.2.mem ((c.tc : Thread Cert.KernelOptBrA.nD Cert.KernelOptBrA.τ).loc Cert.KernelOptBrA.main_arg4) = m ((c.tc : Thread Cert.KernelOptBrA.nD Cert.KernelOptBrA.τ).loc Cert.KernelOptBrA.main_arg4)
      ∧ r.2.mem ((c.tc : Thread Cert.KernelOptBrA.nD Cert.KernelOptBrA.τ).loc Cert.KernelOptBrA.main_arg5) = m ((c.tc : Thread Cert.KernelOptBrA.nD Cert.KernelOptBrA.τ).loc Cert.KernelOptBrA.main_arg5)
      ∧ r.2.mem ((c.tc : Thread Cert.KernelOptBrA.nD Cert.KernelOptBrA.τ).loc Cert.KernelOptBrA.main_arg6) = m ((c.tc : Thread Cert.KernelOptBrA.nD Cert.KernelOptBrA.τ).loc Cert.KernelOptBrA.main_arg6)
      ∧ r.2.mem ((c.tc : Thread Cert.KernelOptBrA.nD Cert.KernelOptBrA.τ).loc Cert.KernelOptBrA.main_arg7) = m ((c.tc : Thread Cert.KernelOptBrA.nD Cert.KernelOptBrA.τ).loc Cert.KernelOptBrA.main_arg7))
      ∧ r.2.sem = fun _ => 0)

def quiescent_KernelOptBrAIdeal [hKernelOptBrAIdeal : Cert.KernelOptBrAIdeal.Facts] : Prop :=
  ∀ (m : (ℓ : Loc Cert.KernelOptBrAIdeal.nD Cert.KernelOptBrAIdeal.τ Cert.KernelOptBrAIdeal.sig) → Buf (Elt Ideal) ℓ) (g : Dev Cert.KernelOptBrAIdeal.nD → PrngReg), Pre_KernelOptBrAIdeal m →
    θ_run (Cert.KernelOptBrAIdeal.defs (F := Ideal)) (onTc (τ := Cert.KernelOptBrAIdeal.τ) (Cert.KernelOptBrAIdeal.main (F := Ideal))) ⟨m, fun _ => 0, g⟩ (fun r => (∀ c : Dev Cert.KernelOptBrAIdeal.nD,
      r.2.mem ((c.tc : Thread Cert.KernelOptBrAIdeal.nD Cert.KernelOptBrAIdeal.τ).loc Cert.KernelOptBrAIdeal.main_arg0) = m ((c.tc : Thread Cert.KernelOptBrAIdeal.nD Cert.KernelOptBrAIdeal.τ).loc Cert.KernelOptBrAIdeal.main_arg0)
      ∧ r.2.mem ((c.tc : Thread Cert.KernelOptBrAIdeal.nD Cert.KernelOptBrAIdeal.τ).loc Cert.KernelOptBrAIdeal.main_arg1) = m ((c.tc : Thread Cert.KernelOptBrAIdeal.nD Cert.KernelOptBrAIdeal.τ).loc Cert.KernelOptBrAIdeal.main_arg1)
      ∧ r.2.mem ((c.tc : Thread Cert.KernelOptBrAIdeal.nD Cert.KernelOptBrAIdeal.τ).loc Cert.KernelOptBrAIdeal.main_arg2) = m ((c.tc : Thread Cert.KernelOptBrAIdeal.nD Cert.KernelOptBrAIdeal.τ).loc Cert.KernelOptBrAIdeal.main_arg2)
      ∧ r.2.mem ((c.tc : Thread Cert.KernelOptBrAIdeal.nD Cert.KernelOptBrAIdeal.τ).loc Cert.KernelOptBrAIdeal.main_arg3) = m ((c.tc : Thread Cert.KernelOptBrAIdeal.nD Cert.KernelOptBrAIdeal.τ).loc Cert.KernelOptBrAIdeal.main_arg3)
      ∧ r.2.mem ((c.tc : Thread Cert.KernelOptBrAIdeal.nD Cert.KernelOptBrAIdeal.τ).loc Cert.KernelOptBrAIdeal.main_arg4) = m ((c.tc : Thread Cert.KernelOptBrAIdeal.nD Cert.KernelOptBrAIdeal.τ).loc Cert.KernelOptBrAIdeal.main_arg4)
      ∧ r.2.mem ((c.tc : Thread Cert.KernelOptBrAIdeal.nD Cert.KernelOptBrAIdeal.τ).loc Cert.KernelOptBrAIdeal.main_arg5) = m ((c.tc : Thread Cert.KernelOptBrAIdeal.nD Cert.KernelOptBrAIdeal.τ).loc Cert.KernelOptBrAIdeal.main_arg5)
      ∧ r.2.mem ((c.tc : Thread Cert.KernelOptBrAIdeal.nD Cert.KernelOptBrAIdeal.τ).loc Cert.KernelOptBrAIdeal.main_arg6) = m ((c.tc : Thread Cert.KernelOptBrAIdeal.nD Cert.KernelOptBrAIdeal.τ).loc Cert.KernelOptBrAIdeal.main_arg6)
      ∧ r.2.mem ((c.tc : Thread Cert.KernelOptBrAIdeal.nD Cert.KernelOptBrAIdeal.τ).loc Cert.KernelOptBrAIdeal.main_arg7) = m ((c.tc : Thread Cert.KernelOptBrAIdeal.nD Cert.KernelOptBrAIdeal.τ).loc Cert.KernelOptBrAIdeal.main_arg7))
      ∧ r.2.sem = fun _ => 0)

def quiescent_ReferenceOptBrAIdeal [hReferenceOptBrAIdeal : Cert.ReferenceOptBrAIdeal.Facts] : Prop :=
  ∀ (m : (ℓ : Loc Cert.ReferenceOptBrAIdeal.nD Cert.ReferenceOptBrAIdeal.τ Cert.ReferenceOptBrAIdeal.sig) → Buf (Elt Ideal) ℓ) (g : Dev Cert.ReferenceOptBrAIdeal.nD → PrngReg), Pre_ReferenceOptBrAIdeal m →
    θ_run (Cert.ReferenceOptBrAIdeal.defs (F := Ideal)) (onTc (τ := Cert.ReferenceOptBrAIdeal.τ) (Cert.ReferenceOptBrAIdeal.main (F := Ideal))) ⟨m, fun _ => 0, g⟩ (fun r => (∀ c : Dev Cert.ReferenceOptBrAIdeal.nD,
      r.2.mem ((c.tc : Thread Cert.ReferenceOptBrAIdeal.nD Cert.ReferenceOptBrAIdeal.τ).loc Cert.ReferenceOptBrAIdeal.main_arg0) = m ((c.tc : Thread Cert.ReferenceOptBrAIdeal.nD Cert.ReferenceOptBrAIdeal.τ).loc Cert.ReferenceOptBrAIdeal.main_arg0)
      ∧ r.2.mem ((c.tc : Thread Cert.ReferenceOptBrAIdeal.nD Cert.ReferenceOptBrAIdeal.τ).loc Cert.ReferenceOptBrAIdeal.main_arg1) = m ((c.tc : Thread Cert.ReferenceOptBrAIdeal.nD Cert.ReferenceOptBrAIdeal.τ).loc Cert.ReferenceOptBrAIdeal.main_arg1)
      ∧ r.2.mem ((c.tc : Thread Cert.ReferenceOptBrAIdeal.nD Cert.ReferenceOptBrAIdeal.τ).loc Cert.ReferenceOptBrAIdeal.main_arg2) = m ((c.tc : Thread Cert.ReferenceOptBrAIdeal.nD Cert.ReferenceOptBrAIdeal.τ).loc Cert.ReferenceOptBrAIdeal.main_arg2)
      ∧ r.2.mem ((c.tc : Thread Cert.ReferenceOptBrAIdeal.nD Cert.ReferenceOptBrAIdeal.τ).loc Cert.ReferenceOptBrAIdeal.main_arg3) = m ((c.tc : Thread Cert.ReferenceOptBrAIdeal.nD Cert.ReferenceOptBrAIdeal.τ).loc Cert.ReferenceOptBrAIdeal.main_arg3)
      ∧ r.2.mem ((c.tc : Thread Cert.ReferenceOptBrAIdeal.nD Cert.ReferenceOptBrAIdeal.τ).loc Cert.ReferenceOptBrAIdeal.main_arg4) = m ((c.tc : Thread Cert.ReferenceOptBrAIdeal.nD Cert.ReferenceOptBrAIdeal.τ).loc Cert.ReferenceOptBrAIdeal.main_arg4)
      ∧ r.2.mem ((c.tc : Thread Cert.ReferenceOptBrAIdeal.nD Cert.ReferenceOptBrAIdeal.τ).loc Cert.ReferenceOptBrAIdeal.main_arg5) = m ((c.tc : Thread Cert.ReferenceOptBrAIdeal.nD Cert.ReferenceOptBrAIdeal.τ).loc Cert.ReferenceOptBrAIdeal.main_arg5)
      ∧ r.2.mem ((c.tc : Thread Cert.ReferenceOptBrAIdeal.nD Cert.ReferenceOptBrAIdeal.τ).loc Cert.ReferenceOptBrAIdeal.main_arg6) = m ((c.tc : Thread Cert.ReferenceOptBrAIdeal.nD Cert.ReferenceOptBrAIdeal.τ).loc Cert.ReferenceOptBrAIdeal.main_arg6)
      ∧ r.2.mem ((c.tc : Thread Cert.ReferenceOptBrAIdeal.nD Cert.ReferenceOptBrAIdeal.τ).loc Cert.ReferenceOptBrAIdeal.main_arg7) = m ((c.tc : Thread Cert.ReferenceOptBrAIdeal.nD Cert.ReferenceOptBrAIdeal.τ).loc Cert.ReferenceOptBrAIdeal.main_arg7))
      ∧ r.2.sem = fun _ => 0)

def quiescent_KernelOptAttnB [hKernelOptAttnB : Cert.KernelOptAttnB.Facts] : Prop :=
  ∀ (m : (ℓ : Loc Cert.KernelOptAttnB.nD Cert.KernelOptAttnB.τ Cert.KernelOptAttnB.sig) → Buf (Elt Bits) ℓ) (g : Dev Cert.KernelOptAttnB.nD → PrngReg), Pre_KernelOptAttnB m →
    θ_run (Cert.KernelOptAttnB.defs (F := Bits)) (onTc (τ := Cert.KernelOptAttnB.τ) (Cert.KernelOptAttnB.main (F := Bits))) ⟨m, fun _ => 0, g⟩ (fun r => (∀ c : Dev Cert.KernelOptAttnB.nD,
      r.2.mem ((c.tc : Thread Cert.KernelOptAttnB.nD Cert.KernelOptAttnB.τ).loc Cert.KernelOptAttnB.main_arg0) = m ((c.tc : Thread Cert.KernelOptAttnB.nD Cert.KernelOptAttnB.τ).loc Cert.KernelOptAttnB.main_arg0)
      ∧ r.2.mem ((c.tc : Thread Cert.KernelOptAttnB.nD Cert.KernelOptAttnB.τ).loc Cert.KernelOptAttnB.main_arg1) = m ((c.tc : Thread Cert.KernelOptAttnB.nD Cert.KernelOptAttnB.τ).loc Cert.KernelOptAttnB.main_arg1)
      ∧ r.2.mem ((c.tc : Thread Cert.KernelOptAttnB.nD Cert.KernelOptAttnB.τ).loc Cert.KernelOptAttnB.main_arg2) = m ((c.tc : Thread Cert.KernelOptAttnB.nD Cert.KernelOptAttnB.τ).loc Cert.KernelOptAttnB.main_arg2)
      ∧ r.2.mem ((c.tc : Thread Cert.KernelOptAttnB.nD Cert.KernelOptAttnB.τ).loc Cert.KernelOptAttnB.main_arg3) = m ((c.tc : Thread Cert.KernelOptAttnB.nD Cert.KernelOptAttnB.τ).loc Cert.KernelOptAttnB.main_arg3))
      ∧ r.2.sem = fun _ => 0)

def quiescent_KernelOptAttnBIdeal [hKernelOptAttnBIdeal : Cert.KernelOptAttnBIdeal.Facts] : Prop :=
  ∀ (m : (ℓ : Loc Cert.KernelOptAttnBIdeal.nD Cert.KernelOptAttnBIdeal.τ Cert.KernelOptAttnBIdeal.sig) → Buf (Elt Ideal) ℓ) (g : Dev Cert.KernelOptAttnBIdeal.nD → PrngReg), Pre_KernelOptAttnBIdeal m →
    θ_run (Cert.KernelOptAttnBIdeal.defs (F := Ideal)) (onTc (τ := Cert.KernelOptAttnBIdeal.τ) (Cert.KernelOptAttnBIdeal.main (F := Ideal))) ⟨m, fun _ => 0, g⟩ (fun r => (∀ c : Dev Cert.KernelOptAttnBIdeal.nD,
      r.2.mem ((c.tc : Thread Cert.KernelOptAttnBIdeal.nD Cert.KernelOptAttnBIdeal.τ).loc Cert.KernelOptAttnBIdeal.main_arg0) = m ((c.tc : Thread Cert.KernelOptAttnBIdeal.nD Cert.KernelOptAttnBIdeal.τ).loc Cert.KernelOptAttnBIdeal.main_arg0)
      ∧ r.2.mem ((c.tc : Thread Cert.KernelOptAttnBIdeal.nD Cert.KernelOptAttnBIdeal.τ).loc Cert.KernelOptAttnBIdeal.main_arg1) = m ((c.tc : Thread Cert.KernelOptAttnBIdeal.nD Cert.KernelOptAttnBIdeal.τ).loc Cert.KernelOptAttnBIdeal.main_arg1)
      ∧ r.2.mem ((c.tc : Thread Cert.KernelOptAttnBIdeal.nD Cert.KernelOptAttnBIdeal.τ).loc Cert.KernelOptAttnBIdeal.main_arg2) = m ((c.tc : Thread Cert.KernelOptAttnBIdeal.nD Cert.KernelOptAttnBIdeal.τ).loc Cert.KernelOptAttnBIdeal.main_arg2)
      ∧ r.2.mem ((c.tc : Thread Cert.KernelOptAttnBIdeal.nD Cert.KernelOptAttnBIdeal.τ).loc Cert.KernelOptAttnBIdeal.main_arg3) = m ((c.tc : Thread Cert.KernelOptAttnBIdeal.nD Cert.KernelOptAttnBIdeal.τ).loc Cert.KernelOptAttnBIdeal.main_arg3))
      ∧ r.2.sem = fun _ => 0)

def quiescent_ReferenceOptAttnBIdeal [hReferenceOptAttnBIdeal : Cert.ReferenceOptAttnBIdeal.Facts] : Prop :=
  ∀ (m : (ℓ : Loc Cert.ReferenceOptAttnBIdeal.nD Cert.ReferenceOptAttnBIdeal.τ Cert.ReferenceOptAttnBIdeal.sig) → Buf (Elt Ideal) ℓ) (g : Dev Cert.ReferenceOptAttnBIdeal.nD → PrngReg), Pre_ReferenceOptAttnBIdeal m →
    θ_run (Cert.ReferenceOptAttnBIdeal.defs (F := Ideal)) (onTc (τ := Cert.ReferenceOptAttnBIdeal.τ) (Cert.ReferenceOptAttnBIdeal.main (F := Ideal))) ⟨m, fun _ => 0, g⟩ (fun r => (∀ c : Dev Cert.ReferenceOptAttnBIdeal.nD,
      r.2.mem ((c.tc : Thread Cert.ReferenceOptAttnBIdeal.nD Cert.ReferenceOptAttnBIdeal.τ).loc Cert.ReferenceOptAttnBIdeal.main_arg0) = m ((c.tc : Thread Cert.ReferenceOptAttnBIdeal.nD Cert.ReferenceOptAttnBIdeal.τ).loc Cert.ReferenceOptAttnBIdeal.main_arg0)
      ∧ r.2.mem ((c.tc : Thread Cert.ReferenceOptAttnBIdeal.nD Cert.ReferenceOptAttnBIdeal.τ).loc Cert.ReferenceOptAttnBIdeal.main_arg1) = m ((c.tc : Thread Cert.ReferenceOptAttnBIdeal.nD Cert.ReferenceOptAttnBIdeal.τ).loc Cert.ReferenceOptAttnBIdeal.main_arg1)
      ∧ r.2.mem ((c.tc : Thread Cert.ReferenceOptAttnBIdeal.nD Cert.ReferenceOptAttnBIdeal.τ).loc Cert.ReferenceOptAttnBIdeal.main_arg2) = m ((c.tc : Thread Cert.ReferenceOptAttnBIdeal.nD Cert.ReferenceOptAttnBIdeal.τ).loc Cert.ReferenceOptAttnBIdeal.main_arg2)
      ∧ r.2.mem ((c.tc : Thread Cert.ReferenceOptAttnBIdeal.nD Cert.ReferenceOptAttnBIdeal.τ).loc Cert.ReferenceOptAttnBIdeal.main_arg3) = m ((c.tc : Thread Cert.ReferenceOptAttnBIdeal.nD Cert.ReferenceOptAttnBIdeal.τ).loc Cert.ReferenceOptAttnBIdeal.main_arg3))
      ∧ r.2.sem = fun _ => 0)

def quiescent_KernelOptAttnA [hKernelOptAttnA : Cert.KernelOptAttnA.Facts] : Prop :=
  ∀ (m : (ℓ : Loc Cert.KernelOptAttnA.nD Cert.KernelOptAttnA.τ Cert.KernelOptAttnA.sig) → Buf (Elt Bits) ℓ) (g : Dev Cert.KernelOptAttnA.nD → PrngReg), Pre_KernelOptAttnA m →
    θ_run (Cert.KernelOptAttnA.defs (F := Bits)) (onTc (τ := Cert.KernelOptAttnA.τ) (Cert.KernelOptAttnA.main (F := Bits))) ⟨m, fun _ => 0, g⟩ (fun r => (∀ c : Dev Cert.KernelOptAttnA.nD,
      r.2.mem ((c.tc : Thread Cert.KernelOptAttnA.nD Cert.KernelOptAttnA.τ).loc Cert.KernelOptAttnA.main_arg0) = m ((c.tc : Thread Cert.KernelOptAttnA.nD Cert.KernelOptAttnA.τ).loc Cert.KernelOptAttnA.main_arg0)
      ∧ r.2.mem ((c.tc : Thread Cert.KernelOptAttnA.nD Cert.KernelOptAttnA.τ).loc Cert.KernelOptAttnA.main_arg1) = m ((c.tc : Thread Cert.KernelOptAttnA.nD Cert.KernelOptAttnA.τ).loc Cert.KernelOptAttnA.main_arg1)
      ∧ r.2.mem ((c.tc : Thread Cert.KernelOptAttnA.nD Cert.KernelOptAttnA.τ).loc Cert.KernelOptAttnA.main_arg2) = m ((c.tc : Thread Cert.KernelOptAttnA.nD Cert.KernelOptAttnA.τ).loc Cert.KernelOptAttnA.main_arg2)
      ∧ r.2.mem ((c.tc : Thread Cert.KernelOptAttnA.nD Cert.KernelOptAttnA.τ).loc Cert.KernelOptAttnA.main_arg3) = m ((c.tc : Thread Cert.KernelOptAttnA.nD Cert.KernelOptAttnA.τ).loc Cert.KernelOptAttnA.main_arg3)
      ∧ r.2.mem ((c.tc : Thread Cert.KernelOptAttnA.nD Cert.KernelOptAttnA.τ).loc Cert.KernelOptAttnA.main_arg4) = m ((c.tc : Thread Cert.KernelOptAttnA.nD Cert.KernelOptAttnA.τ).loc Cert.KernelOptAttnA.main_arg4)
      ∧ r.2.mem ((c.tc : Thread Cert.KernelOptAttnA.nD Cert.KernelOptAttnA.τ).loc Cert.KernelOptAttnA.main_arg5) = m ((c.tc : Thread Cert.KernelOptAttnA.nD Cert.KernelOptAttnA.τ).loc Cert.KernelOptAttnA.main_arg5)
      ∧ r.2.mem ((c.tc : Thread Cert.KernelOptAttnA.nD Cert.KernelOptAttnA.τ).loc Cert.KernelOptAttnA.main_arg6) = m ((c.tc : Thread Cert.KernelOptAttnA.nD Cert.KernelOptAttnA.τ).loc Cert.KernelOptAttnA.main_arg6)
      ∧ r.2.mem ((c.tc : Thread Cert.KernelOptAttnA.nD Cert.KernelOptAttnA.τ).loc Cert.KernelOptAttnA.main_arg7) = m ((c.tc : Thread Cert.KernelOptAttnA.nD Cert.KernelOptAttnA.τ).loc Cert.KernelOptAttnA.main_arg7))
      ∧ r.2.sem = fun _ => 0)

def quiescent_KernelOptAttnAIdeal [hKernelOptAttnAIdeal : Cert.KernelOptAttnAIdeal.Facts] : Prop :=
  ∀ (m : (ℓ : Loc Cert.KernelOptAttnAIdeal.nD Cert.KernelOptAttnAIdeal.τ Cert.KernelOptAttnAIdeal.sig) → Buf (Elt Ideal) ℓ) (g : Dev Cert.KernelOptAttnAIdeal.nD → PrngReg), Pre_KernelOptAttnAIdeal m →
    θ_run (Cert.KernelOptAttnAIdeal.defs (F := Ideal)) (onTc (τ := Cert.KernelOptAttnAIdeal.τ) (Cert.KernelOptAttnAIdeal.main (F := Ideal))) ⟨m, fun _ => 0, g⟩ (fun r => (∀ c : Dev Cert.KernelOptAttnAIdeal.nD,
      r.2.mem ((c.tc : Thread Cert.KernelOptAttnAIdeal.nD Cert.KernelOptAttnAIdeal.τ).loc Cert.KernelOptAttnAIdeal.main_arg0) = m ((c.tc : Thread Cert.KernelOptAttnAIdeal.nD Cert.KernelOptAttnAIdeal.τ).loc Cert.KernelOptAttnAIdeal.main_arg0)
      ∧ r.2.mem ((c.tc : Thread Cert.KernelOptAttnAIdeal.nD Cert.KernelOptAttnAIdeal.τ).loc Cert.KernelOptAttnAIdeal.main_arg1) = m ((c.tc : Thread Cert.KernelOptAttnAIdeal.nD Cert.KernelOptAttnAIdeal.τ).loc Cert.KernelOptAttnAIdeal.main_arg1)
      ∧ r.2.mem ((c.tc : Thread Cert.KernelOptAttnAIdeal.nD Cert.KernelOptAttnAIdeal.τ).loc Cert.KernelOptAttnAIdeal.main_arg2) = m ((c.tc : Thread Cert.KernelOptAttnAIdeal.nD Cert.KernelOptAttnAIdeal.τ).loc Cert.KernelOptAttnAIdeal.main_arg2)
      ∧ r.2.mem ((c.tc : Thread Cert.KernelOptAttnAIdeal.nD Cert.KernelOptAttnAIdeal.τ).loc Cert.KernelOptAttnAIdeal.main_arg3) = m ((c.tc : Thread Cert.KernelOptAttnAIdeal.nD Cert.KernelOptAttnAIdeal.τ).loc Cert.KernelOptAttnAIdeal.main_arg3)
      ∧ r.2.mem ((c.tc : Thread Cert.KernelOptAttnAIdeal.nD Cert.KernelOptAttnAIdeal.τ).loc Cert.KernelOptAttnAIdeal.main_arg4) = m ((c.tc : Thread Cert.KernelOptAttnAIdeal.nD Cert.KernelOptAttnAIdeal.τ).loc Cert.KernelOptAttnAIdeal.main_arg4)
      ∧ r.2.mem ((c.tc : Thread Cert.KernelOptAttnAIdeal.nD Cert.KernelOptAttnAIdeal.τ).loc Cert.KernelOptAttnAIdeal.main_arg5) = m ((c.tc : Thread Cert.KernelOptAttnAIdeal.nD Cert.KernelOptAttnAIdeal.τ).loc Cert.KernelOptAttnAIdeal.main_arg5)
      ∧ r.2.mem ((c.tc : Thread Cert.KernelOptAttnAIdeal.nD Cert.KernelOptAttnAIdeal.τ).loc Cert.KernelOptAttnAIdeal.main_arg6) = m ((c.tc : Thread Cert.KernelOptAttnAIdeal.nD Cert.KernelOptAttnAIdeal.τ).loc Cert.KernelOptAttnAIdeal.main_arg6)
      ∧ r.2.mem ((c.tc : Thread Cert.KernelOptAttnAIdeal.nD Cert.KernelOptAttnAIdeal.τ).loc Cert.KernelOptAttnAIdeal.main_arg7) = m ((c.tc : Thread Cert.KernelOptAttnAIdeal.nD Cert.KernelOptAttnAIdeal.τ).loc Cert.KernelOptAttnAIdeal.main_arg7))
      ∧ r.2.sem = fun _ => 0)

def quiescent_ReferenceOptAttnAIdeal [hReferenceOptAttnAIdeal : Cert.ReferenceOptAttnAIdeal.Facts] : Prop :=
  ∀ (m : (ℓ : Loc Cert.ReferenceOptAttnAIdeal.nD Cert.ReferenceOptAttnAIdeal.τ Cert.ReferenceOptAttnAIdeal.sig) → Buf (Elt Ideal) ℓ) (g : Dev Cert.ReferenceOptAttnAIdeal.nD → PrngReg), Pre_ReferenceOptAttnAIdeal m →
    θ_run (Cert.ReferenceOptAttnAIdeal.defs (F := Ideal)) (onTc (τ := Cert.ReferenceOptAttnAIdeal.τ) (Cert.ReferenceOptAttnAIdeal.main (F := Ideal))) ⟨m, fun _ => 0, g⟩ (fun r => (∀ c : Dev Cert.ReferenceOptAttnAIdeal.nD,
      r.2.mem ((c.tc : Thread Cert.ReferenceOptAttnAIdeal.nD Cert.ReferenceOptAttnAIdeal.τ).loc Cert.ReferenceOptAttnAIdeal.main_arg0) = m ((c.tc : Thread Cert.ReferenceOptAttnAIdeal.nD Cert.ReferenceOptAttnAIdeal.τ).loc Cert.ReferenceOptAttnAIdeal.main_arg0)
      ∧ r.2.mem ((c.tc : Thread Cert.ReferenceOptAttnAIdeal.nD Cert.ReferenceOptAttnAIdeal.τ).loc Cert.ReferenceOptAttnAIdeal.main_arg1) = m ((c.tc : Thread Cert.ReferenceOptAttnAIdeal.nD Cert.ReferenceOptAttnAIdeal.τ).loc Cert.ReferenceOptAttnAIdeal.main_arg1)
      ∧ r.2.mem ((c.tc : Thread Cert.ReferenceOptAttnAIdeal.nD Cert.ReferenceOptAttnAIdeal.τ).loc Cert.ReferenceOptAttnAIdeal.main_arg2) = m ((c.tc : Thread Cert.ReferenceOptAttnAIdeal.nD Cert.ReferenceOptAttnAIdeal.τ).loc Cert.ReferenceOptAttnAIdeal.main_arg2)
      ∧ r.2.mem ((c.tc : Thread Cert.ReferenceOptAttnAIdeal.nD Cert.ReferenceOptAttnAIdeal.τ).loc Cert.ReferenceOptAttnAIdeal.main_arg3) = m ((c.tc : Thread Cert.ReferenceOptAttnAIdeal.nD Cert.ReferenceOptAttnAIdeal.τ).loc Cert.ReferenceOptAttnAIdeal.main_arg3)
      ∧ r.2.mem ((c.tc : Thread Cert.ReferenceOptAttnAIdeal.nD Cert.ReferenceOptAttnAIdeal.τ).loc Cert.ReferenceOptAttnAIdeal.main_arg4) = m ((c.tc : Thread Cert.ReferenceOptAttnAIdeal.nD Cert.ReferenceOptAttnAIdeal.τ).loc Cert.ReferenceOptAttnAIdeal.main_arg4)
      ∧ r.2.mem ((c.tc : Thread Cert.ReferenceOptAttnAIdeal.nD Cert.ReferenceOptAttnAIdeal.τ).loc Cert.ReferenceOptAttnAIdeal.main_arg5) = m ((c.tc : Thread Cert.ReferenceOptAttnAIdeal.nD Cert.ReferenceOptAttnAIdeal.τ).loc Cert.ReferenceOptAttnAIdeal.main_arg5)
      ∧ r.2.mem ((c.tc : Thread Cert.ReferenceOptAttnAIdeal.nD Cert.ReferenceOptAttnAIdeal.τ).loc Cert.ReferenceOptAttnAIdeal.main_arg6) = m ((c.tc : Thread Cert.ReferenceOptAttnAIdeal.nD Cert.ReferenceOptAttnAIdeal.τ).loc Cert.ReferenceOptAttnAIdeal.main_arg6)
      ∧ r.2.mem ((c.tc : Thread Cert.ReferenceOptAttnAIdeal.nD Cert.ReferenceOptAttnAIdeal.τ).loc Cert.ReferenceOptAttnAIdeal.main_arg7) = m ((c.tc : Thread Cert.ReferenceOptAttnAIdeal.nD Cert.ReferenceOptAttnAIdeal.τ).loc Cert.ReferenceOptAttnAIdeal.main_arg7))
      ∧ r.2.sem = fun _ => 0)

def quiescent_KernelOptConvB [hKernelOptConvB : Cert.KernelOptConvB.Facts] : Prop :=
  ∀ (m : (ℓ : Loc Cert.KernelOptConvB.nD Cert.KernelOptConvB.τ Cert.KernelOptConvB.sig) → Buf (Elt Bits) ℓ) (g : Dev Cert.KernelOptConvB.nD → PrngReg), Pre_KernelOptConvB m →
    θ_run (Cert.KernelOptConvB.defs (F := Bits)) (onTc (τ := Cert.KernelOptConvB.τ) (Cert.KernelOptConvB.main (F := Bits))) ⟨m, fun _ => 0, g⟩ (fun r => (∀ c : Dev Cert.KernelOptConvB.nD,
      r.2.mem ((c.tc : Thread Cert.KernelOptConvB.nD Cert.KernelOptConvB.τ).loc Cert.KernelOptConvB.main_arg0) = m ((c.tc : Thread Cert.KernelOptConvB.nD Cert.KernelOptConvB.τ).loc Cert.KernelOptConvB.main_arg0)
      ∧ r.2.mem ((c.tc : Thread Cert.KernelOptConvB.nD Cert.KernelOptConvB.τ).loc Cert.KernelOptConvB.main_arg1) = m ((c.tc : Thread Cert.KernelOptConvB.nD Cert.KernelOptConvB.τ).loc Cert.KernelOptConvB.main_arg1)
      ∧ r.2.mem ((c.tc : Thread Cert.KernelOptConvB.nD Cert.KernelOptConvB.τ).loc Cert.KernelOptConvB.main_arg2) = m ((c.tc : Thread Cert.KernelOptConvB.nD Cert.KernelOptConvB.τ).loc Cert.KernelOptConvB.main_arg2)
      ∧ r.2.mem ((c.tc : Thread Cert.KernelOptConvB.nD Cert.KernelOptConvB.τ).loc Cert.KernelOptConvB.main_arg3) = m ((c.tc : Thread Cert.KernelOptConvB.nD Cert.KernelOptConvB.τ).loc Cert.KernelOptConvB.main_arg3))
      ∧ r.2.sem = fun _ => 0)

def quiescent_KernelOptConvBIdeal [hKernelOptConvBIdeal : Cert.KernelOptConvBIdeal.Facts] : Prop :=
  ∀ (m : (ℓ : Loc Cert.KernelOptConvBIdeal.nD Cert.KernelOptConvBIdeal.τ Cert.KernelOptConvBIdeal.sig) → Buf (Elt Ideal) ℓ) (g : Dev Cert.KernelOptConvBIdeal.nD → PrngReg), Pre_KernelOptConvBIdeal m →
    θ_run (Cert.KernelOptConvBIdeal.defs (F := Ideal)) (onTc (τ := Cert.KernelOptConvBIdeal.τ) (Cert.KernelOptConvBIdeal.main (F := Ideal))) ⟨m, fun _ => 0, g⟩ (fun r => (∀ c : Dev Cert.KernelOptConvBIdeal.nD,
      r.2.mem ((c.tc : Thread Cert.KernelOptConvBIdeal.nD Cert.KernelOptConvBIdeal.τ).loc Cert.KernelOptConvBIdeal.main_arg0) = m ((c.tc : Thread Cert.KernelOptConvBIdeal.nD Cert.KernelOptConvBIdeal.τ).loc Cert.KernelOptConvBIdeal.main_arg0)
      ∧ r.2.mem ((c.tc : Thread Cert.KernelOptConvBIdeal.nD Cert.KernelOptConvBIdeal.τ).loc Cert.KernelOptConvBIdeal.main_arg1) = m ((c.tc : Thread Cert.KernelOptConvBIdeal.nD Cert.KernelOptConvBIdeal.τ).loc Cert.KernelOptConvBIdeal.main_arg1)
      ∧ r.2.mem ((c.tc : Thread Cert.KernelOptConvBIdeal.nD Cert.KernelOptConvBIdeal.τ).loc Cert.KernelOptConvBIdeal.main_arg2) = m ((c.tc : Thread Cert.KernelOptConvBIdeal.nD Cert.KernelOptConvBIdeal.τ).loc Cert.KernelOptConvBIdeal.main_arg2)
      ∧ r.2.mem ((c.tc : Thread Cert.KernelOptConvBIdeal.nD Cert.KernelOptConvBIdeal.τ).loc Cert.KernelOptConvBIdeal.main_arg3) = m ((c.tc : Thread Cert.KernelOptConvBIdeal.nD Cert.KernelOptConvBIdeal.τ).loc Cert.KernelOptConvBIdeal.main_arg3))
      ∧ r.2.sem = fun _ => 0)

def quiescent_ReferenceOptConvBIdeal [hReferenceOptConvBIdeal : Cert.ReferenceOptConvBIdeal.Facts] : Prop :=
  ∀ (m : (ℓ : Loc Cert.ReferenceOptConvBIdeal.nD Cert.ReferenceOptConvBIdeal.τ Cert.ReferenceOptConvBIdeal.sig) → Buf (Elt Ideal) ℓ) (g : Dev Cert.ReferenceOptConvBIdeal.nD → PrngReg), Pre_ReferenceOptConvBIdeal m →
    θ_run (Cert.ReferenceOptConvBIdeal.defs (F := Ideal)) (onTc (τ := Cert.ReferenceOptConvBIdeal.τ) (Cert.ReferenceOptConvBIdeal.main (F := Ideal))) ⟨m, fun _ => 0, g⟩ (fun r => (∀ c : Dev Cert.ReferenceOptConvBIdeal.nD,
      r.2.mem ((c.tc : Thread Cert.ReferenceOptConvBIdeal.nD Cert.ReferenceOptConvBIdeal.τ).loc Cert.ReferenceOptConvBIdeal.main_arg0) = m ((c.tc : Thread Cert.ReferenceOptConvBIdeal.nD Cert.ReferenceOptConvBIdeal.τ).loc Cert.ReferenceOptConvBIdeal.main_arg0)
      ∧ r.2.mem ((c.tc : Thread Cert.ReferenceOptConvBIdeal.nD Cert.ReferenceOptConvBIdeal.τ).loc Cert.ReferenceOptConvBIdeal.main_arg1) = m ((c.tc : Thread Cert.ReferenceOptConvBIdeal.nD Cert.ReferenceOptConvBIdeal.τ).loc Cert.ReferenceOptConvBIdeal.main_arg1)
      ∧ r.2.mem ((c.tc : Thread Cert.ReferenceOptConvBIdeal.nD Cert.ReferenceOptConvBIdeal.τ).loc Cert.ReferenceOptConvBIdeal.main_arg2) = m ((c.tc : Thread Cert.ReferenceOptConvBIdeal.nD Cert.ReferenceOptConvBIdeal.τ).loc Cert.ReferenceOptConvBIdeal.main_arg2)
      ∧ r.2.mem ((c.tc : Thread Cert.ReferenceOptConvBIdeal.nD Cert.ReferenceOptConvBIdeal.τ).loc Cert.ReferenceOptConvBIdeal.main_arg3) = m ((c.tc : Thread Cert.ReferenceOptConvBIdeal.nD Cert.ReferenceOptConvBIdeal.τ).loc Cert.ReferenceOptConvBIdeal.main_arg3))
      ∧ r.2.sem = fun _ => 0)

def quiescent_KernelOptConvA [hKernelOptConvA : Cert.KernelOptConvA.Facts] : Prop :=
  ∀ (m : (ℓ : Loc Cert.KernelOptConvA.nD Cert.KernelOptConvA.τ Cert.KernelOptConvA.sig) → Buf (Elt Bits) ℓ) (g : Dev Cert.KernelOptConvA.nD → PrngReg), Pre_KernelOptConvA m →
    θ_run (Cert.KernelOptConvA.defs (F := Bits)) (onTc (τ := Cert.KernelOptConvA.τ) (Cert.KernelOptConvA.main (F := Bits))) ⟨m, fun _ => 0, g⟩ (fun r => (∀ c : Dev Cert.KernelOptConvA.nD,
      r.2.mem ((c.tc : Thread Cert.KernelOptConvA.nD Cert.KernelOptConvA.τ).loc Cert.KernelOptConvA.main_arg0) = m ((c.tc : Thread Cert.KernelOptConvA.nD Cert.KernelOptConvA.τ).loc Cert.KernelOptConvA.main_arg0)
      ∧ r.2.mem ((c.tc : Thread Cert.KernelOptConvA.nD Cert.KernelOptConvA.τ).loc Cert.KernelOptConvA.main_arg1) = m ((c.tc : Thread Cert.KernelOptConvA.nD Cert.KernelOptConvA.τ).loc Cert.KernelOptConvA.main_arg1)
      ∧ r.2.mem ((c.tc : Thread Cert.KernelOptConvA.nD Cert.KernelOptConvA.τ).loc Cert.KernelOptConvA.main_arg2) = m ((c.tc : Thread Cert.KernelOptConvA.nD Cert.KernelOptConvA.τ).loc Cert.KernelOptConvA.main_arg2)
      ∧ r.2.mem ((c.tc : Thread Cert.KernelOptConvA.nD Cert.KernelOptConvA.τ).loc Cert.KernelOptConvA.main_arg3) = m ((c.tc : Thread Cert.KernelOptConvA.nD Cert.KernelOptConvA.τ).loc Cert.KernelOptConvA.main_arg3)
      ∧ r.2.mem ((c.tc : Thread Cert.KernelOptConvA.nD Cert.KernelOptConvA.τ).loc Cert.KernelOptConvA.main_arg4) = m ((c.tc : Thread Cert.KernelOptConvA.nD Cert.KernelOptConvA.τ).loc Cert.KernelOptConvA.main_arg4)
      ∧ r.2.mem ((c.tc : Thread Cert.KernelOptConvA.nD Cert.KernelOptConvA.τ).loc Cert.KernelOptConvA.main_arg5) = m ((c.tc : Thread Cert.KernelOptConvA.nD Cert.KernelOptConvA.τ).loc Cert.KernelOptConvA.main_arg5)
      ∧ r.2.mem ((c.tc : Thread Cert.KernelOptConvA.nD Cert.KernelOptConvA.τ).loc Cert.KernelOptConvA.main_arg6) = m ((c.tc : Thread Cert.KernelOptConvA.nD Cert.KernelOptConvA.τ).loc Cert.KernelOptConvA.main_arg6)
      ∧ r.2.mem ((c.tc : Thread Cert.KernelOptConvA.nD Cert.KernelOptConvA.τ).loc Cert.KernelOptConvA.main_arg7) = m ((c.tc : Thread Cert.KernelOptConvA.nD Cert.KernelOptConvA.τ).loc Cert.KernelOptConvA.main_arg7))
      ∧ r.2.sem = fun _ => 0)

def quiescent_KernelOptConvAIdeal [hKernelOptConvAIdeal : Cert.KernelOptConvAIdeal.Facts] : Prop :=
  ∀ (m : (ℓ : Loc Cert.KernelOptConvAIdeal.nD Cert.KernelOptConvAIdeal.τ Cert.KernelOptConvAIdeal.sig) → Buf (Elt Ideal) ℓ) (g : Dev Cert.KernelOptConvAIdeal.nD → PrngReg), Pre_KernelOptConvAIdeal m →
    θ_run (Cert.KernelOptConvAIdeal.defs (F := Ideal)) (onTc (τ := Cert.KernelOptConvAIdeal.τ) (Cert.KernelOptConvAIdeal.main (F := Ideal))) ⟨m, fun _ => 0, g⟩ (fun r => (∀ c : Dev Cert.KernelOptConvAIdeal.nD,
      r.2.mem ((c.tc : Thread Cert.KernelOptConvAIdeal.nD Cert.KernelOptConvAIdeal.τ).loc Cert.KernelOptConvAIdeal.main_arg0) = m ((c.tc : Thread Cert.KernelOptConvAIdeal.nD Cert.KernelOptConvAIdeal.τ).loc Cert.KernelOptConvAIdeal.main_arg0)
      ∧ r.2.mem ((c.tc : Thread Cert.KernelOptConvAIdeal.nD Cert.KernelOptConvAIdeal.τ).loc Cert.KernelOptConvAIdeal.main_arg1) = m ((c.tc : Thread Cert.KernelOptConvAIdeal.nD Cert.KernelOptConvAIdeal.τ).loc Cert.KernelOptConvAIdeal.main_arg1)
      ∧ r.2.mem ((c.tc : Thread Cert.KernelOptConvAIdeal.nD Cert.KernelOptConvAIdeal.τ).loc Cert.KernelOptConvAIdeal.main_arg2) = m ((c.tc : Thread Cert.KernelOptConvAIdeal.nD Cert.KernelOptConvAIdeal.τ).loc Cert.KernelOptConvAIdeal.main_arg2)
      ∧ r.2.mem ((c.tc : Thread Cert.KernelOptConvAIdeal.nD Cert.KernelOptConvAIdeal.τ).loc Cert.KernelOptConvAIdeal.main_arg3) = m ((c.tc : Thread Cert.KernelOptConvAIdeal.nD Cert.KernelOptConvAIdeal.τ).loc Cert.KernelOptConvAIdeal.main_arg3)
      ∧ r.2.mem ((c.tc : Thread Cert.KernelOptConvAIdeal.nD Cert.KernelOptConvAIdeal.τ).loc Cert.KernelOptConvAIdeal.main_arg4) = m ((c.tc : Thread Cert.KernelOptConvAIdeal.nD Cert.KernelOptConvAIdeal.τ).loc Cert.KernelOptConvAIdeal.main_arg4)
      ∧ r.2.mem ((c.tc : Thread Cert.KernelOptConvAIdeal.nD Cert.KernelOptConvAIdeal.τ).loc Cert.KernelOptConvAIdeal.main_arg5) = m ((c.tc : Thread Cert.KernelOptConvAIdeal.nD Cert.KernelOptConvAIdeal.τ).loc Cert.KernelOptConvAIdeal.main_arg5)
      ∧ r.2.mem ((c.tc : Thread Cert.KernelOptConvAIdeal.nD Cert.KernelOptConvAIdeal.τ).loc Cert.KernelOptConvAIdeal.main_arg6) = m ((c.tc : Thread Cert.KernelOptConvAIdeal.nD Cert.KernelOptConvAIdeal.τ).loc Cert.KernelOptConvAIdeal.main_arg6)
      ∧ r.2.mem ((c.tc : Thread Cert.KernelOptConvAIdeal.nD Cert.KernelOptConvAIdeal.τ).loc Cert.KernelOptConvAIdeal.main_arg7) = m ((c.tc : Thread Cert.KernelOptConvAIdeal.nD Cert.KernelOptConvAIdeal.τ).loc Cert.KernelOptConvAIdeal.main_arg7))
      ∧ r.2.sem = fun _ => 0)

def quiescent_ReferenceOptConvAIdeal [hReferenceOptConvAIdeal : Cert.ReferenceOptConvAIdeal.Facts] : Prop :=
  ∀ (m : (ℓ : Loc Cert.ReferenceOptConvAIdeal.nD Cert.ReferenceOptConvAIdeal.τ Cert.ReferenceOptConvAIdeal.sig) → Buf (Elt Ideal) ℓ) (g : Dev Cert.ReferenceOptConvAIdeal.nD → PrngReg), Pre_ReferenceOptConvAIdeal m →
    θ_run (Cert.ReferenceOptConvAIdeal.defs (F := Ideal)) (onTc (τ := Cert.ReferenceOptConvAIdeal.τ) (Cert.ReferenceOptConvAIdeal.main (F := Ideal))) ⟨m, fun _ => 0, g⟩ (fun r => (∀ c : Dev Cert.ReferenceOptConvAIdeal.nD,
      r.2.mem ((c.tc : Thread Cert.ReferenceOptConvAIdeal.nD Cert.ReferenceOptConvAIdeal.τ).loc Cert.ReferenceOptConvAIdeal.main_arg0) = m ((c.tc : Thread Cert.ReferenceOptConvAIdeal.nD Cert.ReferenceOptConvAIdeal.τ).loc Cert.ReferenceOptConvAIdeal.main_arg0)
      ∧ r.2.mem ((c.tc : Thread Cert.ReferenceOptConvAIdeal.nD Cert.ReferenceOptConvAIdeal.τ).loc Cert.ReferenceOptConvAIdeal.main_arg1) = m ((c.tc : Thread Cert.ReferenceOptConvAIdeal.nD Cert.ReferenceOptConvAIdeal.τ).loc Cert.ReferenceOptConvAIdeal.main_arg1)
      ∧ r.2.mem ((c.tc : Thread Cert.ReferenceOptConvAIdeal.nD Cert.ReferenceOptConvAIdeal.τ).loc Cert.ReferenceOptConvAIdeal.main_arg2) = m ((c.tc : Thread Cert.ReferenceOptConvAIdeal.nD Cert.ReferenceOptConvAIdeal.τ).loc Cert.ReferenceOptConvAIdeal.main_arg2)
      ∧ r.2.mem ((c.tc : Thread Cert.ReferenceOptConvAIdeal.nD Cert.ReferenceOptConvAIdeal.τ).loc Cert.ReferenceOptConvAIdeal.main_arg3) = m ((c.tc : Thread Cert.ReferenceOptConvAIdeal.nD Cert.ReferenceOptConvAIdeal.τ).loc Cert.ReferenceOptConvAIdeal.main_arg3)
      ∧ r.2.mem ((c.tc : Thread Cert.ReferenceOptConvAIdeal.nD Cert.ReferenceOptConvAIdeal.τ).loc Cert.ReferenceOptConvAIdeal.main_arg4) = m ((c.tc : Thread Cert.ReferenceOptConvAIdeal.nD Cert.ReferenceOptConvAIdeal.τ).loc Cert.ReferenceOptConvAIdeal.main_arg4)
      ∧ r.2.mem ((c.tc : Thread Cert.ReferenceOptConvAIdeal.nD Cert.ReferenceOptConvAIdeal.τ).loc Cert.ReferenceOptConvAIdeal.main_arg5) = m ((c.tc : Thread Cert.ReferenceOptConvAIdeal.nD Cert.ReferenceOptConvAIdeal.τ).loc Cert.ReferenceOptConvAIdeal.main_arg5)
      ∧ r.2.mem ((c.tc : Thread Cert.ReferenceOptConvAIdeal.nD Cert.ReferenceOptConvAIdeal.τ).loc Cert.ReferenceOptConvAIdeal.main_arg6) = m ((c.tc : Thread Cert.ReferenceOptConvAIdeal.nD Cert.ReferenceOptConvAIdeal.τ).loc Cert.ReferenceOptConvAIdeal.main_arg6)
      ∧ r.2.mem ((c.tc : Thread Cert.ReferenceOptConvAIdeal.nD Cert.ReferenceOptConvAIdeal.τ).loc Cert.ReferenceOptConvAIdeal.main_arg7) = m ((c.tc : Thread Cert.ReferenceOptConvAIdeal.nD Cert.ReferenceOptConvAIdeal.τ).loc Cert.ReferenceOptConvAIdeal.main_arg7))
      ∧ r.2.sem = fun _ => 0)

def quiescent_KernelOptOutB [hKernelOptOutB : Cert.KernelOptOutB.Facts] : Prop :=
  ∀ (m : (ℓ : Loc Cert.KernelOptOutB.nD Cert.KernelOptOutB.τ Cert.KernelOptOutB.sig) → Buf (Elt Bits) ℓ) (g : Dev Cert.KernelOptOutB.nD → PrngReg), Pre_KernelOptOutB m →
    θ_run (Cert.KernelOptOutB.defs (F := Bits)) (onTc (τ := Cert.KernelOptOutB.τ) (Cert.KernelOptOutB.main (F := Bits))) ⟨m, fun _ => 0, g⟩ (fun r => (∀ c : Dev Cert.KernelOptOutB.nD,
      r.2.mem ((c.tc : Thread Cert.KernelOptOutB.nD Cert.KernelOptOutB.τ).loc Cert.KernelOptOutB.main_arg0) = m ((c.tc : Thread Cert.KernelOptOutB.nD Cert.KernelOptOutB.τ).loc Cert.KernelOptOutB.main_arg0)
      ∧ r.2.mem ((c.tc : Thread Cert.KernelOptOutB.nD Cert.KernelOptOutB.τ).loc Cert.KernelOptOutB.main_arg1) = m ((c.tc : Thread Cert.KernelOptOutB.nD Cert.KernelOptOutB.τ).loc Cert.KernelOptOutB.main_arg1)
      ∧ r.2.mem ((c.tc : Thread Cert.KernelOptOutB.nD Cert.KernelOptOutB.τ).loc Cert.KernelOptOutB.main_arg2) = m ((c.tc : Thread Cert.KernelOptOutB.nD Cert.KernelOptOutB.τ).loc Cert.KernelOptOutB.main_arg2)
      ∧ r.2.mem ((c.tc : Thread Cert.KernelOptOutB.nD Cert.KernelOptOutB.τ).loc Cert.KernelOptOutB.main_arg3) = m ((c.tc : Thread Cert.KernelOptOutB.nD Cert.KernelOptOutB.τ).loc Cert.KernelOptOutB.main_arg3))
      ∧ r.2.sem = fun _ => 0)

def quiescent_KernelOptOutBIdeal [hKernelOptOutBIdeal : Cert.KernelOptOutBIdeal.Facts] : Prop :=
  ∀ (m : (ℓ : Loc Cert.KernelOptOutBIdeal.nD Cert.KernelOptOutBIdeal.τ Cert.KernelOptOutBIdeal.sig) → Buf (Elt Ideal) ℓ) (g : Dev Cert.KernelOptOutBIdeal.nD → PrngReg), Pre_KernelOptOutBIdeal m →
    θ_run (Cert.KernelOptOutBIdeal.defs (F := Ideal)) (onTc (τ := Cert.KernelOptOutBIdeal.τ) (Cert.KernelOptOutBIdeal.main (F := Ideal))) ⟨m, fun _ => 0, g⟩ (fun r => (∀ c : Dev Cert.KernelOptOutBIdeal.nD,
      r.2.mem ((c.tc : Thread Cert.KernelOptOutBIdeal.nD Cert.KernelOptOutBIdeal.τ).loc Cert.KernelOptOutBIdeal.main_arg0) = m ((c.tc : Thread Cert.KernelOptOutBIdeal.nD Cert.KernelOptOutBIdeal.τ).loc Cert.KernelOptOutBIdeal.main_arg0)
      ∧ r.2.mem ((c.tc : Thread Cert.KernelOptOutBIdeal.nD Cert.KernelOptOutBIdeal.τ).loc Cert.KernelOptOutBIdeal.main_arg1) = m ((c.tc : Thread Cert.KernelOptOutBIdeal.nD Cert.KernelOptOutBIdeal.τ).loc Cert.KernelOptOutBIdeal.main_arg1)
      ∧ r.2.mem ((c.tc : Thread Cert.KernelOptOutBIdeal.nD Cert.KernelOptOutBIdeal.τ).loc Cert.KernelOptOutBIdeal.main_arg2) = m ((c.tc : Thread Cert.KernelOptOutBIdeal.nD Cert.KernelOptOutBIdeal.τ).loc Cert.KernelOptOutBIdeal.main_arg2)
      ∧ r.2.mem ((c.tc : Thread Cert.KernelOptOutBIdeal.nD Cert.KernelOptOutBIdeal.τ).loc Cert.KernelOptOutBIdeal.main_arg3) = m ((c.tc : Thread Cert.KernelOptOutBIdeal.nD Cert.KernelOptOutBIdeal.τ).loc Cert.KernelOptOutBIdeal.main_arg3))
      ∧ r.2.sem = fun _ => 0)

def quiescent_ReferenceOptOutBIdeal [hReferenceOptOutBIdeal : Cert.ReferenceOptOutBIdeal.Facts] : Prop :=
  ∀ (m : (ℓ : Loc Cert.ReferenceOptOutBIdeal.nD Cert.ReferenceOptOutBIdeal.τ Cert.ReferenceOptOutBIdeal.sig) → Buf (Elt Ideal) ℓ) (g : Dev Cert.ReferenceOptOutBIdeal.nD → PrngReg), Pre_ReferenceOptOutBIdeal m →
    θ_run (Cert.ReferenceOptOutBIdeal.defs (F := Ideal)) (onTc (τ := Cert.ReferenceOptOutBIdeal.τ) (Cert.ReferenceOptOutBIdeal.main (F := Ideal))) ⟨m, fun _ => 0, g⟩ (fun r => (∀ c : Dev Cert.ReferenceOptOutBIdeal.nD,
      r.2.mem ((c.tc : Thread Cert.ReferenceOptOutBIdeal.nD Cert.ReferenceOptOutBIdeal.τ).loc Cert.ReferenceOptOutBIdeal.main_arg0) = m ((c.tc : Thread Cert.ReferenceOptOutBIdeal.nD Cert.ReferenceOptOutBIdeal.τ).loc Cert.ReferenceOptOutBIdeal.main_arg0)
      ∧ r.2.mem ((c.tc : Thread Cert.ReferenceOptOutBIdeal.nD Cert.ReferenceOptOutBIdeal.τ).loc Cert.ReferenceOptOutBIdeal.main_arg1) = m ((c.tc : Thread Cert.ReferenceOptOutBIdeal.nD Cert.ReferenceOptOutBIdeal.τ).loc Cert.ReferenceOptOutBIdeal.main_arg1)
      ∧ r.2.mem ((c.tc : Thread Cert.ReferenceOptOutBIdeal.nD Cert.ReferenceOptOutBIdeal.τ).loc Cert.ReferenceOptOutBIdeal.main_arg2) = m ((c.tc : Thread Cert.ReferenceOptOutBIdeal.nD Cert.ReferenceOptOutBIdeal.τ).loc Cert.ReferenceOptOutBIdeal.main_arg2)
      ∧ r.2.mem ((c.tc : Thread Cert.ReferenceOptOutBIdeal.nD Cert.ReferenceOptOutBIdeal.τ).loc Cert.ReferenceOptOutBIdeal.main_arg3) = m ((c.tc : Thread Cert.ReferenceOptOutBIdeal.nD Cert.ReferenceOptOutBIdeal.τ).loc Cert.ReferenceOptOutBIdeal.main_arg3))
      ∧ r.2.sem = fun _ => 0)

def quiescent_KernelOptOutA [hKernelOptOutA : Cert.KernelOptOutA.Facts] : Prop :=
  ∀ (m : (ℓ : Loc Cert.KernelOptOutA.nD Cert.KernelOptOutA.τ Cert.KernelOptOutA.sig) → Buf (Elt Bits) ℓ) (g : Dev Cert.KernelOptOutA.nD → PrngReg), Pre_KernelOptOutA m →
    θ_run (Cert.KernelOptOutA.defs (F := Bits)) (onTc (τ := Cert.KernelOptOutA.τ) (Cert.KernelOptOutA.main (F := Bits))) ⟨m, fun _ => 0, g⟩ (fun r => (∀ c : Dev Cert.KernelOptOutA.nD,
      r.2.mem ((c.tc : Thread Cert.KernelOptOutA.nD Cert.KernelOptOutA.τ).loc Cert.KernelOptOutA.main_arg0) = m ((c.tc : Thread Cert.KernelOptOutA.nD Cert.KernelOptOutA.τ).loc Cert.KernelOptOutA.main_arg0)
      ∧ r.2.mem ((c.tc : Thread Cert.KernelOptOutA.nD Cert.KernelOptOutA.τ).loc Cert.KernelOptOutA.main_arg1) = m ((c.tc : Thread Cert.KernelOptOutA.nD Cert.KernelOptOutA.τ).loc Cert.KernelOptOutA.main_arg1)
      ∧ r.2.mem ((c.tc : Thread Cert.KernelOptOutA.nD Cert.KernelOptOutA.τ).loc Cert.KernelOptOutA.main_arg2) = m ((c.tc : Thread Cert.KernelOptOutA.nD Cert.KernelOptOutA.τ).loc Cert.KernelOptOutA.main_arg2)
      ∧ r.2.mem ((c.tc : Thread Cert.KernelOptOutA.nD Cert.KernelOptOutA.τ).loc Cert.KernelOptOutA.main_arg3) = m ((c.tc : Thread Cert.KernelOptOutA.nD Cert.KernelOptOutA.τ).loc Cert.KernelOptOutA.main_arg3)
      ∧ r.2.mem ((c.tc : Thread Cert.KernelOptOutA.nD Cert.KernelOptOutA.τ).loc Cert.KernelOptOutA.main_arg4) = m ((c.tc : Thread Cert.KernelOptOutA.nD Cert.KernelOptOutA.τ).loc Cert.KernelOptOutA.main_arg4)
      ∧ r.2.mem ((c.tc : Thread Cert.KernelOptOutA.nD Cert.KernelOptOutA.τ).loc Cert.KernelOptOutA.main_arg5) = m ((c.tc : Thread Cert.KernelOptOutA.nD Cert.KernelOptOutA.τ).loc Cert.KernelOptOutA.main_arg5)
      ∧ r.2.mem ((c.tc : Thread Cert.KernelOptOutA.nD Cert.KernelOptOutA.τ).loc Cert.KernelOptOutA.main_arg6) = m ((c.tc : Thread Cert.KernelOptOutA.nD Cert.KernelOptOutA.τ).loc Cert.KernelOptOutA.main_arg6)
      ∧ r.2.mem ((c.tc : Thread Cert.KernelOptOutA.nD Cert.KernelOptOutA.τ).loc Cert.KernelOptOutA.main_arg7) = m ((c.tc : Thread Cert.KernelOptOutA.nD Cert.KernelOptOutA.τ).loc Cert.KernelOptOutA.main_arg7))
      ∧ r.2.sem = fun _ => 0)

def quiescent_KernelOptOutAIdeal [hKernelOptOutAIdeal : Cert.KernelOptOutAIdeal.Facts] : Prop :=
  ∀ (m : (ℓ : Loc Cert.KernelOptOutAIdeal.nD Cert.KernelOptOutAIdeal.τ Cert.KernelOptOutAIdeal.sig) → Buf (Elt Ideal) ℓ) (g : Dev Cert.KernelOptOutAIdeal.nD → PrngReg), Pre_KernelOptOutAIdeal m →
    θ_run (Cert.KernelOptOutAIdeal.defs (F := Ideal)) (onTc (τ := Cert.KernelOptOutAIdeal.τ) (Cert.KernelOptOutAIdeal.main (F := Ideal))) ⟨m, fun _ => 0, g⟩ (fun r => (∀ c : Dev Cert.KernelOptOutAIdeal.nD,
      r.2.mem ((c.tc : Thread Cert.KernelOptOutAIdeal.nD Cert.KernelOptOutAIdeal.τ).loc Cert.KernelOptOutAIdeal.main_arg0) = m ((c.tc : Thread Cert.KernelOptOutAIdeal.nD Cert.KernelOptOutAIdeal.τ).loc Cert.KernelOptOutAIdeal.main_arg0)
      ∧ r.2.mem ((c.tc : Thread Cert.KernelOptOutAIdeal.nD Cert.KernelOptOutAIdeal.τ).loc Cert.KernelOptOutAIdeal.main_arg1) = m ((c.tc : Thread Cert.KernelOptOutAIdeal.nD Cert.KernelOptOutAIdeal.τ).loc Cert.KernelOptOutAIdeal.main_arg1)
      ∧ r.2.mem ((c.tc : Thread Cert.KernelOptOutAIdeal.nD Cert.KernelOptOutAIdeal.τ).loc Cert.KernelOptOutAIdeal.main_arg2) = m ((c.tc : Thread Cert.KernelOptOutAIdeal.nD Cert.KernelOptOutAIdeal.τ).loc Cert.KernelOptOutAIdeal.main_arg2)
      ∧ r.2.mem ((c.tc : Thread Cert.KernelOptOutAIdeal.nD Cert.KernelOptOutAIdeal.τ).loc Cert.KernelOptOutAIdeal.main_arg3) = m ((c.tc : Thread Cert.KernelOptOutAIdeal.nD Cert.KernelOptOutAIdeal.τ).loc Cert.KernelOptOutAIdeal.main_arg3)
      ∧ r.2.mem ((c.tc : Thread Cert.KernelOptOutAIdeal.nD Cert.KernelOptOutAIdeal.τ).loc Cert.KernelOptOutAIdeal.main_arg4) = m ((c.tc : Thread Cert.KernelOptOutAIdeal.nD Cert.KernelOptOutAIdeal.τ).loc Cert.KernelOptOutAIdeal.main_arg4)
      ∧ r.2.mem ((c.tc : Thread Cert.KernelOptOutAIdeal.nD Cert.KernelOptOutAIdeal.τ).loc Cert.KernelOptOutAIdeal.main_arg5) = m ((c.tc : Thread Cert.KernelOptOutAIdeal.nD Cert.KernelOptOutAIdeal.τ).loc Cert.KernelOptOutAIdeal.main_arg5)
      ∧ r.2.mem ((c.tc : Thread Cert.KernelOptOutAIdeal.nD Cert.KernelOptOutAIdeal.τ).loc Cert.KernelOptOutAIdeal.main_arg6) = m ((c.tc : Thread Cert.KernelOptOutAIdeal.nD Cert.KernelOptOutAIdeal.τ).loc Cert.KernelOptOutAIdeal.main_arg6)
      ∧ r.2.mem ((c.tc : Thread Cert.KernelOptOutAIdeal.nD Cert.KernelOptOutAIdeal.τ).loc Cert.KernelOptOutAIdeal.main_arg7) = m ((c.tc : Thread Cert.KernelOptOutAIdeal.nD Cert.KernelOptOutAIdeal.τ).loc Cert.KernelOptOutAIdeal.main_arg7))
      ∧ r.2.sem = fun _ => 0)

def quiescent_ReferenceOptOutAIdeal [hReferenceOptOutAIdeal : Cert.ReferenceOptOutAIdeal.Facts] : Prop :=
  ∀ (m : (ℓ : Loc Cert.ReferenceOptOutAIdeal.nD Cert.ReferenceOptOutAIdeal.τ Cert.ReferenceOptOutAIdeal.sig) → Buf (Elt Ideal) ℓ) (g : Dev Cert.ReferenceOptOutAIdeal.nD → PrngReg), Pre_ReferenceOptOutAIdeal m →
    θ_run (Cert.ReferenceOptOutAIdeal.defs (F := Ideal)) (onTc (τ := Cert.ReferenceOptOutAIdeal.τ) (Cert.ReferenceOptOutAIdeal.main (F := Ideal))) ⟨m, fun _ => 0, g⟩ (fun r => (∀ c : Dev Cert.ReferenceOptOutAIdeal.nD,
      r.2.mem ((c.tc : Thread Cert.ReferenceOptOutAIdeal.nD Cert.ReferenceOptOutAIdeal.τ).loc Cert.ReferenceOptOutAIdeal.main_arg0) = m ((c.tc : Thread Cert.ReferenceOptOutAIdeal.nD Cert.ReferenceOptOutAIdeal.τ).loc Cert.ReferenceOptOutAIdeal.main_arg0)
      ∧ r.2.mem ((c.tc : Thread Cert.ReferenceOptOutAIdeal.nD Cert.ReferenceOptOutAIdeal.τ).loc Cert.ReferenceOptOutAIdeal.main_arg1) = m ((c.tc : Thread Cert.ReferenceOptOutAIdeal.nD Cert.ReferenceOptOutAIdeal.τ).loc Cert.ReferenceOptOutAIdeal.main_arg1)
      ∧ r.2.mem ((c.tc : Thread Cert.ReferenceOptOutAIdeal.nD Cert.ReferenceOptOutAIdeal.τ).loc Cert.ReferenceOptOutAIdeal.main_arg2) = m ((c.tc : Thread Cert.ReferenceOptOutAIdeal.nD Cert.ReferenceOptOutAIdeal.τ).loc Cert.ReferenceOptOutAIdeal.main_arg2)
      ∧ r.2.mem ((c.tc : Thread Cert.ReferenceOptOutAIdeal.nD Cert.ReferenceOptOutAIdeal.τ).loc Cert.ReferenceOptOutAIdeal.main_arg3) = m ((c.tc : Thread Cert.ReferenceOptOutAIdeal.nD Cert.ReferenceOptOutAIdeal.τ).loc Cert.ReferenceOptOutAIdeal.main_arg3)
      ∧ r.2.mem ((c.tc : Thread Cert.ReferenceOptOutAIdeal.nD Cert.ReferenceOptOutAIdeal.τ).loc Cert.ReferenceOptOutAIdeal.main_arg4) = m ((c.tc : Thread Cert.ReferenceOptOutAIdeal.nD Cert.ReferenceOptOutAIdeal.τ).loc Cert.ReferenceOptOutAIdeal.main_arg4)
      ∧ r.2.mem ((c.tc : Thread Cert.ReferenceOptOutAIdeal.nD Cert.ReferenceOptOutAIdeal.τ).loc Cert.ReferenceOptOutAIdeal.main_arg5) = m ((c.tc : Thread Cert.ReferenceOptOutAIdeal.nD Cert.ReferenceOptOutAIdeal.τ).loc Cert.ReferenceOptOutAIdeal.main_arg5)
      ∧ r.2.mem ((c.tc : Thread Cert.ReferenceOptOutAIdeal.nD Cert.ReferenceOptOutAIdeal.τ).loc Cert.ReferenceOptOutAIdeal.main_arg6) = m ((c.tc : Thread Cert.ReferenceOptOutAIdeal.nD Cert.ReferenceOptOutAIdeal.τ).loc Cert.ReferenceOptOutAIdeal.main_arg6)
      ∧ r.2.mem ((c.tc : Thread Cert.ReferenceOptOutAIdeal.nD Cert.ReferenceOptOutAIdeal.τ).loc Cert.ReferenceOptOutAIdeal.main_arg7) = m ((c.tc : Thread Cert.ReferenceOptOutAIdeal.nD Cert.ReferenceOptOutAIdeal.τ).loc Cert.ReferenceOptOutAIdeal.main_arg7))
      ∧ r.2.sem = fun _ => 0)

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1))
      ∧ r.2.sem = fun _ => 0)

def quiescent_KernelWSc [hKernelWSc : Cert.KernelWSc.Facts] : Prop :=
  ∀ (m : (ℓ : Loc Cert.KernelWSc.nD Cert.KernelWSc.τ Cert.KernelWSc.sig) → Buf (Elt Bits) ℓ) (g : Dev Cert.KernelWSc.nD → PrngReg), Pre_KernelWSc m →
    θ_run (Cert.KernelWSc.defs (F := Bits)) (onTc (τ := Cert.KernelWSc.τ) (Cert.KernelWSc.main (F := Bits))) ⟨m, fun _ => 0, g⟩ (fun r => (∀ c : Dev Cert.KernelWSc.nD,
      r.2.mem ((c.tc : Thread Cert.KernelWSc.nD Cert.KernelWSc.τ).loc Cert.KernelWSc.main_arg0) = m ((c.tc : Thread Cert.KernelWSc.nD Cert.KernelWSc.τ).loc Cert.KernelWSc.main_arg0)
      ∧ r.2.mem ((c.tc : Thread Cert.KernelWSc.nD Cert.KernelWSc.τ).loc Cert.KernelWSc.main_arg1) = m ((c.tc : Thread Cert.KernelWSc.nD Cert.KernelWSc.τ).loc Cert.KernelWSc.main_arg1))
      ∧ r.2.sem = fun _ => 0)

def quiescent_KernelWScIdeal [hKernelWScIdeal : Cert.KernelWScIdeal.Facts] : Prop :=
  ∀ (m : (ℓ : Loc Cert.KernelWScIdeal.nD Cert.KernelWScIdeal.τ Cert.KernelWScIdeal.sig) → Buf (Elt Ideal) ℓ) (g : Dev Cert.KernelWScIdeal.nD → PrngReg), Pre_KernelWScIdeal m →
    θ_run (Cert.KernelWScIdeal.defs (F := Ideal)) (onTc (τ := Cert.KernelWScIdeal.τ) (Cert.KernelWScIdeal.main (F := Ideal))) ⟨m, fun _ => 0, g⟩ (fun r => (∀ c : Dev Cert.KernelWScIdeal.nD,
      r.2.mem ((c.tc : Thread Cert.KernelWScIdeal.nD Cert.KernelWScIdeal.τ).loc Cert.KernelWScIdeal.main_arg0) = m ((c.tc : Thread Cert.KernelWScIdeal.nD Cert.KernelWScIdeal.τ).loc Cert.KernelWScIdeal.main_arg0)
      ∧ r.2.mem ((c.tc : Thread Cert.KernelWScIdeal.nD Cert.KernelWScIdeal.τ).loc Cert.KernelWScIdeal.main_arg1) = m ((c.tc : Thread Cert.KernelWScIdeal.nD Cert.KernelWScIdeal.τ).loc Cert.KernelWScIdeal.main_arg1))
      ∧ r.2.sem = fun _ => 0)

def quiescent_ReferenceWScIdeal [hReferenceWScIdeal : Cert.ReferenceWScIdeal.Facts] : Prop :=
  ∀ (m : (ℓ : Loc Cert.ReferenceWScIdeal.nD Cert.ReferenceWScIdeal.τ Cert.ReferenceWScIdeal.sig) → Buf (Elt Ideal) ℓ) (g : Dev Cert.ReferenceWScIdeal.nD → PrngReg), Pre_ReferenceWScIdeal m →
    θ_run (Cert.ReferenceWScIdeal.defs (F := Ideal)) (onTc (τ := Cert.ReferenceWScIdeal.τ) (Cert.ReferenceWScIdeal.main (F := Ideal))) ⟨m, fun _ => 0, g⟩ (fun r => (∀ c : Dev Cert.ReferenceWScIdeal.nD,
      r.2.mem ((c.tc : Thread Cert.ReferenceWScIdeal.nD Cert.ReferenceWScIdeal.τ).loc Cert.ReferenceWScIdeal.main_arg0) = m ((c.tc : Thread Cert.ReferenceWScIdeal.nD Cert.ReferenceWScIdeal.τ).loc Cert.ReferenceWScIdeal.main_arg0)
      ∧ r.2.mem ((c.tc : Thread Cert.ReferenceWScIdeal.nD Cert.ReferenceWScIdeal.τ).loc Cert.ReferenceWScIdeal.main_arg1) = m ((c.tc : Thread Cert.ReferenceWScIdeal.nD Cert.ReferenceWScIdeal.τ).loc Cert.ReferenceWScIdeal.main_arg1))
      ∧ r.2.sem = fun _ => 0)

def quiescent_KernelWSb [hKernelWSb : Cert.KernelWSb.Facts] : Prop :=
  ∀ (m : (ℓ : Loc Cert.KernelWSb.nD Cert.KernelWSb.τ Cert.KernelWSb.sig) → Buf (Elt Bits) ℓ) (g : Dev Cert.KernelWSb.nD → PrngReg), Pre_KernelWSb m →
    θ_run (Cert.KernelWSb.defs (F := Bits)) (onTc (τ := Cert.KernelWSb.τ) (Cert.KernelWSb.main (F := Bits))) ⟨m, fun _ => 0, g⟩ (fun r => (∀ c : Dev Cert.KernelWSb.nD,
      r.2.mem ((c.tc : Thread Cert.KernelWSb.nD Cert.KernelWSb.τ).loc Cert.KernelWSb.main_arg0) = m ((c.tc : Thread Cert.KernelWSb.nD Cert.KernelWSb.τ).loc Cert.KernelWSb.main_arg0)
      ∧ r.2.mem ((c.tc : Thread Cert.KernelWSb.nD Cert.KernelWSb.τ).loc Cert.KernelWSb.main_arg1) = m ((c.tc : Thread Cert.KernelWSb.nD Cert.KernelWSb.τ).loc Cert.KernelWSb.main_arg1))
      ∧ r.2.sem = fun _ => 0)

def quiescent_KernelWSbIdeal [hKernelWSbIdeal : Cert.KernelWSbIdeal.Facts] : Prop :=
  ∀ (m : (ℓ : Loc Cert.KernelWSbIdeal.nD Cert.KernelWSbIdeal.τ Cert.KernelWSbIdeal.sig) → Buf (Elt Ideal) ℓ) (g : Dev Cert.KernelWSbIdeal.nD → PrngReg), Pre_KernelWSbIdeal m →
    θ_run (Cert.KernelWSbIdeal.defs (F := Ideal)) (onTc (τ := Cert.KernelWSbIdeal.τ) (Cert.KernelWSbIdeal.main (F := Ideal))) ⟨m, fun _ => 0, g⟩ (fun r => (∀ c : Dev Cert.KernelWSbIdeal.nD,
      r.2.mem ((c.tc : Thread Cert.KernelWSbIdeal.nD Cert.KernelWSbIdeal.τ).loc Cert.KernelWSbIdeal.main_arg0) = m ((c.tc : Thread Cert.KernelWSbIdeal.nD Cert.KernelWSbIdeal.τ).loc Cert.KernelWSbIdeal.main_arg0)
      ∧ r.2.mem ((c.tc : Thread Cert.KernelWSbIdeal.nD Cert.KernelWSbIdeal.τ).loc Cert.KernelWSbIdeal.main_arg1) = m ((c.tc : Thread Cert.KernelWSbIdeal.nD Cert.KernelWSbIdeal.τ).loc Cert.KernelWSbIdeal.main_arg1))
      ∧ r.2.sem = fun _ => 0)

def quiescent_ReferenceWSbIdeal [hReferenceWSbIdeal : Cert.ReferenceWSbIdeal.Facts] : Prop :=
  ∀ (m : (ℓ : Loc Cert.ReferenceWSbIdeal.nD Cert.ReferenceWSbIdeal.τ Cert.ReferenceWSbIdeal.sig) → Buf (Elt Ideal) ℓ) (g : Dev Cert.ReferenceWSbIdeal.nD → PrngReg), Pre_ReferenceWSbIdeal m →
    θ_run (Cert.ReferenceWSbIdeal.defs (F := Ideal)) (onTc (τ := Cert.ReferenceWSbIdeal.τ) (Cert.ReferenceWSbIdeal.main (F := Ideal))) ⟨m, fun _ => 0, g⟩ (fun r => (∀ c : Dev Cert.ReferenceWSbIdeal.nD,
      r.2.mem ((c.tc : Thread Cert.ReferenceWSbIdeal.nD Cert.ReferenceWSbIdeal.τ).loc Cert.ReferenceWSbIdeal.main_arg0) = m ((c.tc : Thread Cert.ReferenceWSbIdeal.nD Cert.ReferenceWSbIdeal.τ).loc Cert.ReferenceWSbIdeal.main_arg0)
      ∧ r.2.mem ((c.tc : Thread Cert.ReferenceWSbIdeal.nD Cert.ReferenceWSbIdeal.τ).loc Cert.ReferenceWSbIdeal.main_arg1) = m ((c.tc : Thread Cert.ReferenceWSbIdeal.nD Cert.ReferenceWSbIdeal.τ).loc Cert.ReferenceWSbIdeal.main_arg1))
      ∧ r.2.sem = fun _ => 0)

def quiescent_KernelConvF [hKernelConvF : Cert.KernelConvF.Facts] : Prop :=
  ∀ (m : (ℓ : Loc Cert.KernelConvF.nD Cert.KernelConvF.τ Cert.KernelConvF.sig) → Buf (Elt Bits) ℓ) (g : Dev Cert.KernelConvF.nD → PrngReg), Pre_KernelConvF m →
    θ_run (Cert.KernelConvF.defs (F := Bits)) (onTc (τ := Cert.KernelConvF.τ) (Cert.KernelConvF.main (F := Bits))) ⟨m, fun _ => 0, g⟩ (fun r => (∀ c : Dev Cert.KernelConvF.nD,
      r.2.mem ((c.tc : Thread Cert.KernelConvF.nD Cert.KernelConvF.τ).loc Cert.KernelConvF.main_arg0) = m ((c.tc : Thread Cert.KernelConvF.nD Cert.KernelConvF.τ).loc Cert.KernelConvF.main_arg0)
      ∧ r.2.mem ((c.tc : Thread Cert.KernelConvF.nD Cert.KernelConvF.τ).loc Cert.KernelConvF.main_arg1) = m ((c.tc : Thread Cert.KernelConvF.nD Cert.KernelConvF.τ).loc Cert.KernelConvF.main_arg1)
      ∧ r.2.mem ((c.tc : Thread Cert.KernelConvF.nD Cert.KernelConvF.τ).loc Cert.KernelConvF.main_arg2) = m ((c.tc : Thread Cert.KernelConvF.nD Cert.KernelConvF.τ).loc Cert.KernelConvF.main_arg2)
      ∧ r.2.mem ((c.tc : Thread Cert.KernelConvF.nD Cert.KernelConvF.τ).loc Cert.KernelConvF.main_arg3) = m ((c.tc : Thread Cert.KernelConvF.nD Cert.KernelConvF.τ).loc Cert.KernelConvF.main_arg3)
      ∧ r.2.mem ((c.tc : Thread Cert.KernelConvF.nD Cert.KernelConvF.τ).loc Cert.KernelConvF.main_arg4) = m ((c.tc : Thread Cert.KernelConvF.nD Cert.KernelConvF.τ).loc Cert.KernelConvF.main_arg4))
      ∧ r.2.sem = fun _ => 0)

def quiescent_KernelConvFIdeal [hKernelConvFIdeal : Cert.KernelConvFIdeal.Facts] : Prop :=
  ∀ (m : (ℓ : Loc Cert.KernelConvFIdeal.nD Cert.KernelConvFIdeal.τ Cert.KernelConvFIdeal.sig) → Buf (Elt Ideal) ℓ) (g : Dev Cert.KernelConvFIdeal.nD → PrngReg), Pre_KernelConvFIdeal m →
    θ_run (Cert.KernelConvFIdeal.defs (F := Ideal)) (onTc (τ := Cert.KernelConvFIdeal.τ) (Cert.KernelConvFIdeal.main (F := Ideal))) ⟨m, fun _ => 0, g⟩ (fun r => (∀ c : Dev Cert.KernelConvFIdeal.nD,
      r.2.mem ((c.tc : Thread Cert.KernelConvFIdeal.nD Cert.KernelConvFIdeal.τ).loc Cert.KernelConvFIdeal.main_arg0) = m ((c.tc : Thread Cert.KernelConvFIdeal.nD Cert.KernelConvFIdeal.τ).loc Cert.KernelConvFIdeal.main_arg0)
      ∧ r.2.mem ((c.tc : Thread Cert.KernelConvFIdeal.nD Cert.KernelConvFIdeal.τ).loc Cert.KernelConvFIdeal.main_arg1) = m ((c.tc : Thread Cert.KernelConvFIdeal.nD Cert.KernelConvFIdeal.τ).loc Cert.KernelConvFIdeal.main_arg1)
      ∧ r.2.mem ((c.tc : Thread Cert.KernelConvFIdeal.nD Cert.KernelConvFIdeal.τ).loc Cert.KernelConvFIdeal.main_arg2) = m ((c.tc : Thread Cert.KernelConvFIdeal.nD Cert.KernelConvFIdeal.τ).loc Cert.KernelConvFIdeal.main_arg2)
      ∧ r.2.mem ((c.tc : Thread Cert.KernelConvFIdeal.nD Cert.KernelConvFIdeal.τ).loc Cert.KernelConvFIdeal.main_arg3) = m ((c.tc : Thread Cert.KernelConvFIdeal.nD Cert.KernelConvFIdeal.τ).loc Cert.KernelConvFIdeal.main_arg3)
      ∧ r.2.mem ((c.tc : Thread Cert.KernelConvFIdeal.nD Cert.KernelConvFIdeal.τ).loc Cert.KernelConvFIdeal.main_arg4) = m ((c.tc : Thread Cert.KernelConvFIdeal.nD Cert.KernelConvFIdeal.τ).loc Cert.KernelConvFIdeal.main_arg4))
      ∧ r.2.sem = fun _ => 0)

def quiescent_ReferenceConvFIdeal [hReferenceConvFIdeal : Cert.ReferenceConvFIdeal.Facts] : Prop :=
  ∀ (m : (ℓ : Loc Cert.ReferenceConvFIdeal.nD Cert.ReferenceConvFIdeal.τ Cert.ReferenceConvFIdeal.sig) → Buf (Elt Ideal) ℓ) (g : Dev Cert.ReferenceConvFIdeal.nD → PrngReg), Pre_ReferenceConvFIdeal m →
    θ_run (Cert.ReferenceConvFIdeal.defs (F := Ideal)) (onTc (τ := Cert.ReferenceConvFIdeal.τ) (Cert.ReferenceConvFIdeal.main (F := Ideal))) ⟨m, fun _ => 0, g⟩ (fun r => (∀ c : Dev Cert.ReferenceConvFIdeal.nD,
      r.2.mem ((c.tc : Thread Cert.ReferenceConvFIdeal.nD Cert.ReferenceConvFIdeal.τ).loc Cert.ReferenceConvFIdeal.main_arg0) = m ((c.tc : Thread Cert.ReferenceConvFIdeal.nD Cert.ReferenceConvFIdeal.τ).loc Cert.ReferenceConvFIdeal.main_arg0)
      ∧ r.2.mem ((c.tc : Thread Cert.ReferenceConvFIdeal.nD Cert.ReferenceConvFIdeal.τ).loc Cert.ReferenceConvFIdeal.main_arg1) = m ((c.tc : Thread Cert.ReferenceConvFIdeal.nD Cert.ReferenceConvFIdeal.τ).loc Cert.ReferenceConvFIdeal.main_arg1)
      ∧ r.2.mem ((c.tc : Thread Cert.ReferenceConvFIdeal.nD Cert.ReferenceConvFIdeal.τ).loc Cert.ReferenceConvFIdeal.main_arg2) = m ((c.tc : Thread Cert.ReferenceConvFIdeal.nD Cert.ReferenceConvFIdeal.τ).loc Cert.ReferenceConvFIdeal.main_arg2)
      ∧ r.2.mem ((c.tc : Thread Cert.ReferenceConvFIdeal.nD Cert.ReferenceConvFIdeal.τ).loc Cert.ReferenceConvFIdeal.main_arg3) = m ((c.tc : Thread Cert.ReferenceConvFIdeal.nD Cert.ReferenceConvFIdeal.τ).loc Cert.ReferenceConvFIdeal.main_arg3)
      ∧ r.2.mem ((c.tc : Thread Cert.ReferenceConvFIdeal.nD Cert.ReferenceConvFIdeal.τ).loc Cert.ReferenceConvFIdeal.main_arg4) = m ((c.tc : Thread Cert.ReferenceConvFIdeal.nD Cert.ReferenceConvFIdeal.τ).loc Cert.ReferenceConvFIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_v46) = v4 c
          ∧ r.2.mem ((c.tc : Thread Cert.ReferenceIdeal.nD Cert.ReferenceIdeal.τ).loc Cert.ReferenceIdeal.main_v51) = v5 c
          ∧ r.2.mem ((c.tc : Thread Cert.ReferenceIdeal.nD Cert.ReferenceIdeal.τ).loc Cert.ReferenceIdeal.main_v52) = v6 c
          ∧ r.2.mem ((c.tc : Thread Cert.ReferenceIdeal.nD Cert.ReferenceIdeal.τ).loc Cert.ReferenceIdeal.main_v53) = v7 c
          ∧ r.2.mem ((c.tc : Thread Cert.ReferenceIdeal.nD Cert.ReferenceIdeal.τ).loc Cert.ReferenceIdeal.main_v54) = v8 c
          ∧ r.2.mem ((c.tc : Thread Cert.ReferenceIdeal.nD Cert.ReferenceIdeal.τ).loc Cert.ReferenceIdeal.main_v55) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelWOut_KernelWOutIdeal : Prop :=
  True

def algebraic_KernelWOutIdeal_ReferenceWOutIdeal [hKernelWOutIdeal : Cert.KernelWOutIdeal.Facts] [hReferenceWOutIdeal : Cert.ReferenceWOutIdeal.Facts] : Prop :=
  ∀ (m : (ℓ : Loc Cert.KernelWOutIdeal.nD Cert.KernelWOutIdeal.τ Cert.KernelWOutIdeal.sig) → Buf (Elt Ideal) ℓ) (g : Dev Cert.KernelWOutIdeal.nD → PrngReg)
    (m' : (ℓ : Loc Cert.ReferenceWOutIdeal.nD Cert.ReferenceWOutIdeal.τ Cert.ReferenceWOutIdeal.sig) → Buf (Elt Ideal) ℓ) (g' : Dev Cert.ReferenceWOutIdeal.nD → PrngReg), Pre_KernelWOutIdeal m →
    (∀ c : Dev Cert.KernelWOutIdeal.nD,
      m' ((c.tc : Thread Cert.ReferenceWOutIdeal.nD Cert.ReferenceWOutIdeal.τ).loc Cert.ReferenceWOutIdeal.main_arg0) = m ((c.tc : Thread Cert.KernelWOutIdeal.nD Cert.KernelWOutIdeal.τ).loc Cert.KernelWOutIdeal.main_arg0)
      ∧ m' ((c.tc : Thread Cert.ReferenceWOutIdeal.nD Cert.ReferenceWOutIdeal.τ).loc Cert.ReferenceWOutIdeal.main_arg1) = m ((c.tc : Thread Cert.KernelWOutIdeal.nD Cert.KernelWOutIdeal.τ).loc Cert.KernelWOutIdeal.main_arg1)) →
    ∃ (v0 : (c : Dev Cert.KernelWOutIdeal.nD) → Buf (Elt Ideal) ((c.tc : Thread Cert.KernelWOutIdeal.nD Cert.KernelWOutIdeal.τ).loc Cert.KernelWOutIdeal.main_v2)),
      θ_run (Cert.KernelWOutIdeal.defs (F := Ideal)) (onTc (τ := Cert.KernelWOutIdeal.τ) (Cert.KernelWOutIdeal.main (F := Ideal))) ⟨m, fun _ => 0, g⟩ (fun r => ∀ c : Dev Cert.KernelWOutIdeal.nD,
          r.2.mem ((c.tc : Thread Cert.KernelWOutIdeal.nD Cert.KernelWOutIdeal.τ).loc Cert.KernelWOutIdeal.main_v2) = v0 c
          ∧ r.2.mem ((c.tc : Thread Cert.KernelWOutIdeal.nD Cert.KernelWOutIdeal.τ).loc Cert.KernelWOutIdeal.main_arg0) = m ((c.tc : Thread Cert.KernelWOutIdeal.nD Cert.KernelWOutIdeal.τ).loc Cert.KernelWOutIdeal.main_arg0)
          ∧ r.2.mem ((c.tc : Thread Cert.KernelWOutIdeal.nD Cert.KernelWOutIdeal.τ).loc Cert.KernelWOutIdeal.main_arg1) = m ((c.tc : Thread Cert.KernelWOutIdeal.nD Cert.KernelWOutIdeal.τ).loc Cert.KernelWOutIdeal.main_arg1))
      ∧ θ_run (Cert.ReferenceWOutIdeal.defs (F := Ideal)) (onTc (τ := Cert.ReferenceWOutIdeal.τ) (Cert.ReferenceWOutIdeal.main (F := Ideal))) ⟨m', fun _ => 0, g'⟩ (fun r => ∀ c : Dev Cert.ReferenceWOutIdeal.nD,
          r.2.mem ((c.tc : Thread Cert.ReferenceWOutIdeal.nD Cert.ReferenceWOutIdeal.τ).loc Cert.ReferenceWOutIdeal.main_v7) = v0 c
          ∧ r.2.mem ((c.tc : Thread Cert.ReferenceWOutIdeal.nD Cert.ReferenceWOutIdeal.τ).loc Cert.ReferenceWOutIdeal.main_arg0) = m' ((c.tc : Thread Cert.ReferenceWOutIdeal.nD Cert.ReferenceWOutIdeal.τ).loc Cert.ReferenceWOutIdeal.main_arg0)
          ∧ r.2.mem ((c.tc : Thread Cert.ReferenceWOutIdeal.nD Cert.ReferenceWOutIdeal.τ).loc Cert.ReferenceWOutIdeal.main_arg1) = m' ((c.tc : Thread Cert.ReferenceWOutIdeal.nD Cert.ReferenceWOutIdeal.τ).loc Cert.ReferenceWOutIdeal.main_arg1))

def preserves_KernelWIn_KernelWInIdeal : Prop :=
  True

def algebraic_KernelWInIdeal_ReferenceWInIdeal [hKernelWInIdeal : Cert.KernelWInIdeal.Facts] [hReferenceWInIdeal : Cert.ReferenceWInIdeal.Facts] : Prop :=
  ∀ (m : (ℓ : Loc Cert.KernelWInIdeal.nD Cert.KernelWInIdeal.τ Cert.KernelWInIdeal.sig) → Buf (Elt Ideal) ℓ) (g : Dev Cert.KernelWInIdeal.nD → PrngReg)
    (m' : (ℓ : Loc Cert.ReferenceWInIdeal.nD Cert.ReferenceWInIdeal.τ Cert.ReferenceWInIdeal.sig) → Buf (Elt Ideal) ℓ) (g' : Dev Cert.ReferenceWInIdeal.nD → PrngReg), Pre_KernelWInIdeal m →
    (∀ c : Dev Cert.KernelWInIdeal.nD,
      m' ((c.tc : Thread Cert.ReferenceWInIdeal.nD Cert.ReferenceWInIdeal.τ).loc Cert.ReferenceWInIdeal.main_arg0) = m ((c.tc : Thread Cert.KernelWInIdeal.nD Cert.KernelWInIdeal.τ).loc Cert.KernelWInIdeal.main_arg0)
      ∧ m' ((c.tc : Thread Cert.ReferenceWInIdeal.nD Cert.ReferenceWInIdeal.τ).loc Cert.ReferenceWInIdeal.main_arg1) = m ((c.tc : Thread Cert.KernelWInIdeal.nD Cert.KernelWInIdeal.τ).loc Cert.KernelWInIdeal.main_arg1)) →
    ∃ (v0 : (c : Dev Cert.KernelWInIdeal.nD) → Buf (Elt Ideal) ((c.tc : Thread Cert.KernelWInIdeal.nD Cert.KernelWInIdeal.τ).loc Cert.KernelWInIdeal.main_v2)),
      θ_run (Cert.KernelWInIdeal.defs (F := Ideal)) (onTc (τ := Cert.KernelWInIdeal.τ) (Cert.KernelWInIdeal.main (F := Ideal))) ⟨m, fun _ => 0, g⟩ (fun r => ∀ c : Dev Cert.KernelWInIdeal.nD,
          r.2.mem ((c.tc : Thread Cert.KernelWInIdeal.nD Cert.KernelWInIdeal.τ).loc Cert.KernelWInIdeal.main_v2) = v0 c
          ∧ r.2.mem ((c.tc : Thread Cert.KernelWInIdeal.nD Cert.KernelWInIdeal.τ).loc Cert.KernelWInIdeal.main_arg0) = m ((c.tc : Thread Cert.KernelWInIdeal.nD Cert.KernelWInIdeal.τ).loc Cert.KernelWInIdeal.main_arg0)
          ∧ r.2.mem ((c.tc : Thread Cert.KernelWInIdeal.nD Cert.KernelWInIdeal.τ).loc Cert.KernelWInIdeal.main_arg1) = m ((c.tc : Thread Cert.KernelWInIdeal.nD Cert.KernelWInIdeal.τ).loc Cert.KernelWInIdeal.main_arg1))
      ∧ θ_run (Cert.ReferenceWInIdeal.defs (F := Ideal)) (onTc (τ := Cert.ReferenceWInIdeal.τ) (Cert.ReferenceWInIdeal.main (F := Ideal))) ⟨m', fun _ => 0, g'⟩ (fun r => ∀ c : Dev Cert.ReferenceWInIdeal.nD,
          r.2.mem ((c.tc : Thread Cert.ReferenceWInIdeal.nD Cert.ReferenceWInIdeal.τ).loc Cert.ReferenceWInIdeal.main_v7) = v0 c
          ∧ r.2.mem ((c.tc : Thread Cert.ReferenceWInIdeal.nD Cert.ReferenceWInIdeal.τ).loc Cert.ReferenceWInIdeal.main_arg0) = m' ((c.tc : Thread Cert.ReferenceWInIdeal.nD Cert.ReferenceWInIdeal.τ).loc Cert.ReferenceWInIdeal.main_arg0)
          ∧ r.2.mem ((c.tc : Thread Cert.ReferenceWInIdeal.nD Cert.ReferenceWInIdeal.τ).loc Cert.ReferenceWInIdeal.main_arg1) = m' ((c.tc : Thread Cert.ReferenceWInIdeal.nD Cert.ReferenceWInIdeal.τ).loc Cert.ReferenceWInIdeal.main_arg1))

def preserves_KernelWDown_KernelWDownIdeal : Prop :=
  True

def algebraic_KernelWDownIdeal_ReferenceWDownIdeal [hKernelWDownIdeal : Cert.KernelWDownIdeal.Facts] [hReferenceWDownIdeal : Cert.ReferenceWDownIdeal.Facts] : Prop :=
  ∀ (m : (ℓ : Loc Cert.KernelWDownIdeal.nD Cert.KernelWDownIdeal.τ Cert.KernelWDownIdeal.sig) → Buf (Elt Ideal) ℓ) (g : Dev Cert.KernelWDownIdeal.nD → PrngReg)
    (m' : (ℓ : Loc Cert.ReferenceWDownIdeal.nD Cert.ReferenceWDownIdeal.τ Cert.ReferenceWDownIdeal.sig) → Buf (Elt Ideal) ℓ) (g' : Dev Cert.ReferenceWDownIdeal.nD → PrngReg), Pre_KernelWDownIdeal m →
    (∀ c : Dev Cert.KernelWDownIdeal.nD,
      m' ((c.tc : Thread Cert.ReferenceWDownIdeal.nD Cert.ReferenceWDownIdeal.τ).loc Cert.ReferenceWDownIdeal.main_arg0) = m ((c.tc : Thread Cert.KernelWDownIdeal.nD Cert.KernelWDownIdeal.τ).loc Cert.KernelWDownIdeal.main_arg0)
      ∧ m' ((c.tc : Thread Cert.ReferenceWDownIdeal.nD Cert.ReferenceWDownIdeal.τ).loc Cert.ReferenceWDownIdeal.main_arg1) = m ((c.tc : Thread Cert.KernelWDownIdeal.nD Cert.KernelWDownIdeal.τ).loc Cert.KernelWDownIdeal.main_arg1)) →
    ∃ (v0 : (c : Dev Cert.KernelWDownIdeal.nD) → Buf (Elt Ideal) ((c.tc : Thread Cert.KernelWDownIdeal.nD Cert.KernelWDownIdeal.τ).loc Cert.KernelWDownIdeal.main_v1)),
      θ_run (Cert.KernelWDownIdeal.defs (F := Ideal)) (onTc (τ := Cert.KernelWDownIdeal.τ) (Cert.KernelWDownIdeal.main (F := Ideal))) ⟨m, fun _ => 0, g⟩ (fun r => ∀ c : Dev Cert.KernelWDownIdeal.nD,
          r.2.mem ((c.tc : Thread Cert.KernelWDownIdeal.nD Cert.KernelWDownIdeal.τ).loc Cert.KernelWDownIdeal.main_v1) = v0 c
          ∧ r.2.mem ((c.tc : Thread Cert.KernelWDownIdeal.nD Cert.KernelWDownIdeal.τ).loc Cert.KernelWDownIdeal.main_arg0) = m ((c.tc : Thread Cert.KernelWDownIdeal.nD Cert.KernelWDownIdeal.τ).loc Cert.KernelWDownIdeal.main_arg0)
          ∧ r.2.mem ((c.tc : Thread Cert.KernelWDownIdeal.nD Cert.KernelWDownIdeal.τ).loc Cert.KernelWDownIdeal.main_arg1) = m ((c.tc : Thread Cert.KernelWDownIdeal.nD Cert.KernelWDownIdeal.τ).loc Cert.KernelWDownIdeal.main_arg1))
      ∧ θ_run (Cert.ReferenceWDownIdeal.defs (F := Ideal)) (onTc (τ := Cert.ReferenceWDownIdeal.τ) (Cert.ReferenceWDownIdeal.main (F := Ideal))) ⟨m', fun _ => 0, g'⟩ (fun r => ∀ c : Dev Cert.ReferenceWDownIdeal.nD,
          r.2.mem ((c.tc : Thread Cert.ReferenceWDownIdeal.nD Cert.ReferenceWDownIdeal.τ).loc Cert.ReferenceWDownIdeal.main_v7) = v0 c
          ∧ r.2.mem ((c.tc : Thread Cert.ReferenceWDownIdeal.nD Cert.ReferenceWDownIdeal.τ).loc Cert.ReferenceWDownIdeal.main_arg0) = m' ((c.tc : Thread Cert.ReferenceWDownIdeal.nD Cert.ReferenceWDownIdeal.τ).loc Cert.ReferenceWDownIdeal.main_arg0)
          ∧ r.2.mem ((c.tc : Thread Cert.ReferenceWDownIdeal.nD Cert.ReferenceWDownIdeal.τ).loc Cert.ReferenceWDownIdeal.main_arg1) = m' ((c.tc : Thread Cert.ReferenceWDownIdeal.nD Cert.ReferenceWDownIdeal.τ).loc Cert.ReferenceWDownIdeal.main_arg1))

def preserves_KernelWUpA_KernelWUpAIdeal : Prop :=
  True

def algebraic_KernelWUpAIdeal_ReferenceWUpAIdeal [hKernelWUpAIdeal : Cert.KernelWUpAIdeal.Facts] [hReferenceWUpAIdeal : Cert.ReferenceWUpAIdeal.Facts] : Prop :=
  ∀ (m : (ℓ : Loc Cert.KernelWUpAIdeal.nD Cert.KernelWUpAIdeal.τ Cert.KernelWUpAIdeal.sig) → Buf (Elt Ideal) ℓ) (g : Dev Cert.KernelWUpAIdeal.nD → PrngReg)
    (m' : (ℓ : Loc Cert.ReferenceWUpAIdeal.nD Cert.ReferenceWUpAIdeal.τ Cert.ReferenceWUpAIdeal.sig) → Buf (Elt Ideal) ℓ) (g' : Dev Cert.ReferenceWUpAIdeal.nD → PrngReg), Pre_KernelWUpAIdeal m →
    (∀ c : Dev Cert.KernelWUpAIdeal.nD,
      m' ((c.tc : Thread Cert.ReferenceWUpAIdeal.nD Cert.ReferenceWUpAIdeal.τ).loc Cert.ReferenceWUpAIdeal.main_arg0) = m ((c.tc : Thread Cert.KernelWUpAIdeal.nD Cert.KernelWUpAIdeal.τ).loc Cert.KernelWUpAIdeal.main_arg0)
      ∧ m' ((c.tc : Thread Cert.ReferenceWUpAIdeal.nD Cert.ReferenceWUpAIdeal.τ).loc Cert.ReferenceWUpAIdeal.main_arg1) = m ((c.tc : Thread Cert.KernelWUpAIdeal.nD Cert.KernelWUpAIdeal.τ).loc Cert.KernelWUpAIdeal.main_arg1)) →
    ∃ (v0 : (c : Dev Cert.KernelWUpAIdeal.nD) → Buf (Elt Ideal) ((c.tc : Thread Cert.KernelWUpAIdeal.nD Cert.KernelWUpAIdeal.τ).loc Cert.KernelWUpAIdeal.main_v2)),
      θ_run (Cert.KernelWUpAIdeal.defs (F := Ideal)) (onTc (τ := Cert.KernelWUpAIdeal.τ) (Cert.KernelWUpAIdeal.main (F := Ideal))) ⟨m, fun _ => 0, g⟩ (fun r => ∀ c : Dev Cert.KernelWUpAIdeal.nD,
          r.2.mem ((c.tc : Thread Cert.KernelWUpAIdeal.nD Cert.KernelWUpAIdeal.τ).loc Cert.KernelWUpAIdeal.main_v2) = v0 c
          ∧ r.2.mem ((c.tc : Thread Cert.KernelWUpAIdeal.nD Cert.KernelWUpAIdeal.τ).loc Cert.KernelWUpAIdeal.main_arg0) = m ((c.tc : Thread Cert.KernelWUpAIdeal.nD Cert.KernelWUpAIdeal.τ).loc Cert.KernelWUpAIdeal.main_arg0)
          ∧ r.2.mem ((c.tc : Thread Cert.KernelWUpAIdeal.nD Cert.KernelWUpAIdeal.τ).loc Cert.KernelWUpAIdeal.main_arg1) = m ((c.tc : Thread Cert.KernelWUpAIdeal.nD Cert.KernelWUpAIdeal.τ).loc Cert.KernelWUpAIdeal.main_arg1))
      ∧ θ_run (Cert.ReferenceWUpAIdeal.defs (F := Ideal)) (onTc (τ := Cert.ReferenceWUpAIdeal.τ) (Cert.ReferenceWUpAIdeal.main (F := Ideal))) ⟨m', fun _ => 0, g'⟩ (fun r => ∀ c : Dev Cert.ReferenceWUpAIdeal.nD,
          r.2.mem ((c.tc : Thread Cert.ReferenceWUpAIdeal.nD Cert.ReferenceWUpAIdeal.τ).loc Cert.ReferenceWUpAIdeal.main_v9) = v0 c
          ∧ r.2.mem ((c.tc : Thread Cert.ReferenceWUpAIdeal.nD Cert.ReferenceWUpAIdeal.τ).loc Cert.ReferenceWUpAIdeal.main_arg0) = m' ((c.tc : Thread Cert.ReferenceWUpAIdeal.nD Cert.ReferenceWUpAIdeal.τ).loc Cert.ReferenceWUpAIdeal.main_arg0)
          ∧ r.2.mem ((c.tc : Thread Cert.ReferenceWUpAIdeal.nD Cert.ReferenceWUpAIdeal.τ).loc Cert.ReferenceWUpAIdeal.main_arg1) = m' ((c.tc : Thread Cert.ReferenceWUpAIdeal.nD Cert.ReferenceWUpAIdeal.τ).loc Cert.ReferenceWUpAIdeal.main_arg1))

def preserves_KernelWUpB_KernelWUpBIdeal : Prop :=
  True

def algebraic_KernelWUpBIdeal_ReferenceWUpBIdeal [hKernelWUpBIdeal : Cert.KernelWUpBIdeal.Facts] [hReferenceWUpBIdeal : Cert.ReferenceWUpBIdeal.Facts] : Prop :=
  ∀ (m : (ℓ : Loc Cert.KernelWUpBIdeal.nD Cert.KernelWUpBIdeal.τ Cert.KernelWUpBIdeal.sig) → Buf (Elt Ideal) ℓ) (g : Dev Cert.KernelWUpBIdeal.nD → PrngReg)
    (m' : (ℓ : Loc Cert.ReferenceWUpBIdeal.nD Cert.ReferenceWUpBIdeal.τ Cert.ReferenceWUpBIdeal.sig) → Buf (Elt Ideal) ℓ) (g' : Dev Cert.ReferenceWUpBIdeal.nD → PrngReg), Pre_KernelWUpBIdeal m →
    (∀ c : Dev Cert.KernelWUpBIdeal.nD,
      m' ((c.tc : Thread Cert.ReferenceWUpBIdeal.nD Cert.ReferenceWUpBIdeal.τ).loc Cert.ReferenceWUpBIdeal.main_arg0) = m ((c.tc : Thread Cert.KernelWUpBIdeal.nD Cert.KernelWUpBIdeal.τ).loc Cert.KernelWUpBIdeal.main_arg0)
      ∧ m' ((c.tc : Thread Cert.ReferenceWUpBIdeal.nD Cert.ReferenceWUpBIdeal.τ).loc Cert.ReferenceWUpBIdeal.main_arg1) = m ((c.tc : Thread Cert.KernelWUpBIdeal.nD Cert.KernelWUpBIdeal.τ).loc Cert.KernelWUpBIdeal.main_arg1)
      ∧ m' ((c.tc : Thread Cert.ReferenceWUpBIdeal.nD Cert.ReferenceWUpBIdeal.τ).loc Cert.ReferenceWUpBIdeal.main_arg2) = m ((c.tc : Thread Cert.KernelWUpBIdeal.nD Cert.KernelWUpBIdeal.τ).loc Cert.KernelWUpBIdeal.main_arg2)) →
    ∃ (v0 : (c : Dev Cert.KernelWUpBIdeal.nD) → Buf (Elt Ideal) ((c.tc : Thread Cert.KernelWUpBIdeal.nD Cert.KernelWUpBIdeal.τ).loc Cert.KernelWUpBIdeal.main_v1)),
      θ_run (Cert.KernelWUpBIdeal.defs (F := Ideal)) (onTc (τ := Cert.KernelWUpBIdeal.τ) (Cert.KernelWUpBIdeal.main (F := Ideal))) ⟨m, fun _ => 0, g⟩ (fun r => ∀ c : Dev Cert.KernelWUpBIdeal.nD,
          r.2.mem ((c.tc : Thread Cert.KernelWUpBIdeal.nD Cert.KernelWUpBIdeal.τ).loc Cert.KernelWUpBIdeal.main_v1) = v0 c
          ∧ r.2.mem ((c.tc : Thread Cert.KernelWUpBIdeal.nD Cert.KernelWUpBIdeal.τ).loc Cert.KernelWUpBIdeal.main_arg0) = m ((c.tc : Thread Cert.KernelWUpBIdeal.nD Cert.KernelWUpBIdeal.τ).loc Cert.KernelWUpBIdeal.main_arg0)
          ∧ r.2.mem ((c.tc : Thread Cert.KernelWUpBIdeal.nD Cert.KernelWUpBIdeal.τ).loc Cert.KernelWUpBIdeal.main_arg1) = m ((c.tc : Thread Cert.KernelWUpBIdeal.nD Cert.KernelWUpBIdeal.τ).loc Cert.KernelWUpBIdeal.main_arg1)
          ∧ r.2.mem ((c.tc : Thread Cert.KernelWUpBIdeal.nD Cert.KernelWUpBIdeal.τ).loc Cert.KernelWUpBIdeal.main_arg2) = m ((c.tc : Thread Cert.KernelWUpBIdeal.nD Cert.KernelWUpBIdeal.τ).loc Cert.KernelWUpBIdeal.main_arg2))
      ∧ θ_run (Cert.ReferenceWUpBIdeal.defs (F := Ideal)) (onTc (τ := Cert.ReferenceWUpBIdeal.τ) (Cert.ReferenceWUpBIdeal.main (F := Ideal))) ⟨m', fun _ => 0, g'⟩ (fun r => ∀ c : Dev Cert.ReferenceWUpBIdeal.nD,
          r.2.mem ((c.tc : Thread Cert.ReferenceWUpBIdeal.nD Cert.ReferenceWUpBIdeal.τ).loc Cert.ReferenceWUpBIdeal.main_v11) = v0 c
          ∧ r.2.mem ((c.tc : Thread Cert.ReferenceWUpBIdeal.nD Cert.ReferenceWUpBIdeal.τ).loc Cert.ReferenceWUpBIdeal.main_arg0) = m' ((c.tc : Thread Cert.ReferenceWUpBIdeal.nD Cert.ReferenceWUpBIdeal.τ).loc Cert.ReferenceWUpBIdeal.main_arg0)
          ∧ r.2.mem ((c.tc : Thread Cert.ReferenceWUpBIdeal.nD Cert.ReferenceWUpBIdeal.τ).loc Cert.ReferenceWUpBIdeal.main_arg1) = m' ((c.tc : Thread Cert.ReferenceWUpBIdeal.nD Cert.ReferenceWUpBIdeal.τ).loc Cert.ReferenceWUpBIdeal.main_arg1)
          ∧ r.2.mem ((c.tc : Thread Cert.ReferenceWUpBIdeal.nD Cert.ReferenceWUpBIdeal.τ).loc Cert.ReferenceWUpBIdeal.main_arg2) = m' ((c.tc : Thread Cert.ReferenceWUpBIdeal.nD Cert.ReferenceWUpBIdeal.τ).loc Cert.ReferenceWUpBIdeal.main_arg2))

def preserves_KernelWBr_KernelWBrIdeal : Prop :=
  True

def algebraic_KernelWBrIdeal_ReferenceWBrIdeal [hKernelWBrIdeal : Cert.KernelWBrIdeal.Facts] [hReferenceWBrIdeal : Cert.ReferenceWBrIdeal.Facts] : Prop :=
  ∀ (m : (ℓ : Loc Cert.KernelWBrIdeal.nD Cert.KernelWBrIdeal.τ Cert.KernelWBrIdeal.sig) → Buf (Elt Ideal) ℓ) (g : Dev Cert.KernelWBrIdeal.nD → PrngReg)
    (m' : (ℓ : Loc Cert.ReferenceWBrIdeal.nD Cert.ReferenceWBrIdeal.τ Cert.ReferenceWBrIdeal.sig) → Buf (Elt Ideal) ℓ) (g' : Dev Cert.ReferenceWBrIdeal.nD → PrngReg), Pre_KernelWBrIdeal m →
    (∀ c : Dev Cert.KernelWBrIdeal.nD,
      m' ((c.tc : Thread Cert.ReferenceWBrIdeal.nD Cert.ReferenceWBrIdeal.τ).loc Cert.ReferenceWBrIdeal.main_arg0) = m ((c.tc : Thread Cert.KernelWBrIdeal.nD Cert.KernelWBrIdeal.τ).loc Cert.KernelWBrIdeal.main_arg0)
      ∧ m' ((c.tc : Thread Cert.ReferenceWBrIdeal.nD Cert.ReferenceWBrIdeal.τ).loc Cert.ReferenceWBrIdeal.main_arg1) = m ((c.tc : Thread Cert.KernelWBrIdeal.nD Cert.KernelWBrIdeal.τ).loc Cert.KernelWBrIdeal.main_arg1)) →
    ∃ (v0 : (c : Dev Cert.KernelWBrIdeal.nD) → Buf (Elt Ideal) ((c.tc : Thread Cert.KernelWBrIdeal.nD Cert.KernelWBrIdeal.τ).loc Cert.KernelWBrIdeal.main_v2)),
      θ_run (Cert.KernelWBrIdeal.defs (F := Ideal)) (onTc (τ := Cert.KernelWBrIdeal.τ) (Cert.KernelWBrIdeal.main (F := Ideal))) ⟨m, fun _ => 0, g⟩ (fun r => ∀ c : Dev Cert.KernelWBrIdeal.nD,
          r.2.mem ((c.tc : Thread Cert.KernelWBrIdeal.nD Cert.KernelWBrIdeal.τ).loc Cert.KernelWBrIdeal.main_v2) = v0 c
          ∧ r.2.mem ((c.tc : Thread Cert.KernelWBrIdeal.nD Cert.KernelWBrIdeal.τ).loc Cert.KernelWBrIdeal.main_arg0) = m ((c.tc : Thread Cert.KernelWBrIdeal.nD Cert.KernelWBrIdeal.τ).loc Cert.KernelWBrIdeal.main_arg0)
          ∧ r.2.mem ((c.tc : Thread Cert.KernelWBrIdeal.nD Cert.KernelWBrIdeal.τ).loc Cert.KernelWBrIdeal.main_arg1) = m ((c.tc : Thread Cert.KernelWBrIdeal.nD Cert.KernelWBrIdeal.τ).loc Cert.KernelWBrIdeal.main_arg1))
      ∧ θ_run (Cert.ReferenceWBrIdeal.defs (F := Ideal)) (onTc (τ := Cert.ReferenceWBrIdeal.τ) (Cert.ReferenceWBrIdeal.main (F := Ideal))) ⟨m', fun _ => 0, g'⟩ (fun r => ∀ c : Dev Cert.ReferenceWBrIdeal.nD,
          r.2.mem ((c.tc : Thread Cert.ReferenceWBrIdeal.nD Cert.ReferenceWBrIdeal.τ).loc Cert.ReferenceWBrIdeal.main_v8) = v0 c
          ∧ r.2.mem ((c.tc : Thread Cert.ReferenceWBrIdeal.nD Cert.ReferenceWBrIdeal.τ).loc Cert.ReferenceWBrIdeal.main_arg0) = m' ((c.tc : Thread Cert.ReferenceWBrIdeal.nD Cert.ReferenceWBrIdeal.τ).loc Cert.ReferenceWBrIdeal.main_arg0)
          ∧ r.2.mem ((c.tc : Thread Cert.ReferenceWBrIdeal.nD Cert.ReferenceWBrIdeal.τ).loc Cert.ReferenceWBrIdeal.main_arg1) = m' ((c.tc : Thread Cert.ReferenceWBrIdeal.nD Cert.ReferenceWBrIdeal.τ).loc Cert.ReferenceWBrIdeal.main_arg1))

def preserves_KernelWAttn_KernelWAttnIdeal : Prop :=
  True

def algebraic_KernelWAttnIdeal_ReferenceWAttnIdeal [hKernelWAttnIdeal : Cert.KernelWAttnIdeal.Facts] [hReferenceWAttnIdeal : Cert.ReferenceWAttnIdeal.Facts] : Prop :=
  ∀ (m : (ℓ : Loc Cert.KernelWAttnIdeal.nD Cert.KernelWAttnIdeal.τ Cert.KernelWAttnIdeal.sig) → Buf (Elt Ideal) ℓ) (g : Dev Cert.KernelWAttnIdeal.nD → PrngReg)
    (m' : (ℓ : Loc Cert.ReferenceWAttnIdeal.nD Cert.ReferenceWAttnIdeal.τ Cert.ReferenceWAttnIdeal.sig) → Buf (Elt Ideal) ℓ) (g' : Dev Cert.ReferenceWAttnIdeal.nD → PrngReg), Pre_KernelWAttnIdeal m →
    (∀ c : Dev Cert.KernelWAttnIdeal.nD,
      m' ((c.tc : Thread Cert.ReferenceWAttnIdeal.nD Cert.ReferenceWAttnIdeal.τ).loc Cert.ReferenceWAttnIdeal.main_arg0) = m ((c.tc : Thread Cert.KernelWAttnIdeal.nD Cert.KernelWAttnIdeal.τ).loc Cert.KernelWAttnIdeal.main_arg0)
      ∧ m' ((c.tc : Thread Cert.ReferenceWAttnIdeal.nD Cert.ReferenceWAttnIdeal.τ).loc Cert.ReferenceWAttnIdeal.main_arg1) = m ((c.tc : Thread Cert.KernelWAttnIdeal.nD Cert.KernelWAttnIdeal.τ).loc Cert.KernelWAttnIdeal.main_arg1)) →
    ∃ (v0 : (c : Dev Cert.KernelWAttnIdeal.nD) → Buf (Elt Ideal) ((c.tc : Thread Cert.KernelWAttnIdeal.nD Cert.KernelWAttnIdeal.τ).loc Cert.KernelWAttnIdeal.main_v2)),
      θ_run (Cert.KernelWAttnIdeal.defs (F := Ideal)) (onTc (τ := Cert.KernelWAttnIdeal.τ) (Cert.KernelWAttnIdeal.main (F := Ideal))) ⟨m, fun _ => 0, g⟩ (fun r => ∀ c : Dev Cert.KernelWAttnIdeal.nD,
          r.2.mem ((c.tc : Thread Cert.KernelWAttnIdeal.nD Cert.KernelWAttnIdeal.τ).loc Cert.KernelWAttnIdeal.main_v2) = v0 c
          ∧ r.2.mem ((c.tc : Thread Cert.KernelWAttnIdeal.nD Cert.KernelWAttnIdeal.τ).loc Cert.KernelWAttnIdeal.main_arg0) = m ((c.tc : Thread Cert.KernelWAttnIdeal.nD Cert.KernelWAttnIdeal.τ).loc Cert.KernelWAttnIdeal.main_arg0)
          ∧ r.2.mem ((c.tc : Thread Cert.KernelWAttnIdeal.nD Cert.KernelWAttnIdeal.τ).loc Cert.KernelWAttnIdeal.main_arg1) = m ((c.tc : Thread Cert.KernelWAttnIdeal.nD Cert.KernelWAttnIdeal.τ).loc Cert.KernelWAttnIdeal.main_arg1))
      ∧ θ_run (Cert.ReferenceWAttnIdeal.defs (F := Ideal)) (onTc (τ := Cert.ReferenceWAttnIdeal.τ) (Cert.ReferenceWAttnIdeal.main (F := Ideal))) ⟨m', fun _ => 0, g'⟩ (fun r => ∀ c : Dev Cert.ReferenceWAttnIdeal.nD,
          r.2.mem ((c.tc : Thread Cert.ReferenceWAttnIdeal.nD Cert.ReferenceWAttnIdeal.τ).loc Cert.ReferenceWAttnIdeal.main_v8) = v0 c
          ∧ r.2.mem ((c.tc : Thread Cert.ReferenceWAttnIdeal.nD Cert.ReferenceWAttnIdeal.τ).loc Cert.ReferenceWAttnIdeal.main_arg0) = m' ((c.tc : Thread Cert.ReferenceWAttnIdeal.nD Cert.ReferenceWAttnIdeal.τ).loc Cert.ReferenceWAttnIdeal.main_arg0)
          ∧ r.2.mem ((c.tc : Thread Cert.ReferenceWAttnIdeal.nD Cert.ReferenceWAttnIdeal.τ).loc Cert.ReferenceWAttnIdeal.main_arg1) = m' ((c.tc : Thread Cert.ReferenceWAttnIdeal.nD Cert.ReferenceWAttnIdeal.τ).loc Cert.ReferenceWAttnIdeal.main_arg1))

def preserves_KernelWGlu_KernelWGluIdeal : Prop :=
  True

def algebraic_KernelWGluIdeal_ReferenceWGluIdeal [hKernelWGluIdeal : Cert.KernelWGluIdeal.Facts] [hReferenceWGluIdeal : Cert.ReferenceWGluIdeal.Facts] : Prop :=
  ∀ (m : (ℓ : Loc Cert.KernelWGluIdeal.nD Cert.KernelWGluIdeal.τ Cert.KernelWGluIdeal.sig) → Buf (Elt Ideal) ℓ) (g : Dev Cert.KernelWGluIdeal.nD → PrngReg)
    (m' : (ℓ : Loc Cert.ReferenceWGluIdeal.nD Cert.ReferenceWGluIdeal.τ Cert.ReferenceWGluIdeal.sig) → Buf (Elt Ideal) ℓ) (g' : Dev Cert.ReferenceWGluIdeal.nD → PrngReg), Pre_KernelWGluIdeal m →
    (∀ c : Dev Cert.KernelWGluIdeal.nD,
      m' ((c.tc : Thread Cert.ReferenceWGluIdeal.nD Cert.ReferenceWGluIdeal.τ).loc Cert.ReferenceWGluIdeal.main_arg0) = m ((c.tc : Thread Cert.KernelWGluIdeal.nD Cert.KernelWGluIdeal.τ).loc Cert.KernelWGluIdeal.main_arg0)
      ∧ m' ((c.tc : Thread Cert.ReferenceWGluIdeal.nD Cert.ReferenceWGluIdeal.τ).loc Cert.ReferenceWGluIdeal.main_arg1) = m ((c.tc : Thread Cert.KernelWGluIdeal.nD Cert.KernelWGluIdeal.τ).loc Cert.KernelWGluIdeal.main_arg1)) →
    ∃ (v0 : (c : Dev Cert.KernelWGluIdeal.nD) → Buf (Elt Ideal) ((c.tc : Thread Cert.KernelWGluIdeal.nD Cert.KernelWGluIdeal.τ).loc Cert.KernelWGluIdeal.main_v2)),
      θ_run (Cert.KernelWGluIdeal.defs (F := Ideal)) (onTc (τ := Cert.KernelWGluIdeal.τ) (Cert.KernelWGluIdeal.main (F := Ideal))) ⟨m, fun _ => 0, g⟩ (fun r => ∀ c : Dev Cert.KernelWGluIdeal.nD,
          r.2.mem ((c.tc : Thread Cert.KernelWGluIdeal.nD Cert.KernelWGluIdeal.τ).loc Cert.KernelWGluIdeal.main_v2) = v0 c
          ∧ r.2.mem ((c.tc : Thread Cert.KernelWGluIdeal.nD Cert.KernelWGluIdeal.τ).loc Cert.KernelWGluIdeal.main_arg0) = m ((c.tc : Thread Cert.KernelWGluIdeal.nD Cert.KernelWGluIdeal.τ).loc Cert.KernelWGluIdeal.main_arg0)
          ∧ r.2.mem ((c.tc : Thread Cert.KernelWGluIdeal.nD Cert.KernelWGluIdeal.τ).loc Cert.KernelWGluIdeal.main_arg1) = m ((c.tc : Thread Cert.KernelWGluIdeal.nD Cert.KernelWGluIdeal.τ).loc Cert.KernelWGluIdeal.main_arg1))
      ∧ θ_run (Cert.ReferenceWGluIdeal.defs (F := Ideal)) (onTc (τ := Cert.ReferenceWGluIdeal.τ) (Cert.ReferenceWGluIdeal.main (F := Ideal))) ⟨m', fun _ => 0, g'⟩ (fun r => ∀ c : Dev Cert.ReferenceWGluIdeal.nD,
          r.2.mem ((c.tc : Thread Cert.ReferenceWGluIdeal.nD Cert.ReferenceWGluIdeal.τ).loc Cert.ReferenceWGluIdeal.main_v7) = v0 c
          ∧ r.2.mem ((c.tc : Thread Cert.ReferenceWGluIdeal.nD Cert.ReferenceWGluIdeal.τ).loc Cert.ReferenceWGluIdeal.main_arg0) = m' ((c.tc : Thread Cert.ReferenceWGluIdeal.nD Cert.ReferenceWGluIdeal.τ).loc Cert.ReferenceWGluIdeal.main_arg0)
          ∧ r.2.mem ((c.tc : Thread Cert.ReferenceWGluIdeal.nD Cert.ReferenceWGluIdeal.τ).loc Cert.ReferenceWGluIdeal.main_arg1) = m' ((c.tc : Thread Cert.ReferenceWGluIdeal.nD Cert.ReferenceWGluIdeal.τ).loc Cert.ReferenceWGluIdeal.main_arg1))

def preserves_KernelFfnA_KernelFfnAIdeal : Prop :=
  True

def algebraic_KernelFfnAIdeal_ReferenceFfnAIdeal [hKernelFfnAIdeal : Cert.KernelFfnAIdeal.Facts] [hReferenceFfnAIdeal : Cert.ReferenceFfnAIdeal.Facts] : Prop :=
  ∀ (m : (ℓ : Loc Cert.KernelFfnAIdeal.nD Cert.KernelFfnAIdeal.τ Cert.KernelFfnAIdeal.sig) → Buf (Elt Ideal) ℓ) (g : Dev Cert.KernelFfnAIdeal.nD → PrngReg)
    (m' : (ℓ : Loc Cert.ReferenceFfnAIdeal.nD Cert.ReferenceFfnAIdeal.τ Cert.ReferenceFfnAIdeal.sig) → Buf (Elt Ideal) ℓ) (g' : Dev Cert.ReferenceFfnAIdeal.nD → PrngReg), Pre_KernelFfnAIdeal m →
    (∀ c : Dev Cert.KernelFfnAIdeal.nD,
      m' ((c.tc : Thread Cert.ReferenceFfnAIdeal.nD Cert.ReferenceFfnAIdeal.τ).loc Cert.ReferenceFfnAIdeal.main_arg0) = m ((c.tc : Thread Cert.KernelFfnAIdeal.nD Cert.KernelFfnAIdeal.τ).loc Cert.KernelFfnAIdeal.main_arg0)
      ∧ m' ((c.tc : Thread Cert.ReferenceFfnAIdeal.nD Cert.ReferenceFfnAIdeal.τ).loc Cert.ReferenceFfnAIdeal.main_arg1) = m ((c.tc : Thread Cert.KernelFfnAIdeal.nD Cert.KernelFfnAIdeal.τ).loc Cert.KernelFfnAIdeal.main_arg1)
      ∧ m' ((c.tc : Thread Cert.ReferenceFfnAIdeal.nD Cert.ReferenceFfnAIdeal.τ).loc Cert.ReferenceFfnAIdeal.main_arg2) = m ((c.tc : Thread Cert.KernelFfnAIdeal.nD Cert.KernelFfnAIdeal.τ).loc Cert.KernelFfnAIdeal.main_arg2)
      ∧ m' ((c.tc : Thread Cert.ReferenceFfnAIdeal.nD Cert.ReferenceFfnAIdeal.τ).loc Cert.ReferenceFfnAIdeal.main_arg3) = m ((c.tc : Thread Cert.KernelFfnAIdeal.nD Cert.KernelFfnAIdeal.τ).loc Cert.KernelFfnAIdeal.main_arg3)) →
    ∃ (v0 : (c : Dev Cert.KernelFfnAIdeal.nD) → Buf (Elt Ideal) ((c.tc : Thread Cert.KernelFfnAIdeal.nD Cert.KernelFfnAIdeal.τ).loc Cert.KernelFfnAIdeal.main_v0_0)) (v1 : (c : Dev Cert.KernelFfnAIdeal.nD) → Buf (Elt Ideal) ((c.tc : Thread Cert.KernelFfnAIdeal.nD Cert.KernelFfnAIdeal.τ).loc Cert.KernelFfnAIdeal.main_v0_1)) (v2 : (c : Dev Cert.KernelFfnAIdeal.nD) → Buf (Elt Ideal) ((c.tc : Thread Cert.KernelFfnAIdeal.nD Cert.KernelFfnAIdeal.τ).loc Cert.KernelFfnAIdeal.main_v0_2)),
      θ_run (Cert.KernelFfnAIdeal.defs (F := Ideal)) (onTc (τ := Cert.KernelFfnAIdeal.τ) (Cert.KernelFfnAIdeal.main (F := Ideal))) ⟨m, fun _ => 0, g⟩ (fun r => ∀ c : Dev Cert.KernelFfnAIdeal.nD,
          r.2.mem ((c.tc : Thread Cert.KernelFfnAIdeal.nD Cert.KernelFfnAIdeal.τ).loc Cert.KernelFfnAIdeal.main_v0_0) = v0 c
          ∧ r.2.mem ((c.tc : Thread Cert.KernelFfnAIdeal.nD Cert.KernelFfnAIdeal.τ).loc Cert.KernelFfnAIdeal.main_v0_1) = v1 c
          ∧ r.2.mem ((c.tc : Thread Cert.KernelFfnAIdeal.nD Cert.KernelFfnAIdeal.τ).loc Cert.KernelFfnAIdeal.main_v0_2) = v2 c
          ∧ r.2.mem ((c.tc : Thread Cert.KernelFfnAIdeal.nD Cert.KernelFfnAIdeal.τ).loc Cert.KernelFfnAIdeal.main_arg0) = m ((c.tc : Thread Cert.KernelFfnAIdeal.nD Cert.KernelFfnAIdeal.τ).loc Cert.KernelFfnAIdeal.main_arg0)
          ∧ r.2.mem ((c.tc : Thread Cert.KernelFfnAIdeal.nD Cert.KernelFfnAIdeal.τ).loc Cert.KernelFfnAIdeal.main_arg1) = m ((c.tc : Thread Cert.KernelFfnAIdeal.nD Cert.KernelFfnAIdeal.τ).loc Cert.KernelFfnAIdeal.main_arg1)
          ∧ r.2.mem ((c.tc : Thread Cert.KernelFfnAIdeal.nD Cert.KernelFfnAIdeal.τ).loc Cert.KernelFfnAIdeal.main_arg2) = m ((c.tc : Thread Cert.KernelFfnAIdeal.nD Cert.KernelFfnAIdeal.τ).loc Cert.KernelFfnAIdeal.main_arg2)
          ∧ r.2.mem ((c.tc : Thread Cert.KernelFfnAIdeal.nD Cert.KernelFfnAIdeal.τ).loc Cert.KernelFfnAIdeal.main_arg3) = m ((c.tc : Thread Cert.KernelFfnAIdeal.nD Cert.KernelFfnAIdeal.τ).loc Cert.KernelFfnAIdeal.main_arg3))
      ∧ θ_run (Cert.ReferenceFfnAIdeal.defs (F := Ideal)) (onTc (τ := Cert.ReferenceFfnAIdeal.τ) (Cert.ReferenceFfnAIdeal.main (F := Ideal))) ⟨m', fun _ => 0, g'⟩ (fun r => ∀ c : Dev Cert.ReferenceFfnAIdeal.nD,
          r.2.mem ((c.tc : Thread Cert.ReferenceFfnAIdeal.nD Cert.ReferenceFfnAIdeal.τ).loc Cert.ReferenceFfnAIdeal.main_v26) = v0 c
          ∧ r.2.mem ((c.tc : Thread Cert.ReferenceFfnAIdeal.nD Cert.ReferenceFfnAIdeal.τ).loc Cert.ReferenceFfnAIdeal.main_v29) = v1 c
          ∧ r.2.mem ((c.tc : Thread Cert.ReferenceFfnAIdeal.nD Cert.ReferenceFfnAIdeal.τ).loc Cert.ReferenceFfnAIdeal.main_v32) = v2 c
          ∧ r.2.mem ((c.tc : Thread Cert.ReferenceFfnAIdeal.nD Cert.ReferenceFfnAIdeal.τ).loc Cert.ReferenceFfnAIdeal.main_arg0) = m' ((c.tc : Thread Cert.ReferenceFfnAIdeal.nD Cert.ReferenceFfnAIdeal.τ).loc Cert.ReferenceFfnAIdeal.main_arg0)
          ∧ r.2.mem ((c.tc : Thread Cert.ReferenceFfnAIdeal.nD Cert.ReferenceFfnAIdeal.τ).loc Cert.ReferenceFfnAIdeal.main_arg1) = m' ((c.tc : Thread Cert.ReferenceFfnAIdeal.nD Cert.ReferenceFfnAIdeal.τ).loc Cert.ReferenceFfnAIdeal.main_arg1)
          ∧ r.2.mem ((c.tc : Thread Cert.ReferenceFfnAIdeal.nD Cert.ReferenceFfnAIdeal.τ).loc Cert.ReferenceFfnAIdeal.main_arg2) = m' ((c.tc : Thread Cert.ReferenceFfnAIdeal.nD Cert.ReferenceFfnAIdeal.τ).loc Cert.ReferenceFfnAIdeal.main_arg2)
          ∧ r.2.mem ((c.tc : Thread Cert.ReferenceFfnAIdeal.nD Cert.ReferenceFfnAIdeal.τ).loc Cert.ReferenceFfnAIdeal.main_arg3) = m' ((c.tc : Thread Cert.ReferenceFfnAIdeal.nD Cert.ReferenceFfnAIdeal.τ).loc Cert.ReferenceFfnAIdeal.main_arg3))

def preserves_KernelFfnB_KernelFfnBIdeal : Prop :=
  True

def algebraic_KernelFfnBIdeal_ReferenceFfnBIdeal [hKernelFfnBIdeal : Cert.KernelFfnBIdeal.Facts] [hReferenceFfnBIdeal : Cert.ReferenceFfnBIdeal.Facts] : Prop :=
  ∀ (m : (ℓ : Loc Cert.KernelFfnBIdeal.nD Cert.KernelFfnBIdeal.τ Cert.KernelFfnBIdeal.sig) → Buf (Elt Ideal) ℓ) (g : Dev Cert.KernelFfnBIdeal.nD → PrngReg)
    (m' : (ℓ : Loc Cert.ReferenceFfnBIdeal.nD Cert.ReferenceFfnBIdeal.τ Cert.ReferenceFfnBIdeal.sig) → Buf (Elt Ideal) ℓ) (g' : Dev Cert.ReferenceFfnBIdeal.nD → PrngReg), Pre_KernelFfnBIdeal m →
    (∀ c : Dev Cert.KernelFfnBIdeal.nD,
      m' ((c.tc : Thread Cert.ReferenceFfnBIdeal.nD Cert.ReferenceFfnBIdeal.τ).loc Cert.ReferenceFfnBIdeal.main_arg0) = m ((c.tc : Thread Cert.KernelFfnBIdeal.nD Cert.KernelFfnBIdeal.τ).loc Cert.KernelFfnBIdeal.main_arg0)
      ∧ m' ((c.tc : Thread Cert.ReferenceFfnBIdeal.nD Cert.ReferenceFfnBIdeal.τ).loc Cert.ReferenceFfnBIdeal.main_arg1) = m ((c.tc : Thread Cert.KernelFfnBIdeal.nD Cert.KernelFfnBIdeal.τ).loc Cert.KernelFfnBIdeal.main_arg1)
      ∧ m' ((c.tc : Thread Cert.ReferenceFfnBIdeal.nD Cert.ReferenceFfnBIdeal.τ).loc Cert.ReferenceFfnBIdeal.main_arg2) = m ((c.tc : Thread Cert.KernelFfnBIdeal.nD Cert.KernelFfnBIdeal.τ).loc Cert.KernelFfnBIdeal.main_arg2)
      ∧ m' ((c.tc : Thread Cert.ReferenceFfnBIdeal.nD Cert.ReferenceFfnBIdeal.τ).loc Cert.ReferenceFfnBIdeal.main_arg3) = m ((c.tc : Thread Cert.KernelFfnBIdeal.nD Cert.KernelFfnBIdeal.τ).loc Cert.KernelFfnBIdeal.main_arg3)) →
    ∃ (v0 : (c : Dev Cert.KernelFfnBIdeal.nD) → Buf (Elt Ideal) ((c.tc : Thread Cert.KernelFfnBIdeal.nD Cert.KernelFfnBIdeal.τ).loc Cert.KernelFfnBIdeal.main_v0_0)) (v1 : (c : Dev Cert.KernelFfnBIdeal.nD) → Buf (Elt Ideal) ((c.tc : Thread Cert.KernelFfnBIdeal.nD Cert.KernelFfnBIdeal.τ).loc Cert.KernelFfnBIdeal.main_v0_1)) (v2 : (c : Dev Cert.KernelFfnBIdeal.nD) → Buf (Elt Ideal) ((c.tc : Thread Cert.KernelFfnBIdeal.nD Cert.KernelFfnBIdeal.τ).loc Cert.KernelFfnBIdeal.main_v0_2)),
      θ_run (Cert.KernelFfnBIdeal.defs (F := Ideal)) (onTc (τ := Cert.KernelFfnBIdeal.τ) (Cert.KernelFfnBIdeal.main (F := Ideal))) ⟨m, fun _ => 0, g⟩ (fun r => ∀ c : Dev Cert.KernelFfnBIdeal.nD,
          r.2.mem ((c.tc : Thread Cert.KernelFfnBIdeal.nD Cert.KernelFfnBIdeal.τ).loc Cert.KernelFfnBIdeal.main_v0_0) = v0 c
          ∧ r.2.mem ((c.tc : Thread Cert.KernelFfnBIdeal.nD Cert.KernelFfnBIdeal.τ).loc Cert.KernelFfnBIdeal.main_v0_1) = v1 c
          ∧ r.2.mem ((c.tc : Thread Cert.KernelFfnBIdeal.nD Cert.KernelFfnBIdeal.τ).loc Cert.KernelFfnBIdeal.main_v0_2) = v2 c
          ∧ r.2.mem ((c.tc : Thread Cert.KernelFfnBIdeal.nD Cert.KernelFfnBIdeal.τ).loc Cert.KernelFfnBIdeal.main_arg0) = m ((c.tc : Thread Cert.KernelFfnBIdeal.nD Cert.KernelFfnBIdeal.τ).loc Cert.KernelFfnBIdeal.main_arg0)
          ∧ r.2.mem ((c.tc : Thread Cert.KernelFfnBIdeal.nD Cert.KernelFfnBIdeal.τ).loc Cert.KernelFfnBIdeal.main_arg1) = m ((c.tc : Thread Cert.KernelFfnBIdeal.nD Cert.KernelFfnBIdeal.τ).loc Cert.KernelFfnBIdeal.main_arg1)
          ∧ r.2.mem ((c.tc : Thread Cert.KernelFfnBIdeal.nD Cert.KernelFfnBIdeal.τ).loc Cert.KernelFfnBIdeal.main_arg2) = m ((c.tc : Thread Cert.KernelFfnBIdeal.nD Cert.KernelFfnBIdeal.τ).loc Cert.KernelFfnBIdeal.main_arg2)
          ∧ r.2.mem ((c.tc : Thread Cert.KernelFfnBIdeal.nD Cert.KernelFfnBIdeal.τ).loc Cert.KernelFfnBIdeal.main_arg3) = m ((c.tc : Thread Cert.KernelFfnBIdeal.nD Cert.KernelFfnBIdeal.τ).loc Cert.KernelFfnBIdeal.main_arg3))
      ∧ θ_run (Cert.ReferenceFfnBIdeal.defs (F := Ideal)) (onTc (τ := Cert.ReferenceFfnBIdeal.τ) (Cert.ReferenceFfnBIdeal.main (F := Ideal))) ⟨m', fun _ => 0, g'⟩ (fun r => ∀ c : Dev Cert.ReferenceFfnBIdeal.nD,
          r.2.mem ((c.tc : Thread Cert.ReferenceFfnBIdeal.nD Cert.ReferenceFfnBIdeal.τ).loc Cert.ReferenceFfnBIdeal.main_v28) = v0 c
          ∧ r.2.mem ((c.tc : Thread Cert.ReferenceFfnBIdeal.nD Cert.ReferenceFfnBIdeal.τ).loc Cert.ReferenceFfnBIdeal.main_v31) = v1 c
          ∧ r.2.mem ((c.tc : Thread Cert.ReferenceFfnBIdeal.nD Cert.ReferenceFfnBIdeal.τ).loc Cert.ReferenceFfnBIdeal.main_v34) = v2 c
          ∧ r.2.mem ((c.tc : Thread Cert.ReferenceFfnBIdeal.nD Cert.ReferenceFfnBIdeal.τ).loc Cert.ReferenceFfnBIdeal.main_arg0) = m' ((c.tc : Thread Cert.ReferenceFfnBIdeal.nD Cert.ReferenceFfnBIdeal.τ).loc Cert.ReferenceFfnBIdeal.main_arg0)
          ∧ r.2.mem ((c.tc : Thread Cert.ReferenceFfnBIdeal.nD Cert.ReferenceFfnBIdeal.τ).loc Cert.ReferenceFfnBIdeal.main_arg1) = m' ((c.tc : Thread Cert.ReferenceFfnBIdeal.nD Cert.ReferenceFfnBIdeal.τ).loc Cert.ReferenceFfnBIdeal.main_arg1)
          ∧ r.2.mem ((c.tc : Thread Cert.ReferenceFfnBIdeal.nD Cert.ReferenceFfnBIdeal.τ).loc Cert.ReferenceFfnBIdeal.main_arg2) = m' ((c.tc : Thread Cert.ReferenceFfnBIdeal.nD Cert.ReferenceFfnBIdeal.τ).loc Cert.ReferenceFfnBIdeal.main_arg2)
          ∧ r.2.mem ((c.tc : Thread Cert.ReferenceFfnBIdeal.nD Cert.ReferenceFfnBIdeal.τ).loc Cert.ReferenceFfnBIdeal.main_arg3) = m' ((c.tc : Thread Cert.ReferenceFfnBIdeal.nD Cert.ReferenceFfnBIdeal.τ).loc Cert.ReferenceFfnBIdeal.main_arg3))

def preserves_KernelFfnC_KernelFfnCIdeal : Prop :=
  True

def algebraic_KernelFfnCIdeal_ReferenceFfnCIdeal [hKernelFfnCIdeal : Cert.KernelFfnCIdeal.Facts] [hReferenceFfnCIdeal : Cert.ReferenceFfnCIdeal.Facts] : Prop :=
  ∀ (m : (ℓ : Loc Cert.KernelFfnCIdeal.nD Cert.KernelFfnCIdeal.τ Cert.KernelFfnCIdeal.sig) → Buf (Elt Ideal) ℓ) (g : Dev Cert.KernelFfnCIdeal.nD → PrngReg)
    (m' : (ℓ : Loc Cert.ReferenceFfnCIdeal.nD Cert.ReferenceFfnCIdeal.τ Cert.ReferenceFfnCIdeal.sig) → Buf (Elt Ideal) ℓ) (g' : Dev Cert.ReferenceFfnCIdeal.nD → PrngReg), Pre_KernelFfnCIdeal m →
    (∀ c : Dev Cert.KernelFfnCIdeal.nD,
      m' ((c.tc : Thread Cert.ReferenceFfnCIdeal.nD Cert.ReferenceFfnCIdeal.τ).loc Cert.ReferenceFfnCIdeal.main_arg0) = m ((c.tc : Thread Cert.KernelFfnCIdeal.nD Cert.KernelFfnCIdeal.τ).loc Cert.KernelFfnCIdeal.main_arg0)
      ∧ m' ((c.tc : Thread Cert.ReferenceFfnCIdeal.nD Cert.ReferenceFfnCIdeal.τ).loc Cert.ReferenceFfnCIdeal.main_arg1) = m ((c.tc : Thread Cert.KernelFfnCIdeal.nD Cert.KernelFfnCIdeal.τ).loc Cert.KernelFfnCIdeal.main_arg1)
      ∧ m' ((c.tc : Thread Cert.ReferenceFfnCIdeal.nD Cert.ReferenceFfnCIdeal.τ).loc Cert.ReferenceFfnCIdeal.main_arg2) = m ((c.tc : Thread Cert.KernelFfnCIdeal.nD Cert.KernelFfnCIdeal.τ).loc Cert.KernelFfnCIdeal.main_arg2)
      ∧ m' ((c.tc : Thread Cert.ReferenceFfnCIdeal.nD Cert.ReferenceFfnCIdeal.τ).loc Cert.ReferenceFfnCIdeal.main_arg3) = m ((c.tc : Thread Cert.KernelFfnCIdeal.nD Cert.KernelFfnCIdeal.τ).loc Cert.KernelFfnCIdeal.main_arg3)) →
    ∃ (v0 : (c : Dev Cert.KernelFfnCIdeal.nD) → Buf (Elt Ideal) ((c.tc : Thread Cert.KernelFfnCIdeal.nD Cert.KernelFfnCIdeal.τ).loc Cert.KernelFfnCIdeal.main_v0_0)) (v1 : (c : Dev Cert.KernelFfnCIdeal.nD) → Buf (Elt Ideal) ((c.tc : Thread Cert.KernelFfnCIdeal.nD Cert.KernelFfnCIdeal.τ).loc Cert.KernelFfnCIdeal.main_v0_1)) (v2 : (c : Dev Cert.KernelFfnCIdeal.nD) → Buf (Elt Ideal) ((c.tc : Thread Cert.KernelFfnCIdeal.nD Cert.KernelFfnCIdeal.τ).loc Cert.KernelFfnCIdeal.main_v0_2)),
      θ_run (Cert.KernelFfnCIdeal.defs (F := Ideal)) (onTc (τ := Cert.KernelFfnCIdeal.τ) (Cert.KernelFfnCIdeal.main (F := Ideal))) ⟨m, fun _ => 0, g⟩ (fun r => ∀ c : Dev Cert.KernelFfnCIdeal.nD,
          r.2.mem ((c.tc : Thread Cert.KernelFfnCIdeal.nD Cert.KernelFfnCIdeal.τ).loc Cert.KernelFfnCIdeal.main_v0_0) = v0 c
          ∧ r.2.mem ((c.tc : Thread Cert.KernelFfnCIdeal.nD Cert.KernelFfnCIdeal.τ).loc Cert.KernelFfnCIdeal.main_v0_1) = v1 c
          ∧ r.2.mem ((c.tc : Thread Cert.KernelFfnCIdeal.nD Cert.KernelFfnCIdeal.τ).loc Cert.KernelFfnCIdeal.main_v0_2) = v2 c
          ∧ r.2.mem ((c.tc : Thread Cert.KernelFfnCIdeal.nD Cert.KernelFfnCIdeal.τ).loc Cert.KernelFfnCIdeal.main_arg0) = m ((c.tc : Thread Cert.KernelFfnCIdeal.nD Cert.KernelFfnCIdeal.τ).loc Cert.KernelFfnCIdeal.main_arg0)
          ∧ r.2.mem ((c.tc : Thread Cert.KernelFfnCIdeal.nD Cert.KernelFfnCIdeal.τ).loc Cert.KernelFfnCIdeal.main_arg1) = m ((c.tc : Thread Cert.KernelFfnCIdeal.nD Cert.KernelFfnCIdeal.τ).loc Cert.KernelFfnCIdeal.main_arg1)
          ∧ r.2.mem ((c.tc : Thread Cert.KernelFfnCIdeal.nD Cert.KernelFfnCIdeal.τ).loc Cert.KernelFfnCIdeal.main_arg2) = m ((c.tc : Thread Cert.KernelFfnCIdeal.nD Cert.KernelFfnCIdeal.τ).loc Cert.KernelFfnCIdeal.main_arg2)
          ∧ r.2.mem ((c.tc : Thread Cert.KernelFfnCIdeal.nD Cert.KernelFfnCIdeal.τ).loc Cert.KernelFfnCIdeal.main_arg3) = m ((c.tc : Thread Cert.KernelFfnCIdeal.nD Cert.KernelFfnCIdeal.τ).loc Cert.KernelFfnCIdeal.main_arg3))
      ∧ θ_run (Cert.ReferenceFfnCIdeal.defs (F := Ideal)) (onTc (τ := Cert.ReferenceFfnCIdeal.τ) (Cert.ReferenceFfnCIdeal.main (F := Ideal))) ⟨m', fun _ => 0, g'⟩ (fun r => ∀ c : Dev Cert.ReferenceFfnCIdeal.nD,
          r.2.mem ((c.tc : Thread Cert.ReferenceFfnCIdeal.nD Cert.ReferenceFfnCIdeal.τ).loc Cert.ReferenceFfnCIdeal.main_v28) = v0 c
          ∧ r.2.mem ((c.tc : Thread Cert.ReferenceFfnCIdeal.nD Cert.ReferenceFfnCIdeal.τ).loc Cert.ReferenceFfnCIdeal.main_v31) = v1 c
          ∧ r.2.mem ((c.tc : Thread Cert.ReferenceFfnCIdeal.nD Cert.ReferenceFfnCIdeal.τ).loc Cert.ReferenceFfnCIdeal.main_v34) = v2 c
          ∧ r.2.mem ((c.tc : Thread Cert.ReferenceFfnCIdeal.nD Cert.ReferenceFfnCIdeal.τ).loc Cert.ReferenceFfnCIdeal.main_arg0) = m' ((c.tc : Thread Cert.ReferenceFfnCIdeal.nD Cert.ReferenceFfnCIdeal.τ).loc Cert.ReferenceFfnCIdeal.main_arg0)
          ∧ r.2.mem ((c.tc : Thread Cert.ReferenceFfnCIdeal.nD Cert.ReferenceFfnCIdeal.τ).loc Cert.ReferenceFfnCIdeal.main_arg1) = m' ((c.tc : Thread Cert.ReferenceFfnCIdeal.nD Cert.ReferenceFfnCIdeal.τ).loc Cert.ReferenceFfnCIdeal.main_arg1)
          ∧ r.2.mem ((c.tc : Thread Cert.ReferenceFfnCIdeal.nD Cert.ReferenceFfnCIdeal.τ).loc Cert.ReferenceFfnCIdeal.main_arg2) = m' ((c.tc : Thread Cert.ReferenceFfnCIdeal.nD Cert.ReferenceFfnCIdeal.τ).loc Cert.ReferenceFfnCIdeal.main_arg2)
          ∧ r.2.mem ((c.tc : Thread Cert.ReferenceFfnCIdeal.nD Cert.ReferenceFfnCIdeal.τ).loc Cert.ReferenceFfnCIdeal.main_arg3) = m' ((c.tc : Thread Cert.ReferenceFfnCIdeal.nD Cert.ReferenceFfnCIdeal.τ).loc Cert.ReferenceFfnCIdeal.main_arg3))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v15) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2))

def preserves_KernelMixA_KernelMixAIdeal : Prop :=
  True

def algebraic_KernelMixAIdeal_ReferenceMixAIdeal [hKernelMixAIdeal : Cert.KernelMixAIdeal.Facts] [hReferenceMixAIdeal : Cert.ReferenceMixAIdeal.Facts] : Prop :=
  ∀ (m : (ℓ : Loc Cert.KernelMixAIdeal.nD Cert.KernelMixAIdeal.τ Cert.KernelMixAIdeal.sig) → Buf (Elt Ideal) ℓ) (g : Dev Cert.KernelMixAIdeal.nD → PrngReg)
    (m' : (ℓ : Loc Cert.ReferenceMixAIdeal.nD Cert.ReferenceMixAIdeal.τ Cert.ReferenceMixAIdeal.sig) → Buf (Elt Ideal) ℓ) (g' : Dev Cert.ReferenceMixAIdeal.nD → PrngReg), Pre_KernelMixAIdeal m →
    (∀ c : Dev Cert.KernelMixAIdeal.nD,
      m' ((c.tc : Thread Cert.ReferenceMixAIdeal.nD Cert.ReferenceMixAIdeal.τ).loc Cert.ReferenceMixAIdeal.main_arg0) = m ((c.tc : Thread Cert.KernelMixAIdeal.nD Cert.KernelMixAIdeal.τ).loc Cert.KernelMixAIdeal.main_arg0)
      ∧ m' ((c.tc : Thread Cert.ReferenceMixAIdeal.nD Cert.ReferenceMixAIdeal.τ).loc Cert.ReferenceMixAIdeal.main_arg1) = m ((c.tc : Thread Cert.KernelMixAIdeal.nD Cert.KernelMixAIdeal.τ).loc Cert.KernelMixAIdeal.main_arg1)
      ∧ m' ((c.tc : Thread Cert.ReferenceMixAIdeal.nD Cert.ReferenceMixAIdeal.τ).loc Cert.ReferenceMixAIdeal.main_arg2) = m ((c.tc : Thread Cert.KernelMixAIdeal.nD Cert.KernelMixAIdeal.τ).loc Cert.KernelMixAIdeal.main_arg2)
      ∧ m' ((c.tc : Thread Cert.ReferenceMixAIdeal.nD Cert.ReferenceMixAIdeal.τ).loc Cert.ReferenceMixAIdeal.main_arg3) = m ((c.tc : Thread Cert.KernelMixAIdeal.nD Cert.KernelMixAIdeal.τ).loc Cert.KernelMixAIdeal.main_arg3)
      ∧ m' ((c.tc : Thread Cert.ReferenceMixAIdeal.nD Cert.ReferenceMixAIdeal.τ).loc Cert.ReferenceMixAIdeal.main_arg4) = m ((c.tc : Thread Cert.KernelMixAIdeal.nD Cert.KernelMixAIdeal.τ).loc Cert.KernelMixAIdeal.main_arg4)
      ∧ m' ((c.tc : Thread Cert.ReferenceMixAIdeal.nD Cert.ReferenceMixAIdeal.τ).loc Cert.ReferenceMixAIdeal.main_arg5) = m ((c.tc : Thread Cert.KernelMixAIdeal.nD Cert.KernelMixAIdeal.τ).loc Cert.KernelMixAIdeal.main_arg5)
      ∧ m' ((c.tc : Thread Cert.ReferenceMixAIdeal.nD Cert.ReferenceMixAIdeal.τ).loc Cert.ReferenceMixAIdeal.main_arg6) = m ((c.tc : Thread Cert.KernelMixAIdeal.nD Cert.KernelMixAIdeal.τ).loc Cert.KernelMixAIdeal.main_arg6)
      ∧ m' ((c.tc : Thread Cert.ReferenceMixAIdeal.nD Cert.ReferenceMixAIdeal.τ).loc Cert.ReferenceMixAIdeal.main_arg7) = m ((c.tc : Thread Cert.KernelMixAIdeal.nD Cert.KernelMixAIdeal.τ).loc Cert.KernelMixAIdeal.main_arg7)
      ∧ m' ((c.tc : Thread Cert.ReferenceMixAIdeal.nD Cert.ReferenceMixAIdeal.τ).loc Cert.ReferenceMixAIdeal.main_arg8) = m ((c.tc : Thread Cert.KernelMixAIdeal.nD Cert.KernelMixAIdeal.τ).loc Cert.KernelMixAIdeal.main_arg8)
      ∧ m' ((c.tc : Thread Cert.ReferenceMixAIdeal.nD Cert.ReferenceMixAIdeal.τ).loc Cert.ReferenceMixAIdeal.main_arg9) = m ((c.tc : Thread Cert.KernelMixAIdeal.nD Cert.KernelMixAIdeal.τ).loc Cert.KernelMixAIdeal.main_arg9)) →
    ∃ (v0 : (c : Dev Cert.KernelMixAIdeal.nD) → Buf (Elt Ideal) ((c.tc : Thread Cert.KernelMixAIdeal.nD Cert.KernelMixAIdeal.τ).loc Cert.KernelMixAIdeal.main_v0)),
      θ_run (Cert.KernelMixAIdeal.defs (F := Ideal)) (onTc (τ := Cert.KernelMixAIdeal.τ) (Cert.KernelMixAIdeal.main (F := Ideal))) ⟨m, fun _ => 0, g⟩ (fun r => ∀ c : Dev Cert.KernelMixAIdeal.nD,
          r.2.mem ((c.tc : Thread Cert.KernelMixAIdeal.nD Cert.KernelMixAIdeal.τ).loc Cert.KernelMixAIdeal.main_v0) = v0 c
          ∧ r.2.mem ((c.tc : Thread Cert.KernelMixAIdeal.nD Cert.KernelMixAIdeal.τ).loc Cert.KernelMixAIdeal.main_arg0) = m ((c.tc : Thread Cert.KernelMixAIdeal.nD Cert.KernelMixAIdeal.τ).loc Cert.KernelMixAIdeal.main_arg0)
          ∧ r.2.mem ((c.tc : Thread Cert.KernelMixAIdeal.nD Cert.KernelMixAIdeal.τ).loc Cert.KernelMixAIdeal.main_arg1) = m ((c.tc : Thread Cert.KernelMixAIdeal.nD Cert.KernelMixAIdeal.τ).loc Cert.KernelMixAIdeal.main_arg1)
          ∧ r.2.mem ((c.tc : Thread Cert.KernelMixAIdeal.nD Cert.KernelMixAIdeal.τ).loc Cert.KernelMixAIdeal.main_arg2) = m ((c.tc : Thread Cert.KernelMixAIdeal.nD Cert.KernelMixAIdeal.τ).loc Cert.KernelMixAIdeal.main_arg2)
          ∧ r.2.mem ((c.tc : Thread Cert.KernelMixAIdeal.nD Cert.KernelMixAIdeal.τ).loc Cert.KernelMixAIdeal.main_arg3) = m ((c.tc : Thread Cert.KernelMixAIdeal.nD Cert.KernelMixAIdeal.τ).loc Cert.KernelMixAIdeal.main_arg3)
          ∧ r.2.mem ((c.tc : Thread Cert.KernelMixAIdeal.nD Cert.KernelMixAIdeal.τ).loc Cert.KernelMixAIdeal.main_arg4) = m ((c.tc : Thread Cert.KernelMixAIdeal.nD Cert.KernelMixAIdeal.τ).loc Cert.KernelMixAIdeal.main_arg4)
          ∧ r.2.mem ((c.tc : Thread Cert.KernelMixAIdeal.nD Cert.KernelMixAIdeal.τ).loc Cert.KernelMixAIdeal.main_arg5) = m ((c.tc : Thread Cert.KernelMixAIdeal.nD Cert.KernelMixAIdeal.τ).loc Cert.KernelMixAIdeal.main_arg5)
          ∧ r.2.mem ((c.tc : Thread Cert.KernelMixAIdeal.nD Cert.KernelMixAIdeal.τ).loc Cert.KernelMixAIdeal.main_arg6) = m ((c.tc : Thread Cert.KernelMixAIdeal.nD Cert.KernelMixAIdeal.τ).loc Cert.KernelMixAIdeal.main_arg6)
          ∧ r.2.mem ((c.tc : Thread Cert.KernelMixAIdeal.nD Cert.KernelMixAIdeal.τ).loc Cert.KernelMixAIdeal.main_arg7) = m ((c.tc : Thread Cert.KernelMixAIdeal.nD Cert.KernelMixAIdeal.τ).loc Cert.KernelMixAIdeal.main_arg7)
          ∧ r.2.mem ((c.tc : Thread Cert.KernelMixAIdeal.nD Cert.KernelMixAIdeal.τ).loc Cert.KernelMixAIdeal.main_arg8) = m ((c.tc : Thread Cert.KernelMixAIdeal.nD Cert.KernelMixAIdeal.τ).loc Cert.KernelMixAIdeal.main_arg8)
          ∧ r.2.mem ((c.tc : Thread Cert.KernelMixAIdeal.nD Cert.KernelMixAIdeal.τ).loc Cert.KernelMixAIdeal.main_arg9) = m ((c.tc : Thread Cert.KernelMixAIdeal.nD Cert.KernelMixAIdeal.τ).loc Cert.KernelMixAIdeal.main_arg9))
      ∧ θ_run (Cert.ReferenceMixAIdeal.defs (F := Ideal)) (onTc (τ := Cert.ReferenceMixAIdeal.τ) (Cert.ReferenceMixAIdeal.main (F := Ideal))) ⟨m', fun _ => 0, g'⟩ (fun r => ∀ c : Dev Cert.ReferenceMixAIdeal.nD,
          r.2.mem ((c.tc : Thread Cert.ReferenceMixAIdeal.nD Cert.ReferenceMixAIdeal.τ).loc Cert.ReferenceMixAIdeal.main_v33) = v0 c
          ∧ r.2.mem ((c.tc : Thread Cert.ReferenceMixAIdeal.nD Cert.ReferenceMixAIdeal.τ).loc Cert.ReferenceMixAIdeal.main_arg0) = m' ((c.tc : Thread Cert.ReferenceMixAIdeal.nD Cert.ReferenceMixAIdeal.τ).loc Cert.ReferenceMixAIdeal.main_arg0)
          ∧ r.2.mem ((c.tc : Thread Cert.ReferenceMixAIdeal.nD Cert.ReferenceMixAIdeal.τ).loc Cert.ReferenceMixAIdeal.main_arg1) = m' ((c.tc : Thread Cert.ReferenceMixAIdeal.nD Cert.ReferenceMixAIdeal.τ).loc Cert.ReferenceMixAIdeal.main_arg1)
          ∧ r.2.mem ((c.tc : Thread Cert.ReferenceMixAIdeal.nD Cert.ReferenceMixAIdeal.τ).loc Cert.ReferenceMixAIdeal.main_arg2) = m' ((c.tc : Thread Cert.ReferenceMixAIdeal.nD Cert.ReferenceMixAIdeal.τ).loc Cert.ReferenceMixAIdeal.main_arg2)
          ∧ r.2.mem ((c.tc : Thread Cert.ReferenceMixAIdeal.nD Cert.ReferenceMixAIdeal.τ).loc Cert.ReferenceMixAIdeal.main_arg3) = m' ((c.tc : Thread Cert.ReferenceMixAIdeal.nD Cert.ReferenceMixAIdeal.τ).loc Cert.ReferenceMixAIdeal.main_arg3)
          ∧ r.2.mem ((c.tc : Thread Cert.ReferenceMixAIdeal.nD Cert.ReferenceMixAIdeal.τ).loc Cert.ReferenceMixAIdeal.main_arg4) = m' ((c.tc : Thread Cert.ReferenceMixAIdeal.nD Cert.ReferenceMixAIdeal.τ).loc Cert.ReferenceMixAIdeal.main_arg4)
          ∧ r.2.mem ((c.tc : Thread Cert.ReferenceMixAIdeal.nD Cert.ReferenceMixAIdeal.τ).loc Cert.ReferenceMixAIdeal.main_arg5) = m' ((c.tc : Thread Cert.ReferenceMixAIdeal.nD Cert.ReferenceMixAIdeal.τ).loc Cert.ReferenceMixAIdeal.main_arg5)
          ∧ r.2.mem ((c.tc : Thread Cert.ReferenceMixAIdeal.nD Cert.ReferenceMixAIdeal.τ).loc Cert.ReferenceMixAIdeal.main_arg6) = m' ((c.tc : Thread Cert.ReferenceMixAIdeal.nD Cert.ReferenceMixAIdeal.τ).loc Cert.ReferenceMixAIdeal.main_arg6)
          ∧ r.2.mem ((c.tc : Thread Cert.ReferenceMixAIdeal.nD Cert.ReferenceMixAIdeal.τ).loc Cert.ReferenceMixAIdeal.main_arg7) = m' ((c.tc : Thread Cert.ReferenceMixAIdeal.nD Cert.ReferenceMixAIdeal.τ).loc Cert.ReferenceMixAIdeal.main_arg7)
          ∧ r.2.mem ((c.tc : Thread Cert.ReferenceMixAIdeal.nD Cert.ReferenceMixAIdeal.τ).loc Cert.ReferenceMixAIdeal.main_arg8) = m' ((c.tc : Thread Cert.ReferenceMixAIdeal.nD Cert.ReferenceMixAIdeal.τ).loc Cert.ReferenceMixAIdeal.main_arg8)
          ∧ r.2.mem ((c.tc : Thread Cert.ReferenceMixAIdeal.nD Cert.ReferenceMixAIdeal.τ).loc Cert.ReferenceMixAIdeal.main_arg9) = m' ((c.tc : Thread Cert.ReferenceMixAIdeal.nD Cert.ReferenceMixAIdeal.τ).loc Cert.ReferenceMixAIdeal.main_arg9))

def preserves_KernelMixB_KernelMixBIdeal : Prop :=
  True

def algebraic_KernelMixBIdeal_ReferenceMixBIdeal [hKernelMixBIdeal : Cert.KernelMixBIdeal.Facts] [hReferenceMixBIdeal : Cert.ReferenceMixBIdeal.Facts] : Prop :=
  ∀ (m : (ℓ : Loc Cert.KernelMixBIdeal.nD Cert.KernelMixBIdeal.τ Cert.KernelMixBIdeal.sig) → Buf (Elt Ideal) ℓ) (g : Dev Cert.KernelMixBIdeal.nD → PrngReg)
    (m' : (ℓ : Loc Cert.ReferenceMixBIdeal.nD Cert.ReferenceMixBIdeal.τ Cert.ReferenceMixBIdeal.sig) → Buf (Elt Ideal) ℓ) (g' : Dev Cert.ReferenceMixBIdeal.nD → PrngReg), Pre_KernelMixBIdeal m →
    (∀ c : Dev Cert.KernelMixBIdeal.nD,
      m' ((c.tc : Thread Cert.ReferenceMixBIdeal.nD Cert.ReferenceMixBIdeal.τ).loc Cert.ReferenceMixBIdeal.main_arg0) = m ((c.tc : Thread Cert.KernelMixBIdeal.nD Cert.KernelMixBIdeal.τ).loc Cert.KernelMixBIdeal.main_arg0)
      ∧ m' ((c.tc : Thread Cert.ReferenceMixBIdeal.nD Cert.ReferenceMixBIdeal.τ).loc Cert.ReferenceMixBIdeal.main_arg1) = m ((c.tc : Thread Cert.KernelMixBIdeal.nD Cert.KernelMixBIdeal.τ).loc Cert.KernelMixBIdeal.main_arg1)
      ∧ m' ((c.tc : Thread Cert.ReferenceMixBIdeal.nD Cert.ReferenceMixBIdeal.τ).loc Cert.ReferenceMixBIdeal.main_arg2) = m ((c.tc : Thread Cert.KernelMixBIdeal.nD Cert.KernelMixBIdeal.τ).loc Cert.KernelMixBIdeal.main_arg2)
      ∧ m' ((c.tc : Thread Cert.ReferenceMixBIdeal.nD Cert.ReferenceMixBIdeal.τ).loc Cert.ReferenceMixBIdeal.main_arg3) = m ((c.tc : Thread Cert.KernelMixBIdeal.nD Cert.KernelMixBIdeal.τ).loc Cert.KernelMixBIdeal.main_arg3)
      ∧ m' ((c.tc : Thread Cert.ReferenceMixBIdeal.nD Cert.ReferenceMixBIdeal.τ).loc Cert.ReferenceMixBIdeal.main_arg4) = m ((c.tc : Thread Cert.KernelMixBIdeal.nD Cert.KernelMixBIdeal.τ).loc Cert.KernelMixBIdeal.main_arg4)
      ∧ m' ((c.tc : Thread Cert.ReferenceMixBIdeal.nD Cert.ReferenceMixBIdeal.τ).loc Cert.ReferenceMixBIdeal.main_arg5) = m ((c.tc : Thread Cert.KernelMixBIdeal.nD Cert.KernelMixBIdeal.τ).loc Cert.KernelMixBIdeal.main_arg5)
      ∧ m' ((c.tc : Thread Cert.ReferenceMixBIdeal.nD Cert.ReferenceMixBIdeal.τ).loc Cert.ReferenceMixBIdeal.main_arg6) = m ((c.tc : Thread Cert.KernelMixBIdeal.nD Cert.KernelMixBIdeal.τ).loc Cert.KernelMixBIdeal.main_arg6)
      ∧ m' ((c.tc : Thread Cert.ReferenceMixBIdeal.nD Cert.ReferenceMixBIdeal.τ).loc Cert.ReferenceMixBIdeal.main_arg7) = m ((c.tc : Thread Cert.KernelMixBIdeal.nD Cert.KernelMixBIdeal.τ).loc Cert.KernelMixBIdeal.main_arg7)
      ∧ m' ((c.tc : Thread Cert.ReferenceMixBIdeal.nD Cert.ReferenceMixBIdeal.τ).loc Cert.ReferenceMixBIdeal.main_arg8) = m ((c.tc : Thread Cert.KernelMixBIdeal.nD Cert.KernelMixBIdeal.τ).loc Cert.KernelMixBIdeal.main_arg8)
      ∧ m' ((c.tc : Thread Cert.ReferenceMixBIdeal.nD Cert.ReferenceMixBIdeal.τ).loc Cert.ReferenceMixBIdeal.main_arg9) = m ((c.tc : Thread Cert.KernelMixBIdeal.nD Cert.KernelMixBIdeal.τ).loc Cert.KernelMixBIdeal.main_arg9)) →
    ∃ (v0 : (c : Dev Cert.KernelMixBIdeal.nD) → Buf (Elt Ideal) ((c.tc : Thread Cert.KernelMixBIdeal.nD Cert.KernelMixBIdeal.τ).loc Cert.KernelMixBIdeal.main_v0)),
      θ_run (Cert.KernelMixBIdeal.defs (F := Ideal)) (onTc (τ := Cert.KernelMixBIdeal.τ) (Cert.KernelMixBIdeal.main (F := Ideal))) ⟨m, fun _ => 0, g⟩ (fun r => ∀ c : Dev Cert.KernelMixBIdeal.nD,
          r.2.mem ((c.tc : Thread Cert.KernelMixBIdeal.nD Cert.KernelMixBIdeal.τ).loc Cert.KernelMixBIdeal.main_v0) = v0 c
          ∧ r.2.mem ((c.tc : Thread Cert.KernelMixBIdeal.nD Cert.KernelMixBIdeal.τ).loc Cert.KernelMixBIdeal.main_arg0) = m ((c.tc : Thread Cert.KernelMixBIdeal.nD Cert.KernelMixBIdeal.τ).loc Cert.KernelMixBIdeal.main_arg0)
          ∧ r.2.mem ((c.tc : Thread Cert.KernelMixBIdeal.nD Cert.KernelMixBIdeal.τ).loc Cert.KernelMixBIdeal.main_arg1) = m ((c.tc : Thread Cert.KernelMixBIdeal.nD Cert.KernelMixBIdeal.τ).loc Cert.KernelMixBIdeal.main_arg1)
          ∧ r.2.mem ((c.tc : Thread Cert.KernelMixBIdeal.nD Cert.KernelMixBIdeal.τ).loc Cert.KernelMixBIdeal.main_arg2) = m ((c.tc : Thread Cert.KernelMixBIdeal.nD Cert.KernelMixBIdeal.τ).loc Cert.KernelMixBIdeal.main_arg2)
          ∧ r.2.mem ((c.tc : Thread Cert.KernelMixBIdeal.nD Cert.KernelMixBIdeal.τ).loc Cert.KernelMixBIdeal.main_arg3) = m ((c.tc : Thread Cert.KernelMixBIdeal.nD Cert.KernelMixBIdeal.τ).loc Cert.KernelMixBIdeal.main_arg3)
          ∧ r.2.mem ((c.tc : Thread Cert.KernelMixBIdeal.nD Cert.KernelMixBIdeal.τ).loc Cert.KernelMixBIdeal.main_arg4) = m ((c.tc : Thread Cert.KernelMixBIdeal.nD Cert.KernelMixBIdeal.τ).loc Cert.KernelMixBIdeal.main_arg4)
          ∧ r.2.mem ((c.tc : Thread Cert.KernelMixBIdeal.nD Cert.KernelMixBIdeal.τ).loc Cert.KernelMixBIdeal.main_arg5) = m ((c.tc : Thread Cert.KernelMixBIdeal.nD Cert.KernelMixBIdeal.τ).loc Cert.KernelMixBIdeal.main_arg5)
          ∧ r.2.mem ((c.tc : Thread Cert.KernelMixBIdeal.nD Cert.KernelMixBIdeal.τ).loc Cert.KernelMixBIdeal.main_arg6) = m ((c.tc : Thread Cert.KernelMixBIdeal.nD Cert.KernelMixBIdeal.τ).loc Cert.KernelMixBIdeal.main_arg6)
          ∧ r.2.mem ((c.tc : Thread Cert.KernelMixBIdeal.nD Cert.KernelMixBIdeal.τ).loc Cert.KernelMixBIdeal.main_arg7) = m ((c.tc : Thread Cert.KernelMixBIdeal.nD Cert.KernelMixBIdeal.τ).loc Cert.KernelMixBIdeal.main_arg7)
          ∧ r.2.mem ((c.tc : Thread Cert.KernelMixBIdeal.nD Cert.KernelMixBIdeal.τ).loc Cert.KernelMixBIdeal.main_arg8) = m ((c.tc : Thread Cert.KernelMixBIdeal.nD Cert.KernelMixBIdeal.τ).loc Cert.KernelMixBIdeal.main_arg8)
          ∧ r.2.mem ((c.tc : Thread Cert.KernelMixBIdeal.nD Cert.KernelMixBIdeal.τ).loc Cert.KernelMixBIdeal.main_arg9) = m ((c.tc : Thread Cert.KernelMixBIdeal.nD Cert.KernelMixBIdeal.τ).loc Cert.KernelMixBIdeal.main_arg9))
      ∧ θ_run (Cert.ReferenceMixBIdeal.defs (F := Ideal)) (onTc (τ := Cert.ReferenceMixBIdeal.τ) (Cert.ReferenceMixBIdeal.main (F := Ideal))) ⟨m', fun _ => 0, g'⟩ (fun r => ∀ c : Dev Cert.ReferenceMixBIdeal.nD,
          r.2.mem ((c.tc : Thread Cert.ReferenceMixBIdeal.nD Cert.ReferenceMixBIdeal.τ).loc Cert.ReferenceMixBIdeal.main_v33) = v0 c
          ∧ r.2.mem ((c.tc : Thread Cert.ReferenceMixBIdeal.nD Cert.ReferenceMixBIdeal.τ).loc Cert.ReferenceMixBIdeal.main_arg0) = m' ((c.tc : Thread Cert.ReferenceMixBIdeal.nD Cert.ReferenceMixBIdeal.τ).loc Cert.ReferenceMixBIdeal.main_arg0)
          ∧ r.2.mem ((c.tc : Thread Cert.ReferenceMixBIdeal.nD Cert.ReferenceMixBIdeal.τ).loc Cert.ReferenceMixBIdeal.main_arg1) = m' ((c.tc : Thread Cert.ReferenceMixBIdeal.nD Cert.ReferenceMixBIdeal.τ).loc Cert.ReferenceMixBIdeal.main_arg1)
          ∧ r.2.mem ((c.tc : Thread Cert.ReferenceMixBIdeal.nD Cert.ReferenceMixBIdeal.τ).loc Cert.ReferenceMixBIdeal.main_arg2) = m' ((c.tc : Thread Cert.ReferenceMixBIdeal.nD Cert.ReferenceMixBIdeal.τ).loc Cert.ReferenceMixBIdeal.main_arg2)
          ∧ r.2.mem ((c.tc : Thread Cert.ReferenceMixBIdeal.nD Cert.ReferenceMixBIdeal.τ).loc Cert.ReferenceMixBIdeal.main_arg3) = m' ((c.tc : Thread Cert.ReferenceMixBIdeal.nD Cert.ReferenceMixBIdeal.τ).loc Cert.ReferenceMixBIdeal.main_arg3)
          ∧ r.2.mem ((c.tc : Thread Cert.ReferenceMixBIdeal.nD Cert.ReferenceMixBIdeal.τ).loc Cert.ReferenceMixBIdeal.main_arg4) = m' ((c.tc : Thread Cert.ReferenceMixBIdeal.nD Cert.ReferenceMixBIdeal.τ).loc Cert.ReferenceMixBIdeal.main_arg4)
          ∧ r.2.mem ((c.tc : Thread Cert.ReferenceMixBIdeal.nD Cert.ReferenceMixBIdeal.τ).loc Cert.ReferenceMixBIdeal.main_arg5) = m' ((c.tc : Thread Cert.ReferenceMixBIdeal.nD Cert.ReferenceMixBIdeal.τ).loc Cert.ReferenceMixBIdeal.main_arg5)
          ∧ r.2.mem ((c.tc : Thread Cert.ReferenceMixBIdeal.nD Cert.ReferenceMixBIdeal.τ).loc Cert.ReferenceMixBIdeal.main_arg6) = m' ((c.tc : Thread Cert.ReferenceMixBIdeal.nD Cert.ReferenceMixBIdeal.τ).loc Cert.ReferenceMixBIdeal.main_arg6)
          ∧ r.2.mem ((c.tc : Thread Cert.ReferenceMixBIdeal.nD Cert.ReferenceMixBIdeal.τ).loc Cert.ReferenceMixBIdeal.main_arg7) = m' ((c.tc : Thread Cert.ReferenceMixBIdeal.nD Cert.ReferenceMixBIdeal.τ).loc Cert.ReferenceMixBIdeal.main_arg7)
          ∧ r.2.mem ((c.tc : Thread Cert.ReferenceMixBIdeal.nD Cert.ReferenceMixBIdeal.τ).loc Cert.ReferenceMixBIdeal.main_arg8) = m' ((c.tc : Thread Cert.ReferenceMixBIdeal.nD Cert.ReferenceMixBIdeal.τ).loc Cert.ReferenceMixBIdeal.main_arg8)
          ∧ r.2.mem ((c.tc : Thread Cert.ReferenceMixBIdeal.nD Cert.ReferenceMixBIdeal.τ).loc Cert.ReferenceMixBIdeal.main_arg9) = m' ((c.tc : Thread Cert.ReferenceMixBIdeal.nD Cert.ReferenceMixBIdeal.τ).loc Cert.ReferenceMixBIdeal.main_arg9))

def preserves_KernelBackA_KernelBackAIdeal : Prop :=
  True

def algebraic_KernelBackAIdeal_ReferenceBackAIdeal [hKernelBackAIdeal : Cert.KernelBackAIdeal.Facts] [hReferenceBackAIdeal : Cert.ReferenceBackAIdeal.Facts] : Prop :=
  ∀ (m : (ℓ : Loc Cert.KernelBackAIdeal.nD Cert.KernelBackAIdeal.τ Cert.KernelBackAIdeal.sig) → Buf (Elt Ideal) ℓ) (g : Dev Cert.KernelBackAIdeal.nD → PrngReg)
    (m' : (ℓ : Loc Cert.ReferenceBackAIdeal.nD Cert.ReferenceBackAIdeal.τ Cert.ReferenceBackAIdeal.sig) → Buf (Elt Ideal) ℓ) (g' : Dev Cert.ReferenceBackAIdeal.nD → PrngReg), Pre_KernelBackAIdeal m →
    (∀ c : Dev Cert.KernelBackAIdeal.nD,
      m' ((c.tc : Thread Cert.ReferenceBackAIdeal.nD Cert.ReferenceBackAIdeal.τ).loc Cert.ReferenceBackAIdeal.main_arg0) = m ((c.tc : Thread Cert.KernelBackAIdeal.nD Cert.KernelBackAIdeal.τ).loc Cert.KernelBackAIdeal.main_arg0)
      ∧ m' ((c.tc : Thread Cert.ReferenceBackAIdeal.nD Cert.ReferenceBackAIdeal.τ).loc Cert.ReferenceBackAIdeal.main_arg1) = m ((c.tc : Thread Cert.KernelBackAIdeal.nD Cert.KernelBackAIdeal.τ).loc Cert.KernelBackAIdeal.main_arg1)
      ∧ m' ((c.tc : Thread Cert.ReferenceBackAIdeal.nD Cert.ReferenceBackAIdeal.τ).loc Cert.ReferenceBackAIdeal.main_arg2) = m ((c.tc : Thread Cert.KernelBackAIdeal.nD Cert.KernelBackAIdeal.τ).loc Cert.KernelBackAIdeal.main_arg2)
      ∧ m' ((c.tc : Thread Cert.ReferenceBackAIdeal.nD Cert.ReferenceBackAIdeal.τ).loc Cert.ReferenceBackAIdeal.main_arg3) = m ((c.tc : Thread Cert.KernelBackAIdeal.nD Cert.KernelBackAIdeal.τ).loc Cert.KernelBackAIdeal.main_arg3)
      ∧ m' ((c.tc : Thread Cert.ReferenceBackAIdeal.nD Cert.ReferenceBackAIdeal.τ).loc Cert.ReferenceBackAIdeal.main_arg4) = m ((c.tc : Thread Cert.KernelBackAIdeal.nD Cert.KernelBackAIdeal.τ).loc Cert.KernelBackAIdeal.main_arg4)
      ∧ m' ((c.tc : Thread Cert.ReferenceBackAIdeal.nD Cert.ReferenceBackAIdeal.τ).loc Cert.ReferenceBackAIdeal.main_arg5) = m ((c.tc : Thread Cert.KernelBackAIdeal.nD Cert.KernelBackAIdeal.τ).loc Cert.KernelBackAIdeal.main_arg5)
      ∧ m' ((c.tc : Thread Cert.ReferenceBackAIdeal.nD Cert.ReferenceBackAIdeal.τ).loc Cert.ReferenceBackAIdeal.main_arg6) = m ((c.tc : Thread Cert.KernelBackAIdeal.nD Cert.KernelBackAIdeal.τ).loc Cert.KernelBackAIdeal.main_arg6)
      ∧ m' ((c.tc : Thread Cert.ReferenceBackAIdeal.nD Cert.ReferenceBackAIdeal.τ).loc Cert.ReferenceBackAIdeal.main_arg7) = m ((c.tc : Thread Cert.KernelBackAIdeal.nD Cert.KernelBackAIdeal.τ).loc Cert.KernelBackAIdeal.main_arg7)
      ∧ m' ((c.tc : Thread Cert.ReferenceBackAIdeal.nD Cert.ReferenceBackAIdeal.τ).loc Cert.ReferenceBackAIdeal.main_arg8) = m ((c.tc : Thread Cert.KernelBackAIdeal.nD Cert.KernelBackAIdeal.τ).loc Cert.KernelBackAIdeal.main_arg8)
      ∧ m' ((c.tc : Thread Cert.ReferenceBackAIdeal.nD Cert.ReferenceBackAIdeal.τ).loc Cert.ReferenceBackAIdeal.main_arg9) = m ((c.tc : Thread Cert.KernelBackAIdeal.nD Cert.KernelBackAIdeal.τ).loc Cert.KernelBackAIdeal.main_arg9)) →
    ∃ (v0 : (c : Dev Cert.KernelBackAIdeal.nD) → Buf (Elt Ideal) ((c.tc : Thread Cert.KernelBackAIdeal.nD Cert.KernelBackAIdeal.τ).loc Cert.KernelBackAIdeal.main_v0_0)) (v1 : (c : Dev Cert.KernelBackAIdeal.nD) → Buf (Elt Ideal) ((c.tc : Thread Cert.KernelBackAIdeal.nD Cert.KernelBackAIdeal.τ).loc Cert.KernelBackAIdeal.main_v0_1)) (v2 : (c : Dev Cert.KernelBackAIdeal.nD) → Buf (Elt Ideal) ((c.tc : Thread Cert.KernelBackAIdeal.nD Cert.KernelBackAIdeal.τ).loc Cert.KernelBackAIdeal.main_v0_2)) (v3 : (c : Dev Cert.KernelBackAIdeal.nD) → Buf (Elt Ideal) ((c.tc : Thread Cert.KernelBackAIdeal.nD Cert.KernelBackAIdeal.τ).loc Cert.KernelBackAIdeal.main_v0_3)) (v4 : (c : Dev Cert.KernelBackAIdeal.nD) → Buf (Elt Ideal) ((c.tc : Thread Cert.KernelBackAIdeal.nD Cert.KernelBackAIdeal.τ).loc Cert.KernelBackAIdeal.main_v0_4)) (v5 : (c : Dev Cert.KernelBackAIdeal.nD) → Buf (Elt Ideal) ((c.tc : Thread Cert.KernelBackAIdeal.nD Cert.KernelBackAIdeal.τ).loc Cert.KernelBackAIdeal.main_v0_5)) (v6 : (c : Dev Cert.KernelBackAIdeal.nD) → Buf (Elt Ideal) ((c.tc : Thread Cert.KernelBackAIdeal.nD Cert.KernelBackAIdeal.τ).loc Cert.KernelBackAIdeal.main_v0_6)) (v7 : (c : Dev Cert.KernelBackAIdeal.nD) → Buf (Elt Ideal) ((c.tc : Thread Cert.KernelBackAIdeal.nD Cert.KernelBackAIdeal.τ).loc Cert.KernelBackAIdeal.main_v0_7)) (v8 : (c : Dev Cert.KernelBackAIdeal.nD) → Buf (Elt Ideal) ((c.tc : Thread Cert.KernelBackAIdeal.nD Cert.KernelBackAIdeal.τ).loc Cert.KernelBackAIdeal.main_v0_8)) (v9 : (c : Dev Cert.KernelBackAIdeal.nD) → Buf (Elt Ideal) ((c.tc : Thread Cert.KernelBackAIdeal.nD Cert.KernelBackAIdeal.τ).loc Cert.KernelBackAIdeal.main_v0_9)),
      θ_run (Cert.KernelBackAIdeal.defs (F := Ideal)) (onTc (τ := Cert.KernelBackAIdeal.τ) (Cert.KernelBackAIdeal.main (F := Ideal))) ⟨m, fun _ => 0, g⟩ (fun r => ∀ c : Dev Cert.KernelBackAIdeal.nD,
          r.2.mem ((c.tc : Thread Cert.KernelBackAIdeal.nD Cert.KernelBackAIdeal.τ).loc Cert.KernelBackAIdeal.main_v0_0) = v0 c
          ∧ r.2.mem ((c.tc : Thread Cert.KernelBackAIdeal.nD Cert.KernelBackAIdeal.τ).loc Cert.KernelBackAIdeal.main_v0_1) = v1 c
          ∧ r.2.mem ((c.tc : Thread Cert.KernelBackAIdeal.nD Cert.KernelBackAIdeal.τ).loc Cert.KernelBackAIdeal.main_v0_2) = v2 c
          ∧ r.2.mem ((c.tc : Thread Cert.KernelBackAIdeal.nD Cert.KernelBackAIdeal.τ).loc Cert.KernelBackAIdeal.main_v0_3) = v3 c
          ∧ r.2.mem ((c.tc : Thread Cert.KernelBackAIdeal.nD Cert.KernelBackAIdeal.τ).loc Cert.KernelBackAIdeal.main_v0_4) = v4 c
          ∧ r.2.mem ((c.tc : Thread Cert.KernelBackAIdeal.nD Cert.KernelBackAIdeal.τ).loc Cert.KernelBackAIdeal.main_v0_5) = v5 c
          ∧ r.2.mem ((c.tc : Thread Cert.KernelBackAIdeal.nD Cert.KernelBackAIdeal.τ).loc Cert.KernelBackAIdeal.main_v0_6) = v6 c
          ∧ r.2.mem ((c.tc : Thread Cert.KernelBackAIdeal.nD Cert.KernelBackAIdeal.τ).loc Cert.KernelBackAIdeal.main_v0_7) = v7 c
          ∧ r.2.mem ((c.tc : Thread Cert.KernelBackAIdeal.nD Cert.KernelBackAIdeal.τ).loc Cert.KernelBackAIdeal.main_v0_8) = v8 c
          ∧ r.2.mem ((c.tc : Thread Cert.KernelBackAIdeal.nD Cert.KernelBackAIdeal.τ).loc Cert.KernelBackAIdeal.main_v0_9) = v9 c
          ∧ r.2.mem ((c.tc : Thread Cert.KernelBackAIdeal.nD Cert.KernelBackAIdeal.τ).loc Cert.KernelBackAIdeal.main_arg0) = m ((c.tc : Thread Cert.KernelBackAIdeal.nD Cert.KernelBackAIdeal.τ).loc Cert.KernelBackAIdeal.main_arg0)
          ∧ r.2.mem ((c.tc : Thread Cert.KernelBackAIdeal.nD Cert.KernelBackAIdeal.τ).loc Cert.KernelBackAIdeal.main_arg1) = m ((c.tc : Thread Cert.KernelBackAIdeal.nD Cert.KernelBackAIdeal.τ).loc Cert.KernelBackAIdeal.main_arg1)
          ∧ r.2.mem ((c.tc : Thread Cert.KernelBackAIdeal.nD Cert.KernelBackAIdeal.τ).loc Cert.KernelBackAIdeal.main_arg2) = m ((c.tc : Thread Cert.KernelBackAIdeal.nD Cert.KernelBackAIdeal.τ).loc Cert.KernelBackAIdeal.main_arg2)
          ∧ r.2.mem ((c.tc : Thread Cert.KernelBackAIdeal.nD Cert.KernelBackAIdeal.τ).loc Cert.KernelBackAIdeal.main_arg3) = m ((c.tc : Thread Cert.KernelBackAIdeal.nD Cert.KernelBackAIdeal.τ).loc Cert.KernelBackAIdeal.main_arg3)
          ∧ r.2.mem ((c.tc : Thread Cert.KernelBackAIdeal.nD Cert.KernelBackAIdeal.τ).loc Cert.KernelBackAIdeal.main_arg4) = m ((c.tc : Thread Cert.KernelBackAIdeal.nD Cert.KernelBackAIdeal.τ).loc Cert.KernelBackAIdeal.main_arg4)
          ∧ r.2.mem ((c.tc : Thread Cert.KernelBackAIdeal.nD Cert.KernelBackAIdeal.τ).loc Cert.KernelBackAIdeal.main_arg5) = m ((c.tc : Thread Cert.KernelBackAIdeal.nD Cert.KernelBackAIdeal.τ).loc Cert.KernelBackAIdeal.main_arg5)
          ∧ r.2.mem ((c.tc : Thread Cert.KernelBackAIdeal.nD Cert.KernelBackAIdeal.τ).loc Cert.KernelBackAIdeal.main_arg6) = m ((c.tc : Thread Cert.KernelBackAIdeal.nD Cert.KernelBackAIdeal.τ).loc Cert.KernelBackAIdeal.main_arg6)
          ∧ r.2.mem ((c.tc : Thread Cert.KernelBackAIdeal.nD Cert.KernelBackAIdeal.τ).loc Cert.KernelBackAIdeal.main_arg7) = m ((c.tc : Thread Cert.KernelBackAIdeal.nD Cert.KernelBackAIdeal.τ).loc Cert.KernelBackAIdeal.main_arg7)
          ∧ r.2.mem ((c.tc : Thread Cert.KernelBackAIdeal.nD Cert.KernelBackAIdeal.τ).loc Cert.KernelBackAIdeal.main_arg8) = m ((c.tc : Thread Cert.KernelBackAIdeal.nD Cert.KernelBackAIdeal.τ).loc Cert.KernelBackAIdeal.main_arg8)
          ∧ r.2.mem ((c.tc : Thread Cert.KernelBackAIdeal.nD Cert.KernelBackAIdeal.τ).loc Cert.KernelBackAIdeal.main_arg9) = m ((c.tc : Thread Cert.KernelBackAIdeal.nD Cert.KernelBackAIdeal.τ).loc Cert.KernelBackAIdeal.main_arg9))
      ∧ θ_run (Cert.ReferenceBackAIdeal.defs (F := Ideal)) (onTc (τ := Cert.ReferenceBackAIdeal.τ) (Cert.ReferenceBackAIdeal.main (F := Ideal))) ⟨m', fun _ => 0, g'⟩ (fun r => ∀ c : Dev Cert.ReferenceBackAIdeal.nD,
          r.2.mem ((c.tc : Thread Cert.ReferenceBackAIdeal.nD Cert.ReferenceBackAIdeal.τ).loc Cert.ReferenceBackAIdeal.main_v47) = v0 c
          ∧ r.2.mem ((c.tc : Thread Cert.ReferenceBackAIdeal.nD Cert.ReferenceBackAIdeal.τ).loc Cert.ReferenceBackAIdeal.main_v48) = v1 c
          ∧ r.2.mem ((c.tc : Thread Cert.ReferenceBackAIdeal.nD Cert.ReferenceBackAIdeal.τ).loc Cert.ReferenceBackAIdeal.main_v49) = v2 c
          ∧ r.2.mem ((c.tc : Thread Cert.ReferenceBackAIdeal.nD Cert.ReferenceBackAIdeal.τ).loc Cert.ReferenceBackAIdeal.main_v50) = v3 c
          ∧ r.2.mem ((c.tc : Thread Cert.ReferenceBackAIdeal.nD Cert.ReferenceBackAIdeal.τ).loc Cert.ReferenceBackAIdeal.main_v46) = v4 c
          ∧ r.2.mem ((c.tc : Thread Cert.ReferenceBackAIdeal.nD Cert.ReferenceBackAIdeal.τ).loc Cert.ReferenceBackAIdeal.main_v51) = v5 c
          ∧ r.2.mem ((c.tc : Thread Cert.ReferenceBackAIdeal.nD Cert.ReferenceBackAIdeal.τ).loc Cert.ReferenceBackAIdeal.main_v52) = v6 c
          ∧ r.2.mem ((c.tc : Thread Cert.ReferenceBackAIdeal.nD Cert.ReferenceBackAIdeal.τ).loc Cert.ReferenceBackAIdeal.main_v53) = v7 c
          ∧ r.2.mem ((c.tc : Thread Cert.ReferenceBackAIdeal.nD Cert.ReferenceBackAIdeal.τ).loc Cert.ReferenceBackAIdeal.main_v54) = v8 c
          ∧ r.2.mem ((c.tc : Thread Cert.ReferenceBackAIdeal.nD Cert.ReferenceBackAIdeal.τ).loc Cert.ReferenceBackAIdeal.main_v55) = v9 c
          ∧ r.2.mem ((c.tc : Thread Cert.ReferenceBackAIdeal.nD Cert.ReferenceBackAIdeal.τ).loc Cert.ReferenceBackAIdeal.main_arg0) = m' ((c.tc : Thread Cert.ReferenceBackAIdeal.nD Cert.ReferenceBackAIdeal.τ).loc Cert.ReferenceBackAIdeal.main_arg0)
          ∧ r.2.mem ((c.tc : Thread Cert.ReferenceBackAIdeal.nD Cert.ReferenceBackAIdeal.τ).loc Cert.ReferenceBackAIdeal.main_arg1) = m' ((c.tc : Thread Cert.ReferenceBackAIdeal.nD Cert.ReferenceBackAIdeal.τ).loc Cert.ReferenceBackAIdeal.main_arg1)
          ∧ r.2.mem ((c.tc : Thread Cert.ReferenceBackAIdeal.nD Cert.ReferenceBackAIdeal.τ).loc Cert.ReferenceBackAIdeal.main_arg2) = m' ((c.tc : Thread Cert.ReferenceBackAIdeal.nD Cert.ReferenceBackAIdeal.τ).loc Cert.ReferenceBackAIdeal.main_arg2)
          ∧ r.2.mem ((c.tc : Thread Cert.ReferenceBackAIdeal.nD Cert.ReferenceBackAIdeal.τ).loc Cert.ReferenceBackAIdeal.main_arg3) = m' ((c.tc : Thread Cert.ReferenceBackAIdeal.nD Cert.ReferenceBackAIdeal.τ).loc Cert.ReferenceBackAIdeal.main_arg3)
          ∧ r.2.mem ((c.tc : Thread Cert.ReferenceBackAIdeal.nD Cert.ReferenceBackAIdeal.τ).loc Cert.ReferenceBackAIdeal.main_arg4) = m' ((c.tc : Thread Cert.ReferenceBackAIdeal.nD Cert.ReferenceBackAIdeal.τ).loc Cert.ReferenceBackAIdeal.main_arg4)
          ∧ r.2.mem ((c.tc : Thread Cert.ReferenceBackAIdeal.nD Cert.ReferenceBackAIdeal.τ).loc Cert.ReferenceBackAIdeal.main_arg5) = m' ((c.tc : Thread Cert.ReferenceBackAIdeal.nD Cert.ReferenceBackAIdeal.τ).loc Cert.ReferenceBackAIdeal.main_arg5)
          ∧ r.2.mem ((c.tc : Thread Cert.ReferenceBackAIdeal.nD Cert.ReferenceBackAIdeal.τ).loc Cert.ReferenceBackAIdeal.main_arg6) = m' ((c.tc : Thread Cert.ReferenceBackAIdeal.nD Cert.ReferenceBackAIdeal.τ).loc Cert.ReferenceBackAIdeal.main_arg6)
          ∧ r.2.mem ((c.tc : Thread Cert.ReferenceBackAIdeal.nD Cert.ReferenceBackAIdeal.τ).loc Cert.ReferenceBackAIdeal.main_arg7) = m' ((c.tc : Thread Cert.ReferenceBackAIdeal.nD Cert.ReferenceBackAIdeal.τ).loc Cert.ReferenceBackAIdeal.main_arg7)
          ∧ r.2.mem ((c.tc : Thread Cert.ReferenceBackAIdeal.nD Cert.ReferenceBackAIdeal.τ).loc Cert.ReferenceBackAIdeal.main_arg8) = m' ((c.tc : Thread Cert.ReferenceBackAIdeal.nD Cert.ReferenceBackAIdeal.τ).loc Cert.ReferenceBackAIdeal.main_arg8)
          ∧ r.2.mem ((c.tc : Thread Cert.ReferenceBackAIdeal.nD Cert.ReferenceBackAIdeal.τ).loc Cert.ReferenceBackAIdeal.main_arg9) = m' ((c.tc : Thread Cert.ReferenceBackAIdeal.nD Cert.ReferenceBackAIdeal.τ).loc Cert.ReferenceBackAIdeal.main_arg9))

def preserves_KernelProjA_KernelProjAIdeal : Prop :=
  True

def algebraic_KernelProjAIdeal_ReferenceProjAIdeal [hKernelProjAIdeal : Cert.KernelProjAIdeal.Facts] [hReferenceProjAIdeal : Cert.ReferenceProjAIdeal.Facts] : Prop :=
  ∀ (m : (ℓ : Loc Cert.KernelProjAIdeal.nD Cert.KernelProjAIdeal.τ Cert.KernelProjAIdeal.sig) → Buf (Elt Ideal) ℓ) (g : Dev Cert.KernelProjAIdeal.nD → PrngReg)
    (m' : (ℓ : Loc Cert.ReferenceProjAIdeal.nD Cert.ReferenceProjAIdeal.τ Cert.ReferenceProjAIdeal.sig) → Buf (Elt Ideal) ℓ) (g' : Dev Cert.ReferenceProjAIdeal.nD → PrngReg), Pre_KernelProjAIdeal m →
    (∀ c : Dev Cert.KernelProjAIdeal.nD,
      m' ((c.tc : Thread Cert.ReferenceProjAIdeal.nD Cert.ReferenceProjAIdeal.τ).loc Cert.ReferenceProjAIdeal.main_arg0) = m ((c.tc : Thread Cert.KernelProjAIdeal.nD Cert.KernelProjAIdeal.τ).loc Cert.KernelProjAIdeal.main_arg0)
      ∧ m' ((c.tc : Thread Cert.ReferenceProjAIdeal.nD Cert.ReferenceProjAIdeal.τ).loc Cert.ReferenceProjAIdeal.main_arg1) = m ((c.tc : Thread Cert.KernelProjAIdeal.nD Cert.KernelProjAIdeal.τ).loc Cert.KernelProjAIdeal.main_arg1)
      ∧ m' ((c.tc : Thread Cert.ReferenceProjAIdeal.nD Cert.ReferenceProjAIdeal.τ).loc Cert.ReferenceProjAIdeal.main_arg2) = m ((c.tc : Thread Cert.KernelProjAIdeal.nD Cert.KernelProjAIdeal.τ).loc Cert.KernelProjAIdeal.main_arg2)
      ∧ m' ((c.tc : Thread Cert.ReferenceProjAIdeal.nD Cert.ReferenceProjAIdeal.τ).loc Cert.ReferenceProjAIdeal.main_arg3) = m ((c.tc : Thread Cert.KernelProjAIdeal.nD Cert.KernelProjAIdeal.τ).loc Cert.KernelProjAIdeal.main_arg3)
      ∧ m' ((c.tc : Thread Cert.ReferenceProjAIdeal.nD Cert.ReferenceProjAIdeal.τ).loc Cert.ReferenceProjAIdeal.main_arg4) = m ((c.tc : Thread Cert.KernelProjAIdeal.nD Cert.KernelProjAIdeal.τ).loc Cert.KernelProjAIdeal.main_arg4)) →
    ∃ (v0 : (c : Dev Cert.KernelProjAIdeal.nD) → Buf (Elt Ideal) ((c.tc : Thread Cert.KernelProjAIdeal.nD Cert.KernelProjAIdeal.τ).loc Cert.KernelProjAIdeal.main_v0_0)) (v1 : (c : Dev Cert.KernelProjAIdeal.nD) → Buf (Elt Ideal) ((c.tc : Thread Cert.KernelProjAIdeal.nD Cert.KernelProjAIdeal.τ).loc Cert.KernelProjAIdeal.main_v0_1)) (v2 : (c : Dev Cert.KernelProjAIdeal.nD) → Buf (Elt Ideal) ((c.tc : Thread Cert.KernelProjAIdeal.nD Cert.KernelProjAIdeal.τ).loc Cert.KernelProjAIdeal.main_v0_2)),
      θ_run (Cert.KernelProjAIdeal.defs (F := Ideal)) (onTc (τ := Cert.KernelProjAIdeal.τ) (Cert.KernelProjAIdeal.main (F := Ideal))) ⟨m, fun _ => 0, g⟩ (fun r => ∀ c : Dev Cert.KernelProjAIdeal.nD,
          r.2.mem ((c.tc : Thread Cert.KernelProjAIdeal.nD Cert.KernelProjAIdeal.τ).loc Cert.KernelProjAIdeal.main_v0_0) = v0 c
          ∧ r.2.mem ((c.tc : Thread Cert.KernelProjAIdeal.nD Cert.KernelProjAIdeal.τ).loc Cert.KernelProjAIdeal.main_v0_1) = v1 c
          ∧ r.2.mem ((c.tc : Thread Cert.KernelProjAIdeal.nD Cert.KernelProjAIdeal.τ).loc Cert.KernelProjAIdeal.main_v0_2) = v2 c
          ∧ r.2.mem ((c.tc : Thread Cert.KernelProjAIdeal.nD Cert.KernelProjAIdeal.τ).loc Cert.KernelProjAIdeal.main_arg0) = m ((c.tc : Thread Cert.KernelProjAIdeal.nD Cert.KernelProjAIdeal.τ).loc Cert.KernelProjAIdeal.main_arg0)
          ∧ r.2.mem ((c.tc : Thread Cert.KernelProjAIdeal.nD Cert.KernelProjAIdeal.τ).loc Cert.KernelProjAIdeal.main_arg1) = m ((c.tc : Thread Cert.KernelProjAIdeal.nD Cert.KernelProjAIdeal.τ).loc Cert.KernelProjAIdeal.main_arg1)
          ∧ r.2.mem ((c.tc : Thread Cert.KernelProjAIdeal.nD Cert.KernelProjAIdeal.τ).loc Cert.KernelProjAIdeal.main_arg2) = m ((c.tc : Thread Cert.KernelProjAIdeal.nD Cert.KernelProjAIdeal.τ).loc Cert.KernelProjAIdeal.main_arg2)
          ∧ r.2.mem ((c.tc : Thread Cert.KernelProjAIdeal.nD Cert.KernelProjAIdeal.τ).loc Cert.KernelProjAIdeal.main_arg3) = m ((c.tc : Thread Cert.KernelProjAIdeal.nD Cert.KernelProjAIdeal.τ).loc Cert.KernelProjAIdeal.main_arg3)
          ∧ r.2.mem ((c.tc : Thread Cert.KernelProjAIdeal.nD Cert.KernelProjAIdeal.τ).loc Cert.KernelProjAIdeal.main_arg4) = m ((c.tc : Thread Cert.KernelProjAIdeal.nD Cert.KernelProjAIdeal.τ).loc Cert.KernelProjAIdeal.main_arg4))
      ∧ θ_run (Cert.ReferenceProjAIdeal.defs (F := Ideal)) (onTc (τ := Cert.ReferenceProjAIdeal.τ) (Cert.ReferenceProjAIdeal.main (F := Ideal))) ⟨m', fun _ => 0, g'⟩ (fun r => ∀ c : Dev Cert.ReferenceProjAIdeal.nD,
          r.2.mem ((c.tc : Thread Cert.ReferenceProjAIdeal.nD Cert.ReferenceProjAIdeal.τ).loc Cert.ReferenceProjAIdeal.main_v40) = v0 c
          ∧ r.2.mem ((c.tc : Thread Cert.ReferenceProjAIdeal.nD Cert.ReferenceProjAIdeal.τ).loc Cert.ReferenceProjAIdeal.main_v23) = v1 c
          ∧ r.2.mem ((c.tc : Thread Cert.ReferenceProjAIdeal.nD Cert.ReferenceProjAIdeal.τ).loc Cert.ReferenceProjAIdeal.main_v53) = v2 c
          ∧ r.2.mem ((c.tc : Thread Cert.ReferenceProjAIdeal.nD Cert.ReferenceProjAIdeal.τ).loc Cert.ReferenceProjAIdeal.main_arg0) = m' ((c.tc : Thread Cert.ReferenceProjAIdeal.nD Cert.ReferenceProjAIdeal.τ).loc Cert.ReferenceProjAIdeal.main_arg0)
          ∧ r.2.mem ((c.tc : Thread Cert.ReferenceProjAIdeal.nD Cert.ReferenceProjAIdeal.τ).loc Cert.ReferenceProjAIdeal.main_arg1) = m' ((c.tc : Thread Cert.ReferenceProjAIdeal.nD Cert.ReferenceProjAIdeal.τ).loc Cert.ReferenceProjAIdeal.main_arg1)
          ∧ r.2.mem ((c.tc : Thread Cert.ReferenceProjAIdeal.nD Cert.ReferenceProjAIdeal.τ).loc Cert.ReferenceProjAIdeal.main_arg2) = m' ((c.tc : Thread Cert.ReferenceProjAIdeal.nD Cert.ReferenceProjAIdeal.τ).loc Cert.ReferenceProjAIdeal.main_arg2)
          ∧ r.2.mem ((c.tc : Thread Cert.ReferenceProjAIdeal.nD Cert.ReferenceProjAIdeal.τ).loc Cert.ReferenceProjAIdeal.main_arg3) = m' ((c.tc : Thread Cert.ReferenceProjAIdeal.nD Cert.ReferenceProjAIdeal.τ).loc Cert.ReferenceProjAIdeal.main_arg3)
          ∧ r.2.mem ((c.tc : Thread Cert.ReferenceProjAIdeal.nD Cert.ReferenceProjAIdeal.τ).loc Cert.ReferenceProjAIdeal.main_arg4) = m' ((c.tc : Thread Cert.ReferenceProjAIdeal.nD Cert.ReferenceProjAIdeal.τ).loc Cert.ReferenceProjAIdeal.main_arg4))

def preserves_KernelProjB_KernelProjBIdeal : Prop :=
  True

def algebraic_KernelProjBIdeal_ReferenceProjBIdeal [hKernelProjBIdeal : Cert.KernelProjBIdeal.Facts] [hReferenceProjBIdeal : Cert.ReferenceProjBIdeal.Facts] : Prop :=
  ∀ (m : (ℓ : Loc Cert.KernelProjBIdeal.nD Cert.KernelProjBIdeal.τ Cert.KernelProjBIdeal.sig) → Buf (Elt Ideal) ℓ) (g : Dev Cert.KernelProjBIdeal.nD → PrngReg)
    (m' : (ℓ : Loc Cert.ReferenceProjBIdeal.nD Cert.ReferenceProjBIdeal.τ Cert.ReferenceProjBIdeal.sig) → Buf (Elt Ideal) ℓ) (g' : Dev Cert.ReferenceProjBIdeal.nD → PrngReg), Pre_KernelProjBIdeal m →
    (∀ c : Dev Cert.KernelProjBIdeal.nD,
      m' ((c.tc : Thread Cert.ReferenceProjBIdeal.nD Cert.ReferenceProjBIdeal.τ).loc Cert.ReferenceProjBIdeal.main_arg0) = m ((c.tc : Thread Cert.KernelProjBIdeal.nD Cert.KernelProjBIdeal.τ).loc Cert.KernelProjBIdeal.main_arg0)
      ∧ m' ((c.tc : Thread Cert.ReferenceProjBIdeal.nD Cert.ReferenceProjBIdeal.τ).loc Cert.ReferenceProjBIdeal.main_arg1) = m ((c.tc : Thread Cert.KernelProjBIdeal.nD Cert.KernelProjBIdeal.τ).loc Cert.KernelProjBIdeal.main_arg1)
      ∧ m' ((c.tc : Thread Cert.ReferenceProjBIdeal.nD Cert.ReferenceProjBIdeal.τ).loc Cert.ReferenceProjBIdeal.main_arg2) = m ((c.tc : Thread Cert.KernelProjBIdeal.nD Cert.KernelProjBIdeal.τ).loc Cert.KernelProjBIdeal.main_arg2)
      ∧ m' ((c.tc : Thread Cert.ReferenceProjBIdeal.nD Cert.ReferenceProjBIdeal.τ).loc Cert.ReferenceProjBIdeal.main_arg3) = m ((c.tc : Thread Cert.KernelProjBIdeal.nD Cert.KernelProjBIdeal.τ).loc Cert.KernelProjBIdeal.main_arg3)
      ∧ m' ((c.tc : Thread Cert.ReferenceProjBIdeal.nD Cert.ReferenceProjBIdeal.τ).loc Cert.ReferenceProjBIdeal.main_arg4) = m ((c.tc : Thread Cert.KernelProjBIdeal.nD Cert.KernelProjBIdeal.τ).loc Cert.KernelProjBIdeal.main_arg4)) →
    ∃ (v0 : (c : Dev Cert.KernelProjBIdeal.nD) → Buf (Elt Ideal) ((c.tc : Thread Cert.KernelProjBIdeal.nD Cert.KernelProjBIdeal.τ).loc Cert.KernelProjBIdeal.main_v0_0)) (v1 : (c : Dev Cert.KernelProjBIdeal.nD) → Buf (Elt Ideal) ((c.tc : Thread Cert.KernelProjBIdeal.nD Cert.KernelProjBIdeal.τ).loc Cert.KernelProjBIdeal.main_v0_1)) (v2 : (c : Dev Cert.KernelProjBIdeal.nD) → Buf (Elt Ideal) ((c.tc : Thread Cert.KernelProjBIdeal.nD Cert.KernelProjBIdeal.τ).loc Cert.KernelProjBIdeal.main_v0_2)),
      θ_run (Cert.KernelProjBIdeal.defs (F := Ideal)) (onTc (τ := Cert.KernelProjBIdeal.τ) (Cert.KernelProjBIdeal.main (F := Ideal))) ⟨m, fun _ => 0, g⟩ (fun r => ∀ c : Dev Cert.KernelProjBIdeal.nD,
          r.2.mem ((c.tc : Thread Cert.KernelProjBIdeal.nD Cert.KernelProjBIdeal.τ).loc Cert.KernelProjBIdeal.main_v0_0) = v0 c
          ∧ r.2.mem ((c.tc : Thread Cert.KernelProjBIdeal.nD Cert.KernelProjBIdeal.τ).loc Cert.KernelProjBIdeal.main_v0_1) = v1 c
          ∧ r.2.mem ((c.tc : Thread Cert.KernelProjBIdeal.nD Cert.KernelProjBIdeal.τ).loc Cert.KernelProjBIdeal.main_v0_2) = v2 c
          ∧ r.2.mem ((c.tc : Thread Cert.KernelProjBIdeal.nD Cert.KernelProjBIdeal.τ).loc Cert.KernelProjBIdeal.main_arg0) = m ((c.tc : Thread Cert.KernelProjBIdeal.nD Cert.KernelProjBIdeal.τ).loc Cert.KernelProjBIdeal.main_arg0)
          ∧ r.2.mem ((c.tc : Thread Cert.KernelProjBIdeal.nD Cert.KernelProjBIdeal.τ).loc Cert.KernelProjBIdeal.main_arg1) = m ((c.tc : Thread Cert.KernelProjBIdeal.nD Cert.KernelProjBIdeal.τ).loc Cert.KernelProjBIdeal.main_arg1)
          ∧ r.2.mem ((c.tc : Thread Cert.KernelProjBIdeal.nD Cert.KernelProjBIdeal.τ).loc Cert.KernelProjBIdeal.main_arg2) = m ((c.tc : Thread Cert.KernelProjBIdeal.nD Cert.KernelProjBIdeal.τ).loc Cert.KernelProjBIdeal.main_arg2)
          ∧ r.2.mem ((c.tc : Thread Cert.KernelProjBIdeal.nD Cert.KernelProjBIdeal.τ).loc Cert.KernelProjBIdeal.main_arg3) = m ((c.tc : Thread Cert.KernelProjBIdeal.nD Cert.KernelProjBIdeal.τ).loc Cert.KernelProjBIdeal.main_arg3)
          ∧ r.2.mem ((c.tc : Thread Cert.KernelProjBIdeal.nD Cert.KernelProjBIdeal.τ).loc Cert.KernelProjBIdeal.main_arg4) = m ((c.tc : Thread Cert.KernelProjBIdeal.nD Cert.KernelProjBIdeal.τ).loc Cert.KernelProjBIdeal.main_arg4))
      ∧ θ_run (Cert.ReferenceProjBIdeal.defs (F := Ideal)) (onTc (τ := Cert.ReferenceProjBIdeal.τ) (Cert.ReferenceProjBIdeal.main (F := Ideal))) ⟨m', fun _ => 0, g'⟩ (fun r => ∀ c : Dev Cert.ReferenceProjBIdeal.nD,
          r.2.mem ((c.tc : Thread Cert.ReferenceProjBIdeal.nD Cert.ReferenceProjBIdeal.τ).loc Cert.ReferenceProjBIdeal.main_v40) = v0 c
          ∧ r.2.mem ((c.tc : Thread Cert.ReferenceProjBIdeal.nD Cert.ReferenceProjBIdeal.τ).loc Cert.ReferenceProjBIdeal.main_v23) = v1 c
          ∧ r.2.mem ((c.tc : Thread Cert.ReferenceProjBIdeal.nD Cert.ReferenceProjBIdeal.τ).loc Cert.ReferenceProjBIdeal.main_v53) = v2 c
          ∧ r.2.mem ((c.tc : Thread Cert.ReferenceProjBIdeal.nD Cert.ReferenceProjBIdeal.τ).loc Cert.ReferenceProjBIdeal.main_arg0) = m' ((c.tc : Thread Cert.ReferenceProjBIdeal.nD Cert.ReferenceProjBIdeal.τ).loc Cert.ReferenceProjBIdeal.main_arg0)
          ∧ r.2.mem ((c.tc : Thread Cert.ReferenceProjBIdeal.nD Cert.ReferenceProjBIdeal.τ).loc Cert.ReferenceProjBIdeal.main_arg1) = m' ((c.tc : Thread Cert.ReferenceProjBIdeal.nD Cert.ReferenceProjBIdeal.τ).loc Cert.ReferenceProjBIdeal.main_arg1)
          ∧ r.2.mem ((c.tc : Thread Cert.ReferenceProjBIdeal.nD Cert.ReferenceProjBIdeal.τ).loc Cert.ReferenceProjBIdeal.main_arg2) = m' ((c.tc : Thread Cert.ReferenceProjBIdeal.nD Cert.ReferenceProjBIdeal.τ).loc Cert.ReferenceProjBIdeal.main_arg2)
          ∧ r.2.mem ((c.tc : Thread Cert.ReferenceProjBIdeal.nD Cert.ReferenceProjBIdeal.τ).loc Cert.ReferenceProjBIdeal.main_arg3) = m' ((c.tc : Thread Cert.ReferenceProjBIdeal.nD Cert.ReferenceProjBIdeal.τ).loc Cert.ReferenceProjBIdeal.main_arg3)
          ∧ r.2.mem ((c.tc : Thread Cert.ReferenceProjBIdeal.nD Cert.ReferenceProjBIdeal.τ).loc Cert.ReferenceProjBIdeal.main_arg4) = m' ((c.tc : Thread Cert.ReferenceProjBIdeal.nD Cert.ReferenceProjBIdeal.τ).loc Cert.ReferenceProjBIdeal.main_arg4))

def preserves_KernelOptSmall_KernelOptSmallIdeal : Prop :=
  IdealRules.named_const.Statement Cert.KernelOptSmallIdeal.κ "c1" .f32 0x3FC48605#32 ((8388608 / 5463681 : ℝ) : EReal)
  ∧ IdealRules.named_const.Statement Cert.KernelOptSmallIdeal.κ "c2" .f32 0x42C8E6D3#32 ((268435456 / 2672307 : ℝ) : EReal)

def algebraic_KernelOptSmallIdeal_ReferenceOptSmallIdeal [hKernelOptSmallIdeal : Cert.KernelOptSmallIdeal.Facts] [hReferenceOptSmallIdeal : Cert.ReferenceOptSmallIdeal.Facts] : Prop :=
  ∀ (m : (ℓ : Loc Cert.KernelOptSmallIdeal.nD Cert.KernelOptSmallIdeal.τ Cert.KernelOptSmallIdeal.sig) → Buf (Elt Ideal) ℓ) (g : Dev Cert.KernelOptSmallIdeal.nD → PrngReg)
    (m' : (ℓ : Loc Cert.ReferenceOptSmallIdeal.nD Cert.ReferenceOptSmallIdeal.τ Cert.ReferenceOptSmallIdeal.sig) → Buf (Elt Ideal) ℓ) (g' : Dev Cert.ReferenceOptSmallIdeal.nD → PrngReg), Pre_KernelOptSmallIdeal m →
    (∀ c : Dev Cert.KernelOptSmallIdeal.nD,
      m' ((c.tc : Thread Cert.ReferenceOptSmallIdeal.nD Cert.ReferenceOptSmallIdeal.τ).loc Cert.ReferenceOptSmallIdeal.main_arg0) = m ((c.tc : Thread Cert.KernelOptSmallIdeal.nD Cert.KernelOptSmallIdeal.τ).loc Cert.KernelOptSmallIdeal.main_arg0)
      ∧ m' ((c.tc : Thread Cert.ReferenceOptSmallIdeal.nD Cert.ReferenceOptSmallIdeal.τ).loc Cert.ReferenceOptSmallIdeal.main_arg1) = m ((c.tc : Thread Cert.KernelOptSmallIdeal.nD Cert.KernelOptSmallIdeal.τ).loc Cert.KernelOptSmallIdeal.main_arg1)
      ∧ m' ((c.tc : Thread Cert.ReferenceOptSmallIdeal.nD Cert.ReferenceOptSmallIdeal.τ).loc Cert.ReferenceOptSmallIdeal.main_arg2) = m ((c.tc : Thread Cert.KernelOptSmallIdeal.nD Cert.KernelOptSmallIdeal.τ).loc Cert.KernelOptSmallIdeal.main_arg2)
      ∧ m' ((c.tc : Thread Cert.ReferenceOptSmallIdeal.nD Cert.ReferenceOptSmallIdeal.τ).loc Cert.ReferenceOptSmallIdeal.main_arg3) = m ((c.tc : Thread Cert.KernelOptSmallIdeal.nD Cert.KernelOptSmallIdeal.τ).loc Cert.KernelOptSmallIdeal.main_arg3)) →
    ∃ (v0 : (c : Dev Cert.KernelOptSmallIdeal.nD) → Buf (Elt Ideal) ((c.tc : Thread Cert.KernelOptSmallIdeal.nD Cert.KernelOptSmallIdeal.τ).loc Cert.KernelOptSmallIdeal.main_v0_0)) (v1 : (c : Dev Cert.KernelOptSmallIdeal.nD) → Buf (Elt Ideal) ((c.tc : Thread Cert.KernelOptSmallIdeal.nD Cert.KernelOptSmallIdeal.τ).loc Cert.KernelOptSmallIdeal.main_v0_1)) (v2 : (c : Dev Cert.KernelOptSmallIdeal.nD) → Buf (Elt Ideal) ((c.tc : Thread Cert.KernelOptSmallIdeal.nD Cert.KernelOptSmallIdeal.τ).loc Cert.KernelOptSmallIdeal.main_v0_2)) (v3 : (c : Dev Cert.KernelOptSmallIdeal.nD) → Buf (Elt Ideal) ((c.tc : Thread Cert.KernelOptSmallIdeal.nD Cert.KernelOptSmallIdeal.τ).loc Cert.KernelOptSmallIdeal.main_v0_3)),
      θ_run (Cert.KernelOptSmallIdeal.defs (F := Ideal)) (onTc (τ := Cert.KernelOptSmallIdeal.τ) (Cert.KernelOptSmallIdeal.main (F := Ideal))) ⟨m, fun _ => 0, g⟩ (fun r => ∀ c : Dev Cert.KernelOptSmallIdeal.nD,
          r.2.mem ((c.tc : Thread Cert.KernelOptSmallIdeal.nD Cert.KernelOptSmallIdeal.τ).loc Cert.KernelOptSmallIdeal.main_v0_0) = v0 c
          ∧ r.2.mem ((c.tc : Thread Cert.KernelOptSmallIdeal.nD Cert.KernelOptSmallIdeal.τ).loc Cert.KernelOptSmallIdeal.main_v0_1) = v1 c
          ∧ r.2.mem ((c.tc : Thread Cert.KernelOptSmallIdeal.nD Cert.KernelOptSmallIdeal.τ).loc Cert.KernelOptSmallIdeal.main_v0_2) = v2 c
          ∧ r.2.mem ((c.tc : Thread Cert.KernelOptSmallIdeal.nD Cert.KernelOptSmallIdeal.τ).loc Cert.KernelOptSmallIdeal.main_v0_3) = v3 c
          ∧ r.2.mem ((c.tc : Thread Cert.KernelOptSmallIdeal.nD Cert.KernelOptSmallIdeal.τ).loc Cert.KernelOptSmallIdeal.main_arg0) = m ((c.tc : Thread Cert.KernelOptSmallIdeal.nD Cert.KernelOptSmallIdeal.τ).loc Cert.KernelOptSmallIdeal.main_arg0)
          ∧ r.2.mem ((c.tc : Thread Cert.KernelOptSmallIdeal.nD Cert.KernelOptSmallIdeal.τ).loc Cert.KernelOptSmallIdeal.main_arg1) = m ((c.tc : Thread Cert.KernelOptSmallIdeal.nD Cert.KernelOptSmallIdeal.τ).loc Cert.KernelOptSmallIdeal.main_arg1)
          ∧ r.2.mem ((c.tc : Thread Cert.KernelOptSmallIdeal.nD Cert.KernelOptSmallIdeal.τ).loc Cert.KernelOptSmallIdeal.main_arg2) = m ((c.tc : Thread Cert.KernelOptSmallIdeal.nD Cert.KernelOptSmallIdeal.τ).loc Cert.KernelOptSmallIdeal.main_arg2)
          ∧ r.2.mem ((c.tc : Thread Cert.KernelOptSmallIdeal.nD Cert.KernelOptSmallIdeal.τ).loc Cert.KernelOptSmallIdeal.main_arg3) = m ((c.tc : Thread Cert.KernelOptSmallIdeal.nD Cert.KernelOptSmallIdeal.τ).loc Cert.KernelOptSmallIdeal.main_arg3))
      ∧ θ_run (Cert.ReferenceOptSmallIdeal.defs (F := Ideal)) (onTc (τ := Cert.ReferenceOptSmallIdeal.τ) (Cert.ReferenceOptSmallIdeal.main (F := Ideal))) ⟨m', fun _ => 0, g'⟩ (fun r => ∀ c : Dev Cert.ReferenceOptSmallIdeal.nD,
          r.2.mem ((c.tc : Thread Cert.ReferenceOptSmallIdeal.nD Cert.ReferenceOptSmallIdeal.τ).loc Cert.ReferenceOptSmallIdeal.main_v28) = v0 c
          ∧ r.2.mem ((c.tc : Thread Cert.ReferenceOptSmallIdeal.nD Cert.ReferenceOptSmallIdeal.τ).loc Cert.ReferenceOptSmallIdeal.main_v29) = v1 c
          ∧ r.2.mem ((c.tc : Thread Cert.ReferenceOptSmallIdeal.nD Cert.ReferenceOptSmallIdeal.τ).loc Cert.ReferenceOptSmallIdeal.main_v30) = v2 c
          ∧ r.2.mem ((c.tc : Thread Cert.ReferenceOptSmallIdeal.nD Cert.ReferenceOptSmallIdeal.τ).loc Cert.ReferenceOptSmallIdeal.main_v31) = v3 c
          ∧ r.2.mem ((c.tc : Thread Cert.ReferenceOptSmallIdeal.nD Cert.ReferenceOptSmallIdeal.τ).loc Cert.ReferenceOptSmallIdeal.main_arg0) = m' ((c.tc : Thread Cert.ReferenceOptSmallIdeal.nD Cert.ReferenceOptSmallIdeal.τ).loc Cert.ReferenceOptSmallIdeal.main_arg0)
          ∧ r.2.mem ((c.tc : Thread Cert.ReferenceOptSmallIdeal.nD Cert.ReferenceOptSmallIdeal.τ).loc Cert.ReferenceOptSmallIdeal.main_arg1) = m' ((c.tc : Thread Cert.ReferenceOptSmallIdeal.nD Cert.ReferenceOptSmallIdeal.τ).loc Cert.ReferenceOptSmallIdeal.main_arg1)
          ∧ r.2.mem ((c.tc : Thread Cert.ReferenceOptSmallIdeal.nD Cert.ReferenceOptSmallIdeal.τ).loc Cert.ReferenceOptSmallIdeal.main_arg2) = m' ((c.tc : Thread Cert.ReferenceOptSmallIdeal.nD Cert.ReferenceOptSmallIdeal.τ).loc Cert.ReferenceOptSmallIdeal.main_arg2)
          ∧ r.2.mem ((c.tc : Thread Cert.ReferenceOptSmallIdeal.nD Cert.ReferenceOptSmallIdeal.τ).loc Cert.ReferenceOptSmallIdeal.main_arg3) = m' ((c.tc : Thread Cert.ReferenceOptSmallIdeal.nD Cert.ReferenceOptSmallIdeal.τ).loc Cert.ReferenceOptSmallIdeal.main_arg3))

def preserves_KernelOptUpB_KernelOptUpBIdeal : Prop :=
  IdealRules.named_const.Statement Cert.KernelOptUpBIdeal.κ "c1" .f32 0x3FC48605#32 ((8388608 / 5463681 : ℝ) : EReal)
  ∧ IdealRules.named_const.Statement Cert.KernelOptUpBIdeal.κ "c2" .f32 0x42C8E6D3#32 ((268435456 / 2672307 : ℝ) : EReal)

def algebraic_KernelOptUpBIdeal_ReferenceOptUpBIdeal [hKernelOptUpBIdeal : Cert.KernelOptUpBIdeal.Facts] [hReferenceOptUpBIdeal : Cert.ReferenceOptUpBIdeal.Facts] : Prop :=
  ∀ (m : (ℓ : Loc Cert.KernelOptUpBIdeal.nD Cert.KernelOptUpBIdeal.τ Cert.KernelOptUpBIdeal.sig) → Buf (Elt Ideal) ℓ) (g : Dev Cert.KernelOptUpBIdeal.nD → PrngReg)
    (m' : (ℓ : Loc Cert.ReferenceOptUpBIdeal.nD Cert.ReferenceOptUpBIdeal.τ Cert.ReferenceOptUpBIdeal.sig) → Buf (Elt Ideal) ℓ) (g' : Dev Cert.ReferenceOptUpBIdeal.nD → PrngReg), Pre_KernelOptUpBIdeal m →
    (∀ c : Dev Cert.KernelOptUpBIdeal.nD,
      m' ((c.tc : Thread Cert.ReferenceOptUpBIdeal.nD Cert.ReferenceOptUpBIdeal.τ).loc Cert.ReferenceOptUpBIdeal.main_arg0) = m ((c.tc : Thread Cert.KernelOptUpBIdeal.nD Cert.KernelOptUpBIdeal.τ).loc Cert.KernelOptUpBIdeal.main_arg0)
      ∧ m' ((c.tc : Thread Cert.ReferenceOptUpBIdeal.nD Cert.ReferenceOptUpBIdeal.τ).loc Cert.ReferenceOptUpBIdeal.main_arg1) = m ((c.tc : Thread Cert.KernelOptUpBIdeal.nD Cert.KernelOptUpBIdeal.τ).loc Cert.KernelOptUpBIdeal.main_arg1)
      ∧ m' ((c.tc : Thread Cert.ReferenceOptUpBIdeal.nD Cert.ReferenceOptUpBIdeal.τ).loc Cert.ReferenceOptUpBIdeal.main_arg2) = m ((c.tc : Thread Cert.KernelOptUpBIdeal.nD Cert.KernelOptUpBIdeal.τ).loc Cert.KernelOptUpBIdeal.main_arg2)
      ∧ m' ((c.tc : Thread Cert.ReferenceOptUpBIdeal.nD Cert.ReferenceOptUpBIdeal.τ).loc Cert.ReferenceOptUpBIdeal.main_arg3) = m ((c.tc : Thread Cert.KernelOptUpBIdeal.nD Cert.KernelOptUpBIdeal.τ).loc Cert.KernelOptUpBIdeal.main_arg3)) →
    ∃ (v0 : (c : Dev Cert.KernelOptUpBIdeal.nD) → Buf (Elt Ideal) ((c.tc : Thread Cert.KernelOptUpBIdeal.nD Cert.KernelOptUpBIdeal.τ).loc Cert.KernelOptUpBIdeal.main_v2)) (v1 : (c : Dev Cert.KernelOptUpBIdeal.nD) → Buf (Elt Ideal) ((c.tc : Thread Cert.KernelOptUpBIdeal.nD Cert.KernelOptUpBIdeal.τ).loc Cert.KernelOptUpBIdeal.main_v4)) (v2 : (c : Dev Cert.KernelOptUpBIdeal.nD) → Buf (Elt Ideal) ((c.tc : Thread Cert.KernelOptUpBIdeal.nD Cert.KernelOptUpBIdeal.τ).loc Cert.KernelOptUpBIdeal.main_v6)) (v3 : (c : Dev Cert.KernelOptUpBIdeal.nD) → Buf (Elt Ideal) ((c.tc : Thread Cert.KernelOptUpBIdeal.nD Cert.KernelOptUpBIdeal.τ).loc Cert.KernelOptUpBIdeal.main_v8)),
      θ_run (Cert.KernelOptUpBIdeal.defs (F := Ideal)) (onTc (τ := Cert.KernelOptUpBIdeal.τ) (Cert.KernelOptUpBIdeal.main (F := Ideal))) ⟨m, fun _ => 0, g⟩ (fun r => ∀ c : Dev Cert.KernelOptUpBIdeal.nD,
          r.2.mem ((c.tc : Thread Cert.KernelOptUpBIdeal.nD Cert.KernelOptUpBIdeal.τ).loc Cert.KernelOptUpBIdeal.main_v2) = v0 c
          ∧ r.2.mem ((c.tc : Thread Cert.KernelOptUpBIdeal.nD Cert.KernelOptUpBIdeal.τ).loc Cert.KernelOptUpBIdeal.main_v4) = v1 c
          ∧ r.2.mem ((c.tc : Thread Cert.KernelOptUpBIdeal.nD Cert.KernelOptUpBIdeal.τ).loc Cert.KernelOptUpBIdeal.main_v6) = v2 c
          ∧ r.2.mem ((c.tc : Thread Cert.KernelOptUpBIdeal.nD Cert.KernelOptUpBIdeal.τ).loc Cert.KernelOptUpBIdeal.main_v8) = v3 c
          ∧ r.2.mem ((c.tc : Thread Cert.KernelOptUpBIdeal.nD Cert.KernelOptUpBIdeal.τ).loc Cert.KernelOptUpBIdeal.main_arg0) = m ((c.tc : Thread Cert.KernelOptUpBIdeal.nD Cert.KernelOptUpBIdeal.τ).loc Cert.KernelOptUpBIdeal.main_arg0)
          ∧ r.2.mem ((c.tc : Thread Cert.KernelOptUpBIdeal.nD Cert.KernelOptUpBIdeal.τ).loc Cert.KernelOptUpBIdeal.main_arg1) = m ((c.tc : Thread Cert.KernelOptUpBIdeal.nD Cert.KernelOptUpBIdeal.τ).loc Cert.KernelOptUpBIdeal.main_arg1)
          ∧ r.2.mem ((c.tc : Thread Cert.KernelOptUpBIdeal.nD Cert.KernelOptUpBIdeal.τ).loc Cert.KernelOptUpBIdeal.main_arg2) = m ((c.tc : Thread Cert.KernelOptUpBIdeal.nD Cert.KernelOptUpBIdeal.τ).loc Cert.KernelOptUpBIdeal.main_arg2)
          ∧ r.2.mem ((c.tc : Thread Cert.KernelOptUpBIdeal.nD Cert.KernelOptUpBIdeal.τ).loc Cert.KernelOptUpBIdeal.main_arg3) = m ((c.tc : Thread Cert.KernelOptUpBIdeal.nD Cert.KernelOptUpBIdeal.τ).loc Cert.KernelOptUpBIdeal.main_arg3))
      ∧ θ_run (Cert.ReferenceOptUpBIdeal.defs (F := Ideal)) (onTc (τ := Cert.ReferenceOptUpBIdeal.τ) (Cert.ReferenceOptUpBIdeal.main (F := Ideal))) ⟨m', fun _ => 0, g'⟩ (fun r => ∀ c : Dev Cert.ReferenceOptUpBIdeal.nD,
          r.2.mem ((c.tc : Thread Cert.ReferenceOptUpBIdeal.nD Cert.ReferenceOptUpBIdeal.τ).loc Cert.ReferenceOptUpBIdeal.main_v7) = v0 c
          ∧ r.2.mem ((c.tc : Thread Cert.ReferenceOptUpBIdeal.nD Cert.ReferenceOptUpBIdeal.τ).loc Cert.ReferenceOptUpBIdeal.main_v31) = v1 c
          ∧ r.2.mem ((c.tc : Thread Cert.ReferenceOptUpBIdeal.nD Cert.ReferenceOptUpBIdeal.τ).loc Cert.ReferenceOptUpBIdeal.main_v12) = v2 c
          ∧ r.2.mem ((c.tc : Thread Cert.ReferenceOptUpBIdeal.nD Cert.ReferenceOptUpBIdeal.τ).loc Cert.ReferenceOptUpBIdeal.main_v18) = v3 c
          ∧ r.2.mem ((c.tc : Thread Cert.ReferenceOptUpBIdeal.nD Cert.ReferenceOptUpBIdeal.τ).loc Cert.ReferenceOptUpBIdeal.main_arg0) = m' ((c.tc : Thread Cert.ReferenceOptUpBIdeal.nD Cert.ReferenceOptUpBIdeal.τ).loc Cert.ReferenceOptUpBIdeal.main_arg0)
          ∧ r.2.mem ((c.tc : Thread Cert.ReferenceOptUpBIdeal.nD Cert.ReferenceOptUpBIdeal.τ).loc Cert.ReferenceOptUpBIdeal.main_arg1) = m' ((c.tc : Thread Cert.ReferenceOptUpBIdeal.nD Cert.ReferenceOptUpBIdeal.τ).loc Cert.ReferenceOptUpBIdeal.main_arg1)
          ∧ r.2.mem ((c.tc : Thread Cert.ReferenceOptUpBIdeal.nD Cert.ReferenceOptUpBIdeal.τ).loc Cert.ReferenceOptUpBIdeal.main_arg2) = m' ((c.tc : Thread Cert.ReferenceOptUpBIdeal.nD Cert.ReferenceOptUpBIdeal.τ).loc Cert.ReferenceOptUpBIdeal.main_arg2)
          ∧ r.2.mem ((c.tc : Thread Cert.ReferenceOptUpBIdeal.nD Cert.ReferenceOptUpBIdeal.τ).loc Cert.ReferenceOptUpBIdeal.main_arg3) = m' ((c.tc : Thread Cert.ReferenceOptUpBIdeal.nD Cert.ReferenceOptUpBIdeal.τ).loc Cert.ReferenceOptUpBIdeal.main_arg3))

def preserves_KernelOptUpA_KernelOptUpAIdeal : Prop :=
  IdealRules.named_const.Statement Cert.KernelOptUpAIdeal.κ "c1" .f32 0x3FC48605#32 ((8388608 / 5463681 : ℝ) : EReal)
  ∧ IdealRules.named_const.Statement Cert.KernelOptUpAIdeal.κ "c2" .f32 0x42C8E6D3#32 ((268435456 / 2672307 : ℝ) : EReal)

def algebraic_KernelOptUpAIdeal_ReferenceOptUpAIdeal [hKernelOptUpAIdeal : Cert.KernelOptUpAIdeal.Facts] [hReferenceOptUpAIdeal : Cert.ReferenceOptUpAIdeal.Facts] : Prop :=
  ∀ (m : (ℓ : Loc Cert.KernelOptUpAIdeal.nD Cert.KernelOptUpAIdeal.τ Cert.KernelOptUpAIdeal.sig) → Buf (Elt Ideal) ℓ) (g : Dev Cert.KernelOptUpAIdeal.nD → PrngReg)
    (m' : (ℓ : Loc Cert.ReferenceOptUpAIdeal.nD Cert.ReferenceOptUpAIdeal.τ Cert.ReferenceOptUpAIdeal.sig) → Buf (Elt Ideal) ℓ) (g' : Dev Cert.ReferenceOptUpAIdeal.nD → PrngReg), Pre_KernelOptUpAIdeal m →
    (∀ c : Dev Cert.KernelOptUpAIdeal.nD,
      m' ((c.tc : Thread Cert.ReferenceOptUpAIdeal.nD Cert.ReferenceOptUpAIdeal.τ).loc Cert.ReferenceOptUpAIdeal.main_arg0) = m ((c.tc : Thread Cert.KernelOptUpAIdeal.nD Cert.KernelOptUpAIdeal.τ).loc Cert.KernelOptUpAIdeal.main_arg0)
      ∧ m' ((c.tc : Thread Cert.ReferenceOptUpAIdeal.nD Cert.ReferenceOptUpAIdeal.τ).loc Cert.ReferenceOptUpAIdeal.main_arg1) = m ((c.tc : Thread Cert.KernelOptUpAIdeal.nD Cert.KernelOptUpAIdeal.τ).loc Cert.KernelOptUpAIdeal.main_arg1)
      ∧ m' ((c.tc : Thread Cert.ReferenceOptUpAIdeal.nD Cert.ReferenceOptUpAIdeal.τ).loc Cert.ReferenceOptUpAIdeal.main_arg2) = m ((c.tc : Thread Cert.KernelOptUpAIdeal.nD Cert.KernelOptUpAIdeal.τ).loc Cert.KernelOptUpAIdeal.main_arg2)
      ∧ m' ((c.tc : Thread Cert.ReferenceOptUpAIdeal.nD Cert.ReferenceOptUpAIdeal.τ).loc Cert.ReferenceOptUpAIdeal.main_arg3) = m ((c.tc : Thread Cert.KernelOptUpAIdeal.nD Cert.KernelOptUpAIdeal.τ).loc Cert.KernelOptUpAIdeal.main_arg3)
      ∧ m' ((c.tc : Thread Cert.ReferenceOptUpAIdeal.nD Cert.ReferenceOptUpAIdeal.τ).loc Cert.ReferenceOptUpAIdeal.main_arg4) = m ((c.tc : Thread Cert.KernelOptUpAIdeal.nD Cert.KernelOptUpAIdeal.τ).loc Cert.KernelOptUpAIdeal.main_arg4)
      ∧ m' ((c.tc : Thread Cert.ReferenceOptUpAIdeal.nD Cert.ReferenceOptUpAIdeal.τ).loc Cert.ReferenceOptUpAIdeal.main_arg5) = m ((c.tc : Thread Cert.KernelOptUpAIdeal.nD Cert.KernelOptUpAIdeal.τ).loc Cert.KernelOptUpAIdeal.main_arg5)
      ∧ m' ((c.tc : Thread Cert.ReferenceOptUpAIdeal.nD Cert.ReferenceOptUpAIdeal.τ).loc Cert.ReferenceOptUpAIdeal.main_arg6) = m ((c.tc : Thread Cert.KernelOptUpAIdeal.nD Cert.KernelOptUpAIdeal.τ).loc Cert.KernelOptUpAIdeal.main_arg6)
      ∧ m' ((c.tc : Thread Cert.ReferenceOptUpAIdeal.nD Cert.ReferenceOptUpAIdeal.τ).loc Cert.ReferenceOptUpAIdeal.main_arg7) = m ((c.tc : Thread Cert.KernelOptUpAIdeal.nD Cert.KernelOptUpAIdeal.τ).loc Cert.KernelOptUpAIdeal.main_arg7)) →
    ∃ (v0 : (c : Dev Cert.KernelOptUpAIdeal.nD) → Buf (Elt Ideal) ((c.tc : Thread Cert.KernelOptUpAIdeal.nD Cert.KernelOptUpAIdeal.τ).loc Cert.KernelOptUpAIdeal.main_v0_0)) (v1 : (c : Dev Cert.KernelOptUpAIdeal.nD) → Buf (Elt Ideal) ((c.tc : Thread Cert.KernelOptUpAIdeal.nD Cert.KernelOptUpAIdeal.τ).loc Cert.KernelOptUpAIdeal.main_v0_1)) (v2 : (c : Dev Cert.KernelOptUpAIdeal.nD) → Buf (Elt Ideal) ((c.tc : Thread Cert.KernelOptUpAIdeal.nD Cert.KernelOptUpAIdeal.τ).loc Cert.KernelOptUpAIdeal.main_v0_2)) (v3 : (c : Dev Cert.KernelOptUpAIdeal.nD) → Buf (Elt Ideal) ((c.tc : Thread Cert.KernelOptUpAIdeal.nD Cert.KernelOptUpAIdeal.τ).loc Cert.KernelOptUpAIdeal.main_v0_3)),
      θ_run (Cert.KernelOptUpAIdeal.defs (F := Ideal)) (onTc (τ := Cert.KernelOptUpAIdeal.τ) (Cert.KernelOptUpAIdeal.main (F := Ideal))) ⟨m, fun _ => 0, g⟩ (fun r => ∀ c : Dev Cert.KernelOptUpAIdeal.nD,
          r.2.mem ((c.tc : Thread Cert.KernelOptUpAIdeal.nD Cert.KernelOptUpAIdeal.τ).loc Cert.KernelOptUpAIdeal.main_v0_0) = v0 c
          ∧ r.2.mem ((c.tc : Thread Cert.KernelOptUpAIdeal.nD Cert.KernelOptUpAIdeal.τ).loc Cert.KernelOptUpAIdeal.main_v0_1) = v1 c
          ∧ r.2.mem ((c.tc : Thread Cert.KernelOptUpAIdeal.nD Cert.KernelOptUpAIdeal.τ).loc Cert.KernelOptUpAIdeal.main_v0_2) = v2 c
          ∧ r.2.mem ((c.tc : Thread Cert.KernelOptUpAIdeal.nD Cert.KernelOptUpAIdeal.τ).loc Cert.KernelOptUpAIdeal.main_v0_3) = v3 c
          ∧ r.2.mem ((c.tc : Thread Cert.KernelOptUpAIdeal.nD Cert.KernelOptUpAIdeal.τ).loc Cert.KernelOptUpAIdeal.main_arg0) = m ((c.tc : Thread Cert.KernelOptUpAIdeal.nD Cert.KernelOptUpAIdeal.τ).loc Cert.KernelOptUpAIdeal.main_arg0)
          ∧ r.2.mem ((c.tc : Thread Cert.KernelOptUpAIdeal.nD Cert.KernelOptUpAIdeal.τ).loc Cert.KernelOptUpAIdeal.main_arg1) = m ((c.tc : Thread Cert.KernelOptUpAIdeal.nD Cert.KernelOptUpAIdeal.τ).loc Cert.KernelOptUpAIdeal.main_arg1)
          ∧ r.2.mem ((c.tc : Thread Cert.KernelOptUpAIdeal.nD Cert.KernelOptUpAIdeal.τ).loc Cert.KernelOptUpAIdeal.main_arg2) = m ((c.tc : Thread Cert.KernelOptUpAIdeal.nD Cert.KernelOptUpAIdeal.τ).loc Cert.KernelOptUpAIdeal.main_arg2)
          ∧ r.2.mem ((c.tc : Thread Cert.KernelOptUpAIdeal.nD Cert.KernelOptUpAIdeal.τ).loc Cert.KernelOptUpAIdeal.main_arg3) = m ((c.tc : Thread Cert.KernelOptUpAIdeal.nD Cert.KernelOptUpAIdeal.τ).loc Cert.KernelOptUpAIdeal.main_arg3)
          ∧ r.2.mem ((c.tc : Thread Cert.KernelOptUpAIdeal.nD Cert.KernelOptUpAIdeal.τ).loc Cert.KernelOptUpAIdeal.main_arg4) = m ((c.tc : Thread Cert.KernelOptUpAIdeal.nD Cert.KernelOptUpAIdeal.τ).loc Cert.KernelOptUpAIdeal.main_arg4)
          ∧ r.2.mem ((c.tc : Thread Cert.KernelOptUpAIdeal.nD Cert.KernelOptUpAIdeal.τ).loc Cert.KernelOptUpAIdeal.main_arg5) = m ((c.tc : Thread Cert.KernelOptUpAIdeal.nD Cert.KernelOptUpAIdeal.τ).loc Cert.KernelOptUpAIdeal.main_arg5)
          ∧ r.2.mem ((c.tc : Thread Cert.KernelOptUpAIdeal.nD Cert.KernelOptUpAIdeal.τ).loc Cert.KernelOptUpAIdeal.main_arg6) = m ((c.tc : Thread Cert.KernelOptUpAIdeal.nD Cert.KernelOptUpAIdeal.τ).loc Cert.KernelOptUpAIdeal.main_arg6)
          ∧ r.2.mem ((c.tc : Thread Cert.KernelOptUpAIdeal.nD Cert.KernelOptUpAIdeal.τ).loc Cert.KernelOptUpAIdeal.main_arg7) = m ((c.tc : Thread Cert.KernelOptUpAIdeal.nD Cert.KernelOptUpAIdeal.τ).loc Cert.KernelOptUpAIdeal.main_arg7))
      ∧ θ_run (Cert.ReferenceOptUpAIdeal.defs (F := Ideal)) (onTc (τ := Cert.ReferenceOptUpAIdeal.τ) (Cert.ReferenceOptUpAIdeal.main (F := Ideal))) ⟨m', fun _ => 0, g'⟩ (fun r => ∀ c : Dev Cert.ReferenceOptUpAIdeal.nD,
          r.2.mem ((c.tc : Thread Cert.ReferenceOptUpAIdeal.nD Cert.ReferenceOptUpAIdeal.τ).loc Cert.ReferenceOptUpAIdeal.main_v36) = v0 c
          ∧ r.2.mem ((c.tc : Thread Cert.ReferenceOptUpAIdeal.nD Cert.ReferenceOptUpAIdeal.τ).loc Cert.ReferenceOptUpAIdeal.main_v41) = v1 c
          ∧ r.2.mem ((c.tc : Thread Cert.ReferenceOptUpAIdeal.nD Cert.ReferenceOptUpAIdeal.τ).loc Cert.ReferenceOptUpAIdeal.main_v46) = v2 c
          ∧ r.2.mem ((c.tc : Thread Cert.ReferenceOptUpAIdeal.nD Cert.ReferenceOptUpAIdeal.τ).loc Cert.ReferenceOptUpAIdeal.main_v51) = v3 c
          ∧ r.2.mem ((c.tc : Thread Cert.ReferenceOptUpAIdeal.nD Cert.ReferenceOptUpAIdeal.τ).loc Cert.ReferenceOptUpAIdeal.main_arg0) = m' ((c.tc : Thread Cert.ReferenceOptUpAIdeal.nD Cert.ReferenceOptUpAIdeal.τ).loc Cert.ReferenceOptUpAIdeal.main_arg0)
          ∧ r.2.mem ((c.tc : Thread Cert.ReferenceOptUpAIdeal.nD Cert.ReferenceOptUpAIdeal.τ).loc Cert.ReferenceOptUpAIdeal.main_arg1) = m' ((c.tc : Thread Cert.ReferenceOptUpAIdeal.nD Cert.ReferenceOptUpAIdeal.τ).loc Cert.ReferenceOptUpAIdeal.main_arg1)
          ∧ r.2.mem ((c.tc : Thread Cert.ReferenceOptUpAIdeal.nD Cert.ReferenceOptUpAIdeal.τ).loc Cert.ReferenceOptUpAIdeal.main_arg2) = m' ((c.tc : Thread Cert.ReferenceOptUpAIdeal.nD Cert.ReferenceOptUpAIdeal.τ).loc Cert.ReferenceOptUpAIdeal.main_arg2)
          ∧ r.2.mem ((c.tc : Thread Cert.ReferenceOptUpAIdeal.nD Cert.ReferenceOptUpAIdeal.τ).loc Cert.ReferenceOptUpAIdeal.main_arg3) = m' ((c.tc : Thread Cert.ReferenceOptUpAIdeal.nD Cert.ReferenceOptUpAIdeal.τ).loc Cert.ReferenceOptUpAIdeal.main_arg3)
          ∧ r.2.mem ((c.tc : Thread Cert.ReferenceOptUpAIdeal.nD Cert.ReferenceOptUpAIdeal.τ).loc Cert.ReferenceOptUpAIdeal.main_arg4) = m' ((c.tc : Thread Cert.ReferenceOptUpAIdeal.nD Cert.ReferenceOptUpAIdeal.τ).loc Cert.ReferenceOptUpAIdeal.main_arg4)
          ∧ r.2.mem ((c.tc : Thread Cert.ReferenceOptUpAIdeal.nD Cert.ReferenceOptUpAIdeal.τ).loc Cert.ReferenceOptUpAIdeal.main_arg5) = m' ((c.tc : Thread Cert.ReferenceOptUpAIdeal.nD Cert.ReferenceOptUpAIdeal.τ).loc Cert.ReferenceOptUpAIdeal.main_arg5)
          ∧ r.2.mem ((c.tc : Thread Cert.ReferenceOptUpAIdeal.nD Cert.ReferenceOptUpAIdeal.τ).loc Cert.ReferenceOptUpAIdeal.main_arg6) = m' ((c.tc : Thread Cert.ReferenceOptUpAIdeal.nD Cert.ReferenceOptUpAIdeal.τ).loc Cert.ReferenceOptUpAIdeal.main_arg6)
          ∧ r.2.mem ((c.tc : Thread Cert.ReferenceOptUpAIdeal.nD Cert.ReferenceOptUpAIdeal.τ).loc Cert.ReferenceOptUpAIdeal.main_arg7) = m' ((c.tc : Thread Cert.ReferenceOptUpAIdeal.nD Cert.ReferenceOptUpAIdeal.τ).loc Cert.ReferenceOptUpAIdeal.main_arg7))

def preserves_KernelOptDownB_KernelOptDownBIdeal : Prop :=
  IdealRules.named_const.Statement Cert.KernelOptDownBIdeal.κ "c1" .f32 0x3FC48605#32 ((8388608 / 5463681 : ℝ) : EReal)
  ∧ IdealRules.named_const.Statement Cert.KernelOptDownBIdeal.κ "c2" .f32 0x42C8E6D3#32 ((268435456 / 2672307 : ℝ) : EReal)

def algebraic_KernelOptDownBIdeal_ReferenceOptDownBIdeal [hKernelOptDownBIdeal : Cert.KernelOptDownBIdeal.Facts] [hReferenceOptDownBIdeal : Cert.ReferenceOptDownBIdeal.Facts] : Prop :=
  ∀ (m : (ℓ : Loc Cert.KernelOptDownBIdeal.nD Cert.KernelOptDownBIdeal.τ Cert.KernelOptDownBIdeal.sig) → Buf (Elt Ideal) ℓ) (g : Dev Cert.KernelOptDownBIdeal.nD → PrngReg)
    (m' : (ℓ : Loc Cert.ReferenceOptDownBIdeal.nD Cert.ReferenceOptDownBIdeal.τ Cert.ReferenceOptDownBIdeal.sig) → Buf (Elt Ideal) ℓ) (g' : Dev Cert.ReferenceOptDownBIdeal.nD → PrngReg), Pre_KernelOptDownBIdeal m →
    (∀ c : Dev Cert.KernelOptDownBIdeal.nD,
      m' ((c.tc : Thread Cert.ReferenceOptDownBIdeal.nD Cert.ReferenceOptDownBIdeal.τ).loc Cert.ReferenceOptDownBIdeal.main_arg0) = m ((c.tc : Thread Cert.KernelOptDownBIdeal.nD Cert.KernelOptDownBIdeal.τ).loc Cert.KernelOptDownBIdeal.main_arg0)
      ∧ m' ((c.tc : Thread Cert.ReferenceOptDownBIdeal.nD Cert.ReferenceOptDownBIdeal.τ).loc Cert.ReferenceOptDownBIdeal.main_arg1) = m ((c.tc : Thread Cert.KernelOptDownBIdeal.nD Cert.KernelOptDownBIdeal.τ).loc Cert.KernelOptDownBIdeal.main_arg1)
      ∧ m' ((c.tc : Thread Cert.ReferenceOptDownBIdeal.nD Cert.ReferenceOptDownBIdeal.τ).loc Cert.ReferenceOptDownBIdeal.main_arg2) = m ((c.tc : Thread Cert.KernelOptDownBIdeal.nD Cert.KernelOptDownBIdeal.τ).loc Cert.KernelOptDownBIdeal.main_arg2)
      ∧ m' ((c.tc : Thread Cert.ReferenceOptDownBIdeal.nD Cert.ReferenceOptDownBIdeal.τ).loc Cert.ReferenceOptDownBIdeal.main_arg3) = m ((c.tc : Thread Cert.KernelOptDownBIdeal.nD Cert.KernelOptDownBIdeal.τ).loc Cert.KernelOptDownBIdeal.main_arg3)) →
    ∃ (v0 : (c : Dev Cert.KernelOptDownBIdeal.nD) → Buf (Elt Ideal) ((c.tc : Thread Cert.KernelOptDownBIdeal.nD Cert.KernelOptDownBIdeal.τ).loc Cert.KernelOptDownBIdeal.main_v2)) (v1 : (c : Dev Cert.KernelOptDownBIdeal.nD) → Buf (Elt Ideal) ((c.tc : Thread Cert.KernelOptDownBIdeal.nD Cert.KernelOptDownBIdeal.τ).loc Cert.KernelOptDownBIdeal.main_v4)) (v2 : (c : Dev Cert.KernelOptDownBIdeal.nD) → Buf (Elt Ideal) ((c.tc : Thread Cert.KernelOptDownBIdeal.nD Cert.KernelOptDownBIdeal.τ).loc Cert.KernelOptDownBIdeal.main_v6)) (v3 : (c : Dev Cert.KernelOptDownBIdeal.nD) → Buf (Elt Ideal) ((c.tc : Thread Cert.KernelOptDownBIdeal.nD Cert.KernelOptDownBIdeal.τ).loc Cert.KernelOptDownBIdeal.main_v8)),
      θ_run (Cert.KernelOptDownBIdeal.defs (F := Ideal)) (onTc (τ := Cert.KernelOptDownBIdeal.τ) (Cert.KernelOptDownBIdeal.main (F := Ideal))) ⟨m, fun _ => 0, g⟩ (fun r => ∀ c : Dev Cert.KernelOptDownBIdeal.nD,
          r.2.mem ((c.tc : Thread Cert.KernelOptDownBIdeal.nD Cert.KernelOptDownBIdeal.τ).loc Cert.KernelOptDownBIdeal.main_v2) = v0 c
          ∧ r.2.mem ((c.tc : Thread Cert.KernelOptDownBIdeal.nD Cert.KernelOptDownBIdeal.τ).loc Cert.KernelOptDownBIdeal.main_v4) = v1 c
          ∧ r.2.mem ((c.tc : Thread Cert.KernelOptDownBIdeal.nD Cert.KernelOptDownBIdeal.τ).loc Cert.KernelOptDownBIdeal.main_v6) = v2 c
          ∧ r.2.mem ((c.tc : Thread Cert.KernelOptDownBIdeal.nD Cert.KernelOptDownBIdeal.τ).loc Cert.KernelOptDownBIdeal.main_v8) = v3 c
          ∧ r.2.mem ((c.tc : Thread Cert.KernelOptDownBIdeal.nD Cert.KernelOptDownBIdeal.τ).loc Cert.KernelOptDownBIdeal.main_arg0) = m ((c.tc : Thread Cert.KernelOptDownBIdeal.nD Cert.KernelOptDownBIdeal.τ).loc Cert.KernelOptDownBIdeal.main_arg0)
          ∧ r.2.mem ((c.tc : Thread Cert.KernelOptDownBIdeal.nD Cert.KernelOptDownBIdeal.τ).loc Cert.KernelOptDownBIdeal.main_arg1) = m ((c.tc : Thread Cert.KernelOptDownBIdeal.nD Cert.KernelOptDownBIdeal.τ).loc Cert.KernelOptDownBIdeal.main_arg1)
          ∧ r.2.mem ((c.tc : Thread Cert.KernelOptDownBIdeal.nD Cert.KernelOptDownBIdeal.τ).loc Cert.KernelOptDownBIdeal.main_arg2) = m ((c.tc : Thread Cert.KernelOptDownBIdeal.nD Cert.KernelOptDownBIdeal.τ).loc Cert.KernelOptDownBIdeal.main_arg2)
          ∧ r.2.mem ((c.tc : Thread Cert.KernelOptDownBIdeal.nD Cert.KernelOptDownBIdeal.τ).loc Cert.KernelOptDownBIdeal.main_arg3) = m ((c.tc : Thread Cert.KernelOptDownBIdeal.nD Cert.KernelOptDownBIdeal.τ).loc Cert.KernelOptDownBIdeal.main_arg3))
      ∧ θ_run (Cert.ReferenceOptDownBIdeal.defs (F := Ideal)) (onTc (τ := Cert.ReferenceOptDownBIdeal.τ) (Cert.ReferenceOptDownBIdeal.main (F := Ideal))) ⟨m', fun _ => 0, g'⟩ (fun r => ∀ c : Dev Cert.ReferenceOptDownBIdeal.nD,
          r.2.mem ((c.tc : Thread Cert.ReferenceOptDownBIdeal.nD Cert.ReferenceOptDownBIdeal.τ).loc Cert.ReferenceOptDownBIdeal.main_v7) = v0 c
          ∧ r.2.mem ((c.tc : Thread Cert.ReferenceOptDownBIdeal.nD Cert.ReferenceOptDownBIdeal.τ).loc Cert.ReferenceOptDownBIdeal.main_v31) = v1 c
          ∧ r.2.mem ((c.tc : Thread Cert.ReferenceOptDownBIdeal.nD Cert.ReferenceOptDownBIdeal.τ).loc Cert.ReferenceOptDownBIdeal.main_v12) = v2 c
          ∧ r.2.mem ((c.tc : Thread Cert.ReferenceOptDownBIdeal.nD Cert.ReferenceOptDownBIdeal.τ).loc Cert.ReferenceOptDownBIdeal.main_v18) = v3 c
          ∧ r.2.mem ((c.tc : Thread Cert.ReferenceOptDownBIdeal.nD Cert.ReferenceOptDownBIdeal.τ).loc Cert.ReferenceOptDownBIdeal.main_arg0) = m' ((c.tc : Thread Cert.ReferenceOptDownBIdeal.nD Cert.ReferenceOptDownBIdeal.τ).loc Cert.ReferenceOptDownBIdeal.main_arg0)
          ∧ r.2.mem ((c.tc : Thread Cert.ReferenceOptDownBIdeal.nD Cert.ReferenceOptDownBIdeal.τ).loc Cert.ReferenceOptDownBIdeal.main_arg1) = m' ((c.tc : Thread Cert.ReferenceOptDownBIdeal.nD Cert.ReferenceOptDownBIdeal.τ).loc Cert.ReferenceOptDownBIdeal.main_arg1)
          ∧ r.2.mem ((c.tc : Thread Cert.ReferenceOptDownBIdeal.nD Cert.ReferenceOptDownBIdeal.τ).loc Cert.ReferenceOptDownBIdeal.main_arg2) = m' ((c.tc : Thread Cert.ReferenceOptDownBIdeal.nD Cert.ReferenceOptDownBIdeal.τ).loc Cert.ReferenceOptDownBIdeal.main_arg2)
          ∧ r.2.mem ((c.tc : Thread Cert.ReferenceOptDownBIdeal.nD Cert.ReferenceOptDownBIdeal.τ).loc Cert.ReferenceOptDownBIdeal.main_arg3) = m' ((c.tc : Thread Cert.ReferenceOptDownBIdeal.nD Cert.ReferenceOptDownBIdeal.τ).loc Cert.ReferenceOptDownBIdeal.main_arg3))

def preserves_KernelOptDownA_KernelOptDownAIdeal : Prop :=
  IdealRules.named_const.Statement Cert.KernelOptDownAIdeal.κ "c1" .f32 0x3FC48605#32 ((8388608 / 5463681 : ℝ) : EReal)
  ∧ IdealRules.named_const.Statement Cert.KernelOptDownAIdeal.κ "c2" .f32 0x42C8E6D3#32 ((268435456 / 2672307 : ℝ) : EReal)

def algebraic_KernelOptDownAIdeal_ReferenceOptDownAIdeal [hKernelOptDownAIdeal : Cert.KernelOptDownAIdeal.Facts] [hReferenceOptDownAIdeal : Cert.ReferenceOptDownAIdeal.Facts] : Prop :=
  ∀ (m : (ℓ : Loc Cert.KernelOptDownAIdeal.nD Cert.KernelOptDownAIdeal.τ Cert.KernelOptDownAIdeal.sig) → Buf (Elt Ideal) ℓ) (g : Dev Cert.KernelOptDownAIdeal.nD → PrngReg)
    (m' : (ℓ : Loc Cert.ReferenceOptDownAIdeal.nD Cert.ReferenceOptDownAIdeal.τ Cert.ReferenceOptDownAIdeal.sig) → Buf (Elt Ideal) ℓ) (g' : Dev Cert.ReferenceOptDownAIdeal.nD → PrngReg), Pre_KernelOptDownAIdeal m →
    (∀ c : Dev Cert.KernelOptDownAIdeal.nD,
      m' ((c.tc : Thread Cert.ReferenceOptDownAIdeal.nD Cert.ReferenceOptDownAIdeal.τ).loc Cert.ReferenceOptDownAIdeal.main_arg0) = m ((c.tc : Thread Cert.KernelOptDownAIdeal.nD Cert.KernelOptDownAIdeal.τ).loc Cert.KernelOptDownAIdeal.main_arg0)
      ∧ m' ((c.tc : Thread Cert.ReferenceOptDownAIdeal.nD Cert.ReferenceOptDownAIdeal.τ).loc Cert.ReferenceOptDownAIdeal.main_arg1) = m ((c.tc : Thread Cert.KernelOptDownAIdeal.nD Cert.KernelOptDownAIdeal.τ).loc Cert.KernelOptDownAIdeal.main_arg1)
      ∧ m' ((c.tc : Thread Cert.ReferenceOptDownAIdeal.nD Cert.ReferenceOptDownAIdeal.τ).loc Cert.ReferenceOptDownAIdeal.main_arg2) = m ((c.tc : Thread Cert.KernelOptDownAIdeal.nD Cert.KernelOptDownAIdeal.τ).loc Cert.KernelOptDownAIdeal.main_arg2)
      ∧ m' ((c.tc : Thread Cert.ReferenceOptDownAIdeal.nD Cert.ReferenceOptDownAIdeal.τ).loc Cert.ReferenceOptDownAIdeal.main_arg3) = m ((c.tc : Thread Cert.KernelOptDownAIdeal.nD Cert.KernelOptDownAIdeal.τ).loc Cert.KernelOptDownAIdeal.main_arg3)
      ∧ m' ((c.tc : Thread Cert.ReferenceOptDownAIdeal.nD Cert.ReferenceOptDownAIdeal.τ).loc Cert.ReferenceOptDownAIdeal.main_arg4) = m ((c.tc : Thread Cert.KernelOptDownAIdeal.nD Cert.KernelOptDownAIdeal.τ).loc Cert.KernelOptDownAIdeal.main_arg4)
      ∧ m' ((c.tc : Thread Cert.ReferenceOptDownAIdeal.nD Cert.ReferenceOptDownAIdeal.τ).loc Cert.ReferenceOptDownAIdeal.main_arg5) = m ((c.tc : Thread Cert.KernelOptDownAIdeal.nD Cert.KernelOptDownAIdeal.τ).loc Cert.KernelOptDownAIdeal.main_arg5)
      ∧ m' ((c.tc : Thread Cert.ReferenceOptDownAIdeal.nD Cert.ReferenceOptDownAIdeal.τ).loc Cert.ReferenceOptDownAIdeal.main_arg6) = m ((c.tc : Thread Cert.KernelOptDownAIdeal.nD Cert.KernelOptDownAIdeal.τ).loc Cert.KernelOptDownAIdeal.main_arg6)
      ∧ m' ((c.tc : Thread Cert.ReferenceOptDownAIdeal.nD Cert.ReferenceOptDownAIdeal.τ).loc Cert.ReferenceOptDownAIdeal.main_arg7) = m ((c.tc : Thread Cert.KernelOptDownAIdeal.nD Cert.KernelOptDownAIdeal.τ).loc Cert.KernelOptDownAIdeal.main_arg7)) →
    ∃ (v0 : (c : Dev Cert.KernelOptDownAIdeal.nD) → Buf (Elt Ideal) ((c.tc : Thread Cert.KernelOptDownAIdeal.nD Cert.KernelOptDownAIdeal.τ).loc Cert.KernelOptDownAIdeal.main_v0_0)) (v1 : (c : Dev Cert.KernelOptDownAIdeal.nD) → Buf (Elt Ideal) ((c.tc : Thread Cert.KernelOptDownAIdeal.nD Cert.KernelOptDownAIdeal.τ).loc Cert.KernelOptDownAIdeal.main_v0_1)) (v2 : (c : Dev Cert.KernelOptDownAIdeal.nD) → Buf (Elt Ideal) ((c.tc : Thread Cert.KernelOptDownAIdeal.nD Cert.KernelOptDownAIdeal.τ).loc Cert.KernelOptDownAIdeal.main_v0_2)) (v3 : (c : Dev Cert.KernelOptDownAIdeal.nD) → Buf (Elt Ideal) ((c.tc : Thread Cert.KernelOptDownAIdeal.nD Cert.KernelOptDownAIdeal.τ).loc Cert.KernelOptDownAIdeal.main_v0_3)),
      θ_run (Cert.KernelOptDownAIdeal.defs (F := Ideal)) (onTc (τ := Cert.KernelOptDownAIdeal.τ) (Cert.KernelOptDownAIdeal.main (F := Ideal))) ⟨m, fun _ => 0, g⟩ (fun r => ∀ c : Dev Cert.KernelOptDownAIdeal.nD,
          r.2.mem ((c.tc : Thread Cert.KernelOptDownAIdeal.nD Cert.KernelOptDownAIdeal.τ).loc Cert.KernelOptDownAIdeal.main_v0_0) = v0 c
          ∧ r.2.mem ((c.tc : Thread Cert.KernelOptDownAIdeal.nD Cert.KernelOptDownAIdeal.τ).loc Cert.KernelOptDownAIdeal.main_v0_1) = v1 c
          ∧ r.2.mem ((c.tc : Thread Cert.KernelOptDownAIdeal.nD Cert.KernelOptDownAIdeal.τ).loc Cert.KernelOptDownAIdeal.main_v0_2) = v2 c
          ∧ r.2.mem ((c.tc : Thread Cert.KernelOptDownAIdeal.nD Cert.KernelOptDownAIdeal.τ).loc Cert.KernelOptDownAIdeal.main_v0_3) = v3 c
          ∧ r.2.mem ((c.tc : Thread Cert.KernelOptDownAIdeal.nD Cert.KernelOptDownAIdeal.τ).loc Cert.KernelOptDownAIdeal.main_arg0) = m ((c.tc : Thread Cert.KernelOptDownAIdeal.nD Cert.KernelOptDownAIdeal.τ).loc Cert.KernelOptDownAIdeal.main_arg0)
          ∧ r.2.mem ((c.tc : Thread Cert.KernelOptDownAIdeal.nD Cert.KernelOptDownAIdeal.τ).loc Cert.KernelOptDownAIdeal.main_arg1) = m ((c.tc : Thread Cert.KernelOptDownAIdeal.nD Cert.KernelOptDownAIdeal.τ).loc Cert.KernelOptDownAIdeal.main_arg1)
          ∧ r.2.mem ((c.tc : Thread Cert.KernelOptDownAIdeal.nD Cert.KernelOptDownAIdeal.τ).loc Cert.KernelOptDownAIdeal.main_arg2) = m ((c.tc : Thread Cert.KernelOptDownAIdeal.nD Cert.KernelOptDownAIdeal.τ).loc Cert.KernelOptDownAIdeal.main_arg2)
          ∧ r.2.mem ((c.tc : Thread Cert.KernelOptDownAIdeal.nD Cert.KernelOptDownAIdeal.τ).loc Cert.KernelOptDownAIdeal.main_arg3) = m ((c.tc : Thread Cert.KernelOptDownAIdeal.nD Cert.KernelOptDownAIdeal.τ).loc Cert.KernelOptDownAIdeal.main_arg3)
          ∧ r.2.mem ((c.tc : Thread Cert.KernelOptDownAIdeal.nD Cert.KernelOptDownAIdeal.τ).loc Cert.KernelOptDownAIdeal.main_arg4) = m ((c.tc : Thread Cert.KernelOptDownAIdeal.nD Cert.KernelOptDownAIdeal.τ).loc Cert.KernelOptDownAIdeal.main_arg4)
          ∧ r.2.mem ((c.tc : Thread Cert.KernelOptDownAIdeal.nD Cert.KernelOptDownAIdeal.τ).loc Cert.KernelOptDownAIdeal.main_arg5) = m ((c.tc : Thread Cert.KernelOptDownAIdeal.nD Cert.KernelOptDownAIdeal.τ).loc Cert.KernelOptDownAIdeal.main_arg5)
          ∧ r.2.mem ((c.tc : Thread Cert.KernelOptDownAIdeal.nD Cert.KernelOptDownAIdeal.τ).loc Cert.KernelOptDownAIdeal.main_arg6) = m ((c.tc : Thread Cert.KernelOptDownAIdeal.nD Cert.KernelOptDownAIdeal.τ).loc Cert.KernelOptDownAIdeal.main_arg6)
          ∧ r.2.mem ((c.tc : Thread Cert.KernelOptDownAIdeal.nD Cert.KernelOptDownAIdeal.τ).loc Cert.KernelOptDownAIdeal.main_arg7) = m ((c.tc : Thread Cert.KernelOptDownAIdeal.nD Cert.KernelOptDownAIdeal.τ).loc Cert.KernelOptDownAIdeal.main_arg7))
      ∧ θ_run (Cert.ReferenceOptDownAIdeal.defs (F := Ideal)) (onTc (τ := Cert.ReferenceOptDownAIdeal.τ) (Cert.ReferenceOptDownAIdeal.main (F := Ideal))) ⟨m', fun _ => 0, g'⟩ (fun r => ∀ c : Dev Cert.ReferenceOptDownAIdeal.nD,
          r.2.mem ((c.tc : Thread Cert.ReferenceOptDownAIdeal.nD Cert.ReferenceOptDownAIdeal.τ).loc Cert.ReferenceOptDownAIdeal.main_v36) = v0 c
          ∧ r.2.mem ((c.tc : Thread Cert.ReferenceOptDownAIdeal.nD Cert.ReferenceOptDownAIdeal.τ).loc Cert.ReferenceOptDownAIdeal.main_v41) = v1 c
          ∧ r.2.mem ((c.tc : Thread Cert.ReferenceOptDownAIdeal.nD Cert.ReferenceOptDownAIdeal.τ).loc Cert.ReferenceOptDownAIdeal.main_v46) = v2 c
          ∧ r.2.mem ((c.tc : Thread Cert.ReferenceOptDownAIdeal.nD Cert.ReferenceOptDownAIdeal.τ).loc Cert.ReferenceOptDownAIdeal.main_v51) = v3 c
          ∧ r.2.mem ((c.tc : Thread Cert.ReferenceOptDownAIdeal.nD Cert.ReferenceOptDownAIdeal.τ).loc Cert.ReferenceOptDownAIdeal.main_arg0) = m' ((c.tc : Thread Cert.ReferenceOptDownAIdeal.nD Cert.ReferenceOptDownAIdeal.τ).loc Cert.ReferenceOptDownAIdeal.main_arg0)
          ∧ r.2.mem ((c.tc : Thread Cert.ReferenceOptDownAIdeal.nD Cert.ReferenceOptDownAIdeal.τ).loc Cert.ReferenceOptDownAIdeal.main_arg1) = m' ((c.tc : Thread Cert.ReferenceOptDownAIdeal.nD Cert.ReferenceOptDownAIdeal.τ).loc Cert.ReferenceOptDownAIdeal.main_arg1)
          ∧ r.2.mem ((c.tc : Thread Cert.ReferenceOptDownAIdeal.nD Cert.ReferenceOptDownAIdeal.τ).loc Cert.ReferenceOptDownAIdeal.main_arg2) = m' ((c.tc : Thread Cert.ReferenceOptDownAIdeal.nD Cert.ReferenceOptDownAIdeal.τ).loc Cert.ReferenceOptDownAIdeal.main_arg2)
          ∧ r.2.mem ((c.tc : Thread Cert.ReferenceOptDownAIdeal.nD Cert.ReferenceOptDownAIdeal.τ).loc Cert.ReferenceOptDownAIdeal.main_arg3) = m' ((c.tc : Thread Cert.ReferenceOptDownAIdeal.nD Cert.ReferenceOptDownAIdeal.τ).loc Cert.ReferenceOptDownAIdeal.main_arg3)
          ∧ r.2.mem ((c.tc : Thread Cert.ReferenceOptDownAIdeal.nD Cert.ReferenceOptDownAIdeal.τ).loc Cert.ReferenceOptDownAIdeal.main_arg4) = m' ((c.tc : Thread Cert.ReferenceOptDownAIdeal.nD Cert.ReferenceOptDownAIdeal.τ).loc Cert.ReferenceOptDownAIdeal.main_arg4)
          ∧ r.2.mem ((c.tc : Thread Cert.ReferenceOptDownAIdeal.nD Cert.ReferenceOptDownAIdeal.τ).loc Cert.ReferenceOptDownAIdeal.main_arg5) = m' ((c.tc : Thread Cert.ReferenceOptDownAIdeal.nD Cert.ReferenceOptDownAIdeal.τ).loc Cert.ReferenceOptDownAIdeal.main_arg5)
          ∧ r.2.mem ((c.tc : Thread Cert.ReferenceOptDownAIdeal.nD Cert.ReferenceOptDownAIdeal.τ).loc Cert.ReferenceOptDownAIdeal.main_arg6) = m' ((c.tc : Thread Cert.ReferenceOptDownAIdeal.nD Cert.ReferenceOptDownAIdeal.τ).loc Cert.ReferenceOptDownAIdeal.main_arg6)
          ∧ r.2.mem ((c.tc : Thread Cert.ReferenceOptDownAIdeal.nD Cert.ReferenceOptDownAIdeal.τ).loc Cert.ReferenceOptDownAIdeal.main_arg7) = m' ((c.tc : Thread Cert.ReferenceOptDownAIdeal.nD Cert.ReferenceOptDownAIdeal.τ).loc Cert.ReferenceOptDownAIdeal.main_arg7))

def preserves_KernelOptInB_KernelOptInBIdeal : Prop :=
  IdealRules.named_const.Statement Cert.KernelOptInBIdeal.κ "c1" .f32 0x3FC48605#32 ((8388608 / 5463681 : ℝ) : EReal)
  ∧ IdealRules.named_const.Statement Cert.KernelOptInBIdeal.κ "c2" .f32 0x42C8E6D3#32 ((268435456 / 2672307 : ℝ) : EReal)

def algebraic_KernelOptInBIdeal_ReferenceOptInBIdeal [hKernelOptInBIdeal : Cert.KernelOptInBIdeal.Facts] [hReferenceOptInBIdeal : Cert.ReferenceOptInBIdeal.Facts] : Prop :=
  ∀ (m : (ℓ : Loc Cert.KernelOptInBIdeal.nD Cert.KernelOptInBIdeal.τ Cert.KernelOptInBIdeal.sig) → Buf (Elt Ideal) ℓ) (g : Dev Cert.KernelOptInBIdeal.nD → PrngReg)
    (m' : (ℓ : Loc Cert.ReferenceOptInBIdeal.nD Cert.ReferenceOptInBIdeal.τ Cert.ReferenceOptInBIdeal.sig) → Buf (Elt Ideal) ℓ) (g' : Dev Cert.ReferenceOptInBIdeal.nD → PrngReg), Pre_KernelOptInBIdeal m →
    (∀ c : Dev Cert.KernelOptInBIdeal.nD,
      m' ((c.tc : Thread Cert.ReferenceOptInBIdeal.nD Cert.ReferenceOptInBIdeal.τ).loc Cert.ReferenceOptInBIdeal.main_arg0) = m ((c.tc : Thread Cert.KernelOptInBIdeal.nD Cert.KernelOptInBIdeal.τ).loc Cert.KernelOptInBIdeal.main_arg0)
      ∧ m' ((c.tc : Thread Cert.ReferenceOptInBIdeal.nD Cert.ReferenceOptInBIdeal.τ).loc Cert.ReferenceOptInBIdeal.main_arg1) = m ((c.tc : Thread Cert.KernelOptInBIdeal.nD Cert.KernelOptInBIdeal.τ).loc Cert.KernelOptInBIdeal.main_arg1)
      ∧ m' ((c.tc : Thread Cert.ReferenceOptInBIdeal.nD Cert.ReferenceOptInBIdeal.τ).loc Cert.ReferenceOptInBIdeal.main_arg2) = m ((c.tc : Thread Cert.KernelOptInBIdeal.nD Cert.KernelOptInBIdeal.τ).loc Cert.KernelOptInBIdeal.main_arg2)
      ∧ m' ((c.tc : Thread Cert.ReferenceOptInBIdeal.nD Cert.ReferenceOptInBIdeal.τ).loc Cert.ReferenceOptInBIdeal.main_arg3) = m ((c.tc : Thread Cert.KernelOptInBIdeal.nD Cert.KernelOptInBIdeal.τ).loc Cert.KernelOptInBIdeal.main_arg3)) →
    ∃ (v0 : (c : Dev Cert.KernelOptInBIdeal.nD) → Buf (Elt Ideal) ((c.tc : Thread Cert.KernelOptInBIdeal.nD Cert.KernelOptInBIdeal.τ).loc Cert.KernelOptInBIdeal.main_v2)) (v1 : (c : Dev Cert.KernelOptInBIdeal.nD) → Buf (Elt Ideal) ((c.tc : Thread Cert.KernelOptInBIdeal.nD Cert.KernelOptInBIdeal.τ).loc Cert.KernelOptInBIdeal.main_v4)) (v2 : (c : Dev Cert.KernelOptInBIdeal.nD) → Buf (Elt Ideal) ((c.tc : Thread Cert.KernelOptInBIdeal.nD Cert.KernelOptInBIdeal.τ).loc Cert.KernelOptInBIdeal.main_v6)) (v3 : (c : Dev Cert.KernelOptInBIdeal.nD) → Buf (Elt Ideal) ((c.tc : Thread Cert.KernelOptInBIdeal.nD Cert.KernelOptInBIdeal.τ).loc Cert.KernelOptInBIdeal.main_v8)),
      θ_run (Cert.KernelOptInBIdeal.defs (F := Ideal)) (onTc (τ := Cert.KernelOptInBIdeal.τ) (Cert.KernelOptInBIdeal.main (F := Ideal))) ⟨m, fun _ => 0, g⟩ (fun r => ∀ c : Dev Cert.KernelOptInBIdeal.nD,
          r.2.mem ((c.tc : Thread Cert.KernelOptInBIdeal.nD Cert.KernelOptInBIdeal.τ).loc Cert.KernelOptInBIdeal.main_v2) = v0 c
          ∧ r.2.mem ((c.tc : Thread Cert.KernelOptInBIdeal.nD Cert.KernelOptInBIdeal.τ).loc Cert.KernelOptInBIdeal.main_v4) = v1 c
          ∧ r.2.mem ((c.tc : Thread Cert.KernelOptInBIdeal.nD Cert.KernelOptInBIdeal.τ).loc Cert.KernelOptInBIdeal.main_v6) = v2 c
          ∧ r.2.mem ((c.tc : Thread Cert.KernelOptInBIdeal.nD Cert.KernelOptInBIdeal.τ).loc Cert.KernelOptInBIdeal.main_v8) = v3 c
          ∧ r.2.mem ((c.tc : Thread Cert.KernelOptInBIdeal.nD Cert.KernelOptInBIdeal.τ).loc Cert.KernelOptInBIdeal.main_arg0) = m ((c.tc : Thread Cert.KernelOptInBIdeal.nD Cert.KernelOptInBIdeal.τ).loc Cert.KernelOptInBIdeal.main_arg0)
          ∧ r.2.mem ((c.tc : Thread Cert.KernelOptInBIdeal.nD Cert.KernelOptInBIdeal.τ).loc Cert.KernelOptInBIdeal.main_arg1) = m ((c.tc : Thread Cert.KernelOptInBIdeal.nD Cert.KernelOptInBIdeal.τ).loc Cert.KernelOptInBIdeal.main_arg1)
          ∧ r.2.mem ((c.tc : Thread Cert.KernelOptInBIdeal.nD Cert.KernelOptInBIdeal.τ).loc Cert.KernelOptInBIdeal.main_arg2) = m ((c.tc : Thread Cert.KernelOptInBIdeal.nD Cert.KernelOptInBIdeal.τ).loc Cert.KernelOptInBIdeal.main_arg2)
          ∧ r.2.mem ((c.tc : Thread Cert.KernelOptInBIdeal.nD Cert.KernelOptInBIdeal.τ).loc Cert.KernelOptInBIdeal.main_arg3) = m ((c.tc : Thread Cert.KernelOptInBIdeal.nD Cert.KernelOptInBIdeal.τ).loc Cert.KernelOptInBIdeal.main_arg3))
      ∧ θ_run (Cert.ReferenceOptInBIdeal.defs (F := Ideal)) (onTc (τ := Cert.ReferenceOptInBIdeal.τ) (Cert.ReferenceOptInBIdeal.main (F := Ideal))) ⟨m', fun _ => 0, g'⟩ (fun r => ∀ c : Dev Cert.ReferenceOptInBIdeal.nD,
          r.2.mem ((c.tc : Thread Cert.ReferenceOptInBIdeal.nD Cert.ReferenceOptInBIdeal.τ).loc Cert.ReferenceOptInBIdeal.main_v7) = v0 c
          ∧ r.2.mem ((c.tc : Thread Cert.ReferenceOptInBIdeal.nD Cert.ReferenceOptInBIdeal.τ).loc Cert.ReferenceOptInBIdeal.main_v31) = v1 c
          ∧ r.2.mem ((c.tc : Thread Cert.ReferenceOptInBIdeal.nD Cert.ReferenceOptInBIdeal.τ).loc Cert.ReferenceOptInBIdeal.main_v12) = v2 c
          ∧ r.2.mem ((c.tc : Thread Cert.ReferenceOptInBIdeal.nD Cert.ReferenceOptInBIdeal.τ).loc Cert.ReferenceOptInBIdeal.main_v18) = v3 c
          ∧ r.2.mem ((c.tc : Thread Cert.ReferenceOptInBIdeal.nD Cert.ReferenceOptInBIdeal.τ).loc Cert.ReferenceOptInBIdeal.main_arg0) = m' ((c.tc : Thread Cert.ReferenceOptInBIdeal.nD Cert.ReferenceOptInBIdeal.τ).loc Cert.ReferenceOptInBIdeal.main_arg0)
          ∧ r.2.mem ((c.tc : Thread Cert.ReferenceOptInBIdeal.nD Cert.ReferenceOptInBIdeal.τ).loc Cert.ReferenceOptInBIdeal.main_arg1) = m' ((c.tc : Thread Cert.ReferenceOptInBIdeal.nD Cert.ReferenceOptInBIdeal.τ).loc Cert.ReferenceOptInBIdeal.main_arg1)
          ∧ r.2.mem ((c.tc : Thread Cert.ReferenceOptInBIdeal.nD Cert.ReferenceOptInBIdeal.τ).loc Cert.ReferenceOptInBIdeal.main_arg2) = m' ((c.tc : Thread Cert.ReferenceOptInBIdeal.nD Cert.ReferenceOptInBIdeal.τ).loc Cert.ReferenceOptInBIdeal.main_arg2)
          ∧ r.2.mem ((c.tc : Thread Cert.ReferenceOptInBIdeal.nD Cert.ReferenceOptInBIdeal.τ).loc Cert.ReferenceOptInBIdeal.main_arg3) = m' ((c.tc : Thread Cert.ReferenceOptInBIdeal.nD Cert.ReferenceOptInBIdeal.τ).loc Cert.ReferenceOptInBIdeal.main_arg3))

def preserves_KernelOptInA_KernelOptInAIdeal : Prop :=
  IdealRules.named_const.Statement Cert.KernelOptInAIdeal.κ "c1" .f32 0x3FC48605#32 ((8388608 / 5463681 : ℝ) : EReal)
  ∧ IdealRules.named_const.Statement Cert.KernelOptInAIdeal.κ "c2" .f32 0x42C8E6D3#32 ((268435456 / 2672307 : ℝ) : EReal)

def algebraic_KernelOptInAIdeal_ReferenceOptInAIdeal [hKernelOptInAIdeal : Cert.KernelOptInAIdeal.Facts] [hReferenceOptInAIdeal : Cert.ReferenceOptInAIdeal.Facts] : Prop :=
  ∀ (m : (ℓ : Loc Cert.KernelOptInAIdeal.nD Cert.KernelOptInAIdeal.τ Cert.KernelOptInAIdeal.sig) → Buf (Elt Ideal) ℓ) (g : Dev Cert.KernelOptInAIdeal.nD → PrngReg)
    (m' : (ℓ : Loc Cert.ReferenceOptInAIdeal.nD Cert.ReferenceOptInAIdeal.τ Cert.ReferenceOptInAIdeal.sig) → Buf (Elt Ideal) ℓ) (g' : Dev Cert.ReferenceOptInAIdeal.nD → PrngReg), Pre_KernelOptInAIdeal m →
    (∀ c : Dev Cert.KernelOptInAIdeal.nD,
      m' ((c.tc : Thread Cert.ReferenceOptInAIdeal.nD Cert.ReferenceOptInAIdeal.τ).loc Cert.ReferenceOptInAIdeal.main_arg0) = m ((c.tc : Thread Cert.KernelOptInAIdeal.nD Cert.KernelOptInAIdeal.τ).loc Cert.KernelOptInAIdeal.main_arg0)
      ∧ m' ((c.tc : Thread Cert.ReferenceOptInAIdeal.nD Cert.ReferenceOptInAIdeal.τ).loc Cert.ReferenceOptInAIdeal.main_arg1) = m ((c.tc : Thread Cert.KernelOptInAIdeal.nD Cert.KernelOptInAIdeal.τ).loc Cert.KernelOptInAIdeal.main_arg1)
      ∧ m' ((c.tc : Thread Cert.ReferenceOptInAIdeal.nD Cert.ReferenceOptInAIdeal.τ).loc Cert.ReferenceOptInAIdeal.main_arg2) = m ((c.tc : Thread Cert.KernelOptInAIdeal.nD Cert.KernelOptInAIdeal.τ).loc Cert.KernelOptInAIdeal.main_arg2)
      ∧ m' ((c.tc : Thread Cert.ReferenceOptInAIdeal.nD Cert.ReferenceOptInAIdeal.τ).loc Cert.ReferenceOptInAIdeal.main_arg3) = m ((c.tc : Thread Cert.KernelOptInAIdeal.nD Cert.KernelOptInAIdeal.τ).loc Cert.KernelOptInAIdeal.main_arg3)
      ∧ m' ((c.tc : Thread Cert.ReferenceOptInAIdeal.nD Cert.ReferenceOptInAIdeal.τ).loc Cert.ReferenceOptInAIdeal.main_arg4) = m ((c.tc : Thread Cert.KernelOptInAIdeal.nD Cert.KernelOptInAIdeal.τ).loc Cert.KernelOptInAIdeal.main_arg4)
      ∧ m' ((c.tc : Thread Cert.ReferenceOptInAIdeal.nD Cert.ReferenceOptInAIdeal.τ).loc Cert.ReferenceOptInAIdeal.main_arg5) = m ((c.tc : Thread Cert.KernelOptInAIdeal.nD Cert.KernelOptInAIdeal.τ).loc Cert.KernelOptInAIdeal.main_arg5)
      ∧ m' ((c.tc : Thread Cert.ReferenceOptInAIdeal.nD Cert.ReferenceOptInAIdeal.τ).loc Cert.ReferenceOptInAIdeal.main_arg6) = m ((c.tc : Thread Cert.KernelOptInAIdeal.nD Cert.KernelOptInAIdeal.τ).loc Cert.KernelOptInAIdeal.main_arg6)
      ∧ m' ((c.tc : Thread Cert.ReferenceOptInAIdeal.nD Cert.ReferenceOptInAIdeal.τ).loc Cert.ReferenceOptInAIdeal.main_arg7) = m ((c.tc : Thread Cert.KernelOptInAIdeal.nD Cert.KernelOptInAIdeal.τ).loc Cert.KernelOptInAIdeal.main_arg7)) →
    ∃ (v0 : (c : Dev Cert.KernelOptInAIdeal.nD) → Buf (Elt Ideal) ((c.tc : Thread Cert.KernelOptInAIdeal.nD Cert.KernelOptInAIdeal.τ).loc Cert.KernelOptInAIdeal.main_v0_0)) (v1 : (c : Dev Cert.KernelOptInAIdeal.nD) → Buf (Elt Ideal) ((c.tc : Thread Cert.KernelOptInAIdeal.nD Cert.KernelOptInAIdeal.τ).loc Cert.KernelOptInAIdeal.main_v0_1)) (v2 : (c : Dev Cert.KernelOptInAIdeal.nD) → Buf (Elt Ideal) ((c.tc : Thread Cert.KernelOptInAIdeal.nD Cert.KernelOptInAIdeal.τ).loc Cert.KernelOptInAIdeal.main_v0_2)) (v3 : (c : Dev Cert.KernelOptInAIdeal.nD) → Buf (Elt Ideal) ((c.tc : Thread Cert.KernelOptInAIdeal.nD Cert.KernelOptInAIdeal.τ).loc Cert.KernelOptInAIdeal.main_v0_3)),
      θ_run (Cert.KernelOptInAIdeal.defs (F := Ideal)) (onTc (τ := Cert.KernelOptInAIdeal.τ) (Cert.KernelOptInAIdeal.main (F := Ideal))) ⟨m, fun _ => 0, g⟩ (fun r => ∀ c : Dev Cert.KernelOptInAIdeal.nD,
          r.2.mem ((c.tc : Thread Cert.KernelOptInAIdeal.nD Cert.KernelOptInAIdeal.τ).loc Cert.KernelOptInAIdeal.main_v0_0) = v0 c
          ∧ r.2.mem ((c.tc : Thread Cert.KernelOptInAIdeal.nD Cert.KernelOptInAIdeal.τ).loc Cert.KernelOptInAIdeal.main_v0_1) = v1 c
          ∧ r.2.mem ((c.tc : Thread Cert.KernelOptInAIdeal.nD Cert.KernelOptInAIdeal.τ).loc Cert.KernelOptInAIdeal.main_v0_2) = v2 c
          ∧ r.2.mem ((c.tc : Thread Cert.KernelOptInAIdeal.nD Cert.KernelOptInAIdeal.τ).loc Cert.KernelOptInAIdeal.main_v0_3) = v3 c
          ∧ r.2.mem ((c.tc : Thread Cert.KernelOptInAIdeal.nD Cert.KernelOptInAIdeal.τ).loc Cert.KernelOptInAIdeal.main_arg0) = m ((c.tc : Thread Cert.KernelOptInAIdeal.nD Cert.KernelOptInAIdeal.τ).loc Cert.KernelOptInAIdeal.main_arg0)
          ∧ r.2.mem ((c.tc : Thread Cert.KernelOptInAIdeal.nD Cert.KernelOptInAIdeal.τ).loc Cert.KernelOptInAIdeal.main_arg1) = m ((c.tc : Thread Cert.KernelOptInAIdeal.nD Cert.KernelOptInAIdeal.τ).loc Cert.KernelOptInAIdeal.main_arg1)
          ∧ r.2.mem ((c.tc : Thread Cert.KernelOptInAIdeal.nD Cert.KernelOptInAIdeal.τ).loc Cert.KernelOptInAIdeal.main_arg2) = m ((c.tc : Thread Cert.KernelOptInAIdeal.nD Cert.KernelOptInAIdeal.τ).loc Cert.KernelOptInAIdeal.main_arg2)
          ∧ r.2.mem ((c.tc : Thread Cert.KernelOptInAIdeal.nD Cert.KernelOptInAIdeal.τ).loc Cert.KernelOptInAIdeal.main_arg3) = m ((c.tc : Thread Cert.KernelOptInAIdeal.nD Cert.KernelOptInAIdeal.τ).loc Cert.KernelOptInAIdeal.main_arg3)
          ∧ r.2.mem ((c.tc : Thread Cert.KernelOptInAIdeal.nD Cert.KernelOptInAIdeal.τ).loc Cert.KernelOptInAIdeal.main_arg4) = m ((c.tc : Thread Cert.KernelOptInAIdeal.nD Cert.KernelOptInAIdeal.τ).loc Cert.KernelOptInAIdeal.main_arg4)
          ∧ r.2.mem ((c.tc : Thread Cert.KernelOptInAIdeal.nD Cert.KernelOptInAIdeal.τ).loc Cert.KernelOptInAIdeal.main_arg5) = m ((c.tc : Thread Cert.KernelOptInAIdeal.nD Cert.KernelOptInAIdeal.τ).loc Cert.KernelOptInAIdeal.main_arg5)
          ∧ r.2.mem ((c.tc : Thread Cert.KernelOptInAIdeal.nD Cert.KernelOptInAIdeal.τ).loc Cert.KernelOptInAIdeal.main_arg6) = m ((c.tc : Thread Cert.KernelOptInAIdeal.nD Cert.KernelOptInAIdeal.τ).loc Cert.KernelOptInAIdeal.main_arg6)
          ∧ r.2.mem ((c.tc : Thread Cert.KernelOptInAIdeal.nD Cert.KernelOptInAIdeal.τ).loc Cert.KernelOptInAIdeal.main_arg7) = m ((c.tc : Thread Cert.KernelOptInAIdeal.nD Cert.KernelOptInAIdeal.τ).loc Cert.KernelOptInAIdeal.main_arg7))
      ∧ θ_run (Cert.ReferenceOptInAIdeal.defs (F := Ideal)) (onTc (τ := Cert.ReferenceOptInAIdeal.τ) (Cert.ReferenceOptInAIdeal.main (F := Ideal))) ⟨m', fun _ => 0, g'⟩ (fun r => ∀ c : Dev Cert.ReferenceOptInAIdeal.nD,
          r.2.mem ((c.tc : Thread Cert.ReferenceOptInAIdeal.nD Cert.ReferenceOptInAIdeal.τ).loc Cert.ReferenceOptInAIdeal.main_v36) = v0 c
          ∧ r.2.mem ((c.tc : Thread Cert.ReferenceOptInAIdeal.nD Cert.ReferenceOptInAIdeal.τ).loc Cert.ReferenceOptInAIdeal.main_v41) = v1 c
          ∧ r.2.mem ((c.tc : Thread Cert.ReferenceOptInAIdeal.nD Cert.ReferenceOptInAIdeal.τ).loc Cert.ReferenceOptInAIdeal.main_v46) = v2 c
          ∧ r.2.mem ((c.tc : Thread Cert.ReferenceOptInAIdeal.nD Cert.ReferenceOptInAIdeal.τ).loc Cert.ReferenceOptInAIdeal.main_v51) = v3 c
          ∧ r.2.mem ((c.tc : Thread Cert.ReferenceOptInAIdeal.nD Cert.ReferenceOptInAIdeal.τ).loc Cert.ReferenceOptInAIdeal.main_arg0) = m' ((c.tc : Thread Cert.ReferenceOptInAIdeal.nD Cert.ReferenceOptInAIdeal.τ).loc Cert.ReferenceOptInAIdeal.main_arg0)
          ∧ r.2.mem ((c.tc : Thread Cert.ReferenceOptInAIdeal.nD Cert.ReferenceOptInAIdeal.τ).loc Cert.ReferenceOptInAIdeal.main_arg1) = m' ((c.tc : Thread Cert.ReferenceOptInAIdeal.nD Cert.ReferenceOptInAIdeal.τ).loc Cert.ReferenceOptInAIdeal.main_arg1)
          ∧ r.2.mem ((c.tc : Thread Cert.ReferenceOptInAIdeal.nD Cert.ReferenceOptInAIdeal.τ).loc Cert.ReferenceOptInAIdeal.main_arg2) = m' ((c.tc : Thread Cert.ReferenceOptInAIdeal.nD Cert.ReferenceOptInAIdeal.τ).loc Cert.ReferenceOptInAIdeal.main_arg2)
          ∧ r.2.mem ((c.tc : Thread Cert.ReferenceOptInAIdeal.nD Cert.ReferenceOptInAIdeal.τ).loc Cert.ReferenceOptInAIdeal.main_arg3) = m' ((c.tc : Thread Cert.ReferenceOptInAIdeal.nD Cert.ReferenceOptInAIdeal.τ).loc Cert.ReferenceOptInAIdeal.main_arg3)
          ∧ r.2.mem ((c.tc : Thread Cert.ReferenceOptInAIdeal.nD Cert.ReferenceOptInAIdeal.τ).loc Cert.ReferenceOptInAIdeal.main_arg4) = m' ((c.tc : Thread Cert.ReferenceOptInAIdeal.nD Cert.ReferenceOptInAIdeal.τ).loc Cert.ReferenceOptInAIdeal.main_arg4)
          ∧ r.2.mem ((c.tc : Thread Cert.ReferenceOptInAIdeal.nD Cert.ReferenceOptInAIdeal.τ).loc Cert.ReferenceOptInAIdeal.main_arg5) = m' ((c.tc : Thread Cert.ReferenceOptInAIdeal.nD Cert.ReferenceOptInAIdeal.τ).loc Cert.ReferenceOptInAIdeal.main_arg5)
          ∧ r.2.mem ((c.tc : Thread Cert.ReferenceOptInAIdeal.nD Cert.ReferenceOptInAIdeal.τ).loc Cert.ReferenceOptInAIdeal.main_arg6) = m' ((c.tc : Thread Cert.ReferenceOptInAIdeal.nD Cert.ReferenceOptInAIdeal.τ).loc Cert.ReferenceOptInAIdeal.main_arg6)
          ∧ r.2.mem ((c.tc : Thread Cert.ReferenceOptInAIdeal.nD Cert.ReferenceOptInAIdeal.τ).loc Cert.ReferenceOptInAIdeal.main_arg7) = m' ((c.tc : Thread Cert.ReferenceOptInAIdeal.nD Cert.ReferenceOptInAIdeal.τ).loc Cert.ReferenceOptInAIdeal.main_arg7))

def preserves_KernelOptGluB_KernelOptGluBIdeal : Prop :=
  IdealRules.named_const.Statement Cert.KernelOptGluBIdeal.κ "c1" .f32 0x3FC48605#32 ((8388608 / 5463681 : ℝ) : EReal)
  ∧ IdealRules.named_const.Statement Cert.KernelOptGluBIdeal.κ "c2" .f32 0x42C8E6D3#32 ((268435456 / 2672307 : ℝ) : EReal)

def algebraic_KernelOptGluBIdeal_ReferenceOptGluBIdeal [hKernelOptGluBIdeal : Cert.KernelOptGluBIdeal.Facts] [hReferenceOptGluBIdeal : Cert.ReferenceOptGluBIdeal.Facts] : Prop :=
  ∀ (m : (ℓ : Loc Cert.KernelOptGluBIdeal.nD Cert.KernelOptGluBIdeal.τ Cert.KernelOptGluBIdeal.sig) → Buf (Elt Ideal) ℓ) (g : Dev Cert.KernelOptGluBIdeal.nD → PrngReg)
    (m' : (ℓ : Loc Cert.ReferenceOptGluBIdeal.nD Cert.ReferenceOptGluBIdeal.τ Cert.ReferenceOptGluBIdeal.sig) → Buf (Elt Ideal) ℓ) (g' : Dev Cert.ReferenceOptGluBIdeal.nD → PrngReg), Pre_KernelOptGluBIdeal m →
    (∀ c : Dev Cert.KernelOptGluBIdeal.nD,
      m' ((c.tc : Thread Cert.ReferenceOptGluBIdeal.nD Cert.ReferenceOptGluBIdeal.τ).loc Cert.ReferenceOptGluBIdeal.main_arg0) = m ((c.tc : Thread Cert.KernelOptGluBIdeal.nD Cert.KernelOptGluBIdeal.τ).loc Cert.KernelOptGluBIdeal.main_arg0)
      ∧ m' ((c.tc : Thread Cert.ReferenceOptGluBIdeal.nD Cert.ReferenceOptGluBIdeal.τ).loc Cert.ReferenceOptGluBIdeal.main_arg1) = m ((c.tc : Thread Cert.KernelOptGluBIdeal.nD Cert.KernelOptGluBIdeal.τ).loc Cert.KernelOptGluBIdeal.main_arg1)
      ∧ m' ((c.tc : Thread Cert.ReferenceOptGluBIdeal.nD Cert.ReferenceOptGluBIdeal.τ).loc Cert.ReferenceOptGluBIdeal.main_arg2) = m ((c.tc : Thread Cert.KernelOptGluBIdeal.nD Cert.KernelOptGluBIdeal.τ).loc Cert.KernelOptGluBIdeal.main_arg2)
      ∧ m' ((c.tc : Thread Cert.ReferenceOptGluBIdeal.nD Cert.ReferenceOptGluBIdeal.τ).loc Cert.ReferenceOptGluBIdeal.main_arg3) = m ((c.tc : Thread Cert.KernelOptGluBIdeal.nD Cert.KernelOptGluBIdeal.τ).loc Cert.KernelOptGluBIdeal.main_arg3)) →
    ∃ (v0 : (c : Dev Cert.KernelOptGluBIdeal.nD) → Buf (Elt Ideal) ((c.tc : Thread Cert.KernelOptGluBIdeal.nD Cert.KernelOptGluBIdeal.τ).loc Cert.KernelOptGluBIdeal.main_v2)) (v1 : (c : Dev Cert.KernelOptGluBIdeal.nD) → Buf (Elt Ideal) ((c.tc : Thread Cert.KernelOptGluBIdeal.nD Cert.KernelOptGluBIdeal.τ).loc Cert.KernelOptGluBIdeal.main_v4)) (v2 : (c : Dev Cert.KernelOptGluBIdeal.nD) → Buf (Elt Ideal) ((c.tc : Thread Cert.KernelOptGluBIdeal.nD Cert.KernelOptGluBIdeal.τ).loc Cert.KernelOptGluBIdeal.main_v6)) (v3 : (c : Dev Cert.KernelOptGluBIdeal.nD) → Buf (Elt Ideal) ((c.tc : Thread Cert.KernelOptGluBIdeal.nD Cert.KernelOptGluBIdeal.τ).loc Cert.KernelOptGluBIdeal.main_v8)),
      θ_run (Cert.KernelOptGluBIdeal.defs (F := Ideal)) (onTc (τ := Cert.KernelOptGluBIdeal.τ) (Cert.KernelOptGluBIdeal.main (F := Ideal))) ⟨m, fun _ => 0, g⟩ (fun r => ∀ c : Dev Cert.KernelOptGluBIdeal.nD,
          r.2.mem ((c.tc : Thread Cert.KernelOptGluBIdeal.nD Cert.KernelOptGluBIdeal.τ).loc Cert.KernelOptGluBIdeal.main_v2) = v0 c
          ∧ r.2.mem ((c.tc : Thread Cert.KernelOptGluBIdeal.nD Cert.KernelOptGluBIdeal.τ).loc Cert.KernelOptGluBIdeal.main_v4) = v1 c
          ∧ r.2.mem ((c.tc : Thread Cert.KernelOptGluBIdeal.nD Cert.KernelOptGluBIdeal.τ).loc Cert.KernelOptGluBIdeal.main_v6) = v2 c
          ∧ r.2.mem ((c.tc : Thread Cert.KernelOptGluBIdeal.nD Cert.KernelOptGluBIdeal.τ).loc Cert.KernelOptGluBIdeal.main_v8) = v3 c
          ∧ r.2.mem ((c.tc : Thread Cert.KernelOptGluBIdeal.nD Cert.KernelOptGluBIdeal.τ).loc Cert.KernelOptGluBIdeal.main_arg0) = m ((c.tc : Thread Cert.KernelOptGluBIdeal.nD Cert.KernelOptGluBIdeal.τ).loc Cert.KernelOptGluBIdeal.main_arg0)
          ∧ r.2.mem ((c.tc : Thread Cert.KernelOptGluBIdeal.nD Cert.KernelOptGluBIdeal.τ).loc Cert.KernelOptGluBIdeal.main_arg1) = m ((c.tc : Thread Cert.KernelOptGluBIdeal.nD Cert.KernelOptGluBIdeal.τ).loc Cert.KernelOptGluBIdeal.main_arg1)
          ∧ r.2.mem ((c.tc : Thread Cert.KernelOptGluBIdeal.nD Cert.KernelOptGluBIdeal.τ).loc Cert.KernelOptGluBIdeal.main_arg2) = m ((c.tc : Thread Cert.KernelOptGluBIdeal.nD Cert.KernelOptGluBIdeal.τ).loc Cert.KernelOptGluBIdeal.main_arg2)
          ∧ r.2.mem ((c.tc : Thread Cert.KernelOptGluBIdeal.nD Cert.KernelOptGluBIdeal.τ).loc Cert.KernelOptGluBIdeal.main_arg3) = m ((c.tc : Thread Cert.KernelOptGluBIdeal.nD Cert.KernelOptGluBIdeal.τ).loc Cert.KernelOptGluBIdeal.main_arg3))
      ∧ θ_run (Cert.ReferenceOptGluBIdeal.defs (F := Ideal)) (onTc (τ := Cert.ReferenceOptGluBIdeal.τ) (Cert.ReferenceOptGluBIdeal.main (F := Ideal))) ⟨m', fun _ => 0, g'⟩ (fun r => ∀ c : Dev Cert.ReferenceOptGluBIdeal.nD,
          r.2.mem ((c.tc : Thread Cert.ReferenceOptGluBIdeal.nD Cert.ReferenceOptGluBIdeal.τ).loc Cert.ReferenceOptGluBIdeal.main_v7) = v0 c
          ∧ r.2.mem ((c.tc : Thread Cert.ReferenceOptGluBIdeal.nD Cert.ReferenceOptGluBIdeal.τ).loc Cert.ReferenceOptGluBIdeal.main_v31) = v1 c
          ∧ r.2.mem ((c.tc : Thread Cert.ReferenceOptGluBIdeal.nD Cert.ReferenceOptGluBIdeal.τ).loc Cert.ReferenceOptGluBIdeal.main_v12) = v2 c
          ∧ r.2.mem ((c.tc : Thread Cert.ReferenceOptGluBIdeal.nD Cert.ReferenceOptGluBIdeal.τ).loc Cert.ReferenceOptGluBIdeal.main_v18) = v3 c
          ∧ r.2.mem ((c.tc : Thread Cert.ReferenceOptGluBIdeal.nD Cert.ReferenceOptGluBIdeal.τ).loc Cert.ReferenceOptGluBIdeal.main_arg0) = m' ((c.tc : Thread Cert.ReferenceOptGluBIdeal.nD Cert.ReferenceOptGluBIdeal.τ).loc Cert.ReferenceOptGluBIdeal.main_arg0)
          ∧ r.2.mem ((c.tc : Thread Cert.ReferenceOptGluBIdeal.nD Cert.ReferenceOptGluBIdeal.τ).loc Cert.ReferenceOptGluBIdeal.main_arg1) = m' ((c.tc : Thread Cert.ReferenceOptGluBIdeal.nD Cert.ReferenceOptGluBIdeal.τ).loc Cert.ReferenceOptGluBIdeal.main_arg1)
          ∧ r.2.mem ((c.tc : Thread Cert.ReferenceOptGluBIdeal.nD Cert.ReferenceOptGluBIdeal.τ).loc Cert.ReferenceOptGluBIdeal.main_arg2) = m' ((c.tc : Thread Cert.ReferenceOptGluBIdeal.nD Cert.ReferenceOptGluBIdeal.τ).loc Cert.ReferenceOptGluBIdeal.main_arg2)
          ∧ r.2.mem ((c.tc : Thread Cert.ReferenceOptGluBIdeal.nD Cert.ReferenceOptGluBIdeal.τ).loc Cert.ReferenceOptGluBIdeal.main_arg3) = m' ((c.tc : Thread Cert.ReferenceOptGluBIdeal.nD Cert.ReferenceOptGluBIdeal.τ).loc Cert.ReferenceOptGluBIdeal.main_arg3))

def preserves_KernelOptGluA_KernelOptGluAIdeal : Prop :=
  IdealRules.named_const.Statement Cert.KernelOptGluAIdeal.κ "c1" .f32 0x3FC48605#32 ((8388608 / 5463681 : ℝ) : EReal)
  ∧ IdealRules.named_const.Statement Cert.KernelOptGluAIdeal.κ "c2" .f32 0x42C8E6D3#32 ((268435456 / 2672307 : ℝ) : EReal)

def algebraic_KernelOptGluAIdeal_ReferenceOptGluAIdeal [hKernelOptGluAIdeal : Cert.KernelOptGluAIdeal.Facts] [hReferenceOptGluAIdeal : Cert.ReferenceOptGluAIdeal.Facts] : Prop :=
  ∀ (m : (ℓ : Loc Cert.KernelOptGluAIdeal.nD Cert.KernelOptGluAIdeal.τ Cert.KernelOptGluAIdeal.sig) → Buf (Elt Ideal) ℓ) (g : Dev Cert.KernelOptGluAIdeal.nD → PrngReg)
    (m' : (ℓ : Loc Cert.ReferenceOptGluAIdeal.nD Cert.ReferenceOptGluAIdeal.τ Cert.ReferenceOptGluAIdeal.sig) → Buf (Elt Ideal) ℓ) (g' : Dev Cert.ReferenceOptGluAIdeal.nD → PrngReg), Pre_KernelOptGluAIdeal m →
    (∀ c : Dev Cert.KernelOptGluAIdeal.nD,
      m' ((c.tc : Thread Cert.ReferenceOptGluAIdeal.nD Cert.ReferenceOptGluAIdeal.τ).loc Cert.ReferenceOptGluAIdeal.main_arg0) = m ((c.tc : Thread Cert.KernelOptGluAIdeal.nD Cert.KernelOptGluAIdeal.τ).loc Cert.KernelOptGluAIdeal.main_arg0)
      ∧ m' ((c.tc : Thread Cert.ReferenceOptGluAIdeal.nD Cert.ReferenceOptGluAIdeal.τ).loc Cert.ReferenceOptGluAIdeal.main_arg1) = m ((c.tc : Thread Cert.KernelOptGluAIdeal.nD Cert.KernelOptGluAIdeal.τ).loc Cert.KernelOptGluAIdeal.main_arg1)
      ∧ m' ((c.tc : Thread Cert.ReferenceOptGluAIdeal.nD Cert.ReferenceOptGluAIdeal.τ).loc Cert.ReferenceOptGluAIdeal.main_arg2) = m ((c.tc : Thread Cert.KernelOptGluAIdeal.nD Cert.KernelOptGluAIdeal.τ).loc Cert.KernelOptGluAIdeal.main_arg2)
      ∧ m' ((c.tc : Thread Cert.ReferenceOptGluAIdeal.nD Cert.ReferenceOptGluAIdeal.τ).loc Cert.ReferenceOptGluAIdeal.main_arg3) = m ((c.tc : Thread Cert.KernelOptGluAIdeal.nD Cert.KernelOptGluAIdeal.τ).loc Cert.KernelOptGluAIdeal.main_arg3)
      ∧ m' ((c.tc : Thread Cert.ReferenceOptGluAIdeal.nD Cert.ReferenceOptGluAIdeal.τ).loc Cert.ReferenceOptGluAIdeal.main_arg4) = m ((c.tc : Thread Cert.KernelOptGluAIdeal.nD Cert.KernelOptGluAIdeal.τ).loc Cert.KernelOptGluAIdeal.main_arg4)
      ∧ m' ((c.tc : Thread Cert.ReferenceOptGluAIdeal.nD Cert.ReferenceOptGluAIdeal.τ).loc Cert.ReferenceOptGluAIdeal.main_arg5) = m ((c.tc : Thread Cert.KernelOptGluAIdeal.nD Cert.KernelOptGluAIdeal.τ).loc Cert.KernelOptGluAIdeal.main_arg5)
      ∧ m' ((c.tc : Thread Cert.ReferenceOptGluAIdeal.nD Cert.ReferenceOptGluAIdeal.τ).loc Cert.ReferenceOptGluAIdeal.main_arg6) = m ((c.tc : Thread Cert.KernelOptGluAIdeal.nD Cert.KernelOptGluAIdeal.τ).loc Cert.KernelOptGluAIdeal.main_arg6)
      ∧ m' ((c.tc : Thread Cert.ReferenceOptGluAIdeal.nD Cert.ReferenceOptGluAIdeal.τ).loc Cert.ReferenceOptGluAIdeal.main_arg7) = m ((c.tc : Thread Cert.KernelOptGluAIdeal.nD Cert.KernelOptGluAIdeal.τ).loc Cert.KernelOptGluAIdeal.main_arg7)) →
    ∃ (v0 : (c : Dev Cert.KernelOptGluAIdeal.nD) → Buf (Elt Ideal) ((c.tc : Thread Cert.KernelOptGluAIdeal.nD Cert.KernelOptGluAIdeal.τ).loc Cert.KernelOptGluAIdeal.main_v0_0)) (v1 : (c : Dev Cert.KernelOptGluAIdeal.nD) → Buf (Elt Ideal) ((c.tc : Thread Cert.KernelOptGluAIdeal.nD Cert.KernelOptGluAIdeal.τ).loc Cert.KernelOptGluAIdeal.main_v0_1)) (v2 : (c : Dev Cert.KernelOptGluAIdeal.nD) → Buf (Elt Ideal) ((c.tc : Thread Cert.KernelOptGluAIdeal.nD Cert.KernelOptGluAIdeal.τ).loc Cert.KernelOptGluAIdeal.main_v0_2)) (v3 : (c : Dev Cert.KernelOptGluAIdeal.nD) → Buf (Elt Ideal) ((c.tc : Thread Cert.KernelOptGluAIdeal.nD Cert.KernelOptGluAIdeal.τ).loc Cert.KernelOptGluAIdeal.main_v0_3)),
      θ_run (Cert.KernelOptGluAIdeal.defs (F := Ideal)) (onTc (τ := Cert.KernelOptGluAIdeal.τ) (Cert.KernelOptGluAIdeal.main (F := Ideal))) ⟨m, fun _ => 0, g⟩ (fun r => ∀ c : Dev Cert.KernelOptGluAIdeal.nD,
          r.2.mem ((c.tc : Thread Cert.KernelOptGluAIdeal.nD Cert.KernelOptGluAIdeal.τ).loc Cert.KernelOptGluAIdeal.main_v0_0) = v0 c
          ∧ r.2.mem ((c.tc : Thread Cert.KernelOptGluAIdeal.nD Cert.KernelOptGluAIdeal.τ).loc Cert.KernelOptGluAIdeal.main_v0_1) = v1 c
          ∧ r.2.mem ((c.tc : Thread Cert.KernelOptGluAIdeal.nD Cert.KernelOptGluAIdeal.τ).loc Cert.KernelOptGluAIdeal.main_v0_2) = v2 c
          ∧ r.2.mem ((c.tc : Thread Cert.KernelOptGluAIdeal.nD Cert.KernelOptGluAIdeal.τ).loc Cert.KernelOptGluAIdeal.main_v0_3) = v3 c
          ∧ r.2.mem ((c.tc : Thread Cert.KernelOptGluAIdeal.nD Cert.KernelOptGluAIdeal.τ).loc Cert.KernelOptGluAIdeal.main_arg0) = m ((c.tc : Thread Cert.KernelOptGluAIdeal.nD Cert.KernelOptGluAIdeal.τ).loc Cert.KernelOptGluAIdeal.main_arg0)
          ∧ r.2.mem ((c.tc : Thread Cert.KernelOptGluAIdeal.nD Cert.KernelOptGluAIdeal.τ).loc Cert.KernelOptGluAIdeal.main_arg1) = m ((c.tc : Thread Cert.KernelOptGluAIdeal.nD Cert.KernelOptGluAIdeal.τ).loc Cert.KernelOptGluAIdeal.main_arg1)
          ∧ r.2.mem ((c.tc : Thread Cert.KernelOptGluAIdeal.nD Cert.KernelOptGluAIdeal.τ).loc Cert.KernelOptGluAIdeal.main_arg2) = m ((c.tc : Thread Cert.KernelOptGluAIdeal.nD Cert.KernelOptGluAIdeal.τ).loc Cert.KernelOptGluAIdeal.main_arg2)
          ∧ r.2.mem ((c.tc : Thread Cert.KernelOptGluAIdeal.nD Cert.KernelOptGluAIdeal.τ).loc Cert.KernelOptGluAIdeal.main_arg3) = m ((c.tc : Thread Cert.KernelOptGluAIdeal.nD Cert.KernelOptGluAIdeal.τ).loc Cert.KernelOptGluAIdeal.main_arg3)
          ∧ r.2.mem ((c.tc : Thread Cert.KernelOptGluAIdeal.nD Cert.KernelOptGluAIdeal.τ).loc Cert.KernelOptGluAIdeal.main_arg4) = m ((c.tc : Thread Cert.KernelOptGluAIdeal.nD Cert.KernelOptGluAIdeal.τ).loc Cert.KernelOptGluAIdeal.main_arg4)
          ∧ r.2.mem ((c.tc : Thread Cert.KernelOptGluAIdeal.nD Cert.KernelOptGluAIdeal.τ).loc Cert.KernelOptGluAIdeal.main_arg5) = m ((c.tc : Thread Cert.KernelOptGluAIdeal.nD Cert.KernelOptGluAIdeal.τ).loc Cert.KernelOptGluAIdeal.main_arg5)
          ∧ r.2.mem ((c.tc : Thread Cert.KernelOptGluAIdeal.nD Cert.KernelOptGluAIdeal.τ).loc Cert.KernelOptGluAIdeal.main_arg6) = m ((c.tc : Thread Cert.KernelOptGluAIdeal.nD Cert.KernelOptGluAIdeal.τ).loc Cert.KernelOptGluAIdeal.main_arg6)
          ∧ r.2.mem ((c.tc : Thread Cert.KernelOptGluAIdeal.nD Cert.KernelOptGluAIdeal.τ).loc Cert.KernelOptGluAIdeal.main_arg7) = m ((c.tc : Thread Cert.KernelOptGluAIdeal.nD Cert.KernelOptGluAIdeal.τ).loc Cert.KernelOptGluAIdeal.main_arg7))
      ∧ θ_run (Cert.ReferenceOptGluAIdeal.defs (F := Ideal)) (onTc (τ := Cert.ReferenceOptGluAIdeal.τ) (Cert.ReferenceOptGluAIdeal.main (F := Ideal))) ⟨m', fun _ => 0, g'⟩ (fun r => ∀ c : Dev Cert.ReferenceOptGluAIdeal.nD,
          r.2.mem ((c.tc : Thread Cert.ReferenceOptGluAIdeal.nD Cert.ReferenceOptGluAIdeal.τ).loc Cert.ReferenceOptGluAIdeal.main_v36) = v0 c
          ∧ r.2.mem ((c.tc : Thread Cert.ReferenceOptGluAIdeal.nD Cert.ReferenceOptGluAIdeal.τ).loc Cert.ReferenceOptGluAIdeal.main_v41) = v1 c
          ∧ r.2.mem ((c.tc : Thread Cert.ReferenceOptGluAIdeal.nD Cert.ReferenceOptGluAIdeal.τ).loc Cert.ReferenceOptGluAIdeal.main_v46) = v2 c
          ∧ r.2.mem ((c.tc : Thread Cert.ReferenceOptGluAIdeal.nD Cert.ReferenceOptGluAIdeal.τ).loc Cert.ReferenceOptGluAIdeal.main_v51) = v3 c
          ∧ r.2.mem ((c.tc : Thread Cert.ReferenceOptGluAIdeal.nD Cert.ReferenceOptGluAIdeal.τ).loc Cert.ReferenceOptGluAIdeal.main_arg0) = m' ((c.tc : Thread Cert.ReferenceOptGluAIdeal.nD Cert.ReferenceOptGluAIdeal.τ).loc Cert.ReferenceOptGluAIdeal.main_arg0)
          ∧ r.2.mem ((c.tc : Thread Cert.ReferenceOptGluAIdeal.nD Cert.ReferenceOptGluAIdeal.τ).loc Cert.ReferenceOptGluAIdeal.main_arg1) = m' ((c.tc : Thread Cert.ReferenceOptGluAIdeal.nD Cert.ReferenceOptGluAIdeal.τ).loc Cert.ReferenceOptGluAIdeal.main_arg1)
          ∧ r.2.mem ((c.tc : Thread Cert.ReferenceOptGluAIdeal.nD Cert.ReferenceOptGluAIdeal.τ).loc Cert.ReferenceOptGluAIdeal.main_arg2) = m' ((c.tc : Thread Cert.ReferenceOptGluAIdeal.nD Cert.ReferenceOptGluAIdeal.τ).loc Cert.ReferenceOptGluAIdeal.main_arg2)
          ∧ r.2.mem ((c.tc : Thread Cert.ReferenceOptGluAIdeal.nD Cert.ReferenceOptGluAIdeal.τ).loc Cert.ReferenceOptGluAIdeal.main_arg3) = m' ((c.tc : Thread Cert.ReferenceOptGluAIdeal.nD Cert.ReferenceOptGluAIdeal.τ).loc Cert.ReferenceOptGluAIdeal.main_arg3)
          ∧ r.2.mem ((c.tc : Thread Cert.ReferenceOptGluAIdeal.nD Cert.ReferenceOptGluAIdeal.τ).loc Cert.ReferenceOptGluAIdeal.main_arg4) = m' ((c.tc : Thread Cert.ReferenceOptGluAIdeal.nD Cert.ReferenceOptGluAIdeal.τ).loc Cert.ReferenceOptGluAIdeal.main_arg4)
          ∧ r.2.mem ((c.tc : Thread Cert.ReferenceOptGluAIdeal.nD Cert.ReferenceOptGluAIdeal.τ).loc Cert.ReferenceOptGluAIdeal.main_arg5) = m' ((c.tc : Thread Cert.ReferenceOptGluAIdeal.nD Cert.ReferenceOptGluAIdeal.τ).loc Cert.ReferenceOptGluAIdeal.main_arg5)
          ∧ r.2.mem ((c.tc : Thread Cert.ReferenceOptGluAIdeal.nD Cert.ReferenceOptGluAIdeal.τ).loc Cert.ReferenceOptGluAIdeal.main_arg6) = m' ((c.tc : Thread Cert.ReferenceOptGluAIdeal.nD Cert.ReferenceOptGluAIdeal.τ).loc Cert.ReferenceOptGluAIdeal.main_arg6)
          ∧ r.2.mem ((c.tc : Thread Cert.ReferenceOptGluAIdeal.nD Cert.ReferenceOptGluAIdeal.τ).loc Cert.ReferenceOptGluAIdeal.main_arg7) = m' ((c.tc : Thread Cert.ReferenceOptGluAIdeal.nD Cert.ReferenceOptGluAIdeal.τ).loc Cert.ReferenceOptGluAIdeal.main_arg7))

def preserves_KernelOptBrB_KernelOptBrBIdeal : Prop :=
  IdealRules.named_const.Statement Cert.KernelOptBrBIdeal.κ "c1" .f32 0x3FC48605#32 ((8388608 / 5463681 : ℝ) : EReal)
  ∧ IdealRules.named_const.Statement Cert.KernelOptBrBIdeal.κ "c2" .f32 0x42C8E6D3#32 ((268435456 / 2672307 : ℝ) : EReal)

def algebraic_KernelOptBrBIdeal_ReferenceOptBrBIdeal [hKernelOptBrBIdeal : Cert.KernelOptBrBIdeal.Facts] [hReferenceOptBrBIdeal : Cert.ReferenceOptBrBIdeal.Facts] : Prop :=
  ∀ (m : (ℓ : Loc Cert.KernelOptBrBIdeal.nD Cert.KernelOptBrBIdeal.τ Cert.KernelOptBrBIdeal.sig) → Buf (Elt Ideal) ℓ) (g : Dev Cert.KernelOptBrBIdeal.nD → PrngReg)
    (m' : (ℓ : Loc Cert.ReferenceOptBrBIdeal.nD Cert.ReferenceOptBrBIdeal.τ Cert.ReferenceOptBrBIdeal.sig) → Buf (Elt Ideal) ℓ) (g' : Dev Cert.ReferenceOptBrBIdeal.nD → PrngReg), Pre_KernelOptBrBIdeal m →
    (∀ c : Dev Cert.KernelOptBrBIdeal.nD,
      m' ((c.tc : Thread Cert.ReferenceOptBrBIdeal.nD Cert.ReferenceOptBrBIdeal.τ).loc Cert.ReferenceOptBrBIdeal.main_arg0) = m ((c.tc : Thread Cert.KernelOptBrBIdeal.nD Cert.KernelOptBrBIdeal.τ).loc Cert.KernelOptBrBIdeal.main_arg0)
      ∧ m' ((c.tc : Thread Cert.ReferenceOptBrBIdeal.nD Cert.ReferenceOptBrBIdeal.τ).loc Cert.ReferenceOptBrBIdeal.main_arg1) = m ((c.tc : Thread Cert.KernelOptBrBIdeal.nD Cert.KernelOptBrBIdeal.τ).loc Cert.KernelOptBrBIdeal.main_arg1)
      ∧ m' ((c.tc : Thread Cert.ReferenceOptBrBIdeal.nD Cert.ReferenceOptBrBIdeal.τ).loc Cert.ReferenceOptBrBIdeal.main_arg2) = m ((c.tc : Thread Cert.KernelOptBrBIdeal.nD Cert.KernelOptBrBIdeal.τ).loc Cert.KernelOptBrBIdeal.main_arg2)
      ∧ m' ((c.tc : Thread Cert.ReferenceOptBrBIdeal.nD Cert.ReferenceOptBrBIdeal.τ).loc Cert.ReferenceOptBrBIdeal.main_arg3) = m ((c.tc : Thread Cert.KernelOptBrBIdeal.nD Cert.KernelOptBrBIdeal.τ).loc Cert.KernelOptBrBIdeal.main_arg3)) →
    ∃ (v0 : (c : Dev Cert.KernelOptBrBIdeal.nD) → Buf (Elt Ideal) ((c.tc : Thread Cert.KernelOptBrBIdeal.nD Cert.KernelOptBrBIdeal.τ).loc Cert.KernelOptBrBIdeal.main_v2)) (v1 : (c : Dev Cert.KernelOptBrBIdeal.nD) → Buf (Elt Ideal) ((c.tc : Thread Cert.KernelOptBrBIdeal.nD Cert.KernelOptBrBIdeal.τ).loc Cert.KernelOptBrBIdeal.main_v4)) (v2 : (c : Dev Cert.KernelOptBrBIdeal.nD) → Buf (Elt Ideal) ((c.tc : Thread Cert.KernelOptBrBIdeal.nD Cert.KernelOptBrBIdeal.τ).loc Cert.KernelOptBrBIdeal.main_v6)) (v3 : (c : Dev Cert.KernelOptBrBIdeal.nD) → Buf (Elt Ideal) ((c.tc : Thread Cert.KernelOptBrBIdeal.nD Cert.KernelOptBrBIdeal.τ).loc Cert.KernelOptBrBIdeal.main_v8)),
      θ_run (Cert.KernelOptBrBIdeal.defs (F := Ideal)) (onTc (τ := Cert.KernelOptBrBIdeal.τ) (Cert.KernelOptBrBIdeal.main (F := Ideal))) ⟨m, fun _ => 0, g⟩ (fun r => ∀ c : Dev Cert.KernelOptBrBIdeal.nD,
          r.2.mem ((c.tc : Thread Cert.KernelOptBrBIdeal.nD Cert.KernelOptBrBIdeal.τ).loc Cert.KernelOptBrBIdeal.main_v2) = v0 c
          ∧ r.2.mem ((c.tc : Thread Cert.KernelOptBrBIdeal.nD Cert.KernelOptBrBIdeal.τ).loc Cert.KernelOptBrBIdeal.main_v4) = v1 c
          ∧ r.2.mem ((c.tc : Thread Cert.KernelOptBrBIdeal.nD Cert.KernelOptBrBIdeal.τ).loc Cert.KernelOptBrBIdeal.main_v6) = v2 c
          ∧ r.2.mem ((c.tc : Thread Cert.KernelOptBrBIdeal.nD Cert.KernelOptBrBIdeal.τ).loc Cert.KernelOptBrBIdeal.main_v8) = v3 c
          ∧ r.2.mem ((c.tc : Thread Cert.KernelOptBrBIdeal.nD Cert.KernelOptBrBIdeal.τ).loc Cert.KernelOptBrBIdeal.main_arg0) = m ((c.tc : Thread Cert.KernelOptBrBIdeal.nD Cert.KernelOptBrBIdeal.τ).loc Cert.KernelOptBrBIdeal.main_arg0)
          ∧ r.2.mem ((c.tc : Thread Cert.KernelOptBrBIdeal.nD Cert.KernelOptBrBIdeal.τ).loc Cert.KernelOptBrBIdeal.main_arg1) = m ((c.tc : Thread Cert.KernelOptBrBIdeal.nD Cert.KernelOptBrBIdeal.τ).loc Cert.KernelOptBrBIdeal.main_arg1)
          ∧ r.2.mem ((c.tc : Thread Cert.KernelOptBrBIdeal.nD Cert.KernelOptBrBIdeal.τ).loc Cert.KernelOptBrBIdeal.main_arg2) = m ((c.tc : Thread Cert.KernelOptBrBIdeal.nD Cert.KernelOptBrBIdeal.τ).loc Cert.KernelOptBrBIdeal.main_arg2)
          ∧ r.2.mem ((c.tc : Thread Cert.KernelOptBrBIdeal.nD Cert.KernelOptBrBIdeal.τ).loc Cert.KernelOptBrBIdeal.main_arg3) = m ((c.tc : Thread Cert.KernelOptBrBIdeal.nD Cert.KernelOptBrBIdeal.τ).loc Cert.KernelOptBrBIdeal.main_arg3))
      ∧ θ_run (Cert.ReferenceOptBrBIdeal.defs (F := Ideal)) (onTc (τ := Cert.ReferenceOptBrBIdeal.τ) (Cert.ReferenceOptBrBIdeal.main (F := Ideal))) ⟨m', fun _ => 0, g'⟩ (fun r => ∀ c : Dev Cert.ReferenceOptBrBIdeal.nD,
          r.2.mem ((c.tc : Thread Cert.ReferenceOptBrBIdeal.nD Cert.ReferenceOptBrBIdeal.τ).loc Cert.ReferenceOptBrBIdeal.main_v7) = v0 c
          ∧ r.2.mem ((c.tc : Thread Cert.ReferenceOptBrBIdeal.nD Cert.ReferenceOptBrBIdeal.τ).loc Cert.ReferenceOptBrBIdeal.main_v31) = v1 c
          ∧ r.2.mem ((c.tc : Thread Cert.ReferenceOptBrBIdeal.nD Cert.ReferenceOptBrBIdeal.τ).loc Cert.ReferenceOptBrBIdeal.main_v12) = v2 c
          ∧ r.2.mem ((c.tc : Thread Cert.ReferenceOptBrBIdeal.nD Cert.ReferenceOptBrBIdeal.τ).loc Cert.ReferenceOptBrBIdeal.main_v18) = v3 c
          ∧ r.2.mem ((c.tc : Thread Cert.ReferenceOptBrBIdeal.nD Cert.ReferenceOptBrBIdeal.τ).loc Cert.ReferenceOptBrBIdeal.main_arg0) = m' ((c.tc : Thread Cert.ReferenceOptBrBIdeal.nD Cert.ReferenceOptBrBIdeal.τ).loc Cert.ReferenceOptBrBIdeal.main_arg0)
          ∧ r.2.mem ((c.tc : Thread Cert.ReferenceOptBrBIdeal.nD Cert.ReferenceOptBrBIdeal.τ).loc Cert.ReferenceOptBrBIdeal.main_arg1) = m' ((c.tc : Thread Cert.ReferenceOptBrBIdeal.nD Cert.ReferenceOptBrBIdeal.τ).loc Cert.ReferenceOptBrBIdeal.main_arg1)
          ∧ r.2.mem ((c.tc : Thread Cert.ReferenceOptBrBIdeal.nD Cert.ReferenceOptBrBIdeal.τ).loc Cert.ReferenceOptBrBIdeal.main_arg2) = m' ((c.tc : Thread Cert.ReferenceOptBrBIdeal.nD Cert.ReferenceOptBrBIdeal.τ).loc Cert.ReferenceOptBrBIdeal.main_arg2)
          ∧ r.2.mem ((c.tc : Thread Cert.ReferenceOptBrBIdeal.nD Cert.ReferenceOptBrBIdeal.τ).loc Cert.ReferenceOptBrBIdeal.main_arg3) = m' ((c.tc : Thread Cert.ReferenceOptBrBIdeal.nD Cert.ReferenceOptBrBIdeal.τ).loc Cert.ReferenceOptBrBIdeal.main_arg3))

def preserves_KernelOptBrA_KernelOptBrAIdeal : Prop :=
  IdealRules.named_const.Statement Cert.KernelOptBrAIdeal.κ "c1" .f32 0x3FC48605#32 ((8388608 / 5463681 : ℝ) : EReal)
  ∧ IdealRules.named_const.Statement Cert.KernelOptBrAIdeal.κ "c2" .f32 0x42C8E6D3#32 ((268435456 / 2672307 : ℝ) : EReal)

def algebraic_KernelOptBrAIdeal_ReferenceOptBrAIdeal [hKernelOptBrAIdeal : Cert.KernelOptBrAIdeal.Facts] [hReferenceOptBrAIdeal : Cert.ReferenceOptBrAIdeal.Facts] : Prop :=
  ∀ (m : (ℓ : Loc Cert.KernelOptBrAIdeal.nD Cert.KernelOptBrAIdeal.τ Cert.KernelOptBrAIdeal.sig) → Buf (Elt Ideal) ℓ) (g : Dev Cert.KernelOptBrAIdeal.nD → PrngReg)
    (m' : (ℓ : Loc Cert.ReferenceOptBrAIdeal.nD Cert.ReferenceOptBrAIdeal.τ Cert.ReferenceOptBrAIdeal.sig) → Buf (Elt Ideal) ℓ) (g' : Dev Cert.ReferenceOptBrAIdeal.nD → PrngReg), Pre_KernelOptBrAIdeal m →
    (∀ c : Dev Cert.KernelOptBrAIdeal.nD,
      m' ((c.tc : Thread Cert.ReferenceOptBrAIdeal.nD Cert.ReferenceOptBrAIdeal.τ).loc Cert.ReferenceOptBrAIdeal.main_arg0) = m ((c.tc : Thread Cert.KernelOptBrAIdeal.nD Cert.KernelOptBrAIdeal.τ).loc Cert.KernelOptBrAIdeal.main_arg0)
      ∧ m' ((c.tc : Thread Cert.ReferenceOptBrAIdeal.nD Cert.ReferenceOptBrAIdeal.τ).loc Cert.ReferenceOptBrAIdeal.main_arg1) = m ((c.tc : Thread Cert.KernelOptBrAIdeal.nD Cert.KernelOptBrAIdeal.τ).loc Cert.KernelOptBrAIdeal.main_arg1)
      ∧ m' ((c.tc : Thread Cert.ReferenceOptBrAIdeal.nD Cert.ReferenceOptBrAIdeal.τ).loc Cert.ReferenceOptBrAIdeal.main_arg2) = m ((c.tc : Thread Cert.KernelOptBrAIdeal.nD Cert.KernelOptBrAIdeal.τ).loc Cert.KernelOptBrAIdeal.main_arg2)
      ∧ m' ((c.tc : Thread Cert.ReferenceOptBrAIdeal.nD Cert.ReferenceOptBrAIdeal.τ).loc Cert.ReferenceOptBrAIdeal.main_arg3) = m ((c.tc : Thread Cert.KernelOptBrAIdeal.nD Cert.KernelOptBrAIdeal.τ).loc Cert.KernelOptBrAIdeal.main_arg3)
      ∧ m' ((c.tc : Thread Cert.ReferenceOptBrAIdeal.nD Cert.ReferenceOptBrAIdeal.τ).loc Cert.ReferenceOptBrAIdeal.main_arg4) = m ((c.tc : Thread Cert.KernelOptBrAIdeal.nD Cert.KernelOptBrAIdeal.τ).loc Cert.KernelOptBrAIdeal.main_arg4)
      ∧ m' ((c.tc : Thread Cert.ReferenceOptBrAIdeal.nD Cert.ReferenceOptBrAIdeal.τ).loc Cert.ReferenceOptBrAIdeal.main_arg5) = m ((c.tc : Thread Cert.KernelOptBrAIdeal.nD Cert.KernelOptBrAIdeal.τ).loc Cert.KernelOptBrAIdeal.main_arg5)
      ∧ m' ((c.tc : Thread Cert.ReferenceOptBrAIdeal.nD Cert.ReferenceOptBrAIdeal.τ).loc Cert.ReferenceOptBrAIdeal.main_arg6) = m ((c.tc : Thread Cert.KernelOptBrAIdeal.nD Cert.KernelOptBrAIdeal.τ).loc Cert.KernelOptBrAIdeal.main_arg6)
      ∧ m' ((c.tc : Thread Cert.ReferenceOptBrAIdeal.nD Cert.ReferenceOptBrAIdeal.τ).loc Cert.ReferenceOptBrAIdeal.main_arg7) = m ((c.tc : Thread Cert.KernelOptBrAIdeal.nD Cert.KernelOptBrAIdeal.τ).loc Cert.KernelOptBrAIdeal.main_arg7)) →
    ∃ (v0 : (c : Dev Cert.KernelOptBrAIdeal.nD) → Buf (Elt Ideal) ((c.tc : Thread Cert.KernelOptBrAIdeal.nD Cert.KernelOptBrAIdeal.τ).loc Cert.KernelOptBrAIdeal.main_v0_0)) (v1 : (c : Dev Cert.KernelOptBrAIdeal.nD) → Buf (Elt Ideal) ((c.tc : Thread Cert.KernelOptBrAIdeal.nD Cert.KernelOptBrAIdeal.τ).loc Cert.KernelOptBrAIdeal.main_v0_1)) (v2 : (c : Dev Cert.KernelOptBrAIdeal.nD) → Buf (Elt Ideal) ((c.tc : Thread Cert.KernelOptBrAIdeal.nD Cert.KernelOptBrAIdeal.τ).loc Cert.KernelOptBrAIdeal.main_v0_2)) (v3 : (c : Dev Cert.KernelOptBrAIdeal.nD) → Buf (Elt Ideal) ((c.tc : Thread Cert.KernelOptBrAIdeal.nD Cert.KernelOptBrAIdeal.τ).loc Cert.KernelOptBrAIdeal.main_v0_3)),
      θ_run (Cert.KernelOptBrAIdeal.defs (F := Ideal)) (onTc (τ := Cert.KernelOptBrAIdeal.τ) (Cert.KernelOptBrAIdeal.main (F := Ideal))) ⟨m, fun _ => 0, g⟩ (fun r => ∀ c : Dev Cert.KernelOptBrAIdeal.nD,
          r.2.mem ((c.tc : Thread Cert.KernelOptBrAIdeal.nD Cert.KernelOptBrAIdeal.τ).loc Cert.KernelOptBrAIdeal.main_v0_0) = v0 c
          ∧ r.2.mem ((c.tc : Thread Cert.KernelOptBrAIdeal.nD Cert.KernelOptBrAIdeal.τ).loc Cert.KernelOptBrAIdeal.main_v0_1) = v1 c
          ∧ r.2.mem ((c.tc : Thread Cert.KernelOptBrAIdeal.nD Cert.KernelOptBrAIdeal.τ).loc Cert.KernelOptBrAIdeal.main_v0_2) = v2 c
          ∧ r.2.mem ((c.tc : Thread Cert.KernelOptBrAIdeal.nD Cert.KernelOptBrAIdeal.τ).loc Cert.KernelOptBrAIdeal.main_v0_3) = v3 c
          ∧ r.2.mem ((c.tc : Thread Cert.KernelOptBrAIdeal.nD Cert.KernelOptBrAIdeal.τ).loc Cert.KernelOptBrAIdeal.main_arg0) = m ((c.tc : Thread Cert.KernelOptBrAIdeal.nD Cert.KernelOptBrAIdeal.τ).loc Cert.KernelOptBrAIdeal.main_arg0)
          ∧ r.2.mem ((c.tc : Thread Cert.KernelOptBrAIdeal.nD Cert.KernelOptBrAIdeal.τ).loc Cert.KernelOptBrAIdeal.main_arg1) = m ((c.tc : Thread Cert.KernelOptBrAIdeal.nD Cert.KernelOptBrAIdeal.τ).loc Cert.KernelOptBrAIdeal.main_arg1)
          ∧ r.2.mem ((c.tc : Thread Cert.KernelOptBrAIdeal.nD Cert.KernelOptBrAIdeal.τ).loc Cert.KernelOptBrAIdeal.main_arg2) = m ((c.tc : Thread Cert.KernelOptBrAIdeal.nD Cert.KernelOptBrAIdeal.τ).loc Cert.KernelOptBrAIdeal.main_arg2)
          ∧ r.2.mem ((c.tc : Thread Cert.KernelOptBrAIdeal.nD Cert.KernelOptBrAIdeal.τ).loc Cert.KernelOptBrAIdeal.main_arg3) = m ((c.tc : Thread Cert.KernelOptBrAIdeal.nD Cert.KernelOptBrAIdeal.τ).loc Cert.KernelOptBrAIdeal.main_arg3)
          ∧ r.2.mem ((c.tc : Thread Cert.KernelOptBrAIdeal.nD Cert.KernelOptBrAIdeal.τ).loc Cert.KernelOptBrAIdeal.main_arg4) = m ((c.tc : Thread Cert.KernelOptBrAIdeal.nD Cert.KernelOptBrAIdeal.τ).loc Cert.KernelOptBrAIdeal.main_arg4)
          ∧ r.2.mem ((c.tc : Thread Cert.KernelOptBrAIdeal.nD Cert.KernelOptBrAIdeal.τ).loc Cert.KernelOptBrAIdeal.main_arg5) = m ((c.tc : Thread Cert.KernelOptBrAIdeal.nD Cert.KernelOptBrAIdeal.τ).loc Cert.KernelOptBrAIdeal.main_arg5)
          ∧ r.2.mem ((c.tc : Thread Cert.KernelOptBrAIdeal.nD Cert.KernelOptBrAIdeal.τ).loc Cert.KernelOptBrAIdeal.main_arg6) = m ((c.tc : Thread Cert.KernelOptBrAIdeal.nD Cert.KernelOptBrAIdeal.τ).loc Cert.KernelOptBrAIdeal.main_arg6)
          ∧ r.2.mem ((c.tc : Thread Cert.KernelOptBrAIdeal.nD Cert.KernelOptBrAIdeal.τ).loc Cert.KernelOptBrAIdeal.main_arg7) = m ((c.tc : Thread Cert.KernelOptBrAIdeal.nD Cert.KernelOptBrAIdeal.τ).loc Cert.KernelOptBrAIdeal.main_arg7))
      ∧ θ_run (Cert.ReferenceOptBrAIdeal.defs (F := Ideal)) (onTc (τ := Cert.ReferenceOptBrAIdeal.τ) (Cert.ReferenceOptBrAIdeal.main (F := Ideal))) ⟨m', fun _ => 0, g'⟩ (fun r => ∀ c : Dev Cert.ReferenceOptBrAIdeal.nD,
          r.2.mem ((c.tc : Thread Cert.ReferenceOptBrAIdeal.nD Cert.ReferenceOptBrAIdeal.τ).loc Cert.ReferenceOptBrAIdeal.main_v36) = v0 c
          ∧ r.2.mem ((c.tc : Thread Cert.ReferenceOptBrAIdeal.nD Cert.ReferenceOptBrAIdeal.τ).loc Cert.ReferenceOptBrAIdeal.main_v41) = v1 c
          ∧ r.2.mem ((c.tc : Thread Cert.ReferenceOptBrAIdeal.nD Cert.ReferenceOptBrAIdeal.τ).loc Cert.ReferenceOptBrAIdeal.main_v46) = v2 c
          ∧ r.2.mem ((c.tc : Thread Cert.ReferenceOptBrAIdeal.nD Cert.ReferenceOptBrAIdeal.τ).loc Cert.ReferenceOptBrAIdeal.main_v51) = v3 c
          ∧ r.2.mem ((c.tc : Thread Cert.ReferenceOptBrAIdeal.nD Cert.ReferenceOptBrAIdeal.τ).loc Cert.ReferenceOptBrAIdeal.main_arg0) = m' ((c.tc : Thread Cert.ReferenceOptBrAIdeal.nD Cert.ReferenceOptBrAIdeal.τ).loc Cert.ReferenceOptBrAIdeal.main_arg0)
          ∧ r.2.mem ((c.tc : Thread Cert.ReferenceOptBrAIdeal.nD Cert.ReferenceOptBrAIdeal.τ).loc Cert.ReferenceOptBrAIdeal.main_arg1) = m' ((c.tc : Thread Cert.ReferenceOptBrAIdeal.nD Cert.ReferenceOptBrAIdeal.τ).loc Cert.ReferenceOptBrAIdeal.main_arg1)
          ∧ r.2.mem ((c.tc : Thread Cert.ReferenceOptBrAIdeal.nD Cert.ReferenceOptBrAIdeal.τ).loc Cert.ReferenceOptBrAIdeal.main_arg2) = m' ((c.tc : Thread Cert.ReferenceOptBrAIdeal.nD Cert.ReferenceOptBrAIdeal.τ).loc Cert.ReferenceOptBrAIdeal.main_arg2)
          ∧ r.2.mem ((c.tc : Thread Cert.ReferenceOptBrAIdeal.nD Cert.ReferenceOptBrAIdeal.τ).loc Cert.ReferenceOptBrAIdeal.main_arg3) = m' ((c.tc : Thread Cert.ReferenceOptBrAIdeal.nD Cert.ReferenceOptBrAIdeal.τ).loc Cert.ReferenceOptBrAIdeal.main_arg3)
          ∧ r.2.mem ((c.tc : Thread Cert.ReferenceOptBrAIdeal.nD Cert.ReferenceOptBrAIdeal.τ).loc Cert.ReferenceOptBrAIdeal.main_arg4) = m' ((c.tc : Thread Cert.ReferenceOptBrAIdeal.nD Cert.ReferenceOptBrAIdeal.τ).loc Cert.ReferenceOptBrAIdeal.main_arg4)
          ∧ r.2.mem ((c.tc : Thread Cert.ReferenceOptBrAIdeal.nD Cert.ReferenceOptBrAIdeal.τ).loc Cert.ReferenceOptBrAIdeal.main_arg5) = m' ((c.tc : Thread Cert.ReferenceOptBrAIdeal.nD Cert.ReferenceOptBrAIdeal.τ).loc Cert.ReferenceOptBrAIdeal.main_arg5)
          ∧ r.2.mem ((c.tc : Thread Cert.ReferenceOptBrAIdeal.nD Cert.ReferenceOptBrAIdeal.τ).loc Cert.ReferenceOptBrAIdeal.main_arg6) = m' ((c.tc : Thread Cert.ReferenceOptBrAIdeal.nD Cert.ReferenceOptBrAIdeal.τ).loc Cert.ReferenceOptBrAIdeal.main_arg6)
          ∧ r.2.mem ((c.tc : Thread Cert.ReferenceOptBrAIdeal.nD Cert.ReferenceOptBrAIdeal.τ).loc Cert.ReferenceOptBrAIdeal.main_arg7) = m' ((c.tc : Thread Cert.ReferenceOptBrAIdeal.nD Cert.ReferenceOptBrAIdeal.τ).loc Cert.ReferenceOptBrAIdeal.main_arg7))

def preserves_KernelOptAttnB_KernelOptAttnBIdeal : Prop :=
  IdealRules.named_const.Statement Cert.KernelOptAttnBIdeal.κ "c1" .f32 0x3FC48605#32 ((8388608 / 5463681 : ℝ) : EReal)
  ∧ IdealRules.named_const.Statement Cert.KernelOptAttnBIdeal.κ "c2" .f32 0x42C8E6D3#32 ((268435456 / 2672307 : ℝ) : EReal)

def algebraic_KernelOptAttnBIdeal_ReferenceOptAttnBIdeal [hKernelOptAttnBIdeal : Cert.KernelOptAttnBIdeal.Facts] [hReferenceOptAttnBIdeal : Cert.ReferenceOptAttnBIdeal.Facts] : Prop :=
  ∀ (m : (ℓ : Loc Cert.KernelOptAttnBIdeal.nD Cert.KernelOptAttnBIdeal.τ Cert.KernelOptAttnBIdeal.sig) → Buf (Elt Ideal) ℓ) (g : Dev Cert.KernelOptAttnBIdeal.nD → PrngReg)
    (m' : (ℓ : Loc Cert.ReferenceOptAttnBIdeal.nD Cert.ReferenceOptAttnBIdeal.τ Cert.ReferenceOptAttnBIdeal.sig) → Buf (Elt Ideal) ℓ) (g' : Dev Cert.ReferenceOptAttnBIdeal.nD → PrngReg), Pre_KernelOptAttnBIdeal m →
    (∀ c : Dev Cert.KernelOptAttnBIdeal.nD,
      m' ((c.tc : Thread Cert.ReferenceOptAttnBIdeal.nD Cert.ReferenceOptAttnBIdeal.τ).loc Cert.ReferenceOptAttnBIdeal.main_arg0) = m ((c.tc : Thread Cert.KernelOptAttnBIdeal.nD Cert.KernelOptAttnBIdeal.τ).loc Cert.KernelOptAttnBIdeal.main_arg0)
      ∧ m' ((c.tc : Thread Cert.ReferenceOptAttnBIdeal.nD Cert.ReferenceOptAttnBIdeal.τ).loc Cert.ReferenceOptAttnBIdeal.main_arg1) = m ((c.tc : Thread Cert.KernelOptAttnBIdeal.nD Cert.KernelOptAttnBIdeal.τ).loc Cert.KernelOptAttnBIdeal.main_arg1)
      ∧ m' ((c.tc : Thread Cert.ReferenceOptAttnBIdeal.nD Cert.ReferenceOptAttnBIdeal.τ).loc Cert.ReferenceOptAttnBIdeal.main_arg2) = m ((c.tc : Thread Cert.KernelOptAttnBIdeal.nD Cert.KernelOptAttnBIdeal.τ).loc Cert.KernelOptAttnBIdeal.main_arg2)
      ∧ m' ((c.tc : Thread Cert.ReferenceOptAttnBIdeal.nD Cert.ReferenceOptAttnBIdeal.τ).loc Cert.ReferenceOptAttnBIdeal.main_arg3) = m ((c.tc : Thread Cert.KernelOptAttnBIdeal.nD Cert.KernelOptAttnBIdeal.τ).loc Cert.KernelOptAttnBIdeal.main_arg3)) →
    ∃ (v0 : (c : Dev Cert.KernelOptAttnBIdeal.nD) → Buf (Elt Ideal) ((c.tc : Thread Cert.KernelOptAttnBIdeal.nD Cert.KernelOptAttnBIdeal.τ).loc Cert.KernelOptAttnBIdeal.main_v2)) (v1 : (c : Dev Cert.KernelOptAttnBIdeal.nD) → Buf (Elt Ideal) ((c.tc : Thread Cert.KernelOptAttnBIdeal.nD Cert.KernelOptAttnBIdeal.τ).loc Cert.KernelOptAttnBIdeal.main_v4)) (v2 : (c : Dev Cert.KernelOptAttnBIdeal.nD) → Buf (Elt Ideal) ((c.tc : Thread Cert.KernelOptAttnBIdeal.nD Cert.KernelOptAttnBIdeal.τ).loc Cert.KernelOptAttnBIdeal.main_v6)) (v3 : (c : Dev Cert.KernelOptAttnBIdeal.nD) → Buf (Elt Ideal) ((c.tc : Thread Cert.KernelOptAttnBIdeal.nD Cert.KernelOptAttnBIdeal.τ).loc Cert.KernelOptAttnBIdeal.main_v8)),
      θ_run (Cert.KernelOptAttnBIdeal.defs (F := Ideal)) (onTc (τ := Cert.KernelOptAttnBIdeal.τ) (Cert.KernelOptAttnBIdeal.main (F := Ideal))) ⟨m, fun _ => 0, g⟩ (fun r => ∀ c : Dev Cert.KernelOptAttnBIdeal.nD,
          r.2.mem ((c.tc : Thread Cert.KernelOptAttnBIdeal.nD Cert.KernelOptAttnBIdeal.τ).loc Cert.KernelOptAttnBIdeal.main_v2) = v0 c
          ∧ r.2.mem ((c.tc : Thread Cert.KernelOptAttnBIdeal.nD Cert.KernelOptAttnBIdeal.τ).loc Cert.KernelOptAttnBIdeal.main_v4) = v1 c
          ∧ r.2.mem ((c.tc : Thread Cert.KernelOptAttnBIdeal.nD Cert.KernelOptAttnBIdeal.τ).loc Cert.KernelOptAttnBIdeal.main_v6) = v2 c
          ∧ r.2.mem ((c.tc : Thread Cert.KernelOptAttnBIdeal.nD Cert.KernelOptAttnBIdeal.τ).loc Cert.KernelOptAttnBIdeal.main_v8) = v3 c
          ∧ r.2.mem ((c.tc : Thread Cert.KernelOptAttnBIdeal.nD Cert.KernelOptAttnBIdeal.τ).loc Cert.KernelOptAttnBIdeal.main_arg0) = m ((c.tc : Thread Cert.KernelOptAttnBIdeal.nD Cert.KernelOptAttnBIdeal.τ).loc Cert.KernelOptAttnBIdeal.main_arg0)
          ∧ r.2.mem ((c.tc : Thread Cert.KernelOptAttnBIdeal.nD Cert.KernelOptAttnBIdeal.τ).loc Cert.KernelOptAttnBIdeal.main_arg1) = m ((c.tc : Thread Cert.KernelOptAttnBIdeal.nD Cert.KernelOptAttnBIdeal.τ).loc Cert.KernelOptAttnBIdeal.main_arg1)
          ∧ r.2.mem ((c.tc : Thread Cert.KernelOptAttnBIdeal.nD Cert.KernelOptAttnBIdeal.τ).loc Cert.KernelOptAttnBIdeal.main_arg2) = m ((c.tc : Thread Cert.KernelOptAttnBIdeal.nD Cert.KernelOptAttnBIdeal.τ).loc Cert.KernelOptAttnBIdeal.main_arg2)
          ∧ r.2.mem ((c.tc : Thread Cert.KernelOptAttnBIdeal.nD Cert.KernelOptAttnBIdeal.τ).loc Cert.KernelOptAttnBIdeal.main_arg3) = m ((c.tc : Thread Cert.KernelOptAttnBIdeal.nD Cert.KernelOptAttnBIdeal.τ).loc Cert.KernelOptAttnBIdeal.main_arg3))
      ∧ θ_run (Cert.ReferenceOptAttnBIdeal.defs (F := Ideal)) (onTc (τ := Cert.ReferenceOptAttnBIdeal.τ) (Cert.ReferenceOptAttnBIdeal.main (F := Ideal))) ⟨m', fun _ => 0, g'⟩ (fun r => ∀ c : Dev Cert.ReferenceOptAttnBIdeal.nD,
          r.2.mem ((c.tc : Thread Cert.ReferenceOptAttnBIdeal.nD Cert.ReferenceOptAttnBIdeal.τ).loc Cert.ReferenceOptAttnBIdeal.main_v7) = v0 c
          ∧ r.2.mem ((c.tc : Thread Cert.ReferenceOptAttnBIdeal.nD Cert.ReferenceOptAttnBIdeal.τ).loc Cert.ReferenceOptAttnBIdeal.main_v31) = v1 c
          ∧ r.2.mem ((c.tc : Thread Cert.ReferenceOptAttnBIdeal.nD Cert.ReferenceOptAttnBIdeal.τ).loc Cert.ReferenceOptAttnBIdeal.main_v12) = v2 c
          ∧ r.2.mem ((c.tc : Thread Cert.ReferenceOptAttnBIdeal.nD Cert.ReferenceOptAttnBIdeal.τ).loc Cert.ReferenceOptAttnBIdeal.main_v18) = v3 c
          ∧ r.2.mem ((c.tc : Thread Cert.ReferenceOptAttnBIdeal.nD Cert.ReferenceOptAttnBIdeal.τ).loc Cert.ReferenceOptAttnBIdeal.main_arg0) = m' ((c.tc : Thread Cert.ReferenceOptAttnBIdeal.nD Cert.ReferenceOptAttnBIdeal.τ).loc Cert.ReferenceOptAttnBIdeal.main_arg0)
          ∧ r.2.mem ((c.tc : Thread Cert.ReferenceOptAttnBIdeal.nD Cert.ReferenceOptAttnBIdeal.τ).loc Cert.ReferenceOptAttnBIdeal.main_arg1) = m' ((c.tc : Thread Cert.ReferenceOptAttnBIdeal.nD Cert.ReferenceOptAttnBIdeal.τ).loc Cert.ReferenceOptAttnBIdeal.main_arg1)
          ∧ r.2.mem ((c.tc : Thread Cert.ReferenceOptAttnBIdeal.nD Cert.ReferenceOptAttnBIdeal.τ).loc Cert.ReferenceOptAttnBIdeal.main_arg2) = m' ((c.tc : Thread Cert.ReferenceOptAttnBIdeal.nD Cert.ReferenceOptAttnBIdeal.τ).loc Cert.ReferenceOptAttnBIdeal.main_arg2)
          ∧ r.2.mem ((c.tc : Thread Cert.ReferenceOptAttnBIdeal.nD Cert.ReferenceOptAttnBIdeal.τ).loc Cert.ReferenceOptAttnBIdeal.main_arg3) = m' ((c.tc : Thread Cert.ReferenceOptAttnBIdeal.nD Cert.ReferenceOptAttnBIdeal.τ).loc Cert.ReferenceOptAttnBIdeal.main_arg3))

def preserves_KernelOptAttnA_KernelOptAttnAIdeal : Prop :=
  IdealRules.named_const.Statement Cert.KernelOptAttnAIdeal.κ "c1" .f32 0x3FC48605#32 ((8388608 / 5463681 : ℝ) : EReal)
  ∧ IdealRules.named_const.Statement Cert.KernelOptAttnAIdeal.κ "c2" .f32 0x42C8E6D3#32 ((268435456 / 2672307 : ℝ) : EReal)

def algebraic_KernelOptAttnAIdeal_ReferenceOptAttnAIdeal [hKernelOptAttnAIdeal : Cert.KernelOptAttnAIdeal.Facts] [hReferenceOptAttnAIdeal : Cert.ReferenceOptAttnAIdeal.Facts] : Prop :=
  ∀ (m : (ℓ : Loc Cert.KernelOptAttnAIdeal.nD Cert.KernelOptAttnAIdeal.τ Cert.KernelOptAttnAIdeal.sig) → Buf (Elt Ideal) ℓ) (g : Dev Cert.KernelOptAttnAIdeal.nD → PrngReg)
    (m' : (ℓ : Loc Cert.ReferenceOptAttnAIdeal.nD Cert.ReferenceOptAttnAIdeal.τ Cert.ReferenceOptAttnAIdeal.sig) → Buf (Elt Ideal) ℓ) (g' : Dev Cert.ReferenceOptAttnAIdeal.nD → PrngReg), Pre_KernelOptAttnAIdeal m →
    (∀ c : Dev Cert.KernelOptAttnAIdeal.nD,
      m' ((c.tc : Thread Cert.ReferenceOptAttnAIdeal.nD Cert.ReferenceOptAttnAIdeal.τ).loc Cert.ReferenceOptAttnAIdeal.main_arg0) = m ((c.tc : Thread Cert.KernelOptAttnAIdeal.nD Cert.KernelOptAttnAIdeal.τ).loc Cert.KernelOptAttnAIdeal.main_arg0)
      ∧ m' ((c.tc : Thread Cert.ReferenceOptAttnAIdeal.nD Cert.ReferenceOptAttnAIdeal.τ).loc Cert.ReferenceOptAttnAIdeal.main_arg1) = m ((c.tc : Thread Cert.KernelOptAttnAIdeal.nD Cert.KernelOptAttnAIdeal.τ).loc Cert.KernelOptAttnAIdeal.main_arg1)
      ∧ m' ((c.tc : Thread Cert.ReferenceOptAttnAIdeal.nD Cert.ReferenceOptAttnAIdeal.τ).loc Cert.ReferenceOptAttnAIdeal.main_arg2) = m ((c.tc : Thread Cert.KernelOptAttnAIdeal.nD Cert.KernelOptAttnAIdeal.τ).loc Cert.KernelOptAttnAIdeal.main_arg2)
      ∧ m' ((c.tc : Thread Cert.ReferenceOptAttnAIdeal.nD Cert.ReferenceOptAttnAIdeal.τ).loc Cert.ReferenceOptAttnAIdeal.main_arg3) = m ((c.tc : Thread Cert.KernelOptAttnAIdeal.nD Cert.KernelOptAttnAIdeal.τ).loc Cert.KernelOptAttnAIdeal.main_arg3)
      ∧ m' ((c.tc : Thread Cert.ReferenceOptAttnAIdeal.nD Cert.ReferenceOptAttnAIdeal.τ).loc Cert.ReferenceOptAttnAIdeal.main_arg4) = m ((c.tc : Thread Cert.KernelOptAttnAIdeal.nD Cert.KernelOptAttnAIdeal.τ).loc Cert.KernelOptAttnAIdeal.main_arg4)
      ∧ m' ((c.tc : Thread Cert.ReferenceOptAttnAIdeal.nD Cert.ReferenceOptAttnAIdeal.τ).loc Cert.ReferenceOptAttnAIdeal.main_arg5) = m ((c.tc : Thread Cert.KernelOptAttnAIdeal.nD Cert.KernelOptAttnAIdeal.τ).loc Cert.KernelOptAttnAIdeal.main_arg5)
      ∧ m' ((c.tc : Thread Cert.ReferenceOptAttnAIdeal.nD Cert.ReferenceOptAttnAIdeal.τ).loc Cert.ReferenceOptAttnAIdeal.main_arg6) = m ((c.tc : Thread Cert.KernelOptAttnAIdeal.nD Cert.KernelOptAttnAIdeal.τ).loc Cert.KernelOptAttnAIdeal.main_arg6)
      ∧ m' ((c.tc : Thread Cert.ReferenceOptAttnAIdeal.nD Cert.ReferenceOptAttnAIdeal.τ).loc Cert.ReferenceOptAttnAIdeal.main_arg7) = m ((c.tc : Thread Cert.KernelOptAttnAIdeal.nD Cert.KernelOptAttnAIdeal.τ).loc Cert.KernelOptAttnAIdeal.main_arg7)) →
    ∃ (v0 : (c : Dev Cert.KernelOptAttnAIdeal.nD) → Buf (Elt Ideal) ((c.tc : Thread Cert.KernelOptAttnAIdeal.nD Cert.KernelOptAttnAIdeal.τ).loc Cert.KernelOptAttnAIdeal.main_v0_0)) (v1 : (c : Dev Cert.KernelOptAttnAIdeal.nD) → Buf (Elt Ideal) ((c.tc : Thread Cert.KernelOptAttnAIdeal.nD Cert.KernelOptAttnAIdeal.τ).loc Cert.KernelOptAttnAIdeal.main_v0_1)) (v2 : (c : Dev Cert.KernelOptAttnAIdeal.nD) → Buf (Elt Ideal) ((c.tc : Thread Cert.KernelOptAttnAIdeal.nD Cert.KernelOptAttnAIdeal.τ).loc Cert.KernelOptAttnAIdeal.main_v0_2)) (v3 : (c : Dev Cert.KernelOptAttnAIdeal.nD) → Buf (Elt Ideal) ((c.tc : Thread Cert.KernelOptAttnAIdeal.nD Cert.KernelOptAttnAIdeal.τ).loc Cert.KernelOptAttnAIdeal.main_v0_3)),
      θ_run (Cert.KernelOptAttnAIdeal.defs (F := Ideal)) (onTc (τ := Cert.KernelOptAttnAIdeal.τ) (Cert.KernelOptAttnAIdeal.main (F := Ideal))) ⟨m, fun _ => 0, g⟩ (fun r => ∀ c : Dev Cert.KernelOptAttnAIdeal.nD,
          r.2.mem ((c.tc : Thread Cert.KernelOptAttnAIdeal.nD Cert.KernelOptAttnAIdeal.τ).loc Cert.KernelOptAttnAIdeal.main_v0_0) = v0 c
          ∧ r.2.mem ((c.tc : Thread Cert.KernelOptAttnAIdeal.nD Cert.KernelOptAttnAIdeal.τ).loc Cert.KernelOptAttnAIdeal.main_v0_1) = v1 c
          ∧ r.2.mem ((c.tc : Thread Cert.KernelOptAttnAIdeal.nD Cert.KernelOptAttnAIdeal.τ).loc Cert.KernelOptAttnAIdeal.main_v0_2) = v2 c
          ∧ r.2.mem ((c.tc : Thread Cert.KernelOptAttnAIdeal.nD Cert.KernelOptAttnAIdeal.τ).loc Cert.KernelOptAttnAIdeal.main_v0_3) = v3 c
          ∧ r.2.mem ((c.tc : Thread Cert.KernelOptAttnAIdeal.nD Cert.KernelOptAttnAIdeal.τ).loc Cert.KernelOptAttnAIdeal.main_arg0) = m ((c.tc : Thread Cert.KernelOptAttnAIdeal.nD Cert.KernelOptAttnAIdeal.τ).loc Cert.KernelOptAttnAIdeal.main_arg0)
          ∧ r.2.mem ((c.tc : Thread Cert.KernelOptAttnAIdeal.nD Cert.KernelOptAttnAIdeal.τ).loc Cert.KernelOptAttnAIdeal.main_arg1) = m ((c.tc : Thread Cert.KernelOptAttnAIdeal.nD Cert.KernelOptAttnAIdeal.τ).loc Cert.KernelOptAttnAIdeal.main_arg1)
          ∧ r.2.mem ((c.tc : Thread Cert.KernelOptAttnAIdeal.nD Cert.KernelOptAttnAIdeal.τ).loc Cert.KernelOptAttnAIdeal.main_arg2) = m ((c.tc : Thread Cert.KernelOptAttnAIdeal.nD Cert.KernelOptAttnAIdeal.τ).loc Cert.KernelOptAttnAIdeal.main_arg2)
          ∧ r.2.mem ((c.tc : Thread Cert.KernelOptAttnAIdeal.nD Cert.KernelOptAttnAIdeal.τ).loc Cert.KernelOptAttnAIdeal.main_arg3) = m ((c.tc : Thread Cert.KernelOptAttnAIdeal.nD Cert.KernelOptAttnAIdeal.τ).loc Cert.KernelOptAttnAIdeal.main_arg3)
          ∧ r.2.mem ((c.tc : Thread Cert.KernelOptAttnAIdeal.nD Cert.KernelOptAttnAIdeal.τ).loc Cert.KernelOptAttnAIdeal.main_arg4) = m ((c.tc : Thread Cert.KernelOptAttnAIdeal.nD Cert.KernelOptAttnAIdeal.τ).loc Cert.KernelOptAttnAIdeal.main_arg4)
          ∧ r.2.mem ((c.tc : Thread Cert.KernelOptAttnAIdeal.nD Cert.KernelOptAttnAIdeal.τ).loc Cert.KernelOptAttnAIdeal.main_arg5) = m ((c.tc : Thread Cert.KernelOptAttnAIdeal.nD Cert.KernelOptAttnAIdeal.τ).loc Cert.KernelOptAttnAIdeal.main_arg5)
          ∧ r.2.mem ((c.tc : Thread Cert.KernelOptAttnAIdeal.nD Cert.KernelOptAttnAIdeal.τ).loc Cert.KernelOptAttnAIdeal.main_arg6) = m ((c.tc : Thread Cert.KernelOptAttnAIdeal.nD Cert.KernelOptAttnAIdeal.τ).loc Cert.KernelOptAttnAIdeal.main_arg6)
          ∧ r.2.mem ((c.tc : Thread Cert.KernelOptAttnAIdeal.nD Cert.KernelOptAttnAIdeal.τ).loc Cert.KernelOptAttnAIdeal.main_arg7) = m ((c.tc : Thread Cert.KernelOptAttnAIdeal.nD Cert.KernelOptAttnAIdeal.τ).loc Cert.KernelOptAttnAIdeal.main_arg7))
      ∧ θ_run (Cert.ReferenceOptAttnAIdeal.defs (F := Ideal)) (onTc (τ := Cert.ReferenceOptAttnAIdeal.τ) (Cert.ReferenceOptAttnAIdeal.main (F := Ideal))) ⟨m', fun _ => 0, g'⟩ (fun r => ∀ c : Dev Cert.ReferenceOptAttnAIdeal.nD,
          r.2.mem ((c.tc : Thread Cert.ReferenceOptAttnAIdeal.nD Cert.ReferenceOptAttnAIdeal.τ).loc Cert.ReferenceOptAttnAIdeal.main_v36) = v0 c
          ∧ r.2.mem ((c.tc : Thread Cert.ReferenceOptAttnAIdeal.nD Cert.ReferenceOptAttnAIdeal.τ).loc Cert.ReferenceOptAttnAIdeal.main_v41) = v1 c
          ∧ r.2.mem ((c.tc : Thread Cert.ReferenceOptAttnAIdeal.nD Cert.ReferenceOptAttnAIdeal.τ).loc Cert.ReferenceOptAttnAIdeal.main_v46) = v2 c
          ∧ r.2.mem ((c.tc : Thread Cert.ReferenceOptAttnAIdeal.nD Cert.ReferenceOptAttnAIdeal.τ).loc Cert.ReferenceOptAttnAIdeal.main_v51) = v3 c
          ∧ r.2.mem ((c.tc : Thread Cert.ReferenceOptAttnAIdeal.nD Cert.ReferenceOptAttnAIdeal.τ).loc Cert.ReferenceOptAttnAIdeal.main_arg0) = m' ((c.tc : Thread Cert.ReferenceOptAttnAIdeal.nD Cert.ReferenceOptAttnAIdeal.τ).loc Cert.ReferenceOptAttnAIdeal.main_arg0)
          ∧ r.2.mem ((c.tc : Thread Cert.ReferenceOptAttnAIdeal.nD Cert.ReferenceOptAttnAIdeal.τ).loc Cert.ReferenceOptAttnAIdeal.main_arg1) = m' ((c.tc : Thread Cert.ReferenceOptAttnAIdeal.nD Cert.ReferenceOptAttnAIdeal.τ).loc Cert.ReferenceOptAttnAIdeal.main_arg1)
          ∧ r.2.mem ((c.tc : Thread Cert.ReferenceOptAttnAIdeal.nD Cert.ReferenceOptAttnAIdeal.τ).loc Cert.ReferenceOptAttnAIdeal.main_arg2) = m' ((c.tc : Thread Cert.ReferenceOptAttnAIdeal.nD Cert.ReferenceOptAttnAIdeal.τ).loc Cert.ReferenceOptAttnAIdeal.main_arg2)
          ∧ r.2.mem ((c.tc : Thread Cert.ReferenceOptAttnAIdeal.nD Cert.ReferenceOptAttnAIdeal.τ).loc Cert.ReferenceOptAttnAIdeal.main_arg3) = m' ((c.tc : Thread Cert.ReferenceOptAttnAIdeal.nD Cert.ReferenceOptAttnAIdeal.τ).loc Cert.ReferenceOptAttnAIdeal.main_arg3)
          ∧ r.2.mem ((c.tc : Thread Cert.ReferenceOptAttnAIdeal.nD Cert.ReferenceOptAttnAIdeal.τ).loc Cert.ReferenceOptAttnAIdeal.main_arg4) = m' ((c.tc : Thread Cert.ReferenceOptAttnAIdeal.nD Cert.ReferenceOptAttnAIdeal.τ).loc Cert.ReferenceOptAttnAIdeal.main_arg4)
          ∧ r.2.mem ((c.tc : Thread Cert.ReferenceOptAttnAIdeal.nD Cert.ReferenceOptAttnAIdeal.τ).loc Cert.ReferenceOptAttnAIdeal.main_arg5) = m' ((c.tc : Thread Cert.ReferenceOptAttnAIdeal.nD Cert.ReferenceOptAttnAIdeal.τ).loc Cert.ReferenceOptAttnAIdeal.main_arg5)
          ∧ r.2.mem ((c.tc : Thread Cert.ReferenceOptAttnAIdeal.nD Cert.ReferenceOptAttnAIdeal.τ).loc Cert.ReferenceOptAttnAIdeal.main_arg6) = m' ((c.tc : Thread Cert.ReferenceOptAttnAIdeal.nD Cert.ReferenceOptAttnAIdeal.τ).loc Cert.ReferenceOptAttnAIdeal.main_arg6)
          ∧ r.2.mem ((c.tc : Thread Cert.ReferenceOptAttnAIdeal.nD Cert.ReferenceOptAttnAIdeal.τ).loc Cert.ReferenceOptAttnAIdeal.main_arg7) = m' ((c.tc : Thread Cert.ReferenceOptAttnAIdeal.nD Cert.ReferenceOptAttnAIdeal.τ).loc Cert.ReferenceOptAttnAIdeal.main_arg7))

def preserves_KernelOptConvB_KernelOptConvBIdeal : Prop :=
  IdealRules.named_const.Statement Cert.KernelOptConvBIdeal.κ "c1" .f32 0x3FC48605#32 ((8388608 / 5463681 : ℝ) : EReal)
  ∧ IdealRules.named_const.Statement Cert.KernelOptConvBIdeal.κ "c2" .f32 0x42C8E6D3#32 ((268435456 / 2672307 : ℝ) : EReal)

def algebraic_KernelOptConvBIdeal_ReferenceOptConvBIdeal [hKernelOptConvBIdeal : Cert.KernelOptConvBIdeal.Facts] [hReferenceOptConvBIdeal : Cert.ReferenceOptConvBIdeal.Facts] : Prop :=
  ∀ (m : (ℓ : Loc Cert.KernelOptConvBIdeal.nD Cert.KernelOptConvBIdeal.τ Cert.KernelOptConvBIdeal.sig) → Buf (Elt Ideal) ℓ) (g : Dev Cert.KernelOptConvBIdeal.nD → PrngReg)
    (m' : (ℓ : Loc Cert.ReferenceOptConvBIdeal.nD Cert.ReferenceOptConvBIdeal.τ Cert.ReferenceOptConvBIdeal.sig) → Buf (Elt Ideal) ℓ) (g' : Dev Cert.ReferenceOptConvBIdeal.nD → PrngReg), Pre_KernelOptConvBIdeal m →
    (∀ c : Dev Cert.KernelOptConvBIdeal.nD,
      m' ((c.tc : Thread Cert.ReferenceOptConvBIdeal.nD Cert.ReferenceOptConvBIdeal.τ).loc Cert.ReferenceOptConvBIdeal.main_arg0) = m ((c.tc : Thread Cert.KernelOptConvBIdeal.nD Cert.KernelOptConvBIdeal.τ).loc Cert.KernelOptConvBIdeal.main_arg0)
      ∧ m' ((c.tc : Thread Cert.ReferenceOptConvBIdeal.nD Cert.ReferenceOptConvBIdeal.τ).loc Cert.ReferenceOptConvBIdeal.main_arg1) = m ((c.tc : Thread Cert.KernelOptConvBIdeal.nD Cert.KernelOptConvBIdeal.τ).loc Cert.KernelOptConvBIdeal.main_arg1)
      ∧ m' ((c.tc : Thread Cert.ReferenceOptConvBIdeal.nD Cert.ReferenceOptConvBIdeal.τ).loc Cert.ReferenceOptConvBIdeal.main_arg2) = m ((c.tc : Thread Cert.KernelOptConvBIdeal.nD Cert.KernelOptConvBIdeal.τ).loc Cert.KernelOptConvBIdeal.main_arg2)
      ∧ m' ((c.tc : Thread Cert.ReferenceOptConvBIdeal.nD Cert.ReferenceOptConvBIdeal.τ).loc Cert.ReferenceOptConvBIdeal.main_arg3) = m ((c.tc : Thread Cert.KernelOptConvBIdeal.nD Cert.KernelOptConvBIdeal.τ).loc Cert.KernelOptConvBIdeal.main_arg3)) →
    ∃ (v0 : (c : Dev Cert.KernelOptConvBIdeal.nD) → Buf (Elt Ideal) ((c.tc : Thread Cert.KernelOptConvBIdeal.nD Cert.KernelOptConvBIdeal.τ).loc Cert.KernelOptConvBIdeal.main_v2)) (v1 : (c : Dev Cert.KernelOptConvBIdeal.nD) → Buf (Elt Ideal) ((c.tc : Thread Cert.KernelOptConvBIdeal.nD Cert.KernelOptConvBIdeal.τ).loc Cert.KernelOptConvBIdeal.main_v4)) (v2 : (c : Dev Cert.KernelOptConvBIdeal.nD) → Buf (Elt Ideal) ((c.tc : Thread Cert.KernelOptConvBIdeal.nD Cert.KernelOptConvBIdeal.τ).loc Cert.KernelOptConvBIdeal.main_v6)) (v3 : (c : Dev Cert.KernelOptConvBIdeal.nD) → Buf (Elt Ideal) ((c.tc : Thread Cert.KernelOptConvBIdeal.nD Cert.KernelOptConvBIdeal.τ).loc Cert.KernelOptConvBIdeal.main_v8)),
      θ_run (Cert.KernelOptConvBIdeal.defs (F := Ideal)) (onTc (τ := Cert.KernelOptConvBIdeal.τ) (Cert.KernelOptConvBIdeal.main (F := Ideal))) ⟨m, fun _ => 0, g⟩ (fun r => ∀ c : Dev Cert.KernelOptConvBIdeal.nD,
          r.2.mem ((c.tc : Thread Cert.KernelOptConvBIdeal.nD Cert.KernelOptConvBIdeal.τ).loc Cert.KernelOptConvBIdeal.main_v2) = v0 c
          ∧ r.2.mem ((c.tc : Thread Cert.KernelOptConvBIdeal.nD Cert.KernelOptConvBIdeal.τ).loc Cert.KernelOptConvBIdeal.main_v4) = v1 c
          ∧ r.2.mem ((c.tc : Thread Cert.KernelOptConvBIdeal.nD Cert.KernelOptConvBIdeal.τ).loc Cert.KernelOptConvBIdeal.main_v6) = v2 c
          ∧ r.2.mem ((c.tc : Thread Cert.KernelOptConvBIdeal.nD Cert.KernelOptConvBIdeal.τ).loc Cert.KernelOptConvBIdeal.main_v8) = v3 c
          ∧ r.2.mem ((c.tc : Thread Cert.KernelOptConvBIdeal.nD Cert.KernelOptConvBIdeal.τ).loc Cert.KernelOptConvBIdeal.main_arg0) = m ((c.tc : Thread Cert.KernelOptConvBIdeal.nD Cert.KernelOptConvBIdeal.τ).loc Cert.KernelOptConvBIdeal.main_arg0)
          ∧ r.2.mem ((c.tc : Thread Cert.KernelOptConvBIdeal.nD Cert.KernelOptConvBIdeal.τ).loc Cert.KernelOptConvBIdeal.main_arg1) = m ((c.tc : Thread Cert.KernelOptConvBIdeal.nD Cert.KernelOptConvBIdeal.τ).loc Cert.KernelOptConvBIdeal.main_arg1)
          ∧ r.2.mem ((c.tc : Thread Cert.KernelOptConvBIdeal.nD Cert.KernelOptConvBIdeal.τ).loc Cert.KernelOptConvBIdeal.main_arg2) = m ((c.tc : Thread Cert.KernelOptConvBIdeal.nD Cert.KernelOptConvBIdeal.τ).loc Cert.KernelOptConvBIdeal.main_arg2)
          ∧ r.2.mem ((c.tc : Thread Cert.KernelOptConvBIdeal.nD Cert.KernelOptConvBIdeal.τ).loc Cert.KernelOptConvBIdeal.main_arg3) = m ((c.tc : Thread Cert.KernelOptConvBIdeal.nD Cert.KernelOptConvBIdeal.τ).loc Cert.KernelOptConvBIdeal.main_arg3))
      ∧ θ_run (Cert.ReferenceOptConvBIdeal.defs (F := Ideal)) (onTc (τ := Cert.ReferenceOptConvBIdeal.τ) (Cert.ReferenceOptConvBIdeal.main (F := Ideal))) ⟨m', fun _ => 0, g'⟩ (fun r => ∀ c : Dev Cert.ReferenceOptConvBIdeal.nD,
          r.2.mem ((c.tc : Thread Cert.ReferenceOptConvBIdeal.nD Cert.ReferenceOptConvBIdeal.τ).loc Cert.ReferenceOptConvBIdeal.main_v7) = v0 c
          ∧ r.2.mem ((c.tc : Thread Cert.ReferenceOptConvBIdeal.nD Cert.ReferenceOptConvBIdeal.τ).loc Cert.ReferenceOptConvBIdeal.main_v31) = v1 c
          ∧ r.2.mem ((c.tc : Thread Cert.ReferenceOptConvBIdeal.nD Cert.ReferenceOptConvBIdeal.τ).loc Cert.ReferenceOptConvBIdeal.main_v12) = v2 c
          ∧ r.2.mem ((c.tc : Thread Cert.ReferenceOptConvBIdeal.nD Cert.ReferenceOptConvBIdeal.τ).loc Cert.ReferenceOptConvBIdeal.main_v18) = v3 c
          ∧ r.2.mem ((c.tc : Thread Cert.ReferenceOptConvBIdeal.nD Cert.ReferenceOptConvBIdeal.τ).loc Cert.ReferenceOptConvBIdeal.main_arg0) = m' ((c.tc : Thread Cert.ReferenceOptConvBIdeal.nD Cert.ReferenceOptConvBIdeal.τ).loc Cert.ReferenceOptConvBIdeal.main_arg0)
          ∧ r.2.mem ((c.tc : Thread Cert.ReferenceOptConvBIdeal.nD Cert.ReferenceOptConvBIdeal.τ).loc Cert.ReferenceOptConvBIdeal.main_arg1) = m' ((c.tc : Thread Cert.ReferenceOptConvBIdeal.nD Cert.ReferenceOptConvBIdeal.τ).loc Cert.ReferenceOptConvBIdeal.main_arg1)
          ∧ r.2.mem ((c.tc : Thread Cert.ReferenceOptConvBIdeal.nD Cert.ReferenceOptConvBIdeal.τ).loc Cert.ReferenceOptConvBIdeal.main_arg2) = m' ((c.tc : Thread Cert.ReferenceOptConvBIdeal.nD Cert.ReferenceOptConvBIdeal.τ).loc Cert.ReferenceOptConvBIdeal.main_arg2)
          ∧ r.2.mem ((c.tc : Thread Cert.ReferenceOptConvBIdeal.nD Cert.ReferenceOptConvBIdeal.τ).loc Cert.ReferenceOptConvBIdeal.main_arg3) = m' ((c.tc : Thread Cert.ReferenceOptConvBIdeal.nD Cert.ReferenceOptConvBIdeal.τ).loc Cert.ReferenceOptConvBIdeal.main_arg3))

def preserves_KernelOptConvA_KernelOptConvAIdeal : Prop :=
  IdealRules.named_const.Statement Cert.KernelOptConvAIdeal.κ "c1" .f32 0x3FC48605#32 ((8388608 / 5463681 : ℝ) : EReal)
  ∧ IdealRules.named_const.Statement Cert.KernelOptConvAIdeal.κ "c2" .f32 0x42C8E6D3#32 ((268435456 / 2672307 : ℝ) : EReal)

def algebraic_KernelOptConvAIdeal_ReferenceOptConvAIdeal [hKernelOptConvAIdeal : Cert.KernelOptConvAIdeal.Facts] [hReferenceOptConvAIdeal : Cert.ReferenceOptConvAIdeal.Facts] : Prop :=
  ∀ (m : (ℓ : Loc Cert.KernelOptConvAIdeal.nD Cert.KernelOptConvAIdeal.τ Cert.KernelOptConvAIdeal.sig) → Buf (Elt Ideal) ℓ) (g : Dev Cert.KernelOptConvAIdeal.nD → PrngReg)
    (m' : (ℓ : Loc Cert.ReferenceOptConvAIdeal.nD Cert.ReferenceOptConvAIdeal.τ Cert.ReferenceOptConvAIdeal.sig) → Buf (Elt Ideal) ℓ) (g' : Dev Cert.ReferenceOptConvAIdeal.nD → PrngReg), Pre_KernelOptConvAIdeal m →
    (∀ c : Dev Cert.KernelOptConvAIdeal.nD,
      m' ((c.tc : Thread Cert.ReferenceOptConvAIdeal.nD Cert.ReferenceOptConvAIdeal.τ).loc Cert.ReferenceOptConvAIdeal.main_arg0) = m ((c.tc : Thread Cert.KernelOptConvAIdeal.nD Cert.KernelOptConvAIdeal.τ).loc Cert.KernelOptConvAIdeal.main_arg0)
      ∧ m' ((c.tc : Thread Cert.ReferenceOptConvAIdeal.nD Cert.ReferenceOptConvAIdeal.τ).loc Cert.ReferenceOptConvAIdeal.main_arg1) = m ((c.tc : Thread Cert.KernelOptConvAIdeal.nD Cert.KernelOptConvAIdeal.τ).loc Cert.KernelOptConvAIdeal.main_arg1)
      ∧ m' ((c.tc : Thread Cert.ReferenceOptConvAIdeal.nD Cert.ReferenceOptConvAIdeal.τ).loc Cert.ReferenceOptConvAIdeal.main_arg2) = m ((c.tc : Thread Cert.KernelOptConvAIdeal.nD Cert.KernelOptConvAIdeal.τ).loc Cert.KernelOptConvAIdeal.main_arg2)
      ∧ m' ((c.tc : Thread Cert.ReferenceOptConvAIdeal.nD Cert.ReferenceOptConvAIdeal.τ).loc Cert.ReferenceOptConvAIdeal.main_arg3) = m ((c.tc : Thread Cert.KernelOptConvAIdeal.nD Cert.KernelOptConvAIdeal.τ).loc Cert.KernelOptConvAIdeal.main_arg3)
      ∧ m' ((c.tc : Thread Cert.ReferenceOptConvAIdeal.nD Cert.ReferenceOptConvAIdeal.τ).loc Cert.ReferenceOptConvAIdeal.main_arg4) = m ((c.tc : Thread Cert.KernelOptConvAIdeal.nD Cert.KernelOptConvAIdeal.τ).loc Cert.KernelOptConvAIdeal.main_arg4)
      ∧ m' ((c.tc : Thread Cert.ReferenceOptConvAIdeal.nD Cert.ReferenceOptConvAIdeal.τ).loc Cert.ReferenceOptConvAIdeal.main_arg5) = m ((c.tc : Thread Cert.KernelOptConvAIdeal.nD Cert.KernelOptConvAIdeal.τ).loc Cert.KernelOptConvAIdeal.main_arg5)
      ∧ m' ((c.tc : Thread Cert.ReferenceOptConvAIdeal.nD Cert.ReferenceOptConvAIdeal.τ).loc Cert.ReferenceOptConvAIdeal.main_arg6) = m ((c.tc : Thread Cert.KernelOptConvAIdeal.nD Cert.KernelOptConvAIdeal.τ).loc Cert.KernelOptConvAIdeal.main_arg6)
      ∧ m' ((c.tc : Thread Cert.ReferenceOptConvAIdeal.nD Cert.ReferenceOptConvAIdeal.τ).loc Cert.ReferenceOptConvAIdeal.main_arg7) = m ((c.tc : Thread Cert.KernelOptConvAIdeal.nD Cert.KernelOptConvAIdeal.τ).loc Cert.KernelOptConvAIdeal.main_arg7)) →
    ∃ (v0 : (c : Dev Cert.KernelOptConvAIdeal.nD) → Buf (Elt Ideal) ((c.tc : Thread Cert.KernelOptConvAIdeal.nD Cert.KernelOptConvAIdeal.τ).loc Cert.KernelOptConvAIdeal.main_v0_0)) (v1 : (c : Dev Cert.KernelOptConvAIdeal.nD) → Buf (Elt Ideal) ((c.tc : Thread Cert.KernelOptConvAIdeal.nD Cert.KernelOptConvAIdeal.τ).loc Cert.KernelOptConvAIdeal.main_v0_1)) (v2 : (c : Dev Cert.KernelOptConvAIdeal.nD) → Buf (Elt Ideal) ((c.tc : Thread Cert.KernelOptConvAIdeal.nD Cert.KernelOptConvAIdeal.τ).loc Cert.KernelOptConvAIdeal.main_v0_2)) (v3 : (c : Dev Cert.KernelOptConvAIdeal.nD) → Buf (Elt Ideal) ((c.tc : Thread Cert.KernelOptConvAIdeal.nD Cert.KernelOptConvAIdeal.τ).loc Cert.KernelOptConvAIdeal.main_v0_3)),
      θ_run (Cert.KernelOptConvAIdeal.defs (F := Ideal)) (onTc (τ := Cert.KernelOptConvAIdeal.τ) (Cert.KernelOptConvAIdeal.main (F := Ideal))) ⟨m, fun _ => 0, g⟩ (fun r => ∀ c : Dev Cert.KernelOptConvAIdeal.nD,
          r.2.mem ((c.tc : Thread Cert.KernelOptConvAIdeal.nD Cert.KernelOptConvAIdeal.τ).loc Cert.KernelOptConvAIdeal.main_v0_0) = v0 c
          ∧ r.2.mem ((c.tc : Thread Cert.KernelOptConvAIdeal.nD Cert.KernelOptConvAIdeal.τ).loc Cert.KernelOptConvAIdeal.main_v0_1) = v1 c
          ∧ r.2.mem ((c.tc : Thread Cert.KernelOptConvAIdeal.nD Cert.KernelOptConvAIdeal.τ).loc Cert.KernelOptConvAIdeal.main_v0_2) = v2 c
          ∧ r.2.mem ((c.tc : Thread Cert.KernelOptConvAIdeal.nD Cert.KernelOptConvAIdeal.τ).loc Cert.KernelOptConvAIdeal.main_v0_3) = v3 c
          ∧ r.2.mem ((c.tc : Thread Cert.KernelOptConvAIdeal.nD Cert.KernelOptConvAIdeal.τ).loc Cert.KernelOptConvAIdeal.main_arg0) = m ((c.tc : Thread Cert.KernelOptConvAIdeal.nD Cert.KernelOptConvAIdeal.τ).loc Cert.KernelOptConvAIdeal.main_arg0)
          ∧ r.2.mem ((c.tc : Thread Cert.KernelOptConvAIdeal.nD Cert.KernelOptConvAIdeal.τ).loc Cert.KernelOptConvAIdeal.main_arg1) = m ((c.tc : Thread Cert.KernelOptConvAIdeal.nD Cert.KernelOptConvAIdeal.τ).loc Cert.KernelOptConvAIdeal.main_arg1)
          ∧ r.2.mem ((c.tc : Thread Cert.KernelOptConvAIdeal.nD Cert.KernelOptConvAIdeal.τ).loc Cert.KernelOptConvAIdeal.main_arg2) = m ((c.tc : Thread Cert.KernelOptConvAIdeal.nD Cert.KernelOptConvAIdeal.τ).loc Cert.KernelOptConvAIdeal.main_arg2)
          ∧ r.2.mem ((c.tc : Thread Cert.KernelOptConvAIdeal.nD Cert.KernelOptConvAIdeal.τ).loc Cert.KernelOptConvAIdeal.main_arg3) = m ((c.tc : Thread Cert.KernelOptConvAIdeal.nD Cert.KernelOptConvAIdeal.τ).loc Cert.KernelOptConvAIdeal.main_arg3)
          ∧ r.2.mem ((c.tc : Thread Cert.KernelOptConvAIdeal.nD Cert.KernelOptConvAIdeal.τ).loc Cert.KernelOptConvAIdeal.main_arg4) = m ((c.tc : Thread Cert.KernelOptConvAIdeal.nD Cert.KernelOptConvAIdeal.τ).loc Cert.KernelOptConvAIdeal.main_arg4)
          ∧ r.2.mem ((c.tc : Thread Cert.KernelOptConvAIdeal.nD Cert.KernelOptConvAIdeal.τ).loc Cert.KernelOptConvAIdeal.main_arg5) = m ((c.tc : Thread Cert.KernelOptConvAIdeal.nD Cert.KernelOptConvAIdeal.τ).loc Cert.KernelOptConvAIdeal.main_arg5)
          ∧ r.2.mem ((c.tc : Thread Cert.KernelOptConvAIdeal.nD Cert.KernelOptConvAIdeal.τ).loc Cert.KernelOptConvAIdeal.main_arg6) = m ((c.tc : Thread Cert.KernelOptConvAIdeal.nD Cert.KernelOptConvAIdeal.τ).loc Cert.KernelOptConvAIdeal.main_arg6)
          ∧ r.2.mem ((c.tc : Thread Cert.KernelOptConvAIdeal.nD Cert.KernelOptConvAIdeal.τ).loc Cert.KernelOptConvAIdeal.main_arg7) = m ((c.tc : Thread Cert.KernelOptConvAIdeal.nD Cert.KernelOptConvAIdeal.τ).loc Cert.KernelOptConvAIdeal.main_arg7))
      ∧ θ_run (Cert.ReferenceOptConvAIdeal.defs (F := Ideal)) (onTc (τ := Cert.ReferenceOptConvAIdeal.τ) (Cert.ReferenceOptConvAIdeal.main (F := Ideal))) ⟨m', fun _ => 0, g'⟩ (fun r => ∀ c : Dev Cert.ReferenceOptConvAIdeal.nD,
          r.2.mem ((c.tc : Thread Cert.ReferenceOptConvAIdeal.nD Cert.ReferenceOptConvAIdeal.τ).loc Cert.ReferenceOptConvAIdeal.main_v36) = v0 c
          ∧ r.2.mem ((c.tc : Thread Cert.ReferenceOptConvAIdeal.nD Cert.ReferenceOptConvAIdeal.τ).loc Cert.ReferenceOptConvAIdeal.main_v41) = v1 c
          ∧ r.2.mem ((c.tc : Thread Cert.ReferenceOptConvAIdeal.nD Cert.ReferenceOptConvAIdeal.τ).loc Cert.ReferenceOptConvAIdeal.main_v46) = v2 c
          ∧ r.2.mem ((c.tc : Thread Cert.ReferenceOptConvAIdeal.nD Cert.ReferenceOptConvAIdeal.τ).loc Cert.ReferenceOptConvAIdeal.main_v51) = v3 c
          ∧ r.2.mem ((c.tc : Thread Cert.ReferenceOptConvAIdeal.nD Cert.ReferenceOptConvAIdeal.τ).loc Cert.ReferenceOptConvAIdeal.main_arg0) = m' ((c.tc : Thread Cert.ReferenceOptConvAIdeal.nD Cert.ReferenceOptConvAIdeal.τ).loc Cert.ReferenceOptConvAIdeal.main_arg0)
          ∧ r.2.mem ((c.tc : Thread Cert.ReferenceOptConvAIdeal.nD Cert.ReferenceOptConvAIdeal.τ).loc Cert.ReferenceOptConvAIdeal.main_arg1) = m' ((c.tc : Thread Cert.ReferenceOptConvAIdeal.nD Cert.ReferenceOptConvAIdeal.τ).loc Cert.ReferenceOptConvAIdeal.main_arg1)
          ∧ r.2.mem ((c.tc : Thread Cert.ReferenceOptConvAIdeal.nD Cert.ReferenceOptConvAIdeal.τ).loc Cert.ReferenceOptConvAIdeal.main_arg2) = m' ((c.tc : Thread Cert.ReferenceOptConvAIdeal.nD Cert.ReferenceOptConvAIdeal.τ).loc Cert.ReferenceOptConvAIdeal.main_arg2)
          ∧ r.2.mem ((c.tc : Thread Cert.ReferenceOptConvAIdeal.nD Cert.ReferenceOptConvAIdeal.τ).loc Cert.ReferenceOptConvAIdeal.main_arg3) = m' ((c.tc : Thread Cert.ReferenceOptConvAIdeal.nD Cert.ReferenceOptConvAIdeal.τ).loc Cert.ReferenceOptConvAIdeal.main_arg3)
          ∧ r.2.mem ((c.tc : Thread Cert.ReferenceOptConvAIdeal.nD Cert.ReferenceOptConvAIdeal.τ).loc Cert.ReferenceOptConvAIdeal.main_arg4) = m' ((c.tc : Thread Cert.ReferenceOptConvAIdeal.nD Cert.ReferenceOptConvAIdeal.τ).loc Cert.ReferenceOptConvAIdeal.main_arg4)
          ∧ r.2.mem ((c.tc : Thread Cert.ReferenceOptConvAIdeal.nD Cert.ReferenceOptConvAIdeal.τ).loc Cert.ReferenceOptConvAIdeal.main_arg5) = m' ((c.tc : Thread Cert.ReferenceOptConvAIdeal.nD Cert.ReferenceOptConvAIdeal.τ).loc Cert.ReferenceOptConvAIdeal.main_arg5)
          ∧ r.2.mem ((c.tc : Thread Cert.ReferenceOptConvAIdeal.nD Cert.ReferenceOptConvAIdeal.τ).loc Cert.ReferenceOptConvAIdeal.main_arg6) = m' ((c.tc : Thread Cert.ReferenceOptConvAIdeal.nD Cert.ReferenceOptConvAIdeal.τ).loc Cert.ReferenceOptConvAIdeal.main_arg6)
          ∧ r.2.mem ((c.tc : Thread Cert.ReferenceOptConvAIdeal.nD Cert.ReferenceOptConvAIdeal.τ).loc Cert.ReferenceOptConvAIdeal.main_arg7) = m' ((c.tc : Thread Cert.ReferenceOptConvAIdeal.nD Cert.ReferenceOptConvAIdeal.τ).loc Cert.ReferenceOptConvAIdeal.main_arg7))

def preserves_KernelOptOutB_KernelOptOutBIdeal : Prop :=
  IdealRules.named_const.Statement Cert.KernelOptOutBIdeal.κ "c1" .f32 0x3FC48605#32 ((8388608 / 5463681 : ℝ) : EReal)
  ∧ IdealRules.named_const.Statement Cert.KernelOptOutBIdeal.κ "c2" .f32 0x42C8E6D3#32 ((268435456 / 2672307 : ℝ) : EReal)

def algebraic_KernelOptOutBIdeal_ReferenceOptOutBIdeal [hKernelOptOutBIdeal : Cert.KernelOptOutBIdeal.Facts] [hReferenceOptOutBIdeal : Cert.ReferenceOptOutBIdeal.Facts] : Prop :=
  ∀ (m : (ℓ : Loc Cert.KernelOptOutBIdeal.nD Cert.KernelOptOutBIdeal.τ Cert.KernelOptOutBIdeal.sig) → Buf (Elt Ideal) ℓ) (g : Dev Cert.KernelOptOutBIdeal.nD → PrngReg)
    (m' : (ℓ : Loc Cert.ReferenceOptOutBIdeal.nD Cert.ReferenceOptOutBIdeal.τ Cert.ReferenceOptOutBIdeal.sig) → Buf (Elt Ideal) ℓ) (g' : Dev Cert.ReferenceOptOutBIdeal.nD → PrngReg), Pre_KernelOptOutBIdeal m →
    (∀ c : Dev Cert.KernelOptOutBIdeal.nD,
      m' ((c.tc : Thread Cert.ReferenceOptOutBIdeal.nD Cert.ReferenceOptOutBIdeal.τ).loc Cert.ReferenceOptOutBIdeal.main_arg0) = m ((c.tc : Thread Cert.KernelOptOutBIdeal.nD Cert.KernelOptOutBIdeal.τ).loc Cert.KernelOptOutBIdeal.main_arg0)
      ∧ m' ((c.tc : Thread Cert.ReferenceOptOutBIdeal.nD Cert.ReferenceOptOutBIdeal.τ).loc Cert.ReferenceOptOutBIdeal.main_arg1) = m ((c.tc : Thread Cert.KernelOptOutBIdeal.nD Cert.KernelOptOutBIdeal.τ).loc Cert.KernelOptOutBIdeal.main_arg1)
      ∧ m' ((c.tc : Thread Cert.ReferenceOptOutBIdeal.nD Cert.ReferenceOptOutBIdeal.τ).loc Cert.ReferenceOptOutBIdeal.main_arg2) = m ((c.tc : Thread Cert.KernelOptOutBIdeal.nD Cert.KernelOptOutBIdeal.τ).loc Cert.KernelOptOutBIdeal.main_arg2)
      ∧ m' ((c.tc : Thread Cert.ReferenceOptOutBIdeal.nD Cert.ReferenceOptOutBIdeal.τ).loc Cert.ReferenceOptOutBIdeal.main_arg3) = m ((c.tc : Thread Cert.KernelOptOutBIdeal.nD Cert.KernelOptOutBIdeal.τ).loc Cert.KernelOptOutBIdeal.main_arg3)) →
    ∃ (v0 : (c : Dev Cert.KernelOptOutBIdeal.nD) → Buf (Elt Ideal) ((c.tc : Thread Cert.KernelOptOutBIdeal.nD Cert.KernelOptOutBIdeal.τ).loc Cert.KernelOptOutBIdeal.main_v2)) (v1 : (c : Dev Cert.KernelOptOutBIdeal.nD) → Buf (Elt Ideal) ((c.tc : Thread Cert.KernelOptOutBIdeal.nD Cert.KernelOptOutBIdeal.τ).loc Cert.KernelOptOutBIdeal.main_v4)) (v2 : (c : Dev Cert.KernelOptOutBIdeal.nD) → Buf (Elt Ideal) ((c.tc : Thread Cert.KernelOptOutBIdeal.nD Cert.KernelOptOutBIdeal.τ).loc Cert.KernelOptOutBIdeal.main_v6)) (v3 : (c : Dev Cert.KernelOptOutBIdeal.nD) → Buf (Elt Ideal) ((c.tc : Thread Cert.KernelOptOutBIdeal.nD Cert.KernelOptOutBIdeal.τ).loc Cert.KernelOptOutBIdeal.main_v8)),
      θ_run (Cert.KernelOptOutBIdeal.defs (F := Ideal)) (onTc (τ := Cert.KernelOptOutBIdeal.τ) (Cert.KernelOptOutBIdeal.main (F := Ideal))) ⟨m, fun _ => 0, g⟩ (fun r => ∀ c : Dev Cert.KernelOptOutBIdeal.nD,
          r.2.mem ((c.tc : Thread Cert.KernelOptOutBIdeal.nD Cert.KernelOptOutBIdeal.τ).loc Cert.KernelOptOutBIdeal.main_v2) = v0 c
          ∧ r.2.mem ((c.tc : Thread Cert.KernelOptOutBIdeal.nD Cert.KernelOptOutBIdeal.τ).loc Cert.KernelOptOutBIdeal.main_v4) = v1 c
          ∧ r.2.mem ((c.tc : Thread Cert.KernelOptOutBIdeal.nD Cert.KernelOptOutBIdeal.τ).loc Cert.KernelOptOutBIdeal.main_v6) = v2 c
          ∧ r.2.mem ((c.tc : Thread Cert.KernelOptOutBIdeal.nD Cert.KernelOptOutBIdeal.τ).loc Cert.KernelOptOutBIdeal.main_v8) = v3 c
          ∧ r.2.mem ((c.tc : Thread Cert.KernelOptOutBIdeal.nD Cert.KernelOptOutBIdeal.τ).loc Cert.KernelOptOutBIdeal.main_arg0) = m ((c.tc : Thread Cert.KernelOptOutBIdeal.nD Cert.KernelOptOutBIdeal.τ).loc Cert.KernelOptOutBIdeal.main_arg0)
          ∧ r.2.mem ((c.tc : Thread Cert.KernelOptOutBIdeal.nD Cert.KernelOptOutBIdeal.τ).loc Cert.KernelOptOutBIdeal.main_arg1) = m ((c.tc : Thread Cert.KernelOptOutBIdeal.nD Cert.KernelOptOutBIdeal.τ).loc Cert.KernelOptOutBIdeal.main_arg1)
          ∧ r.2.mem ((c.tc : Thread Cert.KernelOptOutBIdeal.nD Cert.KernelOptOutBIdeal.τ).loc Cert.KernelOptOutBIdeal.main_arg2) = m ((c.tc : Thread Cert.KernelOptOutBIdeal.nD Cert.KernelOptOutBIdeal.τ).loc Cert.KernelOptOutBIdeal.main_arg2)
          ∧ r.2.mem ((c.tc : Thread Cert.KernelOptOutBIdeal.nD Cert.KernelOptOutBIdeal.τ).loc Cert.KernelOptOutBIdeal.main_arg3) = m ((c.tc : Thread Cert.KernelOptOutBIdeal.nD Cert.KernelOptOutBIdeal.τ).loc Cert.KernelOptOutBIdeal.main_arg3))
      ∧ θ_run (Cert.ReferenceOptOutBIdeal.defs (F := Ideal)) (onTc (τ := Cert.ReferenceOptOutBIdeal.τ) (Cert.ReferenceOptOutBIdeal.main (F := Ideal))) ⟨m', fun _ => 0, g'⟩ (fun r => ∀ c : Dev Cert.ReferenceOptOutBIdeal.nD,
          r.2.mem ((c.tc : Thread Cert.ReferenceOptOutBIdeal.nD Cert.ReferenceOptOutBIdeal.τ).loc Cert.ReferenceOptOutBIdeal.main_v7) = v0 c
          ∧ r.2.mem ((c.tc : Thread Cert.ReferenceOptOutBIdeal.nD Cert.ReferenceOptOutBIdeal.τ).loc Cert.ReferenceOptOutBIdeal.main_v31) = v1 c
          ∧ r.2.mem ((c.tc : Thread Cert.ReferenceOptOutBIdeal.nD Cert.ReferenceOptOutBIdeal.τ).loc Cert.ReferenceOptOutBIdeal.main_v12) = v2 c
          ∧ r.2.mem ((c.tc : Thread Cert.ReferenceOptOutBIdeal.nD Cert.ReferenceOptOutBIdeal.τ).loc Cert.ReferenceOptOutBIdeal.main_v18) = v3 c
          ∧ r.2.mem ((c.tc : Thread Cert.ReferenceOptOutBIdeal.nD Cert.ReferenceOptOutBIdeal.τ).loc Cert.ReferenceOptOutBIdeal.main_arg0) = m' ((c.tc : Thread Cert.ReferenceOptOutBIdeal.nD Cert.ReferenceOptOutBIdeal.τ).loc Cert.ReferenceOptOutBIdeal.main_arg0)
          ∧ r.2.mem ((c.tc : Thread Cert.ReferenceOptOutBIdeal.nD Cert.ReferenceOptOutBIdeal.τ).loc Cert.ReferenceOptOutBIdeal.main_arg1) = m' ((c.tc : Thread Cert.ReferenceOptOutBIdeal.nD Cert.ReferenceOptOutBIdeal.τ).loc Cert.ReferenceOptOutBIdeal.main_arg1)
          ∧ r.2.mem ((c.tc : Thread Cert.ReferenceOptOutBIdeal.nD Cert.ReferenceOptOutBIdeal.τ).loc Cert.ReferenceOptOutBIdeal.main_arg2) = m' ((c.tc : Thread Cert.ReferenceOptOutBIdeal.nD Cert.ReferenceOptOutBIdeal.τ).loc Cert.ReferenceOptOutBIdeal.main_arg2)
          ∧ r.2.mem ((c.tc : Thread Cert.ReferenceOptOutBIdeal.nD Cert.ReferenceOptOutBIdeal.τ).loc Cert.ReferenceOptOutBIdeal.main_arg3) = m' ((c.tc : Thread Cert.ReferenceOptOutBIdeal.nD Cert.ReferenceOptOutBIdeal.τ).loc Cert.ReferenceOptOutBIdeal.main_arg3))

def preserves_KernelOptOutA_KernelOptOutAIdeal : Prop :=
  IdealRules.named_const.Statement Cert.KernelOptOutAIdeal.κ "c1" .f32 0x3FC48605#32 ((8388608 / 5463681 : ℝ) : EReal)
  ∧ IdealRules.named_const.Statement Cert.KernelOptOutAIdeal.κ "c2" .f32 0x42C8E6D3#32 ((268435456 / 2672307 : ℝ) : EReal)

def algebraic_KernelOptOutAIdeal_ReferenceOptOutAIdeal [hKernelOptOutAIdeal : Cert.KernelOptOutAIdeal.Facts] [hReferenceOptOutAIdeal : Cert.ReferenceOptOutAIdeal.Facts] : Prop :=
  ∀ (m : (ℓ : Loc Cert.KernelOptOutAIdeal.nD Cert.KernelOptOutAIdeal.τ Cert.KernelOptOutAIdeal.sig) → Buf (Elt Ideal) ℓ) (g : Dev Cert.KernelOptOutAIdeal.nD → PrngReg)
    (m' : (ℓ : Loc Cert.ReferenceOptOutAIdeal.nD Cert.ReferenceOptOutAIdeal.τ Cert.ReferenceOptOutAIdeal.sig) → Buf (Elt Ideal) ℓ) (g' : Dev Cert.ReferenceOptOutAIdeal.nD → PrngReg), Pre_KernelOptOutAIdeal m →
    (∀ c : Dev Cert.KernelOptOutAIdeal.nD,
      m' ((c.tc : Thread Cert.ReferenceOptOutAIdeal.nD Cert.ReferenceOptOutAIdeal.τ).loc Cert.ReferenceOptOutAIdeal.main_arg0) = m ((c.tc : Thread Cert.KernelOptOutAIdeal.nD Cert.KernelOptOutAIdeal.τ).loc Cert.KernelOptOutAIdeal.main_arg0)
      ∧ m' ((c.tc : Thread Cert.ReferenceOptOutAIdeal.nD Cert.ReferenceOptOutAIdeal.τ).loc Cert.ReferenceOptOutAIdeal.main_arg1) = m ((c.tc : Thread Cert.KernelOptOutAIdeal.nD Cert.KernelOptOutAIdeal.τ).loc Cert.KernelOptOutAIdeal.main_arg1)
      ∧ m' ((c.tc : Thread Cert.ReferenceOptOutAIdeal.nD Cert.ReferenceOptOutAIdeal.τ).loc Cert.ReferenceOptOutAIdeal.main_arg2) = m ((c.tc : Thread Cert.KernelOptOutAIdeal.nD Cert.KernelOptOutAIdeal.τ).loc Cert.KernelOptOutAIdeal.main_arg2)
      ∧ m' ((c.tc : Thread Cert.ReferenceOptOutAIdeal.nD Cert.ReferenceOptOutAIdeal.τ).loc Cert.ReferenceOptOutAIdeal.main_arg3) = m ((c.tc : Thread Cert.KernelOptOutAIdeal.nD Cert.KernelOptOutAIdeal.τ).loc Cert.KernelOptOutAIdeal.main_arg3)
      ∧ m' ((c.tc : Thread Cert.ReferenceOptOutAIdeal.nD Cert.ReferenceOptOutAIdeal.τ).loc Cert.ReferenceOptOutAIdeal.main_arg4) = m ((c.tc : Thread Cert.KernelOptOutAIdeal.nD Cert.KernelOptOutAIdeal.τ).loc Cert.KernelOptOutAIdeal.main_arg4)
      ∧ m' ((c.tc : Thread Cert.ReferenceOptOutAIdeal.nD Cert.ReferenceOptOutAIdeal.τ).loc Cert.ReferenceOptOutAIdeal.main_arg5) = m ((c.tc : Thread Cert.KernelOptOutAIdeal.nD Cert.KernelOptOutAIdeal.τ).loc Cert.KernelOptOutAIdeal.main_arg5)
      ∧ m' ((c.tc : Thread Cert.ReferenceOptOutAIdeal.nD Cert.ReferenceOptOutAIdeal.τ).loc Cert.ReferenceOptOutAIdeal.main_arg6) = m ((c.tc : Thread Cert.KernelOptOutAIdeal.nD Cert.KernelOptOutAIdeal.τ).loc Cert.KernelOptOutAIdeal.main_arg6)
      ∧ m' ((c.tc : Thread Cert.ReferenceOptOutAIdeal.nD Cert.ReferenceOptOutAIdeal.τ).loc Cert.ReferenceOptOutAIdeal.main_arg7) = m ((c.tc : Thread Cert.KernelOptOutAIdeal.nD Cert.KernelOptOutAIdeal.τ).loc Cert.KernelOptOutAIdeal.main_arg7)) →
    ∃ (v0 : (c : Dev Cert.KernelOptOutAIdeal.nD) → Buf (Elt Ideal) ((c.tc : Thread Cert.KernelOptOutAIdeal.nD Cert.KernelOptOutAIdeal.τ).loc Cert.KernelOptOutAIdeal.main_v0_0)) (v1 : (c : Dev Cert.KernelOptOutAIdeal.nD) → Buf (Elt Ideal) ((c.tc : Thread Cert.KernelOptOutAIdeal.nD Cert.KernelOptOutAIdeal.τ).loc Cert.KernelOptOutAIdeal.main_v0_1)) (v2 : (c : Dev Cert.KernelOptOutAIdeal.nD) → Buf (Elt Ideal) ((c.tc : Thread Cert.KernelOptOutAIdeal.nD Cert.KernelOptOutAIdeal.τ).loc Cert.KernelOptOutAIdeal.main_v0_2)) (v3 : (c : Dev Cert.KernelOptOutAIdeal.nD) → Buf (Elt Ideal) ((c.tc : Thread Cert.KernelOptOutAIdeal.nD Cert.KernelOptOutAIdeal.τ).loc Cert.KernelOptOutAIdeal.main_v0_3)),
      θ_run (Cert.KernelOptOutAIdeal.defs (F := Ideal)) (onTc (τ := Cert.KernelOptOutAIdeal.τ) (Cert.KernelOptOutAIdeal.main (F := Ideal))) ⟨m, fun _ => 0, g⟩ (fun r => ∀ c : Dev Cert.KernelOptOutAIdeal.nD,
          r.2.mem ((c.tc : Thread Cert.KernelOptOutAIdeal.nD Cert.KernelOptOutAIdeal.τ).loc Cert.KernelOptOutAIdeal.main_v0_0) = v0 c
          ∧ r.2.mem ((c.tc : Thread Cert.KernelOptOutAIdeal.nD Cert.KernelOptOutAIdeal.τ).loc Cert.KernelOptOutAIdeal.main_v0_1) = v1 c
          ∧ r.2.mem ((c.tc : Thread Cert.KernelOptOutAIdeal.nD Cert.KernelOptOutAIdeal.τ).loc Cert.KernelOptOutAIdeal.main_v0_2) = v2 c
          ∧ r.2.mem ((c.tc : Thread Cert.KernelOptOutAIdeal.nD Cert.KernelOptOutAIdeal.τ).loc Cert.KernelOptOutAIdeal.main_v0_3) = v3 c
          ∧ r.2.mem ((c.tc : Thread Cert.KernelOptOutAIdeal.nD Cert.KernelOptOutAIdeal.τ).loc Cert.KernelOptOutAIdeal.main_arg0) = m ((c.tc : Thread Cert.KernelOptOutAIdeal.nD Cert.KernelOptOutAIdeal.τ).loc Cert.KernelOptOutAIdeal.main_arg0)
          ∧ r.2.mem ((c.tc : Thread Cert.KernelOptOutAIdeal.nD Cert.KernelOptOutAIdeal.τ).loc Cert.KernelOptOutAIdeal.main_arg1) = m ((c.tc : Thread Cert.KernelOptOutAIdeal.nD Cert.KernelOptOutAIdeal.τ).loc Cert.KernelOptOutAIdeal.main_arg1)
          ∧ r.2.mem ((c.tc : Thread Cert.KernelOptOutAIdeal.nD Cert.KernelOptOutAIdeal.τ).loc Cert.KernelOptOutAIdeal.main_arg2) = m ((c.tc : Thread Cert.KernelOptOutAIdeal.nD Cert.KernelOptOutAIdeal.τ).loc Cert.KernelOptOutAIdeal.main_arg2)
          ∧ r.2.mem ((c.tc : Thread Cert.KernelOptOutAIdeal.nD Cert.KernelOptOutAIdeal.τ).loc Cert.KernelOptOutAIdeal.main_arg3) = m ((c.tc : Thread Cert.KernelOptOutAIdeal.nD Cert.KernelOptOutAIdeal.τ).loc Cert.KernelOptOutAIdeal.main_arg3)
          ∧ r.2.mem ((c.tc : Thread Cert.KernelOptOutAIdeal.nD Cert.KernelOptOutAIdeal.τ).loc Cert.KernelOptOutAIdeal.main_arg4) = m ((c.tc : Thread Cert.KernelOptOutAIdeal.nD Cert.KernelOptOutAIdeal.τ).loc Cert.KernelOptOutAIdeal.main_arg4)
          ∧ r.2.mem ((c.tc : Thread Cert.KernelOptOutAIdeal.nD Cert.KernelOptOutAIdeal.τ).loc Cert.KernelOptOutAIdeal.main_arg5) = m ((c.tc : Thread Cert.KernelOptOutAIdeal.nD Cert.KernelOptOutAIdeal.τ).loc Cert.KernelOptOutAIdeal.main_arg5)
          ∧ r.2.mem ((c.tc : Thread Cert.KernelOptOutAIdeal.nD Cert.KernelOptOutAIdeal.τ).loc Cert.KernelOptOutAIdeal.main_arg6) = m ((c.tc : Thread Cert.KernelOptOutAIdeal.nD Cert.KernelOptOutAIdeal.τ).loc Cert.KernelOptOutAIdeal.main_arg6)
          ∧ r.2.mem ((c.tc : Thread Cert.KernelOptOutAIdeal.nD Cert.KernelOptOutAIdeal.τ).loc Cert.KernelOptOutAIdeal.main_arg7) = m ((c.tc : Thread Cert.KernelOptOutAIdeal.nD Cert.KernelOptOutAIdeal.τ).loc Cert.KernelOptOutAIdeal.main_arg7))
      ∧ θ_run (Cert.ReferenceOptOutAIdeal.defs (F := Ideal)) (onTc (τ := Cert.ReferenceOptOutAIdeal.τ) (Cert.ReferenceOptOutAIdeal.main (F := Ideal))) ⟨m', fun _ => 0, g'⟩ (fun r => ∀ c : Dev Cert.ReferenceOptOutAIdeal.nD,
          r.2.mem ((c.tc : Thread Cert.ReferenceOptOutAIdeal.nD Cert.ReferenceOptOutAIdeal.τ).loc Cert.ReferenceOptOutAIdeal.main_v36) = v0 c
          ∧ r.2.mem ((c.tc : Thread Cert.ReferenceOptOutAIdeal.nD Cert.ReferenceOptOutAIdeal.τ).loc Cert.ReferenceOptOutAIdeal.main_v41) = v1 c
          ∧ r.2.mem ((c.tc : Thread Cert.ReferenceOptOutAIdeal.nD Cert.ReferenceOptOutAIdeal.τ).loc Cert.ReferenceOptOutAIdeal.main_v46) = v2 c
          ∧ r.2.mem ((c.tc : Thread Cert.ReferenceOptOutAIdeal.nD Cert.ReferenceOptOutAIdeal.τ).loc Cert.ReferenceOptOutAIdeal.main_v51) = v3 c
          ∧ r.2.mem ((c.tc : Thread Cert.ReferenceOptOutAIdeal.nD Cert.ReferenceOptOutAIdeal.τ).loc Cert.ReferenceOptOutAIdeal.main_arg0) = m' ((c.tc : Thread Cert.ReferenceOptOutAIdeal.nD Cert.ReferenceOptOutAIdeal.τ).loc Cert.ReferenceOptOutAIdeal.main_arg0)
          ∧ r.2.mem ((c.tc : Thread Cert.ReferenceOptOutAIdeal.nD Cert.ReferenceOptOutAIdeal.τ).loc Cert.ReferenceOptOutAIdeal.main_arg1) = m' ((c.tc : Thread Cert.ReferenceOptOutAIdeal.nD Cert.ReferenceOptOutAIdeal.τ).loc Cert.ReferenceOptOutAIdeal.main_arg1)
          ∧ r.2.mem ((c.tc : Thread Cert.ReferenceOptOutAIdeal.nD Cert.ReferenceOptOutAIdeal.τ).loc Cert.ReferenceOptOutAIdeal.main_arg2) = m' ((c.tc : Thread Cert.ReferenceOptOutAIdeal.nD Cert.ReferenceOptOutAIdeal.τ).loc Cert.ReferenceOptOutAIdeal.main_arg2)
          ∧ r.2.mem ((c.tc : Thread Cert.ReferenceOptOutAIdeal.nD Cert.ReferenceOptOutAIdeal.τ).loc Cert.ReferenceOptOutAIdeal.main_arg3) = m' ((c.tc : Thread Cert.ReferenceOptOutAIdeal.nD Cert.ReferenceOptOutAIdeal.τ).loc Cert.ReferenceOptOutAIdeal.main_arg3)
          ∧ r.2.mem ((c.tc : Thread Cert.ReferenceOptOutAIdeal.nD Cert.ReferenceOptOutAIdeal.τ).loc Cert.ReferenceOptOutAIdeal.main_arg4) = m' ((c.tc : Thread Cert.ReferenceOptOutAIdeal.nD Cert.ReferenceOptOutAIdeal.τ).loc Cert.ReferenceOptOutAIdeal.main_arg4)
          ∧ r.2.mem ((c.tc : Thread Cert.ReferenceOptOutAIdeal.nD Cert.ReferenceOptOutAIdeal.τ).loc Cert.ReferenceOptOutAIdeal.main_arg5) = m' ((c.tc : Thread Cert.ReferenceOptOutAIdeal.nD Cert.ReferenceOptOutAIdeal.τ).loc Cert.ReferenceOptOutAIdeal.main_arg5)
          ∧ r.2.mem ((c.tc : Thread Cert.ReferenceOptOutAIdeal.nD Cert.ReferenceOptOutAIdeal.τ).loc Cert.ReferenceOptOutAIdeal.main_arg6) = m' ((c.tc : Thread Cert.ReferenceOptOutAIdeal.nD Cert.ReferenceOptOutAIdeal.τ).loc Cert.ReferenceOptOutAIdeal.main_arg6)
          ∧ r.2.mem ((c.tc : Thread Cert.ReferenceOptOutAIdeal.nD Cert.ReferenceOptOutAIdeal.τ).loc Cert.ReferenceOptOutAIdeal.main_arg7) = m' ((c.tc : Thread Cert.ReferenceOptOutAIdeal.nD Cert.ReferenceOptOutAIdeal.τ).loc Cert.ReferenceOptOutAIdeal.main_arg7))

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)) →
    ∃ (v0 : (c : Dev Cert.KernelLossIdeal.nD) → Buf (Elt Ideal) ((c.tc : Thread Cert.KernelLossIdeal.nD Cert.KernelLossIdeal.τ).loc Cert.KernelLossIdeal.main_v0_0)) (v1 : (c : Dev Cert.KernelLossIdeal.nD) → Buf (Elt Ideal) ((c.tc : Thread Cert.KernelLossIdeal.nD Cert.KernelLossIdeal.τ).loc Cert.KernelLossIdeal.main_v0_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v0_0) = v0 c
          ∧ r.2.mem ((c.tc : Thread Cert.KernelLossIdeal.nD Cert.KernelLossIdeal.τ).loc Cert.KernelLossIdeal.main_v0_1) = v1 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v14) = v0 c
          ∧ r.2.mem ((c.tc : Thread Cert.ReferenceLossIdeal.nD Cert.ReferenceLossIdeal.τ).loc Cert.ReferenceLossIdeal.main_v15) = v1 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1))

def preserves_KernelWSc_KernelWScIdeal : Prop :=
  True

def algebraic_KernelWScIdeal_ReferenceWScIdeal [hKernelWScIdeal : Cert.KernelWScIdeal.Facts] [hReferenceWScIdeal : Cert.ReferenceWScIdeal.Facts] : Prop :=
  ∀ (m : (ℓ : Loc Cert.KernelWScIdeal.nD Cert.KernelWScIdeal.τ Cert.KernelWScIdeal.sig) → Buf (Elt Ideal) ℓ) (g : Dev Cert.KernelWScIdeal.nD → PrngReg)
    (m' : (ℓ : Loc Cert.ReferenceWScIdeal.nD Cert.ReferenceWScIdeal.τ Cert.ReferenceWScIdeal.sig) → Buf (Elt Ideal) ℓ) (g' : Dev Cert.ReferenceWScIdeal.nD → PrngReg), Pre_KernelWScIdeal m →
    (∀ c : Dev Cert.KernelWScIdeal.nD,
      m' ((c.tc : Thread Cert.ReferenceWScIdeal.nD Cert.ReferenceWScIdeal.τ).loc Cert.ReferenceWScIdeal.main_arg0) = m ((c.tc : Thread Cert.KernelWScIdeal.nD Cert.KernelWScIdeal.τ).loc Cert.KernelWScIdeal.main_arg0)
      ∧ m' ((c.tc : Thread Cert.ReferenceWScIdeal.nD Cert.ReferenceWScIdeal.τ).loc Cert.ReferenceWScIdeal.main_arg1) = m ((c.tc : Thread Cert.KernelWScIdeal.nD Cert.KernelWScIdeal.τ).loc Cert.KernelWScIdeal.main_arg1)) →
    ∃ (v0 : (c : Dev Cert.KernelWScIdeal.nD) → Buf (Elt Ideal) ((c.tc : Thread Cert.KernelWScIdeal.nD Cert.KernelWScIdeal.τ).loc Cert.KernelWScIdeal.main_v2)),
      θ_run (Cert.KernelWScIdeal.defs (F := Ideal)) (onTc (τ := Cert.KernelWScIdeal.τ) (Cert.KernelWScIdeal.main (F := Ideal))) ⟨m, fun _ => 0, g⟩ (fun r => ∀ c : Dev Cert.KernelWScIdeal.nD,
          r.2.mem ((c.tc : Thread Cert.KernelWScIdeal.nD Cert.KernelWScIdeal.τ).loc Cert.KernelWScIdeal.main_v2) = v0 c
          ∧ r.2.mem ((c.tc : Thread Cert.KernelWScIdeal.nD Cert.KernelWScIdeal.τ).loc Cert.KernelWScIdeal.main_arg0) = m ((c.tc : Thread Cert.KernelWScIdeal.nD Cert.KernelWScIdeal.τ).loc Cert.KernelWScIdeal.main_arg0)
          ∧ r.2.mem ((c.tc : Thread Cert.KernelWScIdeal.nD Cert.KernelWScIdeal.τ).loc Cert.KernelWScIdeal.main_arg1) = m ((c.tc : Thread Cert.KernelWScIdeal.nD Cert.KernelWScIdeal.τ).loc Cert.KernelWScIdeal.main_arg1))
      ∧ θ_run (Cert.ReferenceWScIdeal.defs (F := Ideal)) (onTc (τ := Cert.ReferenceWScIdeal.τ) (Cert.ReferenceWScIdeal.main (F := Ideal))) ⟨m', fun _ => 0, g'⟩ (fun r => ∀ c : Dev Cert.ReferenceWScIdeal.nD,
          r.2.mem ((c.tc : Thread Cert.ReferenceWScIdeal.nD Cert.ReferenceWScIdeal.τ).loc Cert.ReferenceWScIdeal.main_v5) = v0 c
          ∧ r.2.mem ((c.tc : Thread Cert.ReferenceWScIdeal.nD Cert.ReferenceWScIdeal.τ).loc Cert.ReferenceWScIdeal.main_arg0) = m' ((c.tc : Thread Cert.ReferenceWScIdeal.nD Cert.ReferenceWScIdeal.τ).loc Cert.ReferenceWScIdeal.main_arg0)
          ∧ r.2.mem ((c.tc : Thread Cert.ReferenceWScIdeal.nD Cert.ReferenceWScIdeal.τ).loc Cert.ReferenceWScIdeal.main_arg1) = m' ((c.tc : Thread Cert.ReferenceWScIdeal.nD Cert.ReferenceWScIdeal.τ).loc Cert.ReferenceWScIdeal.main_arg1))

def preserves_KernelWSb_KernelWSbIdeal : Prop :=
  True

def algebraic_KernelWSbIdeal_ReferenceWSbIdeal [hKernelWSbIdeal : Cert.KernelWSbIdeal.Facts] [hReferenceWSbIdeal : Cert.ReferenceWSbIdeal.Facts] : Prop :=
  ∀ (m : (ℓ : Loc Cert.KernelWSbIdeal.nD Cert.KernelWSbIdeal.τ Cert.KernelWSbIdeal.sig) → Buf (Elt Ideal) ℓ) (g : Dev Cert.KernelWSbIdeal.nD → PrngReg)
    (m' : (ℓ : Loc Cert.ReferenceWSbIdeal.nD Cert.ReferenceWSbIdeal.τ Cert.ReferenceWSbIdeal.sig) → Buf (Elt Ideal) ℓ) (g' : Dev Cert.ReferenceWSbIdeal.nD → PrngReg), Pre_KernelWSbIdeal m →
    (∀ c : Dev Cert.KernelWSbIdeal.nD,
      m' ((c.tc : Thread Cert.ReferenceWSbIdeal.nD Cert.ReferenceWSbIdeal.τ).loc Cert.ReferenceWSbIdeal.main_arg0) = m ((c.tc : Thread Cert.KernelWSbIdeal.nD Cert.KernelWSbIdeal.τ).loc Cert.KernelWSbIdeal.main_arg0)
      ∧ m' ((c.tc : Thread Cert.ReferenceWSbIdeal.nD Cert.ReferenceWSbIdeal.τ).loc Cert.ReferenceWSbIdeal.main_arg1) = m ((c.tc : Thread Cert.KernelWSbIdeal.nD Cert.KernelWSbIdeal.τ).loc Cert.KernelWSbIdeal.main_arg1)) →
    ∃ (v0 : (c : Dev Cert.KernelWSbIdeal.nD) → Buf (Elt Ideal) ((c.tc : Thread Cert.KernelWSbIdeal.nD Cert.KernelWSbIdeal.τ).loc Cert.KernelWSbIdeal.main_v2)),
      θ_run (Cert.KernelWSbIdeal.defs (F := Ideal)) (onTc (τ := Cert.KernelWSbIdeal.τ) (Cert.KernelWSbIdeal.main (F := Ideal))) ⟨m, fun _ => 0, g⟩ (fun r => ∀ c : Dev Cert.KernelWSbIdeal.nD,
          r.2.mem ((c.tc : Thread Cert.KernelWSbIdeal.nD Cert.KernelWSbIdeal.τ).loc Cert.KernelWSbIdeal.main_v2) = v0 c
          ∧ r.2.mem ((c.tc : Thread Cert.KernelWSbIdeal.nD Cert.KernelWSbIdeal.τ).loc Cert.KernelWSbIdeal.main_arg0) = m ((c.tc : Thread Cert.KernelWSbIdeal.nD Cert.KernelWSbIdeal.τ).loc Cert.KernelWSbIdeal.main_arg0)
          ∧ r.2.mem ((c.tc : Thread Cert.KernelWSbIdeal.nD Cert.KernelWSbIdeal.τ).loc Cert.KernelWSbIdeal.main_arg1) = m ((c.tc : Thread Cert.KernelWSbIdeal.nD Cert.KernelWSbIdeal.τ).loc Cert.KernelWSbIdeal.main_arg1))
      ∧ θ_run (Cert.ReferenceWSbIdeal.defs (F := Ideal)) (onTc (τ := Cert.ReferenceWSbIdeal.τ) (Cert.ReferenceWSbIdeal.main (F := Ideal))) ⟨m', fun _ => 0, g'⟩ (fun r => ∀ c : Dev Cert.ReferenceWSbIdeal.nD,
          r.2.mem ((c.tc : Thread Cert.ReferenceWSbIdeal.nD Cert.ReferenceWSbIdeal.τ).loc Cert.ReferenceWSbIdeal.main_v5) = v0 c
          ∧ r.2.mem ((c.tc : Thread Cert.ReferenceWSbIdeal.nD Cert.ReferenceWSbIdeal.τ).loc Cert.ReferenceWSbIdeal.main_arg0) = m' ((c.tc : Thread Cert.ReferenceWSbIdeal.nD Cert.ReferenceWSbIdeal.τ).loc Cert.ReferenceWSbIdeal.main_arg0)
          ∧ r.2.mem ((c.tc : Thread Cert.ReferenceWSbIdeal.nD Cert.ReferenceWSbIdeal.τ).loc Cert.ReferenceWSbIdeal.main_arg1) = m' ((c.tc : Thread Cert.ReferenceWSbIdeal.nD Cert.ReferenceWSbIdeal.τ).loc Cert.ReferenceWSbIdeal.main_arg1))

def preserves_KernelConvF_KernelConvFIdeal : Prop :=
  True

def algebraic_KernelConvFIdeal_ReferenceConvFIdeal [hKernelConvFIdeal : Cert.KernelConvFIdeal.Facts] [hReferenceConvFIdeal : Cert.ReferenceConvFIdeal.Facts] : Prop :=
  ∀ (m : (ℓ : Loc Cert.KernelConvFIdeal.nD Cert.KernelConvFIdeal.τ Cert.KernelConvFIdeal.sig) → Buf (Elt Ideal) ℓ) (g : Dev Cert.KernelConvFIdeal.nD → PrngReg)
    (m' : (ℓ : Loc Cert.ReferenceConvFIdeal.nD Cert.ReferenceConvFIdeal.τ Cert.ReferenceConvFIdeal.sig) → Buf (Elt Ideal) ℓ) (g' : Dev Cert.ReferenceConvFIdeal.nD → PrngReg), Pre_KernelConvFIdeal m →
    (∀ c : Dev Cert.KernelConvFIdeal.nD,
      m' ((c.tc : Thread Cert.ReferenceConvFIdeal.nD Cert.ReferenceConvFIdeal.τ).loc Cert.ReferenceConvFIdeal.main_arg0) = m ((c.tc : Thread Cert.KernelConvFIdeal.nD Cert.KernelConvFIdeal.τ).loc Cert.KernelConvFIdeal.main_arg0)
      ∧ m' ((c.tc : Thread Cert.ReferenceConvFIdeal.nD Cert.ReferenceConvFIdeal.τ).loc Cert.ReferenceConvFIdeal.main_arg1) = m ((c.tc : Thread Cert.KernelConvFIdeal.nD Cert.KernelConvFIdeal.τ).loc Cert.KernelConvFIdeal.main_arg1)
      ∧ m' ((c.tc : Thread Cert.ReferenceConvFIdeal.nD Cert.ReferenceConvFIdeal.τ).loc Cert.ReferenceConvFIdeal.main_arg2) = m ((c.tc : Thread Cert.KernelConvFIdeal.nD Cert.KernelConvFIdeal.τ).loc Cert.KernelConvFIdeal.main_arg2)
      ∧ m' ((c.tc : Thread Cert.ReferenceConvFIdeal.nD Cert.ReferenceConvFIdeal.τ).loc Cert.ReferenceConvFIdeal.main_arg3) = m ((c.tc : Thread Cert.KernelConvFIdeal.nD Cert.KernelConvFIdeal.τ).loc Cert.KernelConvFIdeal.main_arg3)
      ∧ m' ((c.tc : Thread Cert.ReferenceConvFIdeal.nD Cert.ReferenceConvFIdeal.τ).loc Cert.ReferenceConvFIdeal.main_arg4) = m ((c.tc : Thread Cert.KernelConvFIdeal.nD Cert.KernelConvFIdeal.τ).loc Cert.KernelConvFIdeal.main_arg4)) →
    ∃ (v0 : (c : Dev Cert.KernelConvFIdeal.nD) → Buf (Elt Ideal) ((c.tc : Thread Cert.KernelConvFIdeal.nD Cert.KernelConvFIdeal.τ).loc Cert.KernelConvFIdeal.main_v0_0)) (v1 : (c : Dev Cert.KernelConvFIdeal.nD) → Buf (Elt Ideal) ((c.tc : Thread Cert.KernelConvFIdeal.nD Cert.KernelConvFIdeal.τ).loc Cert.KernelConvFIdeal.main_v0_1)),
      θ_run (Cert.KernelConvFIdeal.defs (F := Ideal)) (onTc (τ := Cert.KernelConvFIdeal.τ) (Cert.KernelConvFIdeal.main (F := Ideal))) ⟨m, fun _ => 0, g⟩ (fun r => ∀ c : Dev Cert.KernelConvFIdeal.nD,
          r.2.mem ((c.tc : Thread Cert.KernelConvFIdeal.nD Cert.KernelConvFIdeal.τ).loc Cert.KernelConvFIdeal.main_v0_0) = v0 c
          ∧ r.2.mem ((c.tc : Thread Cert.KernelConvFIdeal.nD Cert.KernelConvFIdeal.τ).loc Cert.KernelConvFIdeal.main_v0_1) = v1 c
          ∧ r.2.mem ((c.tc : Thread Cert.KernelConvFIdeal.nD Cert.KernelConvFIdeal.τ).loc Cert.KernelConvFIdeal.main_arg0) = m ((c.tc : Thread Cert.KernelConvFIdeal.nD Cert.KernelConvFIdeal.τ).loc Cert.KernelConvFIdeal.main_arg0)
          ∧ r.2.mem ((c.tc : Thread Cert.KernelConvFIdeal.nD Cert.KernelConvFIdeal.τ).loc Cert.KernelConvFIdeal.main_arg1) = m ((c.tc : Thread Cert.KernelConvFIdeal.nD Cert.KernelConvFIdeal.τ).loc Cert.KernelConvFIdeal.main_arg1)
          ∧ r.2.mem ((c.tc : Thread Cert.KernelConvFIdeal.nD Cert.KernelConvFIdeal.τ).loc Cert.KernelConvFIdeal.main_arg2) = m ((c.tc : Thread Cert.KernelConvFIdeal.nD Cert.KernelConvFIdeal.τ).loc Cert.KernelConvFIdeal.main_arg2)
          ∧ r.2.mem ((c.tc : Thread Cert.KernelConvFIdeal.nD Cert.KernelConvFIdeal.τ).loc Cert.KernelConvFIdeal.main_arg3) = m ((c.tc : Thread Cert.KernelConvFIdeal.nD Cert.KernelConvFIdeal.τ).loc Cert.KernelConvFIdeal.main_arg3)
          ∧ r.2.mem ((c.tc : Thread Cert.KernelConvFIdeal.nD Cert.KernelConvFIdeal.τ).loc Cert.KernelConvFIdeal.main_arg4) = m ((c.tc : Thread Cert.KernelConvFIdeal.nD Cert.KernelConvFIdeal.τ).loc Cert.KernelConvFIdeal.main_arg4))
      ∧ θ_run (Cert.ReferenceConvFIdeal.defs (F := Ideal)) (onTc (τ := Cert.ReferenceConvFIdeal.τ) (Cert.ReferenceConvFIdeal.main (F := Ideal))) ⟨m', fun _ => 0, g'⟩ (fun r => ∀ c : Dev Cert.ReferenceConvFIdeal.nD,
          r.2.mem ((c.tc : Thread Cert.ReferenceConvFIdeal.nD Cert.ReferenceConvFIdeal.τ).loc Cert.ReferenceConvFIdeal.main_v233) = v0 c
          ∧ r.2.mem ((c.tc : Thread Cert.ReferenceConvFIdeal.nD Cert.ReferenceConvFIdeal.τ).loc Cert.ReferenceConvFIdeal.main_v257) = v1 c
          ∧ r.2.mem ((c.tc : Thread Cert.ReferenceConvFIdeal.nD Cert.ReferenceConvFIdeal.τ).loc Cert.ReferenceConvFIdeal.main_arg0) = m' ((c.tc : Thread Cert.ReferenceConvFIdeal.nD Cert.ReferenceConvFIdeal.τ).loc Cert.ReferenceConvFIdeal.main_arg0)
          ∧ r.2.mem ((c.tc : Thread Cert.ReferenceConvFIdeal.nD Cert.ReferenceConvFIdeal.τ).loc Cert.ReferenceConvFIdeal.main_arg1) = m' ((c.tc : Thread Cert.ReferenceConvFIdeal.nD Cert.ReferenceConvFIdeal.τ).loc Cert.ReferenceConvFIdeal.main_arg1)
          ∧ r.2.mem ((c.tc : Thread Cert.ReferenceConvFIdeal.nD Cert.ReferenceConvFIdeal.τ).loc Cert.ReferenceConvFIdeal.main_arg2) = m' ((c.tc : Thread Cert.ReferenceConvFIdeal.nD Cert.ReferenceConvFIdeal.τ).loc Cert.ReferenceConvFIdeal.main_arg2)
          ∧ r.2.mem ((c.tc : Thread Cert.ReferenceConvFIdeal.nD Cert.ReferenceConvFIdeal.τ).loc Cert.ReferenceConvFIdeal.main_arg3) = m' ((c.tc : Thread Cert.ReferenceConvFIdeal.nD Cert.ReferenceConvFIdeal.τ).loc Cert.ReferenceConvFIdeal.main_arg3)
          ∧ r.2.mem ((c.tc : Thread Cert.ReferenceConvFIdeal.nD Cert.ReferenceConvFIdeal.τ).loc Cert.ReferenceConvFIdeal.main_arg4) = m' ((c.tc : Thread Cert.ReferenceConvFIdeal.nD Cert.ReferenceConvFIdeal.τ).loc Cert.ReferenceConvFIdeal.main_arg4))

def Claim : Prop :=
  ∃ (hKernel : Cert.Kernel.Facts) (hKernelIdeal : Cert.KernelIdeal.Facts) (hReferenceIdeal : Cert.ReferenceIdeal.Facts) (hKernelWOut : Cert.KernelWOut.Facts) (hKernelWOutIdeal : Cert.KernelWOutIdeal.Facts) (hReferenceWOutIdeal : Cert.ReferenceWOutIdeal.Facts) (hKernelWIn : Cert.KernelWIn.Facts) (hKernelWInIdeal : Cert.KernelWInIdeal.Facts) (hReferenceWInIdeal : Cert.ReferenceWInIdeal.Facts) (hKernelWDown : Cert.KernelWDown.Facts) (hKernelWDownIdeal : Cert.KernelWDownIdeal.Facts) (hReferenceWDownIdeal : Cert.ReferenceWDownIdeal.Facts) (hKernelWUpA : Cert.KernelWUpA.Facts) (hKernelWUpAIdeal : Cert.KernelWUpAIdeal.Facts) (hReferenceWUpAIdeal : Cert.ReferenceWUpAIdeal.Facts) (hKernelWUpB : Cert.KernelWUpB.Facts) (hKernelWUpBIdeal : Cert.KernelWUpBIdeal.Facts) (hReferenceWUpBIdeal : Cert.ReferenceWUpBIdeal.Facts) (hKernelWBr : Cert.KernelWBr.Facts) (hKernelWBrIdeal : Cert.KernelWBrIdeal.Facts) (hReferenceWBrIdeal : Cert.ReferenceWBrIdeal.Facts) (hKernelWAttn : Cert.KernelWAttn.Facts) (hKernelWAttnIdeal : Cert.KernelWAttnIdeal.Facts) (hReferenceWAttnIdeal : Cert.ReferenceWAttnIdeal.Facts) (hKernelWGlu : Cert.KernelWGlu.Facts) (hKernelWGluIdeal : Cert.KernelWGluIdeal.Facts) (hReferenceWGluIdeal : Cert.ReferenceWGluIdeal.Facts) (hKernelFfnA : Cert.KernelFfnA.Facts) (hKernelFfnAIdeal : Cert.KernelFfnAIdeal.Facts) (hReferenceFfnAIdeal : Cert.ReferenceFfnAIdeal.Facts) (hKernelFfnB : Cert.KernelFfnB.Facts) (hKernelFfnBIdeal : Cert.KernelFfnBIdeal.Facts) (hReferenceFfnBIdeal : Cert.ReferenceFfnBIdeal.Facts) (hKernelFfnC : Cert.KernelFfnC.Facts) (hKernelFfnCIdeal : Cert.KernelFfnCIdeal.Facts) (hReferenceFfnCIdeal : Cert.ReferenceFfnCIdeal.Facts) (hKernelProj : Cert.KernelProj.Facts) (hKernelProjIdeal : Cert.KernelProjIdeal.Facts) (hReferenceProjIdeal : Cert.ReferenceProjIdeal.Facts) (hKernelMixA : Cert.KernelMixA.Facts) (hKernelMixAIdeal : Cert.KernelMixAIdeal.Facts) (hReferenceMixAIdeal : Cert.ReferenceMixAIdeal.Facts) (hKernelMixB : Cert.KernelMixB.Facts) (hKernelMixBIdeal : Cert.KernelMixBIdeal.Facts) (hReferenceMixBIdeal : Cert.ReferenceMixBIdeal.Facts) (hKernelBackA : Cert.KernelBackA.Facts) (hKernelBackAIdeal : Cert.KernelBackAIdeal.Facts) (hReferenceBackAIdeal : Cert.ReferenceBackAIdeal.Facts) (hKernelProjA : Cert.KernelProjA.Facts) (hKernelProjAIdeal : Cert.KernelProjAIdeal.Facts) (hReferenceProjAIdeal : Cert.ReferenceProjAIdeal.Facts) (hKernelProjB : Cert.KernelProjB.Facts) (hKernelProjBIdeal : Cert.KernelProjBIdeal.Facts) (hReferenceProjBIdeal : Cert.ReferenceProjBIdeal.Facts) (hKernelOptSmall : Cert.KernelOptSmall.Facts) (hKernelOptSmallIdeal : Cert.KernelOptSmallIdeal.Facts) (hReferenceOptSmallIdeal : Cert.ReferenceOptSmallIdeal.Facts) (hKernelOptUpB : Cert.KernelOptUpB.Facts) (hKernelOptUpBIdeal : Cert.KernelOptUpBIdeal.Facts) (hReferenceOptUpBIdeal : Cert.ReferenceOptUpBIdeal.Facts) (hKernelOptUpA : Cert.KernelOptUpA.Facts) (hKernelOptUpAIdeal : Cert.KernelOptUpAIdeal.Facts) (hReferenceOptUpAIdeal : Cert.ReferenceOptUpAIdeal.Facts) (hKernelOptDownB : Cert.KernelOptDownB.Facts) (hKernelOptDownBIdeal : Cert.KernelOptDownBIdeal.Facts) (hReferenceOptDownBIdeal : Cert.ReferenceOptDownBIdeal.Facts) (hKernelOptDownA : Cert.KernelOptDownA.Facts) (hKernelOptDownAIdeal : Cert.KernelOptDownAIdeal.Facts) (hReferenceOptDownAIdeal : Cert.ReferenceOptDownAIdeal.Facts) (hKernelOptInB : Cert.KernelOptInB.Facts) (hKernelOptInBIdeal : Cert.KernelOptInBIdeal.Facts) (hReferenceOptInBIdeal : Cert.ReferenceOptInBIdeal.Facts) (hKernelOptInA : Cert.KernelOptInA.Facts) (hKernelOptInAIdeal : Cert.KernelOptInAIdeal.Facts) (hReferenceOptInAIdeal : Cert.ReferenceOptInAIdeal.Facts) (hKernelOptGluB : Cert.KernelOptGluB.Facts) (hKernelOptGluBIdeal : Cert.KernelOptGluBIdeal.Facts) (hReferenceOptGluBIdeal : Cert.ReferenceOptGluBIdeal.Facts) (hKernelOptGluA : Cert.KernelOptGluA.Facts) (hKernelOptGluAIdeal : Cert.KernelOptGluAIdeal.Facts) (hReferenceOptGluAIdeal : Cert.ReferenceOptGluAIdeal.Facts) (hKernelOptBrB : Cert.KernelOptBrB.Facts) (hKernelOptBrBIdeal : Cert.KernelOptBrBIdeal.Facts) (hReferenceOptBrBIdeal : Cert.ReferenceOptBrBIdeal.Facts) (hKernelOptBrA : Cert.KernelOptBrA.Facts) (hKernelOptBrAIdeal : Cert.KernelOptBrAIdeal.Facts) (hReferenceOptBrAIdeal : Cert.ReferenceOptBrAIdeal.Facts) (hKernelOptAttnB : Cert.KernelOptAttnB.Facts) (hKernelOptAttnBIdeal : Cert.KernelOptAttnBIdeal.Facts) (hReferenceOptAttnBIdeal : Cert.ReferenceOptAttnBIdeal.Facts) (hKernelOptAttnA : Cert.KernelOptAttnA.Facts) (hKernelOptAttnAIdeal : Cert.KernelOptAttnAIdeal.Facts) (hReferenceOptAttnAIdeal : Cert.ReferenceOptAttnAIdeal.Facts) (hKernelOptConvB : Cert.KernelOptConvB.Facts) (hKernelOptConvBIdeal : Cert.KernelOptConvBIdeal.Facts) (hReferenceOptConvBIdeal : Cert.ReferenceOptConvBIdeal.Facts) (hKernelOptConvA : Cert.KernelOptConvA.Facts) (hKernelOptConvAIdeal : Cert.KernelOptConvAIdeal.Facts) (hReferenceOptConvAIdeal : Cert.ReferenceOptConvAIdeal.Facts) (hKernelOptOutB : Cert.KernelOptOutB.Facts) (hKernelOptOutBIdeal : Cert.KernelOptOutBIdeal.Facts) (hReferenceOptOutBIdeal : Cert.ReferenceOptOutBIdeal.Facts) (hKernelOptOutA : Cert.KernelOptOutA.Facts) (hKernelOptOutAIdeal : Cert.KernelOptOutAIdeal.Facts) (hReferenceOptOutAIdeal : Cert.ReferenceOptOutAIdeal.Facts) (hKernelLoss : Cert.KernelLoss.Facts) (hKernelLossIdeal : Cert.KernelLossIdeal.Facts) (hReferenceLossIdeal : Cert.ReferenceLossIdeal.Facts) (hKernelWSc : Cert.KernelWSc.Facts) (hKernelWScIdeal : Cert.KernelWScIdeal.Facts) (hReferenceWScIdeal : Cert.ReferenceWScIdeal.Facts) (hKernelWSb : Cert.KernelWSb.Facts) (hKernelWSbIdeal : Cert.KernelWSbIdeal.Facts) (hReferenceWSbIdeal : Cert.ReferenceWSbIdeal.Facts) (hKernelConvF : Cert.KernelConvF.Facts) (hKernelConvFIdeal : Cert.KernelConvFIdeal.Facts) (hReferenceConvFIdeal : Cert.ReferenceConvFIdeal.Facts),
    quiescent_Kernel (hKernel := hKernel)
    ∧ quiescent_KernelIdeal (hKernelIdeal := hKernelIdeal)
    ∧ quiescent_ReferenceIdeal (hReferenceIdeal := hReferenceIdeal)
    ∧ quiescent_KernelWOut (hKernelWOut := hKernelWOut)
    ∧ quiescent_KernelWOutIdeal (hKernelWOutIdeal := hKernelWOutIdeal)
    ∧ quiescent_ReferenceWOutIdeal (hReferenceWOutIdeal := hReferenceWOutIdeal)
    ∧ quiescent_KernelWIn (hKernelWIn := hKernelWIn)
    ∧ quiescent_KernelWInIdeal (hKernelWInIdeal := hKernelWInIdeal)
    ∧ quiescent_ReferenceWInIdeal (hReferenceWInIdeal := hReferenceWInIdeal)
    ∧ quiescent_KernelWDown (hKernelWDown := hKernelWDown)
    ∧ quiescent_KernelWDownIdeal (hKernelWDownIdeal := hKernelWDownIdeal)
    ∧ quiescent_ReferenceWDownIdeal (hReferenceWDownIdeal := hReferenceWDownIdeal)
    ∧ quiescent_KernelWUpA (hKernelWUpA := hKernelWUpA)
    ∧ quiescent_KernelWUpAIdeal (hKernelWUpAIdeal := hKernelWUpAIdeal)
    ∧ quiescent_ReferenceWUpAIdeal (hReferenceWUpAIdeal := hReferenceWUpAIdeal)
    ∧ quiescent_KernelWUpB (hKernelWUpB := hKernelWUpB)
    ∧ quiescent_KernelWUpBIdeal (hKernelWUpBIdeal := hKernelWUpBIdeal)
    ∧ quiescent_ReferenceWUpBIdeal (hReferenceWUpBIdeal := hReferenceWUpBIdeal)
    ∧ quiescent_KernelWBr (hKernelWBr := hKernelWBr)
    ∧ quiescent_KernelWBrIdeal (hKernelWBrIdeal := hKernelWBrIdeal)
    ∧ quiescent_ReferenceWBrIdeal (hReferenceWBrIdeal := hReferenceWBrIdeal)
    ∧ quiescent_KernelWAttn (hKernelWAttn := hKernelWAttn)
    ∧ quiescent_KernelWAttnIdeal (hKernelWAttnIdeal := hKernelWAttnIdeal)
    ∧ quiescent_ReferenceWAttnIdeal (hReferenceWAttnIdeal := hReferenceWAttnIdeal)
    ∧ quiescent_KernelWGlu (hKernelWGlu := hKernelWGlu)
    ∧ quiescent_KernelWGluIdeal (hKernelWGluIdeal := hKernelWGluIdeal)
    ∧ quiescent_ReferenceWGluIdeal (hReferenceWGluIdeal := hReferenceWGluIdeal)
    ∧ quiescent_KernelFfnA (hKernelFfnA := hKernelFfnA)
    ∧ quiescent_KernelFfnAIdeal (hKernelFfnAIdeal := hKernelFfnAIdeal)
    ∧ quiescent_ReferenceFfnAIdeal (hReferenceFfnAIdeal := hReferenceFfnAIdeal)
    ∧ quiescent_KernelFfnB (hKernelFfnB := hKernelFfnB)
    ∧ quiescent_KernelFfnBIdeal (hKernelFfnBIdeal := hKernelFfnBIdeal)
    ∧ quiescent_ReferenceFfnBIdeal (hReferenceFfnBIdeal := hReferenceFfnBIdeal)
    ∧ quiescent_KernelFfnC (hKernelFfnC := hKernelFfnC)
    ∧ quiescent_KernelFfnCIdeal (hKernelFfnCIdeal := hKernelFfnCIdeal)
    ∧ quiescent_ReferenceFfnCIdeal (hReferenceFfnCIdeal := hReferenceFfnCIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMixA (hKernelMixA := hKernelMixA)
    ∧ quiescent_KernelMixAIdeal (hKernelMixAIdeal := hKernelMixAIdeal)
    ∧ quiescent_ReferenceMixAIdeal (hReferenceMixAIdeal := hReferenceMixAIdeal)
    ∧ quiescent_KernelMixB (hKernelMixB := hKernelMixB)
    ∧ quiescent_KernelMixBIdeal (hKernelMixBIdeal := hKernelMixBIdeal)
    ∧ quiescent_ReferenceMixBIdeal (hReferenceMixBIdeal := hReferenceMixBIdeal)
    ∧ quiescent_KernelBackA (hKernelBackA := hKernelBackA)
    ∧ quiescent_KernelBackAIdeal (hKernelBackAIdeal := hKernelBackAIdeal)
    ∧ quiescent_ReferenceBackAIdeal (hReferenceBackAIdeal := hReferenceBackAIdeal)
    ∧ quiescent_KernelProjA (hKernelProjA := hKernelProjA)
    ∧ quiescent_KernelProjAIdeal (hKernelProjAIdeal := hKernelProjAIdeal)
    ∧ quiescent_ReferenceProjAIdeal (hReferenceProjAIdeal := hReferenceProjAIdeal)
    ∧ quiescent_KernelProjB (hKernelProjB := hKernelProjB)
    ∧ quiescent_KernelProjBIdeal (hKernelProjBIdeal := hKernelProjBIdeal)
    ∧ quiescent_ReferenceProjBIdeal (hReferenceProjBIdeal := hReferenceProjBIdeal)
    ∧ quiescent_KernelOptSmall (hKernelOptSmall := hKernelOptSmall)
    ∧ quiescent_KernelOptSmallIdeal (hKernelOptSmallIdeal := hKernelOptSmallIdeal)
    ∧ quiescent_ReferenceOptSmallIdeal (hReferenceOptSmallIdeal := hReferenceOptSmallIdeal)
    ∧ quiescent_KernelOptUpB (hKernelOptUpB := hKernelOptUpB)
    ∧ quiescent_KernelOptUpBIdeal (hKernelOptUpBIdeal := hKernelOptUpBIdeal)
    ∧ quiescent_ReferenceOptUpBIdeal (hReferenceOptUpBIdeal := hReferenceOptUpBIdeal)
    ∧ quiescent_KernelOptUpA (hKernelOptUpA := hKernelOptUpA)
    ∧ quiescent_KernelOptUpAIdeal (hKernelOptUpAIdeal := hKernelOptUpAIdeal)
    ∧ quiescent_ReferenceOptUpAIdeal (hReferenceOptUpAIdeal := hReferenceOptUpAIdeal)
    ∧ quiescent_KernelOptDownB (hKernelOptDownB := hKernelOptDownB)
    ∧ quiescent_KernelOptDownBIdeal (hKernelOptDownBIdeal := hKernelOptDownBIdeal)
    ∧ quiescent_ReferenceOptDownBIdeal (hReferenceOptDownBIdeal := hReferenceOptDownBIdeal)
    ∧ quiescent_KernelOptDownA (hKernelOptDownA := hKernelOptDownA)
    ∧ quiescent_KernelOptDownAIdeal (hKernelOptDownAIdeal := hKernelOptDownAIdeal)
    ∧ quiescent_ReferenceOptDownAIdeal (hReferenceOptDownAIdeal := hReferenceOptDownAIdeal)
    ∧ quiescent_KernelOptInB (hKernelOptInB := hKernelOptInB)
    ∧ quiescent_KernelOptInBIdeal (hKernelOptInBIdeal := hKernelOptInBIdeal)
    ∧ quiescent_ReferenceOptInBIdeal (hReferenceOptInBIdeal := hReferenceOptInBIdeal)
    ∧ quiescent_KernelOptInA (hKernelOptInA := hKernelOptInA)
    ∧ quiescent_KernelOptInAIdeal (hKernelOptInAIdeal := hKernelOptInAIdeal)
    ∧ quiescent_ReferenceOptInAIdeal (hReferenceOptInAIdeal := hReferenceOptInAIdeal)
    ∧ quiescent_KernelOptGluB (hKernelOptGluB := hKernelOptGluB)
    ∧ quiescent_KernelOptGluBIdeal (hKernelOptGluBIdeal := hKernelOptGluBIdeal)
    ∧ quiescent_ReferenceOptGluBIdeal (hReferenceOptGluBIdeal := hReferenceOptGluBIdeal)
    ∧ quiescent_KernelOptGluA (hKernelOptGluA := hKernelOptGluA)
    ∧ quiescent_KernelOptGluAIdeal (hKernelOptGluAIdeal := hKernelOptGluAIdeal)
    ∧ quiescent_ReferenceOptGluAIdeal (hReferenceOptGluAIdeal := hReferenceOptGluAIdeal)
    ∧ quiescent_KernelOptBrB (hKernelOptBrB := hKernelOptBrB)
    ∧ quiescent_KernelOptBrBIdeal (hKernelOptBrBIdeal := hKernelOptBrBIdeal)
    ∧ quiescent_ReferenceOptBrBIdeal (hReferenceOptBrBIdeal := hReferenceOptBrBIdeal)
    ∧ quiescent_KernelOptBrA (hKernelOptBrA := hKernelOptBrA)
    ∧ quiescent_KernelOptBrAIdeal (hKernelOptBrAIdeal := hKernelOptBrAIdeal)
    ∧ quiescent_ReferenceOptBrAIdeal (hReferenceOptBrAIdeal := hReferenceOptBrAIdeal)
    ∧ quiescent_KernelOptAttnB (hKernelOptAttnB := hKernelOptAttnB)
    ∧ quiescent_KernelOptAttnBIdeal (hKernelOptAttnBIdeal := hKernelOptAttnBIdeal)
    ∧ quiescent_ReferenceOptAttnBIdeal (hReferenceOptAttnBIdeal := hReferenceOptAttnBIdeal)
    ∧ quiescent_KernelOptAttnA (hKernelOptAttnA := hKernelOptAttnA)
    ∧ quiescent_KernelOptAttnAIdeal (hKernelOptAttnAIdeal := hKernelOptAttnAIdeal)
    ∧ quiescent_ReferenceOptAttnAIdeal (hReferenceOptAttnAIdeal := hReferenceOptAttnAIdeal)
    ∧ quiescent_KernelOptConvB (hKernelOptConvB := hKernelOptConvB)
    ∧ quiescent_KernelOptConvBIdeal (hKernelOptConvBIdeal := hKernelOptConvBIdeal)
    ∧ quiescent_ReferenceOptConvBIdeal (hReferenceOptConvBIdeal := hReferenceOptConvBIdeal)
    ∧ quiescent_KernelOptConvA (hKernelOptConvA := hKernelOptConvA)
    ∧ quiescent_KernelOptConvAIdeal (hKernelOptConvAIdeal := hKernelOptConvAIdeal)
    ∧ quiescent_ReferenceOptConvAIdeal (hReferenceOptConvAIdeal := hReferenceOptConvAIdeal)
    ∧ quiescent_KernelOptOutB (hKernelOptOutB := hKernelOptOutB)
    ∧ quiescent_KernelOptOutBIdeal (hKernelOptOutBIdeal := hKernelOptOutBIdeal)
    ∧ quiescent_ReferenceOptOutBIdeal (hReferenceOptOutBIdeal := hReferenceOptOutBIdeal)
    ∧ quiescent_KernelOptOutA (hKernelOptOutA := hKernelOptOutA)
    ∧ quiescent_KernelOptOutAIdeal (hKernelOptOutAIdeal := hKernelOptOutAIdeal)
    ∧ quiescent_ReferenceOptOutAIdeal (hReferenceOptOutAIdeal := hReferenceOptOutAIdeal)
    ∧ quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelWSc (hKernelWSc := hKernelWSc)
    ∧ quiescent_KernelWScIdeal (hKernelWScIdeal := hKernelWScIdeal)
    ∧ quiescent_ReferenceWScIdeal (hReferenceWScIdeal := hReferenceWScIdeal)
    ∧ quiescent_KernelWSb (hKernelWSb := hKernelWSb)
    ∧ quiescent_KernelWSbIdeal (hKernelWSbIdeal := hKernelWSbIdeal)
    ∧ quiescent_ReferenceWSbIdeal (hReferenceWSbIdeal := hReferenceWSbIdeal)
    ∧ quiescent_KernelConvF (hKernelConvF := hKernelConvF)
    ∧ quiescent_KernelConvFIdeal (hKernelConvFIdeal := hKernelConvFIdeal)
    ∧ quiescent_ReferenceConvFIdeal (hReferenceConvFIdeal := hReferenceConvFIdeal)
    ∧ preserves_Kernel_KernelIdeal
    ∧ algebraic_KernelIdeal_ReferenceIdeal (hKernelIdeal := hKernelIdeal) (hReferenceIdeal := hReferenceIdeal)
    ∧ preserves_KernelWOut_KernelWOutIdeal
    ∧ algebraic_KernelWOutIdeal_ReferenceWOutIdeal (hKernelWOutIdeal := hKernelWOutIdeal) (hReferenceWOutIdeal := hReferenceWOutIdeal)
    ∧ preserves_KernelWIn_KernelWInIdeal
    ∧ algebraic_KernelWInIdeal_ReferenceWInIdeal (hKernelWInIdeal := hKernelWInIdeal) (hReferenceWInIdeal := hReferenceWInIdeal)
    ∧ preserves_KernelWDown_KernelWDownIdeal
    ∧ algebraic_KernelWDownIdeal_ReferenceWDownIdeal (hKernelWDownIdeal := hKernelWDownIdeal) (hReferenceWDownIdeal := hReferenceWDownIdeal)
    ∧ preserves_KernelWUpA_KernelWUpAIdeal
    ∧ algebraic_KernelWUpAIdeal_ReferenceWUpAIdeal (hKernelWUpAIdeal := hKernelWUpAIdeal) (hReferenceWUpAIdeal := hReferenceWUpAIdeal)
    ∧ preserves_KernelWUpB_KernelWUpBIdeal
    ∧ algebraic_KernelWUpBIdeal_ReferenceWUpBIdeal (hKernelWUpBIdeal := hKernelWUpBIdeal) (hReferenceWUpBIdeal := hReferenceWUpBIdeal)
    ∧ preserves_KernelWBr_KernelWBrIdeal
    ∧ algebraic_KernelWBrIdeal_ReferenceWBrIdeal (hKernelWBrIdeal := hKernelWBrIdeal) (hReferenceWBrIdeal := hReferenceWBrIdeal)
    ∧ preserves_KernelWAttn_KernelWAttnIdeal
    ∧ algebraic_KernelWAttnIdeal_ReferenceWAttnIdeal (hKernelWAttnIdeal := hKernelWAttnIdeal) (hReferenceWAttnIdeal := hReferenceWAttnIdeal)
    ∧ preserves_KernelWGlu_KernelWGluIdeal
    ∧ algebraic_KernelWGluIdeal_ReferenceWGluIdeal (hKernelWGluIdeal := hKernelWGluIdeal) (hReferenceWGluIdeal := hReferenceWGluIdeal)
    ∧ preserves_KernelFfnA_KernelFfnAIdeal
    ∧ algebraic_KernelFfnAIdeal_ReferenceFfnAIdeal (hKernelFfnAIdeal := hKernelFfnAIdeal) (hReferenceFfnAIdeal := hReferenceFfnAIdeal)
    ∧ preserves_KernelFfnB_KernelFfnBIdeal
    ∧ algebraic_KernelFfnBIdeal_ReferenceFfnBIdeal (hKernelFfnBIdeal := hKernelFfnBIdeal) (hReferenceFfnBIdeal := hReferenceFfnBIdeal)
    ∧ preserves_KernelFfnC_KernelFfnCIdeal
    ∧ algebraic_KernelFfnCIdeal_ReferenceFfnCIdeal (hKernelFfnCIdeal := hKernelFfnCIdeal) (hReferenceFfnCIdeal := hReferenceFfnCIdeal)
    ∧ preserves_KernelProj_KernelProjIdeal
    ∧ algebraic_KernelProjIdeal_ReferenceProjIdeal (hKernelProjIdeal := hKernelProjIdeal) (hReferenceProjIdeal := hReferenceProjIdeal)
    ∧ preserves_KernelMixA_KernelMixAIdeal
    ∧ algebraic_KernelMixAIdeal_ReferenceMixAIdeal (hKernelMixAIdeal := hKernelMixAIdeal) (hReferenceMixAIdeal := hReferenceMixAIdeal)
    ∧ preserves_KernelMixB_KernelMixBIdeal
    ∧ algebraic_KernelMixBIdeal_ReferenceMixBIdeal (hKernelMixBIdeal := hKernelMixBIdeal) (hReferenceMixBIdeal := hReferenceMixBIdeal)
    ∧ preserves_KernelBackA_KernelBackAIdeal
    ∧ algebraic_KernelBackAIdeal_ReferenceBackAIdeal (hKernelBackAIdeal := hKernelBackAIdeal) (hReferenceBackAIdeal := hReferenceBackAIdeal)
    ∧ preserves_KernelProjA_KernelProjAIdeal
    ∧ algebraic_KernelProjAIdeal_ReferenceProjAIdeal (hKernelProjAIdeal := hKernelProjAIdeal) (hReferenceProjAIdeal := hReferenceProjAIdeal)
    ∧ preserves_KernelProjB_KernelProjBIdeal
    ∧ algebraic_KernelProjBIdeal_ReferenceProjBIdeal (hKernelProjBIdeal := hKernelProjBIdeal) (hReferenceProjBIdeal := hReferenceProjBIdeal)
    ∧ preserves_KernelOptSmall_KernelOptSmallIdeal
    ∧ algebraic_KernelOptSmallIdeal_ReferenceOptSmallIdeal (hKernelOptSmallIdeal := hKernelOptSmallIdeal) (hReferenceOptSmallIdeal := hReferenceOptSmallIdeal)
    ∧ preserves_KernelOptUpB_KernelOptUpBIdeal
    ∧ algebraic_KernelOptUpBIdeal_ReferenceOptUpBIdeal (hKernelOptUpBIdeal := hKernelOptUpBIdeal) (hReferenceOptUpBIdeal := hReferenceOptUpBIdeal)
    ∧ preserves_KernelOptUpA_KernelOptUpAIdeal
    ∧ algebraic_KernelOptUpAIdeal_ReferenceOptUpAIdeal (hKernelOptUpAIdeal := hKernelOptUpAIdeal) (hReferenceOptUpAIdeal := hReferenceOptUpAIdeal)
    ∧ preserves_KernelOptDownB_KernelOptDownBIdeal
    ∧ algebraic_KernelOptDownBIdeal_ReferenceOptDownBIdeal (hKernelOptDownBIdeal := hKernelOptDownBIdeal) (hReferenceOptDownBIdeal := hReferenceOptDownBIdeal)
    ∧ preserves_KernelOptDownA_KernelOptDownAIdeal
    ∧ algebraic_KernelOptDownAIdeal_ReferenceOptDownAIdeal (hKernelOptDownAIdeal := hKernelOptDownAIdeal) (hReferenceOptDownAIdeal := hReferenceOptDownAIdeal)
    ∧ preserves_KernelOptInB_KernelOptInBIdeal
    ∧ algebraic_KernelOptInBIdeal_ReferenceOptInBIdeal (hKernelOptInBIdeal := hKernelOptInBIdeal) (hReferenceOptInBIdeal := hReferenceOptInBIdeal)
    ∧ preserves_KernelOptInA_KernelOptInAIdeal
    ∧ algebraic_KernelOptInAIdeal_ReferenceOptInAIdeal (hKernelOptInAIdeal := hKernelOptInAIdeal) (hReferenceOptInAIdeal := hReferenceOptInAIdeal)
    ∧ preserves_KernelOptGluB_KernelOptGluBIdeal
    ∧ algebraic_KernelOptGluBIdeal_ReferenceOptGluBIdeal (hKernelOptGluBIdeal := hKernelOptGluBIdeal) (hReferenceOptGluBIdeal := hReferenceOptGluBIdeal)
    ∧ preserves_KernelOptGluA_KernelOptGluAIdeal
    ∧ algebraic_KernelOptGluAIdeal_ReferenceOptGluAIdeal (hKernelOptGluAIdeal := hKernelOptGluAIdeal) (hReferenceOptGluAIdeal := hReferenceOptGluAIdeal)
    ∧ preserves_KernelOptBrB_KernelOptBrBIdeal
    ∧ algebraic_KernelOptBrBIdeal_ReferenceOptBrBIdeal (hKernelOptBrBIdeal := hKernelOptBrBIdeal) (hReferenceOptBrBIdeal := hReferenceOptBrBIdeal)
    ∧ preserves_KernelOptBrA_KernelOptBrAIdeal
    ∧ algebraic_KernelOptBrAIdeal_ReferenceOptBrAIdeal (hKernelOptBrAIdeal := hKernelOptBrAIdeal) (hReferenceOptBrAIdeal := hReferenceOptBrAIdeal)
    ∧ preserves_KernelOptAttnB_KernelOptAttnBIdeal
    ∧ algebraic_KernelOptAttnBIdeal_ReferenceOptAttnBIdeal (hKernelOptAttnBIdeal := hKernelOptAttnBIdeal) (hReferenceOptAttnBIdeal := hReferenceOptAttnBIdeal)
    ∧ preserves_KernelOptAttnA_KernelOptAttnAIdeal
    ∧ algebraic_KernelOptAttnAIdeal_ReferenceOptAttnAIdeal (hKernelOptAttnAIdeal := hKernelOptAttnAIdeal) (hReferenceOptAttnAIdeal := hReferenceOptAttnAIdeal)
    ∧ preserves_KernelOptConvB_KernelOptConvBIdeal
    ∧ algebraic_KernelOptConvBIdeal_ReferenceOptConvBIdeal (hKernelOptConvBIdeal := hKernelOptConvBIdeal) (hReferenceOptConvBIdeal := hReferenceOptConvBIdeal)
    ∧ preserves_KernelOptConvA_KernelOptConvAIdeal
    ∧ algebraic_KernelOptConvAIdeal_ReferenceOptConvAIdeal (hKernelOptConvAIdeal := hKernelOptConvAIdeal) (hReferenceOptConvAIdeal := hReferenceOptConvAIdeal)
    ∧ preserves_KernelOptOutB_KernelOptOutBIdeal
    ∧ algebraic_KernelOptOutBIdeal_ReferenceOptOutBIdeal (hKernelOptOutBIdeal := hKernelOptOutBIdeal) (hReferenceOptOutBIdeal := hReferenceOptOutBIdeal)
    ∧ preserves_KernelOptOutA_KernelOptOutAIdeal
    ∧ algebraic_KernelOptOutAIdeal_ReferenceOptOutAIdeal (hKernelOptOutAIdeal := hKernelOptOutAIdeal) (hReferenceOptOutAIdeal := hReferenceOptOutAIdeal)
    ∧ preserves_KernelLoss_KernelLossIdeal
    ∧ algebraic_KernelLossIdeal_ReferenceLossIdeal (hKernelLossIdeal := hKernelLossIdeal) (hReferenceLossIdeal := hReferenceLossIdeal)
    ∧ preserves_KernelWSc_KernelWScIdeal
    ∧ algebraic_KernelWScIdeal_ReferenceWScIdeal (hKernelWScIdeal := hKernelWScIdeal) (hReferenceWScIdeal := hReferenceWScIdeal)
    ∧ preserves_KernelWSb_KernelWSbIdeal
    ∧ algebraic_KernelWSbIdeal_ReferenceWSbIdeal (hKernelWSbIdeal := hKernelWSbIdeal) (hReferenceWSbIdeal := hReferenceWSbIdeal)
    ∧ preserves_KernelConvF_KernelConvFIdeal
    ∧ algebraic_KernelConvFIdeal_ReferenceConvFIdeal (hKernelConvFIdeal := hKernelConvFIdeal) (hReferenceConvFIdeal := hReferenceConvFIdeal)
-- ==== Kernel.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S8192x3072 : Shape := ⟨2, ![8192, 3072]⟩
abbrev S256x1024 : Shape := ⟨2, ![256, 1024]⟩
abbrev S256x256 : Shape := ⟨2, ![256, 256]⟩
abbrev S256x512 : Shape := ⟨2, ![256, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S256x3072 : Shape := ⟨2, ![256, 3072]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S8192x3072, .bf16⟩
  | .hbm, ⟨11, _⟩ => ⟨S8192x256, .f32⟩
  | .hbm, ⟨12, _⟩ => ⟨S8192x512, .f32⟩
  | .hbm, ⟨13, _⟩ => ⟨S8192x256, .f32⟩
  | .hbm, ⟨14, _⟩ => ⟨S1x3072, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x3072, .f32⟩
  | .local _ .vmem, ⟨9, _⟩ => ⟨S256x256, .f32⟩
  | .local _ .vmem, ⟨10, _⟩ => ⟨S256x256, .f32⟩
  | .local _ .vmem, ⟨11, _⟩ => ⟨S256x512, .f32⟩
  | .local _ .vmem, ⟨12, _⟩ => ⟨S256x512, .f32⟩
  | .local _ .vmem, ⟨13, _⟩ => ⟨S256x256, .f32⟩
  | .local _ .vmem, ⟨14, _⟩ => ⟨S256x256, .f32⟩
  | .local _ .vmem, ⟨15, _⟩ => ⟨S1x256x1024, .bf16⟩
  | .local _ .vmem, ⟨16, _⟩ => ⟨S1x512x1024, .bf16⟩
  | .local _ .vmem, ⟨17, _⟩ => ⟨S1x256x1024, .bf16⟩
  | .local _ .vmem, ⟨18, _⟩ => ⟨S1x1024x1024, .bf16⟩
  | .local _ .vmem, ⟨19, _⟩ => ⟨S256x3072, .bf16⟩
  | .local _ .vmem, ⟨20, _⟩ => ⟨S256x3072, .bf16⟩
  | .local _ .vmem, ⟨21, _⟩ => ⟨S256x256, .f32⟩
  | .local _ .vmem, ⟨22, _⟩ => ⟨S256x256, .f32⟩
  | .local _ .vmem, ⟨23, _⟩ => ⟨S256x512, .f32⟩
  | .local _ .vmem, ⟨24, _⟩ => ⟨S256x512, .f32⟩
  | .local _ .vmem, ⟨25, _⟩ => ⟨S256x256, .f32⟩
  | .local _ .vmem, ⟨26, _⟩ => ⟨S256x256, .f32⟩
  | .local _ .vmem, ⟨27, _⟩ => ⟨S1x3072, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v72 : BitVec 32 := Scalar.extui v62
  let c0_i32_47 : BitVec 32 := 0#32
  let v73 : BitVec 1 := Scalar.cmpi .ne v72 c0_i32_47
  v73

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v74 : BitVec 1 := Scalar.xori v62 v_true
  let v75 : BitVec 32 := Scalar.extui v74
  let c0_i32_48 : BitVec 32 := 0#32
  let v76 : BitVec 1 := Scalar.cmpi .ne v75 c0_i32_48
  v76

def k0_cond3 (i : grid0.Coords) : BitVec 1 :=
  let arg0 : BitVec 32 := BitVec.ofNat 32 (i 0).val
  let c0_i32 : BitVec 32 := 0#32
  let v62 : BitVec 1 := Scalar.cmpi .eq arg0 c0_i32
  let v91 : BitVec 32 := Scalar.extui v62
  let c0_i32_57 : BitVec 32 := 0#32
  let v92 : BitVec 1 := Scalar.cmpi .ne v91 c0_i32_57
  v92

def k0_cond4 (i : grid0.Coords) : BitVec 1 :=
  let arg0 : BitVec 32 := BitVec.ofNat 32 (i 0).val
  let c0_i32 : BitVec 32 := 0#32
  let v62 : BitVec 1 := Scalar.cmpi .eq arg0 c0_i32
  let true_58 : BitVec 1 := 1#1
  let v93 : BitVec 1 := Scalar.xori v62 true_58
  let v94 : BitVec 32 := Scalar.extui v93
  let c0_i32_59 : BitVec 32 := 0#32
  let v95 : BitVec 1 := Scalar.cmpi .ne v94 c0_i32_59
  v95

def k0_cond5 (i : grid0.Coords) : BitVec 1 :=
  let arg0 : BitVec 32 := BitVec.ofNat 32 (i 0).val
  let c0_i32 : BitVec 32 := 0#32
  let v62 : BitVec 1 := Scalar.cmpi .eq arg0 c0_i32
  let v110 : BitVec 32 := Scalar.extui v62
  let c0_i32_68 : BitVec 32 := 0#32
  let v111 : BitVec 1 := Scalar.cmpi .ne v110 c0_i32_68
  v111

def k0_cond6 (i : grid0.Coords) : BitVec 1 :=
  let arg0 : BitVec 32 := BitVec.ofNat 32 (i 0).val
  let c0_i32 : BitVec 32 := 0#32
  let v62 : BitVec 1 := Scalar.cmpi .eq arg0 c0_i32
  let true_69 : BitVec 1 := 1#1
  let v112 : BitVec 1 := Scalar.xori v62 true_69
  let v113 : BitVec 32 := Scalar.extui v112
  let c0_i32_70 : BitVec 32 := 0#32
  let v114 : BitVec 1 := Scalar.cmpi .ne v113 c0_i32_70
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceIdeal.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x3072 : Shape := ⟨2, ![8192, 3072]⟩
abbrev S_ : Shape := ⟨0, ![]⟩
abbrev S3072 : Shape := ⟨1, ![3072]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S1x256x1024, .bf16⟩
  | .hbm, ⟨11, _⟩ => ⟨S256x1024, .bf16⟩
  | .hbm, ⟨12, _⟩ => ⟨S256x1024, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S1x256x1024, .bf16⟩
  | .hbm, ⟨17, _⟩ => ⟨S256x1024, .bf16⟩
  | .hbm, ⟨18, _⟩ => ⟨S256x1024, .f32⟩
  | .hbm, ⟨19, _⟩ => ⟨S1x1024x1024, .bf16⟩
  | .hbm, ⟨20, _⟩ => ⟨S1024x1024, .bf16⟩
  | .hbm, ⟨21, _⟩ => ⟨S1024x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x3072, .f32⟩
  | .hbm, ⟨57, _⟩ => ⟨S8192x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S8192x3072, .bf16⟩
  | .hbm, ⟨62, _⟩ => ⟨S8192x256, .f32⟩
  | .hbm, ⟨63, _⟩ => ⟨S8192x512, .f32⟩
  | .hbm, ⟨64, _⟩ => ⟨S8192x256, .f32⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== KernelWOut.lean ====
abbrev S8192x1024 : Shape := ⟨2, ![8192, 1024]⟩
abbrev S1x8192x1024 : Shape := ⟨3, ![1, 8192, 1024]⟩
abbrev S1x8x128x1024 : Shape := ⟨4, ![1, 8, 128, 1024]⟩
abbrev S1x1024x1024 : Shape := ⟨3, ![1, 1024, 1024]⟩
abbrev S1024x1024 : Shape := ⟨2, ![1024, 1024]⟩
abbrev S128x1024 : Shape := ⟨2, ![128, 1024]⟩
abbrev S1x1x128x1024 : Shape := ⟨4, ![1, 1, 128, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1x8192x1024, .bf16⟩
  | .hbm, ⟨3, _⟩ => ⟨S1x8192x1024, .bf16⟩
  | .hbm, ⟨4, _⟩ => ⟨S1x8x128x1024, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x8x128x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c8_i32 : BitVec 32 := 8#32
  let v18 : BitVec 32 := Scalar.divsi v17 c8_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c8_i32 c0_i32_8
  let v25 : BitVec 32 := Scalar.extui v24
  let c0_i32_9 : BitVec 32 := 0#32
  let v26 : BitVec 1 := Scalar.cmpi .slt c8_i32 c0_i32_9
  let v27 : BitVec 32 := Scalar.extui v26
  let v28 : BitVec 32 := Scalar.subi v25 v27
  let v29 : BitVec 1 := Scalar.cmpi .ne v23 v28
  let v30 : BitVec 32 := Scalar.remsi v17 c8_i32
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg0 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  ![c0_i32_18.toNat, v34.toNat, v44.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWOutIdeal.lean ====
abbrev S8192x1024 : Shape := ⟨2, ![8192, 1024]⟩
abbrev S_ : Shape := ⟨0, ![]⟩
abbrev S1024x1024 : Shape := ⟨2, ![1024, 1024]⟩
abbrev S1x8x128x1024 : Shape := ⟨4, ![1, 8, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1x8x128x1024, .f32⟩
  | .hbm, ⟨10, _⟩ => ⟨S1x8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWIn.lean ====
abbrev S8192x1024 : Shape := ⟨2, ![8192, 1024]⟩
abbrev S8192x5376 : Shape := ⟨2, ![8192, 5376]⟩
abbrev S1x8192x1024 : Shape := ⟨3, ![1, 8192, 1024]⟩
abbrev S1x8192x5376 : Shape := ⟨3, ![1, 8192, 5376]⟩
abbrev S1x1x1024x5376 : Shape := ⟨4, ![1, 1, 1024, 5376]⟩
abbrev S1x1024x1024 : Shape := ⟨3, ![1, 1024, 1024]⟩
abbrev S1x1024x896 : Shape := ⟨3, ![1, 1024, 896]⟩
abbrev S1x1x1024x896 : Shape := ⟨4, ![1, 1, 1024, 896]⟩
abbrev S1024x896 : Shape := ⟨2, ![1024, 896]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S1x8192x1024, .bf16⟩
  | .hbm, ⟨3, _⟩ => ⟨S1x8192x5376, .bf16⟩
  | .hbm, ⟨4, _⟩ => ⟨S1x1x1024x5376, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1x1024x896, .bf16⟩
  | .local _ .vmem, ⟨5, _⟩ => ⟨S1x1x1024x896, .bf16⟩
  | .local _ .vmem, ⟨6, _⟩ => ⟨S1024x896, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32_4 : BitVec 32 := 6#32
  let c0_i32_5 : BitVec 32 := 0#32
  let v17 : BitVec 1 := Scalar.cmpi .eq c6_i32_4 c0_i32_5
  let c1_i32_6 : BitVec 32 := 1#32
  let v18 : BitVec 32 := Scalar.select v17 c1_i32_6 c6_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.divsi arg1 c6_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c6_i32 c0_i32_1
  let v7 : BitVec 32 := Scalar.extui v6
  let c0_i32_2 : BitVec 32 := 0#32
  let v8 : BitVec 1 := Scalar.cmpi .slt c6_i32 c0_i32_2
  let v9 : BitVec 32 := Scalar.extui v8
  let v10 : BitVec 32 := Scalar.subi v7 v9
  let v11 : BitVec 1 := Scalar.cmpi .ne v5 v10
  let v12 : BitVec 32 := Scalar.remsi arg1 c6_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c6_i32_12 : BitVec 32 := 6#32
  let c0_i32_13 : BitVec 32 := 0#32
  let v35 : BitVec 1 := Scalar.cmpi .eq c6_i32_12 c0_i32_13
  let c1_i32_14 : BitVec 32 := 1#32
  let v36 : BitVec 32 := Scalar.select v35 c1_i32_14 c6_i32_12
  let v37 : BitVec 32 := Scalar.remsi arg1 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  ![c0_i32_18.toNat, v34.toNat, arg0.toNat, v44.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWInIdeal.lean ====
abbrev S8192x1024 : Shape := ⟨2, ![8192, 1024]⟩
abbrev S8192x5376 : Shape := ⟨2, ![8192, 5376]⟩
abbrev S_ : Shape := ⟨0, ![]⟩
abbrev S1024x5376 : Shape := ⟨2, ![1024, 5376]⟩
abbrev S5376x1024 : Shape := ⟨2, ![5376, 1024]⟩
abbrev S1x1x1024x5376 : Shape := ⟨4, ![1, 1, 1024, 5376]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5376, .bf16⟩
  | .hbm, ⟨2, _⟩ => ⟨S_, .f32⟩
  | .hbm, ⟨3, _⟩ => ⟨S1024x5376, .f32⟩
  | .hbm, ⟨4, _⟩ => ⟨S8192x1024, .f32⟩
  | .hbm, ⟨5, _⟩ => ⟨S8192x5376, .f32⟩
  | .hbm, ⟨6, _⟩ => ⟨S8192x5376, .f32⟩
  | .hbm, ⟨7, _⟩ => ⟨S5376x1024, .f32⟩
  | .hbm, ⟨8, _⟩ => ⟨S1024x5376, .f32⟩
  | .hbm, ⟨9, _⟩ => ⟨S1x1x1024x5376, .f32⟩
  | .hbm, ⟨10, _⟩ => ⟨S1x1x1024x5376, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWDown.lean ====
abbrev S4x8192x704 : Shape := ⟨3, ![4, 8192, 704]⟩
abbrev S8192x1024 : Shape := ⟨2, ![8192, 1024]⟩
abbrev S1x8192x1024 : Shape := ⟨3, ![1, 8192, 1024]⟩
abbrev S1x4x704x1024 : Shape := ⟨4, ![1, 4, 704, 1024]⟩
abbrev S1x1024x704 : Shape := ⟨3, ![1, 1024, 704]⟩
abbrev S1x1024x1024 : Shape := ⟨3, ![1, 1024, 1024]⟩
abbrev S1x1x704x1024 : Shape := ⟨4, ![1, 1, 704, 1024]⟩
abbrev S704x1024 : Shape := ⟨2, ![704, 1024]⟩
abbrev S1024x704 : Shape := ⟨2, ![1024, 704]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S1x8192x1024, .bf16⟩
  | .hbm, ⟨3, _⟩ => ⟨S1x4x704x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1x704x1024, .bf16⟩
  | .local _ .vmem, ⟨5, _⟩ => ⟨S1x1x704x1024, .bf16⟩
  | .local _ .vmem, ⟨6, _⟩ => ⟨S704x1024, .f32⟩
  | _, _ => ⟨S4x8192x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let v18 : BitVec 32 := Scalar.divsi v17 c1_i32_6
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v17 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg0 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c0_i32_19 : BitVec 32 := 0#32
  let c0_i32_20 : BitVec 32 := 0#32
  ![c0_i32_19.toNat, v34.toNat, v44.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWDownIdeal.lean ====
abbrev S4x8192x704 : Shape := ⟨3, ![4, 8192, 704]⟩
abbrev S8192x1024 : Shape := ⟨2, ![8192, 1024]⟩
abbrev S_ : Shape := ⟨0, ![]⟩
abbrev S4x704x1024 : Shape := ⟨3, ![4, 704, 1024]⟩
abbrev S1024x4x704 : Shape := ⟨3, ![1024, 4, 704]⟩
abbrev S1x4x704x1024 : Shape := ⟨4, ![1, 4, 704, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x704, .bf16⟩
  | .hbm, ⟨1, _⟩ => ⟨S8192x1024, .bf16⟩
  | .hbm, ⟨2, _⟩ => ⟨S_, .f32⟩
  | .hbm, ⟨3, _⟩ => ⟨S4x704x1024, .f32⟩
  | .hbm, ⟨4, _⟩ => ⟨S4x8192x704, .f32⟩
  | .hbm, ⟨5, _⟩ => ⟨S8192x1024, .f32⟩
  | .hbm, ⟨6, _⟩ => ⟨S8192x1024, .f32⟩
  | .hbm, ⟨7, _⟩ => ⟨S1024x4x704, .f32⟩
  | .hbm, ⟨8, _⟩ => ⟨S4x704x1024, .f32⟩
  | .hbm, ⟨9, _⟩ => ⟨S1x4x704x1024, .f32⟩
  | .hbm, ⟨10, _⟩ => ⟨S1x4x704x1024, .bf16⟩
  | _, _ => ⟨S4x8192x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWUpA.lean ====
abbrev S8192x1024 : Shape := ⟨2, ![8192, 1024]⟩
abbrev S4x8192x704 : Shape := ⟨3, ![4, 8192, 704]⟩
abbrev S1x8192x1024 : Shape := ⟨3, ![1, 8192, 1024]⟩
abbrev S1x8x1024x704 : Shape := ⟨4, ![1, 8, 1024, 704]⟩
abbrev S1x1024x1024 : Shape := ⟨3, ![1, 1024, 1024]⟩
abbrev S1x1024x704 : Shape := ⟨3, ![1, 1024, 704]⟩
abbrev S1x1x1024x704 : Shape := ⟨4, ![1, 1, 1024, 704]⟩
abbrev S1024x704 : Shape := ⟨2, ![1024, 704]⟩
abbrev S1024x1024 : Shape := ⟨2, ![1024, 1024]⟩
abbrev S1x4x1024x704 : Shape := ⟨4, ![1, 4, 1024, 704]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S1x8192x1024, .bf16⟩
  | .hbm, ⟨3, _⟩ => ⟨S1x8x1024x704, .bf16⟩
  | .hbm, ⟨4, _⟩ => ⟨S1x4x1024x704, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let v18 : BitVec 32 := Scalar.divsi v17 c1_i32_6
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v17 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg1 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c0_i32_19 : BitVec 32 := 0#32
  let c0_i32_20 : BitVec 32 := 0#32
  ![c0_i32_19.toNat, v34.toNat, arg0.toNat, v44.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUpAIdeal.lean ====
abbrev S8192x1024 : Shape := ⟨2, ![8192, 1024]⟩
abbrev S4x8192x704 : Shape := ⟨3, ![4, 8192, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩
abbrev S1x4x1024x704 : Shape := ⟨4, ![1, 4, 1024, 704]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S_, .f32⟩
  | .hbm, ⟨3, _⟩ => ⟨S4x1024x704, .f32⟩
  | .hbm, ⟨4, _⟩ => ⟨S8192x1024, .f32⟩
  | .hbm, ⟨5, _⟩ => ⟨S4x704x8192, .f32⟩
  | .hbm, ⟨6, _⟩ => ⟨S4x8192x704, .f32⟩
  | .hbm, ⟨7, _⟩ => ⟨S4x8192x704, .f32⟩
  | .hbm, ⟨8, _⟩ => ⟨S4x704x8192, .f32⟩
  | .hbm, ⟨9, _⟩ => ⟨S4x704x1024, .f32⟩
  | .hbm, ⟨10, _⟩ => ⟨S4x1024x704, .f32⟩
  | .hbm, ⟨11, _⟩ => ⟨S1x4x1024x704, .f32⟩
  | .hbm, ⟨12, _⟩ => ⟨S1x4x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelWUpB.lean ====
abbrev S8192x1024 : Shape := ⟨2, ![8192, 1024]⟩
abbrev S4x8192x704 : Shape := ⟨3, ![4, 8192, 704]⟩
abbrev S1x8x1024x704 : Shape := ⟨4, ![1, 8, 1024, 704]⟩
abbrev S1x8192x1024 : Shape := ⟨3, ![1, 8192, 1024]⟩
abbrev S1x1024x1024 : Shape := ⟨3, ![1, 1024, 1024]⟩
abbrev S1x1024x704 : Shape := ⟨3, ![1, 1024, 704]⟩
abbrev S1x1x1024x704 : Shape := ⟨4, ![1, 1, 1024, 704]⟩
abbrev S1024x704 : Shape := ⟨2, ![1024, 704]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S1x8x1024x704, .bf16⟩
  | .hbm, ⟨3, _⟩ => ⟨S1x8192x1024, .bf16⟩
  | .hbm, ⟨4, _⟩ => ⟨S1x8x1024x704, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1024x704, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c4_i32 : BitVec 32 := 4#32
  let v17 : BitVec 32 := Scalar.addi c4_i32 v16
  let c1_i32_5 : BitVec 32 := 1#32
  let v18 : BitVec 32 := Scalar.divsi v17 c1_i32_5
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c1_i32_5 c0_i32_8
  let v25 : BitVec 32 := Scalar.extui v24
  let c0_i32_9 : BitVec 32 := 0#32
  let v26 : BitVec 1 := Scalar.cmpi .slt c1_i32_5 c0_i32_9
  let v27 : BitVec 32 := Scalar.extui v26
  let v28 : BitVec 32 := Scalar.subi v25 v27
  let v29 : BitVec 1 := Scalar.cmpi .ne v23 v28
  let v30 : BitVec 32 := Scalar.remsi v17 c1_i32_5
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg1 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  ![c0_i32_18.toNat, v34.toNat, arg0.toNat, v44.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWUpBIdeal.lean ====
abbrev S8192x1024 : Shape := ⟨2, ![8192, 1024]⟩
abbrev S4x8192x704 : Shape := ⟨3, ![4, 8192, 704]⟩
abbrev S1x8x1024x704 : Shape := ⟨4, ![1, 8, 1024, 704]⟩
abbrev S1x4x1024x704 : Shape := ⟨4, ![1, 4, 1024, 704]⟩
abbrev S_ : Shape := ⟨0, ![]⟩
abbrev S4x1024x704 : Shape := ⟨3, ![4, 1024, 704]⟩
abbrev S4x704x8192 : Shape := ⟨3, ![4, 704, 8192]⟩
abbrev S4x704x1024 : Shape := ⟨3, ![4, 704, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x704, .bf16⟩
  | .hbm, ⟨2, _⟩ => ⟨S1x8x1024x704, .bf16⟩
  | .hbm, ⟨3, _⟩ => ⟨S1x4x1024x704, .bf16⟩
  | .hbm, ⟨4, _⟩ => ⟨S_, .f32⟩
  | .hbm, ⟨5, _⟩ => ⟨S4x1024x704, .f32⟩
  | .hbm, ⟨6, _⟩ => ⟨S8192x1024, .f32⟩
  | .hbm, ⟨7, _⟩ => ⟨S4x704x8192, .f32⟩
  | .hbm, ⟨8, _⟩ => ⟨S4x8192x704, .f32⟩
  | .hbm, ⟨9, _⟩ => ⟨S4x8192x704, .f32⟩
  | .hbm, ⟨10, _⟩ => ⟨S4x704x8192, .f32⟩
  | .hbm, ⟨11, _⟩ => ⟨S4x704x1024, .f32⟩
  | .hbm, ⟨12, _⟩ => ⟨S4x1024x704, .f32⟩
  | .hbm, ⟨13, _⟩ => ⟨S1x4x1024x704, .f32⟩
  | .hbm, ⟨14, _⟩ => ⟨S1x4x1024x704, .bf16⟩
  | .hbm, ⟨15, _⟩ => ⟨S1x8x1024x704, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== KernelWBr.lean ====
abbrev S8192x256 : Shape := ⟨2, ![8192, 256]⟩
abbrev S8192x1024 : Shape := ⟨2, ![8192, 1024]⟩
abbrev S1x8192x256 : Shape := ⟨3, ![1, 8192, 256]⟩
abbrev S1x8192x1024 : Shape := ⟨3, ![1, 8192, 1024]⟩
abbrev S1x8x256x128 : Shape := ⟨4, ![1, 8, 256, 128]⟩
abbrev S1x1024x256 : Shape := ⟨3, ![1, 1024, 256]⟩
abbrev S1x1024x1024 : Shape := ⟨3, ![1, 1024, 1024]⟩
abbrev S256x1024 : Shape := ⟨2, ![256, 1024]⟩
abbrev S1024x256 : Shape := ⟨2, ![1024, 256]⟩
abbrev S1024x1024 : Shape := ⟨2, ![1024, 1024]⟩
abbrev S256x128 : Shape := ⟨2, ![256, 128]⟩
abbrev S1x1x256x128 : Shape := ⟨4, ![1, 1, 256, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S1x8192x256, .f32⟩
  | .hbm, ⟨3, _⟩ => ⟨S1x8192x1024, .bf16⟩
  | .hbm, ⟨4, _⟩ => ⟨S1x8x256x128, .bf16⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x8x256x128, .bf16⟩
  | .local _ .vmem, ⟨5, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c8_i32 : BitVec 32 := 8#32
  let v18 : BitVec 32 := Scalar.divsi v17 c8_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c8_i32 c0_i32_8
  let v25 : BitVec 32 := Scalar.extui v24
  let c0_i32_9 : BitVec 32 := 0#32
  let v26 : BitVec 1 := Scalar.cmpi .slt c8_i32 c0_i32_9
  let v27 : BitVec 32 := Scalar.extui v26
  let v28 : BitVec 32 := Scalar.subi v25 v27
  let v29 : BitVec 1 := Scalar.cmpi .ne v23 v28
  let v30 : BitVec 32 := Scalar.remsi v17 c8_i32
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg1 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  ![c0_i32_18.toNat, v34.toNat, arg0.toNat, v44.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWBrIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩
abbrev S1x8x256x128 : Shape := ⟨4, ![1, 8, 256, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | .hbm, ⟨10, _⟩ => ⟨S1x8x256x128, .f32⟩
  | .hbm, ⟨11, _⟩ => ⟨S1x8x256x128, .bf16⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWAttn.lean ====
abbrev S8192x512 : Shape := ⟨2, ![8192, 512]⟩
abbrev S8192x1024 : Shape := ⟨2, ![8192, 1024]⟩
abbrev S1x8192x512 : Shape := ⟨3, ![1, 8192, 512]⟩
abbrev S1x8192x1024 : Shape := ⟨3, ![1, 8192, 1024]⟩
abbrev S1x8x512x128 : Shape := ⟨4, ![1, 8, 512, 128]⟩
abbrev S1x1024x512 : Shape := ⟨3, ![1, 1024, 512]⟩
abbrev S1x1024x1024 : Shape := ⟨3, ![1, 1024, 1024]⟩
abbrev S512x1024 : Shape := ⟨2, ![512, 1024]⟩
abbrev S1024x512 : Shape := ⟨2, ![1024, 512]⟩
abbrev S1024x1024 : Shape := ⟨2, ![1024, 1024]⟩
abbrev S512x128 : Shape := ⟨2, ![512, 128]⟩
abbrev S1x1x512x128 : Shape := ⟨4, ![1, 1, 512, 128]⟩

abbrev nBuf : Space → Nat
  | .hbm => 5
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S1x8192x512, .f32⟩
  | .hbm, ⟨3, _⟩ => ⟨S1x8192x1024, .bf16⟩
  | .hbm, ⟨4, _⟩ => ⟨S1x8x512x128, .bf16⟩
  | .local _ .vmem, ⟨0, _⟩ => ⟨S1x1024x512, .f32⟩
  | .local _ .vmem, ⟨1, _⟩ => ⟨S1x1024x512, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x8x512x128, .bf16⟩
  | .local _ .vmem, ⟨5, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c8_i32 : BitVec 32 := 8#32
  let v18 : BitVec 32 := Scalar.divsi v17 c8_i32
  let c0_i32_6 : BitVec 32 := 0#32
  let v19 : BitVec 1 := Scalar.cmpi .sgt v17 c0_i32_6
  let v20 : BitVec 32 := Scalar.extui v19
  let c0_i32_7 : BitVec 32 := 0#32
  let v21 : BitVec 1 := Scalar.cmpi .slt v17 c0_i32_7
  let v22 : BitVec 32 := Scalar.extui v21
  let v23 : BitVec 32 := Scalar.subi v20 v22
  let c0_i32_8 : BitVec 32 := 0#32
  let v24 : BitVec 1 := Scalar.cmpi .sgt c8_i32 c0_i32_8
  let v25 : BitVec 32 := Scalar.extui v24
  let c0_i32_9 : BitVec 32 := 0#32
  let v26 : BitVec 1 := Scalar.cmpi .slt c8_i32 c0_i32_9
  let v27 : BitVec 32 := Scalar.extui v26
  let v28 : BitVec 32 := Scalar.subi v25 v27
  let v29 : BitVec 1 := Scalar.cmpi .ne v23 v28
  let v30 : BitVec 32 := Scalar.remsi v17 c8_i32
  let c0_i32_10 : BitVec 32 := 0#32
  let v31 : BitVec 1 := Scalar.cmpi .ne v30 c0_i32_10
  let v32 : BitVec 1 := Scalar.andi v29 v31
  let c1_i32_11 : BitVec 32 := 1#32
  let v33 : BitVec 32 := Scalar.subi v18 c1_i32_11
  let v34 : BitVec 32 := Scalar.select v32 v33 v18
  let c1_i32_12 : BitVec 32 := 1#32
  let c0_i32_13 : BitVec 32 := 0#32
  let v35 : BitVec 1 := Scalar.cmpi .eq c1_i32_12 c0_i32_13
  let c1_i32_14 : BitVec 32 := 1#32
  let v36 : BitVec 32 := Scalar.select v35 c1_i32_14 c1_i32_12
  let v37 : BitVec 32 := Scalar.remsi arg1 v36
  let c0_i32_15 : BitVec 32 := 0#32
  let v38 : BitVec 1 := Scalar.cmpi .ne v37 c0_i32_15
  let c0_i32_16 : BitVec 32 := 0#32
  let v39 : BitVec 1 := Scalar.cmpi .slt v37 c0_i32_16
  let c0_i32_17 : BitVec 32 := 0#32
  let v40 : BitVec 1 := Scalar.cmpi .slt v36 c0_i32_17
  let v41 : BitVec 1 := Scalar.xori v39 v40
  let v42 : BitVec 1 := Scalar.andi v41 v38
  let v43 : BitVec 32 := Scalar.addi v37 v36
  let v44 : BitVec 32 := Scalar.select v42 v43 v37
  let c0_i32_18 : BitVec 32 := 0#32
  let c0_i32_19 : BitVec 32 := 0#32
  ![c0_i32_18.toNat, v34.toNat, arg0.toNat, v44.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWAttnIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩
abbrev S1x8x512x128 : Shape := ⟨4, ![1, 8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x1024, .f32⟩
  | .hbm, ⟨5, _⟩ => ⟨S8192x1024, .f32⟩
  | .hbm, ⟨6, _⟩ => ⟨S1024x512, .f32⟩
  | .hbm, ⟨7, _⟩ => ⟨S512x1024, .f32⟩
  | .hbm, ⟨8, _⟩ => ⟨S512x8x128, .f32⟩
  | .hbm, ⟨9, _⟩ => ⟨S8x512x128, .f32⟩
  | .hbm, ⟨10, _⟩ => ⟨S1x8x512x128, .f32⟩
  | .hbm, ⟨11, _⟩ => ⟨S1x8x512x128, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelWGlu.lean ====
abbrev S8192x256 : Shape := ⟨2, ![8192, 256]⟩
abbrev S8192x512 : Shape := ⟨2, ![8192, 512]⟩
abbrev S1x8192x256 : Shape := ⟨3, ![1, 8192, 256]⟩
abbrev S1x8192x512 : Shape := ⟨3, ![1, 8192, 512]⟩
abbrev S1x1x256x512 : Shape := ⟨4, ![1, 1, 256, 512]⟩
abbrev S1x1024x256 : Shape := ⟨3, ![1, 1024, 256]⟩
abbrev S1x1024x512 : Shape := ⟨3, ![1, 1024, 512]⟩
abbrev S256x512 : Shape := ⟨2, ![256, 512]⟩
abbrev S1024x256 : Shape := ⟨2, ![1024, 256]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S1x8192x256, .bf16⟩
  | .hbm, ⟨3, _⟩ => ⟨S1x8192x512, .bf16⟩
  | .hbm, ⟨4, _⟩ => ⟨S1x1x256x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1x256x512, .bf16⟩
  | .local _ .vmem, ⟨5, _⟩ => ⟨S256x512, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let v18 : BitVec 32 := Scalar.divsi v17 c1_i32_6
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v17 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg1 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c0_i32_19 : BitVec 32 := 0#32
  let c0_i32_20 : BitVec 32 := 0#32
  ![c0_i32_19.toNat, v34.toNat, arg0.toNat, v44.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWGluIdeal.lean ====
abbrev S8192x256 : Shape := ⟨2, ![8192, 256]⟩
abbrev S8192x512 : Shape := ⟨2, ![8192, 512]⟩
abbrev S_ : Shape := ⟨0, ![]⟩
abbrev S256x512 : Shape := ⟨2, ![256, 512]⟩
abbrev S512x256 : Shape := ⟨2, ![512, 256]⟩
abbrev S1x1x256x512 : Shape := ⟨4, ![1, 1, 256, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x512, .bf16⟩
  | .hbm, ⟨2, _⟩ => ⟨S_, .f32⟩
  | .hbm, ⟨3, _⟩ => ⟨S256x512, .f32⟩
  | .hbm, ⟨4, _⟩ => ⟨S8192x256, .f32⟩
  | .hbm, ⟨5, _⟩ => ⟨S8192x512, .f32⟩
  | .hbm, ⟨6, _⟩ => ⟨S8192x512, .f32⟩
  | .hbm, ⟨7, _⟩ => ⟨S512x256, .f32⟩
  | .hbm, ⟨8, _⟩ => ⟨S256x512, .f32⟩
  | .hbm, ⟨9, _⟩ => ⟨S1x1x256x512, .f32⟩
  | .hbm, ⟨10, _⟩ => ⟨S1x1x256x512, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelFfnA.lean ====
abbrev S8192x1024 : Shape := ⟨2, ![8192, 1024]⟩
abbrev S1x1024 : Shape := ⟨2, ![1, 1024]⟩
abbrev S8x1x1024x704 : Shape := ⟨4, ![8, 1, 1024, 704]⟩
abbrev S1x2816x1024 : Shape := ⟨3, ![1, 2816, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1x1024x704, .bf16⟩
  | .hbm, ⟨3, _⟩ => ⟨S1x2816x1024, .bf16⟩
  | .hbm, ⟨4, _⟩ => ⟨S8192x1024, .f32⟩
  | .hbm, ⟨5, _⟩ => ⟨S4x8192x704, .bf16⟩
  | .hbm, ⟨6, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceFfnAIdeal.lean ====
abbrev S8192x1024 : Shape := ⟨2, ![8192, 1024]⟩
abbrev S1x1024 : Shape := ⟨2, ![1, 1024]⟩
abbrev S8x1x1024x704 : Shape := ⟨4, ![8, 1, 1024, 704]⟩
abbrev S1x2816x1024 : Shape := ⟨3, ![1, 2816, 1024]⟩
abbrev S8x1024x704 : Shape := ⟨3, ![8, 1024, 704]⟩
abbrev S2816x1024 : Shape := ⟨2, ![2816, 1024]⟩
abbrev S1024x8x704 : Shape := ⟨3, ![1024, 8, 704]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 49
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x1x1024x704, .bf16⟩
  | .hbm, ⟨3, _⟩ => ⟨S1x2816x1024, .bf16⟩
  | .hbm, ⟨4, _⟩ => ⟨S8x1024x704, .bf16⟩
  | .hbm, ⟨5, _⟩ => ⟨S8x1024x704, .f32⟩
  | .hbm, ⟨6, _⟩ => ⟨S2816x1024, .bf16⟩
  | .hbm, ⟨7, _⟩ => ⟨S2816x1024, .f32⟩
  | .hbm, ⟨8, _⟩ => ⟨S1024x8x704, .f32⟩
  | .hbm, ⟨9, _⟩ => ⟨S1024x5632, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x5632, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S_, .f32⟩
  | .hbm, ⟨31, _⟩ => ⟨S8192x2816, .f32⟩
  | .hbm, ⟨32, _⟩ => ⟨S8192x2816, .f32⟩
  | .hbm, ⟨33, _⟩ => ⟨S_, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x1024, .f32⟩
  | .hbm, ⟨39, _⟩ => ⟨S_, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x4x704, .f32⟩
  | .hbm, ⟨44, _⟩ => ⟨S4x8192x704, .f32⟩
  | .hbm, ⟨45, _⟩ => ⟨S4x8192x704, .bf16⟩
  | .hbm, ⟨46, _⟩ => ⟨S8192x4x704, .f32⟩
  | .hbm, ⟨47, _⟩ => ⟨S4x8192x704, .f32⟩
  | .hbm, ⟨48, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== KernelFfnB.lean ====
abbrev S8192x1024 : Shape := ⟨2, ![8192, 1024]⟩
abbrev S1x1024 : Shape := ⟨2, ![1, 1024]⟩
abbrev S8x2x1024x704 : Shape := ⟨4, ![8, 2, 1024, 704]⟩
abbrev S2x2816x1024 : Shape := ⟨3, ![2, 2816, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x2x1024x704, .bf16⟩
  | .hbm, ⟨3, _⟩ => ⟨S2x2816x1024, .bf16⟩
  | .hbm, ⟨4, _⟩ => ⟨S8192x1024, .f32⟩
  | .hbm, ⟨5, _⟩ => ⟨S4x8192x704, .bf16⟩
  | .hbm, ⟨6, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceFfnBIdeal.lean ====
abbrev S8192x1024 : Shape := ⟨2, ![8192, 1024]⟩
abbrev S1x1024 : Shape := ⟨2, ![1, 1024]⟩
abbrev S8x2x1024x704 : Shape := ⟨4, ![8, 2, 1024, 704]⟩
abbrev S2x2816x1024 : Shape := ⟨3, ![2, 2816, 1024]⟩
abbrev S8x1x1024x704 : Shape := ⟨4, ![8, 1, 1024, 704]⟩
abbrev S8x1024x704 : Shape := ⟨3, ![8, 1024, 704]⟩
abbrev S1x2816x1024 : Shape := ⟨3, ![1, 2816, 1024]⟩
abbrev S2816x1024 : Shape := ⟨2, ![2816, 1024]⟩
abbrev S1024x8x704 : Shape := ⟨3, ![1024, 8, 704]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x2x1024x704, .bf16⟩
  | .hbm, ⟨3, _⟩ => ⟨S2x2816x1024, .bf16⟩
  | .hbm, ⟨4, _⟩ => ⟨S8x1x1024x704, .bf16⟩
  | .hbm, ⟨5, _⟩ => ⟨S8x1024x704, .bf16⟩
  | .hbm, ⟨6, _⟩ => ⟨S8x1024x704, .f32⟩
  | .hbm, ⟨7, _⟩ => ⟨S1x2816x1024, .bf16⟩
  | .hbm, ⟨8, _⟩ => ⟨S2816x1024, .bf16⟩
  | .hbm, ⟨9, _⟩ => ⟨S2816x1024, .f32⟩
  | .hbm, ⟨10, _⟩ => ⟨S1024x8x704, .f32⟩
  | .hbm, ⟨11, _⟩ => ⟨S1024x5632, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x4x704, .f32⟩
  | .hbm, ⟨49, _⟩ => ⟨S4x8192x704, .f32⟩
  | .hbm, ⟨50, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== KernelFfnC.lean ====
abbrev S8192x1024 : Shape := ⟨2, ![8192, 1024]⟩
abbrev S1x1024 : Shape := ⟨2, ![1, 1024]⟩
abbrev S8x2x1024x704 : Shape := ⟨4, ![8, 2, 1024, 704]⟩
abbrev S2x2816x1024 : Shape := ⟨3, ![2, 2816, 1024]⟩
abbrev S4x8192x704 : Shape := ⟨3, ![4, 8192, 704]⟩
abbrev S1024x1024 : Shape := ⟨2, ![1024, 1024]⟩
abbrev S1x1x1024x704 : Shape := ⟨4, ![1, 1, 1024, 704]⟩
abbrev S1x704x1024 : Shape := ⟨3, ![1, 704, 1024]⟩
abbrev S1x1024x704 : Shape := ⟨3, ![1, 1024, 704]⟩
abbrev S1024 : Shape := ⟨1, ![1024]⟩
abbrev S1024x1 : Shape := ⟨2, ![1024, 1]⟩
abbrev S1024x704 : Shape := ⟨2, ![1024, 704]⟩
abbrev S704x1024 : Shape := ⟨2, ![704, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x2x1024x704, .bf16⟩
  | .hbm, ⟨3, _⟩ => ⟨S2x2816x1024, .bf16⟩
  | .hbm, ⟨4, _⟩ => ⟨S8192x1024, .f32⟩
  | .hbm, ⟨5, _⟩ => ⟨S4x8192x704, .bf16⟩
  | .hbm, ⟨6, _⟩ => ⟨S4x8192x704, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1x1024x704, .bf16⟩
  | .local _ .vmem, ⟨4, _⟩ => ⟨S1x1x1024x704, .bf16⟩
  | .local _ .vmem, ⟨5, _⟩ => ⟨S1x1x1024x704, .bf16⟩
  | .local _ .vmem, ⟨6, _⟩ => ⟨S1x1x1024x704, .bf16⟩
  | .local _ .vmem, ⟨7, _⟩ => ⟨S1x704x1024, .bf16⟩
  | .local _ .vmem, ⟨8, _⟩ => ⟨S1x704x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024x704, .bf16⟩
  | .local _ .vmem, ⟨12, _⟩ => ⟨S1x1024x704, .bf16⟩
  | .local _ .vmem, ⟨13, _⟩ => ⟨S1x1024x704, .bf16⟩
  | .local _ .vmem, ⟨14, _⟩ => ⟨S1x1024x704, .bf16⟩
  | .local _ .vmem, ⟨15, _⟩ => ⟨S1024x1024, .bf16⟩
  | .local _ .vmem, ⟨16, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v36 : BitVec 1 := Scalar.cmpi .eq arg1 c3_i32
  let v37 : BitVec 32 := Scalar.extui v36
  let c0_i32_28 : BitVec 32 := 0#32
  let v38 : BitVec 1 := Scalar.cmpi .ne v37 c0_i32_28
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c1_i32 : BitVec 32 := 1#32
  let c0_i32 : BitVec 32 := 0#32
  let c0_i32_0 : BitVec 32 := 0#32
  let c0_i32_1 : BitVec 32 := 0#32
  ![v0.toNat, c1_i32.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceFfnCIdeal.lean ====
abbrev S8192x1024 : Shape := ⟨2, ![8192, 1024]⟩
abbrev S1x1024 : Shape := ⟨2, ![1, 1024]⟩
abbrev S8x2x1024x704 : Shape := ⟨4, ![8, 2, 1024, 704]⟩
abbrev S2x2816x1024 : Shape := ⟨3, ![2, 2816, 1024]⟩
abbrev S8x1x1024x704 : Shape := ⟨4, ![8, 1, 1024, 704]⟩
abbrev S8x1024x704 : Shape := ⟨3, ![8, 1024, 704]⟩
abbrev S1x2816x1024 : Shape := ⟨3, ![1, 2816, 1024]⟩
abbrev S2816x1024 : Shape := ⟨2, ![2816, 1024]⟩
abbrev S1024x8x704 : Shape := ⟨3, ![1024, 8, 704]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S8192x2816 : Shape := ⟨2, ![8192, 2816]⟩
abbrev S8192x4x704 : Shape := ⟨3, ![8192, 4, 704]⟩
abbrev S4x8192x704 : Shape := ⟨3, ![4, 8192, 704]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8x2x1024x704, .bf16⟩
  | .hbm, ⟨3, _⟩ => ⟨S2x2816x1024, .bf16⟩
  | .hbm, ⟨4, _⟩ => ⟨S8x1x1024x704, .bf16⟩
  | .hbm, ⟨5, _⟩ => ⟨S8x1024x704, .bf16⟩
  | .hbm, ⟨6, _⟩ => ⟨S8x1024x704, .f32⟩
  | .hbm, ⟨7, _⟩ => ⟨S1x2816x1024, .bf16⟩
  | .hbm, ⟨8, _⟩ => ⟨S2816x1024, .bf16⟩
  | .hbm, ⟨9, _⟩ => ⟨S2816x1024, .f32⟩
  | .hbm, ⟨10, _⟩ => ⟨S1024x8x704, .f32⟩
  | .hbm, ⟨11, _⟩ => ⟨S1024x5632, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x4x704, .f32⟩
  | .hbm, ⟨49, _⟩ => ⟨S4x8192x704, .f32⟩
  | .hbm, ⟨50, _⟩ => ⟨S4x8192x704, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]
-- ==== KernelProj.lean ====
abbrev S8192x1024 : Shape := ⟨2, ![8192, 1024]⟩
abbrev S1x1024 : Shape := ⟨2, ![1, 1024]⟩
abbrev S2x1024x5376 : Shape := ⟨3, ![2, 1024, 5376]⟩
abbrev S8192x5376 : Shape := ⟨2, ![8192, 5376]⟩
abbrev S1024x1024 : Shape := ⟨2, ![1024, 1024]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x5376, .bf16⟩
  | .hbm, ⟨3, _⟩ => ⟨S8192x5376, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x768, .bf16⟩
  | .local _ .vmem, ⟨4, _⟩ => ⟨S1x1024x768, .bf16⟩
  | .local _ .vmem, ⟨5, _⟩ => ⟨S1024x768, .f32⟩
  | .local _ .vmem, ⟨6, _⟩ => ⟨S1024x768, .f32⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceProjIdeal.lean ====
abbrev S8192x1024 : Shape := ⟨2, ![8192, 1024]⟩
abbrev S1x1024 : Shape := ⟨2, ![1, 1024]⟩
abbrev S2x1024x5376 : Shape := ⟨3, ![2, 1024, 5376]⟩
abbrev S_ : Shape := ⟨0, ![]⟩
abbrev S8192 : Shape := ⟨1, ![8192]⟩
abbrev S8192x1 : Shape := ⟨2, ![8192, 1]⟩
abbrev S1x1024x5376 : Shape := ⟨3, ![1, 1024, 5376]⟩
abbrev S1024x5376 : Shape := ⟨2, ![1024, 5376]⟩
abbrev S8192x5376 : Shape := ⟨2, ![8192, 5376]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x5376, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S1x1024x5376, .bf16⟩
  | .hbm, ⟨19, _⟩ => ⟨S1024x5376, .bf16⟩
  | .hbm, ⟨20, _⟩ => ⟨S1024x5376, .f32⟩
  | .hbm, ⟨21, _⟩ => ⟨S8192x5376, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelMixA.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S256x1024 : Shape := ⟨2, ![256, 1024]⟩
abbrev S256x256 : Shape := ⟨2, ![256, 256]⟩
abbrev S256x512 : Shape := ⟨2, ![256, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x3072, .f32⟩
  | .local _ .vmem, ⟨9, _⟩ => ⟨S256x256, .f32⟩
  | .local _ .vmem, ⟨10, _⟩ => ⟨S256x256, .f32⟩
  | .local _ .vmem, ⟨11, _⟩ => ⟨S256x512, .f32⟩
  | .local _ .vmem, ⟨12, _⟩ => ⟨S256x512, .f32⟩
  | .local _ .vmem, ⟨13, _⟩ => ⟨S256x256, .f32⟩
  | .local _ .vmem, ⟨14, _⟩ => ⟨S256x256, .f32⟩
  | .local _ .vmem, ⟨15, _⟩ => ⟨S1x256x1024, .bf16⟩
  | .local _ .vmem, ⟨16, _⟩ => ⟨S1x512x1024, .bf16⟩
  | .local _ .vmem, ⟨17, _⟩ => ⟨S1x256x1024, .bf16⟩
  | .local _ .vmem, ⟨18, _⟩ => ⟨S1x1024x1024, .bf16⟩
  | .local _ .vmem, ⟨19, _⟩ => ⟨S256x1024, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixAIdeal.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x3072 : Shape := ⟨2, ![8192, 3072]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S1x256x1024, .bf16⟩
  | .hbm, ⟨11, _⟩ => ⟨S256x1024, .bf16⟩
  | .hbm, ⟨12, _⟩ => ⟨S256x1024, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S1x256x1024, .bf16⟩
  | .hbm, ⟨17, _⟩ => ⟨S256x1024, .bf16⟩
  | .hbm, ⟨18, _⟩ => ⟨S256x1024, .f32⟩
  | .hbm, ⟨19, _⟩ => ⟨S1x1024x1024, .bf16⟩
  | .hbm, ⟨20, _⟩ => ⟨S1024x1024, .bf16⟩
  | .hbm, ⟨21, _⟩ => ⟨S1024x1024, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelMixB.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S256x1024 : Shape := ⟨2, ![256, 1024]⟩
abbrev S256x256 : Shape := ⟨2, ![256, 256]⟩
abbrev S256x512 : Shape := ⟨2, ![256, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1x1024 : Shape := ⟨2, ![1, 1024]⟩
abbrev S1024x1024 : Shape := ⟨2, ![1024, 1024]⟩

abbrev nBuf : Space → Nat
  | .hbm => 11
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x3072, .f32⟩
  | .local _ .vmem, ⟨9, _⟩ => ⟨S256x256, .f32⟩
  | .local _ .vmem, ⟨10, _⟩ => ⟨S256x256, .f32⟩
  | .local _ .vmem, ⟨11, _⟩ => ⟨S256x512, .f32⟩
  | .local _ .vmem, ⟨12, _⟩ => ⟨S256x512, .f32⟩
  | .local _ .vmem, ⟨13, _⟩ => ⟨S256x256, .f32⟩
  | .local _ .vmem, ⟨14, _⟩ => ⟨S256x256, .f32⟩
  | .local _ .vmem, ⟨15, _⟩ => ⟨S1x256x1024, .bf16⟩
  | .local _ .vmem, ⟨16, _⟩ => ⟨S1x512x1024, .bf16⟩
  | .local _ .vmem, ⟨17, _⟩ => ⟨S1x256x1024, .bf16⟩
  | .local _ .vmem, ⟨18, _⟩ => ⟨S1x1024x1024, .bf16⟩
  | .local _ .vmem, ⟨19, _⟩ => ⟨S256x1024, .f32⟩
  | .local _ .vmem, ⟨20, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceMixBIdeal.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x3072 : Shape := ⟨2, ![8192, 3072]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S1x256x1024, .bf16⟩
  | .hbm, ⟨11, _⟩ => ⟨S256x1024, .bf16⟩
  | .hbm, ⟨12, _⟩ => ⟨S256x1024, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S1x256x1024, .bf16⟩
  | .hbm, ⟨17, _⟩ => ⟨S256x1024, .bf16⟩
  | .hbm, ⟨18, _⟩ => ⟨S256x1024, .f32⟩
  | .hbm, ⟨19, _⟩ => ⟨S1x1024x1024, .bf16⟩
  | .hbm, ⟨20, _⟩ => ⟨S1024x1024, .bf16⟩
  | .hbm, ⟨21, _⟩ => ⟨S1024x1024, .f32⟩
  | .hbm, ⟨22, _⟩ => ⟨S8192x3072, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== KernelBackA.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S8192x3072 : Shape := ⟨2, ![8192, 3072]⟩
abbrev S256x1024 : Shape := ⟨2, ![256, 1024]⟩
abbrev S256x256 : Shape := ⟨2, ![256, 256]⟩
abbrev S256x512 : Shape := ⟨2, ![256, 512]⟩
abbrev S1x256x1024 : Shape := ⟨3, ![1, 256, 1024]⟩
abbrev S1x512x1024 : Shape := ⟨3, ![1, 512, 1024]⟩
abbrev S1x1024x1024 : Shape := ⟨3, ![1, 1024, 1024]⟩
abbrev S256x3072 : Shape := ⟨2, ![256, 3072]⟩
abbrev S512x1024 : Shape := ⟨2, ![512, 1024]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 20
  | .vmem => 38
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S8192x3072, .bf16⟩
  | .hbm, ⟨11, _⟩ => ⟨S8192x256, .f32⟩
  | .hbm, ⟨12, _⟩ => ⟨S8192x512, .f32⟩
  | .hbm, ⟨13, _⟩ => ⟨S8192x256, .f32⟩
  | .hbm, ⟨14, _⟩ => ⟨S1x3072, .f32⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S8192x1024, .bf16⟩
  | .hbm, ⟨19, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x3072, .f32⟩
  | .local _ .vmem, ⟨9, _⟩ => ⟨S256x256, .f32⟩
  | .local _ .vmem, ⟨10, _⟩ => ⟨S256x256, .f32⟩
  | .local _ .vmem, ⟨11, _⟩ => ⟨S256x512, .f32⟩
  | .local _ .vmem, ⟨12, _⟩ => ⟨S256x512, .f32⟩
  | .local _ .vmem, ⟨13, _⟩ => ⟨S256x256, .f32⟩
  | .local _ .vmem, ⟨14, _⟩ => ⟨S256x256, .f32⟩
  | .local _ .vmem, ⟨15, _⟩ => ⟨S1x256x1024, .bf16⟩
  | .local _ .vmem, ⟨16, _⟩ => ⟨S1x512x1024, .bf16⟩
  | .local _ .vmem, ⟨17, _⟩ => ⟨S1x256x1024, .bf16⟩
  | .local _ .vmem, ⟨18, _⟩ => ⟨S1x1024x1024, .bf16⟩
  | .local _ .vmem, ⟨19, _⟩ => ⟨S256x3072, .bf16⟩
  | .local _ .vmem, ⟨20, _⟩ => ⟨S256x3072, .bf16⟩
  | .local _ .vmem, ⟨21, _⟩ => ⟨S256x256, .f32⟩
  | .local _ .vmem, ⟨22, _⟩ => ⟨S256x256, .f32⟩
  | .local _ .vmem, ⟨23, _⟩ => ⟨S256x512, .f32⟩
  | .local _ .vmem, ⟨24, _⟩ => ⟨S256x512, .f32⟩
  | .local _ .vmem, ⟨25, _⟩ => ⟨S256x256, .f32⟩
  | .local _ .vmem, ⟨26, _⟩ => ⟨S256x256, .f32⟩
  | .local _ .vmem, ⟨27, _⟩ => ⟨S1x3072, .f32⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S256x1024, .bf16⟩
  | .local _ .vmem, ⟨34, _⟩ => ⟨S256x1024, .bf16⟩
  | .local _ .vmem, ⟨35, _⟩ => ⟨S256x1024, .bf16⟩
  | .local _ .vmem, ⟨36, _⟩ => ⟨S256x1024, .bf16⟩
  | .local _ .vmem, ⟨37, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35
abbrev cc0_sem21_0 : DmaSem sig := 36
abbrev cc0_sem21_1 : DmaSem sig := 37

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v72 : BitVec 32 := Scalar.extui v62
  let c0_i32_47 : BitVec 32 := 0#32
  let v73 : BitVec 1 := Scalar.cmpi .ne v72 c0_i32_47
  v73

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v74 : BitVec 1 := Scalar.xori v62 v_true
  let v75 : BitVec 32 := Scalar.extui v74
  let c0_i32_48 : BitVec 32 := 0#32
  let v76 : BitVec 1 := Scalar.cmpi .ne v75 c0_i32_48
  v76

def k0_cond3 (i : grid0.Coords) : BitVec 1 :=
  let arg0 : BitVec 32 := BitVec.ofNat 32 (i 0).val
  let c0_i32 : BitVec 32 := 0#32
  let v62 : BitVec 1 := Scalar.cmpi .eq arg0 c0_i32
  let v91 : BitVec 32 := Scalar.extui v62
  let c0_i32_57 : BitVec 32 := 0#32
  let v92 : BitVec 1 := Scalar.cmpi .ne v91 c0_i32_57
  v92

def k0_cond4 (i : grid0.Coords) : BitVec 1 :=
  let arg0 : BitVec 32 := BitVec.ofNat 32 (i 0).val
  let c0_i32 : BitVec 32 := 0#32
  let v62 : BitVec 1 := Scalar.cmpi .eq arg0 c0_i32
  let true_58 : BitVec 1 := 1#1
  let v93 : BitVec 1 := Scalar.xori v62 true_58
  let v94 : BitVec 32 := Scalar.extui v93
  let c0_i32_59 : BitVec 32 := 0#32
  let v95 : BitVec 1 := Scalar.cmpi .ne v94 c0_i32_59
  v95

def k0_cond5 (i : grid0.Coords) : BitVec 1 :=
  let arg0 : BitVec 32 := BitVec.ofNat 32 (i 0).val
  let c0_i32 : BitVec 32 := 0#32
  let v62 : BitVec 1 := Scalar.cmpi .eq arg0 c0_i32
  let v110 : BitVec 32 := Scalar.extui v62
  let c0_i32_68 : BitVec 32 := 0#32
  let v111 : BitVec 1 := Scalar.cmpi .ne v110 c0_i32_68
  v111

def k0_cond6 (i : grid0.Coords) : BitVec 1 :=
  let arg0 : BitVec 32 := BitVec.ofNat 32 (i 0).val
  let c0_i32 : BitVec 32 := 0#32
  let v62 : BitVec 1 := Scalar.cmpi .eq arg0 c0_i32
  let true_69 : BitVec 1 := 1#1
  let v112 : BitVec 1 := Scalar.xori v62 true_69
  let v113 : BitVec 32 := Scalar.extui v112
  let c0_i32_70 : BitVec 32 := 0#32
  let v114 : BitVec 1 := Scalar.cmpi .ne v113 c0_i32_70
  v114

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x3072 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== ReferenceBackAIdeal.lean ====
abbrev S8192x1024 : Shape := ⟨2, ![8192, 1024]⟩
abbrev S8192x5376 : Shape := ⟨2, ![8192, 5376]⟩
abbrev S1x3072 : Shape := ⟨2, ![1, 3072]⟩
abbrev S8192x256 : Shape := ⟨2, ![8192, 256]⟩
abbrev S8192x512 : Shape := ⟨2, ![8192, 512]⟩
abbrev S2x256x1024 : Shape := ⟨3, ![2, 256, 1024]⟩
abbrev S2x512x1024 : Shape := ⟨3, ![2, 512, 1024]⟩
abbrev S2x1024x1024 : Shape := ⟨3, ![2, 1024, 1024]⟩
abbrev S1x256x1024 : Shape := ⟨3, ![1, 256, 1024]⟩
abbrev S256x1024 : Shape := ⟨2, ![256, 1024]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩
abbrev S8192x3072 : Shape := ⟨2, ![8192, 3072]⟩
abbrev S_ : Shape := ⟨0, ![]⟩
abbrev S3072 : Shape := ⟨1, ![3072]⟩

abbrev nBuf : Space → Nat
  | .hbm => 70
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5376, .f32⟩
  | .hbm, ⟨2, _⟩ => ⟨S1x3072, .f32⟩
  | .hbm, ⟨3, _⟩ => ⟨S8192x256, .f32⟩
  | .hbm, ⟨4, _⟩ => ⟨S8192x512, .f32⟩
  | .hbm, ⟨5, _⟩ => ⟨S8192x256, .f32⟩
  | .hbm, ⟨6, _⟩ => ⟨S2x256x1024, .bf16⟩
  | .hbm, ⟨7, _⟩ => ⟨S2x512x1024, .bf16⟩
  | .hbm, ⟨8, _⟩ => ⟨S2x256x1024, .bf16⟩
  | .hbm, ⟨9, _⟩ => ⟨S2x1024x1024, .bf16⟩
  | .hbm, ⟨10, _⟩ => ⟨S1x256x1024, .bf16⟩
  | .hbm, ⟨11, _⟩ => ⟨S256x1024, .bf16⟩
  | .hbm, ⟨12, _⟩ => ⟨S256x1024, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S1x256x1024, .bf16⟩
  | .hbm, ⟨17, _⟩ => ⟨S256x1024, .bf16⟩
  | .hbm, ⟨18, _⟩ => ⟨S256x1024, .f32⟩
  | .hbm, ⟨19, _⟩ => ⟨S1x1024x1024, .bf16⟩
  | .hbm, ⟨20, _⟩ => ⟨S1024x1024, .bf16⟩
  | .hbm, ⟨21, _⟩ => ⟨S1024x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S_, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x3072, .f32⟩
  | .hbm, ⟨57, _⟩ => ⟨S8192x3072, .f32⟩
  | .hbm, ⟨58, _⟩ => ⟨S_, .f32⟩
  | .hbm, ⟨59, _⟩ => ⟨S3072, .f32⟩
  | .hbm, ⟨60, _⟩ => ⟨S1x3072, .f32⟩
  | .hbm, ⟨61, _⟩ => ⟨S8192x3072, .bf16⟩
  | .hbm, ⟨62, _⟩ => ⟨S8192x256, .f32⟩
  | .hbm, ⟨63, _⟩ => ⟨S8192x512, .f32⟩
  | .hbm, ⟨64, _⟩ => ⟨S8192x256, .f32⟩
  | .hbm, ⟨65, _⟩ => ⟨S8192x1024, .bf16⟩
  | .hbm, ⟨66, _⟩ => ⟨S8192x1024, .bf16⟩
  | .hbm, ⟨67, _⟩ => ⟨S8192x1024, .bf16⟩
  | .hbm, ⟨68, _⟩ => ⟨S8192x1024, .bf16⟩
  | .hbm, ⟨69, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_2 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩

abbrev nD : Nat := 1
abbrev τ : Topo := Topo.v7x

variable {F : FTy → Type} [FloatOps F]
-- ==== KernelProjA.lean ====
abbrev S8192x5376 : Shape := ⟨2, ![8192, 5376]⟩
abbrev S8192x1024 : Shape := ⟨2, ![8192, 1024]⟩
abbrev S1x1024 : Shape := ⟨2, ![1, 1024]⟩
abbrev S2x1024x5376 : Shape := ⟨3, ![2, 1024, 5376]⟩
abbrev S512x5376 : Shape := ⟨2, ![512, 5376]⟩
abbrev S512x1024 : Shape := ⟨2, ![512, 1024]⟩
abbrev S1x1024x5376 : Shape := ⟨3, ![1, 1024, 5376]⟩
abbrev S1024x5376 : Shape := ⟨2, ![1024, 5376]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S2x1024x5376, .bf16⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S512x5376, .bf16⟩
  | .local _ .vmem, ⟨1, _⟩ => ⟨S512x5376, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024x5376, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceProjAIdeal.lean ====
abbrev S8192x5376 : Shape := ⟨2, ![8192, 5376]⟩
abbrev S8192x1024 : Shape := ⟨2, ![8192, 1024]⟩
abbrev S1x1024 : Shape := ⟨2, ![1, 1024]⟩
abbrev S2x1024x5376 : Shape := ⟨3, ![2, 1024, 5376]⟩
abbrev S1x1024x5376 : Shape := ⟨3, ![1, 1024, 5376]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S2x1024x5376, .bf16⟩
  | .hbm, ⟨5, _⟩ => ⟨S1x1024x5376, .bf16⟩
  | .hbm, ⟨6, _⟩ => ⟨S1024x5376, .bf16⟩
  | .hbm, ⟨7, _⟩ => ⟨S1024x5376, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5376, .f32⟩
  | .hbm, ⟨28, _⟩ => ⟨S8192x5376, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== KernelProjB.lean ====
abbrev S8192x5376 : Shape := ⟨2, ![8192, 5376]⟩
abbrev S8192x1024 : Shape := ⟨2, ![8192, 1024]⟩
abbrev S1x1024 : Shape := ⟨2, ![1, 1024]⟩
abbrev S2x1024x5376 : Shape := ⟨3, ![2, 1024, 5376]⟩
abbrev S512x5376 : Shape := ⟨2, ![512, 5376]⟩
abbrev S512x1024 : Shape := ⟨2, ![512, 1024]⟩
abbrev S1x1024x5376 : Shape := ⟨3, ![1, 1024, 5376]⟩
abbrev S1024x5376 : Shape := ⟨2, ![1024, 5376]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S2x1024x5376, .bf16⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S512x5376, .bf16⟩
  | .local _ .vmem, ⟨1, _⟩ => ⟨S512x5376, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024x5376, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v38 : BitVec 1 := Scalar.cmpi .eq arg0 c0_i32
  let v39 : BitVec 32 := Scalar.extui v38
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32 : BitVec 32 := 0#32
  let v38 : BitVec 1 := Scalar.cmpi .eq arg0 c0_i32
  let v_true : BitVec 1 := 1#1
  let v41 : BitVec 1 := Scalar.xori v38 v_true
  let v42 : BitVec 32 := Scalar.extui v41
  let c0_i32_21 : BitVec 32 := 0#32
  let v43 : BitVec 1 := Scalar.cmpi .ne v42 c0_i32_21
  v43

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5376 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024x5376 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceProjBIdeal.lean ====
abbrev S8192x5376 : Shape := ⟨2, ![8192, 5376]⟩
abbrev S8192x1024 : Shape := ⟨2, ![8192, 1024]⟩
abbrev S1x1024 : Shape := ⟨2, ![1, 1024]⟩
abbrev S2x1024x5376 : Shape := ⟨3, ![2, 1024, 5376]⟩
abbrev S1x1024x5376 : Shape := ⟨3, ![1, 1024, 5376]⟩
abbrev S1024x5376 : Shape := ⟨2, ![1024, 5376]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S2x1024x5376, .bf16⟩
  | .hbm, ⟨5, _⟩ => ⟨S1x1024x5376, .bf16⟩
  | .hbm, ⟨6, _⟩ => ⟨S1024x5376, .bf16⟩
  | .hbm, ⟨7, _⟩ => ⟨S1024x5376, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x5376, .f32⟩
  | .hbm, ⟨28, _⟩ => ⟨S8192x5376, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S_, .f32⟩
  | .hbm, ⟨59, _⟩ => ⟨S8192x1, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_cst_9 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩

abbrev nD : Nat := 1
abbrev τ : Topo := Topo.v7x

variable {F : FTy → Type} [FloatOps F]
-- ==== KernelOptSmall.lean ====
abbrev S8x152x1024 : Shape := ⟨3, ![8, 152, 1024]⟩
abbrev S1x152x1024 : Shape := ⟨3, ![1, 152, 1024]⟩
abbrev S152x1024 : Shape := ⟨2, ![152, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x152x1024, .f32⟩
  | .hbm, ⟨1, _⟩ => ⟨S1x152x1024, .f32⟩
  | .hbm, ⟨2, _⟩ => ⟨S1x152x1024, .f32⟩
  | .hbm, ⟨3, _⟩ => ⟨S1x152x1024, .f32⟩
  | .hbm, ⟨4, _⟩ => ⟨S1x152x1024, .f32⟩
  | .hbm, ⟨5, _⟩ => ⟨S1x152x1024, .f32⟩
  | .hbm, ⟨6, _⟩ => ⟨S1x152x1024, .f32⟩
  | .hbm, ⟨7, _⟩ => ⟨S1x152x1024, .f32⟩
  | .local _ .vmem, ⟨0, _⟩ => ⟨S8x152x1024, .f32⟩
  | .local _ .vmem, ⟨1, _⟩ => ⟨S1x152x1024, .f32⟩
  | .local _ .vmem, ⟨2, _⟩ => ⟨S1x152x1024, .f32⟩
  | .local _ .vmem, ⟨3, _⟩ => ⟨S1x152x1024, .f32⟩
  | .local _ .vmem, ⟨4, _⟩ => ⟨S1x152x1024, .f32⟩
  | .local _ .vmem, ⟨5, _⟩ => ⟨S1x152x1024, .f32⟩
  | .local _ .vmem, ⟨6, _⟩ => ⟨S1x152x1024, .f32⟩
  | .local _ .vmem, ⟨7, _⟩ => ⟨S1x152x1024, .f32⟩
  | _, _ => ⟨S8x152x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x152x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x152x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x152x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x152x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x152x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x152x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x152x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x152x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptSmallIdeal.lean ====
abbrev S8x152x1024 : Shape := ⟨3, ![8, 152, 1024]⟩
abbrev S1x152x1024 : Shape := ⟨3, ![1, 152, 1024]⟩
abbrev S152x1024 : Shape := ⟨2, ![152, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x152x1024, .f32⟩
  | .hbm, ⟨1, _⟩ => ⟨S1x152x1024, .f32⟩
  | .hbm, ⟨2, _⟩ => ⟨S1x152x1024, .f32⟩
  | .hbm, ⟨3, _⟩ => ⟨S1x152x1024, .f32⟩
  | .hbm, ⟨4, _⟩ => ⟨S152x1024, .f32⟩
  | .hbm, ⟨5, _⟩ => ⟨S152x1024, .f32⟩
  | .hbm, ⟨6, _⟩ => ⟨S152x1024, .f32⟩
  | .hbm, ⟨7, _⟩ => ⟨S_, .f32⟩
  | .hbm, ⟨8, _⟩ => ⟨S152x1024, .f32⟩
  | .hbm, ⟨9, _⟩ => ⟨S_, .f32⟩
  | .hbm, ⟨10, _⟩ => ⟨S152x1024, .f32⟩
  | .hbm, ⟨11, _⟩ => ⟨S152x1024, .f32⟩
  | .hbm, ⟨12, _⟩ => ⟨S_, .f32⟩
  | .hbm, ⟨13, _⟩ => ⟨S152x1024, .f32⟩
  | .hbm, ⟨14, _⟩ => ⟨S152x1024, .f32⟩
  | .hbm, ⟨15, _⟩ => ⟨S152x1024, .f32⟩
  | .hbm, ⟨16, _⟩ => ⟨S_, .f32⟩
  | .hbm, ⟨17, _⟩ => ⟨S152x1024, .f32⟩
  | .hbm, ⟨18, _⟩ => ⟨S152x1024, .f32⟩
  | .hbm, ⟨19, _⟩ => ⟨S152x1024, .f32⟩
  | .hbm, ⟨20, _⟩ => ⟨S_, .f32⟩
  | .hbm, ⟨21, _⟩ => ⟨S152x1024, .f32⟩
  | .hbm, ⟨22, _⟩ => ⟨S152x1024, .f32⟩
  | .hbm, ⟨23, _⟩ => ⟨S152x1024, .f32⟩
  | .hbm, ⟨24, _⟩ => ⟨S_, .f32⟩
  | .hbm, ⟨25, _⟩ => ⟨S152x1024, .f32⟩
  | .hbm, ⟨26, _⟩ => ⟨S152x1024, .f32⟩
  | .hbm, ⟨27, _⟩ => ⟨S_, .f32⟩
  | .hbm, ⟨28, _⟩ => ⟨S152x1024, .f32⟩
  | .hbm, ⟨29, _⟩ => ⟨S152x1024, .f32⟩
  | .hbm, ⟨30, _⟩ => ⟨S152x1024, .f32⟩
  | .hbm, ⟨31, _⟩ => ⟨S_, .f32⟩
  | .hbm, ⟨32, _⟩ => ⟨S152x1024, .f32⟩
  | .hbm, ⟨33, _⟩ => ⟨S152x1024, .f32⟩
  | .hbm, ⟨34, _⟩ => ⟨S152x1024, .f32⟩
  | .hbm, ⟨35, _⟩ => ⟨S_, .f32⟩
  | .hbm, ⟨36, _⟩ => ⟨S152x1024, .f32⟩
  | .hbm, ⟨37, _⟩ => ⟨S152x1024, .f32⟩
  | .hbm, ⟨38, _⟩ => ⟨S152x1024, .f32⟩
  | .hbm, ⟨39, _⟩ => ⟨S_, .f32⟩
  | .hbm, ⟨40, _⟩ => ⟨S152x1024, .f32⟩
  | .hbm, ⟨41, _⟩ => ⟨S152x1024, .f32⟩
  | .hbm, ⟨42, _⟩ => ⟨S1x152x1024, .f32⟩
  | .hbm, ⟨43, _⟩ => ⟨S1x152x1024, .f32⟩
  | .hbm, ⟨44, _⟩ => ⟨S1x152x1024, .f32⟩
  | .hbm, ⟨45, _⟩ => ⟨S1x152x1024, .f32⟩
  | _, _ => ⟨S8x152x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptUpB.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩
abbrev S1x1024x704 : Shape := ⟨3, ![1, 1024, 704]⟩
abbrev S1024x704 : Shape := ⟨2, ![1024, 704]⟩

abbrev nBuf : Space → Nat
  | .hbm => 16
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S1x1024x704, .f32⟩
  | .hbm, ⟨9, _⟩ => ⟨S1024x704, .f32⟩
  | .hbm, ⟨10, _⟩ => ⟨S1x1024x704, .f32⟩
  | .hbm, ⟨11, _⟩ => ⟨S1024x704, .f32⟩
  | .hbm, ⟨12, _⟩ => ⟨S1x1024x704, .f32⟩
  | .hbm, ⟨13, _⟩ => ⟨S1024x704, .f32⟩
  | .hbm, ⟨14, _⟩ => ⟨S1x1024x704, .f32⟩
  | .hbm, ⟨15, _⟩ => ⟨S1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptUpBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptUpBIdeal.lean ====
abbrev S8x1024x704 : Shape := ⟨3, ![8, 1024, 704]⟩
abbrev S2x1024x704 : Shape := ⟨3, ![2, 1024, 704]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S1x1024x704, .f32⟩
  | .hbm, ⟨5, _⟩ => ⟨S1024x704, .f32⟩
  | .hbm, ⟨6, _⟩ => ⟨S1x1024x704, .f32⟩
  | .hbm, ⟨7, _⟩ => ⟨S1024x704, .f32⟩
  | .hbm, ⟨8, _⟩ => ⟨S1x1024x704, .f32⟩
  | .hbm, ⟨9, _⟩ => ⟨S1024x704, .f32⟩
  | .hbm, ⟨10, _⟩ => ⟨S8x1024x704, .f32⟩
  | .hbm, ⟨11, _⟩ => ⟨S_, .f32⟩
  | .hbm, ⟨12, _⟩ => ⟨S1024x704, .f32⟩
  | .hbm, ⟨13, _⟩ => ⟨S_, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptUpA.lean ====
abbrev S8x1024x704 : Shape := ⟨3, ![8, 1024, 704]⟩
abbrev S2x1024x704 : Shape := ⟨3, ![2, 1024, 704]⟩
abbrev S8x256x704 : Shape := ⟨3, ![8, 256, 704]⟩
abbrev S1x256x704 : Shape := ⟨3, ![1, 256, 704]⟩
abbrev S256x704 : Shape := ⟨2, ![256, 704]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S2x1024x704, .f32⟩
  | .local _ .vmem, ⟨0, _⟩ => ⟨S8x256x704, .bf16⟩
  | .local _ .vmem, ⟨1, _⟩ => ⟨S8x256x704, .bf16⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | .local _ .vmem, ⟨14, _⟩ => ⟨S1x256x704, .f32⟩
  | .local _ .vmem, ⟨15, _⟩ => ⟨S1x256x704, .f32⟩
  | _, _ => ⟨S8x1024x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptUpAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptUpAIdeal.lean ====
abbrev S8x1024x704 : Shape := ⟨3, ![8, 1024, 704]⟩
abbrev S2x1024x704 : Shape := ⟨3, ![2, 1024, 704]⟩
abbrev S1x1024x704 : Shape := ⟨3, ![1, 1024, 704]⟩
abbrev S1024x704 : Shape := ⟨2, ![1024, 704]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x1024x704, .bf16⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .hbm, ⟨7, _⟩ => ⟨S2x1024x704, .f32⟩
  | .hbm, ⟨8, _⟩ => ⟨S1x1024x704, .f32⟩
  | .hbm, ⟨9, _⟩ => ⟨S1024x704, .f32⟩
  | .hbm, ⟨10, _⟩ => ⟨S1x1024x704, .f32⟩
  | .hbm, ⟨11, _⟩ => ⟨S1024x704, .f32⟩
  | .hbm, ⟨12, _⟩ => ⟨S1x1024x704, .f32⟩
  | .hbm, ⟨13, _⟩ => ⟨S1024x704, .f32⟩
  | .hbm, ⟨14, _⟩ => ⟨S8x1024x704, .f32⟩
  | .hbm, ⟨15, _⟩ => ⟨S_, .f32⟩
  | .hbm, ⟨16, _⟩ => ⟨S1024x704, .f32⟩
  | .hbm, ⟨17, _⟩ => ⟨S_, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S1024x704, .f32⟩
  | .hbm, ⟨32, _⟩ => ⟨S_, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S1024x704, .f32⟩
  | .hbm, ⟨47, _⟩ => ⟨S_, .f32⟩
  | .hbm, ⟨48, _⟩ => ⟨S1024x704, .f32⟩
  | .hbm, ⟨49, _⟩ => ⟨S1024x704, .f32⟩
  | .hbm, ⟨50, _⟩ => ⟨S1x1024x704, .f32⟩
  | .hbm, ⟨51, _⟩ => ⟨S1024x704, .f32⟩
  | .hbm, ⟨52, _⟩ => ⟨S1x1024x704, .f32⟩
  | .hbm, ⟨53, _⟩ => ⟨S1x1024x704, .f32⟩
  | .hbm, ⟨54, _⟩ => ⟨S2x1024x704, .f32⟩
  | .hbm, ⟨55, _⟩ => ⟨S1x1024x704, .f32⟩
  | .hbm, ⟨56, _⟩ => ⟨S1024x704, .f32⟩
  | .hbm, ⟨57, _⟩ => ⟨S1x1024x704, .f32⟩
  | .hbm, ⟨58, _⟩ => ⟨S1x1024x704, .f32⟩
  | .hbm, ⟨59, _⟩ => ⟨S2x1024x704, .f32⟩
  | .hbm, ⟨60, _⟩ => ⟨S1x1024x704, .f32⟩
  | .hbm, ⟨61, _⟩ => ⟨S1024x704, .f32⟩
  | .hbm, ⟨62, _⟩ => ⟨S1x1024x704, .f32⟩
  | .hbm, ⟨63, _⟩ => ⟨S1x1024x704, .f32⟩
  | .hbm, ⟨64, _⟩ => ⟨S2x1024x704, .f32⟩
  | .hbm, ⟨65, _⟩ => ⟨S1x1024x704, .f32⟩
  | .hbm, ⟨66, _⟩ => ⟨S1024x704, .f32⟩
  | .hbm, ⟨67, _⟩ => ⟨S1x1024x704, .f32⟩
  | .hbm, ⟨68, _⟩ => ⟨S1x1024x704, .f32⟩
  | .hbm, ⟨69, _⟩ => ⟨S2x1024x704, .f32⟩
  | _, _ => ⟨S8x1024x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptDownB.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩
abbrev S1x352x1024 : Shape := ⟨3, ![1, 352, 1024]⟩
abbrev S352x1024 : Shape := ⟨2, ![352, 1024]⟩

abbrev nBuf : Space → Nat
  | .hbm => 16
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S1x352x1024, .f32⟩
  | .hbm, ⟨9, _⟩ => ⟨S352x1024, .f32⟩
  | .hbm, ⟨10, _⟩ => ⟨S1x352x1024, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S1x352x1024, .f32⟩
  | .hbm, ⟨15, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptDownBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptDownBIdeal.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S1x352x1024, .f32⟩
  | .hbm, ⟨5, _⟩ => ⟨S352x1024, .f32⟩
  | .hbm, ⟨6, _⟩ => ⟨S1x352x1024, .f32⟩
  | .hbm, ⟨7, _⟩ => ⟨S352x1024, .f32⟩
  | .hbm, ⟨8, _⟩ => ⟨S1x352x1024, .f32⟩
  | .hbm, ⟨9, _⟩ => ⟨S352x1024, .f32⟩
  | .hbm, ⟨10, _⟩ => ⟨S8x352x1024, .f32⟩
  | .hbm, ⟨11, _⟩ => ⟨S_, .f32⟩
  | .hbm, ⟨12, _⟩ => ⟨S352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptDownA.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptDownAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptDownAIdeal.lean ====
abbrev S8x352x1024 : Shape := ⟨3, ![8, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S1x352x1024, .f32⟩
  | .hbm, ⟨9, _⟩ => ⟨S352x1024, .f32⟩
  | .hbm, ⟨10, _⟩ => ⟨S1x352x1024, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S8x352x1024, .f32⟩
  | .hbm, ⟨15, _⟩ => ⟨S_, .f32⟩
  | .hbm, ⟨16, _⟩ => ⟨S352x1024, .f32⟩
  | .hbm, ⟨17, _⟩ => ⟨S_, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S352x1024, .f32⟩
  | .hbm, ⟨28, _⟩ => ⟨S_, .f32⟩
  | .hbm, ⟨29, _⟩ => ⟨S352x1024, .f32⟩
  | .hbm, ⟨30, _⟩ => ⟨S352x1024, .f32⟩
  | .hbm, ⟨31, _⟩ => ⟨S352x1024, .f32⟩
  | .hbm, ⟨32, _⟩ => ⟨S_, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S352x1024, .f32⟩
  | .hbm, ⟨43, _⟩ => ⟨S_, .f32⟩
  | .hbm, ⟨44, _⟩ => ⟨S352x1024, .f32⟩
  | .hbm, ⟨45, _⟩ => ⟨S352x1024, .f32⟩
  | .hbm, ⟨46, _⟩ => ⟨S352x1024, .f32⟩
  | .hbm, ⟨47, _⟩ => ⟨S_, .f32⟩
  | .hbm, ⟨48, _⟩ => ⟨S352x1024, .f32⟩
  | .hbm, ⟨49, _⟩ => ⟨S352x1024, .f32⟩
  | .hbm, ⟨50, _⟩ => ⟨S1x352x1024, .f32⟩
  | .hbm, ⟨51, _⟩ => ⟨S352x1024, .f32⟩
  | .hbm, ⟨52, _⟩ => ⟨S1x352x1024, .f32⟩
  | .hbm, ⟨53, _⟩ => ⟨S1x352x1024, .f32⟩
  | .hbm, ⟨54, _⟩ => ⟨S2x352x1024, .f32⟩
  | .hbm, ⟨55, _⟩ => ⟨S1x352x1024, .f32⟩
  | .hbm, ⟨56, _⟩ => ⟨S352x1024, .f32⟩
  | .hbm, ⟨57, _⟩ => ⟨S1x352x1024, .f32⟩
  | .hbm, ⟨58, _⟩ => ⟨S1x352x1024, .f32⟩
  | .hbm, ⟨59, _⟩ => ⟨S2x352x1024, .f32⟩
  | .hbm, ⟨60, _⟩ => ⟨S1x352x1024, .f32⟩
  | .hbm, ⟨61, _⟩ => ⟨S352x1024, .f32⟩
  | .hbm, ⟨62, _⟩ => ⟨S1x352x1024, .f32⟩
  | .hbm, ⟨63, _⟩ => ⟨S1x352x1024, .f32⟩
  | .hbm, ⟨64, _⟩ => ⟨S2x352x1024, .f32⟩
  | .hbm, ⟨65, _⟩ => ⟨S1x352x1024, .f32⟩
  | .hbm, ⟨66, _⟩ => ⟨S352x1024, .f32⟩
  | .hbm, ⟨67, _⟩ => ⟨S1x352x1024, .f32⟩
  | .hbm, ⟨68, _⟩ => ⟨S1x352x1024, .f32⟩
  | .hbm, ⟨69, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptInB.lean ====
abbrev S8x1024x672 : Shape := ⟨3, ![8, 1024, 672]⟩
abbrev S2x1024x672 : Shape := ⟨3, ![2, 1024, 672]⟩
abbrev S8x256x672 : Shape := ⟨3, ![8, 256, 672]⟩
abbrev S1x256x672 : Shape := ⟨3, ![1, 256, 672]⟩
abbrev S256x672 : Shape := ⟨2, ![256, 672]⟩
abbrev S1x1024x672 : Shape := ⟨3, ![1, 1024, 672]⟩
abbrev S1024x672 : Shape := ⟨2, ![1024, 672]⟩

abbrev nBuf : Space → Nat
  | .hbm => 16
  | .vmem => 16
  | .smem => 0
  | _ => 0

abbrev bufTy : (tb : Table) → Fin (tcTables nBuf tb) → BufTy
  | .hbm, ⟨0, _⟩ => ⟨S8x1024x672, .bf16⟩
  | .hbm, ⟨1, _⟩ => ⟨S2x1024x672, .f32⟩
  | .hbm, ⟨2, _⟩ => ⟨S2x1024x672, .f32⟩
  | .hbm, ⟨3, _⟩ => ⟨S2x1024x672, .f32⟩
  | .hbm, ⟨4, _⟩ => ⟨S2x1024x672, .f32⟩
  | .hbm, ⟨5, _⟩ => ⟨S2x1024x672, .f32⟩
  | .hbm, ⟨6, _⟩ => ⟨S2x1024x672, .f32⟩
  | .hbm, ⟨7, _⟩ => ⟨S2x1024x672, .f32⟩
  | .hbm, ⟨8, _⟩ => ⟨S1x1024x672, .f32⟩
  | .hbm, ⟨9, _⟩ => ⟨S1024x672, .f32⟩
  | .hbm, ⟨10, _⟩ => ⟨S1x1024x672, .f32⟩
  | .hbm, ⟨11, _⟩ => ⟨S1024x672, .f32⟩
  | .hbm, ⟨12, _⟩ => ⟨S1x1024x672, .f32⟩
  | .hbm, ⟨13, _⟩ => ⟨S1024x672, .f32⟩
  | .hbm, ⟨14, _⟩ => ⟨S1x1024x672, .f32⟩
  | .hbm, ⟨15, _⟩ => ⟨S1024x672, .f32⟩
  | .local _ .vmem, ⟨0, _⟩ => ⟨S8x256x672, .bf16⟩
  | .local _ .vmem, ⟨1, _⟩ => ⟨S8x256x672, .bf16⟩
  | .local _ .vmem, ⟨2, _⟩ => ⟨S1x256x672, .f32⟩
  | .local _ .vmem, ⟨3, _⟩ => ⟨S1x256x672, .f32⟩
  | .local _ .vmem, ⟨4, _⟩ => ⟨S1x256x672, .f32⟩
  | .local _ .vmem, ⟨5, _⟩ => ⟨S1x256x672, .f32⟩
  | .local _ .vmem, ⟨6, _⟩ => ⟨S1x256x672, .f32⟩
  | .local _ .vmem, ⟨7, _⟩ => ⟨S1x256x672, .f32⟩
  | .local _ .vmem, ⟨8, _⟩ => ⟨S1x256x672, .f32⟩
  | .local _ .vmem, ⟨9, _⟩ => ⟨S1x256x672, .f32⟩
  | .local _ .vmem, ⟨10, _⟩ => ⟨S1x256x672, .f32⟩
  | .local _ .vmem, ⟨11, _⟩ => ⟨S1x256x672, .f32⟩
  | .local _ .vmem, ⟨12, _⟩ => ⟨S1x256x672, .f32⟩
  | .local _ .vmem, ⟨13, _⟩ => ⟨S1x256x672, .f32⟩
  | .local _ .vmem, ⟨14, _⟩ => ⟨S1x256x672, .f32⟩
  | .local _ .vmem, ⟨15, _⟩ => ⟨S1x256x672, .f32⟩
  | _, _ => ⟨S8x1024x672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S8x256x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x672 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptInBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptInBIdeal.lean ====
abbrev S8x1024x672 : Shape := ⟨3, ![8, 1024, 672]⟩
abbrev S2x1024x672 : Shape := ⟨3, ![2, 1024, 672]⟩
abbrev S1x1024x672 : Shape := ⟨3, ![1, 1024, 672]⟩
abbrev S1024x672 : Shape := ⟨2, ![1024, 672]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x1024x672, .bf16⟩
  | .hbm, ⟨1, _⟩ => ⟨S2x1024x672, .f32⟩
  | .hbm, ⟨2, _⟩ => ⟨S2x1024x672, .f32⟩
  | .hbm, ⟨3, _⟩ => ⟨S2x1024x672, .f32⟩
  | .hbm, ⟨4, _⟩ => ⟨S1x1024x672, .f32⟩
  | .hbm, ⟨5, _⟩ => ⟨S1024x672, .f32⟩
  | .hbm, ⟨6, _⟩ => ⟨S1x1024x672, .f32⟩
  | .hbm, ⟨7, _⟩ => ⟨S1024x672, .f32⟩
  | .hbm, ⟨8, _⟩ => ⟨S1x1024x672, .f32⟩
  | .hbm, ⟨9, _⟩ => ⟨S1024x672, .f32⟩
  | .hbm, ⟨10, _⟩ => ⟨S8x1024x672, .f32⟩
  | .hbm, ⟨11, _⟩ => ⟨S_, .f32⟩
  | .hbm, ⟨12, _⟩ => ⟨S1024x672, .f32⟩
  | .hbm, ⟨13, _⟩ => ⟨S_, .f32⟩
  | .hbm, ⟨14, _⟩ => ⟨S1024x672, .f32⟩
  | .hbm, ⟨15, _⟩ => ⟨S1024x672, .f32⟩
  | .hbm, ⟨16, _⟩ => ⟨S_, .f32⟩
  | .hbm, ⟨17, _⟩ => ⟨S1024x672, .f32⟩
  | .hbm, ⟨18, _⟩ => ⟨S1024x672, .f32⟩
  | .hbm, ⟨19, _⟩ => ⟨S1024x672, .f32⟩
  | .hbm, ⟨20, _⟩ => ⟨S_, .f32⟩
  | .hbm, ⟨21, _⟩ => ⟨S1024x672, .f32⟩
  | .hbm, ⟨22, _⟩ => ⟨S1024x672, .f32⟩
  | .hbm, ⟨23, _⟩ => ⟨S1024x672, .f32⟩
  | .hbm, ⟨24, _⟩ => ⟨S_, .f32⟩
  | .hbm, ⟨25, _⟩ => ⟨S1024x672, .f32⟩
  | .hbm, ⟨26, _⟩ => ⟨S1024x672, .f32⟩
  | .hbm, ⟨27, _⟩ => ⟨S1024x672, .f32⟩
  | .hbm, ⟨28, _⟩ => ⟨S_, .f32⟩
  | .hbm, ⟨29, _⟩ => ⟨S1024x672, .f32⟩
  | .hbm, ⟨30, _⟩ => ⟨S1024x672, .f32⟩
  | .hbm, ⟨31, _⟩ => ⟨S_, .f32⟩
  | .hbm, ⟨32, _⟩ => ⟨S1024x672, .f32⟩
  | .hbm, ⟨33, _⟩ => ⟨S1024x672, .f32⟩
  | .hbm, ⟨34, _⟩ => ⟨S1024x672, .f32⟩
  | .hbm, ⟨35, _⟩ => ⟨S_, .f32⟩
  | .hbm, ⟨36, _⟩ => ⟨S1024x672, .f32⟩
  | .hbm, ⟨37, _⟩ => ⟨S1024x672, .f32⟩
  | .hbm, ⟨38, _⟩ => ⟨S1024x672, .f32⟩
  | .hbm, ⟨39, _⟩ => ⟨S_, .f32⟩
  | .hbm, ⟨40, _⟩ => ⟨S1024x672, .f32⟩
  | .hbm, ⟨41, _⟩ => ⟨S1024x672, .f32⟩
  | .hbm, ⟨42, _⟩ => ⟨S1024x672, .f32⟩
  | .hbm, ⟨43, _⟩ => ⟨S_, .f32⟩
  | .hbm, ⟨44, _⟩ => ⟨S1024x672, .f32⟩
  | .hbm, ⟨45, _⟩ => ⟨S1024x672, .f32⟩
  | _, _ => ⟨S8x1024x672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptInA.lean ====
abbrev S8x1024x672 : Shape := ⟨3, ![8, 1024, 672]⟩
abbrev S2x1024x672 : Shape := ⟨3, ![2, 1024, 672]⟩
abbrev S8x256x672 : Shape := ⟨3, ![8, 256, 672]⟩
abbrev S1x256x672 : Shape := ⟨3, ![1, 256, 672]⟩
abbrev S256x672 : Shape := ⟨2, ![256, 672]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x672, .bf16⟩
  | .hbm, ⟨1, _⟩ => ⟨S2x1024x672, .f32⟩
  | .hbm, ⟨2, _⟩ => ⟨S2x1024x672, .f32⟩
  | .hbm, ⟨3, _⟩ => ⟨S2x1024x672, .f32⟩
  | .hbm, ⟨4, _⟩ => ⟨S2x1024x672, .f32⟩
  | .hbm, ⟨5, _⟩ => ⟨S2x1024x672, .f32⟩
  | .hbm, ⟨6, _⟩ => ⟨S2x1024x672, .f32⟩
  | .hbm, ⟨7, _⟩ => ⟨S2x1024x672, .f32⟩
  | .hbm, ⟨8, _⟩ => ⟨S2x1024x672, .f32⟩
  | .hbm, ⟨9, _⟩ => ⟨S2x1024x672, .f32⟩
  | .hbm, ⟨10, _⟩ => ⟨S2x1024x672, .f32⟩
  | .hbm, ⟨11, _⟩ => ⟨S2x1024x672, .f32⟩
  | .local _ .vmem, ⟨0, _⟩ => ⟨S8x256x672, .bf16⟩
  | .local _ .vmem, ⟨1, _⟩ => ⟨S8x256x672, .bf16⟩
  | .local _ .vmem, ⟨2, _⟩ => ⟨S1x256x672, .f32⟩
  | .local _ .vmem, ⟨3, _⟩ => ⟨S1x256x672, .f32⟩
  | .local _ .vmem, ⟨4, _⟩ => ⟨S1x256x672, .f32⟩
  | .local _ .vmem, ⟨5, _⟩ => ⟨S1x256x672, .f32⟩
  | .local _ .vmem, ⟨6, _⟩ => ⟨S1x256x672, .f32⟩
  | .local _ .vmem, ⟨7, _⟩ => ⟨S1x256x672, .f32⟩
  | .local _ .vmem, ⟨8, _⟩ => ⟨S1x256x672, .f32⟩
  | .local _ .vmem, ⟨9, _⟩ => ⟨S1x256x672, .f32⟩
  | .local _ .vmem, ⟨10, _⟩ => ⟨S1x256x672, .f32⟩
  | .local _ .vmem, ⟨11, _⟩ => ⟨S1x256x672, .f32⟩
  | .local _ .vmem, ⟨12, _⟩ => ⟨S1x256x672, .f32⟩
  | .local _ .vmem, ⟨13, _⟩ => ⟨S1x256x672, .f32⟩
  | .local _ .vmem, ⟨14, _⟩ => ⟨S1x256x672, .f32⟩
  | .local _ .vmem, ⟨15, _⟩ => ⟨S1x256x672, .f32⟩
  | _, _ => ⟨S8x1024x672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x672 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x672 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x672 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x672 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x672 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x672 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x672 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelOptInAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptInAIdeal.lean ====
abbrev S8x1024x672 : Shape := ⟨3, ![8, 1024, 672]⟩
abbrev S2x1024x672 : Shape := ⟨3, ![2, 1024, 672]⟩
abbrev S1x1024x672 : Shape := ⟨3, ![1, 1024, 672]⟩
abbrev S1024x672 : Shape := ⟨2, ![1024, 672]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x1024x672, .bf16⟩
  | .hbm, ⟨1, _⟩ => ⟨S2x1024x672, .f32⟩
  | .hbm, ⟨2, _⟩ => ⟨S2x1024x672, .f32⟩
  | .hbm, ⟨3, _⟩ => ⟨S2x1024x672, .f32⟩
  | .hbm, ⟨4, _⟩ => ⟨S2x1024x672, .f32⟩
  | .hbm, ⟨5, _⟩ => ⟨S2x1024x672, .f32⟩
  | .hbm, ⟨6, _⟩ => ⟨S2x1024x672, .f32⟩
  | .hbm, ⟨7, _⟩ => ⟨S2x1024x672, .f32⟩
  | .hbm, ⟨8, _⟩ => ⟨S1x1024x672, .f32⟩
  | .hbm, ⟨9, _⟩ => ⟨S1024x672, .f32⟩
  | .hbm, ⟨10, _⟩ => ⟨S1x1024x672, .f32⟩
  | .hbm, ⟨11, _⟩ => ⟨S1024x672, .f32⟩
  | .hbm, ⟨12, _⟩ => ⟨S1x1024x672, .f32⟩
  | .hbm, ⟨13, _⟩ => ⟨S1024x672, .f32⟩
  | .hbm, ⟨14, _⟩ => ⟨S8x1024x672, .f32⟩
  | .hbm, ⟨15, _⟩ => ⟨S_, .f32⟩
  | .hbm, ⟨16, _⟩ => ⟨S1024x672, .f32⟩
  | .hbm, ⟨17, _⟩ => ⟨S_, .f32⟩
  | .hbm, ⟨18, _⟩ => ⟨S1024x672, .f32⟩
  | .hbm, ⟨19, _⟩ => ⟨S1024x672, .f32⟩
  | .hbm, ⟨20, _⟩ => ⟨S_, .f32⟩
  | .hbm, ⟨21, _⟩ => ⟨S1024x672, .f32⟩
  | .hbm, ⟨22, _⟩ => ⟨S1024x672, .f32⟩
  | .hbm, ⟨23, _⟩ => ⟨S1024x672, .f32⟩
  | .hbm, ⟨24, _⟩ => ⟨S_, .f32⟩
  | .hbm, ⟨25, _⟩ => ⟨S1024x672, .f32⟩
  | .hbm, ⟨26, _⟩ => ⟨S1024x672, .f32⟩
  | .hbm, ⟨27, _⟩ => ⟨S1024x672, .f32⟩
  | .hbm, ⟨28, _⟩ => ⟨S_, .f32⟩
  | .hbm, ⟨29, _⟩ => ⟨S1024x672, .f32⟩
  | .hbm, ⟨30, _⟩ => ⟨S1024x672, .f32⟩
  | .hbm, ⟨31, _⟩ => ⟨S1024x672, .f32⟩
  | .hbm, ⟨32, _⟩ => ⟨S_, .f32⟩
  | .hbm, ⟨33, _⟩ => ⟨S1024x672, .f32⟩
  | .hbm, ⟨34, _⟩ => ⟨S1024x672, .f32⟩
  | .hbm, ⟨35, _⟩ => ⟨S_, .f32⟩
  | .hbm, ⟨36, _⟩ => ⟨S1024x672, .f32⟩
  | .hbm, ⟨37, _⟩ => ⟨S1024x672, .f32⟩
  | .hbm, ⟨38, _⟩ => ⟨S1024x672, .f32⟩
  | .hbm, ⟨39, _⟩ => ⟨S_, .f32⟩
  | .hbm, ⟨40, _⟩ => ⟨S1024x672, .f32⟩
  | .hbm, ⟨41, _⟩ => ⟨S1024x672, .f32⟩
  | .hbm, ⟨42, _⟩ => ⟨S1024x672, .f32⟩
  | .hbm, ⟨43, _⟩ => ⟨S_, .f32⟩
  | .hbm, ⟨44, _⟩ => ⟨S1024x672, .f32⟩
  | .hbm, ⟨45, _⟩ => ⟨S1024x672, .f32⟩
  | .hbm, ⟨46, _⟩ => ⟨S1024x672, .f32⟩
  | .hbm, ⟨47, _⟩ => ⟨S_, .f32⟩
  | .hbm, ⟨48, _⟩ => ⟨S1024x672, .f32⟩
  | .hbm, ⟨49, _⟩ => ⟨S1024x672, .f32⟩
  | .hbm, ⟨50, _⟩ => ⟨S1x1024x672, .f32⟩
  | .hbm, ⟨51, _⟩ => ⟨S1024x672, .f32⟩
  | .hbm, ⟨52, _⟩ => ⟨S1x1024x672, .f32⟩
  | .hbm, ⟨53, _⟩ => ⟨S1x1024x672, .f32⟩
  | .hbm, ⟨54, _⟩ => ⟨S2x1024x672, .f32⟩
  | .hbm, ⟨55, _⟩ => ⟨S1x1024x672, .f32⟩
  | .hbm, ⟨56, _⟩ => ⟨S1024x672, .f32⟩
  | .hbm, ⟨57, _⟩ => ⟨S1x1024x672, .f32⟩
  | .hbm, ⟨58, _⟩ => ⟨S1x1024x672, .f32⟩
  | .hbm, ⟨59, _⟩ => ⟨S2x1024x672, .f32⟩
  | .hbm, ⟨60, _⟩ => ⟨S1x1024x672, .f32⟩
  | .hbm, ⟨61, _⟩ => ⟨S1024x672, .f32⟩
  | .hbm, ⟨62, _⟩ => ⟨S1x1024x672, .f32⟩
  | .hbm, ⟨63, _⟩ => ⟨S1x1024x672, .f32⟩
  | .hbm, ⟨64, _⟩ => ⟨S2x1024x672, .f32⟩
  | .hbm, ⟨65, _⟩ => ⟨S1x1024x672, .f32⟩
  | .hbm, ⟨66, _⟩ => ⟨S1024x672, .f32⟩
  | .hbm, ⟨67, _⟩ => ⟨S1x1024x672, .f32⟩
  | .hbm, ⟨68, _⟩ => ⟨S1x1024x672, .f32⟩
  | .hbm, ⟨69, _⟩ => ⟨S2x1024x672, .f32⟩
  | _, _ => ⟨S8x1024x672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptGluB.lean ====
abbrev S8x256x64 : Shape := ⟨3, ![8, 256, 64]⟩
abbrev S2x256x64 : Shape := ⟨3, ![2, 256, 64]⟩
abbrev S1x256x64 : Shape := ⟨3, ![1, 256, 64]⟩
abbrev S256x64 : Shape := ⟨2, ![256, 64]⟩

abbrev nBuf : Space → Nat
  | .hbm => 16
  | .vmem => 8
  | .smem => 0
  | _ => 0

abbrev bufTy : (tb : Table) → Fin (tcTables nBuf tb) → BufTy
  | .hbm, ⟨0, _⟩ => ⟨S8x256x64, .bf16⟩
  | .hbm, ⟨1, _⟩ => ⟨S2x256x64, .f32⟩
  | .hbm, ⟨2, _⟩ => ⟨S2x256x64, .f32⟩
  | .hbm, ⟨3, _⟩ => ⟨S2x256x64, .f32⟩
  | .hbm, ⟨4, _⟩ => ⟨S2x256x64, .f32⟩
  | .hbm, ⟨5, _⟩ => ⟨S2x256x64, .f32⟩
  | .hbm, ⟨6, _⟩ => ⟨S2x256x64, .f32⟩
  | .hbm, ⟨7, _⟩ => ⟨S2x256x64, .f32⟩
  | .hbm, ⟨8, _⟩ => ⟨S1x256x64, .f32⟩
  | .hbm, ⟨9, _⟩ => ⟨S256x64, .f32⟩
  | .hbm, ⟨10, _⟩ => ⟨S1x256x64, .f32⟩
  | .hbm, ⟨11, _⟩ => ⟨S256x64, .f32⟩
  | .hbm, ⟨12, _⟩ => ⟨S1x256x64, .f32⟩
  | .hbm, ⟨13, _⟩ => ⟨S256x64, .f32⟩
  | .hbm, ⟨14, _⟩ => ⟨S1x256x64, .f32⟩
  | .hbm, ⟨15, _⟩ => ⟨S256x64, .f32⟩
  | .local _ .vmem, ⟨0, _⟩ => ⟨S8x256x64, .bf16⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptGluBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptGluBIdeal.lean ====
abbrev S8x256x64 : Shape := ⟨3, ![8, 256, 64]⟩
abbrev S2x256x64 : Shape := ⟨3, ![2, 256, 64]⟩
abbrev S1x256x64 : Shape := ⟨3, ![1, 256, 64]⟩
abbrev S256x64 : Shape := ⟨2, ![256, 64]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S2x256x64, .f32⟩
  | .hbm, ⟨2, _⟩ => ⟨S2x256x64, .f32⟩
  | .hbm, ⟨3, _⟩ => ⟨S2x256x64, .f32⟩
  | .hbm, ⟨4, _⟩ => ⟨S1x256x64, .f32⟩
  | .hbm, ⟨5, _⟩ => ⟨S256x64, .f32⟩
  | .hbm, ⟨6, _⟩ => ⟨S1x256x64, .f32⟩
  | .hbm, ⟨7, _⟩ => ⟨S256x64, .f32⟩
  | .hbm, ⟨8, _⟩ => ⟨S1x256x64, .f32⟩
  | .hbm, ⟨9, _⟩ => ⟨S256x64, .f32⟩
  | .hbm, ⟨10, _⟩ => ⟨S8x256x64, .f32⟩
  | .hbm, ⟨11, _⟩ => ⟨S_, .f32⟩
  | .hbm, ⟨12, _⟩ => ⟨S256x64, .f32⟩
  | .hbm, ⟨13, _⟩ => ⟨S_, .f32⟩
  | .hbm, ⟨14, _⟩ => ⟨S256x64, .f32⟩
  | .hbm, ⟨15, _⟩ => ⟨S256x64, .f32⟩
  | .hbm, ⟨16, _⟩ => ⟨S_, .f32⟩
  | .hbm, ⟨17, _⟩ => ⟨S256x64, .f32⟩
  | .hbm, ⟨18, _⟩ => ⟨S256x64, .f32⟩
  | .hbm, ⟨19, _⟩ => ⟨S256x64, .f32⟩
  | .hbm, ⟨20, _⟩ => ⟨S_, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S_, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S_, .f32⟩
  | .hbm, ⟨29, _⟩ => ⟨S256x64, .f32⟩
  | .hbm, ⟨30, _⟩ => ⟨S256x64, .f32⟩
  | .hbm, ⟨31, _⟩ => ⟨S_, .f32⟩
  | .hbm, ⟨32, _⟩ => ⟨S256x64, .f32⟩
  | .hbm, ⟨33, _⟩ => ⟨S256x64, .f32⟩
  | .hbm, ⟨34, _⟩ => ⟨S256x64, .f32⟩
  | .hbm, ⟨35, _⟩ => ⟨S_, .f32⟩
  | .hbm, ⟨36, _⟩ => ⟨S256x64, .f32⟩
  | .hbm, ⟨37, _⟩ => ⟨S256x64, .f32⟩
  | .hbm, ⟨38, _⟩ => ⟨S256x64, .f32⟩
  | .hbm, ⟨39, _⟩ => ⟨S_, .f32⟩
  | .hbm, ⟨40, _⟩ => ⟨S256x64, .f32⟩
  | .hbm, ⟨41, _⟩ => ⟨S256x64, .f32⟩
  | .hbm, ⟨42, _⟩ => ⟨S256x64, .f32⟩
  | .hbm, ⟨43, _⟩ => ⟨S_, .f32⟩
  | .hbm, ⟨44, _⟩ => ⟨S256x64, .f32⟩
  | .hbm, ⟨45, _⟩ => ⟨S256x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptGluA.lean ====
abbrev S8x256x64 : Shape := ⟨3, ![8, 256, 64]⟩
abbrev S2x256x64 : Shape := ⟨3, ![2, 256, 64]⟩
abbrev S1x256x64 : Shape := ⟨3, ![1, 256, 64]⟩
abbrev S256x64 : Shape := ⟨2, ![256, 64]⟩

abbrev nBuf : Space → Nat
  | .hbm => 12
  | .vmem => 8
  | .smem => 0
  | _ => 0

abbrev bufTy : (tb : Table) → Fin (tcTables nBuf tb) → BufTy
  | .hbm, ⟨0, _⟩ => ⟨S8x256x64, .bf16⟩
  | .hbm, ⟨1, _⟩ => ⟨S2x256x64, .f32⟩
  | .hbm, ⟨2, _⟩ => ⟨S2x256x64, .f32⟩
  | .hbm, ⟨3, _⟩ => ⟨S2x256x64, .f32⟩
  | .hbm, ⟨4, _⟩ => ⟨S2x256x64, .f32⟩
  | .hbm, ⟨5, _⟩ => ⟨S2x256x64, .f32⟩
  | .hbm, ⟨6, _⟩ => ⟨S2x256x64, .f32⟩
  | .hbm, ⟨7, _⟩ => ⟨S2x256x64, .f32⟩
  | .hbm, ⟨8, _⟩ => ⟨S2x256x64, .f32⟩
  | .hbm, ⟨9, _⟩ => ⟨S2x256x64, .f32⟩
  | .hbm, ⟨10, _⟩ => ⟨S2x256x64, .f32⟩
  | .hbm, ⟨11, _⟩ => ⟨S2x256x64, .f32⟩
  | .local _ .vmem, ⟨0, _⟩ => ⟨S8x256x64, .bf16⟩
  | .local _ .vmem, ⟨1, _⟩ => ⟨S1x256x64, .f32⟩
  | .local _ .vmem, ⟨2, _⟩ => ⟨S1x256x64, .f32⟩
  | .local _ .vmem, ⟨3, _⟩ => ⟨S1x256x64, .f32⟩
  | .local _ .vmem, ⟨4, _⟩ => ⟨S1x256x64, .f32⟩
  | .local _ .vmem, ⟨5, _⟩ => ⟨S1x256x64, .f32⟩
  | .local _ .vmem, ⟨6, _⟩ => ⟨S1x256x64, .f32⟩
  | .local _ .vmem, ⟨7, _⟩ => ⟨S1x256x64, .f32⟩
  | _, _ => ⟨S8x256x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptGluAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptGluAIdeal.lean ====
abbrev S8x256x64 : Shape := ⟨3, ![8, 256, 64]⟩
abbrev S2x256x64 : Shape := ⟨3, ![2, 256, 64]⟩
abbrev S1x256x64 : Shape := ⟨3, ![1, 256, 64]⟩
abbrev S256x64 : Shape := ⟨2, ![256, 64]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x256x64, .bf16⟩
  | .hbm, ⟨1, _⟩ => ⟨S2x256x64, .f32⟩
  | .hbm, ⟨2, _⟩ => ⟨S2x256x64, .f32⟩
  | .hbm, ⟨3, _⟩ => ⟨S2x256x64, .f32⟩
  | .hbm, ⟨4, _⟩ => ⟨S2x256x64, .f32⟩
  | .hbm, ⟨5, _⟩ => ⟨S2x256x64, .f32⟩
  | .hbm, ⟨6, _⟩ => ⟨S2x256x64, .f32⟩
  | .hbm, ⟨7, _⟩ => ⟨S2x256x64, .f32⟩
  | .hbm, ⟨8, _⟩ => ⟨S1x256x64, .f32⟩
  | .hbm, ⟨9, _⟩ => ⟨S256x64, .f32⟩
  | .hbm, ⟨10, _⟩ => ⟨S1x256x64, .f32⟩
  | .hbm, ⟨11, _⟩ => ⟨S256x64, .f32⟩
  | .hbm, ⟨12, _⟩ => ⟨S1x256x64, .f32⟩
  | .hbm, ⟨13, _⟩ => ⟨S256x64, .f32⟩
  | .hbm, ⟨14, _⟩ => ⟨S8x256x64, .f32⟩
  | .hbm, ⟨15, _⟩ => ⟨S_, .f32⟩
  | .hbm, ⟨16, _⟩ => ⟨S256x64, .f32⟩
  | .hbm, ⟨17, _⟩ => ⟨S_, .f32⟩
  | .hbm, ⟨18, _⟩ => ⟨S256x64, .f32⟩
  | .hbm, ⟨19, _⟩ => ⟨S256x64, .f32⟩
  | .hbm, ⟨20, _⟩ => ⟨S_, .f32⟩
  | .hbm, ⟨21, _⟩ => ⟨S256x64, .f32⟩
  | .hbm, ⟨22, _⟩ => ⟨S256x64, .f32⟩
  | .hbm, ⟨23, _⟩ => ⟨S256x64, .f32⟩
  | .hbm, ⟨24, _⟩ => ⟨S_, .f32⟩
  | .hbm, ⟨25, _⟩ => ⟨S256x64, .f32⟩
  | .hbm, ⟨26, _⟩ => ⟨S256x64, .f32⟩
  | .hbm, ⟨27, _⟩ => ⟨S256x64, .f32⟩
  | .hbm, ⟨28, _⟩ => ⟨S_, .f32⟩
  | .hbm, ⟨29, _⟩ => ⟨S256x64, .f32⟩
  | .hbm, ⟨30, _⟩ => ⟨S256x64, .f32⟩
  | .hbm, ⟨31, _⟩ => ⟨S256x64, .f32⟩
  | .hbm, ⟨32, _⟩ => ⟨S_, .f32⟩
  | .hbm, ⟨33, _⟩ => ⟨S256x64, .f32⟩
  | .hbm, ⟨34, _⟩ => ⟨S256x64, .f32⟩
  | .hbm, ⟨35, _⟩ => ⟨S_, .f32⟩
  | .hbm, ⟨36, _⟩ => ⟨S256x64, .f32⟩
  | .hbm, ⟨37, _⟩ => ⟨S256x64, .f32⟩
  | .hbm, ⟨38, _⟩ => ⟨S256x64, .f32⟩
  | .hbm, ⟨39, _⟩ => ⟨S_, .f32⟩
  | .hbm, ⟨40, _⟩ => ⟨S256x64, .f32⟩
  | .hbm, ⟨41, _⟩ => ⟨S256x64, .f32⟩
  | .hbm, ⟨42, _⟩ => ⟨S256x64, .f32⟩
  | .hbm, ⟨43, _⟩ => ⟨S_, .f32⟩
  | .hbm, ⟨44, _⟩ => ⟨S256x64, .f32⟩
  | .hbm, ⟨45, _⟩ => ⟨S256x64, .f32⟩
  | .hbm, ⟨46, _⟩ => ⟨S256x64, .f32⟩
  | .hbm, ⟨47, _⟩ => ⟨S_, .f32⟩
  | .hbm, ⟨48, _⟩ => ⟨S256x64, .f32⟩
  | .hbm, ⟨49, _⟩ => ⟨S256x64, .f32⟩
  | .hbm, ⟨50, _⟩ => ⟨S1x256x64, .f32⟩
  | .hbm, ⟨51, _⟩ => ⟨S256x64, .f32⟩
  | .hbm, ⟨52, _⟩ => ⟨S1x256x64, .f32⟩
  | .hbm, ⟨53, _⟩ => ⟨S1x256x64, .f32⟩
  | .hbm, ⟨54, _⟩ => ⟨S2x256x64, .f32⟩
  | .hbm, ⟨55, _⟩ => ⟨S1x256x64, .f32⟩
  | .hbm, ⟨56, _⟩ => ⟨S256x64, .f32⟩
  | .hbm, ⟨57, _⟩ => ⟨S1x256x64, .f32⟩
  | .hbm, ⟨58, _⟩ => ⟨S1x256x64, .f32⟩
  | .hbm, ⟨59, _⟩ => ⟨S2x256x64, .f32⟩
  | .hbm, ⟨60, _⟩ => ⟨S1x256x64, .f32⟩
  | .hbm, ⟨61, _⟩ => ⟨S256x64, .f32⟩
  | .hbm, ⟨62, _⟩ => ⟨S1x256x64, .f32⟩
  | .hbm, ⟨63, _⟩ => ⟨S1x256x64, .f32⟩
  | .hbm, ⟨64, _⟩ => ⟨S2x256x64, .f32⟩
  | .hbm, ⟨65, _⟩ => ⟨S1x256x64, .f32⟩
  | .hbm, ⟨66, _⟩ => ⟨S256x64, .f32⟩
  | .hbm, ⟨67, _⟩ => ⟨S1x256x64, .f32⟩
  | .hbm, ⟨68, _⟩ => ⟨S1x256x64, .f32⟩
  | .hbm, ⟨69, _⟩ => ⟨S2x256x64, .f32⟩
  | _, _ => ⟨S8x256x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptBrB.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 16
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S1x256x128, .f32⟩
  | .hbm, ⟨9, _⟩ => ⟨S256x128, .f32⟩
  | .hbm, ⟨10, _⟩ => ⟨S1x256x128, .f32⟩
  | .hbm, ⟨11, _⟩ => ⟨S256x128, .f32⟩
  | .hbm, ⟨12, _⟩ => ⟨S1x256x128, .f32⟩
  | .hbm, ⟨13, _⟩ => ⟨S256x128, .f32⟩
  | .hbm, ⟨14, _⟩ => ⟨S1x256x128, .f32⟩
  | .hbm, ⟨15, _⟩ => ⟨S256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptBrBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptBrBIdeal.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S1x256x128, .f32⟩
  | .hbm, ⟨5, _⟩ => ⟨S256x128, .f32⟩
  | .hbm, ⟨6, _⟩ => ⟨S1x256x128, .f32⟩
  | .hbm, ⟨7, _⟩ => ⟨S256x128, .f32⟩
  | .hbm, ⟨8, _⟩ => ⟨S1x256x128, .f32⟩
  | .hbm, ⟨9, _⟩ => ⟨S256x128, .f32⟩
  | .hbm, ⟨10, _⟩ => ⟨S8x256x128, .f32⟩
  | .hbm, ⟨11, _⟩ => ⟨S_, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S_, .f32⟩
  | .hbm, ⟨17, _⟩ => ⟨S256x128, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S_, .f32⟩
  | .hbm, ⟨32, _⟩ => ⟨S256x128, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptBrA.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S2x256x128, .f32⟩
  | .hbm, ⟨9, _⟩ => ⟨S2x256x128, .f32⟩
  | .hbm, ⟨10, _⟩ => ⟨S2x256x128, .f32⟩
  | .hbm, ⟨11, _⟩ => ⟨S2x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptBrAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptBrAIdeal.lean ====
abbrev S8x256x128 : Shape := ⟨3, ![8, 256, 128]⟩
abbrev S2x256x128 : Shape := ⟨3, ![2, 256, 128]⟩
abbrev S1x256x128 : Shape := ⟨3, ![1, 256, 128]⟩
abbrev S256x128 : Shape := ⟨2, ![256, 128]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S2x256x128, .f32⟩
  | .hbm, ⟨2, _⟩ => ⟨S2x256x128, .f32⟩
  | .hbm, ⟨3, _⟩ => ⟨S2x256x128, .f32⟩
  | .hbm, ⟨4, _⟩ => ⟨S2x256x128, .f32⟩
  | .hbm, ⟨5, _⟩ => ⟨S2x256x128, .f32⟩
  | .hbm, ⟨6, _⟩ => ⟨S2x256x128, .f32⟩
  | .hbm, ⟨7, _⟩ => ⟨S2x256x128, .f32⟩
  | .hbm, ⟨8, _⟩ => ⟨S1x256x128, .f32⟩
  | .hbm, ⟨9, _⟩ => ⟨S256x128, .f32⟩
  | .hbm, ⟨10, _⟩ => ⟨S1x256x128, .f32⟩
  | .hbm, ⟨11, _⟩ => ⟨S256x128, .f32⟩
  | .hbm, ⟨12, _⟩ => ⟨S1x256x128, .f32⟩
  | .hbm, ⟨13, _⟩ => ⟨S256x128, .f32⟩
  | .hbm, ⟨14, _⟩ => ⟨S8x256x128, .f32⟩
  | .hbm, ⟨15, _⟩ => ⟨S_, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S_, .f32⟩
  | .hbm, ⟨21, _⟩ => ⟨S256x128, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S_, .f32⟩
  | .hbm, ⟨36, _⟩ => ⟨S256x128, .f32⟩
  | .hbm, ⟨37, _⟩ => ⟨S256x128, .f32⟩
  | .hbm, ⟨38, _⟩ => ⟨S256x128, .f32⟩
  | .hbm, ⟨39, _⟩ => ⟨S_, .f32⟩
  | .hbm, ⟨40, _⟩ => ⟨S256x128, .f32⟩
  | .hbm, ⟨41, _⟩ => ⟨S256x128, .f32⟩
  | .hbm, ⟨42, _⟩ => ⟨S256x128, .f32⟩
  | .hbm, ⟨43, _⟩ => ⟨S_, .f32⟩
  | .hbm, ⟨44, _⟩ => ⟨S256x128, .f32⟩
  | .hbm, ⟨45, _⟩ => ⟨S256x128, .f32⟩
  | .hbm, ⟨46, _⟩ => ⟨S256x128, .f32⟩
  | .hbm, ⟨47, _⟩ => ⟨S_, .f32⟩
  | .hbm, ⟨48, _⟩ => ⟨S256x128, .f32⟩
  | .hbm, ⟨49, _⟩ => ⟨S256x128, .f32⟩
  | .hbm, ⟨50, _⟩ => ⟨S1x256x128, .f32⟩
  | .hbm, ⟨51, _⟩ => ⟨S256x128, .f32⟩
  | .hbm, ⟨52, _⟩ => ⟨S1x256x128, .f32⟩
  | .hbm, ⟨53, _⟩ => ⟨S1x256x128, .f32⟩
  | .hbm, ⟨54, _⟩ => ⟨S2x256x128, .f32⟩
  | .hbm, ⟨55, _⟩ => ⟨S1x256x128, .f32⟩
  | .hbm, ⟨56, _⟩ => ⟨S256x128, .f32⟩
  | .hbm, ⟨57, _⟩ => ⟨S1x256x128, .f32⟩
  | .hbm, ⟨58, _⟩ => ⟨S1x256x128, .f32⟩
  | .hbm, ⟨59, _⟩ => ⟨S2x256x128, .f32⟩
  | .hbm, ⟨60, _⟩ => ⟨S1x256x128, .f32⟩
  | .hbm, ⟨61, _⟩ => ⟨S256x128, .f32⟩
  | .hbm, ⟨62, _⟩ => ⟨S1x256x128, .f32⟩
  | .hbm, ⟨63, _⟩ => ⟨S1x256x128, .f32⟩
  | .hbm, ⟨64, _⟩ => ⟨S2x256x128, .f32⟩
  | .hbm, ⟨65, _⟩ => ⟨S1x256x128, .f32⟩
  | .hbm, ⟨66, _⟩ => ⟨S256x128, .f32⟩
  | .hbm, ⟨67, _⟩ => ⟨S1x256x128, .f32⟩
  | .hbm, ⟨68, _⟩ => ⟨S1x256x128, .f32⟩
  | .hbm, ⟨69, _⟩ => ⟨S2x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptAttnB.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 16
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S1x512x128, .f32⟩
  | .hbm, ⟨9, _⟩ => ⟨S512x128, .f32⟩
  | .hbm, ⟨10, _⟩ => ⟨S1x512x128, .f32⟩
  | .hbm, ⟨11, _⟩ => ⟨S512x128, .f32⟩
  | .hbm, ⟨12, _⟩ => ⟨S1x512x128, .f32⟩
  | .hbm, ⟨13, _⟩ => ⟨S512x128, .f32⟩
  | .hbm, ⟨14, _⟩ => ⟨S1x512x128, .f32⟩
  | .hbm, ⟨15, _⟩ => ⟨S512x128, .f32⟩
  | .local _ .vmem, ⟨0, _⟩ => ⟨S8x512x128, .bf16⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptAttnBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptAttnBIdeal.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S1x512x128, .f32⟩
  | .hbm, ⟨5, _⟩ => ⟨S512x128, .f32⟩
  | .hbm, ⟨6, _⟩ => ⟨S1x512x128, .f32⟩
  | .hbm, ⟨7, _⟩ => ⟨S512x128, .f32⟩
  | .hbm, ⟨8, _⟩ => ⟨S1x512x128, .f32⟩
  | .hbm, ⟨9, _⟩ => ⟨S512x128, .f32⟩
  | .hbm, ⟨10, _⟩ => ⟨S8x512x128, .f32⟩
  | .hbm, ⟨11, _⟩ => ⟨S_, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S_, .f32⟩
  | .hbm, ⟨17, _⟩ => ⟨S512x128, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S_, .f32⟩
  | .hbm, ⟨32, _⟩ => ⟨S512x128, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S_, .f32⟩
  | .hbm, ⟨44, _⟩ => ⟨S512x128, .f32⟩
  | .hbm, ⟨45, _⟩ => ⟨S512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptAttnA.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x512x128, .bf16⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S2x512x128, .f32⟩
  | .hbm, ⟨9, _⟩ => ⟨S2x512x128, .f32⟩
  | .hbm, ⟨10, _⟩ => ⟨S2x512x128, .f32⟩
  | .hbm, ⟨11, _⟩ => ⟨S2x512x128, .f32⟩
  | .local _ .vmem, ⟨0, _⟩ => ⟨S8x512x128, .bf16⟩
  | .local _ .vmem, ⟨1, _⟩ => ⟨S1x512x128, .f32⟩
  | .local _ .vmem, ⟨2, _⟩ => ⟨S1x512x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptAttnAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptAttnAIdeal.lean ====
abbrev S8x512x128 : Shape := ⟨3, ![8, 512, 128]⟩
abbrev S2x512x128 : Shape := ⟨3, ![2, 512, 128]⟩
abbrev S1x512x128 : Shape := ⟨3, ![1, 512, 128]⟩
abbrev S512x128 : Shape := ⟨2, ![512, 128]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S2x512x128, .f32⟩
  | .hbm, ⟨2, _⟩ => ⟨S2x512x128, .f32⟩
  | .hbm, ⟨3, _⟩ => ⟨S2x512x128, .f32⟩
  | .hbm, ⟨4, _⟩ => ⟨S2x512x128, .f32⟩
  | .hbm, ⟨5, _⟩ => ⟨S2x512x128, .f32⟩
  | .hbm, ⟨6, _⟩ => ⟨S2x512x128, .f32⟩
  | .hbm, ⟨7, _⟩ => ⟨S2x512x128, .f32⟩
  | .hbm, ⟨8, _⟩ => ⟨S1x512x128, .f32⟩
  | .hbm, ⟨9, _⟩ => ⟨S512x128, .f32⟩
  | .hbm, ⟨10, _⟩ => ⟨S1x512x128, .f32⟩
  | .hbm, ⟨11, _⟩ => ⟨S512x128, .f32⟩
  | .hbm, ⟨12, _⟩ => ⟨S1x512x128, .f32⟩
  | .hbm, ⟨13, _⟩ => ⟨S512x128, .f32⟩
  | .hbm, ⟨14, _⟩ => ⟨S8x512x128, .f32⟩
  | .hbm, ⟨15, _⟩ => ⟨S_, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S_, .f32⟩
  | .hbm, ⟨21, _⟩ => ⟨S512x128, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S_, .f32⟩
  | .hbm, ⟨36, _⟩ => ⟨S512x128, .f32⟩
  | .hbm, ⟨37, _⟩ => ⟨S512x128, .f32⟩
  | .hbm, ⟨38, _⟩ => ⟨S512x128, .f32⟩
  | .hbm, ⟨39, _⟩ => ⟨S_, .f32⟩
  | .hbm, ⟨40, _⟩ => ⟨S512x128, .f32⟩
  | .hbm, ⟨41, _⟩ => ⟨S512x128, .f32⟩
  | .hbm, ⟨42, _⟩ => ⟨S512x128, .f32⟩
  | .hbm, ⟨43, _⟩ => ⟨S_, .f32⟩
  | .hbm, ⟨44, _⟩ => ⟨S512x128, .f32⟩
  | .hbm, ⟨45, _⟩ => ⟨S512x128, .f32⟩
  | .hbm, ⟨46, _⟩ => ⟨S512x128, .f32⟩
  | .hbm, ⟨47, _⟩ => ⟨S_, .f32⟩
  | .hbm, ⟨48, _⟩ => ⟨S512x128, .f32⟩
  | .hbm, ⟨49, _⟩ => ⟨S512x128, .f32⟩
  | .hbm, ⟨50, _⟩ => ⟨S1x512x128, .f32⟩
  | .hbm, ⟨51, _⟩ => ⟨S512x128, .f32⟩
  | .hbm, ⟨52, _⟩ => ⟨S1x512x128, .f32⟩
  | .hbm, ⟨53, _⟩ => ⟨S1x512x128, .f32⟩
  | .hbm, ⟨54, _⟩ => ⟨S2x512x128, .f32⟩
  | .hbm, ⟨55, _⟩ => ⟨S1x512x128, .f32⟩
  | .hbm, ⟨56, _⟩ => ⟨S512x128, .f32⟩
  | .hbm, ⟨57, _⟩ => ⟨S1x512x128, .f32⟩
  | .hbm, ⟨58, _⟩ => ⟨S1x512x128, .f32⟩
  | .hbm, ⟨59, _⟩ => ⟨S2x512x128, .f32⟩
  | .hbm, ⟨60, _⟩ => ⟨S1x512x128, .f32⟩
  | .hbm, ⟨61, _⟩ => ⟨S512x128, .f32⟩
  | .hbm, ⟨62, _⟩ => ⟨S1x512x128, .f32⟩
  | .hbm, ⟨63, _⟩ => ⟨S1x512x128, .f32⟩
  | .hbm, ⟨64, _⟩ => ⟨S2x512x128, .f32⟩
  | .hbm, ⟨65, _⟩ => ⟨S1x512x128, .f32⟩
  | .hbm, ⟨66, _⟩ => ⟨S512x128, .f32⟩
  | .hbm, ⟨67, _⟩ => ⟨S1x512x128, .f32⟩
  | .hbm, ⟨68, _⟩ => ⟨S1x512x128, .f32⟩
  | .hbm, ⟨69, _⟩ => ⟨S2x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptConvB.lean ====
abbrev S8x31x32 : Shape := ⟨3, ![8, 31, 32]⟩
abbrev S2x31x32 : Shape := ⟨3, ![2, 31, 32]⟩
abbrev S1x31x32 : Shape := ⟨3, ![1, 31, 32]⟩
abbrev S31x32 : Shape := ⟨2, ![31, 32]⟩

abbrev nBuf : Space → Nat
  | .hbm => 16
  | .vmem => 8
  | .smem => 0
  | _ => 0

abbrev bufTy : (tb : Table) → Fin (tcTables nBuf tb) → BufTy
  | .hbm, ⟨0, _⟩ => ⟨S8x31x32, .bf16⟩
  | .hbm, ⟨1, _⟩ => ⟨S2x31x32, .f32⟩
  | .hbm, ⟨2, _⟩ => ⟨S2x31x32, .f32⟩
  | .hbm, ⟨3, _⟩ => ⟨S2x31x32, .f32⟩
  | .hbm, ⟨4, _⟩ => ⟨S2x31x32, .f32⟩
  | .hbm, ⟨5, _⟩ => ⟨S2x31x32, .f32⟩
  | .hbm, ⟨6, _⟩ => ⟨S2x31x32, .f32⟩
  | .hbm, ⟨7, _⟩ => ⟨S2x31x32, .f32⟩
  | .hbm, ⟨8, _⟩ => ⟨S1x31x32, .f32⟩
  | .hbm, ⟨9, _⟩ => ⟨S31x32, .f32⟩
  | .hbm, ⟨10, _⟩ => ⟨S1x31x32, .f32⟩
  | .hbm, ⟨11, _⟩ => ⟨S31x32, .f32⟩
  | .hbm, ⟨12, _⟩ => ⟨S1x31x32, .f32⟩
  | .hbm, ⟨13, _⟩ => ⟨S31x32, .f32⟩
  | .hbm, ⟨14, _⟩ => ⟨S1x31x32, .f32⟩
  | .hbm, ⟨15, _⟩ => ⟨S31x32, .f32⟩
  | .local _ .vmem, ⟨0, _⟩ => ⟨S8x31x32, .bf16⟩
  | .local _ .vmem, ⟨1, _⟩ => ⟨S1x31x32, .f32⟩
  | .local _ .vmem, ⟨2, _⟩ => ⟨S1x31x32, .f32⟩
  | .local _ .vmem, ⟨3, _⟩ => ⟨S1x31x32, .f32⟩
  | .local _ .vmem, ⟨4, _⟩ => ⟨S1x31x32, .f32⟩
  | .local _ .vmem, ⟨5, _⟩ => ⟨S1x31x32, .f32⟩
  | .local _ .vmem, ⟨6, _⟩ => ⟨S1x31x32, .f32⟩
  | .local _ .vmem, ⟨7, _⟩ => ⟨S1x31x32, .f32⟩
  | _, _ => ⟨S8x31x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x31x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptConvBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptConvBIdeal.lean ====
abbrev S8x31x32 : Shape := ⟨3, ![8, 31, 32]⟩
abbrev S2x31x32 : Shape := ⟨3, ![2, 31, 32]⟩
abbrev S1x31x32 : Shape := ⟨3, ![1, 31, 32]⟩
abbrev S31x32 : Shape := ⟨2, ![31, 32]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x31x32, .bf16⟩
  | .hbm, ⟨1, _⟩ => ⟨S2x31x32, .f32⟩
  | .hbm, ⟨2, _⟩ => ⟨S2x31x32, .f32⟩
  | .hbm, ⟨3, _⟩ => ⟨S2x31x32, .f32⟩
  | .hbm, ⟨4, _⟩ => ⟨S1x31x32, .f32⟩
  | .hbm, ⟨5, _⟩ => ⟨S31x32, .f32⟩
  | .hbm, ⟨6, _⟩ => ⟨S1x31x32, .f32⟩
  | .hbm, ⟨7, _⟩ => ⟨S31x32, .f32⟩
  | .hbm, ⟨8, _⟩ => ⟨S1x31x32, .f32⟩
  | .hbm, ⟨9, _⟩ => ⟨S31x32, .f32⟩
  | .hbm, ⟨10, _⟩ => ⟨S8x31x32, .f32⟩
  | .hbm, ⟨11, _⟩ => ⟨S_, .f32⟩
  | .hbm, ⟨12, _⟩ => ⟨S31x32, .f32⟩
  | .hbm, ⟨13, _⟩ => ⟨S_, .f32⟩
  | .hbm, ⟨14, _⟩ => ⟨S31x32, .f32⟩
  | .hbm, ⟨15, _⟩ => ⟨S31x32, .f32⟩
  | .hbm, ⟨16, _⟩ => ⟨S_, .f32⟩
  | .hbm, ⟨17, _⟩ => ⟨S31x32, .f32⟩
  | .hbm, ⟨18, _⟩ => ⟨S31x32, .f32⟩
  | .hbm, ⟨19, _⟩ => ⟨S31x32, .f32⟩
  | .hbm, ⟨20, _⟩ => ⟨S_, .f32⟩
  | .hbm, ⟨21, _⟩ => ⟨S31x32, .f32⟩
  | .hbm, ⟨22, _⟩ => ⟨S31x32, .f32⟩
  | .hbm, ⟨23, _⟩ => ⟨S31x32, .f32⟩
  | .hbm, ⟨24, _⟩ => ⟨S_, .f32⟩
  | .hbm, ⟨25, _⟩ => ⟨S31x32, .f32⟩
  | .hbm, ⟨26, _⟩ => ⟨S31x32, .f32⟩
  | .hbm, ⟨27, _⟩ => ⟨S31x32, .f32⟩
  | .hbm, ⟨28, _⟩ => ⟨S_, .f32⟩
  | .hbm, ⟨29, _⟩ => ⟨S31x32, .f32⟩
  | .hbm, ⟨30, _⟩ => ⟨S31x32, .f32⟩
  | .hbm, ⟨31, _⟩ => ⟨S_, .f32⟩
  | .hbm, ⟨32, _⟩ => ⟨S31x32, .f32⟩
  | .hbm, ⟨33, _⟩ => ⟨S31x32, .f32⟩
  | .hbm, ⟨34, _⟩ => ⟨S31x32, .f32⟩
  | .hbm, ⟨35, _⟩ => ⟨S_, .f32⟩
  | .hbm, ⟨36, _⟩ => ⟨S31x32, .f32⟩
  | .hbm, ⟨37, _⟩ => ⟨S31x32, .f32⟩
  | .hbm, ⟨38, _⟩ => ⟨S31x32, .f32⟩
  | .hbm, ⟨39, _⟩ => ⟨S_, .f32⟩
  | .hbm, ⟨40, _⟩ => ⟨S31x32, .f32⟩
  | .hbm, ⟨41, _⟩ => ⟨S31x32, .f32⟩
  | .hbm, ⟨42, _⟩ => ⟨S31x32, .f32⟩
  | .hbm, ⟨43, _⟩ => ⟨S_, .f32⟩
  | .hbm, ⟨44, _⟩ => ⟨S31x32, .f32⟩
  | .hbm, ⟨45, _⟩ => ⟨S31x32, .f32⟩
  | _, _ => ⟨S8x31x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptConvA.lean ====
abbrev S8x31x32 : Shape := ⟨3, ![8, 31, 32]⟩
abbrev S2x31x32 : Shape := ⟨3, ![2, 31, 32]⟩
abbrev S1x31x32 : Shape := ⟨3, ![1, 31, 32]⟩
abbrev S31x32 : Shape := ⟨2, ![31, 32]⟩

abbrev nBuf : Space → Nat
  | .hbm => 12
  | .vmem => 8
  | .smem => 0
  | _ => 0

abbrev bufTy : (tb : Table) → Fin (tcTables nBuf tb) → BufTy
  | .hbm, ⟨0, _⟩ => ⟨S8x31x32, .bf16⟩
  | .hbm, ⟨1, _⟩ => ⟨S2x31x32, .f32⟩
  | .hbm, ⟨2, _⟩ => ⟨S2x31x32, .f32⟩
  | .hbm, ⟨3, _⟩ => ⟨S2x31x32, .f32⟩
  | .hbm, ⟨4, _⟩ => ⟨S2x31x32, .f32⟩
  | .hbm, ⟨5, _⟩ => ⟨S2x31x32, .f32⟩
  | .hbm, ⟨6, _⟩ => ⟨S2x31x32, .f32⟩
  | .hbm, ⟨7, _⟩ => ⟨S2x31x32, .f32⟩
  | .hbm, ⟨8, _⟩ => ⟨S2x31x32, .f32⟩
  | .hbm, ⟨9, _⟩ => ⟨S2x31x32, .f32⟩
  | .hbm, ⟨10, _⟩ => ⟨S2x31x32, .f32⟩
  | .hbm, ⟨11, _⟩ => ⟨S2x31x32, .f32⟩
  | .local _ .vmem, ⟨0, _⟩ => ⟨S8x31x32, .bf16⟩
  | .local _ .vmem, ⟨1, _⟩ => ⟨S1x31x32, .f32⟩
  | .local _ .vmem, ⟨2, _⟩ => ⟨S1x31x32, .f32⟩
  | .local _ .vmem, ⟨3, _⟩ => ⟨S1x31x32, .f32⟩
  | .local _ .vmem, ⟨4, _⟩ => ⟨S1x31x32, .f32⟩
  | .local _ .vmem, ⟨5, _⟩ => ⟨S1x31x32, .f32⟩
  | .local _ .vmem, ⟨6, _⟩ => ⟨S1x31x32, .f32⟩
  | .local _ .vmem, ⟨7, _⟩ => ⟨S1x31x32, .f32⟩
  | _, _ => ⟨S8x31x32, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x31x32 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x31x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x31x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x31x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x31x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x31x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x31x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x31x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptConvAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptConvAIdeal.lean ====
abbrev S8x31x32 : Shape := ⟨3, ![8, 31, 32]⟩
abbrev S2x31x32 : Shape := ⟨3, ![2, 31, 32]⟩
abbrev S1x31x32 : Shape := ⟨3, ![1, 31, 32]⟩
abbrev S31x32 : Shape := ⟨2, ![31, 32]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x31x32, .bf16⟩
  | .hbm, ⟨1, _⟩ => ⟨S2x31x32, .f32⟩
  | .hbm, ⟨2, _⟩ => ⟨S2x31x32, .f32⟩
  | .hbm, ⟨3, _⟩ => ⟨S2x31x32, .f32⟩
  | .hbm, ⟨4, _⟩ => ⟨S2x31x32, .f32⟩
  | .hbm, ⟨5, _⟩ => ⟨S2x31x32, .f32⟩
  | .hbm, ⟨6, _⟩ => ⟨S2x31x32, .f32⟩
  | .hbm, ⟨7, _⟩ => ⟨S2x31x32, .f32⟩
  | .hbm, ⟨8, _⟩ => ⟨S1x31x32, .f32⟩
  | .hbm, ⟨9, _⟩ => ⟨S31x32, .f32⟩
  | .hbm, ⟨10, _⟩ => ⟨S1x31x32, .f32⟩
  | .hbm, ⟨11, _⟩ => ⟨S31x32, .f32⟩
  | .hbm, ⟨12, _⟩ => ⟨S1x31x32, .f32⟩
  | .hbm, ⟨13, _⟩ => ⟨S31x32, .f32⟩
  | .hbm, ⟨14, _⟩ => ⟨S8x31x32, .f32⟩
  | .hbm, ⟨15, _⟩ => ⟨S_, .f32⟩
  | .hbm, ⟨16, _⟩ => ⟨S31x32, .f32⟩
  | .hbm, ⟨17, _⟩ => ⟨S_, .f32⟩
  | .hbm, ⟨18, _⟩ => ⟨S31x32, .f32⟩
  | .hbm, ⟨19, _⟩ => ⟨S31x32, .f32⟩
  | .hbm, ⟨20, _⟩ => ⟨S_, .f32⟩
  | .hbm, ⟨21, _⟩ => ⟨S31x32, .f32⟩
  | .hbm, ⟨22, _⟩ => ⟨S31x32, .f32⟩
  | .hbm, ⟨23, _⟩ => ⟨S31x32, .f32⟩
  | .hbm, ⟨24, _⟩ => ⟨S_, .f32⟩
  | .hbm, ⟨25, _⟩ => ⟨S31x32, .f32⟩
  | .hbm, ⟨26, _⟩ => ⟨S31x32, .f32⟩
  | .hbm, ⟨27, _⟩ => ⟨S31x32, .f32⟩
  | .hbm, ⟨28, _⟩ => ⟨S_, .f32⟩
  | .hbm, ⟨29, _⟩ => ⟨S31x32, .f32⟩
  | .hbm, ⟨30, _⟩ => ⟨S31x32, .f32⟩
  | .hbm, ⟨31, _⟩ => ⟨S31x32, .f32⟩
  | .hbm, ⟨32, _⟩ => ⟨S_, .f32⟩
  | .hbm, ⟨33, _⟩ => ⟨S31x32, .f32⟩
  | .hbm, ⟨34, _⟩ => ⟨S31x32, .f32⟩
  | .hbm, ⟨35, _⟩ => ⟨S_, .f32⟩
  | .hbm, ⟨36, _⟩ => ⟨S31x32, .f32⟩
  | .hbm, ⟨37, _⟩ => ⟨S31x32, .f32⟩
  | .hbm, ⟨38, _⟩ => ⟨S31x32, .f32⟩
  | .hbm, ⟨39, _⟩ => ⟨S_, .f32⟩
  | .hbm, ⟨40, _⟩ => ⟨S31x32, .f32⟩
  | .hbm, ⟨41, _⟩ => ⟨S31x32, .f32⟩
  | .hbm, ⟨42, _⟩ => ⟨S31x32, .f32⟩
  | .hbm, ⟨43, _⟩ => ⟨S_, .f32⟩
  | .hbm, ⟨44, _⟩ => ⟨S31x32, .f32⟩
  | .hbm, ⟨45, _⟩ => ⟨S31x32, .f32⟩
  | .hbm, ⟨46, _⟩ => ⟨S31x32, .f32⟩
  | .hbm, ⟨47, _⟩ => ⟨S_, .f32⟩
  | .hbm, ⟨48, _⟩ => ⟨S31x32, .f32⟩
  | .hbm, ⟨49, _⟩ => ⟨S31x32, .f32⟩
  | .hbm, ⟨50, _⟩ => ⟨S1x31x32, .f32⟩
  | .hbm, ⟨51, _⟩ => ⟨S31x32, .f32⟩
  | .hbm, ⟨52, _⟩ => ⟨S1x31x32, .f32⟩
  | .hbm, ⟨53, _⟩ => ⟨S1x31x32, .f32⟩
  | .hbm, ⟨54, _⟩ => ⟨S2x31x32, .f32⟩
  | .hbm, ⟨55, _⟩ => ⟨S1x31x32, .f32⟩
  | .hbm, ⟨56, _⟩ => ⟨S31x32, .f32⟩
  | .hbm, ⟨57, _⟩ => ⟨S1x31x32, .f32⟩
  | .hbm, ⟨58, _⟩ => ⟨S1x31x32, .f32⟩
  | .hbm, ⟨59, _⟩ => ⟨S2x31x32, .f32⟩
  | .hbm, ⟨60, _⟩ => ⟨S1x31x32, .f32⟩
  | .hbm, ⟨61, _⟩ => ⟨S31x32, .f32⟩
  | .hbm, ⟨62, _⟩ => ⟨S1x31x32, .f32⟩
  | .hbm, ⟨63, _⟩ => ⟨S1x31x32, .f32⟩
  | .hbm, ⟨64, _⟩ => ⟨S2x31x32, .f32⟩
  | .hbm, ⟨65, _⟩ => ⟨S1x31x32, .f32⟩
  | .hbm, ⟨66, _⟩ => ⟨S31x32, .f32⟩
  | .hbm, ⟨67, _⟩ => ⟨S1x31x32, .f32⟩
  | .hbm, ⟨68, _⟩ => ⟨S1x31x32, .f32⟩
  | .hbm, ⟨69, _⟩ => ⟨S2x31x32, .f32⟩
  | _, _ => ⟨S8x31x32, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelOptOutB.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 16
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S1x128x1024, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S1x128x1024, .f32⟩
  | .hbm, ⟨13, _⟩ => ⟨S128x1024, .f32⟩
  | .hbm, ⟨14, _⟩ => ⟨S1x128x1024, .f32⟩
  | .hbm, ⟨15, _⟩ => ⟨S128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptOutBIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptOutBIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S1x128x1024, .f32⟩
  | .hbm, ⟨5, _⟩ => ⟨S128x1024, .f32⟩
  | .hbm, ⟨6, _⟩ => ⟨S1x128x1024, .f32⟩
  | .hbm, ⟨7, _⟩ => ⟨S128x1024, .f32⟩
  | .hbm, ⟨8, _⟩ => ⟨S1x128x1024, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩

abbrev nD : Nat := 1
abbrev τ : Topo := Topo.v7x

variable {F : FTy → Type} [FloatOps F]
-- ==== KernelOptOutA.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== KernelOptOutAIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== ReferenceOptOutAIdeal.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S2x128x1024, .f32⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S1x128x1024, .f32⟩
  | .hbm, ⟨9, _⟩ => ⟨S128x1024, .f32⟩
  | .hbm, ⟨10, _⟩ => ⟨S1x128x1024, .f32⟩
  | .hbm, ⟨11, _⟩ => ⟨S128x1024, .f32⟩
  | .hbm, ⟨12, _⟩ => ⟨S1x128x1024, .f32⟩
  | .hbm, ⟨13, _⟩ => ⟨S128x1024, .f32⟩
  | .hbm, ⟨14, _⟩ => ⟨S8x128x1024, .f32⟩
  | .hbm, ⟨15, _⟩ => ⟨S_, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S128x1024, .f32⟩
  | .hbm, ⟨52, _⟩ => ⟨S1x128x1024, .f32⟩
  | .hbm, ⟨53, _⟩ => ⟨S1x128x1024, .f32⟩
  | .hbm, ⟨54, _⟩ => ⟨S2x128x1024, .f32⟩
  | .hbm, ⟨55, _⟩ => ⟨S1x128x1024, .f32⟩
  | .hbm, ⟨56, _⟩ => ⟨S128x1024, .f32⟩
  | .hbm, ⟨57, _⟩ => ⟨S1x128x1024, .f32⟩
  | .hbm, ⟨58, _⟩ => ⟨S1x128x1024, .f32⟩
  | .hbm, ⟨59, _⟩ => ⟨S2x128x1024, .f32⟩
  | .hbm, ⟨60, _⟩ => ⟨S1x128x1024, .f32⟩
  | .hbm, ⟨61, _⟩ => ⟨S128x1024, .f32⟩
  | .hbm, ⟨62, _⟩ => ⟨S1x128x1024, .f32⟩
  | .hbm, ⟨63, _⟩ => ⟨S1x128x1024, .f32⟩
  | .hbm, ⟨64, _⟩ => ⟨S2x128x1024, .f32⟩
  | .hbm, ⟨65, _⟩ => ⟨S1x128x1024, .f32⟩
  | .hbm, ⟨66, _⟩ => ⟨S128x1024, .f32⟩
  | .hbm, ⟨67, _⟩ => ⟨S1x128x1024, .f32⟩
  | .hbm, ⟨68, _⟩ => ⟨S1x128x1024, .f32⟩
  | .hbm, ⟨69, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelLoss.lean ====
abbrev S8192x1024 : Shape := ⟨2, ![8192, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_9 : BitVec 32 := 0#32
  let v17 : BitVec 1 := Scalar.cmpi .ne v16 c0_i32_9
  v17

def k0_cond2 (i : grid0.Coords) : BitVec 1 :=
  let arg0 : BitVec 32 := BitVec.ofNat 32 (i 0).val
  let c0_i32 : BitVec 32 := 0#32
  let v15 : BitVec 1 := Scalar.cmpi .eq arg0 c0_i32
  let v_true : BitVec 1 := 1#1
  let v18 : BitVec 1 := Scalar.xori v15 v_true
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceLossIdeal.lean ====
abbrev S8192x1024 : Shape := ⟨2, ![8192, 1024]⟩
abbrev S_ : Shape := ⟨0, ![]⟩
abbrev S8192 : Shape := ⟨1, ![8192]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | .hbm, ⟨25, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== KernelWSc.lean ====
abbrev S8192x1024 : Shape := ⟨2, ![8192, 1024]⟩
abbrev S8192x256 : Shape := ⟨2, ![8192, 256]⟩
abbrev S1x8192x1024 : Shape := ⟨3, ![1, 8192, 1024]⟩
abbrev S1x8192x256 : Shape := ⟨3, ![1, 8192, 256]⟩
abbrev S1x1x1024x256 : Shape := ⟨4, ![1, 1, 1024, 256]⟩
abbrev S1x1024x1024 : Shape := ⟨3, ![1, 1024, 1024]⟩
abbrev S1x1024x256 : Shape := ⟨3, ![1, 1024, 256]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S1x8192x1024, .f32⟩
  | .hbm, ⟨3, _⟩ => ⟨S1x8192x256, .bf16⟩
  | .hbm, ⟨4, _⟩ => ⟨S1x1x1024x256, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1x1x1024x256, .f32⟩
  | .local _ .vmem, ⟨5, _⟩ => ⟨S1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_10 : BitVec 32 := 0#32
  let v16 : BitVec 1 := Scalar.cmpi .ne v15 c0_i32_10
  v16

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let v27 : BitVec 32 := Scalar.addi c0_i32_11 v26
  let c0_i32_12 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let v18 : BitVec 32 := Scalar.divsi v17 c1_i32_6
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v17 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg1 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c0_i32_19 : BitVec 32 := 0#32
  let c0_i32_20 : BitVec 32 := 0#32
  ![c0_i32_19.toNat, v34.toNat, arg0.toNat, v44.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWScIdeal.lean ====
abbrev S8192x1024 : Shape := ⟨2, ![8192, 1024]⟩
abbrev S8192x256 : Shape := ⟨2, ![8192, 256]⟩
abbrev S_ : Shape := ⟨0, ![]⟩
abbrev S1024x256 : Shape := ⟨2, ![1024, 256]⟩
abbrev S256x1024 : Shape := ⟨2, ![256, 1024]⟩
abbrev S1x1x1024x256 : Shape := ⟨4, ![1, 1, 1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .bf16⟩
  | .hbm, ⟨2, _⟩ => ⟨S_, .f32⟩
  | .hbm, ⟨3, _⟩ => ⟨S1024x256, .f32⟩
  | .hbm, ⟨4, _⟩ => ⟨S8192x256, .f32⟩
  | .hbm, ⟨5, _⟩ => ⟨S8192x256, .f32⟩
  | .hbm, ⟨6, _⟩ => ⟨S256x1024, .f32⟩
  | .hbm, ⟨7, _⟩ => ⟨S1024x256, .f32⟩
  | .hbm, ⟨8, _⟩ => ⟨S1x1x1024x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelWSb.lean ====
abbrev S8192x5376 : Shape := ⟨2, ![8192, 5376]⟩
abbrev S8192x1024 : Shape := ⟨2, ![8192, 1024]⟩
abbrev S1x8192x5376 : Shape := ⟨3, ![1, 8192, 5376]⟩
abbrev S1x8192x1024 : Shape := ⟨3, ![1, 8192, 1024]⟩
abbrev S1x1x256x1024 : Shape := ⟨4, ![1, 1, 256, 1024]⟩
abbrev S1x1024x256 : Shape := ⟨3, ![1, 1024, 256]⟩
abbrev S1x1024x1024 : Shape := ⟨3, ![1, 1024, 1024]⟩
abbrev S256x1024 : Shape := ⟨2, ![256, 1024]⟩
abbrev S1024x256 : Shape := ⟨2, ![1024, 256]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x5376, .f32⟩
  | .hbm, ⟨1, _⟩ => ⟨S8192x1024, .f32⟩
  | .hbm, ⟨2, _⟩ => ⟨S1x8192x5376, .f32⟩
  | .hbm, ⟨3, _⟩ => ⟨S1x8192x1024, .f32⟩
  | .hbm, ⟨4, _⟩ => ⟨S1x1x256x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x256x1024, .f32⟩
  | .local _ .vmem, ⟨5, _⟩ => ⟨S256x1024, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v15 : BitVec 1 := Scalar.cmpi .eq arg2 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c20_i32 : BitVec 32 := 20#32
  let v27 : BitVec 32 := Scalar.addi c20_i32 v26
  let c0_i32_11 : BitVec 32 := 0#32
  ![v16.toNat, arg2.toNat, v27.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let v18 : BitVec 32 := Scalar.divsi v17 c1_i32_6
  let c0_i32_7 : BitVec 32 := 0#32
  let v19 : BitVec 1 := Scalar.cmpi .sgt v17 c0_i32_7
  let v20 : BitVec 32 := Scalar.extui v19
  let c0_i32_8 : BitVec 32 := 0#32
  let v21 : BitVec 1 := Scalar.cmpi .slt v17 c0_i32_8
  let v22 : BitVec 32 := Scalar.extui v21
  let v23 : BitVec 32 := Scalar.subi v20 v22
  let c0_i32_9 : BitVec 32 := 0#32
  let v24 : BitVec 1 := Scalar.cmpi .sgt c1_i32_6 c0_i32_9
  let v25 : BitVec 32 := Scalar.extui v24
  let c0_i32_10 : BitVec 32 := 0#32
  let v26 : BitVec 1 := Scalar.cmpi .slt c1_i32_6 c0_i32_10
  let v27 : BitVec 32 := Scalar.extui v26
  let v28 : BitVec 32 := Scalar.subi v25 v27
  let v29 : BitVec 1 := Scalar.cmpi .ne v23 v28
  let v30 : BitVec 32 := Scalar.remsi v17 c1_i32_6
  let c0_i32_11 : BitVec 32 := 0#32
  let v31 : BitVec 1 := Scalar.cmpi .ne v30 c0_i32_11
  let v32 : BitVec 1 := Scalar.andi v29 v31
  let c1_i32_12 : BitVec 32 := 1#32
  let v33 : BitVec 32 := Scalar.subi v18 c1_i32_12
  let v34 : BitVec 32 := Scalar.select v32 v33 v18
  let c1_i32_13 : BitVec 32 := 1#32
  let c0_i32_14 : BitVec 32 := 0#32
  let v35 : BitVec 1 := Scalar.cmpi .eq c1_i32_13 c0_i32_14
  let c1_i32_15 : BitVec 32 := 1#32
  let v36 : BitVec 32 := Scalar.select v35 c1_i32_15 c1_i32_13
  let v37 : BitVec 32 := Scalar.remsi arg1 v36
  let c0_i32_16 : BitVec 32 := 0#32
  let v38 : BitVec 1 := Scalar.cmpi .ne v37 c0_i32_16
  let c0_i32_17 : BitVec 32 := 0#32
  let v39 : BitVec 1 := Scalar.cmpi .slt v37 c0_i32_17
  let c0_i32_18 : BitVec 32 := 0#32
  let v40 : BitVec 1 := Scalar.cmpi .slt v36 c0_i32_18
  let v41 : BitVec 1 := Scalar.xori v39 v40
  let v42 : BitVec 1 := Scalar.andi v41 v38
  let v43 : BitVec 32 := Scalar.addi v37 v36
  let v44 : BitVec 32 := Scalar.select v42 v43 v37
  let c0_i32_19 : BitVec 32 := 0#32
  let c0_i32_20 : BitVec 32 := 0#32
  ![c0_i32_19.toNat, v34.toNat, arg0.toNat, v44.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceWSbIdeal.lean ====
abbrev S8192x5376 : Shape := ⟨2, ![8192, 5376]⟩
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩
abbrev S1x1x256x1024 : Shape := ⟨4, ![1, 1, 256, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x5376, .f32⟩
  | .hbm, ⟨1, _⟩ => ⟨S8192x1024, .f32⟩
  | .hbm, ⟨2, _⟩ => ⟨S8192x256, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S1024x256, .f32⟩
  | .hbm, ⟨7, _⟩ => ⟨S256x1024, .f32⟩
  | .hbm, ⟨8, _⟩ => ⟨S1x1x256x1024, .f32⟩
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelConvF.lean ====
abbrev S8192x5376 : Shape := ⟨2, ![8192, 5376]⟩
abbrev S32x256 : Shape := ⟨2, ![32, 256]⟩
abbrev S1x256 : Shape := ⟨2, ![1, 256]⟩
abbrev S8192x256 : Shape := ⟨2, ![8192, 256]⟩
abbrev S512x512 : Shape := ⟨2, ![512, 512]⟩
abbrev S32x512 : Shape := ⟨2, ![32, 512]⟩
abbrev S512x256 : Shape := ⟨2, ![512, 256]⟩
abbrev S544x256 : Shape := ⟨2, ![544, 256]⟩
abbrev S512 : Shape := ⟨1, ![512]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x5376, .f32⟩
  | .hbm, ⟨1, _⟩ => ⟨S32x256, .f32⟩
  | .hbm, ⟨2, _⟩ => ⟨S1x256, .f32⟩
  | .hbm, ⟨3, _⟩ => ⟨S1x256, .f32⟩
  | .hbm, ⟨4, _⟩ => ⟨S1x256, .f32⟩
  | .hbm, ⟨5, _⟩ => ⟨S8192x256, .f32⟩
  | .hbm, ⟨6, _⟩ => ⟨S8192x256, .f32⟩
  | .local _ .vmem, ⟨0, _⟩ => ⟨S512x512, .f32⟩
  | .local _ .vmem, ⟨1, _⟩ => ⟨S512x512, .f32⟩
  | .local _ .vmem, ⟨2, _⟩ => ⟨S32x512, .f32⟩
  | .local _ .vmem, ⟨3, _⟩ => ⟨S32x512, .f32⟩
  | .local _ .vmem, ⟨4, _⟩ => ⟨S32x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S544x256, .f32⟩
  | _, _ => ⟨S8192x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c4096_i32 : BitVec 32 := 4096#32
  let v0 : BitVec 32 := Scalar.muli arg0 c4096_i32
  let c512_i32 : BitVec 32 := 512#32
  let v1 : BitVec 32 := Scalar.muli arg1 c512_i32
  let v2 : BitVec 32 := Scalar.addi v0 v1
  let c32_i32 : BitVec 32 := 32#32
  let v3 : BitVec 32 := Scalar.divsi v2 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c0_i32_1 : BitVec 32 := 0#32
  let v9 : BitVec 1 := Scalar.cmpi .sgt c32_i32 c0_i32_1
  let v10 : BitVec 32 := Scalar.extui v9
  let c0_i32_2 : BitVec 32 := 0#32
  let v11 : BitVec 1 := Scalar.cmpi .slt c32_i32 c0_i32_2
  let v12 : BitVec 32 := Scalar.extui v11
  let v13 : BitVec 32 := Scalar.subi v10 v12
  let v14 : BitVec 1 := Scalar.cmpi .ne v8 v13
  let v15 : BitVec 32 := Scalar.remsi v2 c32_i32
  let c0_i32_3 : BitVec 32 := 0#32
  let v16 : BitVec 1 := Scalar.cmpi .ne v15 c0_i32_3
  let v17 : BitVec 1 := Scalar.andi v14 v16
  let c1_i32 : BitVec 32 := 1#32
  let v18 : BitVec 32 := Scalar.subi v3 c1_i32
  let v19 : BitVec 32 := Scalar.select v17 v18 v3
  let c1_i32_4 : BitVec 32 := 1#32
  let v20 : BitVec 32 := Scalar.subi v19 c1_i32_4
  let c0_i32_5 : BitVec 32 := 0#32
  let v21 : BitVec 32 := Scalar.maxsi v20 c0_i32_5
  let c9_i32 : BitVec 32 := 9#32
  let c0_i32_6 : BitVec 32 := 0#32
  ![v21.toNat, c9_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceConvFIdeal.lean ====
abbrev S8192x5376 : Shape := ⟨2, ![8192, 5376]⟩
abbrev S32x256 : Shape := ⟨2, ![32, 256]⟩
abbrev S1x256 : Shape := ⟨2, ![1, 256]⟩
abbrev S8192x512 : Shape := ⟨2, ![8192, 512]⟩
abbrev S2x4096x512 : Shape := ⟨3, ![2, 4096, 512]⟩
abbrev S2x4096x256 : Shape := ⟨3, ![2, 4096, 256]⟩
abbrev S_ : Shape := ⟨0, ![]⟩
abbrev S31x256 : Shape := ⟨2, ![31, 256]⟩
abbrev S2x30x256 : Shape := ⟨3, ![2, 30, 256]⟩
abbrev S2x4126x256 : Shape := ⟨3, ![2, 4126, 256]⟩
abbrev S256 : Shape := ⟨1, ![256]⟩
abbrev S1x1x256 : Shape := ⟨3, ![1, 1, 256]⟩
abbrev S8192x256 : Shape := ⟨2, ![8192, 256]⟩
abbrev S2x4096 : Shape := ⟨2, ![2, 4096]⟩
abbrev S2x4096x1 : Shape := ⟨3, ![2, 4096, 1]⟩

abbrev nBuf : Space → Nat
  | .hbm => 279
  | .vmem => 0
  | .smem => 0
  | _ => 0

abbrev hbmTy0_0 (i : Nat) : BufTy := match i % 128 with
  | 0 => ⟨S8192x5376, .f32⟩
  | 1 => ⟨S32x256, .f32⟩
  | 2 => ⟨S1x256, .f32⟩
  | 3 => ⟨S1x256, .f32⟩
  | 4 => ⟨S1x256, .f32⟩
  | 5 => ⟨S8192x512, .f32⟩
  | 6 => ⟨S2x4096x512, .f32⟩
  | 7 => ⟨S2x4096x256, .f32⟩
  | 8 => ⟨S2x4096x256, .f32⟩
  | 9 => ⟨S2x4096x256, .f32⟩
  | 10 => ⟨S2x4096x256, .f32⟩
  | 11 => ⟨S_, .f32⟩
  | 12 => ⟨S2x4096x256, .f32⟩
  | 13 => ⟨S2x4096x256, .f32⟩
  | 14 => ⟨S_, .f32⟩
  | 15 => ⟨S2x4096x256, .f32⟩
  | 16 => ⟨S2x4096x256, .f32⟩
  | 17 => ⟨S2x4096x256, .f32⟩
  | 18 => ⟨S31x256, .f32⟩
  | 19 => ⟨S_, .f32⟩
  | 20 => ⟨S2x30x256, .f32⟩
  | 21 => ⟨S2x4126x256, .f32⟩
  | 22 => ⟨S1x256, .f32⟩
  | 23 => ⟨S256, .f32⟩
  | 24 => ⟨S2x4096x256, .f32⟩
  | 25 => ⟨S1x1x256, .f32⟩
  | 26 => ⟨S2x4096x256, .f32⟩
  | 27 => ⟨S2x4096x256, .f32⟩
  | 28 => ⟨S1x1x256, .f32⟩
  | 29 => ⟨S2x4096x256, .f32⟩
  | 30 => ⟨S2x4096x256, .f32⟩
  | 31 => ⟨S1x256, .f32⟩
  | 32 => ⟨S256, .f32⟩
  | 33 => ⟨S2x4096x256, .f32⟩
  | 34 => ⟨S1x1x256, .f32⟩
  | 35 => ⟨S2x4096x256, .f32⟩
  | 36 => ⟨S2x4096x256, .f32⟩
  | 37 => ⟨S2x4096x256, .f32⟩
  | 38 => ⟨S1x256, .f32⟩
  | 39 => ⟨S256, .f32⟩
  | 40 => ⟨S2x4096x256, .f32⟩
  | 41 => ⟨S1x1x256, .f32⟩
  | 42 => ⟨S2x4096x256, .f32⟩
  | 43 => ⟨S2x4096x256, .f32⟩
  | 44 => ⟨S2x4096x256, .f32⟩
  | 45 => ⟨S1x256, .f32⟩
  | 46 => ⟨S256, .f32⟩
  | 47 => ⟨S2x4096x256, .f32⟩
  | 48 => ⟨S1x1x256, .f32⟩
  | 49 => ⟨S2x4096x256, .f32⟩
  | 50 => ⟨S2x4096x256, .f32⟩
  | 51 => ⟨S2x4096x256, .f32⟩
  | 52 => ⟨S1x256, .f32⟩
  | 53 => ⟨S256, .f32⟩
  | 54 => ⟨S2x4096x256, .f32⟩
  | 55 => ⟨S1x1x256, .f32⟩
  | 56 => ⟨S2x4096x256, .f32⟩
  | 57 => ⟨S2x4096x256, .f32⟩
  | 58 => ⟨S2x4096x256, .f32⟩
  | 59 => ⟨S1x256, .f32⟩
  | 60 => ⟨S256, .f32⟩
  | 61 => ⟨S2x4096x256, .f32⟩
  | 62 => ⟨S1x1x256, .f32⟩
  | 63 => ⟨S2x4096x256, .f32⟩
  | 64 => ⟨S2x4096x256, .f32⟩
  | 65 => ⟨S2x4096x256, .f32⟩
  | 66 => ⟨S1x256, .f32⟩
  | 67 => ⟨S256, .f32⟩
  | 68 => ⟨S2x4096x256, .f32⟩
  | 69 => ⟨S1x1x256, .f32⟩
  | 70 => ⟨S2x4096x256, .f32⟩
  | 71 => ⟨S2x4096x256, .f32⟩
  | 72 => ⟨S2x4096x256, .f32⟩
  | 73 => ⟨S1x256, .f32⟩
  | 74 => ⟨S256, .f32⟩
  | 75 => ⟨S2x4096x256, .f32⟩
  | 76 => ⟨S1x1x256, .f32⟩
  | 77 => ⟨S2x4096x256, .f32⟩
  | 78 => ⟨S2x4096x256, .f32⟩
  | 79 => ⟨S2x4096x256, .f32⟩
  | 80 => ⟨S1x256, .f32⟩
  | 81 => ⟨S256, .f32⟩
  | 82 => ⟨S2x4096x256, .f32⟩
  | 83 => ⟨S1x1x256, .f32⟩
  | 84 => ⟨S2x4096x256, .f32⟩
  | 85 => ⟨S2x4096x256, .f32⟩
  | 86 => ⟨S2x4096x256, .f32⟩
  | 87 => ⟨S1x256, .f32⟩
  | 88 => ⟨S256, .f32⟩
  | 89 => ⟨S2x4096x256, .f32⟩
  | 90 => ⟨S1x1x256, .f32⟩
  | 91 => ⟨S2x4096x256, .f32⟩
  | 92 => ⟨S2x4096x256, .f32⟩
  | 93 => ⟨S2x4096x256, .f32⟩
  | 94 => ⟨S1x256, .f32⟩
  | 95 => ⟨S256, .f32⟩
  | 96 => ⟨S2x4096x256, .f32⟩
  | 97 => ⟨S1x1x256, .f32⟩
  | 98 => ⟨S2x4096x256, .f32⟩
  | 99 => ⟨S2x4096x256, .f32⟩
  | 100 => ⟨S2x4096x256, .f32⟩
  | 101 => ⟨S1x256, .f32⟩
  | 102 => ⟨S256, .f32⟩
  | 103 => ⟨S2x4096x256, .f32⟩
  | 104 => ⟨S1x1x256, .f32⟩
  | 105 => ⟨S2x4096x256, .f32⟩
  | 106 => ⟨S2x4096x256, .f32⟩
  | 107 => ⟨S2x4096x256, .f32⟩
  | 108 => ⟨S1x256, .f32⟩
  | 109 => ⟨S256, .f32⟩
  | 110 => ⟨S2x4096x256, .f32⟩
  | 111 => ⟨S1x1x256, .f32⟩
  | 112 => ⟨S2x4096x256, .f32⟩
  | 113 => ⟨S2x4096x256, .f32⟩
  | 114 => ⟨S2x4096x256, .f32⟩
  | 115 => ⟨S1x256, .f32⟩
  | 116 => ⟨S256, .f32⟩
  | 117 => ⟨S2x4096x256, .f32⟩
  | 118 => ⟨S1x1x256, .f32⟩
  | 119 => ⟨S2x4096x256, .f32⟩
  | 120 => ⟨S2x4096x256, .f32⟩
  | 121 => ⟨S2x4096x256, .f32⟩
  | 122 => ⟨S1x256, .f32⟩
  | 123 => ⟨S256, .f32⟩
  | 124 => ⟨S2x4096x256, .f32⟩
  | 125 => ⟨S1x1x256, .f32⟩
  | 126 => ⟨S2x4096x256, .f32⟩
  | 127 => ⟨S2x4096x256, .f32⟩
  | _ => ⟨S8192x5376, .f32⟩

abbrev hbmTy0_1 (i : Nat) : BufTy := match i % 128 with
  | 0 => ⟨S2x4096x256, .f32⟩
  | 1 => ⟨S1x256, .f32⟩
  | 2 => ⟨S256, .f32⟩
  | 3 => ⟨S2x4096x256, .f32⟩
  | 4 => ⟨S1x1x256, .f32⟩
  | 5 => ⟨S2x4096x256, .f32⟩
  | 6 => ⟨S2x4096x256, .f32⟩
  | 7 => ⟨S2x4096x256, .f32⟩
  | 8 => ⟨S1x256, .f32⟩
  | 9 => ⟨S256, .f32⟩
  | 10 => ⟨S2x4096x256, .f32⟩
  | 11 => ⟨S1x1x256, .f32⟩
  | 12 => ⟨S2x4096x256, .f32⟩
  | 13 => ⟨S2x4096x256, .f32⟩
  | 14 => ⟨S2x4096x256, .f32⟩
  | 15 => ⟨S1x256, .f32⟩
  | 16 => ⟨S256, .f32⟩
  | 17 => ⟨S2x4096x256, .f32⟩
  | 18 => ⟨S1x1x256, .f32⟩
  | 19 => ⟨S2x4096x256, .f32⟩
  | 20 => ⟨S2x4096x256, .f32⟩
  | 21 => ⟨S2x4096x256, .f32⟩
  | 22 => ⟨S1x256, .f32⟩
  | 23 => ⟨S256, .f32⟩
  | 24 => ⟨S2x4096x256, .f32⟩
  | 25 => ⟨S1x1x256, .f32⟩
  | 26 => ⟨S2x4096x256, .f32⟩
  | 27 => ⟨S2x4096x256, .f32⟩
  | 28 => ⟨S2x4096x256, .f32⟩
  | 29 => ⟨S1x256, .f32⟩
  | 30 => ⟨S256, .f32⟩
  | 31 => ⟨S2x4096x256, .f32⟩
  | 32 => ⟨S1x1x256, .f32⟩
  | 33 => ⟨S2x4096x256, .f32⟩
  | 34 => ⟨S2x4096x256, .f32⟩
  | 35 => ⟨S2x4096x256, .f32⟩
  | 36 => ⟨S1x256, .f32⟩
  | 37 => ⟨S256, .f32⟩
  | 38 => ⟨S2x4096x256, .f32⟩
  | 39 => ⟨S1x1x256, .f32⟩
  | 40 => ⟨S2x4096x256, .f32⟩
  | 41 => ⟨S2x4096x256, .f32⟩
  | 42 => ⟨S2x4096x256, .f32⟩
  | 43 => ⟨S1x256, .f32⟩
  | 44 => ⟨S256, .f32⟩
  | 45 => ⟨S2x4096x256, .f32⟩
  | 46 => ⟨S1x1x256, .f32⟩
  | 47 => ⟨S2x4096x256, .f32⟩
  | 48 => ⟨S2x4096x256, .f32⟩
  | 49 => ⟨S2x4096x256, .f32⟩
  | 50 => ⟨S1x256, .f32⟩
  | 51 => ⟨S256, .f32⟩
  | 52 => ⟨S2x4096x256, .f32⟩
  | 53 => ⟨S1x1x256, .f32⟩
  | 54 => ⟨S2x4096x256, .f32⟩
  | 55 => ⟨S2x4096x256, .f32⟩
  | 56 => ⟨S2x4096x256, .f32⟩
  | 57 => ⟨S1x256, .f32⟩
  | 58 => ⟨S256, .f32⟩
  | 59 => ⟨S2x4096x256, .f32⟩
  | 60 => ⟨S1x1x256, .f32⟩
  | 61 => ⟨S2x4096x256, .f32⟩
  | 62 => ⟨S2x4096x256, .f32⟩
  | 63 => ⟨S2x4096x256, .f32⟩
  | 64 => ⟨S1x256, .f32⟩
  | 65 => ⟨S256, .f32⟩
  | 66 => ⟨S2x4096x256, .f32⟩
  | 67 => ⟨S1x1x256, .f32⟩
  | 68 => ⟨S2x4096x256, .f32⟩
  | 69 => ⟨S2x4096x256, .f32⟩
  | 70 => ⟨S2x4096x256, .f32⟩
  | 71 => ⟨S1x256, .f32⟩
  | 72 => ⟨S256, .f32⟩
  | 73 => ⟨S2x4096x256, .f32⟩
  | 74 => ⟨S1x1x256, .f32⟩
  | 75 => ⟨S2x4096x256, .f32⟩
  | 76 => ⟨S2x4096x256, .f32⟩
  | 77 => ⟨S2x4096x256, .f32⟩
  | 78 => ⟨S1x256, .f32⟩
  | 79 => ⟨S256, .f32⟩
  | 80 => ⟨S2x4096x256, .f32⟩
  | 81 => ⟨S1x1x256, .f32⟩
  | 82 => ⟨S2x4096x256, .f32⟩
  | 83 => ⟨S2x4096x256, .f32⟩
  | 84 => ⟨S2x4096x256, .f32⟩
  | 85 => ⟨S1x256, .f32⟩
  | 86 => ⟨S256, .f32⟩
  | 87 => ⟨S2x4096x256, .f32⟩
  | 88 => ⟨S1x1x256, .f32⟩
  | 89 => ⟨S2x4096x256, .f32⟩
  | 90 => ⟨S2x4096x256, .f32⟩
  | 91 => ⟨S2x4096x256, .f32⟩
  | 92 => ⟨S1x256, .f32⟩
  | 93 => ⟨S256, .f32⟩
  | 94 => ⟨S2x4096x256, .f32⟩
  | 95 => ⟨S1x1x256, .f32⟩
  | 96 => ⟨S2x4096x256, .f32⟩
  | 97 => ⟨S2x4096x256, .f32⟩
  | 98 => ⟨S2x4096x256, .f32⟩
  | 99 => ⟨S1x256, .f32⟩
  | 100 => ⟨S256, .f32⟩
  | 101 => ⟨S2x4096x256, .f32⟩
  | 102 => ⟨S1x1x256, .f32⟩
  | 103 => ⟨S2x4096x256, .f32⟩
  | 104 => ⟨S2x4096x256, .f32⟩
  | 105 => ⟨S2x4096x256, .f32⟩
  | 106 => ⟨S1x256, .f32⟩
  | 107 => ⟨S256, .f32⟩
  | 108 => ⟨S2x4096x256, .f32⟩
  | 109 => ⟨S1x1x256, .f32⟩
  | 110 => ⟨S2x4096x256, .f32⟩
  | 111 => ⟨S2x4096x256, .f32⟩
  | 112 => ⟨S2x4096x256, .f32⟩
  | 113 => ⟨S8192x256, .f32⟩
  | 114 => ⟨S_, .f32⟩
  | 115 => ⟨S2x4096, .f32⟩
  | 116 => ⟨S2x4096x1, .f32⟩
  | 117 => ⟨S_, .f32⟩
  | 118 => ⟨S2x4096x1, .f32⟩
  | 119 => ⟨S2x4096x1, .f32⟩
  | 120 => ⟨S2x4096x256, .f32⟩
  | 121 => ⟨S2x4096x256, .f32⟩
  | 122 => ⟨S2x4096x256, .f32⟩
  | 123 => ⟨S_, .f32⟩
  | 124 => ⟨S2x4096, .f32⟩
  | 125 => ⟨S2x4096x1, .f32⟩
  | 126 => ⟨S_, .f32⟩
  | 127 => ⟨S2x4096x1, .f32⟩
  | _ => ⟨S8192x5376, .f32⟩

abbrev hbmTy0_2 (i : Nat) : BufTy := match i % 128 with
  | 0 => ⟨S2x4096x1, .f32⟩
  | 1 => ⟨S_, .f32⟩
  | 2 => ⟨S2x4096x1, .f32⟩
  | 3 => ⟨S2x4096x1, .f32⟩
  | 4 => ⟨S2x4096x1, .f32⟩
  | 5 => ⟨S2x4096x256, .f32⟩
  | 6 => ⟨S2x4096x256, .f32⟩
  | 7 => ⟨S1x1x256, .f32⟩
  | 8 => ⟨S2x4096x256, .f32⟩
  | 9 => ⟨S2x4096x256, .f32⟩
  | 10 => ⟨S1x1x256, .f32⟩
  | 11 => ⟨S2x4096x256, .f32⟩
  | 12 => ⟨S2x4096x256, .f32⟩
  | 13 => ⟨S2x4096x256, .f32⟩
  | 14 => ⟨S2x4096x256, .f32⟩
  | 15 => ⟨S_, .f32⟩
  | 16 => ⟨S2x4096x256, .f32⟩
  | 17 => ⟨S2x4096x256, .f32⟩
  | 18 => ⟨S_, .f32⟩
  | 19 => ⟨S2x4096x256, .f32⟩
  | 20 => ⟨S2x4096x256, .f32⟩
  | 21 => ⟨S2x4096x256, .f32⟩
  | 22 => ⟨S8192x256, .f32⟩
  | _ => ⟨S8192x5376, .f32⟩

abbrev hbmTy (i : Nat) : BufTy := match i / 128 with
  | 0 => hbmTy0_0 i
  | 1 => hbmTy0_1 i
  | 2 => hbmTy0_2 i
  | _ => ⟨S8192x5376, .f32⟩

abbrev bufTy : (tb : Table) → Fin (tcTables nBuf tb) → BufTy
  | .hbm, ⟨i, _⟩ => hbmTy i
  | _, _ => ⟨S8192x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_v231 : Ref sig .tc := ⟨.hbm, 239, rfl⟩
abbrev main_v232 : Ref sig .tc := ⟨.hbm, 240, rfl⟩
abbrev main_v233 : Ref sig .tc := ⟨.hbm, 241, rfl⟩
abbrev main_cst_2 : Ref sig .tc := ⟨.hbm, 242, rfl⟩
abbrev main_v234 : Ref sig .tc := ⟨.hbm, 243, rfl⟩
abbrev main_v235 : Ref sig .tc := ⟨.hbm, 244, rfl⟩
abbrev main_cst_3 : Ref sig .tc := ⟨.hbm, 245, rfl⟩
abbrev main_v236 : Ref sig .tc := ⟨.hbm, 246, rfl⟩
abbrev main_v237 : Ref sig .tc := ⟨.hbm, 247, rfl⟩
abbrev main_v238 : Ref sig .tc := ⟨.hbm, 248, rfl⟩
abbrev main_v239 : Ref sig .tc := ⟨.hbm, 249, rfl⟩
abbrev main_v240 : Ref sig .tc := ⟨.hbm, 250, rfl⟩
abbrev main_cst_4 : Ref sig .tc := ⟨.hbm, 251, rfl⟩
abbrev main_v241 : Ref sig .tc := ⟨.hbm, 252, rfl⟩
abbrev main_v242 : Ref sig .tc := ⟨.hbm, 253, rfl⟩
abbrev main_cst_5 : Ref sig .tc := ⟨.hbm, 254, rfl⟩
abbrev main_v243 : Ref sig .tc := ⟨.hbm, 255, rfl⟩
abbrev main_v244 : Ref sig .tc := ⟨.hbm, 256, rfl⟩
abbrev main_cst_6 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_v255 : Ref sig .tc := ⟨.hbm, 268, rfl⟩
abbrev main_call0_v0 : Ref sig .tc := ⟨.hbm, 269, rfl⟩
abbrev main_call0_v1 : Ref sig .tc := ⟨.hbm, 270, rfl⟩
abbrev main_call0_cst : Ref sig .tc := ⟨.hbm, 271, rfl⟩
abbrev main_call0_v2 : Ref sig .tc := ⟨.hbm, 272, rfl⟩
abbrev main_call0_v3 : Ref sig .tc := ⟨.hbm, 273, rfl⟩
abbrev main_call0_cst_0 : Ref sig .tc := ⟨.hbm, 274, rfl⟩
abbrev main_call0_v4 : Ref sig .tc := ⟨.hbm, 275, rfl⟩
abbrev main_call0_v5 : Ref sig .tc := ⟨.hbm, 276, rfl⟩
abbrev main_v256 : Ref sig .tc := ⟨.hbm, 277, rfl⟩
abbrev main_v257 : Ref sig .tc := ⟨.hbm, 278, rfl⟩

abbrev nD : Nat := 1
abbrev τ : Topo := Topo.v7x

variable {F : FTy → Type} [FloatOps F]
-- ==== Proof.Common.lean ====
/- Small facts about indices and blocks that every call's proof uses. -/
module

public import Idealize.ShloMosaic.Lib.Pointwise
public import Idealize.ShloMosaic.Lib.Pipeline.Value
public import Idealize.ShloMosaic.Lib.Claim

@[expose] public section

noncomputable section

namespace Cert.Common

open Idealize.ShloMosaic

/-- A two-axis array of extended reals. -/
abbrev Mat (a b : ℕ) := (⟨2, ![a, b]⟩ : Shape).Idx → EReal

/-- A three-axis array of extended reals. -/
abbrev Cube (a b c : ℕ) := (⟨3, ![a, b, c]⟩ : Shape).Idx → EReal

/-- A four-axis array of extended reals. -/
abbrev Quad (a b c d : ℕ) := (⟨4, ![a, b, c, d]⟩ : Shape).Idx → EReal

theorem zero2 : (![0, 0] : Fin 2 → ℕ) = fun _ => 0 := by
  funext a; match a with
  | ⟨0, _⟩ => rfl
  | ⟨1, _⟩ => rfl

theorem zero3 : (![0, 0, 0] : Fin 3 → ℕ) = fun _ => 0 := by
  funext a; match a with
  | ⟨0, _⟩ => rfl
  | ⟨1, _⟩ => rfl
  | ⟨2, _⟩ => rfl

/-- Two three-axis indices with the same coordinates are equal. -/
theorem idx_ext3 {n : Fin 3 → ℕ} {x y : (a : Fin 3) → Fin (n a)} (h0 : (x 0 : ℕ) = y 0) (h1 : (x 1 : ℕ) = y 1)
    (h2 : (x 2 : ℕ) = y 2) : x = y :=
  funext fun a => match a with
    | ⟨0, _⟩ => Fin.ext h0
    | ⟨1, _⟩ => Fin.ext h1
    | ⟨2, _⟩ => Fin.ext h2

/-- Two four-axis indices with the same coordinates are equal. -/
theorem idx_ext4 {n : Fin 4 → ℕ} {x y : (a : Fin 4) → Fin (n a)} (h0 : (x 0 : ℕ) = y 0) (h1 : (x 1 : ℕ) = y 1)
    (h2 : (x 2 : ℕ) = y 2) (h3 : (x 3 : ℕ) = y 3) : x = y :=
  funext fun a => match a with
    | ⟨0, _⟩ => Fin.ext h0
    | ⟨1, _⟩ => Fin.ext h1
    | ⟨2, _⟩ => Fin.ext h2
    | ⟨3, _⟩ => Fin.ext h3

end Cert.Common

end
-- ==== Proof.Merge.Spec.lean ====
/- The gradient of the gated merge, entry by entry, as extended reals. -/
module

public import proofs.«01_k».proof.Proof.Common

@[expose] public section

noncomputable section

namespace Cert.Merge

open Idealize.ShloMosaic Cert.Common

/-- An array whose entries are known is known at every index. -/
theorem entries {n k : ℕ} {f : Mat n k} {g : Fin n → Fin k → EReal} (h : ∀ r j, f (ix2 r j) = g r j) (y) : f y = g (y 0) (y 1) := by
  rw [eq_ix2 y]
  exact h _ _

/-- What the merge's gradient is taken at: the gradient arriving, the projection (whose first 3072 columns are the gates'
    logits), the gates' bias, the three branches and the four weights of both layers. -/
structure Args where
  dx : Mat 8192 1024
  proj : Mat 8192 5376
  bg : Mat 1 3072
  so : Mat 8192 256
  ao : Mat 8192 512
  co : Mat 8192 256
  ws : Cube 2 256 1024
  wa : Cube 2 512 1024
  wc : Cube 2 256 1024
  wo : Cube 2 1024 1024

namespace Args

variable (a : Args) (R : Fin 8192)

/-- Column `q` of the gates. -/
def gate (q : Fin 3072) : EReal :=
  Ideal.div 1 (1 + Ideal.exp (-(a.proj (ix2 R ⟨q.val, by omega⟩) + a.bg (ix2 0 q))))

/-- The three branches after their products. -/
def ys (j : Fin 1024) : EReal := ∑ k, a.so (ix2 R k) * a.ws (ix3 1 k j)
def ya (j : Fin 1024) : EReal := ∑ k, a.ao (ix2 R k) * a.wa (ix3 1 k j)
def yc (j : Fin 1024) : EReal := ∑ k, a.co (ix2 R k) * a.wc (ix3 1 k j)

/-- The gradient of what the output product reads. -/
def dm (j : Fin 1024) : EReal := ∑ k, a.dx (ix2 R k) * a.wo (ix3 1 j k)

/-- The columns of the gates that belong to a branch. -/
def q0 (j : Fin 1024) : Fin 3072 := ⟨j.val, by omega⟩
def q1 (j : Fin 1024) : Fin 3072 := ⟨1024 + j.val, by omega⟩
def q2 (j : Fin 1024) : Fin 3072 := ⟨2048 + j.val, by omega⟩

/-- What the output product reads. -/
def merged (j : Fin 1024) : EReal :=
  a.gate R (q0 j) * a.ys R j + a.gate R (q1 j) * a.ya R j + a.gate R (q2 j) * a.yc R j

/-- The gradient of a branch after its product. -/
def dy (q : Fin 1024 → Fin 3072) (j : Fin 1024) : EReal := a.gate R (q j) * a.dm R j

/-- The gradient of the gates' logits that belong to a branch. -/
def dlogit (q : Fin 3072) (y : EReal) (j : Fin 1024) : EReal :=
  a.dm R j * y * (a.gate R q * (1 - a.gate R q))

/-- The gradient of the gates' logits. -/
def dl (q : Fin 3072) : EReal :=
  if h : q.val < 1024 then a.dlogit R q (a.ys R ⟨q.val, h⟩) ⟨q.val, h⟩
  else if h' : q.val < 2048 then a.dlogit R q (a.ya R ⟨q.val - 1024, by omega⟩) ⟨q.val - 1024, by omega⟩
  else a.dlogit R q (a.yc R ⟨q.val - 2048, by omega⟩) ⟨q.val - 2048, by omega⟩

theorem dl_q0 (j : Fin 1024) : a.dl R (q0 j) = a.dlogit R (q0 j) (a.ys R j) j := by
  unfold dl q0; rw [dif_pos j.isLt]

theorem dl_q1 (j : Fin 1024) : a.dl R (q1 j) = a.dlogit R (q1 j) (a.ya R j) j := by
  have e : (⟨1024 + j.val - 1024, by omega⟩ : Fin 1024) = j := Fin.ext (by simp)
  unfold dl q1; rw [dif_neg (by simp), dif_pos (by have := j.isLt; simp; omega)]; simp only [e]

theorem dl_q2 (j : Fin 1024) : a.dl R (q2 j) = a.dlogit R (q2 j) (a.yc R j) j := by
  have e : (⟨2048 + j.val - 2048, by omega⟩ : Fin 1024) = j := Fin.ext (by simp)
  unfold dl q2; rw [dif_neg (by simp; omega), dif_neg (by simp)]; simp only [e]

/-- The gradients of the branches. -/
def dso (k : Fin 256) : EReal := ∑ j, a.dy R q0 j * a.ws (ix3 1 k j)
def dao (k : Fin 512) : EReal := ∑ j, a.dy R q1 j * a.wa (ix3 1 k j)
def dco (k : Fin 256) : EReal := ∑ j, a.dy R q2 j * a.wc (ix3 1 k j)

/-- The gradient of the gates' bias. -/
def dbg (q : Fin 3072) : EReal := ∑ R : Fin 8192, a.dl R q

/-! The results as whole arrays. -/

/-- The gradient of the gates' logits. -/
def dlR : Mat 8192 3072 := fun i => a.dl (i 0) (i 1)
/-- The gradients of the three branches. -/
def dsoR : Mat 8192 256 := fun i => a.dso (i 0) (i 1)
def daoR : Mat 8192 512 := fun i => a.dao (i 0) (i 1)
def dcoR : Mat 8192 256 := fun i => a.dco (i 0) (i 1)
/-- The gradient of the gates' bias. -/
def dbgR : Mat 1 3072 := fun i => a.dbg (i 1)
/-- What the output product reads. -/
def mergedR : Mat 8192 1024 := fun i => a.merged (i 0) (i 1)
/-- The gradient that arrives. -/
def dxR : Mat 8192 1024 := a.dx
/-- The gradients of the three branches after their products. -/
def dysR : Mat 8192 1024 := fun i => a.dy (i 0) q0 (i 1)
def dyaR : Mat 8192 1024 := fun i => a.dy (i 0) q1 (i 1)
def dycR : Mat 8192 1024 := fun i => a.dy (i 0) q2 (i 1)

end Args

end Cert.Merge

end
-- ==== Proof.Merge.Blocks.lean ====
/- What a grid point of the gated merge's gradient reads: the blocks of its arrays. -/
module

public import proofs.«01_k».proof.Proof.Gen.KernelIdeal.Value
public import proofs.«01_k».proof.Proof.Merge.Spec
public import Idealize.ShloMosaic.Lib.Pipeline.ValueKit

@[expose] public section

noncomputable section

namespace Cert.Merge

open Idealize.ShloMosaic Idealize.ShloMosaic.TcCoe Idealize.SL.Sem
open Cert.Common Cert.KernelIdeal Cert.KernelIdeal.Gen

variable (m : (ℓ : Loc nD τ sig) → Buf (Elt Ideal) ℓ)

/-- The arrays a device is given. -/
def args (c : Dev nD) : Args where
  dx := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

/-- Row `r` of the block of point `t`. -/
def row (t : Fin cfg0.N) (r : Fin 256) : Fin 8192 := ⟨256 * t.val + r.val, by have h : t.val < 32 := t.isLt; omega⟩

theorem index0 : ∀ t : Fin cfg0.N, win0_0.index t = ![t.val, 0] := (by decide +kernel : ∀ t : Fin grid0.N, _)

theorem block0 (c : Dev nD) (t : Fin cfg0.N) (r : Fin 256) (k : Fin 1024) :
    iblk m c 0 t (ix2 r k) = (args m c).dx (ix2 (row t r) k) := by
  blk_ext [iblk, V, index0 t]
  show t.val * 256 + r.val = 256 * t.val + r.val
  omega

theorem index1 : ∀ t : Fin cfg0.N, win0_1.index t (0 : Fin 2) = t.val ∧ win0_1.index t (1 : Fin 2) = 0 :=
  (by decide +kernel : ∀ t : Fin grid0.N, _)

theorem block1 (c : Dev nD) (t : Fin cfg0.N) (r : Fin 256) (k : Fin 1024) :
    X0_1 m c t (ix2 r k) = (args m c).proj (ix2 (row t r) ⟨k.val, by omega⟩) := by
  unfold X0_1 Pipeline.Window.fill
  rw [dif_pos (moved0_1 t _)]
  show m ((c : Thread nD τ).loc main_arg1) ((win0_1.rect t).emb _) = _
  refine congrArg _ (Shape.idx_ext₂ ?_ ?_)
  · rw [win0_1.rect_emb_val t _ 0, (index1 t).1]; show t.val * 256 + r.val = 256 * t.val + r.val; omega
  · rw [win0_1.rect_emb_val t _ 1, (index1 t).2]; show 0 * 1024 + k.val = k.val; omega

theorem index2 : ∀ t : Fin cfg0.N, win0_2.index t (0 : Fin 2) = t.val ∧ win0_2.index t (1 : Fin 2) = 1 :=
  (by decide +kernel : ∀ t : Fin grid0.N, _)

theorem block2 (c : Dev nD) (t : Fin cfg0.N) (r : Fin 256) (k : Fin 1024) :
    X0_2 m c t (ix2 r k) = (args m c).proj (ix2 (row t r) ⟨1024 + k.val, by omega⟩) := by
  unfold X0_2 Pipeline.Window.fill
  rw [dif_pos (moved0_2 t _)]
  show m ((c : Thread nD τ).loc main_arg1) ((win0_2.rect t).emb _) = _
  refine congrArg _ (Shape.idx_ext₂ ?_ ?_)
  · rw [win0_2.rect_emb_val t _ 0, (index2 t).1]; show t.val * 256 + r.val = 256 * t.val + r.val; omega
  · rw [win0_2.rect_emb_val t _ 1, (index2 t).2]; show 1 * 1024 + k.val = 1024 + k.val; omega

theorem index3 : ∀ t : Fin cfg0.N, win0_3.index t (0 : Fin 2) = t.val ∧ win0_3.index t (1 : Fin 2) = 2 :=
  (by decide +kernel : ∀ t : Fin grid0.N, _)

theorem block3 (c : Dev nD) (t : Fin cfg0.N) (r : Fin 256) (k : Fin 1024) :
    X0_3 m c t (ix2 r k) = (args m c).proj (ix2 (row t r) ⟨2048 + k.val, by omega⟩) := by
  unfold X0_3 Pipeline.Window.fill
  rw [dif_pos (moved0_3 t _)]
  show m ((c : Thread nD τ).loc main_arg1) ((win0_3.rect t).emb _) = _
  refine congrArg _ (Shape.idx_ext₂ ?_ ?_)
  · rw [win0_3.rect_emb_val t _ 0, (index3 t).1]; show t.val * 256 + r.val = 256 * t.val + r.val; omega
  · rw [win0_3.rect_emb_val t _ 1, (index3 t).2]; show 2 * 1024 + k.val = 2048 + k.val; omega

theorem index4 : ∀ t : Fin cfg0.N, win0_4.index t = ![0, 0] := (by decide +kernel : ∀ t : Fin grid0.N, _)

theorem block4 (c : Dev nD) (t : Fin cfg0.N) (r : Fin 1) (k : Fin 3072) :
    iblk m c 4 t (ix2 r k) = (args m c).bg (ix2 0 k) := by
  blk_ext [iblk, V, index4 t]

theorem index5 : ∀ t : Fin cfg0.N, win0_5.index t = ![t.val, 0] := (by decide +kernel : ∀ t : Fin grid0.N, _)

theorem block5 (c : Dev nD) (t : Fin cfg0.N) (r : Fin 256) (k : Fin 256) :
    iblk m c 5 t (ix2 r k) = (args m c).so (ix2 (row t r) k) := by
  blk_ext [iblk, V, index5 t]
  show t.val * 256 + r.val = 256 * t.val + r.val
  omega

theorem index6 : ∀ t : Fin cfg0.N, win0_6.index t = ![t.val, 0] := (by decide +kernel : ∀ t : Fin grid0.N, _)

theorem block6 (c : Dev nD) (t : Fin cfg0.N) (r : Fin 256) (k : Fin 512) :
    iblk m c 6 t (ix2 r k) = (args m c).ao (ix2 (row t r) k) := by
  blk_ext [iblk, V, index6 t]
  show t.val * 256 + r.val = 256 * t.val + r.val
  omega

theorem index7 : ∀ t : Fin cfg0.N, win0_7.index t = ![t.val, 0] := (by decide +kernel : ∀ t : Fin grid0.N, _)

theorem block7 (c : Dev nD) (t : Fin cfg0.N) (r : Fin 256) (k : Fin 256) :
    iblk m c 7 t (ix2 r k) = (args m c).co (ix2 (row t r) k) := by
  blk_ext [iblk, V, index7 t]
  show t.val * 256 + r.val = 256 * t.val + r.val
  omega

theorem index8 : ∀ t : Fin cfg0.N, win0_8.index t = ![1, 0, 0] := (by decide +kernel : ∀ t : Fin grid0.N, _)

theorem block8 (c : Dev nD) (t : Fin cfg0.N) (z : Fin 1) (r : Fin 256) (k : Fin 1024) :
    iblk m c 8 t (ix3 z r k) = (args m c).ws (ix3 1 r k) := by
  blk_ext [iblk, V, index8 t]

theorem index9 : ∀ t : Fin cfg0.N, win0_9.index t = ![1, 0, 0] := (by decide +kernel : ∀ t : Fin grid0.N, _)

theorem block9 (c : Dev nD) (t : Fin cfg0.N) (z : Fin 1) (r : Fin 512) (k : Fin 1024) :
    iblk m c 9 t (ix3 z r k) = (args m c).wa (ix3 1 r k) := by
  blk_ext [iblk, V, index9 t]

theorem index10 : ∀ t : Fin cfg0.N, win0_10.index t = ![1, 0, 0] := (by decide +kernel : ∀ t : Fin grid0.N, _)

theorem block10 (c : Dev nD) (t : Fin cfg0.N) (z : Fin 1) (r : Fin 256) (k : Fin 1024) :
    iblk m c 10 t (ix3 z r k) = (args m c).wc (ix3 1 r k) := by
  blk_ext [iblk, V, index10 t]

theorem index11 : ∀ t : Fin cfg0.N, win0_11.index t = ![1, 0, 0] := (by decide +kernel : ∀ t : Fin grid0.N, _)

theorem block11 (c : Dev nD) (t : Fin cfg0.N) (z : Fin 1) (r : Fin 1024) (k : Fin 1024) :
    iblk m c 11 t (ix3 z r k) = (args m c).wo (ix3 1 r k) := by
  blk_ext [iblk, V, index11 t]

end Cert.Merge

end
-- ==== Proof.Merge.Outputs.lean ====
/- What a grid point of the gated merge's gradient stores, entry by entry. -/
module

public import proofs.«01_k».proof.Proof.Merge.Blocks
public import Idealize.ShloMosaic.Lib.Pipeline.ValueKit

@[expose] public section

set_option maxHeartbeats 1000000

noncomputable section

namespace Cert.Merge

open Idealize.ShloMosaic Idealize.ShloMosaic.TcCoe Idealize.SL.Sem
open Cert.Common Cert.KernelIdeal Cert.KernelIdeal.Gen

variable (m : (ℓ : Loc nD τ sig) → Buf (Elt Ideal) ℓ)

/-! The values a point computes from its blocks. -/

theorem point_ys (c : Dev nD) (t : Fin cfg0.N) (r : Fin 256) (j : Fin 1024) :
    k0_pay10 (iblk m c 8 t) (iblk m c 5 t) (ix2 r j) = (args m c).ys (row t r) j := by
  pointwise [k0_pay10, k0_pay7, block5, block8, Args.ys]

theorem point_ya (c : Dev nD) (t : Fin cfg0.N) (r : Fin 256) (j : Fin 1024) :
    k0_pay11 (iblk m c 9 t) (iblk m c 6 t) (ix2 r j) = (args m c).ya (row t r) j := by
  pointwise [k0_pay11, k0_pay8, block6, block9, Args.ya]

theorem point_yc (c : Dev nD) (t : Fin cfg0.N) (r : Fin 256) (j : Fin 1024) :
    k0_pay12 (iblk m c 10 t) (iblk m c 7 t) (ix2 r j) = (args m c).yc (row t r) j := by
  pointwise [k0_pay12, k0_pay9, block7, block10, Args.yc]

theorem point_dm (c : Dev nD) (t : Fin cfg0.N) (r : Fin 256) (j : Fin 1024) :
    k0_pay19 (iblk m c 0 t) (iblk m c 11 t) (ix2 r j) = (args m c).dm (row t r) j := by
  pointwise [k0_pay19, k0_pay18, block0, block11, Args.dm]

theorem point_gate0 (c : Dev nD) (t : Fin cfg0.N) (r : Fin 256) (j : Fin 1024) :
    k0_pay13 (X0_1 m c t) (iblk m c 4 t) (ix2 r j) = (args m c).gate (row t r) (Args.q0 j) := by
  pointwise [k0_pay13, block1, block4, zero_sub, Args.gate, Args.q0]

theorem point_gate1 (c : Dev nD) (t : Fin cfg0.N) (r : Fin 256) (j : Fin 1024) :
    k0_pay15 (X0_2 m c t) (k0_pay14 (iblk m c 4 t)) (ix2 r j) = (args m c).gate (row t r) (Args.q1 j) := by
  pointwise [k0_pay15, k0_pay14, block2, block4, zero_sub, Args.gate, Args.q1]

theorem point_gate2 (c : Dev nD) (t : Fin cfg0.N) (r : Fin 256) (j : Fin 1024) :
    k0_pay16 (X0_3 m c t) (iblk m c 4 t) (ix2 r j) = (args m c).gate (row t r) (Args.q2 j) := by
  pointwise [k0_pay16, block3, block4, zero_sub, Args.gate, Args.q2]

/-- The first point is the only one that does not add to what came before. -/
theorem first_or_later (t : Fin cfg0.N) :
    (t.val % 32 = 0 ∧ ¬ 1 ≤ t.val) ∨ (¬ t.val % 32 = 0 ∧ 1 ≤ t.val) := by
  have h : t.val < 32 := t.isLt
  omega

theorem stored13_eq (c : Dev nD) (t : Fin cfg0.N) :
    (outsAt0 m c t.val t.isLt).2.1 = k0_pay25 (k0_pay7 (iblk m c 8 t)) (k0_pay13 (X0_1 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored13 (c : Dev nD) (t : Fin cfg0.N) (r : Fin 256) (j : Fin 256) :
    (outsAt0 m c t.val t.isLt).2.1 (ix2 r j) = (args m c).dso (row t r) j := by
  rw [stored13_eq]
  pointwise! [k0_pay25, k0_pay24, k0_pay7, block8, point_ys, point_ya, point_yc, point_dm, point_gate0, point_gate1, point_gate2, Args.dso, Args.dy]

theorem stored14_eq (c : Dev nD) (t : Fin cfg0.N) :
    (outsAt0 m c t.val t.isLt).2.2.1 = k0_pay31 (k0_pay8 (iblk m c 9 t)) (k0_pay15 (X0_2 m c t) (k0_pay14 (iblk m c 4 t))) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored14 (c : Dev nD) (t : Fin cfg0.N) (r : Fin 256) (j : Fin 512) :
    (outsAt0 m c t.val t.isLt).2.2.1 (ix2 r j) = (args m c).dao (row t r) j := by
  rw [stored14_eq]
  pointwise! [k0_pay31, k0_pay30, k0_pay8, block9, point_ys, point_ya, point_yc, point_dm, point_gate0, point_gate1, point_gate2, Args.dao, Args.dy]

theorem stored15_eq (c : Dev nD) (t : Fin cfg0.N) :
    (outsAt0 m c t.val t.isLt).2.2.2.1 = k0_pay6 (k0_pay9 (iblk m c 10 t)) (k0_pay16 (X0_3 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored15 (c : Dev nD) (t : Fin cfg0.N) (r : Fin 256) (j : Fin 256) :
    (outsAt0 m c t.val t.isLt).2.2.2.1 (ix2 r j) = (args m c).dco (row t r) j := by
  rw [stored15_eq]
  pointwise! [k0_pay6, k0_pay5, k0_pay9, block10, point_ys, point_ya, point_yc, point_dm, point_gate0, point_gate1, point_gate2, Args.dco, Args.dy]

theorem stored17_eq (c : Dev nD) (t : Fin cfg0.N) :
    (outsAt0 m c t.val t.isLt).2.2.2.2.2.1 = k0_pay17 (X0_2 m c t) (X0_3 m c t) (iblk m c 4 t) (k0_pay10 (iblk m c 8 t) (iblk m c 5 t)) (k0_pay11 (iblk m c 9 t) (iblk m c 6 t)) (k0_pay12 (iblk m c 10 t) (iblk m c 7 t)) (k0_pay13 (X0_1 m c t) (iblk m c 4 t)) (k0_pay14 (iblk m c 4 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored17 (c : Dev nD) (t : Fin cfg0.N) (r : Fin 256) (j : Fin 1024) :
    (outsAt0 m c t.val t.isLt).2.2.2.2.2.1 (ix2 r j) = (args m c).merged (row t r) j := by
  rw [stored17_eq]
  pointwise! [k0_pay17, point_ys, point_ya, point_yc, point_dm, point_gate0, point_gate1, point_gate2, Args.merged]

theorem stored18_eq (c : Dev nD) (t : Fin cfg0.N) :
    (outsAt0 m c t.val t.isLt).2.2.2.2.2.2.1 = k0_pay18 (iblk m c 0 t) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored18 (c : Dev nD) (t : Fin cfg0.N) (r : Fin 256) (j : Fin 1024) :
    (outsAt0 m c t.val t.isLt).2.2.2.2.2.2.1 (ix2 r j) = (args m c).dx (ix2 (row t r) j) := by
  rw [stored18_eq]
  pointwise! [k0_pay18, block0, point_ys, point_ya, point_yc, point_dm, point_gate0, point_gate1, point_gate2]

theorem stored19_eq (c : Dev nD) (t : Fin cfg0.N) :
    (outsAt0 m c t.val t.isLt).2.2.2.2.2.2.2.1 = k0_pay24 (k0_pay13 (X0_1 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored19 (c : Dev nD) (t : Fin cfg0.N) (r : Fin 256) (j : Fin 1024) :
    (outsAt0 m c t.val t.isLt).2.2.2.2.2.2.2.1 (ix2 r j) = (args m c).dy (row t r) Args.q0 j := by
  rw [stored19_eq]
  pointwise! [k0_pay24, point_ys, point_ya, point_yc, point_dm, point_gate0, point_gate1, point_gate2, Args.dy]

theorem stored20_eq (c : Dev nD) (t : Fin cfg0.N) :
    (outsAt0 m c t.val t.isLt).2.2.2.2.2.2.2.2.1 = k0_pay30 (k0_pay15 (X0_2 m c t) (k0_pay14 (iblk m c 4 t))) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored20 (c : Dev nD) (t : Fin cfg0.N) (r : Fin 256) (j : Fin 1024) :
    (outsAt0 m c t.val t.isLt).2.2.2.2.2.2.2.2.1 (ix2 r j) = (args m c).dy (row t r) Args.q1 j := by
  rw [stored20_eq]
  pointwise! [k0_pay30, point_ys, point_ya, point_yc, point_dm, point_gate0, point_gate1, point_gate2, Args.dy]

theorem stored21_eq (c : Dev nD) (t : Fin cfg0.N) :
    (outsAt0 m c t.val t.isLt).2.2.2.2.2.2.2.2.2 = k0_pay5 (k0_pay16 (X0_3 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored21 (c : Dev nD) (t : Fin cfg0.N) (r : Fin 256) (j : Fin 1024) :
    (outsAt0 m c t.val t.isLt).2.2.2.2.2.2.2.2.2 (ix2 r j) = (args m c).dy (row t r) Args.q2 j := by
  rw [stored21_eq]
  pointwise! [k0_pay5, point_ys, point_ya, point_yc, point_dm, point_gate0, point_gate1, point_gate2, Args.dy]

end Cert.Merge

end
-- ==== Proof.Merge.Arrays.lean ====
/- What the gated merge's gradient leaves in its result arrays. -/
module

public import proofs.«01_k».proof.Proof.Merge.Outputs
public import Idealize.ShloMosaic.Lib.Pipeline.ValueKit

@[expose] public section

set_option maxHeartbeats 1000000

noncomputable section

namespace Cert.Merge

open Idealize.ShloMosaic Idealize.ShloMosaic.TcCoe Idealize.SL.Sem
open Cert.Common Cert.KernelIdeal Cert.KernelIdeal.Gen

variable (m : (ℓ : Loc nD τ sig) → Buf (Elt Ideal) ℓ)

/-! The gates' logits' gradient: a point stores the columns of the three branches side by side. -/

theorem point_dl2 (c : Dev nD) (t : Fin cfg0.N) (r : Fin 256) (j : Fin 1024) :
    k0_pay2 (k0_pay12 (iblk m c 10 t) (iblk m c 7 t)) (k0_pay16 (X0_3 m c t) (iblk m c 4 t)) (k0_pay19 (iblk m c 0 t) (iblk m c 11 t)) (ix2 r j) = (args m c).dl (row t r) (Args.q2 j) := by
  rw [Args.dl_q2]
  pointwise! [k0_pay2, k0_pay1, point_ys, point_ya, point_yc, point_dm, point_gate0, point_gate1, point_gate2, Args.dlogit]
  try ac_rfl

theorem point_dl1 (c : Dev nD) (t : Fin cfg0.N) (r : Fin 256) (j : Fin 1024) :
    k0_pay27 (k0_pay11 (iblk m c 9 t) (iblk m c 6 t)) (k0_pay15 (X0_2 m c t) (k0_pay14 (iblk m c 4 t))) (k0_pay19 (iblk m c 0 t) (iblk m c 11 t)) (ix2 r j) = (args m c).dl (row t r) (Args.q1 j) := by
  rw [Args.dl_q1]
  pointwise! [k0_pay27, k0_pay26, point_ys, point_ya, point_yc, point_dm, point_gate0, point_gate1, point_gate2, Args.dlogit]
  try ac_rfl

theorem point_dl0 (c : Dev nD) (t : Fin cfg0.N) (r : Fin 256) (j : Fin 1024) :
    k0_pay21 (k0_pay10 (iblk m c 8 t) (iblk m c 5 t)) (k0_pay13 (X0_1 m c t) (iblk m c 4 t)) (iblk m c 0 t) (iblk m c 11 t) (ix2 r j) = (args m c).dl (row t r) (Args.q0 j) := by
  rw [Args.dl_q0]
  pointwise! [k0_pay21, k0_pay20, point_ys, point_ya, point_yc, point_dm, point_gate0, point_gate1, point_gate2, Args.dlogit]
  try ac_rfl

theorem stored12 (c : Dev nD) (t : Fin cfg0.N) (y : S256x3072.Idx) :
    (outsAt0 m c t.val t.isLt).1 y = (args m c).dl (row t (y 0)) (y 1) := by
  rcases first_or_later t with ⟨a0, a1⟩ | ⟨a0, a1⟩
  all_goals
    first | rw [outsAt0_A m c t a0 a1 a0 a1 a0 a1] | rw [outsAt0_B m c t a0 a1 a0 a1 a0 a1]
    frame_out
    canon_tiles x h
    · exact (entries (point_dl2 m c t) x).trans (congrArg₂ (fun R q => (args m c).dl R q)
        (congrArg (row t) (Fin.ext h0.symm)) (Fin.ext h1.symm))
    · exact (entries (point_dl1 m c t) x).trans (congrArg₂ (fun R q => (args m c).dl R q)
        (congrArg (row t) (Fin.ext h0.symm)) (Fin.ext h1.symm))
    · exact (entries (point_dl0 m c t) x).trans (congrArg₂ (fun R q => (args m c).dl R q)
        (congrArg (row t) (Fin.ext h0.symm)) (Fin.ext h1.symm))

/-! The gates' bias's gradient: every point adds the sums over its rows. -/

theorem point_dbg2 (c : Dev nD) (t : Fin cfg0.N) (z : Fin 1) (j : Fin 1024) :
    k0_pay3 (k0_pay12 (iblk m c 10 t) (iblk m c 7 t)) (k0_pay16 (X0_3 m c t) (iblk m c 4 t)) (k0_pay19 (iblk m c 0 t) (iblk m c 11 t)) (ix2 z j) = ∑ r : Fin 256, (args m c).dl (row t r) (Args.q2 j) := by
  simp only [← point_dl2 m c t]
  pointwise [k0_pay3, k0_pay2, k0_pay1]

theorem point_dbg2_add (c : Dev nD) (t : Fin cfg0.N) (acc : S1x1024.Idx → EReal) (z : Fin 1) (j : Fin 1024) :
    k0_pay4 (k0_pay12 (iblk m c 10 t) (iblk m c 7 t)) (k0_pay16 (X0_3 m c t) (iblk m c 4 t)) (k0_pay19 (iblk m c 0 t) (iblk m c 11 t)) acc (ix2 z j)
      = acc (ix2 z j) + ∑ r : Fin 256, (args m c).dl (row t r) (Args.q2 j) := by
  simp only [← point_dl2 m c t]
  pointwise! [k0_pay4, k0_pay3, k0_pay2, k0_pay1]

theorem point_dbg2_add_at (c : Dev nD) (t : Fin cfg0.N) (acc : S1x1024.Idx → EReal) (x : S1x1024.Idx) :
    k0_pay4 (k0_pay12 (iblk m c 10 t) (iblk m c 7 t)) (k0_pay16 (X0_3 m c t) (iblk m c 4 t)) (k0_pay19 (iblk m c 0 t) (iblk m c 11 t)) acc x
      = acc x + ∑ r : Fin 256, (args m c).dl (row t r) (Args.q2 (x 1)) := by
  rw [eq_ix2 x]
  exact point_dbg2_add m c t acc (x 0) (x 1)

theorem point_dbg1 (c : Dev nD) (t : Fin cfg0.N) (z : Fin 1) (j : Fin 1024) :
    k0_pay28 (k0_pay11 (iblk m c 9 t) (iblk m c 6 t)) (k0_pay15 (X0_2 m c t) (k0_pay14 (iblk m c 4 t))) (k0_pay19 (iblk m c 0 t) (iblk m c 11 t)) (ix2 z j) = ∑ r : Fin 256, (args m c).dl (row t r) (Args.q1 j) := by
  simp only [← point_dl1 m c t]
  pointwise [k0_pay28, k0_pay27, k0_pay26]

theorem point_dbg1_add (c : Dev nD) (t : Fin cfg0.N) (acc : S1x1024.Idx → EReal) (z : Fin 1) (j : Fin 1024) :
    k0_pay29 (k0_pay11 (iblk m c 9 t) (iblk m c 6 t)) (k0_pay15 (X0_2 m c t) (k0_pay14 (iblk m c 4 t))) (k0_pay19 (iblk m c 0 t) (iblk m c 11 t)) acc (ix2 z j)
      = acc (ix2 z j) + ∑ r : Fin 256, (args m c).dl (row t r) (Args.q1 j) := by
  simp only [← point_dl1 m c t]
  pointwise! [k0_pay29, k0_pay28, k0_pay27, k0_pay26]

theorem point_dbg1_add_at (c : Dev nD) (t : Fin cfg0.N) (acc : S1x1024.Idx → EReal) (x : S1x1024.Idx) :
    k0_pay29 (k0_pay11 (iblk m c 9 t) (iblk m c 6 t)) (k0_pay15 (X0_2 m c t) (k0_pay14 (iblk m c 4 t))) (k0_pay19 (iblk m c 0 t) (iblk m c 11 t)) acc x
      = acc x + ∑ r : Fin 256, (args m c).dl (row t r) (Args.q1 (x 1)) := by
  rw [eq_ix2 x]
  exact point_dbg1_add m c t acc (x 0) (x 1)

theorem point_dbg0 (c : Dev nD) (t : Fin cfg0.N) (z : Fin 1) (j : Fin 1024) :
    k0_pay22 (k0_pay20 (k0_pay10 (iblk m c 8 t) (iblk m c 5 t)) (k0_pay13 (X0_1 m c t) (iblk m c 4 t)) (iblk m c 0 t) (iblk m c 11 t)) (ix2 z j) = ∑ r : Fin 256, (args m c).dl (row t r) (Args.q0 j) := by
  simp only [← point_dl0 m c t]
  pointwise [k0_pay22, k0_pay21]

theorem point_dbg0_add (c : Dev nD) (t : Fin cfg0.N) (acc : S1x1024.Idx → EReal) (z : Fin 1) (j : Fin 1024) :
    k0_pay23 (k0_pay20 (k0_pay10 (iblk m c 8 t) (iblk m c 5 t)) (k0_pay13 (X0_1 m c t) (iblk m c 4 t)) (iblk m c 0 t) (iblk m c 11 t)) acc (ix2 z j)
      = acc (ix2 z j) + ∑ r : Fin 256, (args m c).dl (row t r) (Args.q0 j) := by
  simp only [← point_dl0 m c t]
  pointwise! [k0_pay23, k0_pay22, k0_pay21]

theorem point_dbg0_add_at (c : Dev nD) (t : Fin cfg0.N) (acc : S1x1024.Idx → EReal) (x : S1x1024.Idx) :
    k0_pay23 (k0_pay20 (k0_pay10 (iblk m c 8 t) (iblk m c 5 t)) (k0_pay13 (X0_1 m c t) (iblk m c 4 t)) (iblk m c 0 t) (iblk m c 11 t)) acc x
      = acc x + ∑ r : Fin 256, (args m c).dl (row t r) (Args.q0 (x 1)) := by
  rw [eq_ix2 x]
  exact point_dbg0_add m c t acc (x 0) (x 1)

/-- The first point stores its rows' sums, -/
theorem stored16_first (c : Dev nD) (t : Fin cfg0.N) (h : t.val % 32 = 0) (y : S1x3072.Idx) :
    (outsAt0 m c t.val t.isLt).2.2.2.2.1 y = 0 + ∑ r : Fin 256, (args m c).dl (row t r) (y 1) := by
  rw [zero_add]
  rcases first_or_later t with ⟨a0, a1⟩ | ⟨a0, a1⟩
  · rw [outsAt0_A m c t a0 a1 a0 a1 a0 a1]
    frame_out
    canon_tiles x h
    · rw [show y 1 = Args.q2 (x 1) from Fin.ext h1]
      exact entries (point_dbg2 m c t) x
    · rw [show y 1 = Args.q1 (x 1) from Fin.ext h1]
      exact entries (point_dbg1 m c t) x
    · rw [show y 1 = Args.q0 (x 1) from Fin.ext h1]
      exact entries (point_dbg0 m c t) x
  · exact absurd h a0

/-- and a later one adds them to what is there. -/
theorem stored16_later (c : Dev nD) (t : Fin cfg0.N) (h : ¬ t.val % 32 = 0) (y : S1x3072.Idx) :
    (outsAt0 m c t.val t.isLt).2.2.2.2.1 y
      = (outsAt0 m c (t.val - 1) (Nat.lt_of_le_of_lt (Nat.sub_le _ _) t.isLt)).2.2.2.2.1 y
        + ∑ r : Fin 256, (args m c).dl (row t r) (y 1) := by
  rcases first_or_later t with ⟨a0, a1⟩ | ⟨a0, a1⟩
  · exact absurd a0 h
  · rw [outsAt0_B m c t a0 a1 a0 a1 a0 a1]
    frame_out
    canon_tiles x h
    · rw [show y 1 = Args.q2 (x 1) from Fin.ext h1]
      refine (point_dbg2_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 2048 + 1 * (x 1).val = (y 1).val; omega
    · rw [show y 1 = Args.q1 (x 1) from Fin.ext h1]
      refine (point_dbg1_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 1024 + 1 * (x 1).val = (y 1).val; omega
    · rw [show y 1 = Args.q0 (x 1) from Fin.ext h1]
      refine (point_dbg0_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 0 + 1 * (x 1).val = (y 1).val; omega

/-- The last point leaves the sums over all rows. -/
theorem stored16_last (c : Dev nD) (t : Fin cfg0.N) (ht : t.val + 1 = cfg0.N) (y : S1x3072.Idx) :
    (outsAt0 m c t.val t.isLt).2.2.2.2.1 y = (args m c).dbg (y 1) := by
  refine (Pipeline.eq_sum_fin_of_reset_step_apply_last (fun n h => (outsAt0 m c n h).2.2.2.2.1) 32 (fun _ => 0) _
    (fun t h j => stored16_first m c t h j) (fun t h j => stored16_later m c t h j) (Nat.le_refl 32) t ht y).trans ?_
  unfold Args.dbg
  rw [zero_add, Fin.sum_univ_tiles 32 256 rfl]
  refine Finset.sum_congr rfl fun p _ => Finset.sum_congr rfl fun r _ => ?_
  congr 1
  exact Fin.ext (by show 256 * p.val + r.val = p.val * 256 + r.val; omega)

/-! The arrays after the run. -/

theorem out12 : ∀ t : Fin cfg0.N, win0_12.index t = ![t.val, 0] := (by decide +kernel : ∀ t : Fin grid0.N, _)

theorem array12 (c : Dev nD) : (dats m 0 c).arrAt 12 cfg0.N = (args m c).dlR := by
  refine (dats m 0 c).arrAt_eq_of_covers 12 _ (by decide +kernel) fun t hf y => ?_
  blk_simp
  rw [after0_12]
  refine (stored12 m c t y).trans ?_
  refine congrArg₂ (fun R q => (args m c).dl R q) (Fin.ext ?_) (Fin.ext ?_) <;> blk_simp [out12 t]
  show 256 * t.val + _ = t.val * 256 + _
  omega

theorem out13 : ∀ t : Fin cfg0.N, win0_13.index t = ![t.val, 0] := (by decide +kernel : ∀ t : Fin grid0.N, _)

theorem array13 (c : Dev nD) : (dats m 0 c).arrAt 13 cfg0.N = (args m c).dsoR := by
  refine (dats m 0 c).arrAt_eq_of_covers 13 _ (by decide +kernel) fun t hf y => ?_
  blk_simp
  rw [after0_13]
  refine (entries (stored13 m c t) y).trans ?_
  refine congrArg₂ (fun R j => (args m c).dso R j) (Fin.ext ?_) (Fin.ext ?_) <;> blk_simp [out13 t]
  show 256 * t.val + _ = t.val * 256 + _
  omega

theorem out14 : ∀ t : Fin cfg0.N, win0_14.index t = ![t.val, 0] := (by decide +kernel : ∀ t : Fin grid0.N, _)

theorem array14 (c : Dev nD) : (dats m 0 c).arrAt 14 cfg0.N = (args m c).daoR := by
  refine (dats m 0 c).arrAt_eq_of_covers 14 _ (by decide +kernel) fun t hf y => ?_
  blk_simp
  rw [after0_14]
  refine (entries (stored14 m c t) y).trans ?_
  refine congrArg₂ (fun R j => (args m c).dao R j) (Fin.ext ?_) (Fin.ext ?_) <;> blk_simp [out14 t]
  show 256 * t.val + _ = t.val * 256 + _
  omega

theorem out15 : ∀ t : Fin cfg0.N, win0_15.index t = ![t.val, 0] := (by decide +kernel : ∀ t : Fin grid0.N, _)

theorem array15 (c : Dev nD) : (dats m 0 c).arrAt 15 cfg0.N = (args m c).dcoR := by
  refine (dats m 0 c).arrAt_eq_of_covers 15 _ (by decide +kernel) fun t hf y => ?_
  blk_simp
  rw [after0_15]
  refine (entries (stored15 m c t) y).trans ?_
  refine congrArg₂ (fun R j => (args m c).dco R j) (Fin.ext ?_) (Fin.ext ?_) <;> blk_simp [out15 t]
  show 256 * t.val + _ = t.val * 256 + _
  omega

theorem out16 : ∀ t : Fin cfg0.N, win0_16.index t = ![0, 0] := (by decide +kernel : ∀ t : Fin grid0.N, _)

theorem array16 (c : Dev nD) : (dats m 0 c).arrAt 16 cfg0.N = (args m c).dbgR := by
  refine (dats m 0 c).arrAt_eq_of_covers 16 _ (by decide +kernel) fun t hf y => ?_
  blk_simp
  rw [after0_16]
  have ht : t.val % 32 = 31 := (flush0_16 t).mp hf
  have hN : t.val < 32 := t.isLt
  refine (stored16_last m c t (by show t.val + 1 = 32; omega) y).trans ?_
  unfold Args.dbgR
  congr 1
  refine Fin.ext ?_
  blk_simp [out16 t]
theorem out17 : ∀ t : Fin cfg0.N, win0_17.index t = ![t.val, 0] := (by decide +kernel : ∀ t : Fin grid0.N, _)

theorem array17 (c : Dev nD) : (dats m 0 c).arrAt 17 cfg0.N = (args m c).mergedR := by
  refine (dats m 0 c).arrAt_eq_of_covers 17 _ (by decide +kernel) fun t hf y => ?_
  blk_simp
  rw [after0_17]
  refine (entries (stored17 m c t) y).trans ?_
  refine congrArg₂ (fun R j => (args m c).merged R j) (Fin.ext ?_) (Fin.ext ?_) <;> blk_simp [out17 t]
  show 256 * t.val + _ = t.val * 256 + _
  omega

theorem out18 : ∀ t : Fin cfg0.N, win0_18.index t = ![t.val, 0] := (by decide +kernel : ∀ t : Fin grid0.N, _)

theorem array18 (c : Dev nD) : (dats m 0 c).arrAt 18 cfg0.N = (args m c).dxR := by
  refine (dats m 0 c).arrAt_eq_of_covers 18 _ (by decide +kernel) fun t hf y => ?_
  blk_simp
  rw [after0_18]
  refine (entries (stored18 m c t) y).trans ?_
  refine Eq.trans ?_ (congrArg (args m c).dx (eq_ix2 _).symm)
  refine congrArg₂ (fun R j => (args m c).dx (ix2 R j)) (Fin.ext ?_) (Fin.ext ?_) <;> blk_simp [out18 t]
  show 256 * t.val + _ = t.val * 256 + _
  omega

theorem out19 : ∀ t : Fin cfg0.N, win0_19.index t = ![t.val, 0] := (by decide +kernel : ∀ t : Fin grid0.N, _)

theorem array19 (c : Dev nD) : (dats m 0 c).arrAt 19 cfg0.N = (args m c).dysR := by
  refine (dats m 0 c).arrAt_eq_of_covers 19 _ (by decide +kernel) fun t hf y => ?_
  blk_simp
  rw [after0_19]
  refine (entries (stored19 m c t) y).trans ?_
  refine congrArg₂ (fun R j => (args m c).dy R Args.q0 j) (Fin.ext ?_) (Fin.ext ?_) <;> blk_simp [out19 t]
  show 256 * t.val + _ = t.val * 256 + _
  omega

theorem out20 : ∀ t : Fin cfg0.N, win0_20.index t = ![t.val, 0] := (by decide +kernel : ∀ t : Fin grid0.N, _)

theorem array20 (c : Dev nD) : (dats m 0 c).arrAt 20 cfg0.N = (args m c).dyaR := by
  refine (dats m 0 c).arrAt_eq_of_covers 20 _ (by decide +kernel) fun t hf y => ?_
  blk_simp
  rw [after0_20]
  refine (entries (stored20 m c t) y).trans ?_
  refine congrArg₂ (fun R j => (args m c).dy R Args.q1 j) (Fin.ext ?_) (Fin.ext ?_) <;> blk_simp [out20 t]
  show 256 * t.val + _ = t.val * 256 + _
  omega

theorem out21 : ∀ t : Fin cfg0.N, win0_21.index t = ![t.val, 0] := (by decide +kernel : ∀ t : Fin grid0.N, _)

theorem array21 (c : Dev nD) : (dats m 0 c).arrAt 21 cfg0.N = (args m c).dycR := by
  refine (dats m 0 c).arrAt_eq_of_covers 21 _ (by decide +kernel) fun t hf y => ?_
  blk_simp
  rw [after0_21]
  refine (entries (stored21 m c t) y).trans ?_
  refine congrArg₂ (fun R j => (args m c).dy R Args.q2 j) (Fin.ext ?_) (Fin.ext ?_) <;> blk_simp [out21 t]
  show 256 * t.val + _ = t.val * 256 + _
  omega

end Cert.Merge

end
-- ==== Proof.Merge.Reference.lean ====
/- The reference of the gated merge's gradient computes the entries of Spec. -/
module

public import proofs.«01_k».proof.Proof.Gen.ReferenceIdeal.Read
public import proofs.«01_k».proof.Proof.Merge.Spec

@[expose] public section

noncomputable section

namespace Cert.Merge

open Idealize.ShloMosaic Cert.Common Cert.ReferenceIdeal Cert.ReferenceIdeal.Read

variable (a : Args)

/-- The gates of the reference. -/
theorem ref_gate (R : Fin 8192) (q : Fin 3072) : val_main_v23 (F := Ideal) a.proj a.bg (ix2 R q) = a.gate R q := by
  pointwise [val_main_v23, val_main_v22, val_main_v21, val_main_v20, val_main_v19, val_main_v18, val_main_v17,
    val_main_v16, val_main_v15, val_main_cst, val_main_cst_0, Args.gate]

theorem ref_ys (R : Fin 8192) (j : Fin 1024) : val_main_v12 (F := Ideal) a.so a.ws (ix2 R j) = a.ys R j := by
  pointwise [val_main_v12, val_main_v2, val_main_v1, val_main_v0, Args.ys]

theorem ref_ya (R : Fin 8192) (j : Fin 1024) : val_main_v13 (F := Ideal) a.ao a.wa (ix2 R j) = a.ya R j := by
  pointwise [val_main_v13, val_main_v5, val_main_v4, val_main_v3, Args.ya]

theorem ref_yc (R : Fin 8192) (j : Fin 1024) : val_main_v14 (F := Ideal) a.co a.wc (ix2 R j) = a.yc R j := by
  pointwise [val_main_v14, val_main_v8, val_main_v7, val_main_v6, Args.yc]

theorem ref_dm (R : Fin 8192) (j : Fin 1024) : val_main_v36 (F := Ideal) a.dx a.wo (ix2 R j) = a.dm R j := by
  pointwise [val_main_v36, val_main_v11, val_main_v10, val_main_v9, Args.dm]

theorem ref_merged (R : Fin 8192) (j : Fin 1024) :
    val_main_v51 (F := Ideal) a.proj a.bg a.so a.ao a.co a.ws a.wa a.wc (ix2 R j) = a.merged R j := by
  pointwise [val_main_v51, val_main_v34, val_main_v33, val_main_v32, val_main_v31, val_main_v30, val_main_v29,
    val_main_v28, val_main_v27, ref_gate, ref_ys, ref_ya, ref_yc, Args.merged, Args.q0, Args.q1, Args.q2]

theorem ref_dys (R : Fin 8192) (j : Fin 1024) :
    val_main_v41 (F := Ideal) a.dx a.proj a.bg a.wo (ix2 R j) = a.dy R Args.q0 j := by
  pointwise [val_main_v41, val_main_v27, ref_gate, ref_dm, Args.dy, Args.q0]

theorem ref_dya (R : Fin 8192) (j : Fin 1024) :
    val_main_v39 (F := Ideal) a.dx a.proj a.bg a.wo (ix2 R j) = a.dy R Args.q1 j := by
  pointwise [val_main_v39, val_main_v28, ref_gate, ref_dm, Args.dy, Args.q1]

theorem ref_dyc (R : Fin 8192) (j : Fin 1024) :
    val_main_v37 (F := Ideal) a.dx a.proj a.bg a.wo (ix2 R j) = a.dy R Args.q2 j := by
  pointwise [val_main_v37, val_main_v29, ref_gate, ref_dm, Args.dy, Args.q2]

theorem ref_dso (R : Fin 8192) (k : Fin 256) :
    val_main_v48 (F := Ideal) a.dx a.proj a.bg a.ws a.wo (ix2 R k) = a.dso R k := by
  pointwise [val_main_v48, val_main_v2, val_main_v1, val_main_v0, ref_dys, Args.dso]

theorem ref_dao (R : Fin 8192) (k : Fin 512) :
    val_main_v49 (F := Ideal) a.dx a.proj a.bg a.wa a.wo (ix2 R k) = a.dao R k := by
  pointwise [val_main_v49, val_main_v5, val_main_v4, val_main_v3, ref_dya, Args.dao]

theorem ref_dco (R : Fin 8192) (k : Fin 256) :
    val_main_v50 (F := Ideal) a.dx a.proj a.bg a.wc a.wo (ix2 R k) = a.dco R k := by
  pointwise [val_main_v50, val_main_v8, val_main_v7, val_main_v6, ref_dyc, Args.dco]

/-- The gradient of the gates' logits, before it is cast. -/
theorem ref_dl (R : Fin 8192) (q : Fin 3072) :
    val_main_v44 (F := Ideal) a.dx a.proj a.bg a.so a.ao a.co a.ws a.wa a.wc a.wo (ix2 R q) = a.dl R q := by
  pointwise [val_main_v44, val_main_v43, val_main_v42, val_main_v40, val_main_v38, val_main_v26, val_main_v25,
    val_main_v24, val_main_cst_1, ref_gate, ref_ys, ref_ya, ref_yc, ref_dm, Args.dl, Args.dlogit, Value.fn_main_v43]
  by_cases h : q.val < 1024
  · rw [dif_pos h, dif_pos h]
  · by_cases h' : q.val < 2048
    · rw [dif_neg h, dif_neg h, dif_pos (by omega : q.val - 1024 < 1024), dif_pos h']
    · rw [dif_neg h, dif_neg h, dif_neg (by omega : ¬ q.val - 1024 < 1024), dif_neg h']
      simp only [Nat.sub_sub]

theorem ref_dbg (q : Fin 3072) :
    val_main_v46 (F := Ideal) a.dx a.proj a.bg a.so a.ao a.co a.ws a.wa a.wc a.wo (ix2 0 q) = a.dbg q := by
  pointwise [val_main_v46, val_main_v45, val_main_cst_2, ref_dl, Args.dbg]

/-! The same, cast. -/

theorem ref_dl_cast (R : Fin 8192) (q : Fin 3072) :
    val_main_v47 (F := Ideal) a.dx a.proj a.bg a.so a.ao a.co a.ws a.wa a.wc a.wo (ix2 R q) = a.dl R q := by
  pointwise [val_main_v47, ref_dl]

theorem ref_dx (R : Fin 8192) (j : Fin 1024) : val_main_v52 (F := Ideal) a.dx (ix2 R j) = a.dx (ix2 R j) := by
  pointwise [val_main_v52]

theorem ref_dys_cast (R : Fin 8192) (j : Fin 1024) :
    val_main_v53 (F := Ideal) a.dx a.proj a.bg a.wo (ix2 R j) = a.dy R Args.q0 j := by
  pointwise [val_main_v53, ref_dys]

theorem ref_dya_cast (R : Fin 8192) (j : Fin 1024) :
    val_main_v54 (F := Ideal) a.dx a.proj a.bg a.wo (ix2 R j) = a.dy R Args.q1 j := by
  pointwise [val_main_v54, ref_dya]

theorem ref_dyc_cast (R : Fin 8192) (j : Fin 1024) :
    val_main_v55 (F := Ideal) a.dx a.proj a.bg a.wo (ix2 R j) = a.dy R Args.q2 j := by
  pointwise [val_main_v55, ref_dyc]

end Cert.Merge

end
-- ==== Proof.Merge.Claim.lean ====
/- The gated merge's gradient: the kernel and the reference end with the same arrays. -/
module

public import proofs.«01_k».proof.Defs
public import proofs.«01_k».proof.Proof.Gen.ReferenceIdeal.Read
public import proofs.«01_k».proof.Proof.Merge.Arrays
public import proofs.«01_k».proof.Proof.Merge.Reference
public import Idealize.ShloMosaic.Lib.Quiescent

@[expose] public section

set_option maxHeartbeats 1000000

noncomputable section

namespace Cert.Merge

open Idealize.ShloMosaic Idealize.ShloMosaic.TcCoe Idealize.SL.Sem Cert.Common

section
open ReferenceIdeal ReferenceIdeal.Read

/-- The arrays a device of the reference is given. -/
def refArgs (m : (ℓ : Loc nD τ sig) → Buf (Elt Ideal) ℓ) (c : Dev nD) : Args where
  dx := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

theorem ref_out0 (a : Args) : val_main_v47 (F := Ideal) a.dx a.proj a.bg a.so a.ao a.co a.ws a.wa a.wc a.wo = a.dlR := by
  funext i
  rw [eq_ix2 i]
  exact ref_dl_cast a (i 0) (i 1)

theorem ref_out1 (a : Args) : val_main_v48 (F := Ideal) a.dx a.proj a.bg a.ws a.wo = a.dsoR := by
  funext i
  rw [eq_ix2 i]
  exact ref_dso a (i 0) (i 1)

theorem ref_out2 (a : Args) : val_main_v49 (F := Ideal) a.dx a.proj a.bg a.wa a.wo = a.daoR := by
  funext i
  rw [eq_ix2 i]
  exact ref_dao a (i 0) (i 1)

theorem ref_out3 (a : Args) : val_main_v50 (F := Ideal) a.dx a.proj a.bg a.wc a.wo = a.dcoR := by
  funext i
  rw [eq_ix2 i]
  exact ref_dco a (i 0) (i 1)

theorem ref_out4 (a : Args) : val_main_v46 (F := Ideal) a.dx a.proj a.bg a.so a.ao a.co a.ws a.wa a.wc a.wo = a.dbgR := by
  funext i
  rw [eq_ix2 i]
  exact (congrArg (fun z => val_main_v46 (F := Ideal) _ _ _ _ _ _ _ _ _ _ (ix2 z (i 1))) (Subsingleton.elim (α := Fin 1) _ 0)).trans (ref_dbg a (i 1))

theorem ref_out5 (a : Args) : val_main_v51 (F := Ideal) a.proj a.bg a.so a.ao a.co a.ws a.wa a.wc = a.mergedR := by
  funext i
  rw [eq_ix2 i]
  exact ref_merged a (i 0) (i 1)

theorem ref_out6 (a : Args) : val_main_v52 (F := Ideal) a.dx = a.dxR := by
  funext i
  rw [eq_ix2 i]
  exact ref_dx a (i 0) (i 1)

theorem ref_out7 (a : Args) : val_main_v53 (F := Ideal) a.dx a.proj a.bg a.wo = a.dysR := by
  funext i
  rw [eq_ix2 i]
  exact ref_dys_cast a (i 0) (i 1)

theorem ref_out8 (a : Args) : val_main_v54 (F := Ideal) a.dx a.proj a.bg a.wo = a.dyaR := by
  funext i
  rw [eq_ix2 i]
  exact ref_dya_cast a (i 0) (i 1)

theorem ref_out9 (a : Args) : val_main_v55 (F := Ideal) a.dx a.proj a.bg a.wo = a.dycR := by
  funext i
  rw [eq_ix2 i]
  exact ref_dyc_cast a (i 0) (i 1)

end

/-- The reference's run leaves its arguments alone and every counter at zero. -/
theorem reference_frame : quiescent_ReferenceIdeal (hReferenceIdeal := ReferenceIdeal.Gen.facts) := fun m g _ =>
  (θ_run _ _ _).mono (fun r h => ⟨fun c => (h c).2.2.2.2.2.2.2.2.2.2, sem_eq_zero_of_no_sems (by decide) _⟩) (ReferenceIdeal.Value.run m g)

open KernelIdeal KernelIdeal.Gen ReferenceIdeal.Read in
/-- At the same arguments, the kernel's run ends with the arrays of the specification, and so does the reference's. -/
theorem same : algebraic_KernelIdeal_ReferenceIdeal (hKernelIdeal := KernelIdeal.Gen.facts) (hReferenceIdeal := ReferenceIdeal.Gen.facts) := by
  intro m g m' g' _ hagree
  have e : ∀ c, refArgs m' c = args m c := fun c => by
    unfold refArgs args
    simp only [hagree c]
  refine ⟨fun c => (args m c).dlR, fun c => (args m c).dsoR, fun c => (args m c).daoR, fun c => (args m c).dcoR, fun c => (args m c).dbgR, fun c => (args m c).mergedR, fun c => (args m c).dxR, fun c => (args m c).dysR, fun c => (args m c).dyaR, fun c => (args m c).dycR, ?_, ?_⟩
  · exact (θ_run _ _ _).mono (fun r h c => by
      have h := h c
      rw [array12, array13, array14, array15, array16, array17, array18, array19, array20, array21] at h
      exact h) (KernelIdeal.Value.run_blocks m g)
  · exact (θ_run _ _ _).mono (fun r h c => by
      obtain ⟨h0, h1, h2, h3, h4, h5, h6, h7, h8, h9, ha⟩ := h c
      exact ⟨(h0.trans (val_main_v47_eq ..)).trans ((ref_out0 (refArgs m' c)).trans (congrArg Args.dlR (e c))),
      (h1.trans (val_main_v48_eq ..)).trans ((ref_out1 (refArgs m' c)).trans (congrArg Args.dsoR (e c))),
      (h2.trans (val_main_v49_eq ..)).trans ((ref_out2 (refArgs m' c)).trans (congrArg Args.daoR (e c))),
      (h3.trans (val_main_v50_eq ..)).trans ((ref_out3 (refArgs m' c)).trans (congrArg Args.dcoR (e c))),
      (h4.trans (val_main_v46_eq ..)).trans ((ref_out4 (refArgs m' c)).trans (congrArg Args.dbgR (e c))),
      (h5.trans (val_main_v51_eq ..)).trans ((ref_out5 (refArgs m' c)).trans (congrArg Args.mergedR (e c))),
      (h6.trans (val_main_v52_eq ..)).trans ((ref_out6 (refArgs m' c)).trans (congrArg Args.dxR (e c))),
      (h7.trans (val_main_v53_eq ..)).trans ((ref_out7 (refArgs m' c)).trans (congrArg Args.dysR (e c))),
      (h8.trans (val_main_v54_eq ..)).trans ((ref_out8 (refArgs m' c)).trans (congrArg Args.dyaR (e c))),
      (h9.trans (val_main_v55_eq ..)).trans ((ref_out9 (refArgs m' c)).trans (congrArg Args.dycR (e c))), ha⟩) (ReferenceIdeal.Value.run m' g')

end Cert.Merge

end
-- ==== Proof.WOut.Kernel.lean ====
/- The gradient of w_out: what the kernel leaves in its result array. -/
module

public import proofs.«01_k».proof.Proof.Gen.KernelWOutIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WOut

open Idealize.ShloMosaic Idealize.ShloMosaic.TcCoe Idealize.SL.Sem
open Cert.Common

/-- The arrays the call is given. -/
structure Args where
  a : Mat 8192 1024
  b : Mat 8192 1024

namespace Args
variable (x : Args)

/-- An entry of the weight's gradient: the products of the two arrays' entries, summed over the rows. -/
def dw (p : Fin 1024) (q : Fin 1024) : EReal := ∑ R : Fin 8192, x.a (ix2 R p) * x.b (ix2 R q)

/-- The gradient, in the layout the devices exchange. -/
def out : Quad 1 8 128 1024 := fun y => x.dw ⟨128 * (y 1).val + (y 2).val, by have h1 : (y 1).val < 8 := (y 1).isLt; have h2 : (y 2).val < 128 := (y 2).isLt; omega⟩ (y 3)

end Args

open Cert.KernelWOutIdeal Cert.KernelWOutIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 1024) :
    iblk m c 0 t (ix3 z n p) = (args m c).a (ix2 (row t n) p) := by
  have ht : t.val < 8 := t.isLt
  unfold iblk
  blk_simp
  entry_read
  pointwise
  blk_ext [index0 t]
  · show t.val * 1024 + n.val = 1024 * (t.val % 8) + n.val
    omega

theorem block1 (c : Dev nD) (t : Fin cfg0.N) (z : Fin 1) (n : Fin 1024) (q : Fin 1024) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 1024) (q : Fin 1024) : EReal :=
  ∑ n : Fin 1024, (args m c).a (ix2 (row t n) p) * (args m c).b (ix2 (row t n) q)

theorem point_zero (p : Fin 1024) (q : Fin 1024) : k0_pay1 (F := Ideal) (ix2 p q) = 0 := by
  pointwise [k0_pay1]

theorem point_add (s : Vec Ideal S1024x1024 .f32) (u : Vec Ideal S1x1024x1024 .bf16) (v : Vec Ideal S1x1024x1024 .bf16)
    (p : Fin 1024) (q : Fin 1024) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S1024x1024 .f32) (y : S1024x1024.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S1024x1024.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S1024x1024.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S1024x1024.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

/-- A slab of the sum, from row `o` on. -/
theorem slab (o : ℕ) (Z : Vec Ideal S1024x1024 .f32) (inb) (x : S1x1x128x1024.Idx) (i : S1024x1024.Idx)
    (h0 : (i 0).val = o + (x 2).val) (h1 : (i 1).val = (x 3).val) :
    k0_pay6 (F := Ideal) (View.ld Z (Rect.unit (s := S1024x1024) ![o, 0] ![128, 1024] inb)) x = Z i := by
  rw [eq_ix4 x]
  pointwise [k0_pay6]
  exact congrArg Z (Shape.idx_ext₂ (by simp [h0]) (by simp [h1]))

/-- It is stored, in eight slabs. -/
theorem stored (c : Dev nD) (t : Fin cfg0.N) (h : t.val % 8 = 7) (y : S1x8x128x1024.Idx) :
    (outsAt0 m c t.val t.isLt).1 y = (args m c).dw ⟨128 * (y 1).val + (y 2).val, by have h1 : (y 1).val < 8 := (y 1).isLt; have h2 : (y 2).val < 128 := (y 2).isLt; omega⟩ (y 3) := by
  refine Eq.trans ?_ (carried_last m c t h (ix2 ⟨128 * (y 1).val + (y 2).val, by have h1 : (y 1).val < 8 := (y 1).isLt; have h2 : (y 2).val < 128 := (y 2).isLt; omega⟩ (y 3)))
  rw [outsAt0_C m c t (by omega) h]
  frame_out
  canon_tiles x e <;> exact (congrArg (k0_pay6 (F := Ideal) · x) (View.readCov_fill _ _ _ _ _ (by decide))).trans (slab _ _ _ x _ (by show 128 * (y 1).val + (y 2).val = _ + (x 2).val; omega) (by show (y 3).val = (x 3).val; omega))

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WOut

end
-- ==== Proof.WOut.Claim.lean ====
/- The gradient of w_out: the kernel and the reference end with the same arrays. -/
module

public import proofs.«01_k».proof.Defs
public import proofs.«01_k».proof.Proof.WOut.Kernel
public import proofs.«01_k».proof.Proof.Gen.ReferenceWOutIdeal.Read
public import Idealize.ShloMosaic.Lib.Quiescent

@[expose] public section

set_option maxHeartbeats 1000000

noncomputable section

namespace Cert.WOut

open Idealize.ShloMosaic Idealize.ShloMosaic.TcCoe Idealize.SL.Sem Cert.Common

section
open ReferenceWOutIdeal ReferenceWOutIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v7 (F := Ideal) x.a x.b = x.out := by
  funext y
  rw [eq_ix4 y]
  pointwise [val_main_v0, val_main_v1, val_main_v2, val_main_v3, val_main_v4, val_main_v5, val_main_v6, val_main_v7]
  simp only [Args.out, Args.dw, Nat.mul_comm 128]
  exact Finset.sum_congr rfl fun R _ => mul_comm _ _

end

/-- The reference's run leaves its arguments alone and every counter at zero. -/
theorem reference_frame : quiescent_ReferenceWOutIdeal (hReferenceWOutIdeal := ReferenceWOutIdeal.Gen.facts) := fun m g _ =>
  (θ_run _ _ _).mono (fun r h => ⟨fun c => (h c).2, sem_eq_zero_of_no_sems (by decide) _⟩) (ReferenceWOutIdeal.Value.run m g)

open KernelWOutIdeal KernelWOutIdeal.Gen ReferenceWOutIdeal.Read in
/-- At the same arguments, the kernel's run ends with the arrays of the specification, and so does the reference's. -/
theorem same : algebraic_KernelWOutIdeal_ReferenceWOutIdeal (hKernelWOutIdeal := KernelWOutIdeal.Gen.facts) (hReferenceWOutIdeal := ReferenceWOutIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWOutIdeal.Value.run_blocks m g)
  · exact (θ_run _ _ _).mono (fun r h c => by
      obtain ⟨h0, ha⟩ := h c
      exact ⟨(h0.trans (val_main_v7_eq ..)).trans ((ref_out (refArgs m' c)).trans (congrArg Args.out (e c))), ha⟩) (ReferenceWOutIdeal.Value.run m' g')

end Cert.WOut

end
-- ==== Proof.WIn.Kernel.lean ====
/- The gradient of w_in: what the kernel leaves in its result array. -/
module

public import proofs.«01_k».proof.Proof.Gen.KernelWInIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WIn

open Idealize.ShloMosaic Idealize.ShloMosaic.TcCoe Idealize.SL.Sem
open Cert.Common

/-- The arrays the call is given. -/
structure Args where
  a : Mat 8192 1024
  b : Mat 8192 5376

namespace Args
variable (x : Args)

/-- An entry of the weight's gradient: the products of the two arrays' entries, summed over the rows. -/
def dw (p : Fin 1024) (q : Fin 5376) : EReal := ∑ R : Fin 8192, x.a (ix2 R p) * x.b (ix2 R q)

/-- The gradient, in the layout the devices exchange. -/
def out : Quad 1 1 1024 5376 := fun y => x.dw (y 2) (y 3)

end Args

open Cert.KernelWInIdeal Cert.KernelWInIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

/-- The column of the right array that column `q` of the block of point `t` is. -/
def col (t : Fin cfg0.N) (q : Fin 896) : Fin 5376 := ⟨896 * (t.val / 8) + q.val, by have h : t.val < 48 := t.isLt; omega⟩

theorem index0 : ∀ t : Fin cfg0.N, win0_0.index t = ![0, t.val % 8, 0] := (by decide +kernel : ∀ t : Fin grid0.N, _)
theorem index1 : ∀ t : Fin cfg0.N, win0_1.index t = ![0, t.val % 8, t.val / 8] := (by decide +kernel : ∀ t : Fin grid0.N, _)
theorem index2 : ∀ t : Fin cfg0.N, win0_2.index t = ![0, 0, 0, t.val / 8] := (by decide +kernel : ∀ t : Fin grid0.N, _)

theorem block0 (c : Dev nD) (t : Fin cfg0.N) (z : Fin 1) (n : Fin 1024) (p : Fin 1024) :
    iblk m c 0 t (ix3 z n p) = (args m c).a (ix2 (row t n) p) := by
  have ht : t.val < 48 := t.isLt
  unfold iblk
  blk_simp
  entry_read
  pointwise
  blk_ext [index0 t]
  · show t.val % 8 * 1024 + n.val = 1024 * (t.val % 8) + n.val
    omega

theorem block1 (c : Dev nD) (t : Fin cfg0.N) (z : Fin 1) (n : Fin 1024) (q : Fin 896) :
    iblk m c 1 t (ix3 z n q) = (args m c).b (ix2 (row t n) (col t q)) := by
  have ht : t.val < 48 := t.isLt
  unfold iblk
  blk_simp
  entry_read
  pointwise
  blk_ext [index1 t]
  · show t.val % 8 * 1024 + n.val = 1024 * (t.val % 8) + n.val
    omega
  · show t.val / 8 * 896 + q.val = 896 * (t.val / 8) + q.val
    omega

/-- The products of a point's rows. -/
def term (c : Dev nD) (t : Fin cfg0.N) (p : Fin 1024) (q : Fin 896) : EReal :=
  ∑ n : Fin 1024, (args m c).a (ix2 (row t n) p) * (args m c).b (ix2 (row t n) (col t q))

theorem point_zero (p : Fin 1024) (q : Fin 896) : k0_pay1 (F := Ideal) (ix2 p q) = 0 := by
  pointwise [k0_pay1]

theorem point_add (s : Vec Ideal S1024x896 .f32) (u : Vec Ideal S1x1024x1024 .bf16) (v : Vec Ideal S1x1024x896 .bf16)
    (p : Fin 1024) (q : Fin 896) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S1024x896 .f32) (y : S1024x896.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S1024x896.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S1024x896.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

theorem col_run (t : Fin cfg0.N) (s : Fin 8) (h : 8 * (t.val / 8) + s.val < cfg0.N) (q : Fin 896) :
    col ⟨8 * (t.val / 8) + s.val, h⟩ q = col t q :=
  Fin.ext (by show 896 * ((8 * (t.val / 8) + s.val) / 8) + q.val = 896 * (t.val / 8) + q.val; omega)

/-- The last point of a block's run holds the gradient's entry. -/
theorem carried_last (c : Dev nD) (t : Fin cfg0.N) (h : t.val % 8 = 7) (y : S1024x896.Idx) :
    (outsAt0 m c t.val t.isLt).2 y = (args m c).dw (y 0) (col t (y 1)) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  rw [row_run]
  exact congrArg (fun q => _ * (args m c).b (ix2 _ q)) (col_run t s _ (y 1))

theorem point_out (s : Vec Ideal S1024x896 .f32) (y : S1x1x1024x896.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x1024x896.Idx) :
    (outsAt0 m c t.val t.isLt).1 y = (args m c).dw (y 2) (col t (y 3)) := by
  refine Eq.trans ?_ (carried_last m c t h (ix2 (y 2) (y 3)))
  rw [outsAt0_C m c t (by omega) h]
  frame_out
  exact point_out _ y

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_
  · blk_simp [index2 t]
  · show 896 * (t.val / 8) + (y 3).val = _
    blk_simp [index2 t]
    show 896 * (t.val / 8) + (y 3).val = t.val / 8 * 896 + (y 3).val
    omega

end Cert.WIn

end
-- ==== Proof.WIn.Claim.lean ====
/- The gradient of w_in: the kernel and the reference end with the same arrays. -/
module

public import proofs.«01_k».proof.Defs
public import proofs.«01_k».proof.Proof.WIn.Kernel
public import proofs.«01_k».proof.Proof.Gen.ReferenceWInIdeal.Read
public import Idealize.ShloMosaic.Lib.Quiescent

@[expose] public section

set_option maxHeartbeats 1000000

noncomputable section

namespace Cert.WIn

open Idealize.ShloMosaic Idealize.ShloMosaic.TcCoe Idealize.SL.Sem Cert.Common

section
open ReferenceWInIdeal ReferenceWInIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v7 (F := Ideal) x.a x.b = x.out := by
  funext y
  rw [eq_ix4 y]
  pointwise [val_main_v0, val_main_v1, val_main_v2, val_main_v3, val_main_v4, val_main_v5, val_main_v6, val_main_v7]
  simp only [Args.out, Args.dw, Nat.mul_comm 128]
  exact Finset.sum_congr rfl fun R _ => mul_comm _ _

end

/-- The reference's run leaves its arguments alone and every counter at zero. -/
theorem reference_frame : quiescent_ReferenceWInIdeal (hReferenceWInIdeal := ReferenceWInIdeal.Gen.facts) := fun m g _ =>
  (θ_run _ _ _).mono (fun r h => ⟨fun c => (h c).2, sem_eq_zero_of_no_sems (by decide) _⟩) (ReferenceWInIdeal.Value.run m g)

open KernelWInIdeal KernelWInIdeal.Gen ReferenceWInIdeal.Read in
/-- At the same arguments, the kernel's run ends with the arrays of the specification, and so does the reference's. -/
theorem same : algebraic_KernelWInIdeal_ReferenceWInIdeal (hKernelWInIdeal := KernelWInIdeal.Gen.facts) (hReferenceWInIdeal := ReferenceWInIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWInIdeal.Value.run_blocks m g)
  · exact (θ_run _ _ _).mono (fun r h c => by
      obtain ⟨h0, ha⟩ := h c
      exact ⟨(h0.trans (val_main_v7_eq ..)).trans ((ref_out (refArgs m' c)).trans (congrArg Args.out (e c))), ha⟩) (ReferenceWInIdeal.Value.run m' g')

end Cert.WIn

end
-- ==== Proof.WDown.Kernel.lean ====
/- The gradient of w_down: what the kernel leaves in its result array. -/
module

public import proofs.«01_k».proof.Proof.Gen.KernelWDownIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WDown

open Idealize.ShloMosaic Idealize.ShloMosaic.TcCoe Idealize.SL.Sem
open Cert.Common

/-- The arrays the call is given. -/
structure Args where
  a : Cube 4 8192 704
  b : Mat 8192 1024

namespace Args
variable (x : Args)

/-- An entry of the weight's gradient: the products of the two arrays' entries, summed over the rows. -/
def dw (g : Fin 4) (p : Fin 704) (q : Fin 1024) : EReal := ∑ R : Fin 8192, x.a (ix3 g R p) * x.b (ix2 R q)

/-- The gradient, in the layout the devices exchange. -/
def out : Quad 1 4 704 1024 := fun y => x.dw (y 1) (y 2) (y 3)

end Args

open Cert.KernelWDownIdeal Cert.KernelWDownIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

/-- The slab of point `t`. -/
def grp (t : Fin cfg0.N) : Fin 4 := ⟨t.val / 8, by have h : t.val < 32 := t.isLt; omega⟩

theorem index0 : ∀ t : Fin cfg0.N, win0_0.index t = ![t.val / 8, t.val % 8, 0] := (by decide +kernel : ∀ t : Fin grid0.N, _)
theorem index1 : ∀ t : Fin cfg0.N, win0_1.index t = ![0, t.val % 8, 0] := (by decide +kernel : ∀ t : Fin grid0.N, _)
theorem index2 : ∀ t : Fin cfg0.N, win0_2.index t = ![0, t.val / 8, 0, 0] := (by decide +kernel : ∀ t : Fin grid0.N, _)

theorem block0 (c : Dev nD) (t : Fin cfg0.N) (z : Fin 1) (n : Fin 1024) (p : Fin 704) :
    iblk m c 0 t (ix3 z n p) = (args m c).a (ix3 (grp t) (row t n) p) := by
  blk_ext [iblk, V, index0 t]
  · rfl
  · show t.val % 8 * 1024 + n.val = 1024 * (t.val % 8) + n.val
    omega

theorem block1 (c : Dev nD) (t : Fin cfg0.N) (z : Fin 1) (n : Fin 1024) (q : Fin 1024) :
    iblk m c 1 t (ix3 z n q) = (args m c).b (ix2 (row t n) q) := by
  have ht : t.val < 32 := t.isLt
  unfold iblk
  blk_simp
  entry_read
  pointwise
  blk_ext [index1 t]
  · show t.val % 8 * 1024 + n.val = 1024 * (t.val % 8) + n.val
    omega

/-- The products of a point's rows. -/
def term (c : Dev nD) (t : Fin cfg0.N) (p : Fin 704) (q : Fin 1024) : EReal :=
  ∑ n : Fin 1024, (args m c).a (ix3 (grp t) (row t n) p) * (args m c).b (ix2 (row t n) q)

theorem point_zero (p : Fin 704) (q : Fin 1024) : k0_pay1 (F := Ideal) (ix2 p q) = 0 := by
  pointwise [k0_pay1]

theorem point_add (s : Vec Ideal S704x1024 .f32) (u : Vec Ideal S1x1024x704 .bf16) (v : Vec Ideal S1x1024x1024 .bf16)
    (p : Fin 704) (q : Fin 1024) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S704x1024 .f32) (y : S704x1024.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S704x1024.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S704x1024.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

theorem grp_run (t : Fin cfg0.N) (s : Fin 8) (h : 8 * (t.val / 8) + s.val < cfg0.N) : grp ⟨8 * (t.val / 8) + s.val, h⟩ = grp t :=
  Fin.ext (by show (8 * (t.val / 8) + s.val) / 8 = t.val / 8; omega)

/-- The last point of a block's run holds the gradient's entry. -/
theorem carried_last (c : Dev nD) (t : Fin cfg0.N) (h : t.val % 8 = 7) (y : S704x1024.Idx) :
    (outsAt0 m c t.val t.isLt).2 y = (args m c).dw (grp t) (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run, grp_run]

theorem point_out (s : Vec Ideal S704x1024 .f32) (y : S1x1x704x1024.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x704x1024.Idx) :
    (outsAt0 m c t.val t.isLt).1 y = (args m c).dw (grp t) (y 2) (y 3) := by
  refine Eq.trans ?_ (carried_last m c t h (ix2 (y 2) (y 3)))
  rw [outsAt0_C m c t (by omega) h]
  frame_out
  exact point_out _ y

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t, grp]

end Cert.WDown

end
-- ==== Proof.WDown.Claim.lean ====
/- The gradient of w_down: the kernel and the reference end with the same arrays. -/
module

public import proofs.«01_k».proof.Defs
public import proofs.«01_k».proof.Proof.WDown.Kernel
public import proofs.«01_k».proof.Proof.Gen.ReferenceWDownIdeal.Read
public import Idealize.ShloMosaic.Lib.Quiescent

@[expose] public section

set_option maxHeartbeats 1000000

noncomputable section

namespace Cert.WDown

open Idealize.ShloMosaic Idealize.ShloMosaic.TcCoe Idealize.SL.Sem Cert.Common

section
open ReferenceWDownIdeal ReferenceWDownIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v7 (F := Ideal) x.a x.b = x.out := by
  funext y
  rw [eq_ix4 y]
  pointwise [val_main_v0, val_main_v1, val_main_v2, val_main_v3, val_main_v4, val_main_v5, val_main_v6, val_main_v7]
  simp only [Args.out, Args.dw, Nat.mul_comm 128]
  exact Finset.sum_congr rfl fun R _ => mul_comm _ _

end

/-- The reference's run leaves its arguments alone and every counter at zero. -/
theorem reference_frame : quiescent_ReferenceWDownIdeal (hReferenceWDownIdeal := ReferenceWDownIdeal.Gen.facts) := fun m g _ =>
  (θ_run _ _ _).mono (fun r h => ⟨fun c => (h c).2, sem_eq_zero_of_no_sems (by decide) _⟩) (ReferenceWDownIdeal.Value.run m g)

open KernelWDownIdeal KernelWDownIdeal.Gen ReferenceWDownIdeal.Read in
/-- At the same arguments, the kernel's run ends with the arrays of the specification, and so does the reference's. -/
theorem same : algebraic_KernelWDownIdeal_ReferenceWDownIdeal (hKernelWDownIdeal := KernelWDownIdeal.Gen.facts) (hReferenceWDownIdeal := ReferenceWDownIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWDownIdeal.Value.run_blocks m g)
  · exact (θ_run _ _ _).mono (fun r h c => by
      obtain ⟨h0, ha⟩ := h c
      exact ⟨(h0.trans (val_main_v7_eq ..)).trans ((ref_out (refArgs m' c)).trans (congrArg Args.out (e c))), ha⟩) (ReferenceWDownIdeal.Value.run m' g')

end Cert.WDown

end
-- ==== Proof.WUpA.Kernel.lean ====
/- The gradient of the first half of w_up: what the kernel leaves in its result array. -/
module

public import proofs.«01_k».proof.Proof.Gen.KernelWUpAIdeal.Frame
public import Idealize.ShloMosaic.Lib.Pipeline.ValueKit
public import Idealize.ShloMosaic.Lib.Pipeline.ReadBack
public import proofs.«01_k».proof.Proof.Common

@[expose] public section

set_option maxHeartbeats 1000000

noncomputable section

namespace Cert.WUpA

open Idealize.ShloMosaic Idealize.ShloMosaic.TcCoe Idealize.SL.Sem
open Cert.Common

/-- The arrays the call is given. -/
structure Args where
  a : Mat 8192 1024
  b : Cube 4 8192 704

namespace Args
variable (x : Args)

/-- An entry of the weight's gradient: the products of the two arrays' entries, summed over the rows. -/
def dw (p : Fin 1024) (g : Fin 4) (q : Fin 704) : EReal := ∑ R : Fin 8192, x.a (ix2 R p) * x.b (ix3 g R q)

/-- The gradient's first half, as the first four of eight slabs. -/
def first : Quad 1 8 1024 704 := fun y => if h : (y 1).val < 4 then x.dw (y 2) ⟨(y 1).val, h⟩ (y 3) else 0

/-- The gradient's first half, as four slabs. -/
def out : Quad 1 4 1024 704 := fun y => x.dw (y 2) (y 1) (y 3)

end Args

open Cert.KernelWUpAIdeal Cert.KernelWUpAIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

/-- The slab of point `t`. -/
def grp (t : Fin cfg0.N) : Fin 4 := ⟨t.val / 8, by have h : t.val < 32 := t.isLt; omega⟩

theorem index0 : ∀ t : Fin cfg0.N, win0_0.index t = ![0, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![0, t.val / 8, 0, 0] := (by decide +kernel : ∀ t : Fin grid0.N, _)

theorem entry0 (c : Dev nD) : V m c main_v0
    = broadcastInDim S1x8192x1024 ![1, 2] bcast_S8192x1024_S1x8192x1024_1_2 (m ((c : Thread nD τ).loc main_arg0)) := by
  show StableHlo.after hostOps0 _ (Proc.tc.devRef main_v0) = _
  unfold_abbrev_sides
  after_results

theorem block0 (c : Dev nD) (t : Fin cfg0.N) (z : Fin 1) (n : Fin 1024) (p : Fin 1024) :
    iblk m c 0 t (ix3 z n p) = (args m c).a (ix2 (row t n) p) := by
  have ht : t.val < 32 := t.isLt
  unfold iblk
  blk_simp
  refine (congrFun (entry0 m c) _).trans ?_
  pointwise
  blk_ext [index0 t]
  · show t.val % 8 * 1024 + n.val = 1024 * (t.val % 8) + n.val
    omega

theorem block1 (c : Dev nD) (t : Fin cfg0.N) (z : Fin 1) (n : Fin 1024) (q : Fin 704) :
    iblk m c 1 t (ix3 z n q) = (args m c).b (ix3 (grp t) (row t n) q) := by
  blk_ext [iblk, V, index1 t]
  · rfl
  · show t.val % 8 * 1024 + n.val = 1024 * (t.val % 8) + n.val
    omega

/-- The products of a point's rows. -/
def term (c : Dev nD) (t : Fin cfg0.N) (p : Fin 1024) (q : Fin 704) : EReal :=
  ∑ n : Fin 1024, (args m c).a (ix2 (row t n) p) * (args m c).b (ix3 (grp t) (row t n) q)

theorem point_zero (p : Fin 1024) (q : Fin 704) : k0_pay1 (F := Ideal) (ix2 p q) = 0 := by
  pointwise [k0_pay1]

theorem point_add (s : Vec Ideal S1024x704 .f32) (u : Vec Ideal S1x1024x1024 .bf16) (v : Vec Ideal S1x1024x704 .bf16)
    (p : Fin 1024) (q : Fin 704) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S1024x704 .f32) (y : S1024x704.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S1024x704.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S1024x704.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

theorem grp_run (t : Fin cfg0.N) (s : Fin 8) (h : 8 * (t.val / 8) + s.val < cfg0.N) : grp ⟨8 * (t.val / 8) + s.val, h⟩ = grp t :=
  Fin.ext (by show (8 * (t.val / 8) + s.val) / 8 = t.val / 8; omega)

/-- The last point of a block's run holds the gradient's entry. -/
theorem carried_last (c : Dev nD) (t : Fin cfg0.N) (h : t.val % 8 = 7) (y : S1024x704.Idx) :
    (outsAt0 m c t.val t.isLt).2 y = (args m c).dw (y 0) (grp t) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run, grp_run]

theorem point_out (s : Vec Ideal S1024x704 .f32) (y : S1x1x1024x704.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x1024x704.Idx) :
    (outsAt0 m c t.val t.isLt).1 y = (args m c).dw (y 2) (grp t) (y 3) := by
  refine Eq.trans ?_ (carried_last m c t h (ix2 (y 2) (y 3)))
  rw [outsAt0_C m c t (by omega) h]
  frame_out
  exact point_out _ y

/-- The result array after the run, in its first four slabs. -/
theorem array (c : Dev nD) (i : S1x8x1024x704.Idx) (h : (i 1).val < 4) :
    (dats m 0 c).arrAt 2 cfg0.N i = (args m c).dw (i 2) ⟨(i 1).val, h⟩ (i 3) := by
  have hG := (dats m 0 c).arrAt_apply_of_coversWhere 2
    (args m c).first
    (P := fun y => (y 1).val < 4) (fun β => β 1 < 4) (by decide +kernel) (fun t hf y => ?_)
    (fun j => by blk_simp [Pipeline.Window.cell_apply]; try omega) i
  · rw [hG, if_pos h]
    exact dif_pos h
  · blk_simp
    rw [after0_2]
    refine (stored m c t ((flush0_2 t).mp hf) y).trans ?_
    have ht : t.val < 32 := t.isLt
    have e : (((win0_2.blk t).view.emb y) 1).val = t.val / 8 := by
      have h1 : (y 1).val < 1 := (y 1).isLt
      blk_simp [index2 t]
    unfold Args.first
    rw [dif_pos (by rw [e]; omega)]
    congr 1 <;> refine Fin.ext ?_
    · blk_simp [index2 t]
    · exact e.symm
    · blk_simp [index2 t]

/-- What the slice after the call leaves. -/
theorem tail (c : Dev nD) : Pipeline.afterTail₀ cfgs (dats m) 0 (V0 m) [hostOps1] c main_v2 = (args m c).out := by
  have e : Pipeline.afterTail₀ cfgs (dats m) 0 (V0 m) [hostOps1] c main_v2
      = extractStridedSlice S1x4x1024x704 ![0, 0, 0, 0] ((dats m 0 c).arrAt 2 cfg0.N) slices_S1x8x1024x704_S1x4x1024x704_0_0_0_0 := by
    unfold Pipeline.afterTail₀
    show StableHlo.after hostOps1 _ (Proc.tc.devRef main_v2) = _
    unfold_abbrev_sides
    after_results
    exact congrArg (extractStridedSlice S1x4x1024x704 ![0, 0, 0, 0] · slices_S1x8x1024x704_S1x4x1024x704_0_0_0_0)
      (Pipeline.withArrays_arr spec0 (by decide) c (V0 m c) (fun w => (dats m 0 c).arrAt w cfg0.N) 2)
  rw [e]
  funext y
  rw [eq_ix4 y]
  pointwise
  exact array m c _ (y 1).isLt

end Cert.WUpA

end
-- ==== Proof.WUpA.Claim.lean ====
/- The gradient of the first half of w_up: the kernel and the reference end with the same arrays. -/
module

public import proofs.«01_k».proof.Defs
public import proofs.«01_k».proof.Proof.WUpA.Kernel
public import proofs.«01_k».proof.Proof.Gen.ReferenceWUpAIdeal.Read
public import Idealize.ShloMosaic.Lib.Quiescent

@[expose] public section

set_option maxHeartbeats 1000000

noncomputable section

namespace Cert.WUpA

open Idealize.ShloMosaic Idealize.ShloMosaic.TcCoe Idealize.SL.Sem Cert.Common

section
open ReferenceWUpAIdeal ReferenceWUpAIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v9 (F := Ideal) x.a x.b = x.out := by
  funext y
  rw [eq_ix4 y]
  pointwise [val_main_v0, val_main_v1, val_main_v2, val_main_v3, val_main_v4, val_main_v5, val_main_v6, val_main_v7, val_main_v8, val_main_v9]
  simp only [Args.out, Args.dw, Nat.mul_comm 128]
  exact Finset.sum_congr rfl fun R _ => mul_comm _ _

end

/-- The reference's run leaves its arguments alone and every counter at zero. -/
theorem reference_frame : quiescent_ReferenceWUpAIdeal (hReferenceWUpAIdeal := ReferenceWUpAIdeal.Gen.facts) := fun m g _ =>
  (θ_run _ _ _).mono (fun r h => ⟨fun c => (h c).2, sem_eq_zero_of_no_sems (by decide) _⟩) (ReferenceWUpAIdeal.Value.run m g)

open KernelWUpAIdeal KernelWUpAIdeal.Gen ReferenceWUpAIdeal.Read in
/-- At the same arguments, the kernel's run ends with the arrays of the specification, and so does the reference's. -/
theorem same : algebraic_KernelWUpAIdeal_ReferenceWUpAIdeal (hKernelWUpAIdeal := KernelWUpAIdeal.Gen.facts) (hReferenceWUpAIdeal := ReferenceWUpAIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => ⟨((h c).2 main_v2 (Pipeline.mem_restRefs_of main_v2 (by decide) (by decide))).trans (tail m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c)))⟩) (KernelWUpAIdeal.Gen.run_main m g)
  · exact (θ_run _ _ _).mono (fun r h c => by
      obtain ⟨h0, ha⟩ := h c
      exact ⟨(h0.trans (val_main_v9_eq ..)).trans ((ref_out (refArgs m' c)).trans (congrArg Args.out (e c))), ha⟩) (ReferenceWUpAIdeal.Value.run m' g')

end Cert.WUpA

end
-- ==== Proof.WUpB.Kernel.lean ====
/- The gradient of the second half of w_up: what the kernel leaves in its result array. -/
module

public import proofs.«01_k».proof.Proof.Gen.KernelWUpBIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WUpB

open Idealize.ShloMosaic Idealize.ShloMosaic.TcCoe Idealize.SL.Sem
open Cert.Common

/-- The arrays the call is given. -/
structure Args where
  a : Mat 8192 1024
  b : Cube 4 8192 704
  half : Quad 1 8 1024 704

namespace Args
variable (x : Args)

/-- An entry of the weight's gradient: the products of the two arrays' entries, summed over the rows. -/
def dw (p : Fin 1024) (g : Fin 4) (q : Fin 704) : EReal := ∑ R : Fin 8192, x.a (ix2 R p) * x.b (ix3 g R q)

/-- The gradient's second half beside the first, which is given. -/
def out : Quad 1 8 1024 704 := fun y =>
  if h : 4 ≤ (y 1).val then x.dw (y 2) ⟨(y 1).val - 4, by have h1 : (y 1).val < 8 := (y 1).isLt; omega⟩ (y 3) else x.half y

end Args

open Cert.KernelWUpBIdeal Cert.KernelWUpBIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)
  half := m ((c : Thread nD τ).loc main_arg2)

/-- Row `n` of the blocks of point `t`. -/
def row (t : Fin cfg0.N) (n : Fin 1024) : Fin 8192 := ⟨1024 * (t.val % 8) + n.val, by omega⟩

/-- The slab of point `t`. -/
def grp (t : Fin cfg0.N) : Fin 4 := ⟨t.val / 8, by have h : t.val < 32 := t.isLt; omega⟩

theorem index0 : ∀ t : Fin cfg0.N, win0_0.index t = ![0, t.val % 8, 0] := (by decide +kernel : ∀ t : Fin grid0.N, _)
theorem index1 : ∀ t : Fin cfg0.N, win0_1.index t = ![t.val / 8, t.val % 8, 0] := (by decide +kernel : ∀ t : Fin grid0.N, _)
theorem index2 : ∀ t : Fin cfg0.N, win0_2.index t = ![0, 4 + t.val / 8, 0, 0] := (by decide +kernel : ∀ t : Fin grid0.N, _)

theorem block0 (c : Dev nD) (t : Fin cfg0.N) (z : Fin 1) (n : Fin 1024) (p : Fin 1024) :
    iblk m c 0 t (ix3 z n p) = (args m c).a (ix2 (row t n) p) := by
  have ht : t.val < 32 := t.isLt
  unfold iblk
  blk_simp
  entry_read
  pointwise
  blk_ext [index0 t]
  · show t.val % 8 * 1024 + n.val = 1024 * (t.val % 8) + n.val
    omega

theorem block1 (c : Dev nD) (t : Fin cfg0.N) (z : Fin 1) (n : Fin 1024) (q : Fin 704) :
    iblk m c 1 t (ix3 z n q) = (args m c).b (ix3 (grp t) (row t n) q) := by
  blk_ext [iblk, V, index1 t]
  · rfl
  · show t.val % 8 * 1024 + n.val = 1024 * (t.val % 8) + n.val
    omega

/-- The products of a point's rows. -/
def term (c : Dev nD) (t : Fin cfg0.N) (p : Fin 1024) (q : Fin 704) : EReal :=
  ∑ n : Fin 1024, (args m c).a (ix2 (row t n) p) * (args m c).b (ix3 (grp t) (row t n) q)

theorem point_zero (p : Fin 1024) (q : Fin 704) : k0_pay1 (F := Ideal) (ix2 p q) = 0 := by
  pointwise [k0_pay1]

theorem point_add (s : Vec Ideal S1024x704 .f32) (u : Vec Ideal S1x1024x1024 .bf16) (v : Vec Ideal S1x1024x704 .bf16)
    (p : Fin 1024) (q : Fin 704) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S1024x704 .f32) (y : S1024x704.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S1024x704.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S1024x704.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

theorem grp_run (t : Fin cfg0.N) (s : Fin 8) (h : 8 * (t.val / 8) + s.val < cfg0.N) : grp ⟨8 * (t.val / 8) + s.val, h⟩ = grp t :=
  Fin.ext (by show (8 * (t.val / 8) + s.val) / 8 = t.val / 8; omega)

/-- The last point of a block's run holds the gradient's entry. -/
theorem carried_last (c : Dev nD) (t : Fin cfg0.N) (h : t.val % 8 = 7) (y : S1024x704.Idx) :
    (outsAt0 m c t.val t.isLt).2 y = (args m c).dw (y 0) (grp t) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run, grp_run]

theorem point_out (s : Vec Ideal S1024x704 .f32) (y : S1x1x1024x704.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x1024x704.Idx) :
    (outsAt0 m c t.val t.isLt).1 y = (args m c).dw (y 2) (grp t) (y 3) := by
  refine Eq.trans ?_ (carried_last m c t h (ix2 (y 2) (y 3)))
  rw [outsAt0_C m c t (by omega) h]
  frame_out
  exact point_out _ y

/-- Before the run the result array is the half that is given. -/
theorem entry (c : Dev nD) : (dats m 0 c).A 2 = (args m c).half := by
  refine (A_eq m c 2).trans ?_
  show V m c main_v1 = _
  entry_read
  rfl

/-- The result array after the run. -/
theorem array (c : Dev nD) : (dats m 0 c).arrAt 2 cfg0.N = (args m c).out := by
  refine ((dats m 0 c).arrAt_eq_of_coversWhere 2 (fun y => (args m c).out y) (fun β => 4 ≤ β 1) (by decide +kernel)
    (P := fun y => 4 ≤ (y 1).val) (fun t hf y => ?_) (fun j => by blk_simp [Pipeline.Window.cell_apply]; try omega)).trans ?_
  · blk_simp
    rw [after0_2]
    refine (stored m c t ((flush0_2 t).mp hf) y).trans ?_
    have ht : t.val < 32 := t.isLt
    have e : (((win0_2.blk t).view.emb y) 1).val = 4 + t.val / 8 := by
      have h1 : (y 1).val < 1 := (y 1).isLt
      blk_simp [index2 t]
    unfold Args.out
    rw [dif_pos (by rw [e]; omega)]
    congr 1 <;> refine Fin.ext ?_
    · blk_simp [index2 t]
    · show t.val / 8 = (((win0_2.blk t).view.emb y) 1).val - 4
      rw [e]; omega
    · blk_simp [index2 t]
  · funext i
    unfold Args.out
    split
    · rfl
    · exact congrFun (entry m c) i

end Cert.WUpB

end
-- ==== Proof.WUpB.Claim.lean ====
/- The gradient of the second half of w_up: the kernel and the reference end with the same arrays. -/
module

public import proofs.«01_k».proof.Defs
public import proofs.«01_k».proof.Proof.WUpB.Kernel
public import proofs.«01_k».proof.Proof.Gen.ReferenceWUpBIdeal.Read
public import Idealize.ShloMosaic.Lib.Quiescent

@[expose] public section

set_option maxHeartbeats 1000000

noncomputable section

namespace Cert.WUpB

open Idealize.ShloMosaic Idealize.ShloMosaic.TcCoe Idealize.SL.Sem Cert.Common

section
open ReferenceWUpBIdeal ReferenceWUpBIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)
  half := m ((c : Thread nD τ).loc main_arg2)

theorem ref_out (x : Args) : val_main_v11 (F := Ideal) x.a x.b x.half = x.out := by
  funext y
  rw [eq_ix4 y]
  pointwise [val_main_v0, val_main_v1, val_main_v2, val_main_v3, val_main_v4, val_main_v5, val_main_v6, val_main_v7, val_main_v8, val_main_v9, val_main_v10, val_main_v11]
  simp only [Args.out, Args.dw, Nat.mul_comm 128]
  by_cases h : 4 ≤ (y 1).val
  · rw [dif_neg (by omega), dif_pos h]
    exact Finset.sum_congr rfl fun R _ => mul_comm _ _
  · rw [dif_pos (by omega), dif_neg h]
    exact congrArg x.half (idx_ext4 (by have h0 : (y 0).val < 1 := (y 0).isLt; show 0 = (y 0).val; omega) rfl rfl rfl)

end

/-- The reference's run leaves its arguments alone and every counter at zero. -/
theorem reference_frame : quiescent_ReferenceWUpBIdeal (hReferenceWUpBIdeal := ReferenceWUpBIdeal.Gen.facts) := fun m g _ =>
  (θ_run _ _ _).mono (fun r h => ⟨fun c => (h c).2, sem_eq_zero_of_no_sems (by decide) _⟩) (ReferenceWUpBIdeal.Value.run m g)

open KernelWUpBIdeal KernelWUpBIdeal.Gen ReferenceWUpBIdeal.Read in
/-- At the same arguments, the kernel's run ends with the arrays of the specification, and so does the reference's. -/
theorem same : algebraic_KernelWUpBIdeal_ReferenceWUpBIdeal (hKernelWUpBIdeal := KernelWUpBIdeal.Gen.facts) (hReferenceWUpBIdeal := ReferenceWUpBIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWUpBIdeal.Value.run_blocks m g)
  · exact (θ_run _ _ _).mono (fun r h c => by
      obtain ⟨h0, ha⟩ := h c
      exact ⟨(h0.trans (val_main_v11_eq ..)).trans ((ref_out (refArgs m' c)).trans (congrArg Args.out (e c))), ha⟩) (ReferenceWUpBIdeal.Value.run m' g')

end Cert.WUpB

end
-- ==== Proof.WBr.Kernel.lean ====
/- The gradient of w_br_s5 and of w_br_conv: what the kernel leaves in its result array. -/
module

public import proofs.«01_k».proof.Proof.Gen.KernelWBrIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WBr

open Idealize.ShloMosaic Idealize.ShloMosaic.TcCoe Idealize.SL.Sem
open Cert.Common

/-- The arrays the call is given. -/
structure Args where
  a : Mat 8192 256
  b : Mat 8192 1024

namespace Args
variable (x : Args)

/-- An entry of the weight's gradient: the products of the two arrays' entries, summed over the rows. -/
def dw (p : Fin 256) (q : Fin 1024) : EReal := ∑ R : Fin 8192, x.a (ix2 R p) * x.b (ix2 R q)

/-- The gradient, in the layout the devices exchange. -/
def out : Quad 1 8 256 128 := fun y => x.dw (y 2) ⟨128 * (y 1).val + (y 3).val, by have h1 : (y 1).val < 8 := (y 1).isLt; have h2 : (y 3).val < 128 := (y 3).isLt; omega⟩

end Args

open Cert.KernelWBrIdeal Cert.KernelWBrIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 256) :
    iblk m c 0 t (ix3 z n p) = (args m c).a (ix2 (row t n) p) := by
  have ht : t.val < 8 := t.isLt
  unfold iblk
  blk_simp
  entry_read
  pointwise
  blk_ext [index0 t]
  · show t.val * 1024 + n.val = 1024 * (t.val % 8) + n.val
    omega

theorem block1 (c : Dev nD) (t : Fin cfg0.N) (z : Fin 1) (n : Fin 1024) (q : Fin 1024) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 256) (q : Fin 1024) : EReal :=
  ∑ n : Fin 1024, (args m c).a (ix2 (row t n) p) * (args m c).b (ix2 (row t n) q)

theorem point_zero (p : Fin 256) (q : Fin 1024) : k0_pay1 (F := Ideal) (ix2 p q) = 0 := by
  pointwise [k0_pay1]

theorem point_add (s : Vec Ideal S256x1024 .f32) (u : Vec Ideal S1x1024x256 .f32) (v : Vec Ideal S1x1024x1024 .bf16)
    (p : Fin 256) (q : Fin 1024) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S256x1024 .f32) (y : S256x1024.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S256x1024.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S256x1024.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S256x1024.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

/-- A slab of the sum, from column `o` on. -/
theorem slab (o : ℕ) (Z : Vec Ideal S256x1024 .f32) (inb) (x : S1x1x256x128.Idx) (i : S256x1024.Idx)
    (h0 : (i 0).val = (x 2).val) (h1 : (i 1).val = o + (x 3).val) :
    k0_pay6 (F := Ideal) (View.ld Z (Rect.unit (s := S256x1024) ![0, o] ![256, 128] inb)) x = Z i := by
  rw [eq_ix4 x]
  pointwise [k0_pay6]
  exact congrArg Z (Shape.idx_ext₂ (by simp [h0]) (by simp [h1]))

/-- It is stored, in eight slabs. -/
theorem stored (c : Dev nD) (t : Fin cfg0.N) (h : t.val % 8 = 7) (y : S1x8x256x128.Idx) :
    (outsAt0 m c t.val t.isLt).1 y = (args m c).dw (y 2) ⟨128 * (y 1).val + (y 3).val, by have h1 : (y 1).val < 8 := (y 1).isLt; have h2 : (y 3).val < 128 := (y 3).isLt; omega⟩ := by
  refine Eq.trans ?_ (carried_last m c t h (ix2 (y 2) ⟨128 * (y 1).val + (y 3).val, by have h1 : (y 1).val < 8 := (y 1).isLt; have h2 : (y 3).val < 128 := (y 3).isLt; omega⟩))
  rw [outsAt0_C m c t (by omega) h]
  frame_out
  canon_tiles x e <;> exact (congrArg (k0_pay6 (F := Ideal) · x) (View.readCov_fill _ _ _ _ _ (by decide))).trans (slab _ _ _ x _ (by show (y 2).val = (x 2).val; omega) (by show 128 * (y 1).val + (y 3).val = _ + (x 3).val; omega))

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WBr

end
-- ==== Proof.WBr.Claim.lean ====
/- The gradient of w_br_s5 and of w_br_conv: the kernel and the reference end with the same arrays. -/
module

public import proofs.«01_k».proof.Defs
public import proofs.«01_k».proof.Proof.WBr.Kernel
public import proofs.«01_k».proof.Proof.Gen.ReferenceWBrIdeal.Read
public import Idealize.ShloMosaic.Lib.Quiescent

@[expose] public section

set_option maxHeartbeats 1000000

noncomputable section

namespace Cert.WBr

open Idealize.ShloMosaic Idealize.ShloMosaic.TcCoe Idealize.SL.Sem Cert.Common

section
open ReferenceWBrIdeal ReferenceWBrIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v8 (F := Ideal) x.a x.b = x.out := by
  funext y
  rw [eq_ix4 y]
  pointwise [val_main_v0, val_main_v1, val_main_v2, val_main_v3, val_main_v4, val_main_v5, val_main_v6, val_main_v7, val_main_v8]
  simp only [Args.out, Args.dw, Nat.mul_comm 128]
  exact Finset.sum_congr rfl fun R _ => mul_comm _ _

end

/-- The reference's run leaves its arguments alone and every counter at zero. -/
theorem reference_frame : quiescent_ReferenceWBrIdeal (hReferenceWBrIdeal := ReferenceWBrIdeal.Gen.facts) := fun m g _ =>
  (θ_run _ _ _).mono (fun r h => ⟨fun c => (h c).2, sem_eq_zero_of_no_sems (by decide) _⟩) (ReferenceWBrIdeal.Value.run m g)

open KernelWBrIdeal KernelWBrIdeal.Gen ReferenceWBrIdeal.Read in
/-- At the same arguments, the kernel's run ends with the arrays of the specification, and so does the reference's. -/
theorem same : algebraic_KernelWBrIdeal_ReferenceWBrIdeal (hKernelWBrIdeal := KernelWBrIdeal.Gen.facts) (hReferenceWBrIdeal := ReferenceWBrIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWBrIdeal.Value.run_blocks m g)
  · exact (θ_run _ _ _).mono (fun r h c => by
      obtain ⟨h0, ha⟩ := h c
      exact ⟨(h0.trans (val_main_v8_eq ..)).trans ((ref_out (refArgs m' c)).trans (congrArg Args.out (e c))), ha⟩) (ReferenceWBrIdeal.Value.run m' g')

end Cert.WBr

end
-- ==== Proof.WAttn.Kernel.lean ====
/- The gradient of w_br_attn: what the kernel leaves in its result array. -/
module

public import proofs.«01_k».proof.Proof.Gen.KernelWAttnIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WAttn

open Idealize.ShloMosaic Idealize.ShloMosaic.TcCoe Idealize.SL.Sem
open Cert.Common

/-- The arrays the call is given. -/
structure Args where
  a : Mat 8192 512
  b : Mat 8192 1024

namespace Args
variable (x : Args)

/-- An entry of the weight's gradient: the products of the two arrays' entries, summed over the rows. -/
def dw (p : Fin 512) (q : Fin 1024) : EReal := ∑ R : Fin 8192, x.a (ix2 R p) * x.b (ix2 R q)

/-- The gradient, in the layout the devices exchange. -/
def out : Quad 1 8 512 128 := fun y => x.dw (y 2) ⟨128 * (y 1).val + (y 3).val, by have h1 : (y 1).val < 8 := (y 1).isLt; have h2 : (y 3).val < 128 := (y 3).isLt; omega⟩

end Args

open Cert.KernelWAttnIdeal Cert.KernelWAttnIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 512) :
    iblk m c 0 t (ix3 z n p) = (args m c).a (ix2 (row t n) p) := by
  have ht : t.val < 8 := t.isLt
  unfold iblk
  blk_simp
  entry_read
  pointwise
  blk_ext [index0 t]
  · show t.val * 1024 + n.val = 1024 * (t.val % 8) + n.val
    omega

theorem block1 (c : Dev nD) (t : Fin cfg0.N) (z : Fin 1) (n : Fin 1024) (q : Fin 1024) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 512) (q : Fin 1024) : EReal :=
  ∑ n : Fin 1024, (args m c).a (ix2 (row t n) p) * (args m c).b (ix2 (row t n) q)

theorem point_zero (p : Fin 512) (q : Fin 1024) : k0_pay1 (F := Ideal) (ix2 p q) = 0 := by
  pointwise [k0_pay1]

theorem point_add (s : Vec Ideal S512x1024 .f32) (u : Vec Ideal S1x1024x512 .f32) (v : Vec Ideal S1x1024x1024 .bf16)
    (p : Fin 512) (q : Fin 1024) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S512x1024 .f32) (y : S512x1024.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S512x1024.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S512x1024.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S512x1024.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

/-- A slab of the sum, from column `o` on. -/
theorem slab (o : ℕ) (Z : Vec Ideal S512x1024 .f32) (inb) (x : S1x1x512x128.Idx) (i : S512x1024.Idx)
    (h0 : (i 0).val = (x 2).val) (h1 : (i 1).val = o + (x 3).val) :
    k0_pay6 (F := Ideal) (View.ld Z (Rect.unit (s := S512x1024) ![0, o] ![512, 128] inb)) x = Z i := by
  rw [eq_ix4 x]
  pointwise [k0_pay6]
  exact congrArg Z (Shape.idx_ext₂ (by simp [h0]) (by simp [h1]))

/-- It is stored, in eight slabs. -/
theorem stored (c : Dev nD) (t : Fin cfg0.N) (h : t.val % 8 = 7) (y : S1x8x512x128.Idx) :
    (outsAt0 m c t.val t.isLt).1 y = (args m c).dw (y 2) ⟨128 * (y 1).val + (y 3).val, by have h1 : (y 1).val < 8 := (y 1).isLt; have h2 : (y 3).val < 128 := (y 3).isLt; omega⟩ := by
  refine Eq.trans ?_ (carried_last m c t h (ix2 (y 2) ⟨128 * (y 1).val + (y 3).val, by have h1 : (y 1).val < 8 := (y 1).isLt; have h2 : (y 3).val < 128 := (y 3).isLt; omega⟩))
  rw [outsAt0_C m c t (by omega) h]
  frame_out
  canon_tiles x e <;> exact (congrArg (k0_pay6 (F := Ideal) · x) (View.readCov_fill _ _ _ _ _ (by decide))).trans (slab _ _ _ x _ (by show (y 2).val = (x 2).val; omega) (by show 128 * (y 1).val + (y 3).val = _ + (x 3).val; omega))

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WAttn

end
-- ==== Proof.WAttn.Claim.lean ====
/- The gradient of w_br_attn: the kernel and the reference end with the same arrays. -/
module

public import proofs.«01_k».proof.Defs
public import proofs.«01_k».proof.Proof.WAttn.Kernel
public import proofs.«01_k».proof.Proof.Gen.ReferenceWAttnIdeal.Read
public import Idealize.ShloMosaic.Lib.Quiescent

@[expose] public section

set_option maxHeartbeats 1000000

noncomputable section

namespace Cert.WAttn

open Idealize.ShloMosaic Idealize.ShloMosaic.TcCoe Idealize.SL.Sem Cert.Common

section
open ReferenceWAttnIdeal ReferenceWAttnIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v8 (F := Ideal) x.a x.b = x.out := by
  funext y
  rw [eq_ix4 y]
  pointwise [val_main_v0, val_main_v1, val_main_v2, val_main_v3, val_main_v4, val_main_v5, val_main_v6, val_main_v7, val_main_v8]
  simp only [Args.out, Args.dw, Nat.mul_comm 128]
  exact Finset.sum_congr rfl fun R _ => mul_comm _ _

end

/-- The reference's run leaves its arguments alone and every counter at zero. -/
theorem reference_frame : quiescent_ReferenceWAttnIdeal (hReferenceWAttnIdeal := ReferenceWAttnIdeal.Gen.facts) := fun m g _ =>
  (θ_run _ _ _).mono (fun r h => ⟨fun c => (h c).2, sem_eq_zero_of_no_sems (by decide) _⟩) (ReferenceWAttnIdeal.Value.run m g)

open KernelWAttnIdeal KernelWAttnIdeal.Gen ReferenceWAttnIdeal.Read in
/-- At the same arguments, the kernel's run ends with the arrays of the specification, and so does the reference's. -/
theorem same : algebraic_KernelWAttnIdeal_ReferenceWAttnIdeal (hKernelWAttnIdeal := KernelWAttnIdeal.Gen.facts) (hReferenceWAttnIdeal := ReferenceWAttnIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWAttnIdeal.Value.run_blocks m g)
  · exact (θ_run _ _ _).mono (fun r h c => by
      obtain ⟨h0, ha⟩ := h c
      exact ⟨(h0.trans (val_main_v8_eq ..)).trans ((ref_out (refArgs m' c)).trans (congrArg Args.out (e c))), ha⟩) (ReferenceWAttnIdeal.Value.run m' g')

end Cert.WAttn

end
-- ==== Proof.WGlu.Kernel.lean ====
/- The gradient of s5_w_glu: what the kernel leaves in its result array. -/
module

public import proofs.«01_k».proof.Proof.Gen.KernelWGluIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WGlu

open Idealize.ShloMosaic Idealize.ShloMosaic.TcCoe Idealize.SL.Sem
open Cert.Common

/-- The arrays the call is given. -/
structure Args where
  a : Mat 8192 256
  b : Mat 8192 512

namespace Args
variable (x : Args)

/-- An entry of the weight's gradient: the products of the two arrays' entries, summed over the rows. -/
def dw (p : Fin 256) (q : Fin 512) : EReal := ∑ R : Fin 8192, x.a (ix2 R p) * x.b (ix2 R q)

/-- The gradient, in the layout the devices exchange. -/
def out : Quad 1 1 256 512 := fun y => x.dw (y 2) (y 3)

end Args

open Cert.KernelWGluIdeal Cert.KernelWGluIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 256) :
    iblk m c 0 t (ix3 z n p) = (args m c).a (ix2 (row t n) p) := by
  have ht : t.val < 8 := t.isLt
  unfold iblk
  blk_simp
  entry_read
  pointwise
  blk_ext [index0 t]
  · show t.val * 1024 + n.val = 1024 * (t.val % 8) + n.val
    omega

theorem block1 (c : Dev nD) (t : Fin cfg0.N) (z : Fin 1) (n : Fin 1024) (q : Fin 512) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 256) (q : Fin 512) : EReal :=
  ∑ n : Fin 1024, (args m c).a (ix2 (row t n) p) * (args m c).b (ix2 (row t n) q)

theorem point_zero (p : Fin 256) (q : Fin 512) : k0_pay1 (F := Ideal) (ix2 p q) = 0 := by
  pointwise [k0_pay1]

theorem point_add (s : Vec Ideal S256x512 .f32) (u : Vec Ideal S1x1024x256 .bf16) (v : Vec Ideal S1x1024x512 .bf16)
    (p : Fin 256) (q : Fin 512) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S256x512 .f32) (y : S256x512.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S256x512.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S256x512.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S256x512.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

theorem point_out (s : Vec Ideal S256x512 .f32) (y : S1x1x256x512.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x256x512.Idx) :
    (outsAt0 m c t.val t.isLt).1 y = (args m c).dw (y 2) (y 3) := by
  refine Eq.trans ?_ (carried_last m c t h (ix2 (y 2) (y 3)))
  rw [outsAt0_C m c t (by omega) h]
  frame_out
  exact point_out _ y

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WGlu

end
-- ==== Proof.WGlu.Claim.lean ====
/- The gradient of s5_w_glu: the kernel and the reference end with the same arrays. -/
module

public import proofs.«01_k».proof.Defs
public import proofs.«01_k».proof.Proof.WGlu.Kernel
public import proofs.«01_k».proof.Proof.Gen.ReferenceWGluIdeal.Read
public import Idealize.ShloMosaic.Lib.Quiescent

@[expose] public section

set_option maxHeartbeats 1000000

noncomputable section

namespace Cert.WGlu

open Idealize.ShloMosaic Idealize.ShloMosaic.TcCoe Idealize.SL.Sem Cert.Common

section
open ReferenceWGluIdeal ReferenceWGluIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v7 (F := Ideal) x.a x.b = x.out := by
  funext y
  rw [eq_ix4 y]
  pointwise [val_main_v0, val_main_v1, val_main_v2, val_main_v3, val_main_v4, val_main_v5, val_main_v6, val_main_v7]
  simp only [Args.out, Args.dw, Nat.mul_comm 128]
  exact Finset.sum_congr rfl fun R _ => mul_comm _ _

end

/-- The reference's run leaves its arguments alone and every counter at zero. -/
theorem reference_frame : quiescent_ReferenceWGluIdeal (hReferenceWGluIdeal := ReferenceWGluIdeal.Gen.facts) := fun m g _ =>
  (θ_run _ _ _).mono (fun r h => ⟨fun c => (h c).2, sem_eq_zero_of_no_sems (by decide) _⟩) (ReferenceWGluIdeal.Value.run m g)

open KernelWGluIdeal KernelWGluIdeal.Gen ReferenceWGluIdeal.Read in
/-- At the same arguments, the kernel's run ends with the arrays of the specification, and so does the reference's. -/
theorem same : algebraic_KernelWGluIdeal_ReferenceWGluIdeal (hKernelWGluIdeal := KernelWGluIdeal.Gen.facts) (hReferenceWGluIdeal := ReferenceWGluIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWGluIdeal.Value.run_blocks m g)
  · exact (θ_run _ _ _).mono (fun r h c => by
      obtain ⟨h0, ha⟩ := h c
      exact ⟨(h0.trans (val_main_v7_eq ..)).trans ((ref_out (refArgs m' c)).trans (congrArg Args.out (e c))), ha⟩) (ReferenceWGluIdeal.Value.run m' g')

end Cert.WGlu

end
-- ==== Proof.Norm.lean ====
/- The norm that stands before a product, entry by entry, as extended reals. -/
module

public import proofs.«01_k».proof.Proof.Common

@[expose] public section

noncomputable section

namespace Cert.Norm

open Idealize.ShloMosaic Cert.Common

/-- The small number the norm adds to a row's mean square. -/
def eps : EReal := Ideal.ofBits .f32 0x358637BD#32

/-- What the norm multiplies a row by: the reciprocal root of the row's mean square. -/
def scale (x : Mat 8192 1024) (R : Fin 8192) : EReal :=
  Ideal.rsqrt (Ideal.div (∑ k : Fin 1024, x (ix2 R k) * x (ix2 R k)) (Ideal.ofBits .f32 0x44800000#32) + eps)

/-- An entry after the norm. -/
def normed (x : Mat 8192 1024) (g : Mat 1 1024) (R : Fin 8192) (k : Fin 1024) : EReal :=
  x (ix2 R k) * scale x R * g (ix2 0 k)

end Cert.Norm

end
-- ==== Proof.FfnA.Kernel.lean ====
/- The first feed-forward half of the second layer: what the kernel leaves in its result arrays. -/
module

public import proofs.«01_k».proof.Proof.Gen.KernelFfnAIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.FfnA

open Idealize.ShloMosaic Idealize.ShloMosaic.TcCoe Idealize.SL.Sem
open Cert.Common Cert.Norm

/-- The arrays the call is given: the rows, the norm's gain, and the two weights in slabs of 704 columns and as rows. -/
structure Args where
  x : Mat 8192 1024
  g : Mat 1 1024
  up : Quad 8 1 1024 704
  down : Cube 1 2816 1024

namespace Args
variable (x : Args)

/-- An entry of the product with slab `s` of the first weight. -/
def u (s : Fin 8) (R : Fin 8192) (r : Fin 704) : EReal := ∑ k : Fin 1024, normed x.x x.g R k * x.up (ix4 s 0 k r)

/-- The slab of the first half that is number `s`, -/
def sa (s : Fin 4) : Fin 8 := ⟨s.val, by omega⟩
/-- and that of the second half. -/
def sb (s : Fin 4) : Fin 8 := ⟨s.val + 4, by omega⟩

/-- What the second product reads in slab `s`. -/
def act (s : Fin 4) (R : Fin 8192) (r : Fin 704) : EReal :=
  x.u (sa s) R r * Ideal.div 1 (1 + Ideal.exp (-(x.u (sa s) R r))) * x.u (sb s) R r

/-- The second product, over the rows of slab `s`. -/
def part (s : Fin 4) (R : Fin 8192) (j : Fin 1024) : EReal :=
  ∑ r : Fin 704, x.act s R r * x.down (ix3 0 ⟨704 * s.val + r.val, by omega⟩ j)

/-- The half step's result. -/
def y : Mat 8192 1024 := fun i => x.x i + Ideal.ofBits .f32 0x3F000000#32 * ∑ s : Fin 4, x.part s (i 0) (i 1)

/-- The products it leaves for the gradient. -/
def a : Cube 4 8192 704 := fun i => x.u (sa (i 0)) (i 1) (i 2)
def b : Cube 4 8192 704 := fun i => x.u (sb (i 0)) (i 1) (i 2)

end Args

open Cert.KernelFfnAIdeal Cert.KernelFfnAIdeal.Gen

variable (m : (ℓ : Loc nD τ sig) → Buf (Elt Ideal) ℓ)

/-- The arrays a device is given. -/
def args (c : Dev nD) : Args where
  x := m ((c : Thread nD τ).loc main_arg0)
  g := m ((c : Thread nD τ).loc main_arg1)
  up := m ((c : Thread nD τ).loc main_arg2)
  down := m ((c : Thread nD τ).loc main_arg3)

/-- Row `n` of the blocks of point `t`. -/
def row (t : Fin cfg0.N) (n : Fin 1024) : Fin 8192 := ⟨1024 * (t.val / 4) + n.val, by have h : t.val < 32 := t.isLt; omega⟩

/-- The slab of point `t`. -/
def slab (t : Fin cfg0.N) : Fin 4 := ⟨t.val % 4, by omega⟩

theorem index0 : ∀ t : Fin cfg0.N, win0_0.index t = ![t.val / 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 4, 0, 0, 0] := (by decide +kernel : ∀ t : Fin grid0.N, _)
theorem index3 : ∀ t : Fin cfg0.N, win0_3.index t = ![t.val % 4 + 4, 0, 0, 0] := (by decide +kernel : ∀ t : Fin grid0.N, _)
theorem index4 : ∀ t : Fin cfg0.N, win0_4.index t = ![0, t.val % 4, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val % 4, t.val / 4, 0] := (by decide +kernel : ∀ t : Fin grid0.N, _)
theorem index7 : ∀ t : Fin cfg0.N, win0_7.index t = ![t.val % 4, t.val / 4, 0] := (by decide +kernel : ∀ t : Fin grid0.N, _)

theorem block0 (c : Dev nD) (t : Fin cfg0.N) (n k : Fin 1024) :
    iblk m c 0 t (ix2 n k) = (args m c).x (ix2 (row t n) k) := by
  blk_ext [iblk, V, index0 t]
  show t.val / 4 * 1024 + n.val = 1024 * (t.val / 4) + n.val
  omega

theorem block1 (c : Dev nD) (t : Fin cfg0.N) (z : Fin 1) (k : Fin 1024) :
    iblk m c 1 t (ix2 z k) = (args m c).g (ix2 0 k) := by
  blk_ext [iblk, V, index1 t]

theorem block2 (c : Dev nD) (t : Fin cfg0.N) (z z' : Fin 1) (k : Fin 1024) (r : Fin 704) :
    iblk m c 2 t (ix4 z z' k r) = (args m c).up (ix4 (Args.sa (slab t)) 0 k r) := by
  blk_ext [iblk, V, index2 t]
  rfl

theorem block3 (c : Dev nD) (t : Fin cfg0.N) (z z' : Fin 1) (k : Fin 1024) (r : Fin 704) :
    iblk m c 3 t (ix4 z z' k r) = (args m c).up (ix4 (Args.sb (slab t)) 0 k r) := by
  blk_ext [iblk, V, index3 t]
  rfl

theorem block4 (c : Dev nD) (t : Fin cfg0.N) (z : Fin 1) (r : Fin 704) (j : Fin 1024) :
    iblk m c 4 t (ix3 z r j) = (args m c).down (ix3 0 ⟨704 * (slab t).val + r.val, by omega⟩ j) := by
  blk_ext [iblk, V, index4 t]
  show t.val % 4 * 704 + r.val = 704 * (t.val % 4) + r.val
  omega

/-! What a point computes. -/

theorem point_norm (c : Dev nD) (t : Fin cfg0.N) (n k : Fin 1024) :
    k0_pay3 (iblk m c 0 t) (iblk m c 1 t) (ix2 n k) = normed (args m c).x (args m c).g (row t n) k := by
  pointwise [k0_pay3, block0, block1, normed, scale, eps]

theorem point_zero (n j : Fin 1024) : k0_pay4 (F := Ideal) (ix2 n j) = 0 := by
  pointwise [k0_pay4]

theorem point_a (c : Dev nD) (t : Fin cfg0.N) (h : Vec Ideal S1024x1024 .bf16)
    (hh : ∀ n k : Fin 1024, h (ix2 n k) = normed (args m c).x (args m c).g (row t n) k) (n : Fin 1024) (r : Fin 704) :
    k0_pay5 h (iblk m c 2 t) (ix2 n r) = (args m c).u (Args.sa (slab t)) (row t n) r := by
  pointwise [k0_pay5, block2, hh, Args.u]

theorem point_b (c : Dev nD) (t : Fin cfg0.N) (h : Vec Ideal S1024x1024 .bf16)
    (hh : ∀ n k : Fin 1024, h (ix2 n k) = normed (args m c).x (args m c).g (row t n) k) (n : Fin 1024) (r : Fin 704) :
    k0_pay6 h (iblk m c 3 t) (ix2 n r) = (args m c).u (Args.sb (slab t)) (row t n) r := by
  pointwise [k0_pay6, block3, hh, Args.u]

theorem point_act (c : Dev nD) (t : Fin cfg0.N) (h : Vec Ideal S1024x1024 .bf16)
    (hh : ∀ n k : Fin 1024, h (ix2 n k) = normed (args m c).x (args m c).g (row t n) k) (n : Fin 1024) (r : Fin 704) :
    k0_pay9 h (iblk m c 2 t) (iblk m c 3 t) (ix2 n r) = (args m c).act (slab t) (row t n) r := by
  pointwise [k0_pay9, point_a m c t h hh, point_b m c t h hh, zero_sub, Args.act]

theorem point_a_out (c : Dev nD) (t : Fin cfg0.N) (h : Vec Ideal S1024x1024 .bf16)
    (hh : ∀ n k : Fin 1024, h (ix2 n k) = normed (args m c).x (args m c).g (row t n) k) (y : S1x1024x704.Idx) :
    k0_pay7 h (iblk m c 2 t) y = (args m c).u (Args.sa (slab t)) (row t (y 1)) (y 2) := by
  rw [eq_ix3 y]
  pointwise [k0_pay7, point_a m c t h hh]

theorem point_b_out (c : Dev nD) (t : Fin cfg0.N) (h : Vec Ideal S1024x1024 .bf16)
    (hh : ∀ n k : Fin 1024, h (ix2 n k) = normed (args m c).x (args m c).g (row t n) k) (y : S1x1024x704.Idx) :
    k0_pay8 h (iblk m c 3 t) y = (args m c).u (Args.sb (slab t)) (row t (y 1)) (y 2) := by
  rw [eq_ix3 y]
  pointwise [k0_pay8, point_b m c t h hh]

theorem point_add (c : Dev nD) (t : Fin cfg0.N) (s : Vec Ideal S1024x1024 .f32) (h : Vec Ideal S1024x1024 .bf16)
    (hh : ∀ n k : Fin 1024, h (ix2 n k) = normed (args m c).x (args m c).g (row t n) k) (y : S1024x1024.Idx) :
    k0_pay1 s (k0_pay9 h (iblk m c 2 t) (iblk m c 3 t)) (iblk m c 4 t) y
      = s y + (args m c).part (slab t) (row t (y 0)) (y 1) := by
  rw [eq_ix2 y]
  pointwise [k0_pay1, point_act m c t h hh, block4, Args.part]

theorem point_y (c : Dev nD) (t : Fin cfg0.N) (s : Vec Ideal S1024x1024 .f32) (n j : Fin 1024) :
    k0_pay2 (iblk m c 0 t) s (ix2 n j)
      = (args m c).x (ix2 (row t n) j) + Ideal.ofBits .f32 0x3F000000#32 * s (ix2 n j) := by
  pointwise [k0_pay2, block0]

/-! What a point carries on: the norm's rows, and the sum over the slabs so far. -/

/-- The point before, in the same run. -/
theorem row_before (t : Fin cfg0.N) (h : ¬ t.val % 4 = 0) (n : Fin 1024) :
    row ⟨t.val - 1, Nat.lt_of_le_of_lt (Nat.sub_le _ _) t.isLt⟩ n = row t n :=
  Fin.ext (by show 1024 * ((t.val - 1) / 4) + n.val = 1024 * (t.val / 4) + n.val; omega)

theorem carried_norm (c : Dev nD) : ∀ (k : ℕ) (hk : k < cfg0.N) (n j : Fin 1024),
    (outsAt0 m c k hk).2.2.2.1 (ix2 n j) = normed (args m c).x (args m c).g (row ⟨k, hk⟩ n) j := by
  intro k
  induction k with
  | zero =>
    intro hk n j
    rw [outsAt0_A m c ⟨0, hk⟩ (by rfl) (by show ¬ 0 % 4 = 3; decide)]
    frame_out
    exact point_norm m c ⟨0, hk⟩ n j
  | succ k ih =>
    intro hk n j
    by_cases h0 : (k + 1) % 4 = 0
    · rw [outsAt0_A m c ⟨k + 1, hk⟩ h0 (by show ¬ (k + 1) % 4 = 3; omega)]
      frame_out
      exact point_norm m c ⟨k + 1, hk⟩ n j
    · have e := (ih (Nat.lt_of_succ_lt hk) n j).trans
        (congrArg (normed (args m c).x (args m c).g · j) (row_before ⟨k + 1, hk⟩ h0 n))
      by_cases h3 : (k + 1) % 4 = 3
      · rw [outsAt0_C m c ⟨k + 1, hk⟩ h0 h3]
        frame_out
        exact e
      · rw [outsAt0_B m c ⟨k + 1, hk⟩ h0 h3]
        frame_out
        exact e

/-- What the point before carried is the norm of this point's rows. -/
theorem before_norm (c : Dev nD) (t : Fin cfg0.N) (h : ¬ t.val % 4 = 0) (n j : Fin 1024) :
    (outsAt0 m c (t.val - 1) (Nat.lt_of_le_of_lt (Nat.sub_le _ _) t.isLt)).2.2.2.1 (ix2 n j)
      = normed (args m c).x (args m c).g (row t n) j :=
  (carried_norm m c _ _ n j).trans (congrArg (normed (args m c).x (args m c).g · j) (row_before t h n))

/-- The first point of a run starts the sum, -/
theorem carried_first (c : Dev nD) (t : Fin cfg0.N) (h : t.val % 4 = 0) (y : S1024x1024.Idx) :
    (outsAt0 m c t.val t.isLt).2.2.2.2 y = 0 + (args m c).part (slab t) (row t (y 0)) (y 1) := by
  rw [outsAt0_A m c t h (by omega)]
  frame_out
  refine (point_add m c t _ _ (fun n k => point_norm m c t n k) y).trans ?_
  exact congrArg (· + _) ((congrArg _ (eq_ix2 y)).trans (point_zero (y 0) (y 1)))

/-- and a later one adds to it. -/
theorem carried_later (c : Dev nD) (t : Fin cfg0.N) (h : ¬ t.val % 4 = 0) (y : S1024x1024.Idx) :
    (outsAt0 m c t.val t.isLt).2.2.2.2 y
      = (outsAt0 m c (t.val - 1) (Nat.lt_of_le_of_lt (Nat.sub_le _ _) t.isLt)).2.2.2.2 y
        + (args m c).part (slab t) (row t (y 0)) (y 1) := by
  by_cases h3 : t.val % 4 = 3
  · rw [outsAt0_C m c t h h3]
    frame_out
    simp only [read_unread_whole]
    exact point_add m c t _ _ (before_norm m c t h) y
  · rw [outsAt0_B m c t h h3]
    frame_out
    simp only [read_unread_whole]
    exact point_add m c t _ _ (before_norm m c t h) y

theorem row_run (t : Fin cfg0.N) (s : Fin 4) (h : 4 * (t.val / 4) + s.val < cfg0.N) (r : Fin 1024) :
    row ⟨4 * (t.val / 4) + s.val, h⟩ r = row t r :=
  Fin.ext (by show 1024 * ((4 * (t.val / 4) + s.val) / 4) + r.val = 1024 * (t.val / 4) + r.val; omega)

theorem slab_run (t : Fin cfg0.N) (s : Fin 4) (h : 4 * (t.val / 4) + s.val < cfg0.N) :
    slab ⟨4 * (t.val / 4) + s.val, h⟩ = s :=
  Fin.ext (by show (4 * (t.val / 4) + s.val) % 4 = s.val; omega)

/-- The last point of a run holds the whole sum. -/
theorem carried_last (c : Dev nD) (t : Fin cfg0.N) (h : t.val % 4 = 3) (y : S1024x1024.Idx) :
    (outsAt0 m c t.val t.isLt).2.2.2.2 y = ∑ s : Fin 4, (args m c).part s (row t (y 0)) (y 1) := by
  refine (Pipeline.eq_sum_fin_of_reset_step_apply_of_flush (fun n h => (outsAt0 m c n h).2.2.2.2) 4 (fun _ => 0) _
    (fun t h j => carried_first m c t h j) (fun t h j => carried_later m c t h j) t h y).trans ?_
  rw [zero_add]
  exact Finset.sum_congr rfl fun s _ =>
    congrArg₂ (fun u v => (args m c).part u v (y 1)) (slab_run t s _) (row_run t s _ (y 0))

/-! What is stored. -/

theorem stored5 (c : Dev nD) (t : Fin cfg0.N) (h : t.val % 4 = 3) (y : S1024x1024.Idx) :
    (outsAt0 m c t.val t.isLt).1 y = (args m c).y (ix2 (row t (y 0)) (y 1)) := by
  have e := carried_last m c t h y
  rw [outsAt0_C m c t (by omega) h] at e ⊢
  revert e
  frame_out
  intro e
  rw [eq_ix2 y] at e ⊢
  refine (point_y m c t _ (y 0) (y 1)).trans ?_
  exact congrArg (_ + _ * ·) e

theorem stored6 (c : Dev nD) (t : Fin cfg0.N) (y : S1x1024x704.Idx) :
    (outsAt0 m c t.val t.isLt).2.1 y = (args m c).u (Args.sa (slab t)) (row t (y 1)) (y 2) := by
  by_cases h0 : t.val % 4 = 0
  · rw [outsAt0_A m c t h0 (by omega)]
    frame_out
    exact point_a_out m c t _ (fun n k => point_norm m c t n k) y
  · by_cases h3 : t.val % 4 = 3
    · rw [outsAt0_C m c t h0 h3]
      frame_out
      simp only [read_unread_whole]
      exact point_a_out m c t _ (before_norm m c t h0) y
    · rw [outsAt0_B m c t h0 h3]
      frame_out
      simp only [read_unread_whole]
      exact point_a_out m c t _ (before_norm m c t h0) y

theorem stored7 (c : Dev nD) (t : Fin cfg0.N) (y : S1x1024x704.Idx) :
    (outsAt0 m c t.val t.isLt).2.2.1 y = (args m c).u (Args.sb (slab t)) (row t (y 1)) (y 2) := by
  by_cases h0 : t.val % 4 = 0
  · rw [outsAt0_A m c t h0 (by omega)]
    frame_out
    exact point_b_out m c t _ (fun n k => point_norm m c t n k) y
  · by_cases h3 : t.val % 4 = 3
    · rw [outsAt0_C m c t h0 h3]
      frame_out
      simp only [read_unread_whole]
      exact point_b_out m c t _ (before_norm m c t h0) y
    · rw [outsAt0_B m c t h0 h3]
      frame_out
      simp only [read_unread_whole]
      exact point_b_out m c t _ (before_norm m c t h0) y

/-! The result arrays after the run. -/

theorem array5 (c : Dev nD) : (dats m 0 c).arrAt 5 cfg0.N = (args m c).y := by
  refine (dats m 0 c).arrAt_eq_of_covers 5 _ (by decide +kernel) fun t hf y => ?_
  blk_simp
  rw [after0_5]
  refine (stored5 m c t ((flush0_5 t).mp hf) y).trans ?_
  congr 1
  refine Shape.idx_ext₂ ?_ ?_
  · show 1024 * (t.val / 4) + (y 0).val = _
    blk_simp [index5 t]
    show 1024 * (t.val / 4) + (y 0).val = t.val / 4 * 1024 + (y 0).val
    omega
  · blk_simp [index5 t]

theorem array6 (c : Dev nD) : (dats m 0 c).arrAt 6 cfg0.N = (args m c).a := by
  refine (dats m 0 c).arrAt_eq_of_covers 6 _ (by decide +kernel) fun t hf y => ?_
  blk_simp
  rw [after0_6]
  refine (stored6 m c t y).trans ?_
  unfold Args.a
  congr 1
  · refine congrArg Args.sa (Fin.ext ?_)
    blk_simp [index6 t]
    rfl
  · refine Fin.ext ?_
    show 1024 * (t.val / 4) + (y 1).val = _
    blk_simp [index6 t]
    show 1024 * (t.val / 4) + (y 1).val = t.val / 4 * 1024 + (y 1).val
    omega
  · refine Fin.ext ?_
    blk_simp [index6 t]

theorem array7 (c : Dev nD) : (dats m 0 c).arrAt 7 cfg0.N = (args m c).b := by
  refine (dats m 0 c).arrAt_eq_of_covers 7 _ (by decide +kernel) fun t hf y => ?_
  blk_simp
  rw [after0_7]
  refine (stored7 m c t y).trans ?_
  unfold Args.b
  congr 1
  · refine congrArg Args.sb (Fin.ext ?_)
    blk_simp [index7 t]
    rfl
  · refine Fin.ext ?_
    show 1024 * (t.val / 4) + (y 1).val = _
    blk_simp [index7 t]
    show 1024 * (t.val / 4) + (y 1).val = t.val / 4 * 1024 + (y 1).val
    omega
  · refine Fin.ext ?_
    blk_simp [index7 t]

end Cert.FfnA

end
-- ==== Proof.FfnA.Claim.lean ====
/- The first feed-forward half of the second layer: the kernel and the reference end with the same arrays. -/
module

public import proofs.«01_k».proof.Defs
public import proofs.«01_k».proof.Proof.FfnA.Kernel
public import proofs.«01_k».proof.Proof.Gen.ReferenceFfnAIdeal.Read
public import Idealize.ShloMosaic.Lib.Quiescent

@[expose] public section

set_option maxHeartbeats 1000000

noncomputable section

namespace Cert.FfnA

open Idealize.ShloMosaic Idealize.ShloMosaic.TcCoe Idealize.SL.Sem Cert.Common Cert.Norm

section
open ReferenceFfnAIdeal ReferenceFfnAIdeal.Read

/-- The arrays a device of the reference is given. -/
def refArgs (m : (ℓ : Loc nD τ sig) → Buf (Elt Ideal) ℓ) (c : Dev nD) : Args where
  x := m ((c : Thread nD τ).loc main_arg0)
  g := m ((c : Thread nD τ).loc main_arg1)
  up := m ((c : Thread nD τ).loc main_arg2)
  down := m ((c : Thread nD τ).loc main_arg3)

theorem ref_norm (x : Args) (R : Fin 8192) (k : Fin 1024) : val_main_v17 (F := Ideal) x.x x.g (ix2 R k) = normed x.x x.g R k := by
  pointwise [val_main_v17, val_main_v16, val_main_v15, val_main_v14, val_main_v13, val_main_v12, val_main_v11, val_main_v10,
    val_main_v9, val_main_v8, val_main_v7, val_main_v6, val_main_cst, val_main_cst_0, val_main_cst_1, normed, scale, eps]

/-- The first weight, side by side. -/
theorem ref_up (x : Args) (k : Fin 1024) (q : Fin 5632) :
    val_main_v5 (F := Ideal) x.up (ix2 k q) = x.up (ix4 ⟨q.val / 704, by omega⟩ 0 k ⟨q.val % 704, by omega⟩) := by
  pointwise [val_main_v5, val_main_v4, val_main_v1, val_main_v0]

/-- The first product, at column `r` of slab `s`. -/
theorem ref_u (x : Args) (R : Fin 8192) (s : Fin 8) (r : Fin 704) :
    val_main_v18 (F := Ideal) x.x x.g x.up (ix2 R ⟨704 * s.val + r.val, by omega⟩) = x.u s R r := by
  have e0 : (704 * s.val + r.val) / 704 = s.val := by omega
  have e1 : (704 * s.val + r.val) % 704 = r.val := by omega
  pointwise [val_main_v18, ref_norm, ref_up, Args.u, e0, e1]

/-- What the second product reads, at column `r` of slab `s`. -/
theorem ref_act (x : Args) (R : Fin 8192) (s : Fin 4) (r : Fin 704) :
    val_main_v22 (F := Ideal) x.x x.g x.up (ix2 R ⟨704 * s.val + r.val, by omega⟩) = x.act s R r := by
  have ea := ref_u x R (Args.sa s) r
  have eb := ref_u x R (Args.sb s) r
  have e2 : 2816 + (704 * s.val + r.val) = 704 * (s.val + 4) + r.val := by omega
  pointwise [val_main_v22, val_main_v21, val_main_v20, val_main_v19, val_main_call0_v5, val_main_call0_v4, val_main_call0_v3,
    val_main_call0_v2, val_main_call0_v1, val_main_call0_v0, val_main_call0_cst, val_main_call0_cst_0, Args.act, Args.sa, Args.sb] at ea eb ⊢
  simp only [e2, ea, eb]

theorem ref_y (x : Args) : val_main_v26 (F := Ideal) x.x x.g x.up x.down = x.y := by
  funext i
  rw [eq_ix2 i]
  pointwise [val_main_v26, val_main_v25, val_main_v24, val_main_v23, val_main_cst_2, val_main_v3, val_main_v2, Args.y, Args.part]
  refine congrArg (fun u : EReal => _ + _ * u) ?_
  rw [Fin.sum_univ_tiles 4 704 rfl]
  refine Finset.sum_congr rfl fun s _ => Finset.sum_congr rfl fun r _ => ?_
  simp only [Nat.mul_comm s.val 704]
  exact congrArg (fun u : EReal => u * x.down _) (ref_act x (i 0) s r)

theorem ref_a (x : Args) : val_main_v29 (F := Ideal) x.x x.g x.up = x.a := by
  funext i
  rw [eq_ix3 i]
  pointwise [val_main_v29, val_main_v28, val_main_v27, val_main_v19]
  refine Eq.trans (congrArg (fun q => val_main_v18 (F := Ideal) x.x x.g x.up (ix2 (i 1) q)) (Fin.ext ?_)) (ref_u x (i 1) (Args.sa (i 0)) (i 2))
  show (i 0).val * 704 + (i 2).val = 704 * (i 0).val + (i 2).val
  omega

theorem ref_b (x : Args) : val_main_v32 (F := Ideal) x.x x.g x.up = x.b := by
  funext i
  rw [eq_ix3 i]
  pointwise [val_main_v32, val_main_v31, val_main_v30, val_main_v20]
  refine Eq.trans (congrArg (fun q => val_main_v18 (F := Ideal) x.x x.g x.up (ix2 (i 1) q)) (Fin.ext ?_)) (ref_u x (i 1) (Args.sb (i 0)) (i 2))
  show 2816 + ((i 0).val * 704 + (i 2).val) = 704 * ((i 0).val + 4) + (i 2).val
  omega

end

/-- The reference's run leaves its arguments alone and every counter at zero. -/
theorem reference_frame : quiescent_ReferenceFfnAIdeal (hReferenceFfnAIdeal := ReferenceFfnAIdeal.Gen.facts) := fun m g _ =>
  (θ_run _ _ _).mono (fun r h => ⟨fun c => (h c).2.2.2, sem_eq_zero_of_no_sems (by decide) _⟩) (ReferenceFfnAIdeal.Value.run m g)

open KernelFfnAIdeal KernelFfnAIdeal.Gen ReferenceFfnAIdeal.Read in
/-- At the same arguments, the kernel's run ends with the arrays of the specification, and so does the reference's. -/
theorem same : algebraic_KernelFfnAIdeal_ReferenceFfnAIdeal (hKernelFfnAIdeal := KernelFfnAIdeal.Gen.facts) (hReferenceFfnAIdeal := ReferenceFfnAIdeal.Gen.facts) := by
  intro m g m' g' _ hagree
  have e : ∀ c, refArgs m' c = args m c := fun c => by
    unfold refArgs args
    simp only [hagree c]
  refine ⟨fun c => (args m c).y, fun c => (args m c).a, fun c => (args m c).b, ?_, ?_⟩
  · exact (θ_run _ _ _).mono (fun r h c => by
      have h := h c
      rw [array5, array6, array7] at h
      exact h) (KernelFfnAIdeal.Value.run_blocks m g)
  · exact (θ_run _ _ _).mono (fun r h c => by
      obtain ⟨h0, h1, h2, ha⟩ := h c
      exact ⟨(h0.trans (val_main_v26_eq ..)).trans ((ref_y (refArgs m' c)).trans (congrArg Args.y (e c))),
      (h1.trans (val_main_v29_eq ..)).trans ((ref_a (refArgs m' c)).trans (congrArg Args.a (e c))),
      (h2.trans (val_main_v32_eq ..)).trans ((ref_b (refArgs m' c)).trans (congrArg Args.b (e c))), ha⟩) (ReferenceFfnAIdeal.Value.run m' g')

end Cert.FfnA

end
-- ==== Proof.FfnB.Kernel.lean ====
/- The second feed-forward half of the first layer: what the kernel leaves in its result arrays. -/
module

public import proofs.«01_k».proof.Proof.Gen.KernelFfnBIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.FfnB

open Idealize.ShloMosaic Idealize.ShloMosaic.TcCoe Idealize.SL.Sem
open Cert.Common Cert.Norm

/-- The arrays the call is given: the rows, the norm's gain, and the two weights in slabs of 704 columns and as rows. -/
structure Args where
  x : Mat 8192 1024
  g : Mat 1 1024
  up : Quad 8 2 1024 704
  down : Cube 2 2816 1024

namespace Args
variable (x : Args)

/-- An entry of the product with slab `s` of the first weight. -/
def u (s : Fin 8) (R : Fin 8192) (r : Fin 704) : EReal := ∑ k : Fin 1024, normed x.x x.g R k * x.up (ix4 s 0 k r)

/-- The slab of the first half that is number `s`, -/
def sa (s : Fin 4) : Fin 8 := ⟨s.val, by omega⟩
/-- and that of the second half. -/
def sb (s : Fin 4) : Fin 8 := ⟨s.val + 4, by omega⟩

/-- What the second product reads in slab `s`. -/
def act (s : Fin 4) (R : Fin 8192) (r : Fin 704) : EReal :=
  x.u (sa s) R r * Ideal.div 1 (1 + Ideal.exp (-(x.u (sa s) R r))) * x.u (sb s) R r

/-- The second product, over the rows of slab `s`. -/
def part (s : Fin 4) (R : Fin 8192) (j : Fin 1024) : EReal :=
  ∑ r : Fin 704, x.act s R r * x.down (ix3 0 ⟨704 * s.val + r.val, by omega⟩ j)

/-- The half step's result. -/
def y : Mat 8192 1024 := fun i => x.x i + Ideal.ofBits .f32 0x3F000000#32 * ∑ s : Fin 4, x.part s (i 0) (i 1)

/-- The products it leaves for the gradient. -/
def a : Cube 4 8192 704 := fun i => x.u (sa (i 0)) (i 1) (i 2)
def b : Cube 4 8192 704 := fun i => x.u (sb (i 0)) (i 1) (i 2)

end Args

open Cert.KernelFfnBIdeal Cert.KernelFfnBIdeal.Gen

variable (m : (ℓ : Loc nD τ sig) → Buf (Elt Ideal) ℓ)

/-- The arrays a device is given. -/
def args (c : Dev nD) : Args where
  x := m ((c : Thread nD τ).loc main_arg0)
  g := m ((c : Thread nD τ).loc main_arg1)
  up := m ((c : Thread nD τ).loc main_arg2)
  down := m ((c : Thread nD τ).loc main_arg3)

/-- Row `n` of the blocks of point `t`. -/
def row (t : Fin cfg0.N) (n : Fin 1024) : Fin 8192 := ⟨1024 * (t.val / 4) + n.val, by have h : t.val < 32 := t.isLt; omega⟩

/-- The slab of point `t`. -/
def slab (t : Fin cfg0.N) : Fin 4 := ⟨t.val % 4, by omega⟩

theorem index0 : ∀ t : Fin cfg0.N, win0_0.index t = ![t.val / 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 4, 0, 0, 0] := (by decide +kernel : ∀ t : Fin grid0.N, _)
theorem index3 : ∀ t : Fin cfg0.N, win0_3.index t = ![t.val % 4 + 4, 0, 0, 0] := (by decide +kernel : ∀ t : Fin grid0.N, _)
theorem index4 : ∀ t : Fin cfg0.N, win0_4.index t = ![0, t.val % 4, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val % 4, t.val / 4, 0] := (by decide +kernel : ∀ t : Fin grid0.N, _)
theorem index7 : ∀ t : Fin cfg0.N, win0_7.index t = ![t.val % 4, t.val / 4, 0] := (by decide +kernel : ∀ t : Fin grid0.N, _)

theorem block0 (c : Dev nD) (t : Fin cfg0.N) (n k : Fin 1024) :
    iblk m c 0 t (ix2 n k) = (args m c).x (ix2 (row t n) k) := by
  blk_ext [iblk, V, index0 t]
  show t.val / 4 * 1024 + n.val = 1024 * (t.val / 4) + n.val
  omega

theorem block1 (c : Dev nD) (t : Fin cfg0.N) (z : Fin 1) (k : Fin 1024) :
    iblk m c 1 t (ix2 z k) = (args m c).g (ix2 0 k) := by
  blk_ext [iblk, V, index1 t]

theorem block2 (c : Dev nD) (t : Fin cfg0.N) (z z' : Fin 1) (k : Fin 1024) (r : Fin 704) :
    iblk m c 2 t (ix4 z z' k r) = (args m c).up (ix4 (Args.sa (slab t)) 0 k r) := by
  blk_ext [iblk, V, index2 t]
  rfl

theorem block3 (c : Dev nD) (t : Fin cfg0.N) (z z' : Fin 1) (k : Fin 1024) (r : Fin 704) :
    iblk m c 3 t (ix4 z z' k r) = (args m c).up (ix4 (Args.sb (slab t)) 0 k r) := by
  blk_ext [iblk, V, index3 t]
  rfl

theorem block4 (c : Dev nD) (t : Fin cfg0.N) (z : Fin 1) (r : Fin 704) (j : Fin 1024) :
    iblk m c 4 t (ix3 z r j) = (args m c).down (ix3 0 ⟨704 * (slab t).val + r.val, by omega⟩ j) := by
  blk_ext [iblk, V, index4 t]
  show t.val % 4 * 704 + r.val = 704 * (t.val % 4) + r.val
  omega

/-! What a point computes. -/

theorem point_norm (c : Dev nD) (t : Fin cfg0.N) (n k : Fin 1024) :
    k0_pay3 (iblk m c 0 t) (iblk m c 1 t) (ix2 n k) = normed (args m c).x (args m c).g (row t n) k := by
  pointwise [k0_pay3, block0, block1, normed, scale, eps]

theorem point_zero (n j : Fin 1024) : k0_pay4 (F := Ideal) (ix2 n j) = 0 := by
  pointwise [k0_pay4]

theorem point_a (c : Dev nD) (t : Fin cfg0.N) (h : Vec Ideal S1024x1024 .bf16)
    (hh : ∀ n k : Fin 1024, h (ix2 n k) = normed (args m c).x (args m c).g (row t n) k) (n : Fin 1024) (r : Fin 704) :
    k0_pay5 h (iblk m c 2 t) (ix2 n r) = (args m c).u (Args.sa (slab t)) (row t n) r := by
  pointwise [k0_pay5, block2, hh, Args.u]

theorem point_b (c : Dev nD) (t : Fin cfg0.N) (h : Vec Ideal S1024x1024 .bf16)
    (hh : ∀ n k : Fin 1024, h (ix2 n k) = normed (args m c).x (args m c).g (row t n) k) (n : Fin 1024) (r : Fin 704) :
    k0_pay6 h (iblk m c 3 t) (ix2 n r) = (args m c).u (Args.sb (slab t)) (row t n) r := by
  pointwise [k0_pay6, block3, hh, Args.u]

theorem point_act (c : Dev nD) (t : Fin cfg0.N) (h : Vec Ideal S1024x1024 .bf16)
    (hh : ∀ n k : Fin 1024, h (ix2 n k) = normed (args m c).x (args m c).g (row t n) k) (n : Fin 1024) (r : Fin 704) :
    k0_pay9 h (iblk m c 2 t) (iblk m c 3 t) (ix2 n r) = (args m c).act (slab t) (row t n) r := by
  pointwise [k0_pay9, point_a m c t h hh, point_b m c t h hh, zero_sub, Args.act]

theorem point_a_out (c : Dev nD) (t : Fin cfg0.N) (h : Vec Ideal S1024x1024 .bf16)
    (hh : ∀ n k : Fin 1024, h (ix2 n k) = normed (args m c).x (args m c).g (row t n) k) (y : S1x1024x704.Idx) :
    k0_pay7 h (iblk m c 2 t) y = (args m c).u (Args.sa (slab t)) (row t (y 1)) (y 2) := by
  rw [eq_ix3 y]
  pointwise [k0_pay7, point_a m c t h hh]

theorem point_b_out (c : Dev nD) (t : Fin cfg0.N) (h : Vec Ideal S1024x1024 .bf16)
    (hh : ∀ n k : Fin 1024, h (ix2 n k) = normed (args m c).x (args m c).g (row t n) k) (y : S1x1024x704.Idx) :
    k0_pay8 h (iblk m c 3 t) y = (args m c).u (Args.sb (slab t)) (row t (y 1)) (y 2) := by
  rw [eq_ix3 y]
  pointwise [k0_pay8, point_b m c t h hh]

theorem point_add (c : Dev nD) (t : Fin cfg0.N) (s : Vec Ideal S1024x1024 .f32) (h : Vec Ideal S1024x1024 .bf16)
    (hh : ∀ n k : Fin 1024, h (ix2 n k) = normed (args m c).x (args m c).g (row t n) k) (y : S1024x1024.Idx) :
    k0_pay1 s (k0_pay9 h (iblk m c 2 t) (iblk m c 3 t)) (iblk m c 4 t) y
      = s y + (args m c).part (slab t) (row t (y 0)) (y 1) := by
  rw [eq_ix2 y]
  pointwise [k0_pay1, point_act m c t h hh, block4, Args.part]

theorem point_y (c : Dev nD) (t : Fin cfg0.N) (s : Vec Ideal S1024x1024 .f32) (n j : Fin 1024) :
    k0_pay2 (iblk m c 0 t) s (ix2 n j)
      = (args m c).x (ix2 (row t n) j) + Ideal.ofBits .f32 0x3F000000#32 * s (ix2 n j) := by
  pointwise [k0_pay2, block0]

/-! What a point carries on: the norm's rows, and the sum over the slabs so far. -/

/-- The point before, in the same run. -/
theorem row_before (t : Fin cfg0.N) (h : ¬ t.val % 4 = 0) (n : Fin 1024) :
    row ⟨t.val - 1, Nat.lt_of_le_of_lt (Nat.sub_le _ _) t.isLt⟩ n = row t n :=
  Fin.ext (by show 1024 * ((t.val - 1) / 4) + n.val = 1024 * (t.val / 4) + n.val; omega)

theorem carried_norm (c : Dev nD) : ∀ (k : ℕ) (hk : k < cfg0.N) (n j : Fin 1024),
    (outsAt0 m c k hk).2.2.2.1 (ix2 n j) = normed (args m c).x (args m c).g (row ⟨k, hk⟩ n) j := by
  intro k
  induction k with
  | zero =>
    intro hk n j
    rw [outsAt0_A m c ⟨0, hk⟩ (by rfl) (by show ¬ 0 % 4 = 3; decide)]
    frame_out
    exact point_norm m c ⟨0, hk⟩ n j
  | succ k ih =>
    intro hk n j
    by_cases h0 : (k + 1) % 4 = 0
    · rw [outsAt0_A m c ⟨k + 1, hk⟩ h0 (by show ¬ (k + 1) % 4 = 3; omega)]
      frame_out
      exact point_norm m c ⟨k + 1, hk⟩ n j
    · have e := (ih (Nat.lt_of_succ_lt hk) n j).trans
        (congrArg (normed (args m c).x (args m c).g · j) (row_before ⟨k + 1, hk⟩ h0 n))
      by_cases h3 : (k + 1) % 4 = 3
      · rw [outsAt0_C m c ⟨k + 1, hk⟩ h0 h3]
        frame_out
        exact e
      · rw [outsAt0_B m c ⟨k + 1, hk⟩ h0 h3]
        frame_out
        exact e

/-- What the point before carried is the norm of this point's rows. -/
theorem before_norm (c : Dev nD) (t : Fin cfg0.N) (h : ¬ t.val % 4 = 0) (n j : Fin 1024) :
    (outsAt0 m c (t.val - 1) (Nat.lt_of_le_of_lt (Nat.sub_le _ _) t.isLt)).2.2.2.1 (ix2 n j)
      = normed (args m c).x (args m c).g (row t n) j :=
  (carried_norm m c _ _ n j).trans (congrArg (normed (args m c).x (args m c).g · j) (row_before t h n))

/-- The first point of a run starts the sum, -/
theorem carried_first (c : Dev nD) (t : Fin cfg0.N) (h : t.val % 4 = 0) (y : S1024x1024.Idx) :
    (outsAt0 m c t.val t.isLt).2.2.2.2 y = 0 + (args m c).part (slab t) (row t (y 0)) (y 1) := by
  rw [outsAt0_A m c t h (by omega)]
  frame_out
  refine (point_add m c t _ _ (fun n k => point_norm m c t n k) y).trans ?_
  exact congrArg (· + _) ((congrArg _ (eq_ix2 y)).trans (point_zero (y 0) (y 1)))

/-- and a later one adds to it. -/
theorem carried_later (c : Dev nD) (t : Fin cfg0.N) (h : ¬ t.val % 4 = 0) (y : S1024x1024.Idx) :
    (outsAt0 m c t.val t.isLt).2.2.2.2 y
      = (outsAt0 m c (t.val - 1) (Nat.lt_of_le_of_lt (Nat.sub_le _ _) t.isLt)).2.2.2.2 y
        + (args m c).part (slab t) (row t (y 0)) (y 1) := by
  by_cases h3 : t.val % 4 = 3
  · rw [outsAt0_C m c t h h3]
    frame_out
    simp only [read_unread_whole]
    exact point_add m c t _ _ (before_norm m c t h) y
  · rw [outsAt0_B m c t h h3]
    frame_out
    simp only [read_unread_whole]
    exact point_add m c t _ _ (before_norm m c t h) y

theorem row_run (t : Fin cfg0.N) (s : Fin 4) (h : 4 * (t.val / 4) + s.val < cfg0.N) (r : Fin 1024) :
    row ⟨4 * (t.val / 4) + s.val, h⟩ r = row t r :=
  Fin.ext (by show 1024 * ((4 * (t.val / 4) + s.val) / 4) + r.val = 1024 * (t.val / 4) + r.val; omega)

theorem slab_run (t : Fin cfg0.N) (s : Fin 4) (h : 4 * (t.val / 4) + s.val < cfg0.N) :
    slab ⟨4 * (t.val / 4) + s.val, h⟩ = s :=
  Fin.ext (by show (4 * (t.val / 4) + s.val) % 4 = s.val; omega)

/-- The last point of a run holds the whole sum. -/
theorem carried_last (c : Dev nD) (t : Fin cfg0.N) (h : t.val % 4 = 3) (y : S1024x1024.Idx) :
    (outsAt0 m c t.val t.isLt).2.2.2.2 y = ∑ s : Fin 4, (args m c).part s (row t (y 0)) (y 1) := by
  refine (Pipeline.eq_sum_fin_of_reset_step_apply_of_flush (fun n h => (outsAt0 m c n h).2.2.2.2) 4 (fun _ => 0) _
    (fun t h j => carried_first m c t h j) (fun t h j => carried_later m c t h j) t h y).trans ?_
  rw [zero_add]
  exact Finset.sum_congr rfl fun s _ =>
    congrArg₂ (fun u v => (args m c).part u v (y 1)) (slab_run t s _) (row_run t s _ (y 0))

/-! What is stored. -/

theorem stored5 (c : Dev nD) (t : Fin cfg0.N) (h : t.val % 4 = 3) (y : S1024x1024.Idx) :
    (outsAt0 m c t.val t.isLt).1 y = (args m c).y (ix2 (row t (y 0)) (y 1)) := by
  have e := carried_last m c t h y
  rw [outsAt0_C m c t (by omega) h] at e ⊢
  revert e
  frame_out
  intro e
  rw [eq_ix2 y] at e ⊢
  refine (point_y m c t _ (y 0) (y 1)).trans ?_
  exact congrArg (_ + _ * ·) e

theorem stored6 (c : Dev nD) (t : Fin cfg0.N) (y : S1x1024x704.Idx) :
    (outsAt0 m c t.val t.isLt).2.1 y = (args m c).u (Args.sa (slab t)) (row t (y 1)) (y 2) := by
  by_cases h0 : t.val % 4 = 0
  · rw [outsAt0_A m c t h0 (by omega)]
    frame_out
    exact point_a_out m c t _ (fun n k => point_norm m c t n k) y
  · by_cases h3 : t.val % 4 = 3
    · rw [outsAt0_C m c t h0 h3]
      frame_out
      simp only [read_unread_whole]
      exact point_a_out m c t _ (before_norm m c t h0) y
    · rw [outsAt0_B m c t h0 h3]
      frame_out
      simp only [read_unread_whole]
      exact point_a_out m c t _ (before_norm m c t h0) y

theorem stored7 (c : Dev nD) (t : Fin cfg0.N) (y : S1x1024x704.Idx) :
    (outsAt0 m c t.val t.isLt).2.2.1 y = (args m c).u (Args.sb (slab t)) (row t (y 1)) (y 2) := by
  by_cases h0 : t.val % 4 = 0
  · rw [outsAt0_A m c t h0 (by omega)]
    frame_out
    exact point_b_out m c t _ (fun n k => point_norm m c t n k) y
  · by_cases h3 : t.val % 4 = 3
    · rw [outsAt0_C m c t h0 h3]
      frame_out
      simp only [read_unread_whole]
      exact point_b_out m c t _ (before_norm m c t h0) y
    · rw [outsAt0_B m c t h0 h3]
      frame_out
      simp only [read_unread_whole]
      exact point_b_out m c t _ (before_norm m c t h0) y

/-! The result arrays after the run. -/

theorem array5 (c : Dev nD) : (dats m 0 c).arrAt 5 cfg0.N = (args m c).y := by
  refine (dats m 0 c).arrAt_eq_of_covers 5 _ (by decide +kernel) fun t hf y => ?_
  blk_simp
  rw [after0_5]
  refine (stored5 m c t ((flush0_5 t).mp hf) y).trans ?_
  congr 1
  refine Shape.idx_ext₂ ?_ ?_
  · show 1024 * (t.val / 4) + (y 0).val = _
    blk_simp [index5 t]
    show 1024 * (t.val / 4) + (y 0).val = t.val / 4 * 1024 + (y 0).val
    omega
  · blk_simp [index5 t]

theorem array6 (c : Dev nD) : (dats m 0 c).arrAt 6 cfg0.N = (args m c).a := by
  refine (dats m 0 c).arrAt_eq_of_covers 6 _ (by decide +kernel) fun t hf y => ?_
  blk_simp
  rw [after0_6]
  refine (stored6 m c t y).trans ?_
  unfold Args.a
  congr 1
  · refine congrArg Args.sa (Fin.ext ?_)
    blk_simp [index6 t]
    rfl
  · refine Fin.ext ?_
    show 1024 * (t.val / 4) + (y 1).val = _
    blk_simp [index6 t]
    show 1024 * (t.val / 4) + (y 1).val = t.val / 4 * 1024 + (y 1).val
    omega
  · refine Fin.ext ?_
    blk_simp [index6 t]

theorem array7 (c : Dev nD) : (dats m 0 c).arrAt 7 cfg0.N = (args m c).b := by
  refine (dats m 0 c).arrAt_eq_of_covers 7 _ (by decide +kernel) fun t hf y => ?_
  blk_simp
  rw [after0_7]
  refine (stored7 m c t y).trans ?_
  unfold Args.b
  congr 1
  · refine congrArg Args.sb (Fin.ext ?_)
    blk_simp [index7 t]
    rfl
  · refine Fin.ext ?_
    show 1024 * (t.val / 4) + (y 1).val = _
    blk_simp [index7 t]
    show 1024 * (t.val / 4) + (y 1).val = t.val / 4 * 1024 + (y 1).val
    omega
  · refine Fin.ext ?_
    blk_simp [index7 t]

end Cert.FfnB

end
-- ==== Proof.FfnB.Claim.lean ====
/- The second feed-forward half of the first layer: the kernel and the reference end with the same arrays. -/
module

public import proofs.«01_k».proof.Defs
public import proofs.«01_k».proof.Proof.FfnB.Kernel
public import proofs.«01_k».proof.Proof.Gen.ReferenceFfnBIdeal.Read
public import Idealize.ShloMosaic.Lib.Quiescent

@[expose] public section

set_option maxHeartbeats 1000000

noncomputable section

namespace Cert.FfnB

open Idealize.ShloMosaic Idealize.ShloMosaic.TcCoe Idealize.SL.Sem Cert.Common Cert.Norm

section
open ReferenceFfnBIdeal ReferenceFfnBIdeal.Read

/-- The arrays a device of the reference is given. -/
def refArgs (m : (ℓ : Loc nD τ sig) → Buf (Elt Ideal) ℓ) (c : Dev nD) : Args where
  x := m ((c : Thread nD τ).loc main_arg0)
  g := m ((c : Thread nD τ).loc main_arg1)
  up := m ((c : Thread nD τ).loc main_arg2)
  down := m ((c : Thread nD τ).loc main_arg3)

theorem ref_norm (x : Args) (R : Fin 8192) (k : Fin 1024) : val_main_v19 (F := Ideal) x.x x.g (ix2 R k) = normed x.x x.g R k := by
  pointwise [val_main_v19, val_main_v18, val_main_v17, val_main_v16, val_main_v15, val_main_v14, val_main_v13, val_main_v12,
    val_main_v11, val_main_v10, val_main_v9, val_main_v8, val_main_cst, val_main_cst_0, val_main_cst_1, normed, scale, eps]

/-- The first weight, side by side. -/
theorem ref_up (x : Args) (k : Fin 1024) (q : Fin 5632) :
    val_main_v7 (F := Ideal) x.up (ix2 k q) = x.up (ix4 ⟨q.val / 704, by omega⟩ 0 k ⟨q.val % 704, by omega⟩) := by
  pointwise [val_main_v7, val_main_v6, val_main_v2, val_main_v1, val_main_v0]

/-- The first product, at column `r` of slab `s`. -/
theorem ref_u (x : Args) (R : Fin 8192) (s : Fin 8) (r : Fin 704) :
    val_main_v20 (F := Ideal) x.x x.g x.up (ix2 R ⟨704 * s.val + r.val, by omega⟩) = x.u s R r := by
  have e0 : (704 * s.val + r.val) / 704 = s.val := by omega
  have e1 : (704 * s.val + r.val) % 704 = r.val := by omega
  pointwise [val_main_v20, ref_norm, ref_up, Args.u, e0, e1]

/-- What the second product reads, at column `r` of slab `s`. -/
theorem ref_act (x : Args) (R : Fin 8192) (s : Fin 4) (r : Fin 704) :
    val_main_v24 (F := Ideal) x.x x.g x.up (ix2 R ⟨704 * s.val + r.val, by omega⟩) = x.act s R r := by
  have ea := ref_u x R (Args.sa s) r
  have eb := ref_u x R (Args.sb s) r
  have e2 : 2816 + (704 * s.val + r.val) = 704 * (s.val + 4) + r.val := by omega
  pointwise [val_main_v24, val_main_v23, val_main_v22, val_main_v21, val_main_call0_v5, val_main_call0_v4, val_main_call0_v3,
    val_main_call0_v2, val_main_call0_v1, val_main_call0_v0, val_main_call0_cst, val_main_call0_cst_0, Args.act, Args.sa, Args.sb] at ea eb ⊢
  simp only [e2, ea, eb]

theorem ref_y (x : Args) : val_main_v28 (F := Ideal) x.x x.g x.up x.down = x.y := by
  funext i
  rw [eq_ix2 i]
  pointwise [val_main_v28, val_main_v27, val_main_v26, val_main_v25, val_main_cst_2, val_main_v5, val_main_v4, val_main_v3, Args.y, Args.part]
  refine congrArg (fun u : EReal => _ + _ * u) ?_
  rw [Fin.sum_univ_tiles 4 704 rfl]
  refine Finset.sum_congr rfl fun s _ => Finset.sum_congr rfl fun r _ => ?_
  simp only [Nat.mul_comm s.val 704]
  exact congrArg (fun u : EReal => u * x.down _) (ref_act x (i 0) s r)

theorem ref_a (x : Args) : val_main_v31 (F := Ideal) x.x x.g x.up = x.a := by
  funext i
  rw [eq_ix3 i]
  pointwise [val_main_v31, val_main_v30, val_main_v29, val_main_v21]
  refine Eq.trans (congrArg (fun q => val_main_v20 (F := Ideal) x.x x.g x.up (ix2 (i 1) q)) (Fin.ext ?_)) (ref_u x (i 1) (Args.sa (i 0)) (i 2))
  show (i 0).val * 704 + (i 2).val = 704 * (i 0).val + (i 2).val
  omega

theorem ref_b (x : Args) : val_main_v34 (F := Ideal) x.x x.g x.up = x.b := by
  funext i
  rw [eq_ix3 i]
  pointwise [val_main_v34, val_main_v33, val_main_v32, val_main_v22]
  refine Eq.trans (congrArg (fun q => val_main_v20 (F := Ideal) x.x x.g x.up (ix2 (i 1) q)) (Fin.ext ?_)) (ref_u x (i 1) (Args.sb (i 0)) (i 2))
  show 2816 + ((i 0).val * 704 + (i 2).val) = 704 * ((i 0).val + 4) + (i 2).val
  omega

end

/-- The reference's run leaves its arguments alone and every counter at zero. -/
theorem reference_frame : quiescent_ReferenceFfnBIdeal (hReferenceFfnBIdeal := ReferenceFfnBIdeal.Gen.facts) := fun m g _ =>
  (θ_run _ _ _).mono (fun r h => ⟨fun c => (h c).2.2.2, sem_eq_zero_of_no_sems (by decide) _⟩) (ReferenceFfnBIdeal.Value.run m g)

open KernelFfnBIdeal KernelFfnBIdeal.Gen ReferenceFfnBIdeal.Read in
/-- At the same arguments, the kernel's run ends with the arrays of the specification, and so does the reference's. -/
theorem same : algebraic_KernelFfnBIdeal_ReferenceFfnBIdeal (hKernelFfnBIdeal := KernelFfnBIdeal.Gen.facts) (hReferenceFfnBIdeal := ReferenceFfnBIdeal.Gen.facts) := by
  intro m g m' g' _ hagree
  have e : ∀ c, refArgs m' c = args m c := fun c => by
    unfold refArgs args
    simp only [hagree c]
  refine ⟨fun c => (args m c).y, fun c => (args m c).a, fun c => (args m c).b, ?_, ?_⟩
  · exact (θ_run _ _ _).mono (fun r h c => by
      have h := h c
      rw [array5, array6, array7] at h
      exact h) (KernelFfnBIdeal.Value.run_blocks m g)
  · exact (θ_run _ _ _).mono (fun r h c => by
      obtain ⟨h0, h1, h2, ha⟩ := h c
      exact ⟨(h0.trans (val_main_v28_eq ..)).trans ((ref_y (refArgs m' c)).trans (congrArg Args.y (e c))),
      (h1.trans (val_main_v31_eq ..)).trans ((ref_a (refArgs m' c)).trans (congrArg Args.a (e c))),
      (h2.trans (val_main_v34_eq ..)).trans ((ref_b (refArgs m' c)).trans (congrArg Args.b (e c))), ha⟩) (ReferenceFfnBIdeal.Value.run m' g')

end Cert.FfnB

end
-- ==== Proof.FfnC.Kernel.lean ====
/- The second feed-forward half of the second layer: what the kernel leaves in its result arrays. -/
module

public import proofs.«01_k».proof.Proof.Gen.KernelFfnCIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.FfnC

open Idealize.ShloMosaic Idealize.ShloMosaic.TcCoe Idealize.SL.Sem
open Cert.Common Cert.Norm

/-- The arrays the call is given: the rows, the norm's gain, and the two weights in slabs of 704 columns and as rows. -/
structure Args where
  x : Mat 8192 1024
  g : Mat 1 1024
  up : Quad 8 2 1024 704
  down : Cube 2 2816 1024

namespace Args
variable (x : Args)

/-- An entry of the product with slab `s` of the first weight. -/
def u (s : Fin 8) (R : Fin 8192) (r : Fin 704) : EReal := ∑ k : Fin 1024, normed x.x x.g R k * x.up (ix4 s 1 k r)

/-- The slab of the first half that is number `s`, -/
def sa (s : Fin 4) : Fin 8 := ⟨s.val, by omega⟩
/-- and that of the second half. -/
def sb (s : Fin 4) : Fin 8 := ⟨s.val + 4, by omega⟩

/-- What the second product reads in slab `s`. -/
def act (s : Fin 4) (R : Fin 8192) (r : Fin 704) : EReal :=
  x.u (sa s) R r * Ideal.div 1 (1 + Ideal.exp (-(x.u (sa s) R r))) * x.u (sb s) R r

/-- The second product, over the rows of slab `s`. -/
def part (s : Fin 4) (R : Fin 8192) (j : Fin 1024) : EReal :=
  ∑ r : Fin 704, x.act s R r * x.down (ix3 1 ⟨704 * s.val + r.val, by omega⟩ j)

/-- The half step's result. -/
def y : Mat 8192 1024 := fun i => x.x i + Ideal.ofBits .f32 0x3F000000#32 * ∑ s : Fin 4, x.part s (i 0) (i 1)

/-- The products it leaves for the gradient. -/
def a : Cube 4 8192 704 := fun i => x.u (sa (i 0)) (i 1) (i 2)
def b : Cube 4 8192 704 := fun i => x.u (sb (i 0)) (i 1) (i 2)

end Args

open Cert.KernelFfnCIdeal Cert.KernelFfnCIdeal.Gen

variable (m : (ℓ : Loc nD τ sig) → Buf (Elt Ideal) ℓ)

/-- The arrays a device is given. -/
def args (c : Dev nD) : Args where
  x := m ((c : Thread nD τ).loc main_arg0)
  g := m ((c : Thread nD τ).loc main_arg1)
  up := m ((c : Thread nD τ).loc main_arg2)
  down := m ((c : Thread nD τ).loc main_arg3)

/-- Row `n` of the blocks of point `t`. -/
def row (t : Fin cfg0.N) (n : Fin 1024) : Fin 8192 := ⟨1024 * (t.val / 4) + n.val, by have h : t.val < 32 := t.isLt; omega⟩

/-- The slab of point `t`. -/
def slab (t : Fin cfg0.N) : Fin 4 := ⟨t.val % 4, by omega⟩

theorem index0 : ∀ t : Fin cfg0.N, win0_0.index t = ![t.val / 4, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val % 4, 1, 0, 0] := (by decide +kernel : ∀ t : Fin grid0.N, _)
theorem index3 : ∀ t : Fin cfg0.N, win0_3.index t = ![t.val % 4 + 4, 1, 0, 0] := (by decide +kernel : ∀ t : Fin grid0.N, _)
theorem index4 : ∀ t : Fin cfg0.N, win0_4.index t = ![1, t.val % 4, 0] := (by decide +kernel : ∀ t : Fin grid0.N, _)
theorem index5 : ∀ t : Fin cfg0.N, win0_5.index t = ![t.val / 4, 0] := (by decide +kernel : ∀ t : Fin grid0.N, _)
theorem index6 : ∀ t : Fin cfg0.N, win0_6.index t = ![t.val % 4, t.val / 4, 0] := (by decide +kernel : ∀ t : Fin grid0.N, _)
theorem index7 : ∀ t : Fin cfg0.N, win0_7.index t = ![t.val % 4, t.val / 4, 0] := (by decide +kernel : ∀ t : Fin grid0.N, _)

theorem block0 (c : Dev nD) (t : Fin cfg0.N) (n k : Fin 1024) :
    iblk m c 0 t (ix2 n k) = (args m c).x (ix2 (row t n) k) := by
  blk_ext [iblk, V, index0 t]
  show t.val / 4 * 1024 + n.val = 1024 * (t.val / 4) + n.val
  omega

theorem block1 (c : Dev nD) (t : Fin cfg0.N) (z : Fin 1) (k : Fin 1024) :
    iblk m c 1 t (ix2 z k) = (args m c).g (ix2 0 k) := by
  blk_ext [iblk, V, index1 t]

theorem block2 (c : Dev nD) (t : Fin cfg0.N) (z z' : Fin 1) (k : Fin 1024) (r : Fin 704) :
    iblk m c 2 t (ix4 z z' k r) = (args m c).up (ix4 (Args.sa (slab t)) 1 k r) := by
  blk_ext [iblk, V, index2 t]
  rfl

theorem block3 (c : Dev nD) (t : Fin cfg0.N) (z z' : Fin 1) (k : Fin 1024) (r : Fin 704) :
    iblk m c 3 t (ix4 z z' k r) = (args m c).up (ix4 (Args.sb (slab t)) 1 k r) := by
  blk_ext [iblk, V, index3 t]
  rfl

theorem block4 (c : Dev nD) (t : Fin cfg0.N) (z : Fin 1) (r : Fin 704) (j : Fin 1024) :
    iblk m c 4 t (ix3 z r j) = (args m c).down (ix3 1 ⟨704 * (slab t).val + r.val, by omega⟩ j) := by
  blk_ext [iblk, V, index4 t]
  show t.val % 4 * 704 + r.val = 704 * (t.val % 4) + r.val
  omega

/-! What a point computes. -/

theorem point_norm (c : Dev nD) (t : Fin cfg0.N) (n k : Fin 1024) :
    k0_pay3 (iblk m c 0 t) (iblk m c 1 t) (ix2 n k) = normed (args m c).x (args m c).g (row t n) k := by
  pointwise [k0_pay3, block0, block1, normed, scale, eps]

theorem point_zero (n j : Fin 1024) : k0_pay4 (F := Ideal) (ix2 n j) = 0 := by
  pointwise [k0_pay4]

theorem point_a (c : Dev nD) (t : Fin cfg0.N) (h : Vec Ideal S1024x1024 .bf16)
    (hh : ∀ n k : Fin 1024, h (ix2 n k) = normed (args m c).x (args m c).g (row t n) k) (n : Fin 1024) (r : Fin 704) :
    k0_pay5 h (iblk m c 2 t) (ix2 n r) = (args m c).u (Args.sa (slab t)) (row t n) r := by
  pointwise [k0_pay5, block2, hh, Args.u]

theorem point_b (c : Dev nD) (t : Fin cfg0.N) (h : Vec Ideal S1024x1024 .bf16)
    (hh : ∀ n k : Fin 1024, h (ix2 n k) = normed (args m c).x (args m c).g (row t n) k) (n : Fin 1024) (r : Fin 704) :
    k0_pay6 h (iblk m c 3 t) (ix2 n r) = (args m c).u (Args.sb (slab t)) (row t n) r := by
  pointwise [k0_pay6, block3, hh, Args.u]

theorem point_act (c : Dev nD) (t : Fin cfg0.N) (h : Vec Ideal S1024x1024 .bf16)
    (hh : ∀ n k : Fin 1024, h (ix2 n k) = normed (args m c).x (args m c).g (row t n) k) (n : Fin 1024) (r : Fin 704) :
    k0_pay9 h (iblk m c 2 t) (iblk m c 3 t) (ix2 n r) = (args m c).act (slab t) (row t n) r := by
  pointwise [k0_pay9, point_a m c t h hh, point_b m c t h hh, zero_sub, Args.act]

theorem point_a_out (c : Dev nD) (t : Fin cfg0.N) (h : Vec Ideal S1024x1024 .bf16)
    (hh : ∀ n k : Fin 1024, h (ix2 n k) = normed (args m c).x (args m c).g (row t n) k) (y : S1x1024x704.Idx) :
    k0_pay7 h (iblk m c 2 t) y = (args m c).u (Args.sa (slab t)) (row t (y 1)) (y 2) := by
  rw [eq_ix3 y]
  pointwise [k0_pay7, point_a m c t h hh]

theorem point_b_out (c : Dev nD) (t : Fin cfg0.N) (h : Vec Ideal S1024x1024 .bf16)
    (hh : ∀ n k : Fin 1024, h (ix2 n k) = normed (args m c).x (args m c).g (row t n) k) (y : S1x1024x704.Idx) :
    k0_pay8 h (iblk m c 3 t) y = (args m c).u (Args.sb (slab t)) (row t (y 1)) (y 2) := by
  rw [eq_ix3 y]
  pointwise [k0_pay8, point_b m c t h hh]

theorem point_add (c : Dev nD) (t : Fin cfg0.N) (s : Vec Ideal S1024x1024 .f32) (h : Vec Ideal S1024x1024 .bf16)
    (hh : ∀ n k : Fin 1024, h (ix2 n k) = normed (args m c).x (args m c).g (row t n) k) (y : S1024x1024.Idx) :
    k0_pay1 s (k0_pay9 h (iblk m c 2 t) (iblk m c 3 t)) (iblk m c 4 t) y
      = s y + (args m c).part (slab t) (row t (y 0)) (y 1) := by
  rw [eq_ix2 y]
  pointwise [k0_pay1, point_act m c t h hh, block4, Args.part]

theorem point_y (c : Dev nD) (t : Fin cfg0.N) (s : Vec Ideal S1024x1024 .f32) (n j : Fin 1024) :
    k0_pay2 (iblk m c 0 t) s (ix2 n j)
      = (args m c).x (ix2 (row t n) j) + Ideal.ofBits .f32 0x3F000000#32 * s (ix2 n j) := by
  pointwise [k0_pay2, block0]

/-! What a point carries on: the norm's rows, and the sum over the slabs so far. -/

/-- The point before, in the same run. -/
theorem row_before (t : Fin cfg0.N) (h : ¬ t.val % 4 = 0) (n : Fin 1024) :
    row ⟨t.val - 1, Nat.lt_of_le_of_lt (Nat.sub_le _ _) t.isLt⟩ n = row t n :=
  Fin.ext (by show 1024 * ((t.val - 1) / 4) + n.val = 1024 * (t.val / 4) + n.val; omega)

theorem carried_norm (c : Dev nD) : ∀ (k : ℕ) (hk : k < cfg0.N) (n j : Fin 1024),
    (outsAt0 m c k hk).2.2.2.1 (ix2 n j) = normed (args m c).x (args m c).g (row ⟨k, hk⟩ n) j := by
  intro k
  induction k with
  | zero =>
    intro hk n j
    rw [outsAt0_A m c ⟨0, hk⟩ (by rfl) (by show ¬ 0 % 4 = 3; decide)]
    frame_out
    exact point_norm m c ⟨0, hk⟩ n j
  | succ k ih =>
    intro hk n j
    by_cases h0 : (k + 1) % 4 = 0
    · rw [outsAt0_A m c ⟨k + 1, hk⟩ h0 (by show ¬ (k + 1) % 4 = 3; omega)]
      frame_out
      exact point_norm m c ⟨k + 1, hk⟩ n j
    · have e := (ih (Nat.lt_of_succ_lt hk) n j).trans
        (congrArg (normed (args m c).x (args m c).g · j) (row_before ⟨k + 1, hk⟩ h0 n))
      by_cases h3 : (k + 1) % 4 = 3
      · rw [outsAt0_C m c ⟨k + 1, hk⟩ h0 h3]
        frame_out
        exact e
      · rw [outsAt0_B m c ⟨k + 1, hk⟩ h0 h3]
        frame_out
        exact e

/-- What the point before carried is the norm of this point's rows. -/
theorem before_norm (c : Dev nD) (t : Fin cfg0.N) (h : ¬ t.val % 4 = 0) (n j : Fin 1024) :
    (outsAt0 m c (t.val - 1) (Nat.lt_of_le_of_lt (Nat.sub_le _ _) t.isLt)).2.2.2.1 (ix2 n j)
      = normed (args m c).x (args m c).g (row t n) j :=
  (carried_norm m c _ _ n j).trans (congrArg (normed (args m c).x (args m c).g · j) (row_before t h n))

/-- The first point of a run starts the sum, -/
theorem carried_first (c : Dev nD) (t : Fin cfg0.N) (h : t.val % 4 = 0) (y : S1024x1024.Idx) :
    (outsAt0 m c t.val t.isLt).2.2.2.2 y = 0 + (args m c).part (slab t) (row t (y 0)) (y 1) := by
  rw [outsAt0_A m c t h (by omega)]
  frame_out
  refine (point_add m c t _ _ (fun n k => point_norm m c t n k) y).trans ?_
  exact congrArg (· + _) ((congrArg _ (eq_ix2 y)).trans (point_zero (y 0) (y 1)))

/-- and a later one adds to it. -/
theorem carried_later (c : Dev nD) (t : Fin cfg0.N) (h : ¬ t.val % 4 = 0) (y : S1024x1024.Idx) :
    (outsAt0 m c t.val t.isLt).2.2.2.2 y
      = (outsAt0 m c (t.val - 1) (Nat.lt_of_le_of_lt (Nat.sub_le _ _) t.isLt)).2.2.2.2 y
        + (args m c).part (slab t) (row t (y 0)) (y 1) := by
  by_cases h3 : t.val % 4 = 3
  · rw [outsAt0_C m c t h h3]
    frame_out
    simp only [read_unread_whole]
    exact point_add m c t _ _ (before_norm m c t h) y
  · rw [outsAt0_B m c t h h3]
    frame_out
    simp only [read_unread_whole]
    exact point_add m c t _ _ (before_norm m c t h) y

theorem row_run (t : Fin cfg0.N) (s : Fin 4) (h : 4 * (t.val / 4) + s.val < cfg0.N) (r : Fin 1024) :
    row ⟨4 * (t.val / 4) + s.val, h⟩ r = row t r :=
  Fin.ext (by show 1024 * ((4 * (t.val / 4) + s.val) / 4) + r.val = 1024 * (t.val / 4) + r.val; omega)

theorem slab_run (t : Fin cfg0.N) (s : Fin 4) (h : 4 * (t.val / 4) + s.val < cfg0.N) :
    slab ⟨4 * (t.val / 4) + s.val, h⟩ = s :=
  Fin.ext (by show (4 * (t.val / 4) + s.val) % 4 = s.val; omega)

/-- The last point of a run holds the whole sum. -/
theorem carried_last (c : Dev nD) (t : Fin cfg0.N) (h : t.val % 4 = 3) (y : S1024x1024.Idx) :
    (outsAt0 m c t.val t.isLt).2.2.2.2 y = ∑ s : Fin 4, (args m c).part s (row t (y 0)) (y 1) := by
  refine (Pipeline.eq_sum_fin_of_reset_step_apply_of_flush (fun n h => (outsAt0 m c n h).2.2.2.2) 4 (fun _ => 0) _
    (fun t h j => carried_first m c t h j) (fun t h j => carried_later m c t h j) t h y).trans ?_
  rw [zero_add]
  exact Finset.sum_congr rfl fun s _ =>
    congrArg₂ (fun u v => (args m c).part u v (y 1)) (slab_run t s _) (row_run t s _ (y 0))

/-! What is stored. -/

theorem stored5 (c : Dev nD) (t : Fin cfg0.N) (h : t.val % 4 = 3) (y : S1024x1024.Idx) :
    (outsAt0 m c t.val t.isLt).1 y = (args m c).y (ix2 (row t (y 0)) (y 1)) := by
  have e := carried_last m c t h y
  rw [outsAt0_C m c t (by omega) h] at e ⊢
  revert e
  frame_out
  intro e
  rw [eq_ix2 y] at e ⊢
  refine (point_y m c t _ (y 0) (y 1)).trans ?_
  exact congrArg (_ + _ * ·) e

theorem stored6 (c : Dev nD) (t : Fin cfg0.N) (y : S1x1024x704.Idx) :
    (outsAt0 m c t.val t.isLt).2.1 y = (args m c).u (Args.sa (slab t)) (row t (y 1)) (y 2) := by
  by_cases h0 : t.val % 4 = 0
  · rw [outsAt0_A m c t h0 (by omega)]
    frame_out
    exact point_a_out m c t _ (fun n k => point_norm m c t n k) y
  · by_cases h3 : t.val % 4 = 3
    · rw [outsAt0_C m c t h0 h3]
      frame_out
      simp only [read_unread_whole]
      exact point_a_out m c t _ (before_norm m c t h0) y
    · rw [outsAt0_B m c t h0 h3]
      frame_out
      simp only [read_unread_whole]
      exact point_a_out m c t _ (before_norm m c t h0) y

theorem stored7 (c : Dev nD) (t : Fin cfg0.N) (y : S1x1024x704.Idx) :
    (outsAt0 m c t.val t.isLt).2.2.1 y = (args m c).u (Args.sb (slab t)) (row t (y 1)) (y 2) := by
  by_cases h0 : t.val % 4 = 0
  · rw [outsAt0_A m c t h0 (by omega)]
    frame_out
    exact point_b_out m c t _ (fun n k => point_norm m c t n k) y
  · by_cases h3 : t.val % 4 = 3
    · rw [outsAt0_C m c t h0 h3]
      frame_out
      simp only [read_unread_whole]
      exact point_b_out m c t _ (before_norm m c t h0) y
    · rw [outsAt0_B m c t h0 h3]
      frame_out
      simp only [read_unread_whole]
      exact point_b_out m c t _ (before_norm m c t h0) y

/-! The result arrays after the run. -/

theorem array5 (c : Dev nD) : (dats m 0 c).arrAt 5 cfg0.N = (args m c).y := by
  refine (dats m 0 c).arrAt_eq_of_covers 5 _ (by decide +kernel) fun t hf y => ?_
  blk_simp
  rw [after0_5]
  refine (stored5 m c t ((flush0_5 t).mp hf) y).trans ?_
  congr 1
  refine Shape.idx_ext₂ ?_ ?_
  · show 1024 * (t.val / 4) + (y 0).val = _
    blk_simp [index5 t]
    show 1024 * (t.val / 4) + (y 0).val = t.val / 4 * 1024 + (y 0).val
    omega
  · blk_simp [index5 t]

theorem array6 (c : Dev nD) : (dats m 0 c).arrAt 6 cfg0.N = (args m c).a := by
  refine (dats m 0 c).arrAt_eq_of_covers 6 _ (by decide +kernel) fun t hf y => ?_
  blk_simp
  rw [after0_6]
  refine (stored6 m c t y).trans ?_
  unfold Args.a
  congr 1
  · refine congrArg Args.sa (Fin.ext ?_)
    blk_simp [index6 t]
    rfl
  · refine Fin.ext ?_
    show 1024 * (t.val / 4) + (y 1).val = _
    blk_simp [index6 t]
    show 1024 * (t.val / 4) + (y 1).val = t.val / 4 * 1024 + (y 1).val
    omega
  · refine Fin.ext ?_
    blk_simp [index6 t]

theorem array7 (c : Dev nD) : (dats m 0 c).arrAt 7 cfg0.N = (args m c).b := by
  refine (dats m 0 c).arrAt_eq_of_covers 7 _ (by decide +kernel) fun t hf y => ?_
  blk_simp
  rw [after0_7]
  refine (stored7 m c t y).trans ?_
  unfold Args.b
  congr 1
  · refine congrArg Args.sb (Fin.ext ?_)
    blk_simp [index7 t]
    rfl
  · refine Fin.ext ?_
    show 1024 * (t.val / 4) + (y 1).val = _
    blk_simp [index7 t]
    show 1024 * (t.val / 4) + (y 1).val = t.val / 4 * 1024 + (y 1).val
    omega
  · refine Fin.ext ?_
    blk_simp [index7 t]

end Cert.FfnC

end
-- ==== Proof.FfnC.Claim.lean ====
/- The second feed-forward half of the second layer: the kernel and the reference end with the same arrays. -/
module

public import proofs.«01_k».proof.Defs
public import proofs.«01_k».proof.Proof.FfnC.Kernel
public import proofs.«01_k».proof.Proof.Gen.ReferenceFfnCIdeal.Read
public import Idealize.ShloMosaic.Lib.Quiescent

@[expose] public section

set_option maxHeartbeats 1000000

noncomputable section

namespace Cert.FfnC

open Idealize.ShloMosaic Idealize.ShloMosaic.TcCoe Idealize.SL.Sem Cert.Common Cert.Norm

section
open ReferenceFfnCIdeal ReferenceFfnCIdeal.Read

/-- The arrays a device of the reference is given. -/
def refArgs (m : (ℓ : Loc nD τ sig) → Buf (Elt Ideal) ℓ) (c : Dev nD) : Args where
  x := m ((c : Thread nD τ).loc main_arg0)
  g := m ((c : Thread nD τ).loc main_arg1)
  up := m ((c : Thread nD τ).loc main_arg2)
  down := m ((c : Thread nD τ).loc main_arg3)

theorem ref_norm (x : Args) (R : Fin 8192) (k : Fin 1024) : val_main_v19 (F := Ideal) x.x x.g (ix2 R k) = normed x.x x.g R k := by
  pointwise [val_main_v19, val_main_v18, val_main_v17, val_main_v16, val_main_v15, val_main_v14, val_main_v13, val_main_v12,
    val_main_v11, val_main_v10, val_main_v9, val_main_v8, val_main_cst, val_main_cst_0, val_main_cst_1, normed, scale, eps]

/-- The first weight, side by side. -/
theorem ref_up (x : Args) (k : Fin 1024) (q : Fin 5632) :
    val_main_v7 (F := Ideal) x.up (ix2 k q) = x.up (ix4 ⟨q.val / 704, by omega⟩ 1 k ⟨q.val % 704, by omega⟩) := by
  pointwise [val_main_v7, val_main_v6, val_main_v2, val_main_v1, val_main_v0]

/-- The first product, at column `r` of slab `s`. -/
theorem ref_u (x : Args) (R : Fin 8192) (s : Fin 8) (r : Fin 704) :
    val_main_v20 (F := Ideal) x.x x.g x.up (ix2 R ⟨704 * s.val + r.val, by omega⟩) = x.u s R r := by
  have e0 : (704 * s.val + r.val) / 704 = s.val := by omega
  have e1 : (704 * s.val + r.val) % 704 = r.val := by omega
  pointwise [val_main_v20, ref_norm, ref_up, Args.u, e0, e1]

/-- What the second product reads, at column `r` of slab `s`. -/
theorem ref_act (x : Args) (R : Fin 8192) (s : Fin 4) (r : Fin 704) :
    val_main_v24 (F := Ideal) x.x x.g x.up (ix2 R ⟨704 * s.val + r.val, by omega⟩) = x.act s R r := by
  have ea := ref_u x R (Args.sa s) r
  have eb := ref_u x R (Args.sb s) r
  have e2 : 2816 + (704 * s.val + r.val) = 704 * (s.val + 4) + r.val := by omega
  pointwise [val_main_v24, val_main_v23, val_main_v22, val_main_v21, val_main_call0_v5, val_main_call0_v4, val_main_call0_v3,
    val_main_call0_v2, val_main_call0_v1, val_main_call0_v0, val_main_call0_cst, val_main_call0_cst_0, Args.act, Args.sa, Args.sb] at ea eb ⊢
  simp only [e2, ea, eb]

theorem ref_y (x : Args) : val_main_v28 (F := Ideal) x.x x.g x.up x.down = x.y := by
  funext i
  rw [eq_ix2 i]
  pointwise [val_main_v28, val_main_v27, val_main_v26, val_main_v25, val_main_cst_2, val_main_v5, val_main_v4, val_main_v3, Args.y, Args.part]
  refine congrArg (fun u : EReal => _ + _ * u) ?_
  rw [Fin.sum_univ_tiles 4 704 rfl]
  refine Finset.sum_congr rfl fun s _ => Finset.sum_congr rfl fun r _ => ?_
  simp only [Nat.mul_comm s.val 704]
  exact congrArg (fun u : EReal => u * x.down _) (ref_act x (i 0) s r)

theorem ref_a (x : Args) : val_main_v31 (F := Ideal) x.x x.g x.up = x.a := by
  funext i
  rw [eq_ix3 i]
  pointwise [val_main_v31, val_main_v30, val_main_v29, val_main_v21]
  refine Eq.trans (congrArg (fun q => val_main_v20 (F := Ideal) x.x x.g x.up (ix2 (i 1) q)) (Fin.ext ?_)) (ref_u x (i 1) (Args.sa (i 0)) (i 2))
  show (i 0).val * 704 + (i 2).val = 704 * (i 0).val + (i 2).val
  omega

theorem ref_b (x : Args) : val_main_v34 (F := Ideal) x.x x.g x.up = x.b := by
  funext i
  rw [eq_ix3 i]
  pointwise [val_main_v34, val_main_v33, val_main_v32, val_main_v22]
  refine Eq.trans (congrArg (fun q => val_main_v20 (F := Ideal) x.x x.g x.up (ix2 (i 1) q)) (Fin.ext ?_)) (ref_u x (i 1) (Args.sb (i 0)) (i 2))
  show 2816 + ((i 0).val * 704 + (i 2).val) = 704 * ((i 0).val + 4) + (i 2).val
  omega

end

/-- The reference's run leaves its arguments alone and every counter at zero. -/
theorem reference_frame : quiescent_ReferenceFfnCIdeal (hReferenceFfnCIdeal := ReferenceFfnCIdeal.Gen.facts) := fun m g _ =>
  (θ_run _ _ _).mono (fun r h => ⟨fun c => (h c).2.2.2, sem_eq_zero_of_no_sems (by decide) _⟩) (ReferenceFfnCIdeal.Value.run m g)

open KernelFfnCIdeal KernelFfnCIdeal.Gen ReferenceFfnCIdeal.Read in
/-- At the same arguments, the kernel's run ends with the arrays of the specification, and so does the reference's. -/
theorem same : algebraic_KernelFfnCIdeal_ReferenceFfnCIdeal (hKernelFfnCIdeal := KernelFfnCIdeal.Gen.facts) (hReferenceFfnCIdeal := ReferenceFfnCIdeal.Gen.facts) := by
  intro m g m' g' _ hagree
  have e : ∀ c, refArgs m' c = args m c := fun c => by
    unfold refArgs args
    simp only [hagree c]
  refine ⟨fun c => (args m c).y, fun c => (args m c).a, fun c => (args m c).b, ?_, ?_⟩
  · exact (θ_run _ _ _).mono (fun r h c => by
      have h := h c
      rw [array5, array6, array7] at h
      exact h) (KernelFfnCIdeal.Value.run_blocks m g)
  · exact (θ_run _ _ _).mono (fun r h c => by
      obtain ⟨h0, h1, h2, ha⟩ := h c
      exact ⟨(h0.trans (val_main_v28_eq ..)).trans ((ref_y (refArgs m' c)).trans (congrArg Args.y (e c))),
      (h1.trans (val_main_v31_eq ..)).trans ((ref_a (refArgs m' c)).trans (congrArg Args.a (e c))),
      (h2.trans (val_main_v34_eq ..)).trans ((ref_b (refArgs m' c)).trans (congrArg Args.b (e c))), ha⟩) (ReferenceFfnCIdeal.Value.run m' g')

end Cert.FfnC

end
-- ==== Proof.Proj.Kernel.lean ====
/- The norm and the input product of the second layer: what the kernel leaves in its result array. -/
module

public import proofs.«01_k».proof.Proof.Gen.KernelProjIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.Proj

open Idealize.ShloMosaic Idealize.ShloMosaic.TcCoe Idealize.SL.Sem
open Cert.Common Cert.Norm

/-- The arrays the call is given: the rows, the norm's gain and the weights of both layers. -/
structure Args where
  x : Mat 8192 1024
  g : Mat 1 1024
  w : Cube 2 1024 5376

namespace Args
variable (x : Args)

/-- The product. -/
def out : Mat 8192 5376 := fun i => ∑ k : Fin 1024, normed x.x x.g (i 0) k * x.w (ix3 1 k (i 1))

end Args

open Cert.KernelProjIdeal Cert.KernelProjIdeal.Gen

variable (m : (ℓ : Loc nD τ sig) → Buf (Elt Ideal) ℓ)

/-- The arrays a device is given. -/
def args (c : Dev nD) : Args where
  x := m ((c : Thread nD τ).loc main_arg0)
  g := m ((c : Thread nD τ).loc main_arg1)
  w := m ((c : Thread nD τ).loc main_arg2)

/-- Row `n` of the blocks of point `t`. -/
def row (t : Fin cfg0.N) (n : Fin 1024) : Fin 8192 := ⟨1024 * (t.val / 7) + n.val, by have h : t.val < 56 := t.isLt; omega⟩

/-- Column `q` of the blocks of point `t`. -/
def col (t : Fin cfg0.N) (q : Fin 768) : Fin 5376 := ⟨768 * (t.val % 7) + q.val, by omega⟩

theorem index0 : ∀ t : Fin cfg0.N, win0_0.index t = ![t.val / 7, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![1, 0, t.val % 7] := (by decide +kernel : ∀ t : Fin grid0.N, _)
theorem index3 : ∀ t : Fin cfg0.N, win0_3.index t = ![t.val / 7, t.val % 7] := (by decide +kernel : ∀ t : Fin grid0.N, _)

theorem block0 (c : Dev nD) (t : Fin cfg0.N) (n k : Fin 1024) :
    iblk m c 0 t (ix2 n k) = (args m c).x (ix2 (row t n) k) := by
  blk_ext [iblk, V, index0 t]
  show t.val / 7 * 1024 + n.val = 1024 * (t.val / 7) + n.val
  omega

theorem block1 (c : Dev nD) (t : Fin cfg0.N) (z : Fin 1) (k : Fin 1024) :
    iblk m c 1 t (ix2 z k) = (args m c).g (ix2 0 k) := by
  blk_ext [iblk, V, index1 t]

theorem block2 (c : Dev nD) (t : Fin cfg0.N) (z : Fin 1) (k : Fin 1024) (q : Fin 768) :
    iblk m c 2 t (ix3 z k q) = (args m c).w (ix3 1 k (col t q)) := by
  blk_ext [iblk, V, index2 t]
  show t.val % 7 * 768 + q.val = 768 * (t.val % 7) + q.val
  omega

theorem point_norm (c : Dev nD) (t : Fin cfg0.N) (n k : Fin 1024) :
    k0_pay1 (iblk m c 0 t) (iblk m c 1 t) (ix2 n k) = normed (args m c).x (args m c).g (row t n) k := by
  pointwise [k0_pay1, block0, block1, normed, scale, eps]

theorem point_out (c : Dev nD) (t : Fin cfg0.N) (h : Vec Ideal S1024x1024 .bf16)
    (hh : ∀ n k : Fin 1024, h (ix2 n k) = normed (args m c).x (args m c).g (row t n) k) (y : S1024x768.Idx) :
    k0_pay2 h (iblk m c 2 t) y = (args m c).out (ix2 (row t (y 0)) (col t (y 1))) := by
  rw [eq_ix2 y]
  pointwise [k0_pay2, block2, hh, Args.out]

/-- The point before, in the same run. -/
theorem row_before (t : Fin cfg0.N) (h : ¬ t.val % 7 = 0) (n : Fin 1024) :
    row ⟨t.val - 1, Nat.lt_of_le_of_lt (Nat.sub_le _ _) t.isLt⟩ n = row t n :=
  Fin.ext (by show 1024 * ((t.val - 1) / 7) + n.val = 1024 * (t.val / 7) + n.val; omega)

/-- What a point carries on: the norm's rows. -/
theorem carried_norm (c : Dev nD) : ∀ (k : ℕ) (hk : k < cfg0.N) (n j : Fin 1024),
    (outsAt0 m c k hk).2 (ix2 n j) = normed (args m c).x (args m c).g (row ⟨k, hk⟩ n) j := by
  intro k
  induction k with
  | zero =>
    intro hk n j
    rw [outsAt0_A m c ⟨0, hk⟩ (by rfl)]
    frame_out
    exact point_norm m c ⟨0, hk⟩ n j
  | succ k ih =>
    intro hk n j
    by_cases h0 : (k + 1) % 7 = 0
    · rw [outsAt0_A m c ⟨k + 1, hk⟩ h0]
      frame_out
      exact point_norm m c ⟨k + 1, hk⟩ n j
    · have e := (ih (Nat.lt_of_succ_lt hk) n j).trans
        (congrArg (normed (args m c).x (args m c).g · j) (row_before ⟨k + 1, hk⟩ h0 n))
      rw [outsAt0_B m c ⟨k + 1, hk⟩ h0]
      frame_out
      exact e

theorem before_norm (c : Dev nD) (t : Fin cfg0.N) (h : ¬ t.val % 7 = 0) (n j : Fin 1024) :
    (outsAt0 m c (t.val - 1) (Nat.lt_of_le_of_lt (Nat.sub_le _ _) t.isLt)).2 (ix2 n j)
      = normed (args m c).x (args m c).g (row t n) j :=
  (carried_norm m c _ _ n j).trans (congrArg (normed (args m c).x (args m c).g · j) (row_before t h n))

/-- What a point stores. -/
theorem stored (c : Dev nD) (t : Fin cfg0.N) (y : S1024x768.Idx) :
    (outsAt0 m c t.val t.isLt).1 y = (args m c).out (ix2 (row t (y 0)) (col t (y 1))) := by
  by_cases h0 : t.val % 7 = 0
  · rw [outsAt0_A m c t h0]
    frame_out
    exact point_out m c t _ (fun n k => point_norm m c t n k) y
  · rw [outsAt0_B m c t h0]
    frame_out
    simp only [read_unread_whole]
    exact point_out m c t _ (before_norm m c t h0) y

/-- The result array after the run. -/
theorem array (c : Dev nD) : (dats m 0 c).arrAt 3 cfg0.N = (args m c).out := by
  refine (dats m 0 c).arrAt_eq_of_covers 3 _ (by decide +kernel) fun t hf y => ?_
  blk_simp
  rw [after0_3]
  refine (stored m c t y).trans ?_
  congr 1
  refine Shape.idx_ext₂ ?_ ?_
  · show 1024 * (t.val / 7) + (y 0).val = _
    blk_simp [index3 t]
    show 1024 * (t.val / 7) + (y 0).val = t.val / 7 * 1024 + (y 0).val
    omega
  · show 768 * (t.val % 7) + (y 1).val = _
    blk_simp [index3 t]
    show 768 * (t.val % 7) + (y 1).val = t.val % 7 * 768 + (y 1).val
    omega

end Cert.Proj

end
-- ==== Proof.Proj.Claim.lean ====
/- The norm and the input product of the second layer: the kernel and the reference end with the same arrays. -/
module

public import proofs.«01_k».proof.Defs
public import proofs.«01_k».proof.Proof.Proj.Kernel
public import proofs.«01_k».proof.Proof.Gen.ReferenceProjIdeal.Read
public import Idealize.ShloMosaic.Lib.Quiescent

@[expose] public section

set_option maxHeartbeats 1000000

noncomputable section

namespace Cert.Proj

open Idealize.ShloMosaic Idealize.ShloMosaic.TcCoe Idealize.SL.Sem Cert.Common Cert.Norm

section
open ReferenceProjIdeal ReferenceProjIdeal.Read

/-- The arrays a device of the reference is given. -/
def refArgs (m : (ℓ : Loc nD τ sig) → Buf (Elt Ideal) ℓ) (c : Dev nD) : Args where
  x := m ((c : Thread nD τ).loc main_arg0)
  g := m ((c : Thread nD τ).loc main_arg1)
  w := m ((c : Thread nD τ).loc main_arg2)

theorem ref_norm (x : Args) (R : Fin 8192) (k : Fin 1024) : val_main_v11 (F := Ideal) x.x x.g (ix2 R k) = normed x.x x.g R k := by
  pointwise [val_main_v11, val_main_v10, val_main_v9, val_main_v8, val_main_v7, val_main_v6, val_main_v5, val_main_v4,
    val_main_v3, val_main_v2, val_main_v1, val_main_v0, val_main_cst, val_main_cst_0, val_main_cst_1, normed, scale, eps]

theorem ref_out (x : Args) : val_main_v15 (F := Ideal) x.x x.g x.w = x.out := by
  funext i
  rw [eq_ix2 i]
  pointwise [val_main_v15, val_main_v14, val_main_v13, val_main_v12, ref_norm, Args.out]

end

/-- The reference's run leaves its arguments alone and every counter at zero. -/
theorem reference_frame : quiescent_ReferenceProjIdeal (hReferenceProjIdeal := ReferenceProjIdeal.Gen.facts) := fun m g _ =>
  (θ_run _ _ _).mono (fun r h => ⟨fun c => (h c).2, sem_eq_zero_of_no_sems (by decide) _⟩) (ReferenceProjIdeal.Value.run m g)

open KernelProjIdeal KernelProjIdeal.Gen ReferenceProjIdeal.Read in
/-- At the same arguments, the kernel's run ends with the arrays of the specification, and so does the reference's. -/
theorem same : algebraic_KernelProjIdeal_ReferenceProjIdeal (hKernelProjIdeal := KernelProjIdeal.Gen.facts) (hReferenceProjIdeal := ReferenceProjIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelProjIdeal.Value.run_blocks m g)
  · exact (θ_run _ _ _).mono (fun r h c => by
      obtain ⟨h0, ha⟩ := h c
      exact ⟨(h0.trans (val_main_v15_eq ..)).trans ((ref_out (refArgs m' c)).trans (congrArg Args.out (e c))), ha⟩) (ReferenceProjIdeal.Value.run m' g')

end Cert.Proj

end
-- ==== Proof.MixA.Kernel.lean ====
/- The gated merge of the first layer: what the kernel leaves in its result array. -/
module

public import proofs.«01_k».proof.Proof.Gen.KernelMixAIdeal.Value
public import Idealize.ShloMosaic.Lib.Pipeline.ValueKit
public import proofs.«01_k».proof.Proof.Common

@[expose] public section

set_option maxHeartbeats 1000000

noncomputable section

namespace Cert.MixA

open Idealize.ShloMosaic Idealize.ShloMosaic.TcCoe Idealize.SL.Sem
open Cert.Common

/-- The arrays the call is given: the rows it adds to, the projection (whose first 3072 columns are the gates' logits), the gates'
    bias, the three branches and the four weights of both layers. -/
structure Args where
  x : Mat 8192 1024
  proj : Mat 8192 5376
  bg : Mat 1 3072
  so : Mat 8192 256
  ao : Mat 8192 512
  co : Mat 8192 256
  ws : Cube 2 256 1024
  wa : Cube 2 512 1024
  wc : Cube 2 256 1024
  wo : Cube 2 1024 1024

namespace Args

variable (a : Args) (R : Fin 8192)

/-- Column `q` of the gates. -/
def gate (q : Fin 3072) : EReal :=
  Ideal.div 1 (1 + Ideal.exp (-(a.proj (ix2 R ⟨q.val, by omega⟩) + a.bg (ix2 0 q))))

/-- The three branches after their products. -/
def ys (j : Fin 1024) : EReal := ∑ k, a.so (ix2 R k) * a.ws (ix3 0 k j)
def ya (j : Fin 1024) : EReal := ∑ k, a.ao (ix2 R k) * a.wa (ix3 0 k j)
def yc (j : Fin 1024) : EReal := ∑ k, a.co (ix2 R k) * a.wc (ix3 0 k j)

/-- What the output product reads. -/
def merged (j : Fin 1024) : EReal :=
  a.gate R ⟨j.val, by omega⟩ * a.ys R j + a.gate R ⟨1024 + j.val, by omega⟩ * a.ya R j
    + a.gate R ⟨2048 + j.val, by omega⟩ * a.yc R j

/-- The rows after the merge. -/
def out : Mat 8192 1024 := fun i => a.x i + ∑ k, a.merged (i 0) k * a.wo (ix3 0 k (i 1))

end Args

open Cert.KernelMixAIdeal Cert.KernelMixAIdeal.Gen

variable (m : (ℓ : Loc nD τ sig) → Buf (Elt Ideal) ℓ)

/-- The arrays a device is given. -/
def args (c : Dev nD) : Args where
  x := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

/-- Row `r` of the block of point `t`. -/
def row (t : Fin cfg0.N) (r : Fin 256) : Fin 8192 := ⟨256 * t.val + r.val, by have h : t.val < 32 := t.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 1] := (by decide +kernel : ∀ t : Fin grid0.N, _)
theorem index3 : ∀ t : Fin cfg0.N, win0_3.index t = ![t.val, 2] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0, 0] := (by decide +kernel : ∀ t : Fin grid0.N, _)
theorem index9 : ∀ t : Fin cfg0.N, win0_9.index t = ![0, 0, 0] := (by decide +kernel : ∀ t : Fin grid0.N, _)
theorem index10 : ∀ t : Fin cfg0.N, win0_10.index t = ![0, 0, 0] := (by decide +kernel : ∀ t : Fin grid0.N, _)
theorem index11 : ∀ t : Fin cfg0.N, win0_11.index t = ![0, 0, 0] := (by decide +kernel : ∀ t : Fin grid0.N, _)
theorem index12 : ∀ t : Fin cfg0.N, win0_12.index t = ![t.val, 0] := (by decide +kernel : ∀ t : Fin grid0.N, _)

theorem block0 (c : Dev nD) (t : Fin cfg0.N) (r : Fin 256) (k : Fin 1024) :
    iblk m c 0 t (ix2 r k) = (args m c).x (ix2 (row t r) k) := by
  blk_ext [iblk, V, index0 t]
  show t.val * 256 + r.val = 256 * t.val + r.val
  omega

theorem block5 (c : Dev nD) (t : Fin cfg0.N) (r : Fin 256) (k : Fin 256) :
    iblk m c 5 t (ix2 r k) = (args m c).so (ix2 (row t r) k) := by
  blk_ext [iblk, V, index5 t]
  show t.val * 256 + r.val = 256 * t.val + r.val
  omega

theorem block6 (c : Dev nD) (t : Fin cfg0.N) (r : Fin 256) (k : Fin 512) :
    iblk m c 6 t (ix2 r k) = (args m c).ao (ix2 (row t r) k) := by
  blk_ext [iblk, V, index6 t]
  show t.val * 256 + r.val = 256 * t.val + r.val
  omega

theorem block7 (c : Dev nD) (t : Fin cfg0.N) (r : Fin 256) (k : Fin 256) :
    iblk m c 7 t (ix2 r k) = (args m c).co (ix2 (row t r) k) := by
  blk_ext [iblk, V, index7 t]
  show t.val * 256 + r.val = 256 * t.val + r.val
  omega

theorem block1 (c : Dev nD) (t : Fin cfg0.N) (r : Fin 256) (k : Fin 1024) :
    X0_1 m c t (ix2 r k) = (args m c).proj (ix2 (row t r) ⟨k.val, by omega⟩) := by
  unfold X0_1 Pipeline.Window.fill
  rw [dif_pos (moved0_1 t _)]
  show m ((c : Thread nD τ).loc main_arg1) ((win0_1.rect t).emb _) = _
  refine congrArg _ (Shape.idx_ext₂ ?_ ?_)
  · rw [win0_1.rect_emb_val t _ 0, index1 t]; show t.val * 256 + r.val = 256 * t.val + r.val; omega
  · rw [win0_1.rect_emb_val t _ 1, index1 t]; show 0 * 1024 + k.val = k.val; omega

theorem block2 (c : Dev nD) (t : Fin cfg0.N) (r : Fin 256) (k : Fin 1024) :
    X0_2 m c t (ix2 r k) = (args m c).proj (ix2 (row t r) ⟨1024 + k.val, by omega⟩) := by
  unfold X0_2 Pipeline.Window.fill
  rw [dif_pos (moved0_2 t _)]
  show m ((c : Thread nD τ).loc main_arg1) ((win0_2.rect t).emb _) = _
  refine congrArg _ (Shape.idx_ext₂ ?_ ?_)
  · rw [win0_2.rect_emb_val t _ 0, index2 t]; show t.val * 256 + r.val = 256 * t.val + r.val; omega
  · rw [win0_2.rect_emb_val t _ 1, index2 t]; show 1 * 1024 + k.val = 1024 + k.val; omega

theorem block3 (c : Dev nD) (t : Fin cfg0.N) (r : Fin 256) (k : Fin 1024) :
    X0_3 m c t (ix2 r k) = (args m c).proj (ix2 (row t r) ⟨2048 + k.val, by omega⟩) := by
  unfold X0_3 Pipeline.Window.fill
  rw [dif_pos (moved0_3 t _)]
  show m ((c : Thread nD τ).loc main_arg1) ((win0_3.rect t).emb _) = _
  refine congrArg _ (Shape.idx_ext₂ ?_ ?_)
  · rw [win0_3.rect_emb_val t _ 0, index3 t]; show t.val * 256 + r.val = 256 * t.val + r.val; omega
  · rw [win0_3.rect_emb_val t _ 1, index3 t]; show 2 * 1024 + k.val = 2048 + k.val; omega

theorem block4 (c : Dev nD) (t : Fin cfg0.N) (r : Fin 1) (k : Fin 3072) :
    iblk m c 4 t (ix2 r k) = (args m c).bg (ix2 0 k) := by
  blk_ext [iblk, V, index4 t]

theorem block8 (c : Dev nD) (t : Fin cfg0.N) (z : Fin 1) (k : Fin 256) (j : Fin 1024) :
    iblk m c 8 t (ix3 z k j) = (args m c).ws (ix3 0 k j) := by
  blk_ext [iblk, V, index8 t]

theorem block9 (c : Dev nD) (t : Fin cfg0.N) (z : Fin 1) (k : Fin 512) (j : Fin 1024) :
    iblk m c 9 t (ix3 z k j) = (args m c).wa (ix3 0 k j) := by
  blk_ext [iblk, V, index9 t]

theorem block10 (c : Dev nD) (t : Fin cfg0.N) (z : Fin 1) (k : Fin 256) (j : Fin 1024) :
    iblk m c 10 t (ix3 z k j) = (args m c).wc (ix3 0 k j) := by
  blk_ext [iblk, V, index10 t]

theorem block11 (c : Dev nD) (t : Fin cfg0.N) (z : Fin 1) (k : Fin 1024) (j : Fin 1024) :
    iblk m c 11 t (ix3 z k j) = (args m c).wo (ix3 0 k j) := by
  blk_ext [iblk, V, index11 t]

theorem point_ys (c : Dev nD) (t : Fin cfg0.N) (r : Fin 256) (j : Fin 1024) :
    k0_pay2 (iblk m c 5 t) (iblk m c 8 t) (ix2 r j) = (args m c).ys (row t r) j := by
  pointwise [k0_pay2, block5, block8, Args.ys]

theorem point_ya (c : Dev nD) (t : Fin cfg0.N) (r : Fin 256) (j : Fin 1024) :
    k0_pay3 (iblk m c 6 t) (iblk m c 9 t) (ix2 r j) = (args m c).ya (row t r) j := by
  pointwise [k0_pay3, block6, block9, Args.ya]

theorem point_yc (c : Dev nD) (t : Fin cfg0.N) (r : Fin 256) (j : Fin 1024) :
    k0_pay4 (iblk m c 7 t) (iblk m c 10 t) (ix2 r j) = (args m c).yc (row t r) j := by
  pointwise [k0_pay4, block7, block10, Args.yc]

theorem point_gate (c : Dev nD) (t : Fin cfg0.N) (r : Fin 256) (j : Fin 1024) :
    k0_pay5 (X0_1 m c t) (iblk m c 4 t) (ix2 r j) = (args m c).gate (row t r) ⟨j.val, by omega⟩ := by
  pointwise [k0_pay5, block1, block4, zero_sub, Args.gate]

/-- What a point stores. -/
theorem point_out (c : Dev nD) (t : Fin cfg0.N) (n : Fin 256) (j : Fin 1024) :
    k0_pay1 (X0_2 m c t) (X0_3 m c t) (iblk m c 4 t) (k0_pay2 (iblk m c 5 t) (iblk m c 8 t)) (k0_pay3 (iblk m c 6 t) (iblk m c 9 t))
      (k0_pay4 (iblk m c 7 t) (iblk m c 10 t)) (k0_pay5 (X0_1 m c t) (iblk m c 4 t)) (k0_pay6 (iblk m c 4 t)) (iblk m c 0 t)
      (iblk m c 11 t) (ix2 n j) = (args m c).out (ix2 (row t n) j) := by
  pointwise [k0_pay1, k0_pay6, block0, block2, block3, block4, block11, point_ys, point_ya, point_yc, point_gate, zero_sub,
    Args.out, Args.merged, Args.gate]

theorem stored (c : Dev nD) (t : Fin cfg0.N) (y : S256x1024.Idx) :
    outsAt0 m c t y = (args m c).out (ix2 (row t (y 0)) (y 1)) := by
  unfold outsAt0
  frame_out
  rw [eq_ix2 y]
  exact point_out m c t (y 0) (y 1)

/-- The result array after the run. -/
theorem array (c : Dev nD) : (dats m 0 c).arrAt 12 cfg0.N = (args m c).out := by
  refine (dats m 0 c).arrAt_eq_of_covers 12 _ (by decide +kernel) fun t hf y => ?_
  blk_simp
  rw [after0_12]
  refine (stored m c t y).trans ?_
  congr 1
  refine Shape.idx_ext₂ ?_ ?_
  · show 256 * t.val + (y 0).val = _
    blk_simp [index12 t]
    show 256 * t.val + (y 0).val = t.val * 256 + (y 0).val
    omega
  · blk_simp [index12 t]

end Cert.MixA

end
-- ==== Proof.MixA.Claim.lean ====
/- The gated merge of the first layer: the kernel and the reference end with the same arrays. -/
module

public import proofs.«01_k».proof.Defs
public import proofs.«01_k».proof.Proof.MixA.Kernel
public import proofs.«01_k».proof.Proof.Gen.ReferenceMixAIdeal.Read
public import Idealize.ShloMosaic.Lib.Quiescent

@[expose] public section

set_option maxHeartbeats 1000000

noncomputable section

namespace Cert.MixA

open Idealize.ShloMosaic Idealize.ShloMosaic.TcCoe Idealize.SL.Sem Cert.Common

section
open ReferenceMixAIdeal ReferenceMixAIdeal.Read

/-- The arrays a device of the reference is given. -/
def refArgs (m : (ℓ : Loc nD τ sig) → Buf (Elt Ideal) ℓ) (c : Dev nD) : Args where
  x := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

theorem ref_gate (a : Args) (R : Fin 8192) (q : Fin 3072) : val_main_v23 (F := Ideal) a.proj a.bg (ix2 R q) = a.gate R q := by
  pointwise [val_main_v23, val_main_v22, val_main_v21, val_main_v20, val_main_v19, val_main_v18, val_main_v17, val_main_v16,
    val_main_v12, val_main_cst, val_main_cst_0, Args.gate]

theorem ref_ys (a : Args) (R : Fin 8192) (j : Fin 1024) : val_main_v13 (F := Ideal) a.so a.ws (ix2 R j) = a.ys R j := by
  pointwise [val_main_v13, val_main_v2, val_main_v1, val_main_v0, Args.ys]

theorem ref_ya (a : Args) (R : Fin 8192) (j : Fin 1024) : val_main_v14 (F := Ideal) a.ao a.wa (ix2 R j) = a.ya R j := by
  pointwise [val_main_v14, val_main_v5, val_main_v4, val_main_v3, Args.ya]

theorem ref_yc (a : Args) (R : Fin 8192) (j : Fin 1024) : val_main_v15 (F := Ideal) a.co a.wc (ix2 R j) = a.yc R j := by
  pointwise [val_main_v15, val_main_v8, val_main_v7, val_main_v6, Args.yc]

theorem ref_merged (a : Args) (R : Fin 8192) (j : Fin 1024) :
    val_main_v31 (F := Ideal) a.proj a.bg a.so a.ao a.co a.ws a.wa a.wc (ix2 R j) = a.merged R j := by
  pointwise [val_main_v31, val_main_v30, val_main_v29, val_main_v28, val_main_v27, val_main_v26, val_main_v25, val_main_v24,
    ref_gate, ref_ys, ref_ya, ref_yc, Args.merged]

theorem ref_out (a : Args) :
    val_main_v33 (F := Ideal) a.x a.proj a.bg a.so a.ao a.co a.ws a.wa a.wc a.wo = a.out := by
  funext i
  rw [eq_ix2 i]
  pointwise [val_main_v33, val_main_v32, val_main_v11, val_main_v10, val_main_v9, ref_merged, Args.out]

end

/-- The reference's run leaves its arguments alone and every counter at zero. -/
theorem reference_frame : quiescent_ReferenceMixAIdeal (hReferenceMixAIdeal := ReferenceMixAIdeal.Gen.facts) := fun m g _ =>
  (θ_run _ _ _).mono (fun r h => ⟨fun c => (h c).2, sem_eq_zero_of_no_sems (by decide) _⟩) (ReferenceMixAIdeal.Value.run m g)

open KernelMixAIdeal KernelMixAIdeal.Gen ReferenceMixAIdeal.Read in
/-- At the same arguments, the kernel's run ends with the arrays of the specification, and so does the reference's. -/
theorem same : algebraic_KernelMixAIdeal_ReferenceMixAIdeal (hKernelMixAIdeal := KernelMixAIdeal.Gen.facts) (hReferenceMixAIdeal := ReferenceMixAIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelMixAIdeal.Value.run_blocks m g)
  · exact (θ_run _ _ _).mono (fun r h c => by
      obtain ⟨h0, ha⟩ := h c
      exact ⟨(h0.trans (val_main_v33_eq ..)).trans ((ref_out (refArgs m' c)).trans (congrArg Args.out (e c))), ha⟩) (ReferenceMixAIdeal.Value.run m' g')

end Cert.MixA

end
-- ==== Proof.MixB.Kernel.lean ====
/- The gated merge of the second layer: what the kernel leaves in its result array. -/
module

public import proofs.«01_k».proof.Proof.Gen.KernelMixBIdeal.Value
public import Idealize.ShloMosaic.Lib.Pipeline.ValueKit
public import proofs.«01_k».proof.Proof.Common

@[expose] public section

set_option maxHeartbeats 1000000

noncomputable section

namespace Cert.MixB

open Idealize.ShloMosaic Idealize.ShloMosaic.TcCoe Idealize.SL.Sem
open Cert.Common

/-- The arrays the call is given: the rows it adds to, the projection (whose first 3072 columns are the gates' logits), the gates'
    bias, the three branches and the four weights of both layers. -/
structure Args where
  x : Mat 8192 1024
  proj : Mat 8192 5376
  bg : Mat 1 3072
  so : Mat 8192 256
  ao : Mat 8192 512
  co : Mat 8192 256
  ws : Cube 2 256 1024
  wa : Cube 2 512 1024
  wc : Cube 2 256 1024
  wo : Cube 2 1024 1024

namespace Args

variable (a : Args) (R : Fin 8192)

/-- Column `q` of the gates. -/
def gate (q : Fin 3072) : EReal :=
  Ideal.div 1 (1 + Ideal.exp (-(a.proj (ix2 R ⟨q.val, by omega⟩) + a.bg (ix2 0 q))))

/-- The three branches after their products. -/
def ys (j : Fin 1024) : EReal := ∑ k, a.so (ix2 R k) * a.ws (ix3 1 k j)
def ya (j : Fin 1024) : EReal := ∑ k, a.ao (ix2 R k) * a.wa (ix3 1 k j)
def yc (j : Fin 1024) : EReal := ∑ k, a.co (ix2 R k) * a.wc (ix3 1 k j)

/-- What the output product reads. -/
def merged (j : Fin 1024) : EReal :=
  a.gate R ⟨j.val, by omega⟩ * a.ys R j + a.gate R ⟨1024 + j.val, by omega⟩ * a.ya R j
    + a.gate R ⟨2048 + j.val, by omega⟩ * a.yc R j

/-- The rows after the merge. -/
def out : Mat 8192 1024 := fun i => a.x i + ∑ k, a.merged (i 0) k * a.wo (ix3 1 k (i 1))

end Args

open Cert.KernelMixBIdeal Cert.KernelMixBIdeal.Gen

variable (m : (ℓ : Loc nD τ sig) → Buf (Elt Ideal) ℓ)

/-- The arrays a device is given. -/
def args (c : Dev nD) : Args where
  x := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

/-- Row `r` of the block of point `t`. -/
def row (t : Fin cfg0.N) (r : Fin 256) : Fin 8192 := ⟨256 * t.val + r.val, by have h : t.val < 32 := t.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 1] := (by decide +kernel : ∀ t : Fin grid0.N, _)
theorem index3 : ∀ t : Fin cfg0.N, win0_3.index t = ![t.val, 2] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![1, 0, 0] := (by decide +kernel : ∀ t : Fin grid0.N, _)
theorem index9 : ∀ t : Fin cfg0.N, win0_9.index t = ![1, 0, 0] := (by decide +kernel : ∀ t : Fin grid0.N, _)
theorem index10 : ∀ t : Fin cfg0.N, win0_10.index t = ![1, 0, 0] := (by decide +kernel : ∀ t : Fin grid0.N, _)
theorem index11 : ∀ t : Fin cfg0.N, win0_11.index t = ![1, 0, 0] := (by decide +kernel : ∀ t : Fin grid0.N, _)
theorem index12 : ∀ t : Fin cfg0.N, win0_12.index t = ![t.val, 0] := (by decide +kernel : ∀ t : Fin grid0.N, _)

theorem block0 (c : Dev nD) (t : Fin cfg0.N) (r : Fin 256) (k : Fin 1024) :
    iblk m c 0 t (ix2 r k) = (args m c).x (ix2 (row t r) k) := by
  blk_ext [iblk, V, index0 t]
  show t.val * 256 + r.val = 256 * t.val + r.val
  omega

theorem block5 (c : Dev nD) (t : Fin cfg0.N) (r : Fin 256) (k : Fin 256) :
    iblk m c 5 t (ix2 r k) = (args m c).so (ix2 (row t r) k) := by
  blk_ext [iblk, V, index5 t]
  show t.val * 256 + r.val = 256 * t.val + r.val
  omega

theorem block6 (c : Dev nD) (t : Fin cfg0.N) (r : Fin 256) (k : Fin 512) :
    iblk m c 6 t (ix2 r k) = (args m c).ao (ix2 (row t r) k) := by
  blk_ext [iblk, V, index6 t]
  show t.val * 256 + r.val = 256 * t.val + r.val
  omega

theorem block7 (c : Dev nD) (t : Fin cfg0.N) (r : Fin 256) (k : Fin 256) :
    iblk m c 7 t (ix2 r k) = (args m c).co (ix2 (row t r) k) := by
  blk_ext [iblk, V, index7 t]
  show t.val * 256 + r.val = 256 * t.val + r.val
  omega

theorem block1 (c : Dev nD) (t : Fin cfg0.N) (r : Fin 256) (k : Fin 1024) :
    X0_1 m c t (ix2 r k) = (args m c).proj (ix2 (row t r) ⟨k.val, by omega⟩) := by
  unfold X0_1 Pipeline.Window.fill
  rw [dif_pos (moved0_1 t _)]
  show m ((c : Thread nD τ).loc main_arg1) ((win0_1.rect t).emb _) = _
  refine congrArg _ (Shape.idx_ext₂ ?_ ?_)
  · rw [win0_1.rect_emb_val t _ 0, index1 t]; show t.val * 256 + r.val = 256 * t.val + r.val; omega
  · rw [win0_1.rect_emb_val t _ 1, index1 t]; show 0 * 1024 + k.val = k.val; omega

theorem block2 (c : Dev nD) (t : Fin cfg0.N) (r : Fin 256) (k : Fin 1024) :
    X0_2 m c t (ix2 r k) = (args m c).proj (ix2 (row t r) ⟨1024 + k.val, by omega⟩) := by
  unfold X0_2 Pipeline.Window.fill
  rw [dif_pos (moved0_2 t _)]
  show m ((c : Thread nD τ).loc main_arg1) ((win0_2.rect t).emb _) = _
  refine congrArg _ (Shape.idx_ext₂ ?_ ?_)
  · rw [win0_2.rect_emb_val t _ 0, index2 t]; show t.val * 256 + r.val = 256 * t.val + r.val; omega
  · rw [win0_2.rect_emb_val t _ 1, index2 t]; show 1 * 1024 + k.val = 1024 + k.val; omega

theorem block3 (c : Dev nD) (t : Fin cfg0.N) (r : Fin 256) (k : Fin 1024) :
    X0_3 m c t (ix2 r k) = (args m c).proj (ix2 (row t r) ⟨2048 + k.val, by omega⟩) := by
  unfold X0_3 Pipeline.Window.fill
  rw [dif_pos (moved0_3 t _)]
  show m ((c : Thread nD τ).loc main_arg1) ((win0_3.rect t).emb _) = _
  refine congrArg _ (Shape.idx_ext₂ ?_ ?_)
  · rw [win0_3.rect_emb_val t _ 0, index3 t]; show t.val * 256 + r.val = 256 * t.val + r.val; omega
  · rw [win0_3.rect_emb_val t _ 1, index3 t]; show 2 * 1024 + k.val = 2048 + k.val; omega

theorem block4 (c : Dev nD) (t : Fin cfg0.N) (r : Fin 1) (k : Fin 3072) :
    iblk m c 4 t (ix2 r k) = (args m c).bg (ix2 0 k) := by
  blk_ext [iblk, V, index4 t]

theorem block8 (c : Dev nD) (t : Fin cfg0.N) (z : Fin 1) (k : Fin 256) (j : Fin 1024) :
    iblk m c 8 t (ix3 z k j) = (args m c).ws (ix3 1 k j) := by
  blk_ext [iblk, V, index8 t]

theorem block9 (c : Dev nD) (t : Fin cfg0.N) (z : Fin 1) (k : Fin 512) (j : Fin 1024) :
    iblk m c 9 t (ix3 z k j) = (args m c).wa (ix3 1 k j) := by
  blk_ext [iblk, V, index9 t]

theorem block10 (c : Dev nD) (t : Fin cfg0.N) (z : Fin 1) (k : Fin 256) (j : Fin 1024) :
    iblk m c 10 t (ix3 z k j) = (args m c).wc (ix3 1 k j) := by
  blk_ext [iblk, V, index10 t]

theorem block11 (c : Dev nD) (t : Fin cfg0.N) (z : Fin 1) (k : Fin 1024) (j : Fin 1024) :
    iblk m c 11 t (ix3 z k j) = (args m c).wo (ix3 1 k j) := by
  blk_ext [iblk, V, index11 t]

theorem point_ys (c : Dev nD) (t : Fin cfg0.N) (r : Fin 256) (j : Fin 1024) :
    k0_pay2 (iblk m c 5 t) (iblk m c 8 t) (ix2 r j) = (args m c).ys (row t r) j := by
  pointwise [k0_pay2, block5, block8, Args.ys]

theorem point_ya (c : Dev nD) (t : Fin cfg0.N) (r : Fin 256) (j : Fin 1024) :
    k0_pay3 (iblk m c 6 t) (iblk m c 9 t) (ix2 r j) = (args m c).ya (row t r) j := by
  pointwise [k0_pay3, block6, block9, Args.ya]

theorem point_yc (c : Dev nD) (t : Fin cfg0.N) (r : Fin 256) (j : Fin 1024) :
    k0_pay4 (iblk m c 7 t) (iblk m c 10 t) (ix2 r j) = (args m c).yc (row t r) j := by
  pointwise [k0_pay4, block7, block10, Args.yc]

theorem point_gate (c : Dev nD) (t : Fin cfg0.N) (r : Fin 256) (j : Fin 1024) :
    k0_pay5 (X0_1 m c t) (iblk m c 4 t) (ix2 r j) = (args m c).gate (row t r) ⟨j.val, by omega⟩ := by
  pointwise [k0_pay5, block1, block4, zero_sub, Args.gate]

/-- What a point stores. -/
theorem point_out (c : Dev nD) (t : Fin cfg0.N) (n : Fin 256) (j : Fin 1024) :
    k0_pay1 (X0_2 m c t) (X0_3 m c t) (iblk m c 4 t) (k0_pay2 (iblk m c 5 t) (iblk m c 8 t)) (k0_pay3 (iblk m c 6 t) (iblk m c 9 t))
      (k0_pay4 (iblk m c 7 t) (iblk m c 10 t)) (k0_pay5 (X0_1 m c t) (iblk m c 4 t)) (k0_pay6 (iblk m c 4 t)) (iblk m c 0 t)
      (iblk m c 11 t) (ix2 n j) = (args m c).out (ix2 (row t n) j) := by
  pointwise [k0_pay1, k0_pay6, block0, block2, block3, block4, block11, point_ys, point_ya, point_yc, point_gate, zero_sub,
    Args.out, Args.merged, Args.gate]

theorem stored (c : Dev nD) (t : Fin cfg0.N) (y : S256x1024.Idx) :
    outsAt0 m c t y = (args m c).out (ix2 (row t (y 0)) (y 1)) := by
  unfold outsAt0
  frame_out
  rw [eq_ix2 y]
  exact point_out m c t (y 0) (y 1)

/-- The result array after the run. -/
theorem array (c : Dev nD) : (dats m 0 c).arrAt 12 cfg0.N = (args m c).out := by
  refine (dats m 0 c).arrAt_eq_of_covers 12 _ (by decide +kernel) fun t hf y => ?_
  blk_simp
  rw [after0_12]
  refine (stored m c t y).trans ?_
  congr 1
  refine Shape.idx_ext₂ ?_ ?_
  · show 256 * t.val + (y 0).val = _
    blk_simp [index12 t]
    show 256 * t.val + (y 0).val = t.val * 256 + (y 0).val
    omega
  · blk_simp [index12 t]

end Cert.MixB

end
-- ==== Proof.MixB.Claim.lean ====
/- The gated merge of the second layer: the kernel and the reference end with the same arrays. -/
module

public import proofs.«01_k».proof.Defs
public import proofs.«01_k».proof.Proof.MixB.Kernel
public import proofs.«01_k».proof.Proof.Gen.ReferenceMixBIdeal.Read
public import Idealize.ShloMosaic.Lib.Quiescent

@[expose] public section

set_option maxHeartbeats 1000000

noncomputable section

namespace Cert.MixB

open Idealize.ShloMosaic Idealize.ShloMosaic.TcCoe Idealize.SL.Sem Cert.Common

section
open ReferenceMixBIdeal ReferenceMixBIdeal.Read

/-- The arrays a device of the reference is given. -/
def refArgs (m : (ℓ : Loc nD τ sig) → Buf (Elt Ideal) ℓ) (c : Dev nD) : Args where
  x := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

theorem ref_gate (a : Args) (R : Fin 8192) (q : Fin 3072) : val_main_v23 (F := Ideal) a.proj a.bg (ix2 R q) = a.gate R q := by
  pointwise [val_main_v23, val_main_v22, val_main_v21, val_main_v20, val_main_v19, val_main_v18, val_main_v17, val_main_v16,
    val_main_v12, val_main_cst, val_main_cst_0, Args.gate]

theorem ref_ys (a : Args) (R : Fin 8192) (j : Fin 1024) : val_main_v13 (F := Ideal) a.so a.ws (ix2 R j) = a.ys R j := by
  pointwise [val_main_v13, val_main_v2, val_main_v1, val_main_v0, Args.ys]

theorem ref_ya (a : Args) (R : Fin 8192) (j : Fin 1024) : val_main_v14 (F := Ideal) a.ao a.wa (ix2 R j) = a.ya R j := by
  pointwise [val_main_v14, val_main_v5, val_main_v4, val_main_v3, Args.ya]

theorem ref_yc (a : Args) (R : Fin 8192) (j : Fin 1024) : val_main_v15 (F := Ideal) a.co a.wc (ix2 R j) = a.yc R j := by
  pointwise [val_main_v15, val_main_v8, val_main_v7, val_main_v6, Args.yc]

theorem ref_merged (a : Args) (R : Fin 8192) (j : Fin 1024) :
    val_main_v31 (F := Ideal) a.proj a.bg a.so a.ao a.co a.ws a.wa a.wc (ix2 R j) = a.merged R j := by
  pointwise [val_main_v31, val_main_v30, val_main_v29, val_main_v28, val_main_v27, val_main_v26, val_main_v25, val_main_v24,
    ref_gate, ref_ys, ref_ya, ref_yc, Args.merged]

theorem ref_out (a : Args) :
    val_main_v33 (F := Ideal) a.x a.proj a.bg a.so a.ao a.co a.ws a.wa a.wc a.wo = a.out := by
  funext i
  rw [eq_ix2 i]
  pointwise [val_main_v33, val_main_v32, val_main_v11, val_main_v10, val_main_v9, ref_merged, Args.out]

end

/-- The reference's run leaves its arguments alone and every counter at zero. -/
theorem reference_frame : quiescent_ReferenceMixBIdeal (hReferenceMixBIdeal := ReferenceMixBIdeal.Gen.facts) := fun m g _ =>
  (θ_run _ _ _).mono (fun r h => ⟨fun c => (h c).2, sem_eq_zero_of_no_sems (by decide) _⟩) (ReferenceMixBIdeal.Value.run m g)

open KernelMixBIdeal KernelMixBIdeal.Gen ReferenceMixBIdeal.Read in
/-- At the same arguments, the kernel's run ends with the arrays of the specification, and so does the reference's. -/
theorem same : algebraic_KernelMixBIdeal_ReferenceMixBIdeal (hKernelMixBIdeal := KernelMixBIdeal.Gen.facts) (hReferenceMixBIdeal := ReferenceMixBIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelMixBIdeal.Value.run_blocks m g)
  · exact (θ_run _ _ _).mono (fun r h c => by
      obtain ⟨h0, ha⟩ := h c
      exact ⟨(h0.trans (val_main_v33_eq ..)).trans ((ref_out (refArgs m' c)).trans (congrArg Args.out (e c))), ha⟩) (ReferenceMixBIdeal.Value.run m' g')

end Cert.MixB

end
-- ==== Proof.BackA.Spec.lean ====
/- The gradient of the first layer's gated merge, entry by entry, as extended reals. -/
module

public import proofs.«01_k».proof.Proof.Common

@[expose] public section

noncomputable section

namespace Cert.BackA

open Idealize.ShloMosaic Cert.Common

/-- An array whose entries are known is known at every index. -/
theorem entries {n k : ℕ} {f : Mat n k} {g : Fin n → Fin k → EReal} (h : ∀ r j, f (ix2 r j) = g r j) (y) : f y = g (y 0) (y 1) := by
  rw [eq_ix2 y]
  exact h _ _

/-- What the merge's gradient is taken at: the gradient arriving, the projection (whose first 3072 columns are the gates'
    logits), the gates' bias, the three branches and the four weights of both layers. -/
structure Args where
  dx : Mat 8192 1024
  proj : Mat 8192 5376
  bg : Mat 1 3072
  so : Mat 8192 256
  ao : Mat 8192 512
  co : Mat 8192 256
  ws : Cube 2 256 1024
  wa : Cube 2 512 1024
  wc : Cube 2 256 1024
  wo : Cube 2 1024 1024

namespace Args

variable (a : Args) (R : Fin 8192)

/-- Column `q` of the gates. -/
def gate (q : Fin 3072) : EReal :=
  Ideal.div 1 (1 + Ideal.exp (-(a.proj (ix2 R ⟨q.val, by omega⟩) + a.bg (ix2 0 q))))

/-- The three branches after their products. -/
def ys (j : Fin 1024) : EReal := ∑ k, a.so (ix2 R k) * a.ws (ix3 0 k j)
def ya (j : Fin 1024) : EReal := ∑ k, a.ao (ix2 R k) * a.wa (ix3 0 k j)
def yc (j : Fin 1024) : EReal := ∑ k, a.co (ix2 R k) * a.wc (ix3 0 k j)

/-- The gradient of what the output product reads. -/
def dm (j : Fin 1024) : EReal := ∑ k, a.dx (ix2 R k) * a.wo (ix3 0 j k)

/-- The columns of the gates that belong to a branch. -/
def q0 (j : Fin 1024) : Fin 3072 := ⟨j.val, by omega⟩
def q1 (j : Fin 1024) : Fin 3072 := ⟨1024 + j.val, by omega⟩
def q2 (j : Fin 1024) : Fin 3072 := ⟨2048 + j.val, by omega⟩

/-- What the output product reads. -/
def merged (j : Fin 1024) : EReal :=
  a.gate R (q0 j) * a.ys R j + a.gate R (q1 j) * a.ya R j + a.gate R (q2 j) * a.yc R j

/-- The gradient of a branch after its product. -/
def dy (q : Fin 1024 → Fin 3072) (j : Fin 1024) : EReal := a.gate R (q j) * a.dm R j

/-- The gradient of the gates' logits that belong to a branch. -/
def dlogit (q : Fin 3072) (y : EReal) (j : Fin 1024) : EReal :=
  a.dm R j * y * (a.gate R q * (1 - a.gate R q))

/-- The gradient of the gates' logits. -/
def dl (q : Fin 3072) : EReal :=
  if h : q.val < 1024 then a.dlogit R q (a.ys R ⟨q.val, h⟩) ⟨q.val, h⟩
  else if h' : q.val < 2048 then a.dlogit R q (a.ya R ⟨q.val - 1024, by omega⟩) ⟨q.val - 1024, by omega⟩
  else a.dlogit R q (a.yc R ⟨q.val - 2048, by omega⟩) ⟨q.val - 2048, by omega⟩

theorem dl_q0 (j : Fin 1024) : a.dl R (q0 j) = a.dlogit R (q0 j) (a.ys R j) j := by
  unfold dl q0; rw [dif_pos j.isLt]

theorem dl_q1 (j : Fin 1024) : a.dl R (q1 j) = a.dlogit R (q1 j) (a.ya R j) j := by
  have e : (⟨1024 + j.val - 1024, by omega⟩ : Fin 1024) = j := Fin.ext (by simp)
  unfold dl q1; rw [dif_neg (by simp), dif_pos (by have := j.isLt; simp; omega)]; simp only [e]

theorem dl_q2 (j : Fin 1024) : a.dl R (q2 j) = a.dlogit R (q2 j) (a.yc R j) j := by
  have e : (⟨2048 + j.val - 2048, by omega⟩ : Fin 1024) = j := Fin.ext (by simp)
  unfold dl q2; rw [dif_neg (by simp; omega), dif_neg (by simp)]; simp only [e]

/-- The gradients of the branches. -/
def dso (k : Fin 256) : EReal := ∑ j, a.dy R q0 j * a.ws (ix3 0 k j)
def dao (k : Fin 512) : EReal := ∑ j, a.dy R q1 j * a.wa (ix3 0 k j)
def dco (k : Fin 256) : EReal := ∑ j, a.dy R q2 j * a.wc (ix3 0 k j)

/-- The gradient of the gates' bias. -/
def dbg (q : Fin 3072) : EReal := ∑ R : Fin 8192, a.dl R q

/-! The results as whole arrays. -/

/-- The gradient of the gates' logits. -/
def dlR : Mat 8192 3072 := fun i => a.dl (i 0) (i 1)
/-- The gradients of the three branches. -/
def dsoR : Mat 8192 256 := fun i => a.dso (i 0) (i 1)
def daoR : Mat 8192 512 := fun i => a.dao (i 0) (i 1)
def dcoR : Mat 8192 256 := fun i => a.dco (i 0) (i 1)
/-- The gradient of the gates' bias. -/
def dbgR : Mat 1 3072 := fun i => a.dbg (i 1)
/-- What the output product reads. -/
def mergedR : Mat 8192 1024 := fun i => a.merged (i 0) (i 1)
/-- The gradient that arrives. -/
def dxR : Mat 8192 1024 := a.dx
/-- The gradients of the three branches after their products. -/
def dysR : Mat 8192 1024 := fun i => a.dy (i 0) q0 (i 1)
def dyaR : Mat 8192 1024 := fun i => a.dy (i 0) q1 (i 1)
def dycR : Mat 8192 1024 := fun i => a.dy (i 0) q2 (i 1)

end Args

end Cert.BackA

end
-- ==== Proof.BackA.Blocks.lean ====
/- What a grid point of the first layer's gated merge's gradient reads: the blocks of its arrays. -/
module

public import proofs.«01_k».proof.Proof.Gen.KernelBackAIdeal.Value
public import proofs.«01_k».proof.Proof.BackA.Spec
public import Idealize.ShloMosaic.Lib.Pipeline.ValueKit

@[expose] public section

noncomputable section

namespace Cert.BackA

open Idealize.ShloMosaic Idealize.ShloMosaic.TcCoe Idealize.SL.Sem
open Cert.Common Cert.KernelBackAIdeal Cert.KernelBackAIdeal.Gen

variable (m : (ℓ : Loc nD τ sig) → Buf (Elt Ideal) ℓ)

/-- The arrays a device is given. -/
def args (c : Dev nD) : Args where
  dx := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

/-- Row `r` of the block of point `t`. -/
def row (t : Fin cfg0.N) (r : Fin 256) : Fin 8192 := ⟨256 * t.val + r.val, by have h : t.val < 32 := t.isLt; omega⟩

theorem index0 : ∀ t : Fin cfg0.N, win0_0.index t = ![t.val, 0] := (by decide +kernel : ∀ t : Fin grid0.N, _)

theorem block0 (c : Dev nD) (t : Fin cfg0.N) (r : Fin 256) (k : Fin 1024) :
    iblk m c 0 t (ix2 r k) = (args m c).dx (ix2 (row t r) k) := by
  blk_ext [iblk, V, index0 t]
  show t.val * 256 + r.val = 256 * t.val + r.val
  omega

theorem index1 : ∀ t : Fin cfg0.N, win0_1.index t (0 : Fin 2) = t.val ∧ win0_1.index t (1 : Fin 2) = 0 :=
  (by decide +kernel : ∀ t : Fin grid0.N, _)

theorem block1 (c : Dev nD) (t : Fin cfg0.N) (r : Fin 256) (k : Fin 1024) :
    X0_1 m c t (ix2 r k) = (args m c).proj (ix2 (row t r) ⟨k.val, by omega⟩) := by
  unfold X0_1 Pipeline.Window.fill
  rw [dif_pos (moved0_1 t _)]
  show m ((c : Thread nD τ).loc main_arg1) ((win0_1.rect t).emb _) = _
  refine congrArg _ (Shape.idx_ext₂ ?_ ?_)
  · rw [win0_1.rect_emb_val t _ 0, (index1 t).1]; show t.val * 256 + r.val = 256 * t.val + r.val; omega
  · rw [win0_1.rect_emb_val t _ 1, (index1 t).2]; show 0 * 1024 + k.val = k.val; omega

theorem index2 : ∀ t : Fin cfg0.N, win0_2.index t (0 : Fin 2) = t.val ∧ win0_2.index t (1 : Fin 2) = 1 :=
  (by decide +kernel : ∀ t : Fin grid0.N, _)

theorem block2 (c : Dev nD) (t : Fin cfg0.N) (r : Fin 256) (k : Fin 1024) :
    X0_2 m c t (ix2 r k) = (args m c).proj (ix2 (row t r) ⟨1024 + k.val, by omega⟩) := by
  unfold X0_2 Pipeline.Window.fill
  rw [dif_pos (moved0_2 t _)]
  show m ((c : Thread nD τ).loc main_arg1) ((win0_2.rect t).emb _) = _
  refine congrArg _ (Shape.idx_ext₂ ?_ ?_)
  · rw [win0_2.rect_emb_val t _ 0, (index2 t).1]; show t.val * 256 + r.val = 256 * t.val + r.val; omega
  · rw [win0_2.rect_emb_val t _ 1, (index2 t).2]; show 1 * 1024 + k.val = 1024 + k.val; omega

theorem index3 : ∀ t : Fin cfg0.N, win0_3.index t (0 : Fin 2) = t.val ∧ win0_3.index t (1 : Fin 2) = 2 :=
  (by decide +kernel : ∀ t : Fin grid0.N, _)

theorem block3 (c : Dev nD) (t : Fin cfg0.N) (r : Fin 256) (k : Fin 1024) :
    X0_3 m c t (ix2 r k) = (args m c).proj (ix2 (row t r) ⟨2048 + k.val, by omega⟩) := by
  unfold X0_3 Pipeline.Window.fill
  rw [dif_pos (moved0_3 t _)]
  show m ((c : Thread nD τ).loc main_arg1) ((win0_3.rect t).emb _) = _
  refine congrArg _ (Shape.idx_ext₂ ?_ ?_)
  · rw [win0_3.rect_emb_val t _ 0, (index3 t).1]; show t.val * 256 + r.val = 256 * t.val + r.val; omega
  · rw [win0_3.rect_emb_val t _ 1, (index3 t).2]; show 2 * 1024 + k.val = 2048 + k.val; omega

theorem index4 : ∀ t : Fin cfg0.N, win0_4.index t = ![0, 0] := (by decide +kernel : ∀ t : Fin grid0.N, _)

theorem block4 (c : Dev nD) (t : Fin cfg0.N) (r : Fin 1) (k : Fin 3072) :
    iblk m c 4 t (ix2 r k) = (args m c).bg (ix2 0 k) := by
  blk_ext [iblk, V, index4 t]

theorem index5 : ∀ t : Fin cfg0.N, win0_5.index t = ![t.val, 0] := (by decide +kernel : ∀ t : Fin grid0.N, _)

theorem block5 (c : Dev nD) (t : Fin cfg0.N) (r : Fin 256) (k : Fin 256) :
    iblk m c 5 t (ix2 r k) = (args m c).so (ix2 (row t r) k) := by
  blk_ext [iblk, V, index5 t]
  show t.val * 256 + r.val = 256 * t.val + r.val
  omega

theorem index6 : ∀ t : Fin cfg0.N, win0_6.index t = ![t.val, 0] := (by decide +kernel : ∀ t : Fin grid0.N, _)

theorem block6 (c : Dev nD) (t : Fin cfg0.N) (r : Fin 256) (k : Fin 512) :
    iblk m c 6 t (ix2 r k) = (args m c).ao (ix2 (row t r) k) := by
  blk_ext [iblk, V, index6 t]
  show t.val * 256 + r.val = 256 * t.val + r.val
  omega

theorem index7 : ∀ t : Fin cfg0.N, win0_7.index t = ![t.val, 0] := (by decide +kernel : ∀ t : Fin grid0.N, _)

theorem block7 (c : Dev nD) (t : Fin cfg0.N) (r : Fin 256) (k : Fin 256) :
    iblk m c 7 t (ix2 r k) = (args m c).co (ix2 (row t r) k) := by
  blk_ext [iblk, V, index7 t]
  show t.val * 256 + r.val = 256 * t.val + r.val
  omega

theorem index8 : ∀ t : Fin cfg0.N, win0_8.index t = ![0, 0, 0] := (by decide +kernel : ∀ t : Fin grid0.N, _)

theorem block8 (c : Dev nD) (t : Fin cfg0.N) (z : Fin 1) (r : Fin 256) (k : Fin 1024) :
    iblk m c 8 t (ix3 z r k) = (args m c).ws (ix3 0 r k) := by
  blk_ext [iblk, V, index8 t]

theorem index9 : ∀ t : Fin cfg0.N, win0_9.index t = ![0, 0, 0] := (by decide +kernel : ∀ t : Fin grid0.N, _)

theorem block9 (c : Dev nD) (t : Fin cfg0.N) (z : Fin 1) (r : Fin 512) (k : Fin 1024) :
    iblk m c 9 t (ix3 z r k) = (args m c).wa (ix3 0 r k) := by
  blk_ext [iblk, V, index9 t]

theorem index10 : ∀ t : Fin cfg0.N, win0_10.index t = ![0, 0, 0] := (by decide +kernel : ∀ t : Fin grid0.N, _)

theorem block10 (c : Dev nD) (t : Fin cfg0.N) (z : Fin 1) (r : Fin 256) (k : Fin 1024) :
    iblk m c 10 t (ix3 z r k) = (args m c).wc (ix3 0 r k) := by
  blk_ext [iblk, V, index10 t]

theorem index11 : ∀ t : Fin cfg0.N, win0_11.index t = ![0, 0, 0] := (by decide +kernel : ∀ t : Fin grid0.N, _)

theorem block11 (c : Dev nD) (t : Fin cfg0.N) (z : Fin 1) (r : Fin 1024) (k : Fin 1024) :
    iblk m c 11 t (ix3 z r k) = (args m c).wo (ix3 0 r k) := by
  blk_ext [iblk, V, index11 t]

end Cert.BackA

end
-- ==== Proof.BackA.Outputs.lean ====
/- What a grid point of the first layer's gated merge's gradient stores, entry by entry. -/
module

public import proofs.«01_k».proof.Proof.BackA.Blocks
public import Idealize.ShloMosaic.Lib.Pipeline.ValueKit

@[expose] public section

set_option maxHeartbeats 1000000

noncomputable section

namespace Cert.BackA

open Idealize.ShloMosaic Idealize.ShloMosaic.TcCoe Idealize.SL.Sem
open Cert.Common Cert.KernelBackAIdeal Cert.KernelBackAIdeal.Gen

variable (m : (ℓ : Loc nD τ sig) → Buf (Elt Ideal) ℓ)

/-! The values a point computes from its blocks. -/

theorem point_ys (c : Dev nD) (t : Fin cfg0.N) (r : Fin 256) (j : Fin 1024) :
    k0_pay10 (iblk m c 8 t) (iblk m c 5 t) (ix2 r j) = (args m c).ys (row t r) j := by
  pointwise [k0_pay10, k0_pay7, block5, block8, Args.ys]

theorem point_ya (c : Dev nD) (t : Fin cfg0.N) (r : Fin 256) (j : Fin 1024) :
    k0_pay11 (iblk m c 9 t) (iblk m c 6 t) (ix2 r j) = (args m c).ya (row t r) j := by
  pointwise [k0_pay11, k0_pay8, block6, block9, Args.ya]

theorem point_yc (c : Dev nD) (t : Fin cfg0.N) (r : Fin 256) (j : Fin 1024) :
    k0_pay12 (iblk m c 10 t) (iblk m c 7 t) (ix2 r j) = (args m c).yc (row t r) j := by
  pointwise [k0_pay12, k0_pay9, block7, block10, Args.yc]

theorem point_dm (c : Dev nD) (t : Fin cfg0.N) (r : Fin 256) (j : Fin 1024) :
    k0_pay19 (iblk m c 0 t) (iblk m c 11 t) (ix2 r j) = (args m c).dm (row t r) j := by
  pointwise [k0_pay19, k0_pay18, block0, block11, Args.dm]

theorem point_gate0 (c : Dev nD) (t : Fin cfg0.N) (r : Fin 256) (j : Fin 1024) :
    k0_pay13 (X0_1 m c t) (iblk m c 4 t) (ix2 r j) = (args m c).gate (row t r) (Args.q0 j) := by
  pointwise [k0_pay13, block1, block4, zero_sub, Args.gate, Args.q0]

theorem point_gate1 (c : Dev nD) (t : Fin cfg0.N) (r : Fin 256) (j : Fin 1024) :
    k0_pay15 (X0_2 m c t) (k0_pay14 (iblk m c 4 t)) (ix2 r j) = (args m c).gate (row t r) (Args.q1 j) := by
  pointwise [k0_pay15, k0_pay14, block2, block4, zero_sub, Args.gate, Args.q1]

theorem point_gate2 (c : Dev nD) (t : Fin cfg0.N) (r : Fin 256) (j : Fin 1024) :
    k0_pay16 (X0_3 m c t) (iblk m c 4 t) (ix2 r j) = (args m c).gate (row t r) (Args.q2 j) := by
  pointwise [k0_pay16, block3, block4, zero_sub, Args.gate, Args.q2]

/-- The first point is the only one that does not add to what came before. -/
theorem first_or_later (t : Fin cfg0.N) :
    (t.val % 32 = 0 ∧ ¬ 1 ≤ t.val) ∨ (¬ t.val % 32 = 0 ∧ 1 ≤ t.val) := by
  have h : t.val < 32 := t.isLt
  omega

theorem stored13_eq (c : Dev nD) (t : Fin cfg0.N) :
    (outsAt0 m c t.val t.isLt).2.1 = k0_pay25 (k0_pay7 (iblk m c 8 t)) (k0_pay13 (X0_1 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored13 (c : Dev nD) (t : Fin cfg0.N) (r : Fin 256) (j : Fin 256) :
    (outsAt0 m c t.val t.isLt).2.1 (ix2 r j) = (args m c).dso (row t r) j := by
  rw [stored13_eq]
  pointwise! [k0_pay25, k0_pay24, k0_pay7, block8, point_ys, point_ya, point_yc, point_dm, point_gate0, point_gate1, point_gate2, Args.dso, Args.dy]

theorem stored14_eq (c : Dev nD) (t : Fin cfg0.N) :
    (outsAt0 m c t.val t.isLt).2.2.1 = k0_pay31 (k0_pay8 (iblk m c 9 t)) (k0_pay15 (X0_2 m c t) (k0_pay14 (iblk m c 4 t))) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored14 (c : Dev nD) (t : Fin cfg0.N) (r : Fin 256) (j : Fin 512) :
    (outsAt0 m c t.val t.isLt).2.2.1 (ix2 r j) = (args m c).dao (row t r) j := by
  rw [stored14_eq]
  pointwise! [k0_pay31, k0_pay30, k0_pay8, block9, point_ys, point_ya, point_yc, point_dm, point_gate0, point_gate1, point_gate2, Args.dao, Args.dy]

theorem stored15_eq (c : Dev nD) (t : Fin cfg0.N) :
    (outsAt0 m c t.val t.isLt).2.2.2.1 = k0_pay6 (k0_pay9 (iblk m c 10 t)) (k0_pay16 (X0_3 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored15 (c : Dev nD) (t : Fin cfg0.N) (r : Fin 256) (j : Fin 256) :
    (outsAt0 m c t.val t.isLt).2.2.2.1 (ix2 r j) = (args m c).dco (row t r) j := by
  rw [stored15_eq]
  pointwise! [k0_pay6, k0_pay5, k0_pay9, block10, point_ys, point_ya, point_yc, point_dm, point_gate0, point_gate1, point_gate2, Args.dco, Args.dy]

theorem stored17_eq (c : Dev nD) (t : Fin cfg0.N) :
    (outsAt0 m c t.val t.isLt).2.2.2.2.2.1 = k0_pay17 (X0_2 m c t) (X0_3 m c t) (iblk m c 4 t) (k0_pay10 (iblk m c 8 t) (iblk m c 5 t)) (k0_pay11 (iblk m c 9 t) (iblk m c 6 t)) (k0_pay12 (iblk m c 10 t) (iblk m c 7 t)) (k0_pay13 (X0_1 m c t) (iblk m c 4 t)) (k0_pay14 (iblk m c 4 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored17 (c : Dev nD) (t : Fin cfg0.N) (r : Fin 256) (j : Fin 1024) :
    (outsAt0 m c t.val t.isLt).2.2.2.2.2.1 (ix2 r j) = (args m c).merged (row t r) j := by
  rw [stored17_eq]
  pointwise! [k0_pay17, point_ys, point_ya, point_yc, point_dm, point_gate0, point_gate1, point_gate2, Args.merged]

theorem stored18_eq (c : Dev nD) (t : Fin cfg0.N) :
    (outsAt0 m c t.val t.isLt).2.2.2.2.2.2.1 = k0_pay18 (iblk m c 0 t) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored18 (c : Dev nD) (t : Fin cfg0.N) (r : Fin 256) (j : Fin 1024) :
    (outsAt0 m c t.val t.isLt).2.2.2.2.2.2.1 (ix2 r j) = (args m c).dx (ix2 (row t r) j) := by
  rw [stored18_eq]
  pointwise! [k0_pay18, block0, point_ys, point_ya, point_yc, point_dm, point_gate0, point_gate1, point_gate2]

theorem stored19_eq (c : Dev nD) (t : Fin cfg0.N) :
    (outsAt0 m c t.val t.isLt).2.2.2.2.2.2.2.1 = k0_pay24 (k0_pay13 (X0_1 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored19 (c : Dev nD) (t : Fin cfg0.N) (r : Fin 256) (j : Fin 1024) :
    (outsAt0 m c t.val t.isLt).2.2.2.2.2.2.2.1 (ix2 r j) = (args m c).dy (row t r) Args.q0 j := by
  rw [stored19_eq]
  pointwise! [k0_pay24, point_ys, point_ya, point_yc, point_dm, point_gate0, point_gate1, point_gate2, Args.dy]

theorem stored20_eq (c : Dev nD) (t : Fin cfg0.N) :
    (outsAt0 m c t.val t.isLt).2.2.2.2.2.2.2.2.1 = k0_pay30 (k0_pay15 (X0_2 m c t) (k0_pay14 (iblk m c 4 t))) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored20 (c : Dev nD) (t : Fin cfg0.N) (r : Fin 256) (j : Fin 1024) :
    (outsAt0 m c t.val t.isLt).2.2.2.2.2.2.2.2.1 (ix2 r j) = (args m c).dy (row t r) Args.q1 j := by
  rw [stored20_eq]
  pointwise! [k0_pay30, point_ys, point_ya, point_yc, point_dm, point_gate0, point_gate1, point_gate2, Args.dy]

theorem stored21_eq (c : Dev nD) (t : Fin cfg0.N) :
    (outsAt0 m c t.val t.isLt).2.2.2.2.2.2.2.2.2 = k0_pay5 (k0_pay16 (X0_3 m c t) (iblk m c 4 t)) (k0_pay19 (iblk m c 0 t) (iblk m c 11 t)) := by
  funext y
  rcases first_or_later t with ⟨h0, h1⟩ | ⟨h0, h1⟩ <;>
    (first | rw [outsAt0_A m c t h0 h1 h0 h1 h0 h1] | rw [outsAt0_B m c t h0 h1 h0 h1 h0 h1]) <;> frame_out

theorem stored21 (c : Dev nD) (t : Fin cfg0.N) (r : Fin 256) (j : Fin 1024) :
    (outsAt0 m c t.val t.isLt).2.2.2.2.2.2.2.2.2 (ix2 r j) = (args m c).dy (row t r) Args.q2 j := by
  rw [stored21_eq]
  pointwise! [k0_pay5, point_ys, point_ya, point_yc, point_dm, point_gate0, point_gate1, point_gate2, Args.dy]

end Cert.BackA

end
-- ==== Proof.BackA.Arrays.lean ====
/- What the first layer's gated merge's gradient leaves in its result arrays. -/
module

public import proofs.«01_k».proof.Proof.BackA.Outputs
public import Idealize.ShloMosaic.Lib.Pipeline.ValueKit

@[expose] public section

set_option maxHeartbeats 1000000

noncomputable section

namespace Cert.BackA

open Idealize.ShloMosaic Idealize.ShloMosaic.TcCoe Idealize.SL.Sem
open Cert.Common Cert.KernelBackAIdeal Cert.KernelBackAIdeal.Gen

variable (m : (ℓ : Loc nD τ sig) → Buf (Elt Ideal) ℓ)

/-! The gates' logits' gradient: a point stores the columns of the three branches side by side. -/

theorem point_dl2 (c : Dev nD) (t : Fin cfg0.N) (r : Fin 256) (j : Fin 1024) :
    k0_pay2 (k0_pay12 (iblk m c 10 t) (iblk m c 7 t)) (k0_pay16 (X0_3 m c t) (iblk m c 4 t)) (k0_pay19 (iblk m c 0 t) (iblk m c 11 t)) (ix2 r j) = (args m c).dl (row t r) (Args.q2 j) := by
  rw [Args.dl_q2]
  pointwise! [k0_pay2, k0_pay1, point_ys, point_ya, point_yc, point_dm, point_gate0, point_gate1, point_gate2, Args.dlogit]
  try ac_rfl

theorem point_dl1 (c : Dev nD) (t : Fin cfg0.N) (r : Fin 256) (j : Fin 1024) :
    k0_pay27 (k0_pay11 (iblk m c 9 t) (iblk m c 6 t)) (k0_pay15 (X0_2 m c t) (k0_pay14 (iblk m c 4 t))) (k0_pay19 (iblk m c 0 t) (iblk m c 11 t)) (ix2 r j) = (args m c).dl (row t r) (Args.q1 j) := by
  rw [Args.dl_q1]
  pointwise! [k0_pay27, k0_pay26, point_ys, point_ya, point_yc, point_dm, point_gate0, point_gate1, point_gate2, Args.dlogit]
  try ac_rfl

theorem point_dl0 (c : Dev nD) (t : Fin cfg0.N) (r : Fin 256) (j : Fin 1024) :
    k0_pay21 (k0_pay10 (iblk m c 8 t) (iblk m c 5 t)) (k0_pay13 (X0_1 m c t) (iblk m c 4 t)) (iblk m c 0 t) (iblk m c 11 t) (ix2 r j) = (args m c).dl (row t r) (Args.q0 j) := by
  rw [Args.dl_q0]
  pointwise! [k0_pay21, k0_pay20, point_ys, point_ya, point_yc, point_dm, point_gate0, point_gate1, point_gate2, Args.dlogit]
  try ac_rfl

theorem stored12 (c : Dev nD) (t : Fin cfg0.N) (y : S256x3072.Idx) :
    (outsAt0 m c t.val t.isLt).1 y = (args m c).dl (row t (y 0)) (y 1) := by
  rcases first_or_later t with ⟨a0, a1⟩ | ⟨a0, a1⟩
  all_goals
    first | rw [outsAt0_A m c t a0 a1 a0 a1 a0 a1] | rw [outsAt0_B m c t a0 a1 a0 a1 a0 a1]
    frame_out
    canon_tiles x h
    · exact (entries (point_dl2 m c t) x).trans (congrArg₂ (fun R q => (args m c).dl R q)
        (congrArg (row t) (Fin.ext h0.symm)) (Fin.ext h1.symm))
    · exact (entries (point_dl1 m c t) x).trans (congrArg₂ (fun R q => (args m c).dl R q)
        (congrArg (row t) (Fin.ext h0.symm)) (Fin.ext h1.symm))
    · exact (entries (point_dl0 m c t) x).trans (congrArg₂ (fun R q => (args m c).dl R q)
        (congrArg (row t) (Fin.ext h0.symm)) (Fin.ext h1.symm))

/-! The gates' bias's gradient: every point adds the sums over its rows. -/

theorem point_dbg2 (c : Dev nD) (t : Fin cfg0.N) (z : Fin 1) (j : Fin 1024) :
    k0_pay3 (k0_pay12 (iblk m c 10 t) (iblk m c 7 t)) (k0_pay16 (X0_3 m c t) (iblk m c 4 t)) (k0_pay19 (iblk m c 0 t) (iblk m c 11 t)) (ix2 z j) = ∑ r : Fin 256, (args m c).dl (row t r) (Args.q2 j) := by
  simp only [← point_dl2 m c t]
  pointwise [k0_pay3, k0_pay2, k0_pay1]

theorem point_dbg2_add (c : Dev nD) (t : Fin cfg0.N) (acc : S1x1024.Idx → EReal) (z : Fin 1) (j : Fin 1024) :
    k0_pay4 (k0_pay12 (iblk m c 10 t) (iblk m c 7 t)) (k0_pay16 (X0_3 m c t) (iblk m c 4 t)) (k0_pay19 (iblk m c 0 t) (iblk m c 11 t)) acc (ix2 z j)
      = acc (ix2 z j) + ∑ r : Fin 256, (args m c).dl (row t r) (Args.q2 j) := by
  simp only [← point_dl2 m c t]
  pointwise! [k0_pay4, k0_pay3, k0_pay2, k0_pay1]

theorem point_dbg2_add_at (c : Dev nD) (t : Fin cfg0.N) (acc : S1x1024.Idx → EReal) (x : S1x1024.Idx) :
    k0_pay4 (k0_pay12 (iblk m c 10 t) (iblk m c 7 t)) (k0_pay16 (X0_3 m c t) (iblk m c 4 t)) (k0_pay19 (iblk m c 0 t) (iblk m c 11 t)) acc x
      = acc x + ∑ r : Fin 256, (args m c).dl (row t r) (Args.q2 (x 1)) := by
  rw [eq_ix2 x]
  exact point_dbg2_add m c t acc (x 0) (x 1)

theorem point_dbg1 (c : Dev nD) (t : Fin cfg0.N) (z : Fin 1) (j : Fin 1024) :
    k0_pay28 (k0_pay11 (iblk m c 9 t) (iblk m c 6 t)) (k0_pay15 (X0_2 m c t) (k0_pay14 (iblk m c 4 t))) (k0_pay19 (iblk m c 0 t) (iblk m c 11 t)) (ix2 z j) = ∑ r : Fin 256, (args m c).dl (row t r) (Args.q1 j) := by
  simp only [← point_dl1 m c t]
  pointwise [k0_pay28, k0_pay27, k0_pay26]

theorem point_dbg1_add (c : Dev nD) (t : Fin cfg0.N) (acc : S1x1024.Idx → EReal) (z : Fin 1) (j : Fin 1024) :
    k0_pay29 (k0_pay11 (iblk m c 9 t) (iblk m c 6 t)) (k0_pay15 (X0_2 m c t) (k0_pay14 (iblk m c 4 t))) (k0_pay19 (iblk m c 0 t) (iblk m c 11 t)) acc (ix2 z j)
      = acc (ix2 z j) + ∑ r : Fin 256, (args m c).dl (row t r) (Args.q1 j) := by
  simp only [← point_dl1 m c t]
  pointwise! [k0_pay29, k0_pay28, k0_pay27, k0_pay26]

theorem point_dbg1_add_at (c : Dev nD) (t : Fin cfg0.N) (acc : S1x1024.Idx → EReal) (x : S1x1024.Idx) :
    k0_pay29 (k0_pay11 (iblk m c 9 t) (iblk m c 6 t)) (k0_pay15 (X0_2 m c t) (k0_pay14 (iblk m c 4 t))) (k0_pay19 (iblk m c 0 t) (iblk m c 11 t)) acc x
      = acc x + ∑ r : Fin 256, (args m c).dl (row t r) (Args.q1 (x 1)) := by
  rw [eq_ix2 x]
  exact point_dbg1_add m c t acc (x 0) (x 1)

theorem point_dbg0 (c : Dev nD) (t : Fin cfg0.N) (z : Fin 1) (j : Fin 1024) :
    k0_pay22 (k0_pay20 (k0_pay10 (iblk m c 8 t) (iblk m c 5 t)) (k0_pay13 (X0_1 m c t) (iblk m c 4 t)) (iblk m c 0 t) (iblk m c 11 t)) (ix2 z j) = ∑ r : Fin 256, (args m c).dl (row t r) (Args.q0 j) := by
  simp only [← point_dl0 m c t]
  pointwise [k0_pay22, k0_pay21]

theorem point_dbg0_add (c : Dev nD) (t : Fin cfg0.N) (acc : S1x1024.Idx → EReal) (z : Fin 1) (j : Fin 1024) :
    k0_pay23 (k0_pay20 (k0_pay10 (iblk m c 8 t) (iblk m c 5 t)) (k0_pay13 (X0_1 m c t) (iblk m c 4 t)) (iblk m c 0 t) (iblk m c 11 t)) acc (ix2 z j)
      = acc (ix2 z j) + ∑ r : Fin 256, (args m c).dl (row t r) (Args.q0 j) := by
  simp only [← point_dl0 m c t]
  pointwise! [k0_pay23, k0_pay22, k0_pay21]

theorem point_dbg0_add_at (c : Dev nD) (t : Fin cfg0.N) (acc : S1x1024.Idx → EReal) (x : S1x1024.Idx) :
    k0_pay23 (k0_pay20 (k0_pay10 (iblk m c 8 t) (iblk m c 5 t)) (k0_pay13 (X0_1 m c t) (iblk m c 4 t)) (iblk m c 0 t) (iblk m c 11 t)) acc x
      = acc x + ∑ r : Fin 256, (args m c).dl (row t r) (Args.q0 (x 1)) := by
  rw [eq_ix2 x]
  exact point_dbg0_add m c t acc (x 0) (x 1)

/-- The first point stores its rows' sums, -/
theorem stored16_first (c : Dev nD) (t : Fin cfg0.N) (h : t.val % 32 = 0) (y : S1x3072.Idx) :
    (outsAt0 m c t.val t.isLt).2.2.2.2.1 y = 0 + ∑ r : Fin 256, (args m c).dl (row t r) (y 1) := by
  rw [zero_add]
  rcases first_or_later t with ⟨a0, a1⟩ | ⟨a0, a1⟩
  · rw [outsAt0_A m c t a0 a1 a0 a1 a0 a1]
    frame_out
    canon_tiles x h
    · rw [show y 1 = Args.q2 (x 1) from Fin.ext h1]
      exact entries (point_dbg2 m c t) x
    · rw [show y 1 = Args.q1 (x 1) from Fin.ext h1]
      exact entries (point_dbg1 m c t) x
    · rw [show y 1 = Args.q0 (x 1) from Fin.ext h1]
      exact entries (point_dbg0 m c t) x
  · exact absurd h a0

/-- and a later one adds them to what is there. -/
theorem stored16_later (c : Dev nD) (t : Fin cfg0.N) (h : ¬ t.val % 32 = 0) (y : S1x3072.Idx) :
    (outsAt0 m c t.val t.isLt).2.2.2.2.1 y
      = (outsAt0 m c (t.val - 1) (Nat.lt_of_le_of_lt (Nat.sub_le _ _) t.isLt)).2.2.2.2.1 y
        + ∑ r : Fin 256, (args m c).dl (row t r) (y 1) := by
  rcases first_or_later t with ⟨a0, a1⟩ | ⟨a0, a1⟩
  · exact absurd a0 h
  · rw [outsAt0_B m c t a0 a1 a0 a1 a0 a1]
    frame_out
    canon_tiles x h
    · rw [show y 1 = Args.q2 (x 1) from Fin.ext h1]
      refine (point_dbg2_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 2048 + 1 * (x 1).val = (y 1).val; omega
    · rw [show y 1 = Args.q1 (x 1) from Fin.ext h1]
      refine (point_dbg1_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 1024 + 1 * (x 1).val = (y 1).val; omega
    · rw [show y 1 = Args.q0 (x 1) from Fin.ext h1]
      refine (point_dbg0_add_at m c t _ x).trans (congrArg (· + _) (congrArg
        (outsAt0 m c (t.val - 1) (Nat.lt_of_le_of_lt (Nat.sub_le _ _) t.isLt)).2.2.2.2.1 (Shape.idx_ext₂ ?_ ?_)))
      · show 0 + 1 * (x 0).val = (y 0).val; omega
      · show 0 + 1 * (x 1).val = (y 1).val; omega

/-- The last point leaves the sums over all rows. -/
theorem stored16_last (c : Dev nD) (t : Fin cfg0.N) (ht : t.val + 1 = cfg0.N) (y : S1x3072.Idx) :
    (outsAt0 m c t.val t.isLt).2.2.2.2.1 y = (args m c).dbg (y 1) := by
  refine (Pipeline.eq_sum_fin_of_reset_step_apply_last (fun n h => (outsAt0 m c n h).2.2.2.2.1) 32 (fun _ => 0) _
    (fun t h j => stored16_first m c t h j) (fun t h j => stored16_later m c t h j) (Nat.le_refl 32) t ht y).trans ?_
  unfold Args.dbg
  rw [zero_add, Fin.sum_univ_tiles 32 256 rfl]
  refine Finset.sum_congr rfl fun p _ => Finset.sum_congr rfl fun r _ => ?_
  congr 1
  exact Fin.ext (by show 256 * p.val + r.val = p.val * 256 + r.val; omega)

/-! The arrays after the run. -/

theorem out12 : ∀ t : Fin cfg0.N, win0_12.index t = ![t.val, 0] := (by decide +kernel : ∀ t : Fin grid0.N, _)

theorem array12 (c : Dev nD) : (dats m 0 c).arrAt 12 cfg0.N = (args m c).dlR := by
  refine (dats m 0 c).arrAt_eq_of_covers 12 _ (by decide +kernel) fun t hf y => ?_
  blk_simp
  rw [after0_12]
  refine (stored12 m c t y).trans ?_
  refine congrArg₂ (fun R q => (args m c).dl R q) (Fin.ext ?_) (Fin.ext ?_) <;> blk_simp [out12 t]
  show 256 * t.val + _ = t.val * 256 + _
  omega

theorem out13 : ∀ t : Fin cfg0.N, win0_13.index t = ![t.val, 0] := (by decide +kernel : ∀ t : Fin grid0.N, _)

theorem array13 (c : Dev nD) : (dats m 0 c).arrAt 13 cfg0.N = (args m c).dsoR := by
  refine (dats m 0 c).arrAt_eq_of_covers 13 _ (by decide +kernel) fun t hf y => ?_
  blk_simp
  rw [after0_13]
  refine (entries (stored13 m c t) y).trans ?_
  refine congrArg₂ (fun R j => (args m c).dso R j) (Fin.ext ?_) (Fin.ext ?_) <;> blk_simp [out13 t]
  show 256 * t.val + _ = t.val * 256 + _
  omega

theorem out14 : ∀ t : Fin cfg0.N, win0_14.index t = ![t.val, 0] := (by decide +kernel : ∀ t : Fin grid0.N, _)

theorem array14 (c : Dev nD) : (dats m 0 c).arrAt 14 cfg0.N = (args m c).daoR := by
  refine (dats m 0 c).arrAt_eq_of_covers 14 _ (by decide +kernel) fun t hf y => ?_
  blk_simp
  rw [after0_14]
  refine (entries (stored14 m c t) y).trans ?_
  refine congrArg₂ (fun R j => (args m c).dao R j) (Fin.ext ?_) (Fin.ext ?_) <;> blk_simp [out14 t]
  show 256 * t.val + _ = t.val * 256 + _
  omega

theorem out15 : ∀ t : Fin cfg0.N, win0_15.index t = ![t.val, 0] := (by decide +kernel : ∀ t : Fin grid0.N, _)

theorem array15 (c : Dev nD) : (dats m 0 c).arrAt 15 cfg0.N = (args m c).dcoR := by
  refine (dats m 0 c).arrAt_eq_of_covers 15 _ (by decide +kernel) fun t hf y => ?_
  blk_simp
  rw [after0_15]
  refine (entries (stored15 m c t) y).trans ?_
  refine congrArg₂ (fun R j => (args m c).dco R j) (Fin.ext ?_) (Fin.ext ?_) <;> blk_simp [out15 t]
  show 256 * t.val + _ = t.val * 256 + _
  omega

theorem out16 : ∀ t : Fin cfg0.N, win0_16.index t = ![0, 0] := (by decide +kernel : ∀ t : Fin grid0.N, _)

theorem array16 (c : Dev nD) : (dats m 0 c).arrAt 16 cfg0.N = (args m c).dbgR := by
  refine (dats m 0 c).arrAt_eq_of_covers 16 _ (by decide +kernel) fun t hf y => ?_
  blk_simp
  rw [after0_16]
  have ht : t.val % 32 = 31 := (flush0_16 t).mp hf
  have hN : t.val < 32 := t.isLt
  refine (stored16_last m c t (by show t.val + 1 = 32; omega) y).trans ?_
  unfold Args.dbgR
  congr 1
  refine Fin.ext ?_
  blk_simp [out16 t]
theorem out17 : ∀ t : Fin cfg0.N, win0_17.index t = ![t.val, 0] := (by decide +kernel : ∀ t : Fin grid0.N, _)

theorem array17 (c : Dev nD) : (dats m 0 c).arrAt 17 cfg0.N = (args m c).mergedR := by
  refine (dats m 0 c).arrAt_eq_of_covers 17 _ (by decide +kernel) fun t hf y => ?_
  blk_simp
  rw [after0_17]
  refine (entries (stored17 m c t) y).trans ?_
  refine congrArg₂ (fun R j => (args m c).merged R j) (Fin.ext ?_) (Fin.ext ?_) <;> blk_simp [out17 t]
  show 256 * t.val + _ = t.val * 256 + _
  omega

theorem out18 : ∀ t : Fin cfg0.N, win0_18.index t = ![t.val, 0] := (by decide +kernel : ∀ t : Fin grid0.N, _)

theorem array18 (c : Dev nD) : (dats m 0 c).arrAt 18 cfg0.N = (args m c).dxR := by
  refine (dats m 0 c).arrAt_eq_of_covers 18 _ (by decide +kernel) fun t hf y => ?_
  blk_simp
  rw [after0_18]
  refine (entries (stored18 m c t) y).trans ?_
  refine Eq.trans ?_ (congrArg (args m c).dx (eq_ix2 _).symm)
  refine congrArg₂ (fun R j => (args m c).dx (ix2 R j)) (Fin.ext ?_) (Fin.ext ?_) <;> blk_simp [out18 t]
  show 256 * t.val + _ = t.val * 256 + _
  omega

theorem out19 : ∀ t : Fin cfg0.N, win0_19.index t = ![t.val, 0] := (by decide +kernel : ∀ t : Fin grid0.N, _)

theorem array19 (c : Dev nD) : (dats m 0 c).arrAt 19 cfg0.N = (args m c).dysR := by
  refine (dats m 0 c).arrAt_eq_of_covers 19 _ (by decide +kernel) fun t hf y => ?_
  blk_simp
  rw [after0_19]
  refine (entries (stored19 m c t) y).trans ?_
  refine congrArg₂ (fun R j => (args m c).dy R Args.q0 j) (Fin.ext ?_) (Fin.ext ?_) <;> blk_simp [out19 t]
  show 256 * t.val + _ = t.val * 256 + _
  omega

theorem out20 : ∀ t : Fin cfg0.N, win0_20.index t = ![t.val, 0] := (by decide +kernel : ∀ t : Fin grid0.N, _)

theorem array20 (c : Dev nD) : (dats m 0 c).arrAt 20 cfg0.N = (args m c).dyaR := by
  refine (dats m 0 c).arrAt_eq_of_covers 20 _ (by decide +kernel) fun t hf y => ?_
  blk_simp
  rw [after0_20]
  refine (entries (stored20 m c t) y).trans ?_
  refine congrArg₂ (fun R j => (args m c).dy R Args.q1 j) (Fin.ext ?_) (Fin.ext ?_) <;> blk_simp [out20 t]
  show 256 * t.val + _ = t.val * 256 + _
  omega

theorem out21 : ∀ t : Fin cfg0.N, win0_21.index t = ![t.val, 0] := (by decide +kernel : ∀ t : Fin grid0.N, _)

theorem array21 (c : Dev nD) : (dats m 0 c).arrAt 21 cfg0.N = (args m c).dycR := by
  refine (dats m 0 c).arrAt_eq_of_covers 21 _ (by decide +kernel) fun t hf y => ?_
  blk_simp
  rw [after0_21]
  refine (entries (stored21 m c t) y).trans ?_
  refine congrArg₂ (fun R j => (args m c).dy R Args.q2 j) (Fin.ext ?_) (Fin.ext ?_) <;> blk_simp [out21 t]
  show 256 * t.val + _ = t.val * 256 + _
  omega

end Cert.BackA

end
-- ==== Proof.BackA.Reference.lean ====
/- The reference of the first layer's gated merge's gradient computes the entries of Spec. -/
module

public import proofs.«01_k».proof.Proof.Gen.ReferenceBackAIdeal.Read
public import proofs.«01_k».proof.Proof.BackA.Spec

@[expose] public section

noncomputable section

namespace Cert.BackA

open Idealize.ShloMosaic Cert.Common Cert.ReferenceBackAIdeal Cert.ReferenceBackAIdeal.Read

variable (a : Args)

/-- The gates of the reference. -/
theorem ref_gate (R : Fin 8192) (q : Fin 3072) : val_main_v23 (F := Ideal) a.proj a.bg (ix2 R q) = a.gate R q := by
  pointwise [val_main_v23, val_main_v22, val_main_v21, val_main_v20, val_main_v19, val_main_v18, val_main_v17,
    val_main_v16, val_main_v15, val_main_cst, val_main_cst_0, Args.gate]

theorem ref_ys (R : Fin 8192) (j : Fin 1024) : val_main_v12 (F := Ideal) a.so a.ws (ix2 R j) = a.ys R j := by
  pointwise [val_main_v12, val_main_v2, val_main_v1, val_main_v0, Args.ys]

theorem ref_ya (R : Fin 8192) (j : Fin 1024) : val_main_v13 (F := Ideal) a.ao a.wa (ix2 R j) = a.ya R j := by
  pointwise [val_main_v13, val_main_v5, val_main_v4, val_main_v3, Args.ya]

theorem ref_yc (R : Fin 8192) (j : Fin 1024) : val_main_v14 (F := Ideal) a.co a.wc (ix2 R j) = a.yc R j := by
  pointwise [val_main_v14, val_main_v8, val_main_v7, val_main_v6, Args.yc]

theorem ref_dm (R : Fin 8192) (j : Fin 1024) : val_main_v36 (F := Ideal) a.dx a.wo (ix2 R j) = a.dm R j := by
  pointwise [val_main_v36, val_main_v11, val_main_v10, val_main_v9, Args.dm]

theorem ref_merged (R : Fin 8192) (j : Fin 1024) :
    val_main_v51 (F := Ideal) a.proj a.bg a.so a.ao a.co a.ws a.wa a.wc (ix2 R j) = a.merged R j := by
  pointwise [val_main_v51, val_main_v34, val_main_v33, val_main_v32, val_main_v31, val_main_v30, val_main_v29,
    val_main_v28, val_main_v27, ref_gate, ref_ys, ref_ya, ref_yc, Args.merged, Args.q0, Args.q1, Args.q2]

theorem ref_dys (R : Fin 8192) (j : Fin 1024) :
    val_main_v41 (F := Ideal) a.dx a.proj a.bg a.wo (ix2 R j) = a.dy R Args.q0 j := by
  pointwise [val_main_v41, val_main_v27, ref_gate, ref_dm, Args.dy, Args.q0]

theorem ref_dya (R : Fin 8192) (j : Fin 1024) :
    val_main_v39 (F := Ideal) a.dx a.proj a.bg a.wo (ix2 R j) = a.dy R Args.q1 j := by
  pointwise [val_main_v39, val_main_v28, ref_gate, ref_dm, Args.dy, Args.q1]

theorem ref_dyc (R : Fin 8192) (j : Fin 1024) :
    val_main_v37 (F := Ideal) a.dx a.proj a.bg a.wo (ix2 R j) = a.dy R Args.q2 j := by
  pointwise [val_main_v37, val_main_v29, ref_gate, ref_dm, Args.dy, Args.q2]

theorem ref_dso (R : Fin 8192) (k : Fin 256) :
    val_main_v48 (F := Ideal) a.dx a.proj a.bg a.ws a.wo (ix2 R k) = a.dso R k := by
  pointwise [val_main_v48, val_main_v2, val_main_v1, val_main_v0, ref_dys, Args.dso]

theorem ref_dao (R : Fin 8192) (k : Fin 512) :
    val_main_v49 (F := Ideal) a.dx a.proj a.bg a.wa a.wo (ix2 R k) = a.dao R k := by
  pointwise [val_main_v49, val_main_v5, val_main_v4, val_main_v3, ref_dya, Args.dao]

theorem ref_dco (R : Fin 8192) (k : Fin 256) :
    val_main_v50 (F := Ideal) a.dx a.proj a.bg a.wc a.wo (ix2 R k) = a.dco R k := by
  pointwise [val_main_v50, val_main_v8, val_main_v7, val_main_v6, ref_dyc, Args.dco]

/-- The gradient of the gates' logits, before it is cast. -/
theorem ref_dl (R : Fin 8192) (q : Fin 3072) :
    val_main_v44 (F := Ideal) a.dx a.proj a.bg a.so a.ao a.co a.ws a.wa a.wc a.wo (ix2 R q) = a.dl R q := by
  pointwise [val_main_v44, val_main_v43, val_main_v42, val_main_v40, val_main_v38, val_main_v26, val_main_v25,
    val_main_v24, val_main_cst_1, ref_gate, ref_ys, ref_ya, ref_yc, ref_dm, Args.dl, Args.dlogit, Value.fn_main_v43]
  by_cases h : q.val < 1024
  · rw [dif_pos h, dif_pos h]
  · by_cases h' : q.val < 2048
    · rw [dif_neg h, dif_neg h, dif_pos (by omega : q.val - 1024 < 1024), dif_pos h']
    · rw [dif_neg h, dif_neg h, dif_neg (by omega : ¬ q.val - 1024 < 1024), dif_neg h']
      simp only [Nat.sub_sub]

theorem ref_dbg (q : Fin 3072) :
    val_main_v46 (F := Ideal) a.dx a.proj a.bg a.so a.ao a.co a.ws a.wa a.wc a.wo (ix2 0 q) = a.dbg q := by
  pointwise [val_main_v46, val_main_v45, val_main_cst_2, ref_dl, Args.dbg]

/-! The same, cast. -/

theorem ref_dl_cast (R : Fin 8192) (q : Fin 3072) :
    val_main_v47 (F := Ideal) a.dx a.proj a.bg a.so a.ao a.co a.ws a.wa a.wc a.wo (ix2 R q) = a.dl R q := by
  pointwise [val_main_v47, ref_dl]

theorem ref_dx (R : Fin 8192) (j : Fin 1024) : val_main_v52 (F := Ideal) a.dx (ix2 R j) = a.dx (ix2 R j) := by
  pointwise [val_main_v52]

theorem ref_dys_cast (R : Fin 8192) (j : Fin 1024) :
    val_main_v53 (F := Ideal) a.dx a.proj a.bg a.wo (ix2 R j) = a.dy R Args.q0 j := by
  pointwise [val_main_v53, ref_dys]

theorem ref_dya_cast (R : Fin 8192) (j : Fin 1024) :
    val_main_v54 (F := Ideal) a.dx a.proj a.bg a.wo (ix2 R j) = a.dy R Args.q1 j := by
  pointwise [val_main_v54, ref_dya]

theorem ref_dyc_cast (R : Fin 8192) (j : Fin 1024) :
    val_main_v55 (F := Ideal) a.dx a.proj a.bg a.wo (ix2 R j) = a.dy R Args.q2 j := by
  pointwise [val_main_v55, ref_dyc]

end Cert.BackA

end
-- ==== Proof.BackA.Claim.lean ====
/- The first layer's gated merge's gradient: the kernel and the reference end with the same arrays. -/
module

public import proofs.«01_k».proof.Defs
public import proofs.«01_k».proof.Proof.Gen.ReferenceBackAIdeal.Read
public import proofs.«01_k».proof.Proof.BackA.Arrays
public import proofs.«01_k».proof.Proof.BackA.Reference
public import Idealize.ShloMosaic.Lib.Quiescent

@[expose] public section

set_option maxHeartbeats 1000000

noncomputable section

namespace Cert.BackA

open Idealize.ShloMosaic Idealize.ShloMosaic.TcCoe Idealize.SL.Sem Cert.Common

section
open ReferenceBackAIdeal ReferenceBackAIdeal.Read

/-- The arrays a device of the reference is given. -/
def refArgs (m : (ℓ : Loc nD τ sig) → Buf (Elt Ideal) ℓ) (c : Dev nD) : Args where
  dx := m ((c : Thread nD τ).loc main_arg0)
  proj := m ((c : Thread nD τ).loc main_arg1)
  bg := m ((c : Thread nD τ).loc main_arg2)
  so := m ((c : Thread nD τ).loc main_arg3)
  ao := m ((c : Thread nD τ).loc main_arg4)
  co := m ((c : Thread nD τ).loc main_arg5)
  ws := m ((c : Thread nD τ).loc main_arg6)
  wa := m ((c : Thread nD τ).loc main_arg7)
  wc := m ((c : Thread nD τ).loc main_arg8)
  wo := m ((c : Thread nD τ).loc main_arg9)

theorem ref_out0 (a : Args) : val_main_v47 (F := Ideal) a.dx a.proj a.bg a.so a.ao a.co a.ws a.wa a.wc a.wo = a.dlR := by
  funext i
  rw [eq_ix2 i]
  exact ref_dl_cast a (i 0) (i 1)

theorem ref_out1 (a : Args) : val_main_v48 (F := Ideal) a.dx a.proj a.bg a.ws a.wo = a.dsoR := by
  funext i
  rw [eq_ix2 i]
  exact ref_dso a (i 0) (i 1)

theorem ref_out2 (a : Args) : val_main_v49 (F := Ideal) a.dx a.proj a.bg a.wa a.wo = a.daoR := by
  funext i
  rw [eq_ix2 i]
  exact ref_dao a (i 0) (i 1)

theorem ref_out3 (a : Args) : val_main_v50 (F := Ideal) a.dx a.proj a.bg a.wc a.wo = a.dcoR := by
  funext i
  rw [eq_ix2 i]
  exact ref_dco a (i 0) (i 1)

theorem ref_out4 (a : Args) : val_main_v46 (F := Ideal) a.dx a.proj a.bg a.so a.ao a.co a.ws a.wa a.wc a.wo = a.dbgR := by
  funext i
  rw [eq_ix2 i]
  exact (congrArg (fun z => val_main_v46 (F := Ideal) _ _ _ _ _ _ _ _ _ _ (ix2 z (i 1))) (Subsingleton.elim (α := Fin 1) _ 0)).trans (ref_dbg a (i 1))

theorem ref_out5 (a : Args) : val_main_v51 (F := Ideal) a.proj a.bg a.so a.ao a.co a.ws a.wa a.wc = a.mergedR := by
  funext i
  rw [eq_ix2 i]
  exact ref_merged a (i 0) (i 1)

theorem ref_out6 (a : Args) : val_main_v52 (F := Ideal) a.dx = a.dxR := by
  funext i
  rw [eq_ix2 i]
  exact ref_dx a (i 0) (i 1)

theorem ref_out7 (a : Args) : val_main_v53 (F := Ideal) a.dx a.proj a.bg a.wo = a.dysR := by
  funext i
  rw [eq_ix2 i]
  exact ref_dys_cast a (i 0) (i 1)

theorem ref_out8 (a : Args) : val_main_v54 (F := Ideal) a.dx a.proj a.bg a.wo = a.dyaR := by
  funext i
  rw [eq_ix2 i]
  exact ref_dya_cast a (i 0) (i 1)

theorem ref_out9 (a : Args) : val_main_v55 (F := Ideal) a.dx a.proj a.bg a.wo = a.dycR := by
  funext i
  rw [eq_ix2 i]
  exact ref_dyc_cast a (i 0) (i 1)

end

/-- The reference's run leaves its arguments alone and every counter at zero. -/
theorem reference_frame : quiescent_ReferenceBackAIdeal (hReferenceBackAIdeal := ReferenceBackAIdeal.Gen.facts) := fun m g _ =>
  (θ_run _ _ _).mono (fun r h => ⟨fun c => (h c).2.2.2.2.2.2.2.2.2.2, sem_eq_zero_of_no_sems (by decide) _⟩) (ReferenceBackAIdeal.Value.run m g)

open KernelBackAIdeal KernelBackAIdeal.Gen ReferenceBackAIdeal.Read in
/-- At the same arguments, the kernel's run ends with the arrays of the specification, and so does the reference's. -/
theorem same : algebraic_KernelBackAIdeal_ReferenceBackAIdeal (hKernelBackAIdeal := KernelBackAIdeal.Gen.facts) (hReferenceBackAIdeal := ReferenceBackAIdeal.Gen.facts) := by
  intro m g m' g' _ hagree
  have e : ∀ c, refArgs m' c = args m c := fun c => by
    unfold refArgs args
    simp only [hagree c]
  refine ⟨fun c => (args m c).dlR, fun c => (args m c).dsoR, fun c => (args m c).daoR, fun c => (args m c).dcoR, fun c => (args m c).dbgR, fun c => (args m c).mergedR, fun c => (args m c).dxR, fun c => (args m c).dysR, fun c => (args m c).dyaR, fun c => (args m c).dycR, ?_, ?_⟩
  · exact (θ_run _ _ _).mono (fun r h c => by
      have h := h c
      rw [array12, array13, array14, array15, array16, array17, array18, array19, array20, array21] at h
      exact h) (KernelBackAIdeal.Value.run_blocks m g)
  · exact (θ_run _ _ _).mono (fun r h c => by
      obtain ⟨h0, h1, h2, h3, h4, h5, h6, h7, h8, h9, ha⟩ := h c
      exact ⟨(h0.trans (val_main_v47_eq ..)).trans ((ref_out0 (refArgs m' c)).trans (congrArg Args.dlR (e c))),
      (h1.trans (val_main_v48_eq ..)).trans ((ref_out1 (refArgs m' c)).trans (congrArg Args.dsoR (e c))),
      (h2.trans (val_main_v49_eq ..)).trans ((ref_out2 (refArgs m' c)).trans (congrArg Args.daoR (e c))),
      (h3.trans (val_main_v50_eq ..)).trans ((ref_out3 (refArgs m' c)).trans (congrArg Args.dcoR (e c))),
      (h4.trans (val_main_v46_eq ..)).trans ((ref_out4 (refArgs m' c)).trans (congrArg Args.dbgR (e c))),
      (h5.trans (val_main_v51_eq ..)).trans ((ref_out5 (refArgs m' c)).trans (congrArg Args.mergedR (e c))),
      (h6.trans (val_main_v52_eq ..)).trans ((ref_out6 (refArgs m' c)).trans (congrArg Args.dxR (e c))),
      (h7.trans (val_main_v53_eq ..)).trans ((ref_out7 (refArgs m' c)).trans (congrArg Args.dysR (e c))),
      (h8.trans (val_main_v54_eq ..)).trans ((ref_out8 (refArgs m' c)).trans (congrArg Args.dyaR (e c))),
      (h9.trans (val_main_v55_eq ..)).trans ((ref_out9 (refArgs m' c)).trans (congrArg Args.dycR (e c))), ha⟩) (ReferenceBackAIdeal.Value.run m' g')

end Cert.BackA

end
-- ==== Proof.ProjA.Kernel.lean ====
/- The backward pass of the norm and the input product of the first layer: what the kernel leaves in its result arrays. -/
module

public import proofs.«01_k».proof.Proof.Gen.KernelProjAIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.ProjA

open Idealize.ShloMosaic Idealize.ShloMosaic.TcCoe Idealize.SL.Sem
open Cert.Common Cert.Norm

/-- The arrays the call is given: the projection's gradient, the gradient that passes the layer by, the rows, the norm's gain and
    the weights of both layers. -/
structure Args where
  dp : Mat 8192 5376
  dres : Mat 8192 1024
  x : Mat 8192 1024
  g : Mat 1 1024
  w : Cube 2 1024 5376

namespace Args
variable (a : Args) (R : Fin 8192)

/-- The gradient of the norm's rows. -/
def dh (k : Fin 1024) : EReal := ∑ q : Fin 5376, a.dp (ix2 R q) * a.w (ix3 0 k q)

/-- It, times the gain. -/
def dn (k : Fin 1024) : EReal := a.dh R k * a.g (ix2 0 k)

/-- The mean, over a row, of the last times the rows before the gain. -/
def mean : EReal := Ideal.div (∑ k : Fin 1024, a.dn R k * (a.x (ix2 R k) * scale a.x R)) (Ideal.ofBits .f32 0x44800000#32)

/-- The gradient of the rows. -/
def dx : Mat 8192 1024 := fun i =>
  a.dres (ix2 (i 0) (i 1)) + scale a.x (i 0) * (a.dn (i 0) (i 1) - a.x (ix2 (i 0) (i 1)) * scale a.x (i 0) * a.mean (i 0))

/-- The gradient of the gain. -/
def dgain (k : Fin 1024) : EReal := ∑ R : Fin 8192, a.dh R k * (a.x (ix2 R k) * scale a.x R)

def dg : Mat 1 1024 := fun i => a.dgain (i 1)

/-- The rows after the norm. -/
def h : Mat 8192 1024 := fun i => normed a.x a.g (i 0) (i 1)

end Args

open Cert.KernelProjAIdeal Cert.KernelProjAIdeal.Gen

variable (m : (ℓ : Loc nD τ sig) → Buf (Elt Ideal) ℓ)

/-- The arrays a device is given. -/
def args (c : Dev nD) : Args where
  dp := m ((c : Thread nD τ).loc main_arg0)
  dres := m ((c : Thread nD τ).loc main_arg1)
  x := m ((c : Thread nD τ).loc main_arg2)
  g := m ((c : Thread nD τ).loc main_arg3)
  w := m ((c : Thread nD τ).loc main_arg4)

/-- Row `n` of the blocks of point `t`. -/
def row (t : Fin cfg0.N) (n : Fin 512) : Fin 8192 := ⟨512 * t.val + n.val, by have h : t.val < 16 := t.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem block0 (c : Dev nD) (t : Fin cfg0.N) (n : Fin 512) (q : Fin 5376) :
    iblk m c 0 t (ix2 n q) = (args m c).dp (ix2 (row t n) q) := by
  blk_ext [iblk, V, index0 t]
  show t.val * 512 + n.val = 512 * t.val + n.val
  omega

theorem block1 (c : Dev nD) (t : Fin cfg0.N) (n : Fin 512) (k : Fin 1024) :
    iblk m c 1 t (ix2 n k) = (args m c).dres (ix2 (row t n) k) := by
  blk_ext [iblk, V, index1 t]
  show t.val * 512 + n.val = 512 * t.val + n.val
  omega

theorem block2 (c : Dev nD) (t : Fin cfg0.N) (n : Fin 512) (k : Fin 1024) :
    iblk m c 2 t (ix2 n k) = (args m c).x (ix2 (row t n) k) := by
  blk_ext [iblk, V, index2 t]
  show t.val * 512 + n.val = 512 * t.val + n.val
  omega

theorem block3 (c : Dev nD) (t : Fin cfg0.N) (z : Fin 1) (k : Fin 1024) :
    iblk m c 3 t (ix2 z k) = (args m c).g (ix2 0 k) := by
  blk_ext [iblk, V, index3 t]

theorem block4 (c : Dev nD) (t : Fin cfg0.N) (z : Fin 1) (k : Fin 1024) (q : Fin 5376) :
    iblk m c 4 t (ix3 z k q) = (args m c).w (ix3 0 k q) := by
  blk_ext [iblk, V, index4 t]

/-! What a point computes, at an entry. -/

theorem point_dh (c : Dev nD) (t : Fin cfg0.N) (n : Fin 512) (k : Fin 1024) :
    k0_pay3 (iblk m c 0 t) (iblk m c 4 t) (ix2 n k) = (args m c).dh (row t n) k := by
  pointwise [k0_pay3, block0, block4, Args.dh]

theorem point_scale (c : Dev nD) (t : Fin cfg0.N) (n : Fin 512) (z : Fin 1) :
    k0_pay4 (iblk m c 2 t) (ix2 n z) = scale (args m c).x (row t n) := by
  pointwise [k0_pay4, block2, scale, eps]

theorem point_x (c : Dev nD) (t : Fin cfg0.N) (n : Fin 512) (k : Fin 1024) :
    k0_pay5 (iblk m c 2 t) (ix2 n k) = (args m c).x (ix2 (row t n) k) * scale (args m c).x (row t n) := by
  pointwise [k0_pay5, block2, point_scale]

theorem point_h (c : Dev nD) (t : Fin cfg0.N) (n : Fin 512) (k : Fin 1024) :
    k0_pay6 (iblk m c 3 t) (iblk m c 2 t) (ix2 n k) = normed (args m c).x (args m c).g (row t n) k := by
  pointwise [k0_pay6, block3, point_x, normed]

theorem point_h_at (c : Dev nD) (t : Fin cfg0.N) (y : S512x1024.Idx) :
    k0_pay6 (iblk m c 3 t) (iblk m c 2 t) y = normed (args m c).x (args m c).g (row t (y 0)) (y 1) := by
  rw [eq_ix2 y]
  exact point_h m c t (y 0) (y 1)

theorem point_dhx (c : Dev nD) (t : Fin cfg0.N) (n : Fin 512) (k : Fin 1024) :
    k0_pay7 (iblk m c 0 t) (iblk m c 4 t) (iblk m c 2 t) (ix2 n k)
      = (args m c).dh (row t n) k * ((args m c).x (ix2 (row t n) k) * scale (args m c).x (row t n)) := by
  pointwise [k0_pay7, point_dh, point_x]

theorem point_dx (c : Dev nD) (t : Fin cfg0.N) (n : Fin 512) (k : Fin 1024) :
    k0_pay8 (iblk m c 0 t) (iblk m c 4 t) (iblk m c 3 t) (iblk m c 2 t) (iblk m c 1 t) (ix2 n k)
      = (args m c).dx (ix2 (row t n) k) := by
  pointwise [k0_pay8, point_dh, point_x, point_scale, block3, block1, Args.dx, Args.mean, Args.dn]

theorem point_dx_at (c : Dev nD) (t : Fin cfg0.N) (y : S512x1024.Idx) :
    k0_pay8 (iblk m c 0 t) (iblk m c 4 t) (iblk m c 3 t) (iblk m c 2 t) (iblk m c 1 t) y
      = (args m c).dx (ix2 (row t (y 0)) (y 1)) := by
  rw [eq_ix2 y]
  exact point_dx m c t (y 0) (y 1)

/-- The part of the gain's gradient that a point's rows give. -/
def part (c : Dev nD) (t : ℕ) (ht : t < cfg0.N) (k : Fin 1024) : EReal :=
  ∑ n : Fin 512, (args m c).dh (row ⟨t, ht⟩ n) k * ((args m c).x (ix2 (row ⟨t, ht⟩ n) k) * scale (args m c).x (row ⟨t, ht⟩ n))

theorem point_dg (c : Dev nD) (t : Fin cfg0.N) (z : Fin 1) (k : Fin 1024) :
    k0_pay1 (k0_pay7 (iblk m c 0 t) (iblk m c 4 t) (iblk m c 2 t)) (ix2 z k) = part m c t.val t.isLt k := by
  pointwise [k0_pay1, point_dhx, part]

theorem point_dg_at (c : Dev nD) (t : Fin cfg0.N) (y : S1x1024.Idx) :
    k0_pay1 (k0_pay7 (iblk m c 0 t) (iblk m c 4 t) (iblk m c 2 t)) y = part m c t.val t.isLt (y 1) := by
  rw [eq_ix2 y]
  exact point_dg m c t (y 0) (y 1)

theorem point_dg_add (c : Dev nD) (t : Fin cfg0.N) (acc : S1x1024.Idx → EReal) (z : Fin 1) (k : Fin 1024) :
    k0_pay2 (k0_pay7 (iblk m c 0 t) (iblk m c 4 t) (iblk m c 2 t)) acc (ix2 z k)
      = acc (ix2 z k) + part m c t.val t.isLt k := by
  pointwise [k0_pay2, point_dg]

theorem point_dg_add_at (c : Dev nD) (t : Fin cfg0.N) (acc : S1x1024.Idx → EReal) (y : S1x1024.Idx) :
    k0_pay2 (k0_pay7 (iblk m c 0 t) (iblk m c 4 t) (iblk m c 2 t)) acc y
      = acc y + part m c t.val t.isLt (y 1) := by
  rw [eq_ix2 y]
  exact point_dg_add m c t acc (y 0) (y 1)

/-! What a point stores. -/

theorem first_or_later (t : Fin cfg0.N) : (t.val % 16 = 0 ∧ ¬ 1 ≤ t.val) ∨ (¬ t.val % 16 = 0 ∧ 1 ≤ t.val) := by
  have h : t.val < 16 := t.isLt
  omega

theorem stored5 (c : Dev nD) (t : Fin cfg0.N) (y : S512x1024.Idx) :
    (outsAt0 m c t.val t.isLt).1 y = (args m c).dx (ix2 (row t (y 0)) (y 1)) := by
  rcases first_or_later t with ⟨h0, h1⟩ | ⟨h0, h1⟩
  · rw [outsAt0_A m c t h0 h1]
    frame_out
    exact point_dx_at m c t y
  · rw [outsAt0_B m c t h0 h1]
    frame_out
    exact point_dx_at m c t y

theorem stored7 (c : Dev nD) (t : Fin cfg0.N) (y : S512x1024.Idx) :
    (outsAt0 m c t.val t.isLt).2.2 y = normed (args m c).x (args m c).g (row t (y 0)) (y 1) := by
  rcases first_or_later t with ⟨h0, h1⟩ | ⟨h0, h1⟩
  · rw [outsAt0_A m c t h0 h1]
    frame_out
    exact point_h_at m c t y
  · rw [outsAt0_B m c t h0 h1]
    frame_out
    exact point_h_at m c t y

/-- The first point leaves its own part of the gain's gradient, -/
theorem stored6_first (c : Dev nD) (t : Fin cfg0.N) (h : t.val % 16 = 0) (y : S1x1024.Idx) :
    (outsAt0 m c t.val t.isLt).2.1 y = 0 + part m c t.val t.isLt (y 1) := by
  rw [zero_add]
  rcases first_or_later t with ⟨h0, h1⟩ | ⟨h0, h1⟩
  · rw [outsAt0_A m c t h0 h1]
    frame_out
    exact point_dg_at m c t y
  · exact absurd h h0

/-- and a later one adds its part to what is there. -/
theorem stored6_later (c : Dev nD) (t : Fin cfg0.N) (h : ¬ t.val % 16 = 0) (y : S1x1024.Idx) :
    (outsAt0 m c t.val t.isLt).2.1 y
      = (outsAt0 m c (t.val - 1) (Nat.lt_of_le_of_lt (Nat.sub_le _ _) t.isLt)).2.1 y + part m c t.val t.isLt (y 1) := by
  rcases first_or_later t with ⟨h0, h1⟩ | ⟨h0, h1⟩
  · exact absurd h0 h
  · rw [outsAt0_B m c t h0 h1]
    frame_out
    exact point_dg_add_at m c t _ y

/-- The last point leaves the sums over all rows. -/
theorem stored6_last (c : Dev nD) (t : Fin cfg0.N) (ht : t.val + 1 = cfg0.N) (y : S1x1024.Idx) :
    (outsAt0 m c t.val t.isLt).2.1 y = (args m c).dgain (y 1) := by
  refine (Pipeline.eq_sum_fin_of_reset_step_apply_last (fun n h => (outsAt0 m c n h).2.1) 16 (fun _ => 0) _
    (fun t h j => stored6_first m c t h j) (fun t h j => stored6_later m c t h j) (Nat.le_refl 16) t ht y).trans ?_
  unfold Args.dgain
  rw [zero_add, Fin.sum_univ_tiles 16 512 rfl]
  refine Finset.sum_congr rfl fun p _ => ?_
  unfold part
  refine Finset.sum_congr rfl fun r _ => ?_
  have e : row ⟨p.val, p.isLt⟩ r = (⟨p.val * 512 + r.val, by have hp : p.val < 16 := p.isLt; omega⟩ : Fin 8192) :=
    Fin.ext (by show 512 * p.val + r.val = p.val * 512 + r.val; omega)
  rw [e]

/-! The arrays after the run. -/

theorem array5 (c : Dev nD) : (dats m 0 c).arrAt 5 cfg0.N = (args m c).dx := by
  refine (dats m 0 c).arrAt_eq_of_covers 5 _ (by decide +kernel) fun t hf y => ?_
  blk_simp
  rw [after0_5]
  refine (stored5 m c t y).trans ?_
  congr 1
  refine Shape.idx_ext₂ ?_ ?_
  · blk_simp [index5 t]
    show 512 * t.val + _ = t.val * 512 + _
    omega
  · blk_simp [index5 t]

theorem array6 (c : Dev nD) : (dats m 0 c).arrAt 6 cfg0.N = (args m c).dg := by
  refine (dats m 0 c).arrAt_eq_of_covers 6 _ (by decide +kernel) fun t hf y => ?_
  blk_simp
  rw [after0_6]
  have ht : t.val % 16 = 15 := (flush0_6 t).mp hf
  have hN : t.val < 16 := t.isLt
  refine (stored6_last m c t (by show t.val + 1 = 16; omega) y).trans ?_
  unfold Args.dg
  congr 1
  refine Fin.ext ?_
  blk_simp [index6 t]

theorem array7 (c : Dev nD) : (dats m 0 c).arrAt 7 cfg0.N = (args m c).h := by
  refine (dats m 0 c).arrAt_eq_of_covers 7 _ (by decide +kernel) fun t hf y => ?_
  blk_simp
  rw [after0_7]
  refine (stored7 m c t y).trans ?_
  refine congrArg₂ (normed (args m c).x (args m c).g) (Fin.ext ?_) (Fin.ext ?_)
  · blk_simp [index7 t]
    show 512 * t.val + _ = t.val * 512 + _
    omega
  · blk_simp [index7 t]

end Cert.ProjA

end
-- ==== Proof.NormBack.lean ====
/- The derivative of the norm, entry by entry: two ways of writing it are equal on all extended reals. -/
module

public import Idealize.ShloMosaic.Lib.Pointwise
public import proofs.«01_k».proof.Proof.Norm

@[expose] public section

noncomputable section

namespace Cert.Norm

open Idealize.ShloMosaic Cert.Common

theorem const1024 : Ideal.ofBits .f32 0x44800000#32 = ((1024 : ℝ) : EReal) := by
  simp [Ideal.ofBits, Ideal.ieee, -EReal.coe_mul]
  norm_num

theorem const_half : Ideal.ofBits .f32 0xBF000000#32 = ((-(1 / 2) : ℝ) : EReal) := by
  simp [Ideal.ofBits, Ideal.ieee, -EReal.coe_mul]
  norm_num

theorem eps_real : eps = ((8796093 / 8796093022208 : ℝ) : EReal) := by
  simp [eps, Ideal.ofBits, Ideal.ieee, -EReal.coe_mul]
  norm_num

/-- A square is not negative. -/
theorem square_nonneg (u : EReal) : 0 ≤ u * u := by
  induction u with
  | bot => simp
  | top => simp
  | coe r => rw [← EReal.coe_mul]; exact EReal.coe_nonneg.mpr (mul_self_nonneg r)

/-- A nonnegative real factor comes out of a sum. -/
theorem sum_mul_real {n : ℕ} (f : Fin n → EReal) (s : ℝ) (hs : 0 ≤ s) : ∑ j, f j * (s : EReal) = (∑ j, f j) * (s : EReal) := by
  classical
  refine Finset.induction_on (Finset.univ : Finset (Fin n)) (by simp) fun a t ha ih => ?_
  rw [Finset.sum_insert ha, Finset.sum_insert ha, ih, mul_comm _ (s : EReal), mul_comm _ (s : EReal), mul_comm _ (s : EReal)]
  exact (EReal.left_distrib_of_nonneg_of_ne_top (EReal.coe_nonneg.mpr hs) (EReal.coe_ne_top s) _ _).symm

/-- Half of an extended real, twice. -/
theorem add_self (u : EReal) : u + u = u * ((2 : ℝ) : EReal) := by
  induction u with
  | bot => simp [EReal.bot_mul_coe_of_pos]
  | top => simp [EReal.top_mul_coe_of_pos]
  | coe r => rw [← EReal.coe_add, ← EReal.coe_mul]; congr 1; ring

/-- The number under the root is positive. -/
theorem under_pos (x : Fin 1024 → EReal) : 0 < Ideal.div (∑ j, x j * x j) (Ideal.ofBits .f32 0x44800000#32) + eps := by
  have h : 0 ≤ Ideal.div (∑ j, x j * x j) (Ideal.ofBits .f32 0x44800000#32) := by
    rw [const1024, Ideal.div_coe (by norm_num)]
    exact mul_nonneg (Finset.sum_nonneg fun j _ => square_nonneg (x j)) (EReal.coe_nonneg.mpr (by norm_num))
  refine lt_of_lt_of_le ?_ (le_add_of_nonneg_left h)
  rw [eps_real]
  exact EReal.coe_pos.mpr (by norm_num)

/-- With `y` what comes back to the normed row, `q` the number under the root and `rs` its reciprocal root: the derivative that
removes the mean of `y` against the normed row is the derivative that differentiates the root and the square. -/
theorem back (x y : Fin 1024 → EReal) (q : EReal) (hq : 0 < q) (k : Fin 1024) :
    Ideal.rsqrt q * (y k - x k * Ideal.rsqrt q * Ideal.div (∑ j, y j * (x j * Ideal.rsqrt q)) (Ideal.ofBits .f32 0x44800000#32))
    = y k * Ideal.rsqrt q
      + x k * Ideal.div ((∑ j, x j * y j) * (Ideal.ofBits .f32 0xBF000000#32 * Ideal.div (Ideal.rsqrt q) q)) (Ideal.ofBits .f32 0x44800000#32)
      + Ideal.div ((∑ j, x j * y j) * (Ideal.ofBits .f32 0xBF000000#32 * Ideal.div (Ideal.rsqrt q) q)) (Ideal.ofBits .f32 0x44800000#32) * x k := by
  rw [const1024, const_half]
  simp only [Ideal.div_coe (show (1024 : ℝ) ≠ 0 by norm_num)]
  induction q with
  | bot => exact absurd hq (by simp)
  | top =>
    have e : Ideal.rsqrt ⊤ = 0 := rfl
    have e1 : Ideal.div 0 ⊤ = 0 := by simp [Ideal.div]
    simp [e, e1]
  | coe r =>
    have hr : 0 < r := EReal.coe_pos.mp hq
    have e : Ideal.rsqrt (r : EReal) = (((Real.sqrt r)⁻¹ : ℝ) : EReal) := by
      show (if r < 0 then (⊥ : EReal) else if r = 0 then ⊤ else _) = _
      rw [if_neg (not_lt.mpr hr.le), if_neg hr.ne']
    rw [e, Ideal.div_coe hr.ne']
    set s : ℝ := (Real.sqrt r)⁻¹ with hs
    have hs0 : 0 < s := inv_pos.mpr (Real.sqrt_pos.mpr hr)
    have hss : 1 / r = s * s := by
      rw [hs, ← mul_inv, Real.mul_self_sqrt hr.le, one_div]
    have hsum : ∑ j, y j * (x j * (s : EReal)) = (∑ j, x j * y j) * (s : EReal) := by
      rw [← sum_mul_real _ s hs0.le]
      exact Finset.sum_congr rfl fun j _ => by rw [← mul_assoc, mul_comm (y j)]
    rw [hsum, hss]
    generalize (∑ j, x j * y j) = S
    have hm : S * (((-(1 / 2) : ℝ) : EReal) * ((s : EReal) * ((s * s : ℝ) : EReal))) * ((1 / 1024 : ℝ) : EReal)
        = S * ((-(s * s * s / 2048) : ℝ) : EReal) := by
      rw [mul_assoc, ← EReal.coe_mul, ← EReal.coe_mul, ← EReal.coe_mul]
      congr 2; ring
    rw [hm, sub_eq_add_neg, EReal.left_distrib_of_nonneg_of_ne_top (EReal.coe_nonneg.mpr hs0.le) (EReal.coe_ne_top s),
      mul_comm (s : EReal) (y k), add_assoc, mul_comm (S * _) (x k), add_self]
    congr 1
    have e1 : x k * (s : EReal) * (S * (s : EReal) * ((1 / 1024 : ℝ) : EReal)) = x k * S * ((s * s / 1024 : ℝ) : EReal) := by
      rw [show ((s * s / 1024 : ℝ) : EReal) = (s : EReal) * ((s : EReal) * ((1 / 1024 : ℝ) : EReal)) by
        rw [← EReal.coe_mul, ← EReal.coe_mul]; congr 1; ring]
      ac_rfl
    rw [e1, ← mul_neg, ← EReal.coe_neg, mul_comm, mul_assoc, ← EReal.coe_mul, mul_assoc, mul_assoc, mul_assoc,
      ← EReal.coe_mul]
    congr 3; ring

end Cert.Norm

end
-- ==== Proof.ProjA.Claim.lean ====
/- The backward pass of the norm and the input product of the first layer: the kernel and the reference end with the same arrays. -/
module

public import proofs.«01_k».proof.Defs
public import proofs.«01_k».proof.Proof.ProjA.Kernel
public import proofs.«01_k».proof.Proof.Gen.ReferenceProjAIdeal.Read
public import proofs.«01_k».proof.Proof.NormBack
public import Idealize.ShloMosaic.Lib.Quiescent

@[expose] public section

set_option maxHeartbeats 1000000

noncomputable section

namespace Cert.ProjA

open Idealize.ShloMosaic Idealize.ShloMosaic.TcCoe Idealize.SL.Sem Cert.Common Cert.Norm

section
open ReferenceProjAIdeal ReferenceProjAIdeal.Read

/-- The arrays a device of the reference is given. -/
def refArgs (m : (ℓ : Loc nD τ sig) → Buf (Elt Ideal) ℓ) (c : Dev nD) : Args where
  dp := m ((c : Thread nD τ).loc main_arg0)
  dres := m ((c : Thread nD τ).loc main_arg1)
  x := m ((c : Thread nD τ).loc main_arg2)
  g := m ((c : Thread nD τ).loc main_arg3)
  w := m ((c : Thread nD τ).loc main_arg4)

theorem ref_dh (a : Args) (R : Fin 8192) (k : Fin 1024) : val_main_v20 (F := Ideal) a.dp a.w (ix2 R k) = a.dh R k := by
  pointwise [val_main_v20, val_main_v19, val_main_v2, val_main_v1, val_main_v0, Args.dh]

theorem ref_dn (a : Args) (R : Fin 8192) (k : Fin 1024) : val_main_v25 (F := Ideal) a.dp a.g a.w (ix2 R k) = a.dn R k := by
  pointwise [val_main_v25, val_main_v24, ref_dh, Args.dn]

/-- What stands under a row's root. -/
theorem ref_under (a : Args) (R : Fin 8192) (z : Fin 1) :
    val_main_v9 (F := Ideal) a.x (ix2 R z)
      = Ideal.div (∑ k : Fin 1024, a.x (ix2 R k) * a.x (ix2 R k)) (Ideal.ofBits .f32 0x44800000#32) + eps := by
  pointwise [val_main_v9, val_main_v8, val_main_cst_1, val_main_v7, val_main_v6, val_main_cst_0, val_main_v5, val_main_v4, val_main_cst,
    val_main_v3, eps]

theorem ref_scale (a : Args) (R : Fin 8192) (z : Fin 1) : val_main_v10 (F := Ideal) a.x (ix2 R z) = scale a.x R := by
  pointwise [val_main_v10, ref_under, scale]

theorem ref_dgain (a : Args) (z : Fin 1) (k : Fin 1024) : val_main_v23 (F := Ideal) a.dp a.x a.w (ix2 z k) = a.dgain k := by
  pointwise [val_main_v23, val_main_v22, val_main_cst_3, val_main_v21, val_main_v15, val_main_v14, ref_dh, ref_scale, Args.dgain]
  refine Finset.sum_congr rfl fun R _ => ?_
  exact mul_comm _ _

theorem ref_dg (a : Args) : val_main_v23 (F := Ideal) a.dp a.x a.w = a.dg := by
  funext i
  rw [eq_ix2 i]
  exact ref_dgain a (i 0) (i 1)

/-- What the two terms that pass through the root have in common. -/
theorem ref_root (a : Args) (R : Fin 8192) (z : Fin 1) :
    val_main_v33 (F := Ideal) a.dp a.x a.g a.w (ix2 R z)
      = Ideal.div ((∑ j, a.x (ix2 R j) * a.dn R j) * (Ideal.ofBits .f32 0xBF000000#32 * Ideal.div (scale a.x R)
          (Ideal.div (∑ k : Fin 1024, a.x (ix2 R k) * a.x (ix2 R k)) (Ideal.ofBits .f32 0x44800000#32) + eps)))
          (Ideal.ofBits .f32 0x44800000#32) := by
  pointwise [val_main_v33, val_main_v32, val_main_cst_5, val_main_v31, val_main_v28, val_main_v27, val_main_cst_4, val_main_v26,
    val_main_v13, val_main_v12, val_main_cst_2, val_main_v11, ref_dn, ref_scale, ref_under]

theorem ref_dx_at (a : Args) (R : Fin 8192) (k : Fin 1024) :
    val_main_v40 (F := Ideal) a.dp a.dres a.x a.g a.w (ix2 R k) = a.dx (ix2 R k) := by
  have e := Norm.back (fun j => a.x (ix2 R j)) (fun j => a.dn R j) _ (Norm.under_pos fun j => a.x (ix2 R j)) k
  pointwise [val_main_v40, val_main_v39, val_main_v38, val_main_v37, val_main_v36, val_main_v35, val_main_v34, val_main_cst_6,
    val_main_v30, val_main_v29, ref_dn, ref_scale, ref_root, Args.dx, Args.mean, Fin.sum_univ_one]
  exact congrArg (a.dres (ix2 R k) + ·) e.symm

theorem ref_dx (a : Args) : val_main_v40 (F := Ideal) a.dp a.dres a.x a.g a.w = a.dx := by
  funext i
  rw [eq_ix2 i]
  exact ref_dx_at a (i 0) (i 1)

theorem ref_h (a : Args) : val_main_v53 (F := Ideal) a.x a.g = a.h := by
  funext i
  rw [eq_ix2 i]
  pointwise [val_main_v53, val_main_v52, val_main_v51, val_main_v50, val_main_v49, val_main_v48, val_main_v47, val_main_v46,
    val_main_cst_9, val_main_v45, val_main_v44, val_main_cst_8, val_main_v43, val_main_v42, val_main_cst_7, val_main_v41, Args.h, normed,
    scale, eps]

end

/-- The reference's run leaves its arguments alone and every counter at zero. -/
theorem reference_frame : quiescent_ReferenceProjAIdeal (hReferenceProjAIdeal := ReferenceProjAIdeal.Gen.facts) := fun m g _ =>
  (θ_run _ _ _).mono (fun r h => ⟨fun c => (h c).2.2.2, sem_eq_zero_of_no_sems (by decide) _⟩) (ReferenceProjAIdeal.Value.run m g)

open KernelProjAIdeal KernelProjAIdeal.Gen ReferenceProjAIdeal.Read in
/-- At the same arguments, the kernel's run ends with the arrays of the specification, and so does the reference's. -/
theorem same : algebraic_KernelProjAIdeal_ReferenceProjAIdeal (hKernelProjAIdeal := KernelProjAIdeal.Gen.facts) (hReferenceProjAIdeal := ReferenceProjAIdeal.Gen.facts) := by
  intro m g m' g' _ hagree
  have e : ∀ c, refArgs m' c = args m c := fun c => by
    unfold refArgs args
    simp only [hagree c]
  refine ⟨fun c => (args m c).dx, fun c => (args m c).dg, fun c => (args m c).h, ?_, ?_⟩
  · exact (θ_run _ _ _).mono (fun r h c => by
      have h := h c
      rw [array5, array6, array7] at h
      exact h) (KernelProjAIdeal.Value.run_blocks m g)
  · exact (θ_run _ _ _).mono (fun r h c => by
      obtain ⟨h0, h1, h2, ha⟩ := h c
      exact ⟨(h0.trans (val_main_v40_eq ..)).trans ((ref_dx (refArgs m' c)).trans (congrArg Args.dx (e c))),
      (h1.trans (val_main_v23_eq ..)).trans ((ref_dg (refArgs m' c)).trans (congrArg Args.dg (e c))),
      (h2.trans (val_main_v53_eq ..)).trans ((ref_h (refArgs m' c)).trans (congrArg Args.h (e c))), ha⟩) (ReferenceProjAIdeal.Value.run m' g')

end Cert.ProjA

end
-- ==== Proof.ProjB.Kernel.lean ====
/- The backward pass of the norm and the input product of the second layer: what the kernel leaves in its result arrays. -/
module

public import proofs.«01_k».proof.Proof.Gen.KernelProjBIdeal.Value
public import Idealize.ShloMosaic.Lib.Pipeline.ValueKit
public import Idealize.ShloMosaic.Lib.Pipeline.ReadBack
public import proofs.«01_k».proof.Proof.Norm

@[expose] public section

set_option maxHeartbeats 1000000

noncomputable section

namespace Cert.ProjB

open Idealize.ShloMosaic Idealize.ShloMosaic.TcCoe Idealize.SL.Sem
open Cert.Common Cert.Norm

/-- The arrays the call is given: the projection's gradient, the gradient that passes the layer by, the rows, the norm's gain and
    the weights of both layers. -/
structure Args where
  dp : Mat 8192 5376
  dres : Mat 8192 1024
  x : Mat 8192 1024
  g : Mat 1 1024
  w : Cube 2 1024 5376

namespace Args
variable (a : Args) (R : Fin 8192)

/-- The gradient of the norm's rows. -/
def dh (k : Fin 1024) : EReal := ∑ q : Fin 5376, a.dp (ix2 R q) * a.w (ix3 1 k q)

/-- It, times the gain. -/
def dn (k : Fin 1024) : EReal := a.dh R k * a.g (ix2 0 k)

/-- The mean, over a row, of the last times the rows before the gain. -/
def mean : EReal := Ideal.div (∑ k : Fin 1024, a.dn R k * (a.x (ix2 R k) * scale a.x R)) (Ideal.ofBits .f32 0x44800000#32)

/-- The gradient of the rows. -/
def dx : Mat 8192 1024 := fun i =>
  a.dres (ix2 (i 0) (i 1)) + scale a.x (i 0) * (a.dn (i 0) (i 1) - a.x (ix2 (i 0) (i 1)) * scale a.x (i 0) * a.mean (i 0))

/-- The gradient of the gain. -/
def dgain (k : Fin 1024) : EReal := ∑ R : Fin 8192, a.dh R k * (a.x (ix2 R k) * scale a.x R)

def dg : Mat 1 1024 := fun i => a.dgain (i 1)

/-- The rows after the norm. -/
def h : Mat 8192 1024 := fun i => normed a.x a.g (i 0) (i 1)

end Args

open Cert.KernelProjBIdeal Cert.KernelProjBIdeal.Gen

variable (m : (ℓ : Loc nD τ sig) → Buf (Elt Ideal) ℓ)

/-- The arrays a device is given. -/
def args (c : Dev nD) : Args where
  dp := m ((c : Thread nD τ).loc main_arg0)
  dres := m ((c : Thread nD τ).loc main_arg1)
  x := m ((c : Thread nD τ).loc main_arg2)
  g := m ((c : Thread nD τ).loc main_arg3)
  w := m ((c : Thread nD τ).loc main_arg4)

/-- Row `n` of the blocks of point `t`. -/
def row (t : Fin cfg0.N) (n : Fin 512) : Fin 8192 := ⟨512 * t.val + n.val, by have h : t.val < 16 := t.isLt; omega⟩

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![1, 0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)

theorem block0 (c : Dev nD) (t : Fin cfg0.N) (n : Fin 512) (q : Fin 5376) :
    iblk m c 0 t (ix2 n q) = (args m c).dp (ix2 (row t n) q) := by
  blk_ext [iblk, V, index0 t]
  show t.val * 512 + n.val = 512 * t.val + n.val
  omega

theorem block1 (c : Dev nD) (t : Fin cfg0.N) (n : Fin 512) (k : Fin 1024) :
    iblk m c 1 t (ix2 n k) = (args m c).dres (ix2 (row t n) k) := by
  blk_ext [iblk, V, index1 t]
  show t.val * 512 + n.val = 512 * t.val + n.val
  omega

theorem block2 (c : Dev nD) (t : Fin cfg0.N) (n : Fin 512) (k : Fin 1024) :
    iblk m c 2 t (ix2 n k) = (args m c).x (ix2 (row t n) k) := by
  blk_ext [iblk, V, index2 t]
  show t.val * 512 + n.val = 512 * t.val + n.val
  omega

theorem block3 (c : Dev nD) (t : Fin cfg0.N) (z : Fin 1) (k : Fin 1024) :
    iblk m c 3 t (ix2 z k) = (args m c).g (ix2 0 k) := by
  blk_ext [iblk, V, index3 t]

theorem block4 (c : Dev nD) (t : Fin cfg0.N) (z : Fin 1) (k : Fin 1024) (q : Fin 5376) :
    iblk m c 4 t (ix3 z k q) = (args m c).w (ix3 1 k q) := by
  blk_ext [iblk, V, index4 t]

/-! What a point computes, at an entry. -/

theorem point_dh (c : Dev nD) (t : Fin cfg0.N) (n : Fin 512) (k : Fin 1024) :
    k0_pay3 (iblk m c 0 t) (iblk m c 4 t) (ix2 n k) = (args m c).dh (row t n) k := by
  pointwise [k0_pay3, block0, block4, Args.dh]

theorem point_scale (c : Dev nD) (t : Fin cfg0.N) (n : Fin 512) (z : Fin 1) :
    k0_pay4 (iblk m c 2 t) (ix2 n z) = scale (args m c).x (row t n) := by
  pointwise [k0_pay4, block2, scale, eps]

theorem point_x (c : Dev nD) (t : Fin cfg0.N) (n : Fin 512) (k : Fin 1024) :
    k0_pay5 (iblk m c 2 t) (ix2 n k) = (args m c).x (ix2 (row t n) k) * scale (args m c).x (row t n) := by
  pointwise [k0_pay5, block2, point_scale]

theorem point_h (c : Dev nD) (t : Fin cfg0.N) (n : Fin 512) (k : Fin 1024) :
    k0_pay6 (iblk m c 3 t) (iblk m c 2 t) (ix2 n k) = normed (args m c).x (args m c).g (row t n) k := by
  pointwise [k0_pay6, block3, point_x, normed]

theorem point_h_at (c : Dev nD) (t : Fin cfg0.N) (y : S512x1024.Idx) :
    k0_pay6 (iblk m c 3 t) (iblk m c 2 t) y = normed (args m c).x (args m c).g (row t (y 0)) (y 1) := by
  rw [eq_ix2 y]
  exact point_h m c t (y 0) (y 1)

theorem point_dhx (c : Dev nD) (t : Fin cfg0.N) (n : Fin 512) (k : Fin 1024) :
    k0_pay7 (iblk m c 0 t) (iblk m c 4 t) (iblk m c 2 t) (ix2 n k)
      = (args m c).dh (row t n) k * ((args m c).x (ix2 (row t n) k) * scale (args m c).x (row t n)) := by
  pointwise [k0_pay7, point_dh, point_x]

theorem point_dx (c : Dev nD) (t : Fin cfg0.N) (n : Fin 512) (k : Fin 1024) :
    k0_pay8 (iblk m c 0 t) (iblk m c 4 t) (iblk m c 3 t) (iblk m c 2 t) (iblk m c 1 t) (ix2 n k)
      = (args m c).dx (ix2 (row t n) k) := by
  pointwise [k0_pay8, point_dh, point_x, point_scale, block3, block1, Args.dx, Args.mean, Args.dn]

theorem point_dx_at (c : Dev nD) (t : Fin cfg0.N) (y : S512x1024.Idx) :
    k0_pay8 (iblk m c 0 t) (iblk m c 4 t) (iblk m c 3 t) (iblk m c 2 t) (iblk m c 1 t) y
      = (args m c).dx (ix2 (row t (y 0)) (y 1)) := by
  rw [eq_ix2 y]
  exact point_dx m c t (y 0) (y 1)

/-- The part of the gain's gradient that a point's rows give. -/
def part (c : Dev nD) (t : ℕ) (ht : t < cfg0.N) (k : Fin 1024) : EReal :=
  ∑ n : Fin 512, (args m c).dh (row ⟨t, ht⟩ n) k * ((args m c).x (ix2 (row ⟨t, ht⟩ n) k) * scale (args m c).x (row ⟨t, ht⟩ n))

theorem point_dg (c : Dev nD) (t : Fin cfg0.N) (z : Fin 1) (k : Fin 1024) :
    k0_pay1 (k0_pay7 (iblk m c 0 t) (iblk m c 4 t) (iblk m c 2 t)) (ix2 z k) = part m c t.val t.isLt k := by
  pointwise [k0_pay1, point_dhx, part]

theorem point_dg_at (c : Dev nD) (t : Fin cfg0.N) (y : S1x1024.Idx) :
    k0_pay1 (k0_pay7 (iblk m c 0 t) (iblk m c 4 t) (iblk m c 2 t)) y = part m c t.val t.isLt (y 1) := by
  rw [eq_ix2 y]
  exact point_dg m c t (y 0) (y 1)

theorem point_dg_add (c : Dev nD) (t : Fin cfg0.N) (acc : S1x1024.Idx → EReal) (z : Fin 1) (k : Fin 1024) :
    k0_pay2 (k0_pay7 (iblk m c 0 t) (iblk m c 4 t) (iblk m c 2 t)) acc (ix2 z k)
      = acc (ix2 z k) + part m c t.val t.isLt k := by
  pointwise [k0_pay2, point_dg]

theorem point_dg_add_at (c : Dev nD) (t : Fin cfg0.N) (acc : S1x1024.Idx → EReal) (y : S1x1024.Idx) :
    k0_pay2 (k0_pay7 (iblk m c 0 t) (iblk m c 4 t) (iblk m c 2 t)) acc y
      = acc y + part m c t.val t.isLt (y 1) := by
  rw [eq_ix2 y]
  exact point_dg_add m c t acc (y 0) (y 1)

/-! What a point stores. -/

theorem first_or_later (t : Fin cfg0.N) : (t.val % 16 = 0 ∧ ¬ 1 ≤ t.val) ∨ (¬ t.val % 16 = 0 ∧ 1 ≤ t.val) := by
  have h : t.val < 16 := t.isLt
  omega

theorem stored5 (c : Dev nD) (t : Fin cfg0.N) (y : S512x1024.Idx) :
    (outsAt0 m c t.val t.isLt).1 y = (args m c).dx (ix2 (row t (y 0)) (y 1)) := by
  rcases first_or_later t with ⟨h0, h1⟩ | ⟨h0, h1⟩
  · rw [outsAt0_A m c t h0 h1]
    frame_out
    exact point_dx_at m c t y
  · rw [outsAt0_B m c t h0 h1]
    frame_out
    exact point_dx_at m c t y

theorem stored7 (c : Dev nD) (t : Fin cfg0.N) (y : S512x1024.Idx) :
    (outsAt0 m c t.val t.isLt).2.2 y = normed (args m c).x (args m c).g (row t (y 0)) (y 1) := by
  rcases first_or_later t with ⟨h0, h1⟩ | ⟨h0, h1⟩
  · rw [outsAt0_A m c t h0 h1]
    frame_out
    exact point_h_at m c t y
  · rw [outsAt0_B m c t h0 h1]
    frame_out
    exact point_h_at m c t y

/-- The first point leaves its own part of the gain's gradient, -/
theorem stored6_first (c : Dev nD) (t : Fin cfg0.N) (h : t.val % 16 = 0) (y : S1x1024.Idx) :
    (outsAt0 m c t.val t.isLt).2.1 y = 0 + part m c t.val t.isLt (y 1) := by
  rw [zero_add]
  rcases first_or_later t with ⟨h0, h1⟩ | ⟨h0, h1⟩
  · rw [outsAt0_A m c t h0 h1]
    frame_out
    exact point_dg_at m c t y
  · exact absurd h h0

/-- and a later one adds its part to what is there. -/
theorem stored6_later (c : Dev nD) (t : Fin cfg0.N) (h : ¬ t.val % 16 = 0) (y : S1x1024.Idx) :
    (outsAt0 m c t.val t.isLt).2.1 y
      = (outsAt0 m c (t.val - 1) (Nat.lt_of_le_of_lt (Nat.sub_le _ _) t.isLt)).2.1 y + part m c t.val t.isLt (y 1) := by
  rcases first_or_later t with ⟨h0, h1⟩ | ⟨h0, h1⟩
  · exact absurd h0 h
  · rw [outsAt0_B m c t h0 h1]
    frame_out
    exact point_dg_add_at m c t _ y

/-- The last point leaves the sums over all rows. -/
theorem stored6_last (c : Dev nD) (t : Fin cfg0.N) (ht : t.val + 1 = cfg0.N) (y : S1x1024.Idx) :
    (outsAt0 m c t.val t.isLt).2.1 y = (args m c).dgain (y 1) := by
  refine (Pipeline.eq_sum_fin_of_reset_step_apply_last (fun n h => (outsAt0 m c n h).2.1) 16 (fun _ => 0) _
    (fun t h j => stored6_first m c t h j) (fun t h j => stored6_later m c t h j) (Nat.le_refl 16) t ht y).trans ?_
  unfold Args.dgain
  rw [zero_add, Fin.sum_univ_tiles 16 512 rfl]
  refine Finset.sum_congr rfl fun p _ => ?_
  unfold part
  refine Finset.sum_congr rfl fun r _ => ?_
  have e : row ⟨p.val, p.isLt⟩ r = (⟨p.val * 512 + r.val, by have hp : p.val < 16 := p.isLt; omega⟩ : Fin 8192) :=
    Fin.ext (by show 512 * p.val + r.val = p.val * 512 + r.val; omega)
  rw [e]

/-! The arrays after the run. -/

theorem array5 (c : Dev nD) : (dats m 0 c).arrAt 5 cfg0.N = (args m c).dx := by
  refine (dats m 0 c).arrAt_eq_of_covers 5 _ (by decide +kernel) fun t hf y => ?_
  blk_simp
  rw [after0_5]
  refine (stored5 m c t y).trans ?_
  congr 1
  refine Shape.idx_ext₂ ?_ ?_
  · blk_simp [index5 t]
    show 512 * t.val + _ = t.val * 512 + _
    omega
  · blk_simp [index5 t]

theorem array6 (c : Dev nD) : (dats m 0 c).arrAt 6 cfg0.N = (args m c).dg := by
  refine (dats m 0 c).arrAt_eq_of_covers 6 _ (by decide +kernel) fun t hf y => ?_
  blk_simp
  rw [after0_6]
  have ht : t.val % 16 = 15 := (flush0_6 t).mp hf
  have hN : t.val < 16 := t.isLt
  refine (stored6_last m c t (by show t.val + 1 = 16; omega) y).trans ?_
  unfold Args.dg
  congr 1
  refine Fin.ext ?_
  blk_simp [index6 t]

theorem array7 (c : Dev nD) : (dats m 0 c).arrAt 7 cfg0.N = (args m c).h := by
  refine (dats m 0 c).arrAt_eq_of_covers 7 _ (by decide +kernel) fun t hf y => ?_
  blk_simp
  rw [after0_7]
  refine (stored7 m c t y).trans ?_
  refine congrArg₂ (normed (args m c).x (args m c).g) (Fin.ext ?_) (Fin.ext ?_)
  · blk_simp [index7 t]
    show 512 * t.val + _ = t.val * 512 + _
    omega
  · blk_simp [index7 t]

end Cert.ProjB

end
-- ==== Proof.ProjB.Claim.lean ====
/- The backward pass of the norm and the input product of the second layer: the kernel and the reference end with the same arrays. -/
module

public import proofs.«01_k».proof.Defs
public import proofs.«01_k».proof.Proof.ProjB.Kernel
public import proofs.«01_k».proof.Proof.Gen.ReferenceProjBIdeal.Read
public import proofs.«01_k».proof.Proof.NormBack
public import Idealize.ShloMosaic.Lib.Quiescent

@[expose] public section

set_option maxHeartbeats 1000000

noncomputable section

namespace Cert.ProjB

open Idealize.ShloMosaic Idealize.ShloMosaic.TcCoe Idealize.SL.Sem Cert.Common Cert.Norm

section
open ReferenceProjBIdeal ReferenceProjBIdeal.Read

/-- The arrays a device of the reference is given. -/
def refArgs (m : (ℓ : Loc nD τ sig) → Buf (Elt Ideal) ℓ) (c : Dev nD) : Args where
  dp := m ((c : Thread nD τ).loc main_arg0)
  dres := m ((c : Thread nD τ).loc main_arg1)
  x := m ((c : Thread nD τ).loc main_arg2)
  g := m ((c : Thread nD τ).loc main_arg3)
  w := m ((c : Thread nD τ).loc main_arg4)

theorem ref_dh (a : Args) (R : Fin 8192) (k : Fin 1024) : val_main_v20 (F := Ideal) a.dp a.w (ix2 R k) = a.dh R k := by
  pointwise [val_main_v20, val_main_v19, val_main_v2, val_main_v1, val_main_v0, Args.dh]

theorem ref_dn (a : Args) (R : Fin 8192) (k : Fin 1024) : val_main_v25 (F := Ideal) a.dp a.g a.w (ix2 R k) = a.dn R k := by
  pointwise [val_main_v25, val_main_v24, ref_dh, Args.dn]

/-- What stands under a row's root. -/
theorem ref_under (a : Args) (R : Fin 8192) (z : Fin 1) :
    val_main_v9 (F := Ideal) a.x (ix2 R z)
      = Ideal.div (∑ k : Fin 1024, a.x (ix2 R k) * a.x (ix2 R k)) (Ideal.ofBits .f32 0x44800000#32) + eps := by
  pointwise [val_main_v9, val_main_v8, val_main_cst_1, val_main_v7, val_main_v6, val_main_cst_0, val_main_v5, val_main_v4, val_main_cst,
    val_main_v3, eps]

theorem ref_scale (a : Args) (R : Fin 8192) (z : Fin 1) : val_main_v10 (F := Ideal) a.x (ix2 R z) = scale a.x R := by
  pointwise [val_main_v10, ref_under, scale]

theorem ref_dgain (a : Args) (z : Fin 1) (k : Fin 1024) : val_main_v23 (F := Ideal) a.dp a.x a.w (ix2 z k) = a.dgain k := by
  pointwise [val_main_v23, val_main_v22, val_main_cst_3, val_main_v21, val_main_v15, val_main_v14, ref_dh, ref_scale, Args.dgain]
  refine Finset.sum_congr rfl fun R _ => ?_
  exact mul_comm _ _

theorem ref_dg (a : Args) : val_main_v23 (F := Ideal) a.dp a.x a.w = a.dg := by
  funext i
  rw [eq_ix2 i]
  exact ref_dgain a (i 0) (i 1)

/-- What the two terms that pass through the root have in common. -/
theorem ref_root (a : Args) (R : Fin 8192) (z : Fin 1) :
    val_main_v33 (F := Ideal) a.dp a.x a.g a.w (ix2 R z)
      = Ideal.div ((∑ j, a.x (ix2 R j) * a.dn R j) * (Ideal.ofBits .f32 0xBF000000#32 * Ideal.div (scale a.x R)
          (Ideal.div (∑ k : Fin 1024, a.x (ix2 R k) * a.x (ix2 R k)) (Ideal.ofBits .f32 0x44800000#32) + eps)))
          (Ideal.ofBits .f32 0x44800000#32) := by
  pointwise [val_main_v33, val_main_v32, val_main_cst_5, val_main_v31, val_main_v28, val_main_v27, val_main_cst_4, val_main_v26,
    val_main_v13, val_main_v12, val_main_cst_2, val_main_v11, ref_dn, ref_scale, ref_under]

theorem ref_dx_at (a : Args) (R : Fin 8192) (k : Fin 1024) :
    val_main_v40 (F := Ideal) a.dp a.dres a.x a.g a.w (ix2 R k) = a.dx (ix2 R k) := by
  have e := Norm.back (fun j => a.x (ix2 R j)) (fun j => a.dn R j) _ (Norm.under_pos fun j => a.x (ix2 R j)) k
  pointwise [val_main_v40, val_main_v39, val_main_v38, val_main_v37, val_main_v36, val_main_v35, val_main_v34, val_main_cst_6,
    val_main_v30, val_main_v29, ref_dn, ref_scale, ref_root, Args.dx, Args.mean, Fin.sum_univ_one]
  exact congrArg (a.dres (ix2 R k) + ·) e.symm

theorem ref_dx (a : Args) : val_main_v40 (F := Ideal) a.dp a.dres a.x a.g a.w = a.dx := by
  funext i
  rw [eq_ix2 i]
  exact ref_dx_at a (i 0) (i 1)

theorem ref_h (a : Args) : val_main_v53 (F := Ideal) a.x a.g = a.h := by
  funext i
  rw [eq_ix2 i]
  pointwise [val_main_v53, val_main_v52, val_main_v51, val_main_v50, val_main_v49, val_main_v48, val_main_v47, val_main_v46,
    val_main_cst_9, val_main_v45, val_main_v44, val_main_cst_8, val_main_v43, val_main_v42, val_main_cst_7, val_main_v41, Args.h, normed,
    scale, eps]

end

/-- The reference's run leaves its arguments alone and every counter at zero. -/
theorem reference_frame : quiescent_ReferenceProjBIdeal (hReferenceProjBIdeal := ReferenceProjBIdeal.Gen.facts) := fun m g _ =>
  (θ_run _ _ _).mono (fun r h => ⟨fun c => (h c).2.2.2, sem_eq_zero_of_no_sems (by decide) _⟩) (ReferenceProjBIdeal.Value.run m g)

open KernelProjBIdeal KernelProjBIdeal.Gen ReferenceProjBIdeal.Read in
/-- At the same arguments, the kernel's run ends with the arrays of the specification, and so does the reference's. -/
theorem same : algebraic_KernelProjBIdeal_ReferenceProjBIdeal (hKernelProjBIdeal := KernelProjBIdeal.Gen.facts) (hReferenceProjBIdeal := ReferenceProjBIdeal.Gen.facts) := by
  intro m g m' g' _ hagree
  have e : ∀ c, refArgs m' c = args m c := fun c => by
    unfold refArgs args
    simp only [hagree c]
  refine ⟨fun c => (args m c).dx, fun c => (args m c).dg, fun c => (args m c).h, ?_, ?_⟩
  · exact (θ_run _ _ _).mono (fun r h c => by
      have h := h c
      rw [array5, array6, array7] at h
      exact h) (KernelProjBIdeal.Value.run_blocks m g)
  · exact (θ_run _ _ _).mono (fun r h c => by
      obtain ⟨h0, h1, h2, ha⟩ := h c
      exact ⟨(h0.trans (val_main_v40_eq ..)).trans ((ref_dx (refArgs m' c)).trans (congrArg Args.dx (e c))),
      (h1.trans (val_main_v23_eq ..)).trans ((ref_dg (refArgs m' c)).trans (congrArg Args.dg (e c))),
      (h2.trans (val_main_v53_eq ..)).trans ((ref_h (refArgs m' c)).trans (congrArg Args.h (e c))), ha⟩) (ReferenceProjBIdeal.Value.run m' g')

end Cert.ProjB

end
-- ==== Proof.Adam.lean ====
/- One step of the optimizer, entry by entry: the gradient is the sum of the eight devices' shares. -/
module

public import Idealize.ShloMosaic.Lib.Pointwise
public import proofs.«01_k».proof.Proof.Common

@[expose] public section

noncomputable section

namespace Cert.Adam

open Idealize.ShloMosaic Cert.Common

/-- What a step is given: the eight shares of one layer's gradient, and all layers' weight and moments. -/
structure Step (L R C : ℕ) where
  recv : Cube 8 R C
  w : Cube L R C
  m : Cube L R C
  v : Cube L R C

namespace Step
variable {L R C : ℕ} (x : Step L R C)

/-- The gradient. -/
def grad (i : Fin R) (j : Fin C) : EReal := ∑ s : Fin 8, x.recv (ix3 s i j)

/-- The new first moment in layer `l`. -/
def mean (l : Fin L) (i : Fin R) (j : Fin C) : EReal :=
  Ideal.ofBits .f32 0x3F666666#32 * x.m (ix3 l i j) + Ideal.ofBits .f32 0x3DCCCCCD#32 * x.grad i j

/-- The new second moment in layer `l`. -/
def square (l : Fin L) (i : Fin R) (j : Fin C) : EReal :=
  Ideal.ofBits .f32 0x3F7FBE77#32 * x.v (ix3 l i j) + Ideal.ofBits .f32 0x3A83126F#32 * (x.grad i j * x.grad i j)

/-- What the step adds to the weight in layer `l`: both moments are divided by what their averages lack of one. -/
def delta (l : Fin L) (i : Fin R) (j : Fin C) : EReal :=
  Ideal.ofBits .f32 0xBA83126F#32
    * (Ideal.div (Ideal.div (x.mean l i j) (Ideal.ofBits .f32 0x3F26BD02#32))
        (Ideal.sqrt (Ideal.div (x.square l i j) (Ideal.ofBits .f32 0x3C231ACC#32)) + Ideal.ofBits .f32 0x322BCC77#32)
      + Ideal.ofBits .f32 0x3C23D70A#32 * x.w (ix3 l i j))

end Step

namespace Step
variable {R C : ℕ} (x : Step 1 R C) (z : Step 2 R C)

/-- The results of a step of one layer, as arrays of one layer. -/
def outG : Cube 1 R C := fun y => x.grad (y 1) (y 2)
def outD : Cube 1 R C := fun y => x.delta 0 (y 1) (y 2)
def outM : Cube 1 R C := fun y => x.mean 0 (y 1) (y 2)
def outV : Cube 1 R C := fun y => x.square 0 (y 1) (y 2)

/-- The results of the second layer's step. -/
def layerG : Mat R C := fun y => z.grad (y 0) (y 1)
def layerD : Mat R C := fun y => z.delta 1 (y 0) (y 1)
def layerM : Mat R C := fun y => z.mean 1 (y 0) (y 1)
def layerV : Mat R C := fun y => z.square 1 (y 0) (y 1)

end Step

/-- One layer put in front of another that is given. -/
def first {R C : ℕ} (f : Fin R → Fin C → EReal) (given : Cube 2 R C) : Cube 2 R C :=
  fun y => if (y 0).val = 0 then f (y 1) (y 2) else given y

theorem first_zero {R C : ℕ} (f : Fin R → Fin C → EReal) (given : Cube 2 R C) (n : Fin R) (q : Fin C) : first f given (ix3 0 n q) = f n q :=
  if_pos rfl

/-- What the first layer's step is given: the results' arrays too, with their second layer. -/
structure Given (R C : ℕ) where
  recv : Cube 8 R C
  w : Cube 2 R C
  m : Cube 2 R C
  v : Cube 2 R C
  givenG : Cube 2 R C
  givenD : Cube 2 R C
  givenM : Cube 2 R C
  givenV : Cube 2 R C

namespace Given
variable {R C : ℕ} (x : Given R C)

/-- The step they are for. -/
def step : Step 2 R C := ⟨x.recv, x.w, x.m, x.v⟩

/-- The results: the first layer's step before the second layer that is given. -/
def outG : Cube 2 R C := first x.step.grad x.givenG
def outD : Cube 2 R C := first (x.step.delta 0) x.givenD
def outM : Cube 2 R C := first (x.step.mean 0) x.givenM
def outV : Cube 2 R C := first (x.step.square 0) x.givenV

end Given

/-- An array whose first layer is written, and whose other entries stay. -/
theorem first_of {R C : ℕ} (f : Fin R → Fin C → EReal) {given a : Cube 2 R C} (h : a = given) :
    (fun y : (⟨3, ![2, R, C]⟩ : Shape).Idx => if (y 0).val = 0 then first f given y else a y) = first f given := by
  funext y
  unfold first
  split
  · rfl
  · exact congrFun h y

/-- An array that has the one layer before the other. -/
theorem eq_first {R C : ℕ} {f : Fin R → Fin C → EReal} {given a : Cube 2 R C} (h0 : ∀ n q, a (ix3 0 n q) = f n q)
    (h1 : ∀ n q, a (ix3 1 n q) = given (ix3 1 n q)) : a = first f given := by
  funext y
  have b : (y 0).val < 2 := (y 0).isLt
  obtain ⟨z, n, q, rfl⟩ : ∃ z n q, y = ix3 z n q := ⟨y 0, y 1, y 2, eq_ix3 y⟩
  obtain ⟨z, hz⟩ := z
  obtain rfl | rfl : z = 0 ∨ z = 1 := by omega
  · exact h0 n q
  · exact h1 n q

/-- An array of one layer. -/
theorem eq_layer {R C : ℕ} {f : Fin R → Fin C → EReal} {a : Cube 1 R C} (h : ∀ n q, a (ix3 0 n q) = f n q) : a = fun y => f (y 1) (y 2) := by
  funext y
  obtain ⟨z, n, q, rfl⟩ : ∃ z n q, y = ix3 z n q := ⟨y 0, y 1, y 2, eq_ix3 y⟩
  obtain rfl : z = 0 := Subsingleton.elim _ _
  exact h n q

/-- The first bias correction as a real. -/
theorem bias1 : Ideal.ofBits .f32 0x3F26BD02#32 = ((5463681 / 8388608 : ℝ) : EReal) := by
  simp [Ideal.ofBits, Ideal.ieee, -EReal.coe_mul]
  norm_num

/-- The second bias correction as a real. -/
theorem bias2 : Ideal.ofBits .f32 0x3C231ACC#32 = ((2672307 / 268435456 : ℝ) : EReal) := by
  simp [Ideal.ofBits, Ideal.ieee, -EReal.coe_mul]
  norm_num

/-- Multiplying by the reciprocal of the first correction divides by it. -/
theorem mul_bias1 (u : EReal) : u * ((8388608 / 5463681 : ℝ) : EReal) = Ideal.div u (Ideal.ofBits .f32 0x3F26BD02#32) := by
  rw [bias1, Ideal.div_coe (by norm_num)]
  norm_num

/-- Multiplying by the reciprocal of the second correction divides by it. -/
theorem mul_bias2 (u : EReal) : u * ((268435456 / 2672307 : ℝ) : EReal) = Ideal.div u (Ideal.ofBits .f32 0x3C231ACC#32) := by
  rw [bias2, Ideal.div_coe (by norm_num)]
  norm_num

end Cert.Adam

end
-- ==== Proof.OptSmall.Kernel.lean ====
/- The optimizer's step of the packed small weights, both layers: what the kernel leaves in its result arrays. -/
module

public import proofs.«01_k».proof.Proof.Gen.KernelOptSmallIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptSmall

open Idealize.ShloMosaic Idealize.ShloMosaic.TcCoe Idealize.SL.Sem Cert.Common Cert.Adam

/-- The arrays the call is given. -/
abbrev Args := Step 1 152 1024

open KernelOptSmallIdeal KernelOptSmallIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 152) : Fin 152 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 152) (q : Fin 1024) :
    iblk m c 0 t (ix3 s n q) = (args m c).recv (ix3 s (row t n) q) := by
  blk_ext [iblk, V, index t] <;> rfl

theorem block (c : Dev nD) (t : Fin cfg0.N) (z : Fin 1) (n : Fin 152) (q : Fin 1024) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 152) (q : Fin 1024) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 0 (row t n) q
      ∧ out0_6 (iblk m c 0 t) (iblk m c 1 t) (iblk m c 2 t) (iblk m c 3 t) (ix3 z n q) = (args m c).mean 0 (row t n) q
      ∧ out0_7 (iblk m c 0 t) (iblk m c 1 t) (iblk m c 2 t) (iblk m c 3 t) (ix3 z n q) = (args m c).square 0 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Fin.sum_univ_eight])

/-- Where an entry of a result block stands in its array. -/
theorem place (t : Fin cfg0.N) (y : S1x152x1024.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- The gradient: the array after the run. -/
theorem arrayG (c : Dev nD) : (dats m 0 c).arrAt 4 cfg0.N = (args m c).outG :=
  (dats m 0 c).arrAt_eq_of_covers 4 _ (by decide +kernel) fun t hf y => by
    blk_simp
    rw [after0_4]
    exact ((congrArg _ (eq_ix3 y)).trans (stored m c t (y 0) (y 1) (y 2)).1).trans (congrArg (args m c).outG (place t y).1).symm

/-- What is added to the weight: the array after the run. -/
theorem arrayD (c : Dev nD) : (dats m 0 c).arrAt 5 cfg0.N = (args m c).outD :=
  (dats m 0 c).arrAt_eq_of_covers 5 _ (by decide +kernel) fun t hf y => by
    blk_simp
    rw [after0_5]
    exact ((congrArg _ (eq_ix3 y)).trans (stored m c t (y 0) (y 1) (y 2)).2.1).trans (congrArg (args m c).outD (place t y).2.1).symm

/-- The first moment: the array after the run. -/
theorem arrayM (c : Dev nD) : (dats m 0 c).arrAt 6 cfg0.N = (args m c).outM :=
  (dats m 0 c).arrAt_eq_of_covers 6 _ (by decide +kernel) fun t hf y => by
    blk_simp
    rw [after0_6]
    exact ((congrArg _ (eq_ix3 y)).trans (stored m c t (y 0) (y 1) (y 2)).2.2.1).trans (congrArg (args m c).outM (place t y).2.2.1).symm

/-- The second moment: the array after the run. -/
theorem arrayV (c : Dev nD) : (dats m 0 c).arrAt 7 cfg0.N = (args m c).outV :=
  (dats m 0 c).arrAt_eq_of_covers 7 _ (by decide +kernel) fun t hf y => by
    blk_simp
    rw [after0_7]
    exact ((congrArg _ (eq_ix3 y)).trans (stored m c t (y 0) (y 1) (y 2)).2.2.2).trans (congrArg (args m c).outV (place t y).2.2.2).symm

end Cert.OptSmall

end
-- ==== Proof.OptSmall.Claim.lean ====
/- The optimizer's step of the packed small weights, both layers: the kernel and the reference end with the same arrays. -/
module

public import proofs.«01_k».proof.Defs
public import proofs.«01_k».proof.Proof.OptSmall.Kernel
public import proofs.«01_k».proof.Proof.Gen.ReferenceOptSmallIdeal.Read
public import Idealize.ShloMosaic.Lib.Quiescent

@[expose] public section

set_option maxHeartbeats 1000000

noncomputable section

namespace Cert.OptSmall

open Idealize.ShloMosaic Idealize.ShloMosaic.TcCoe Idealize.SL.Sem Cert.Common Cert.Adam

section
open ReferenceOptSmallIdeal ReferenceOptSmallIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 152) (q : Fin 1024) : val_main_v3 (F := Ideal) x.recv (ix2 n q) = x.grad n q := by
  pointwise [val_main_cst, val_main_v3, Step.grad]

/-- The first moment, entry by entry. -/
theorem ref_mean (n : Fin 152) (q : Fin 1024) : val_main_v8 (F := Ideal) x.recv x.m (ix2 n q) = x.mean 0 n q := by
  pointwise [val_main_cst_0, val_main_v4, val_main_v1, val_main_v5, val_main_cst_1, val_main_v6, val_main_v7, val_main_v8, ref_grad, Step.mean]

/-- The second moment, entry by entry. -/
theorem ref_square (n : Fin 152) (q : Fin 1024) : val_main_v14 (F := Ideal) x.recv x.v (ix2 n q) = x.square 0 n q := by
  pointwise [val_main_cst_2, val_main_v9, val_main_v2, val_main_v10, val_main_cst_3, val_main_v12, val_main_v11, val_main_v13, val_main_v14, ref_grad, ref_mean, Step.square]

/-- What is added to the weight, entry by entry. -/
theorem ref_delta (n : Fin 152) (q : Fin 1024) : val_main_v27 (F := Ideal) x.recv x.w x.m x.v (ix2 n q) = x.delta 0 n q := by
  pointwise [val_main_cst_8, val_main_v26, val_main_cst_4, val_main_v15, val_main_v16, val_main_cst_5, val_main_v17, val_main_v18, val_main_v19, val_main_cst_6, val_main_v20, val_main_v21, val_main_v22, val_main_cst_7, val_main_v23, val_main_v0, val_main_v24, val_main_v25, val_main_v27, ref_grad, ref_mean, ref_square, Step.delta]

theorem ref_G : val_main_v28 (F := Ideal) x.recv = x.outG :=
  eq_layer (fun n q => by pointwise [val_main_v28, ref_grad])

theorem ref_D : val_main_v29 (F := Ideal) x.recv x.w x.m x.v = x.outD :=
  eq_layer (fun n q => by pointwise [val_main_v29, ref_delta])

theorem ref_M : val_main_v30 (F := Ideal) x.recv x.m = x.outM :=
  eq_layer (fun n q => by pointwise [val_main_v30, ref_mean])

theorem ref_V : val_main_v31 (F := Ideal) x.recv x.v = x.outV :=
  eq_layer (fun n q => by pointwise [val_main_v31, ref_square])

end

/-- The reference's run leaves its arguments alone and every counter at zero. -/
theorem reference_frame : quiescent_ReferenceOptSmallIdeal (hReferenceOptSmallIdeal := ReferenceOptSmallIdeal.Gen.facts) := fun m g _ =>
  (θ_run _ _ _).mono (fun r h => ⟨fun c => (h c).2.2.2.2, sem_eq_zero_of_no_sems (by decide) _⟩) (ReferenceOptSmallIdeal.Value.run m g)

open KernelOptSmallIdeal KernelOptSmallIdeal.Gen ReferenceOptSmallIdeal.Read in
/-- At the same arguments, the kernel's run ends with the arrays of the specification, and so does the reference's. -/
theorem same : algebraic_KernelOptSmallIdeal_ReferenceOptSmallIdeal (hKernelOptSmallIdeal := KernelOptSmallIdeal.Gen.facts) (hReferenceOptSmallIdeal := ReferenceOptSmallIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptSmallIdeal.Value.run_blocks m g)
  · exact (θ_run _ _ _).mono (fun r h c => by
      obtain ⟨h0, h1, h2, h3, ha⟩ := h c
      exact ⟨(h0.trans (val_main_v28_eq ..)).trans ((ref_G (refArgs m' c)).trans (congrArg Step.outG (e c))),
      (h1.trans (val_main_v29_eq ..)).trans ((ref_D (refArgs m' c)).trans (congrArg Step.outD (e c))),
      (h2.trans (val_main_v30_eq ..)).trans ((ref_M (refArgs m' c)).trans (congrArg Step.outM (e c))),
      (h3.trans (val_main_v31_eq ..)).trans ((ref_V (refArgs m' c)).trans (congrArg Step.outV (e c))), ha⟩) (ReferenceOptSmallIdeal.Value.run m' g')

/-- The two named constants are the reciprocals they are named for. -/
theorem preserved : preserves_KernelOptSmall_KernelOptSmallIdeal :=
  ⟨IdealRules.named_const.statement KernelOptSmallIdeal.κ "c1" .f32 0x3FC48605#32 ((8388608 / 5463681 : ℝ) : EReal) rfl,
    IdealRules.named_const.statement KernelOptSmallIdeal.κ "c2" .f32 0x42C8E6D3#32 ((268435456 / 2672307 : ℝ) : EReal) rfl⟩

end Cert.OptSmall

end
-- ==== Proof.OptUpB.Kernel.lean ====
/- The optimizer's step of the up projections, second layer: what the kernel leaves in its result arrays. -/
module

public import proofs.«01_k».proof.Proof.Gen.KernelOptUpBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptUpB

open Idealize.ShloMosaic Idealize.ShloMosaic.TcCoe Idealize.SL.Sem Cert.Common Cert.Adam

/-- The arrays the call is given. -/
abbrev Args := Step 2 1024 704

open KernelOptUpBIdeal KernelOptUpBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of point `t`. -/
def row (t : Fin cfg0.N) (n : Fin 256) : Fin 1024 := ⟨256 * t.val + n.val, by have h : t.val < 4 := t.isLt; omega⟩

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 256) (q : Fin 704) :
    iblk m c 0 t (ix3 s n q) = (args m c).recv (ix3 s (row t n) q) := by
  blk_ext [iblk, V, index t] <;> (show t.val * 256 + n.val = 256 * t.val + n.val; omega)

theorem block (c : Dev nD) (t : Fin cfg0.N) (z : Fin 1) (n : Fin 256) (q : Fin 704) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> (show t.val * 256 + n.val = 256 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 704) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x256x704.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; show t.val * 256 + (y 1).val = 256 * t.val + (y 1).val; omega)

/-- The gradient: the array after the run, in its second layer. -/
theorem arrayG (c : Dev nD) (p : Fin 1024) (q : Fin 704) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x1024x704.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 1024) (q : Fin 704) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x1024x704.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 1024) (q : Fin 704) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x1024x704.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 1024) (q : Fin 704) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x1024x704.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 1024 704) : Mat 1024 704 :=
  shapeCast S1024x704 (extractStridedSlice S1x1024x704 ![1, 0, 0] a slices_S2x1024x704_S1x1024x704_1_0_0) shapeCasts_S1x1024x704_S1024x704

theorem second_eq (a : Cube 2 1024 704) (f : Fin 1024 → Fin 704 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptUpB

end
-- ==== Proof.OptUpB.Claim.lean ====
/- The optimizer's step of the up projections, second layer: the kernel and the reference end with the same arrays. -/
module

public import proofs.«01_k».proof.Defs
public import proofs.«01_k».proof.Proof.OptUpB.Kernel
public import proofs.«01_k».proof.Proof.Gen.ReferenceOptUpBIdeal.Read
public import Idealize.ShloMosaic.Lib.Quiescent

@[expose] public section

set_option maxHeartbeats 1000000

noncomputable section

namespace Cert.OptUpB

open Idealize.ShloMosaic Idealize.ShloMosaic.TcCoe Idealize.SL.Sem Cert.Common Cert.Adam

section
open ReferenceOptUpBIdeal ReferenceOptUpBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 1024) (q : Fin 704) : val_main_v7 (F := Ideal) x.recv (ix2 n q) = x.grad n q := by
  pointwise [val_main_v6, val_main_cst, val_main_v7, Step.grad]

/-- The first moment, entry by entry. -/
theorem ref_mean (n : Fin 1024) (q : Fin 704) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 1024) (q : Fin 704) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 1024) (q : Fin 704) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptUpBIdeal (hReferenceOptUpBIdeal := ReferenceOptUpBIdeal.Gen.facts) := fun m g _ =>
  (θ_run _ _ _).mono (fun r h => ⟨fun c => (h c).2.2.2.2, sem_eq_zero_of_no_sems (by decide) _⟩) (ReferenceOptUpBIdeal.Value.run m g)

open KernelOptUpBIdeal KernelOptUpBIdeal.Gen ReferenceOptUpBIdeal.Read in
/-- At the same arguments, the kernel's run ends with the arrays of the specification, and so does the reference's. -/
theorem same : algebraic_KernelOptUpBIdeal_ReferenceOptUpBIdeal (hKernelOptUpBIdeal := KernelOptUpBIdeal.Gen.facts) (hReferenceOptUpBIdeal := ReferenceOptUpBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptUpBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptUpBIdeal.Value.run m' g')

/-- The two named constants are the reciprocals they are named for. -/
theorem preserved : preserves_KernelOptUpB_KernelOptUpBIdeal :=
  ⟨IdealRules.named_const.statement KernelOptUpBIdeal.κ "c1" .f32 0x3FC48605#32 ((8388608 / 5463681 : ℝ) : EReal) rfl,
    IdealRules.named_const.statement KernelOptUpBIdeal.κ "c2" .f32 0x42C8E6D3#32 ((268435456 / 2672307 : ℝ) : EReal) rfl⟩

end Cert.OptUpB

end
-- ==== Proof.OptUpA.Kernel.lean ====
/- The optimizer's step of the up projections, first layer: what the kernel leaves in its result arrays. -/
module

public import proofs.«01_k».proof.Proof.Gen.KernelOptUpAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptUpA

open Idealize.ShloMosaic Idealize.ShloMosaic.TcCoe Idealize.SL.Sem Cert.Common Cert.Adam

/-- The arrays the call is given. -/
abbrev Args := Given 1024 704

open KernelOptUpAIdeal KernelOptUpAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of point `t`. -/
def row (t : Fin cfg0.N) (n : Fin 256) : Fin 1024 := ⟨256 * t.val + n.val, by have h : t.val < 4 := t.isLt; omega⟩

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 256) (q : Fin 704) :
    iblk m c 0 t (ix3 s n q) = (args m c).recv (ix3 s (row t n) q) := by
  blk_ext [iblk, V, index t] <;> (show t.val * 256 + n.val = 256 * t.val + n.val; omega)

theorem block (c : Dev nD) (t : Fin cfg0.N) (z : Fin 1) (n : Fin 256) (q : Fin 704) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> (show t.val * 256 + n.val = 256 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 704) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x256x704.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; show t.val * 256 + (y 1).val = 256 * t.val + (y 1).val; omega)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptUpA

end
-- ==== Proof.OptUpA.Claim.lean ====
/- The optimizer's step of the up projections, first layer: the kernel and the reference end with the same arrays. -/
module

public import proofs.«01_k».proof.Defs
public import proofs.«01_k».proof.Proof.OptUpA.Kernel
public import proofs.«01_k».proof.Proof.Gen.ReferenceOptUpAIdeal.Read
public import Idealize.ShloMosaic.Lib.Quiescent

@[expose] public section

set_option maxHeartbeats 1000000

noncomputable section

namespace Cert.OptUpA

open Idealize.ShloMosaic Idealize.ShloMosaic.TcCoe Idealize.SL.Sem Cert.Common Cert.Adam

section
open ReferenceOptUpAIdeal ReferenceOptUpAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 1024) (q : Fin 704) : val_main_v7 (F := Ideal) x.recv (ix2 n q) = x.step.grad n q := by
  pointwise [val_main_v6, val_main_cst, val_main_v7, Step.grad, Given.step]

/-- The first moment, entry by entry. -/
theorem ref_mean (n : Fin 1024) (q : Fin 704) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 1024) (q : Fin 704) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 1024) (q : Fin 704) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptUpAIdeal (hReferenceOptUpAIdeal := ReferenceOptUpAIdeal.Gen.facts) := fun m g _ =>
  (θ_run _ _ _).mono (fun r h => ⟨fun c => (h c).2.2.2.2, sem_eq_zero_of_no_sems (by decide) _⟩) (ReferenceOptUpAIdeal.Value.run m g)

open KernelOptUpAIdeal KernelOptUpAIdeal.Gen ReferenceOptUpAIdeal.Read in
/-- At the same arguments, the kernel's run ends with the arrays of the specification, and so does the reference's. -/
theorem same : algebraic_KernelOptUpAIdeal_ReferenceOptUpAIdeal (hKernelOptUpAIdeal := KernelOptUpAIdeal.Gen.facts) (hReferenceOptUpAIdeal := ReferenceOptUpAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptUpAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptUpAIdeal.Value.run m' g')

/-- The two named constants are the reciprocals they are named for. -/
theorem preserved : preserves_KernelOptUpA_KernelOptUpAIdeal :=
  ⟨IdealRules.named_const.statement KernelOptUpAIdeal.κ "c1" .f32 0x3FC48605#32 ((8388608 / 5463681 : ℝ) : EReal) rfl,
    IdealRules.named_const.statement KernelOptUpAIdeal.κ "c2" .f32 0x42C8E6D3#32 ((268435456 / 2672307 : ℝ) : EReal) rfl⟩

end Cert.OptUpA

end
-- ==== Proof.OptDownB.Kernel.lean ====
/- The optimizer's step of the down projections, second layer: what the kernel leaves in its result arrays. -/
module

public import proofs.«01_k».proof.Proof.Gen.KernelOptDownBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptDownB

open Idealize.ShloMosaic Idealize.ShloMosaic.TcCoe Idealize.SL.Sem Cert.Common Cert.Adam

/-- The arrays the call is given. -/
abbrev Args := Step 2 352 1024

open KernelOptDownBIdeal KernelOptDownBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of point `t`. -/
def row (t : Fin cfg0.N) (n : Fin 176) : Fin 352 := ⟨176 * t.val + n.val, by have h : t.val < 2 := t.isLt; omega⟩

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 176) (q : Fin 1024) :
    iblk m c 0 t (ix3 s n q) = (args m c).recv (ix3 s (row t n) q) := by
  blk_ext [iblk, V, index t] <;> (show t.val * 176 + n.val = 176 * t.val + n.val; omega)

theorem block (c : Dev nD) (t : Fin cfg0.N) (z : Fin 1) (n : Fin 176) (q : Fin 1024) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> (show t.val * 176 + n.val = 176 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 176) (q : Fin 1024) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x176x1024.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; show t.val * 176 + (y 1).val = 176 * t.val + (y 1).val; omega)

/-- The gradient: the array after the run, in its second layer. -/
theorem arrayG (c : Dev nD) (p : Fin 352) (q : Fin 1024) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x352x1024.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 352) (q : Fin 1024) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x352x1024.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 352) (q : Fin 1024) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x352x1024.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 352) (q : Fin 1024) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x352x1024.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 352 1024) : Mat 352 1024 :=
  shapeCast S352x1024 (extractStridedSlice S1x352x1024 ![1, 0, 0] a slices_S2x352x1024_S1x352x1024_1_0_0) shapeCasts_S1x352x1024_S352x1024

theorem second_eq (a : Cube 2 352 1024) (f : Fin 352 → Fin 1024 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptDownB

end
-- ==== Proof.OptDownB.Claim.lean ====
/- The optimizer's step of the down projections, second layer: the kernel and the reference end with the same arrays. -/
module

public import proofs.«01_k».proof.Defs
public import proofs.«01_k».proof.Proof.OptDownB.Kernel
public import proofs.«01_k».proof.Proof.Gen.ReferenceOptDownBIdeal.Read
public import Idealize.ShloMosaic.Lib.Quiescent

@[expose] public section

set_option maxHeartbeats 1000000

noncomputable section

namespace Cert.OptDownB

open Idealize.ShloMosaic Idealize.ShloMosaic.TcCoe Idealize.SL.Sem Cert.Common Cert.Adam

section
open ReferenceOptDownBIdeal ReferenceOptDownBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 352) (q : Fin 1024) : val_main_v7 (F := Ideal) x.recv (ix2 n q) = x.grad n q := by
  pointwise [val_main_v6, val_main_cst, val_main_v7, Step.grad]

/-- The first moment, entry by entry. -/
theorem ref_mean (n : Fin 352) (q : Fin 1024) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 352) (q : Fin 1024) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 352) (q : Fin 1024) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptDownBIdeal (hReferenceOptDownBIdeal := ReferenceOptDownBIdeal.Gen.facts) := fun m g _ =>
  (θ_run _ _ _).mono (fun r h => ⟨fun c => (h c).2.2.2.2, sem_eq_zero_of_no_sems (by decide) _⟩) (ReferenceOptDownBIdeal.Value.run m g)

open KernelOptDownBIdeal KernelOptDownBIdeal.Gen ReferenceOptDownBIdeal.Read in
/-- At the same arguments, the kernel's run ends with the arrays of the specification, and so does the reference's. -/
theorem same : algebraic_KernelOptDownBIdeal_ReferenceOptDownBIdeal (hKernelOptDownBIdeal := KernelOptDownBIdeal.Gen.facts) (hReferenceOptDownBIdeal := ReferenceOptDownBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptDownBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptDownBIdeal.Value.run m' g')

/-- The two named constants are the reciprocals they are named for. -/
theorem preserved : preserves_KernelOptDownB_KernelOptDownBIdeal :=
  ⟨IdealRules.named_const.statement KernelOptDownBIdeal.κ "c1" .f32 0x3FC48605#32 ((8388608 / 5463681 : ℝ) : EReal) rfl,
    IdealRules.named_const.statement KernelOptDownBIdeal.κ "c2" .f32 0x42C8E6D3#32 ((268435456 / 2672307 : ℝ) : EReal) rfl⟩

end Cert.OptDownB

end
-- ==== Proof.OptDownA.Kernel.lean ====
/- The optimizer's step of the down projections, first layer: what the kernel leaves in its result arrays. -/
module

public import proofs.«01_k».proof.Proof.Gen.KernelOptDownAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptDownA

open Idealize.ShloMosaic Idealize.ShloMosaic.TcCoe Idealize.SL.Sem Cert.Common Cert.Adam

/-- The arrays the call is given. -/
abbrev Args := Given 352 1024

open KernelOptDownAIdeal KernelOptDownAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of point `t`. -/
def row (t : Fin cfg0.N) (n : Fin 176) : Fin 352 := ⟨176 * t.val + n.val, by have h : t.val < 2 := t.isLt; omega⟩

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 176) (q : Fin 1024) :
    iblk m c 0 t (ix3 s n q) = (args m c).recv (ix3 s (row t n) q) := by
  blk_ext [iblk, V, index t] <;> (show t.val * 176 + n.val = 176 * t.val + n.val; omega)

theorem block (c : Dev nD) (t : Fin cfg0.N) (z : Fin 1) (n : Fin 176) (q : Fin 1024) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> (show t.val * 176 + n.val = 176 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 176) (q : Fin 1024) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x176x1024.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; show t.val * 176 + (y 1).val = 176 * t.val + (y 1).val; omega)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptDownA

end
-- ==== Proof.OptDownA.Claim.lean ====
/- The optimizer's step of the down projections, first layer: the kernel and the reference end with the same arrays. -/
module

public import proofs.«01_k».proof.Defs
public import proofs.«01_k».proof.Proof.OptDownA.Kernel
public import proofs.«01_k».proof.Proof.Gen.ReferenceOptDownAIdeal.Read
public import Idealize.ShloMosaic.Lib.Quiescent

@[expose] public section

set_option maxHeartbeats 1000000

noncomputable section

namespace Cert.OptDownA

open Idealize.ShloMosaic Idealize.ShloMosaic.TcCoe Idealize.SL.Sem Cert.Common Cert.Adam

section
open ReferenceOptDownAIdeal ReferenceOptDownAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 352) (q : Fin 1024) : val_main_v7 (F := Ideal) x.recv (ix2 n q) = x.step.grad n q := by
  pointwise [val_main_v6, val_main_cst, val_main_v7, Step.grad, Given.step]

/-- The first moment, entry by entry. -/
theorem ref_mean (n : Fin 352) (q : Fin 1024) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 352) (q : Fin 1024) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 352) (q : Fin 1024) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptDownAIdeal (hReferenceOptDownAIdeal := ReferenceOptDownAIdeal.Gen.facts) := fun m g _ =>
  (θ_run _ _ _).mono (fun r h => ⟨fun c => (h c).2.2.2.2, sem_eq_zero_of_no_sems (by decide) _⟩) (ReferenceOptDownAIdeal.Value.run m g)

open KernelOptDownAIdeal KernelOptDownAIdeal.Gen ReferenceOptDownAIdeal.Read in
/-- At the same arguments, the kernel's run ends with the arrays of the specification, and so does the reference's. -/
theorem same : algebraic_KernelOptDownAIdeal_ReferenceOptDownAIdeal (hKernelOptDownAIdeal := KernelOptDownAIdeal.Gen.facts) (hReferenceOptDownAIdeal := ReferenceOptDownAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptDownAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptDownAIdeal.Value.run m' g')

/-- The two named constants are the reciprocals they are named for. -/
theorem preserved : preserves_KernelOptDownA_KernelOptDownAIdeal :=
  ⟨IdealRules.named_const.statement KernelOptDownAIdeal.κ "c1" .f32 0x3FC48605#32 ((8388608 / 5463681 : ℝ) : EReal) rfl,
    IdealRules.named_const.statement KernelOptDownAIdeal.κ "c2" .f32 0x42C8E6D3#32 ((268435456 / 2672307 : ℝ) : EReal) rfl⟩

end Cert.OptDownA

end
-- ==== Proof.OptInB.Kernel.lean ====
/- The optimizer's step of w_in, second layer: what the kernel leaves in its result arrays. -/
module

public import proofs.«01_k».proof.Proof.Gen.KernelOptInBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptInB

open Idealize.ShloMosaic Idealize.ShloMosaic.TcCoe Idealize.SL.Sem Cert.Common Cert.Adam

/-- The arrays the call is given. -/
abbrev Args := Step 2 1024 672

open KernelOptInBIdeal KernelOptInBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of point `t`. -/
def row (t : Fin cfg0.N) (n : Fin 256) : Fin 1024 := ⟨256 * t.val + n.val, by have h : t.val < 4 := t.isLt; omega⟩

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 256) (q : Fin 672) :
    iblk m c 0 t (ix3 s n q) = (args m c).recv (ix3 s (row t n) q) := by
  blk_ext [iblk, V, index t] <;> (show t.val * 256 + n.val = 256 * t.val + n.val; omega)

theorem block (c : Dev nD) (t : Fin cfg0.N) (z : Fin 1) (n : Fin 256) (q : Fin 672) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> (show t.val * 256 + n.val = 256 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 672) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x256x672.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; show t.val * 256 + (y 1).val = 256 * t.val + (y 1).val; omega)

/-- The gradient: the array after the run, in its second layer. -/
theorem arrayG (c : Dev nD) (p : Fin 1024) (q : Fin 672) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x1024x672.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 1024) (q : Fin 672) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x1024x672.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 1024) (q : Fin 672) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x1024x672.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 1024) (q : Fin 672) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x1024x672.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 1024 672) : Mat 1024 672 :=
  shapeCast S1024x672 (extractStridedSlice S1x1024x672 ![1, 0, 0] a slices_S2x1024x672_S1x1024x672_1_0_0) shapeCasts_S1x1024x672_S1024x672

theorem second_eq (a : Cube 2 1024 672) (f : Fin 1024 → Fin 672 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptInB

end
-- ==== Proof.OptInB.Claim.lean ====
/- The optimizer's step of w_in, second layer: the kernel and the reference end with the same arrays. -/
module

public import proofs.«01_k».proof.Defs
public import proofs.«01_k».proof.Proof.OptInB.Kernel
public import proofs.«01_k».proof.Proof.Gen.ReferenceOptInBIdeal.Read
public import Idealize.ShloMosaic.Lib.Quiescent

@[expose] public section

set_option maxHeartbeats 1000000

noncomputable section

namespace Cert.OptInB

open Idealize.ShloMosaic Idealize.ShloMosaic.TcCoe Idealize.SL.Sem Cert.Common Cert.Adam

section
open ReferenceOptInBIdeal ReferenceOptInBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 1024) (q : Fin 672) : val_main_v7 (F := Ideal) x.recv (ix2 n q) = x.grad n q := by
  pointwise [val_main_v6, val_main_cst, val_main_v7, Step.grad]

/-- The first moment, entry by entry. -/
theorem ref_mean (n : Fin 1024) (q : Fin 672) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 1024) (q : Fin 672) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 1024) (q : Fin 672) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptInBIdeal (hReferenceOptInBIdeal := ReferenceOptInBIdeal.Gen.facts) := fun m g _ =>
  (θ_run _ _ _).mono (fun r h => ⟨fun c => (h c).2.2.2.2, sem_eq_zero_of_no_sems (by decide) _⟩) (ReferenceOptInBIdeal.Value.run m g)

open KernelOptInBIdeal KernelOptInBIdeal.Gen ReferenceOptInBIdeal.Read in
/-- At the same arguments, the kernel's run ends with the arrays of the specification, and so does the reference's. -/
theorem same : algebraic_KernelOptInBIdeal_ReferenceOptInBIdeal (hKernelOptInBIdeal := KernelOptInBIdeal.Gen.facts) (hReferenceOptInBIdeal := ReferenceOptInBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptInBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptInBIdeal.Value.run m' g')

/-- The two named constants are the reciprocals they are named for. -/
theorem preserved : preserves_KernelOptInB_KernelOptInBIdeal :=
  ⟨IdealRules.named_const.statement KernelOptInBIdeal.κ "c1" .f32 0x3FC48605#32 ((8388608 / 5463681 : ℝ) : EReal) rfl,
    IdealRules.named_const.statement KernelOptInBIdeal.κ "c2" .f32 0x42C8E6D3#32 ((268435456 / 2672307 : ℝ) : EReal) rfl⟩

end Cert.OptInB

end
-- ==== Proof.OptInA.Kernel.lean ====
/- The optimizer's step of w_in, first layer: what the kernel leaves in its result arrays. -/
module

public import proofs.«01_k».proof.Proof.Gen.KernelOptInAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptInA

open Idealize.ShloMosaic Idealize.ShloMosaic.TcCoe Idealize.SL.Sem Cert.Common Cert.Adam

/-- The arrays the call is given. -/
abbrev Args := Given 1024 672

open KernelOptInAIdeal KernelOptInAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of point `t`. -/
def row (t : Fin cfg0.N) (n : Fin 256) : Fin 1024 := ⟨256 * t.val + n.val, by have h : t.val < 4 := t.isLt; omega⟩

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 256) (q : Fin 672) :
    iblk m c 0 t (ix3 s n q) = (args m c).recv (ix3 s (row t n) q) := by
  blk_ext [iblk, V, index t] <;> (show t.val * 256 + n.val = 256 * t.val + n.val; omega)

theorem block (c : Dev nD) (t : Fin cfg0.N) (z : Fin 1) (n : Fin 256) (q : Fin 672) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> (show t.val * 256 + n.val = 256 * t.val + n.val; omega)

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 672) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x256x672.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; show t.val * 256 + (y 1).val = 256 * t.val + (y 1).val; omega)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptInA

end
-- ==== Proof.OptInA.Claim.lean ====
/- The optimizer's step of w_in, first layer: the kernel and the reference end with the same arrays. -/
module

public import proofs.«01_k».proof.Defs
public import proofs.«01_k».proof.Proof.OptInA.Kernel
public import proofs.«01_k».proof.Proof.Gen.ReferenceOptInAIdeal.Read
public import Idealize.ShloMosaic.Lib.Quiescent

@[expose] public section

set_option maxHeartbeats 1000000

noncomputable section

namespace Cert.OptInA

open Idealize.ShloMosaic Idealize.ShloMosaic.TcCoe Idealize.SL.Sem Cert.Common Cert.Adam

section
open ReferenceOptInAIdeal ReferenceOptInAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 1024) (q : Fin 672) : val_main_v7 (F := Ideal) x.recv (ix2 n q) = x.step.grad n q := by
  pointwise [val_main_v6, val_main_cst, val_main_v7, Step.grad, Given.step]

/-- The first moment, entry by entry. -/
theorem ref_mean (n : Fin 1024) (q : Fin 672) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 1024) (q : Fin 672) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 1024) (q : Fin 672) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptInAIdeal (hReferenceOptInAIdeal := ReferenceOptInAIdeal.Gen.facts) := fun m g _ =>
  (θ_run _ _ _).mono (fun r h => ⟨fun c => (h c).2.2.2.2, sem_eq_zero_of_no_sems (by decide) _⟩) (ReferenceOptInAIdeal.Value.run m g)

open KernelOptInAIdeal KernelOptInAIdeal.Gen ReferenceOptInAIdeal.Read in
/-- At the same arguments, the kernel's run ends with the arrays of the specification, and so does the reference's. -/
theorem same : algebraic_KernelOptInAIdeal_ReferenceOptInAIdeal (hKernelOptInAIdeal := KernelOptInAIdeal.Gen.facts) (hReferenceOptInAIdeal := ReferenceOptInAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptInAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptInAIdeal.Value.run m' g')

/-- The two named constants are the reciprocals they are named for. -/
theorem preserved : preserves_KernelOptInA_KernelOptInAIdeal :=
  ⟨IdealRules.named_const.statement KernelOptInAIdeal.κ "c1" .f32 0x3FC48605#32 ((8388608 / 5463681 : ℝ) : EReal) rfl,
    IdealRules.named_const.statement KernelOptInAIdeal.κ "c2" .f32 0x42C8E6D3#32 ((268435456 / 2672307 : ℝ) : EReal) rfl⟩

end Cert.OptInA

end
-- ==== Proof.OptGluB.Kernel.lean ====
/- The optimizer's step of s5_w_glu, second layer: what the kernel leaves in its result arrays. -/
module

public import proofs.«01_k».proof.Proof.Gen.KernelOptGluBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptGluB

open Idealize.ShloMosaic Idealize.ShloMosaic.TcCoe Idealize.SL.Sem Cert.Common Cert.Adam

/-- The arrays the call is given. -/
abbrev Args := Step 2 256 64

open KernelOptGluBIdeal KernelOptGluBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 256) : Fin 256 := n

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 256) (q : Fin 64) :
    iblk m c 0 t (ix3 s n q) = (args m c).recv (ix3 s (row t n) q) := by
  blk_ext [iblk, V, index t] <;> rfl

theorem block (c : Dev nD) (t : Fin cfg0.N) (z : Fin 1) (n : Fin 256) (q : Fin 64) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 64) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x256x64.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; rfl)

/-- The gradient: the array after the run, in its second layer. -/
theorem arrayG (c : Dev nD) (p : Fin 256) (q : Fin 64) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x256x64.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 256) (q : Fin 64) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x256x64.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 256) (q : Fin 64) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x256x64.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 256) (q : Fin 64) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x256x64.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 256 64) : Mat 256 64 :=
  shapeCast S256x64 (extractStridedSlice S1x256x64 ![1, 0, 0] a slices_S2x256x64_S1x256x64_1_0_0) shapeCasts_S1x256x64_S256x64

theorem second_eq (a : Cube 2 256 64) (f : Fin 256 → Fin 64 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptGluB

end
-- ==== Proof.OptGluB.Claim.lean ====
/- The optimizer's step of s5_w_glu, second layer: the kernel and the reference end with the same arrays. -/
module

public import proofs.«01_k».proof.Defs
public import proofs.«01_k».proof.Proof.OptGluB.Kernel
public import proofs.«01_k».proof.Proof.Gen.ReferenceOptGluBIdeal.Read
public import Idealize.ShloMosaic.Lib.Quiescent

@[expose] public section

set_option maxHeartbeats 1000000

noncomputable section

namespace Cert.OptGluB

open Idealize.ShloMosaic Idealize.ShloMosaic.TcCoe Idealize.SL.Sem Cert.Common Cert.Adam

section
open ReferenceOptGluBIdeal ReferenceOptGluBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 256) (q : Fin 64) : val_main_v7 (F := Ideal) x.recv (ix2 n q) = x.grad n q := by
  pointwise [val_main_v6, val_main_cst, val_main_v7, Step.grad]

/-- The first moment, entry by entry. -/
theorem ref_mean (n : Fin 256) (q : Fin 64) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 256) (q : Fin 64) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 256) (q : Fin 64) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptGluBIdeal (hReferenceOptGluBIdeal := ReferenceOptGluBIdeal.Gen.facts) := fun m g _ =>
  (θ_run _ _ _).mono (fun r h => ⟨fun c => (h c).2.2.2.2, sem_eq_zero_of_no_sems (by decide) _⟩) (ReferenceOptGluBIdeal.Value.run m g)

open KernelOptGluBIdeal KernelOptGluBIdeal.Gen ReferenceOptGluBIdeal.Read in
/-- At the same arguments, the kernel's run ends with the arrays of the specification, and so does the reference's. -/
theorem same : algebraic_KernelOptGluBIdeal_ReferenceOptGluBIdeal (hKernelOptGluBIdeal := KernelOptGluBIdeal.Gen.facts) (hReferenceOptGluBIdeal := ReferenceOptGluBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptGluBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptGluBIdeal.Value.run m' g')

/-- The two named constants are the reciprocals they are named for. -/
theorem preserved : preserves_KernelOptGluB_KernelOptGluBIdeal :=
  ⟨IdealRules.named_const.statement KernelOptGluBIdeal.κ "c1" .f32 0x3FC48605#32 ((8388608 / 5463681 : ℝ) : EReal) rfl,
    IdealRules.named_const.statement KernelOptGluBIdeal.κ "c2" .f32 0x42C8E6D3#32 ((268435456 / 2672307 : ℝ) : EReal) rfl⟩

end Cert.OptGluB

end
-- ==== Proof.OptGluA.Kernel.lean ====
/- The optimizer's step of s5_w_glu, first layer: what the kernel leaves in its result arrays. -/
module

public import proofs.«01_k».proof.Proof.Gen.KernelOptGluAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptGluA

open Idealize.ShloMosaic Idealize.ShloMosaic.TcCoe Idealize.SL.Sem Cert.Common Cert.Adam

/-- The arrays the call is given. -/
abbrev Args := Given 256 64

open KernelOptGluAIdeal KernelOptGluAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of the one point `t`. -/
def row (t : Fin cfg0.N) (n : Fin 256) : Fin 256 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 256) (q : Fin 64) :
    iblk m c 0 t (ix3 s n q) = (args m c).recv (ix3 s (row t n) q) := by
  blk_ext [iblk, V, index t] <;> rfl

theorem block (c : Dev nD) (t : Fin cfg0.N) (z : Fin 1) (n : Fin 256) (q : Fin 64) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 64) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x256x64.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptGluA

end
-- ==== Proof.OptGluA.Claim.lean ====
/- The optimizer's step of s5_w_glu, first layer: the kernel and the reference end with the same arrays. -/
module

public import proofs.«01_k».proof.Defs
public import proofs.«01_k».proof.Proof.OptGluA.Kernel
public import proofs.«01_k».proof.Proof.Gen.ReferenceOptGluAIdeal.Read
public import Idealize.ShloMosaic.Lib.Quiescent

@[expose] public section

set_option maxHeartbeats 1000000

noncomputable section

namespace Cert.OptGluA

open Idealize.ShloMosaic Idealize.ShloMosaic.TcCoe Idealize.SL.Sem Cert.Common Cert.Adam

section
open ReferenceOptGluAIdeal ReferenceOptGluAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 256) (q : Fin 64) : val_main_v7 (F := Ideal) x.recv (ix2 n q) = x.step.grad n q := by
  pointwise [val_main_v6, val_main_cst, val_main_v7, Step.grad, Given.step]

/-- The first moment, entry by entry. -/
theorem ref_mean (n : Fin 256) (q : Fin 64) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 256) (q : Fin 64) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 256) (q : Fin 64) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptGluAIdeal (hReferenceOptGluAIdeal := ReferenceOptGluAIdeal.Gen.facts) := fun m g _ =>
  (θ_run _ _ _).mono (fun r h => ⟨fun c => (h c).2.2.2.2, sem_eq_zero_of_no_sems (by decide) _⟩) (ReferenceOptGluAIdeal.Value.run m g)

open KernelOptGluAIdeal KernelOptGluAIdeal.Gen ReferenceOptGluAIdeal.Read in
/-- At the same arguments, the kernel's run ends with the arrays of the specification, and so does the reference's. -/
theorem same : algebraic_KernelOptGluAIdeal_ReferenceOptGluAIdeal (hKernelOptGluAIdeal := KernelOptGluAIdeal.Gen.facts) (hReferenceOptGluAIdeal := ReferenceOptGluAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptGluAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptGluAIdeal.Value.run m' g')

/-- The two named constants are the reciprocals they are named for. -/
theorem preserved : preserves_KernelOptGluA_KernelOptGluAIdeal :=
  ⟨IdealRules.named_const.statement KernelOptGluAIdeal.κ "c1" .f32 0x3FC48605#32 ((8388608 / 5463681 : ℝ) : EReal) rfl,
    IdealRules.named_const.statement KernelOptGluAIdeal.κ "c2" .f32 0x42C8E6D3#32 ((268435456 / 2672307 : ℝ) : EReal) rfl⟩

end Cert.OptGluA

end
-- ==== Proof.OptBrB.Kernel.lean ====
/- The optimizer's step of w_br_s5 and w_br_conv, second layer: what the kernel leaves in its result arrays. -/
module

public import proofs.«01_k».proof.Proof.Gen.KernelOptBrBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptBrB

open Idealize.ShloMosaic Idealize.ShloMosaic.TcCoe Idealize.SL.Sem Cert.Common Cert.Adam

/-- The arrays the call is given. -/
abbrev Args := Step 2 256 128

open KernelOptBrBIdeal KernelOptBrBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 256) : Fin 256 := n

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 256) (q : Fin 128) :
    iblk m c 0 t (ix3 s n q) = (args m c).recv (ix3 s (row t n) q) := by
  blk_ext [iblk, V, index t] <;> rfl

theorem block (c : Dev nD) (t : Fin cfg0.N) (z : Fin 1) (n : Fin 256) (q : Fin 128) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 128) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x256x128.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; rfl)

/-- The gradient: the array after the run, in its second layer. -/
theorem arrayG (c : Dev nD) (p : Fin 256) (q : Fin 128) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x256x128.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 256) (q : Fin 128) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x256x128.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 256) (q : Fin 128) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x256x128.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 256) (q : Fin 128) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x256x128.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 256 128) : Mat 256 128 :=
  shapeCast S256x128 (extractStridedSlice S1x256x128 ![1, 0, 0] a slices_S2x256x128_S1x256x128_1_0_0) shapeCasts_S1x256x128_S256x128

theorem second_eq (a : Cube 2 256 128) (f : Fin 256 → Fin 128 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptBrB

end
-- ==== Proof.OptBrB.Claim.lean ====
/- The optimizer's step of w_br_s5 and w_br_conv, second layer: the kernel and the reference end with the same arrays. -/
module

public import proofs.«01_k».proof.Defs
public import proofs.«01_k».proof.Proof.OptBrB.Kernel
public import proofs.«01_k».proof.Proof.Gen.ReferenceOptBrBIdeal.Read
public import Idealize.ShloMosaic.Lib.Quiescent

@[expose] public section

set_option maxHeartbeats 1000000

noncomputable section

namespace Cert.OptBrB

open Idealize.ShloMosaic Idealize.ShloMosaic.TcCoe Idealize.SL.Sem Cert.Common Cert.Adam

section
open ReferenceOptBrBIdeal ReferenceOptBrBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 256) (q : Fin 128) : val_main_v7 (F := Ideal) x.recv (ix2 n q) = x.grad n q := by
  pointwise [val_main_v6, val_main_cst, val_main_v7, Step.grad]

/-- The first moment, entry by entry. -/
theorem ref_mean (n : Fin 256) (q : Fin 128) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 256) (q : Fin 128) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 256) (q : Fin 128) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptBrBIdeal (hReferenceOptBrBIdeal := ReferenceOptBrBIdeal.Gen.facts) := fun m g _ =>
  (θ_run _ _ _).mono (fun r h => ⟨fun c => (h c).2.2.2.2, sem_eq_zero_of_no_sems (by decide) _⟩) (ReferenceOptBrBIdeal.Value.run m g)

open KernelOptBrBIdeal KernelOptBrBIdeal.Gen ReferenceOptBrBIdeal.Read in
/-- At the same arguments, the kernel's run ends with the arrays of the specification, and so does the reference's. -/
theorem same : algebraic_KernelOptBrBIdeal_ReferenceOptBrBIdeal (hKernelOptBrBIdeal := KernelOptBrBIdeal.Gen.facts) (hReferenceOptBrBIdeal := ReferenceOptBrBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptBrBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptBrBIdeal.Value.run m' g')

/-- The two named constants are the reciprocals they are named for. -/
theorem preserved : preserves_KernelOptBrB_KernelOptBrBIdeal :=
  ⟨IdealRules.named_const.statement KernelOptBrBIdeal.κ "c1" .f32 0x3FC48605#32 ((8388608 / 5463681 : ℝ) : EReal) rfl,
    IdealRules.named_const.statement KernelOptBrBIdeal.κ "c2" .f32 0x42C8E6D3#32 ((268435456 / 2672307 : ℝ) : EReal) rfl⟩

end Cert.OptBrB

end
-- ==== Proof.OptBrA.Kernel.lean ====
/- The optimizer's step of w_br_s5 and w_br_conv, first layer: what the kernel leaves in its result arrays. -/
module

public import proofs.«01_k».proof.Proof.Gen.KernelOptBrAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptBrA

open Idealize.ShloMosaic Idealize.ShloMosaic.TcCoe Idealize.SL.Sem Cert.Common Cert.Adam

/-- The arrays the call is given. -/
abbrev Args := Given 256 128

open KernelOptBrAIdeal KernelOptBrAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of the one point `t`. -/
def row (t : Fin cfg0.N) (n : Fin 256) : Fin 256 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 256) (q : Fin 128) :
    iblk m c 0 t (ix3 s n q) = (args m c).recv (ix3 s (row t n) q) := by
  blk_ext [iblk, V, index t] <;> rfl

theorem block (c : Dev nD) (t : Fin cfg0.N) (z : Fin 1) (n : Fin 256) (q : Fin 128) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 256) (q : Fin 128) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x256x128.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptBrA

end
-- ==== Proof.OptBrA.Claim.lean ====
/- The optimizer's step of w_br_s5 and w_br_conv, first layer: the kernel and the reference end with the same arrays. -/
module

public import proofs.«01_k».proof.Defs
public import proofs.«01_k».proof.Proof.OptBrA.Kernel
public import proofs.«01_k».proof.Proof.Gen.ReferenceOptBrAIdeal.Read
public import Idealize.ShloMosaic.Lib.Quiescent

@[expose] public section

set_option maxHeartbeats 1000000

noncomputable section

namespace Cert.OptBrA

open Idealize.ShloMosaic Idealize.ShloMosaic.TcCoe Idealize.SL.Sem Cert.Common Cert.Adam

section
open ReferenceOptBrAIdeal ReferenceOptBrAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 256) (q : Fin 128) : val_main_v7 (F := Ideal) x.recv (ix2 n q) = x.step.grad n q := by
  pointwise [val_main_v6, val_main_cst, val_main_v7, Step.grad, Given.step]

/-- The first moment, entry by entry. -/
theorem ref_mean (n : Fin 256) (q : Fin 128) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 256) (q : Fin 128) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 256) (q : Fin 128) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptBrAIdeal (hReferenceOptBrAIdeal := ReferenceOptBrAIdeal.Gen.facts) := fun m g _ =>
  (θ_run _ _ _).mono (fun r h => ⟨fun c => (h c).2.2.2.2, sem_eq_zero_of_no_sems (by decide) _⟩) (ReferenceOptBrAIdeal.Value.run m g)

open KernelOptBrAIdeal KernelOptBrAIdeal.Gen ReferenceOptBrAIdeal.Read in
/-- At the same arguments, the kernel's run ends with the arrays of the specification, and so does the reference's. -/
theorem same : algebraic_KernelOptBrAIdeal_ReferenceOptBrAIdeal (hKernelOptBrAIdeal := KernelOptBrAIdeal.Gen.facts) (hReferenceOptBrAIdeal := ReferenceOptBrAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptBrAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptBrAIdeal.Value.run m' g')

/-- The two named constants are the reciprocals they are named for. -/
theorem preserved : preserves_KernelOptBrA_KernelOptBrAIdeal :=
  ⟨IdealRules.named_const.statement KernelOptBrAIdeal.κ "c1" .f32 0x3FC48605#32 ((8388608 / 5463681 : ℝ) : EReal) rfl,
    IdealRules.named_const.statement KernelOptBrAIdeal.κ "c2" .f32 0x42C8E6D3#32 ((268435456 / 2672307 : ℝ) : EReal) rfl⟩

end Cert.OptBrA

end
-- ==== Proof.OptAttnB.Kernel.lean ====
/- The optimizer's step of w_br_attn, second layer: what the kernel leaves in its result arrays. -/
module

public import proofs.«01_k».proof.Proof.Gen.KernelOptAttnBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptAttnB

open Idealize.ShloMosaic Idealize.ShloMosaic.TcCoe Idealize.SL.Sem Cert.Common Cert.Adam

/-- The arrays the call is given. -/
abbrev Args := Step 2 512 128

open KernelOptAttnBIdeal KernelOptAttnBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 512) : Fin 512 := n

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 512) (q : Fin 128) :
    iblk m c 0 t (ix3 s n q) = (args m c).recv (ix3 s (row t n) q) := by
  blk_ext [iblk, V, index t] <;> rfl

theorem block (c : Dev nD) (t : Fin cfg0.N) (z : Fin 1) (n : Fin 512) (q : Fin 128) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 512) (q : Fin 128) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x512x128.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; rfl)

/-- The gradient: the array after the run, in its second layer. -/
theorem arrayG (c : Dev nD) (p : Fin 512) (q : Fin 128) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x512x128.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 512) (q : Fin 128) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x512x128.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 512) (q : Fin 128) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x512x128.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 512) (q : Fin 128) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x512x128.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 512 128) : Mat 512 128 :=
  shapeCast S512x128 (extractStridedSlice S1x512x128 ![1, 0, 0] a slices_S2x512x128_S1x512x128_1_0_0) shapeCasts_S1x512x128_S512x128

theorem second_eq (a : Cube 2 512 128) (f : Fin 512 → Fin 128 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptAttnB

end
-- ==== Proof.OptAttnB.Claim.lean ====
/- The optimizer's step of w_br_attn, second layer: the kernel and the reference end with the same arrays. -/
module

public import proofs.«01_k».proof.Defs
public import proofs.«01_k».proof.Proof.OptAttnB.Kernel
public import proofs.«01_k».proof.Proof.Gen.ReferenceOptAttnBIdeal.Read
public import Idealize.ShloMosaic.Lib.Quiescent

@[expose] public section

set_option maxHeartbeats 1000000

noncomputable section

namespace Cert.OptAttnB

open Idealize.ShloMosaic Idealize.ShloMosaic.TcCoe Idealize.SL.Sem Cert.Common Cert.Adam

section
open ReferenceOptAttnBIdeal ReferenceOptAttnBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 512) (q : Fin 128) : val_main_v7 (F := Ideal) x.recv (ix2 n q) = x.grad n q := by
  pointwise [val_main_v6, val_main_cst, val_main_v7, Step.grad]

/-- The first moment, entry by entry. -/
theorem ref_mean (n : Fin 512) (q : Fin 128) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 512) (q : Fin 128) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 512) (q : Fin 128) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptAttnBIdeal (hReferenceOptAttnBIdeal := ReferenceOptAttnBIdeal.Gen.facts) := fun m g _ =>
  (θ_run _ _ _).mono (fun r h => ⟨fun c => (h c).2.2.2.2, sem_eq_zero_of_no_sems (by decide) _⟩) (ReferenceOptAttnBIdeal.Value.run m g)

open KernelOptAttnBIdeal KernelOptAttnBIdeal.Gen ReferenceOptAttnBIdeal.Read in
/-- At the same arguments, the kernel's run ends with the arrays of the specification, and so does the reference's. -/
theorem same : algebraic_KernelOptAttnBIdeal_ReferenceOptAttnBIdeal (hKernelOptAttnBIdeal := KernelOptAttnBIdeal.Gen.facts) (hReferenceOptAttnBIdeal := ReferenceOptAttnBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptAttnBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptAttnBIdeal.Value.run m' g')

/-- The two named constants are the reciprocals they are named for. -/
theorem preserved : preserves_KernelOptAttnB_KernelOptAttnBIdeal :=
  ⟨IdealRules.named_const.statement KernelOptAttnBIdeal.κ "c1" .f32 0x3FC48605#32 ((8388608 / 5463681 : ℝ) : EReal) rfl,
    IdealRules.named_const.statement KernelOptAttnBIdeal.κ "c2" .f32 0x42C8E6D3#32 ((268435456 / 2672307 : ℝ) : EReal) rfl⟩

end Cert.OptAttnB

end
-- ==== Proof.OptAttnA.Kernel.lean ====
/- The optimizer's step of w_br_attn, first layer: what the kernel leaves in its result arrays. -/
module

public import proofs.«01_k».proof.Proof.Gen.KernelOptAttnAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptAttnA

open Idealize.ShloMosaic Idealize.ShloMosaic.TcCoe Idealize.SL.Sem Cert.Common Cert.Adam

/-- The arrays the call is given. -/
abbrev Args := Given 512 128

open KernelOptAttnAIdeal KernelOptAttnAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of the one point `t`. -/
def row (t : Fin cfg0.N) (n : Fin 512) : Fin 512 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 512) (q : Fin 128) :
    iblk m c 0 t (ix3 s n q) = (args m c).recv (ix3 s (row t n) q) := by
  blk_ext [iblk, V, index t] <;> rfl

theorem block (c : Dev nD) (t : Fin cfg0.N) (z : Fin 1) (n : Fin 512) (q : Fin 128) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 512) (q : Fin 128) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x512x128.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptAttnA

end
-- ==== Proof.OptAttnA.Claim.lean ====
/- The optimizer's step of w_br_attn, first layer: the kernel and the reference end with the same arrays. -/
module

public import proofs.«01_k».proof.Defs
public import proofs.«01_k».proof.Proof.OptAttnA.Kernel
public import proofs.«01_k».proof.Proof.Gen.ReferenceOptAttnAIdeal.Read
public import Idealize.ShloMosaic.Lib.Quiescent

@[expose] public section

set_option maxHeartbeats 1000000

noncomputable section

namespace Cert.OptAttnA

open Idealize.ShloMosaic Idealize.ShloMosaic.TcCoe Idealize.SL.Sem Cert.Common Cert.Adam

section
open ReferenceOptAttnAIdeal ReferenceOptAttnAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 512) (q : Fin 128) : val_main_v7 (F := Ideal) x.recv (ix2 n q) = x.step.grad n q := by
  pointwise [val_main_v6, val_main_cst, val_main_v7, Step.grad, Given.step]

/-- The first moment, entry by entry. -/
theorem ref_mean (n : Fin 512) (q : Fin 128) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 512) (q : Fin 128) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 512) (q : Fin 128) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptAttnAIdeal (hReferenceOptAttnAIdeal := ReferenceOptAttnAIdeal.Gen.facts) := fun m g _ =>
  (θ_run _ _ _).mono (fun r h => ⟨fun c => (h c).2.2.2.2, sem_eq_zero_of_no_sems (by decide) _⟩) (ReferenceOptAttnAIdeal.Value.run m g)

open KernelOptAttnAIdeal KernelOptAttnAIdeal.Gen ReferenceOptAttnAIdeal.Read in
/-- At the same arguments, the kernel's run ends with the arrays of the specification, and so does the reference's. -/
theorem same : algebraic_KernelOptAttnAIdeal_ReferenceOptAttnAIdeal (hKernelOptAttnAIdeal := KernelOptAttnAIdeal.Gen.facts) (hReferenceOptAttnAIdeal := ReferenceOptAttnAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptAttnAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptAttnAIdeal.Value.run m' g')

/-- The two named constants are the reciprocals they are named for. -/
theorem preserved : preserves_KernelOptAttnA_KernelOptAttnAIdeal :=
  ⟨IdealRules.named_const.statement KernelOptAttnAIdeal.κ "c1" .f32 0x3FC48605#32 ((8388608 / 5463681 : ℝ) : EReal) rfl,
    IdealRules.named_const.statement KernelOptAttnAIdeal.κ "c2" .f32 0x42C8E6D3#32 ((268435456 / 2672307 : ℝ) : EReal) rfl⟩

end Cert.OptAttnA

end
-- ==== Proof.OptConvB.Kernel.lean ====
/- The optimizer's step of conv_w_dw, second layer: what the kernel leaves in its result arrays. -/
module

public import proofs.«01_k».proof.Proof.Gen.KernelOptConvBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptConvB

open Idealize.ShloMosaic Idealize.ShloMosaic.TcCoe Idealize.SL.Sem Cert.Common Cert.Adam

/-- The arrays the call is given. -/
abbrev Args := Step 2 31 32

open KernelOptConvBIdeal KernelOptConvBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 31) : Fin 31 := n

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 31) (q : Fin 32) :
    iblk m c 0 t (ix3 s n q) = (args m c).recv (ix3 s (row t n) q) := by
  blk_ext [iblk, V, index t] <;> rfl

theorem block (c : Dev nD) (t : Fin cfg0.N) (z : Fin 1) (n : Fin 31) (q : Fin 32) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 31) (q : Fin 32) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x31x32.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; rfl)

/-- The gradient: the array after the run, in its second layer. -/
theorem arrayG (c : Dev nD) (p : Fin 31) (q : Fin 32) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x31x32.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 31) (q : Fin 32) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x31x32.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 31) (q : Fin 32) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x31x32.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 31) (q : Fin 32) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x31x32.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 31 32) : Mat 31 32 :=
  shapeCast S31x32 (extractStridedSlice S1x31x32 ![1, 0, 0] a slices_S2x31x32_S1x31x32_1_0_0) shapeCasts_S1x31x32_S31x32

theorem second_eq (a : Cube 2 31 32) (f : Fin 31 → Fin 32 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptConvB

end
-- ==== Proof.OptConvB.Claim.lean ====
/- The optimizer's step of conv_w_dw, second layer: the kernel and the reference end with the same arrays. -/
module

public import proofs.«01_k».proof.Defs
public import proofs.«01_k».proof.Proof.OptConvB.Kernel
public import proofs.«01_k».proof.Proof.Gen.ReferenceOptConvBIdeal.Read
public import Idealize.ShloMosaic.Lib.Quiescent

@[expose] public section

set_option maxHeartbeats 1000000

noncomputable section

namespace Cert.OptConvB

open Idealize.ShloMosaic Idealize.ShloMosaic.TcCoe Idealize.SL.Sem Cert.Common Cert.Adam

section
open ReferenceOptConvBIdeal ReferenceOptConvBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 31) (q : Fin 32) : val_main_v7 (F := Ideal) x.recv (ix2 n q) = x.grad n q := by
  pointwise [val_main_v6, val_main_cst, val_main_v7, Step.grad]

/-- The first moment, entry by entry. -/
theorem ref_mean (n : Fin 31) (q : Fin 32) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 31) (q : Fin 32) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 31) (q : Fin 32) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptConvBIdeal (hReferenceOptConvBIdeal := ReferenceOptConvBIdeal.Gen.facts) := fun m g _ =>
  (θ_run _ _ _).mono (fun r h => ⟨fun c => (h c).2.2.2.2, sem_eq_zero_of_no_sems (by decide) _⟩) (ReferenceOptConvBIdeal.Value.run m g)

open KernelOptConvBIdeal KernelOptConvBIdeal.Gen ReferenceOptConvBIdeal.Read in
/-- At the same arguments, the kernel's run ends with the arrays of the specification, and so does the reference's. -/
theorem same : algebraic_KernelOptConvBIdeal_ReferenceOptConvBIdeal (hKernelOptConvBIdeal := KernelOptConvBIdeal.Gen.facts) (hReferenceOptConvBIdeal := ReferenceOptConvBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptConvBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptConvBIdeal.Value.run m' g')

/-- The two named constants are the reciprocals they are named for. -/
theorem preserved : preserves_KernelOptConvB_KernelOptConvBIdeal :=
  ⟨IdealRules.named_const.statement KernelOptConvBIdeal.κ "c1" .f32 0x3FC48605#32 ((8388608 / 5463681 : ℝ) : EReal) rfl,
    IdealRules.named_const.statement KernelOptConvBIdeal.κ "c2" .f32 0x42C8E6D3#32 ((268435456 / 2672307 : ℝ) : EReal) rfl⟩

end Cert.OptConvB

end
-- ==== Proof.OptConvA.Kernel.lean ====
/- The optimizer's step of conv_w_dw, first layer: what the kernel leaves in its result arrays. -/
module

public import proofs.«01_k».proof.Proof.Gen.KernelOptConvAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptConvA

open Idealize.ShloMosaic Idealize.ShloMosaic.TcCoe Idealize.SL.Sem Cert.Common Cert.Adam

/-- The arrays the call is given. -/
abbrev Args := Given 31 32

open KernelOptConvAIdeal KernelOptConvAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of the one point `t`. -/
def row (t : Fin cfg0.N) (n : Fin 31) : Fin 31 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 31) (q : Fin 32) :
    iblk m c 0 t (ix3 s n q) = (args m c).recv (ix3 s (row t n) q) := by
  blk_ext [iblk, V, index t] <;> rfl

theorem block (c : Dev nD) (t : Fin cfg0.N) (z : Fin 1) (n : Fin 31) (q : Fin 32) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 31) (q : Fin 32) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x31x32.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptConvA

end
-- ==== Proof.OptConvA.Claim.lean ====
/- The optimizer's step of conv_w_dw, first layer: the kernel and the reference end with the same arrays. -/
module

public import proofs.«01_k».proof.Defs
public import proofs.«01_k».proof.Proof.OptConvA.Kernel
public import proofs.«01_k».proof.Proof.Gen.ReferenceOptConvAIdeal.Read
public import Idealize.ShloMosaic.Lib.Quiescent

@[expose] public section

set_option maxHeartbeats 1000000

noncomputable section

namespace Cert.OptConvA

open Idealize.ShloMosaic Idealize.ShloMosaic.TcCoe Idealize.SL.Sem Cert.Common Cert.Adam

section
open ReferenceOptConvAIdeal ReferenceOptConvAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 31) (q : Fin 32) : val_main_v7 (F := Ideal) x.recv (ix2 n q) = x.step.grad n q := by
  pointwise [val_main_v6, val_main_cst, val_main_v7, Step.grad, Given.step]

/-- The first moment, entry by entry. -/
theorem ref_mean (n : Fin 31) (q : Fin 32) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 31) (q : Fin 32) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 31) (q : Fin 32) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptConvAIdeal (hReferenceOptConvAIdeal := ReferenceOptConvAIdeal.Gen.facts) := fun m g _ =>
  (θ_run _ _ _).mono (fun r h => ⟨fun c => (h c).2.2.2.2, sem_eq_zero_of_no_sems (by decide) _⟩) (ReferenceOptConvAIdeal.Value.run m g)

open KernelOptConvAIdeal KernelOptConvAIdeal.Gen ReferenceOptConvAIdeal.Read in
/-- At the same arguments, the kernel's run ends with the arrays of the specification, and so does the reference's. -/
theorem same : algebraic_KernelOptConvAIdeal_ReferenceOptConvAIdeal (hKernelOptConvAIdeal := KernelOptConvAIdeal.Gen.facts) (hReferenceOptConvAIdeal := ReferenceOptConvAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptConvAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptConvAIdeal.Value.run m' g')

/-- The two named constants are the reciprocals they are named for. -/
theorem preserved : preserves_KernelOptConvA_KernelOptConvAIdeal :=
  ⟨IdealRules.named_const.statement KernelOptConvAIdeal.κ "c1" .f32 0x3FC48605#32 ((8388608 / 5463681 : ℝ) : EReal) rfl,
    IdealRules.named_const.statement KernelOptConvAIdeal.κ "c2" .f32 0x42C8E6D3#32 ((268435456 / 2672307 : ℝ) : EReal) rfl⟩

end Cert.OptConvA

end
-- ==== Proof.OptOutB.Kernel.lean ====
/- The optimizer's step of w_out, second layer: what the kernel leaves in its result arrays. -/
module

public import proofs.«01_k».proof.Proof.Gen.KernelOptOutBIdeal.Frame
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptOutB

open Idealize.ShloMosaic Idealize.ShloMosaic.TcCoe Idealize.SL.Sem Cert.Common Cert.Adam

/-- The arrays the call is given. -/
abbrev Args := Step 2 128 1024

open KernelOptOutBIdeal KernelOptOutBIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)

/-- Row `n` of the blocks of the one point `t`. -/
def row (t : Fin cfg0.N) (n : Fin 128) : Fin 128 := n

/-- Where the blocks of point `t` stand. -/
theorem index : ∀ t : Fin cfg0.N, win0_0.index t = ![0, t.val, 0] ∧ win0_1.index t = ![1, t.val, 0] ∧ win0_2.index t = ![1, t.val, 0] ∧ win0_3.index t = ![1, t.val, 0] ∧ win0_4.index t = ![1, t.val, 0] ∧ win0_5.index t = ![1, t.val, 0] ∧ win0_6.index t = ![1, t.val, 0] ∧ win0_7.index t = ![1, t.val, 0] :=
  (by decide +kernel : ∀ t : Fin grid0.N, _)

/-- The blocks of point `t` are its rows of the arrays. -/
theorem shares (c : Dev nD) (t : Fin cfg0.N) (s : Fin 8) (n : Fin 128) (q : Fin 1024) :
    iblk m c 0 t (ix3 s n q) = (args m c).recv (ix3 s (row t n) q) := by
  blk_ext [iblk, V, index t] <;> rfl

theorem block (c : Dev nD) (t : Fin cfg0.N) (z : Fin 1) (n : Fin 128) (q : Fin 1024) :
    iblk m c 1 t (ix3 z n q) = (args m c).w (ix3 1 (row t n) q) ∧ iblk m c 2 t (ix3 z n q) = (args m c).m (ix3 1 (row t n) q)
      ∧ iblk m c 3 t (ix3 z n q) = (args m c).v (ix3 1 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 128) (q : Fin 1024) :
    out0_4 (iblk m c 0 t) (iblk m c 1 t) (iblk m c 2 t) (iblk m c 3 t) (ix3 z n q) = (args m c).grad (row t n) q
      ∧ out0_5 (iblk m c 0 t) (iblk m c 1 t) (iblk m c 2 t) (iblk m c 3 t) (ix3 z n q) = (args m c).delta 1 (row t n) q
      ∧ out0_6 (iblk m c 0 t) (iblk m c 1 t) (iblk m c 2 t) (iblk m c 3 t) (ix3 z n q) = (args m c).mean 1 (row t n) q
      ∧ out0_7 (iblk m c 0 t) (iblk m c 1 t) (iblk m c 2 t) (iblk m c 3 t) (ix3 z n q) = (args m c).square 1 (row t n) q := by
  refine ⟨?_, ?_, ?_, ?_⟩ <;> ((first | unfold_out out0_4 | unfold_out out0_5 | unfold_out out0_6 | unfold_out out0_7); frame_out; pointwise [k0_pay1, k0_pay2, k0_pay3, k0_pay4, k0_pay5, k0_pay6, k0_pay7, k0_pay8, k0_pay9, k0_pay10, k0_pay11, shares, block, named.1, named.2, mul_bias1, mul_bias2, Step.grad, Step.mean, Step.square, Step.delta, Fin.sum_univ_eight])

/-- Where an entry of a result block stands in its array. -/
theorem place (t : Fin cfg0.N) (y : S1x128x1024.Idx) :
    (win0_4.blk t).view.emb y = ix3 1 (row t (y 1)) (y 2)
      ∧ (win0_5.blk t).view.emb y = ix3 1 (row t (y 1)) (y 2)
      ∧ (win0_6.blk t).view.emb y = ix3 1 (row t (y 1)) (y 2)
      ∧ (win0_7.blk t).view.emb y = ix3 1 (row t (y 1)) (y 2) := by
  refine ⟨?_, ?_, ?_, ?_⟩ <;> (rw [eq_ix3 y]; blk_ext [index t]; rfl)

/-- The gradient: the array after the run, in its second layer. -/
theorem arrayG (c : Dev nD) (p : Fin 128) (q : Fin 1024) : (dats m 0 c).arrAt 4 cfg0.N (ix3 1 p q) = (args m c).grad p q :=
  ((dats m 0 c).arrAt_apply_of_coversWhere 4 (fun y => (args m c).grad (y 1) (y 2)) (P := fun y => (y 0).val = 1) (fun β => β 0 = 1)
    (by decide +kernel) (fun t hf y => by
      blk_simp
      rw [after0_4]
      exact ((congrArg _ (eq_ix3 y)).trans (stored m c t (y 0) (y 1) (y 2)).1).trans
        (congrArg (fun i : S2x128x1024.Idx => (args m c).grad (i 1) (i 2)) (place t y).1).symm)
    (fun j => by blk_simp [Pipeline.Window.cell_apply]; try omega) (ix3 1 p q)).trans (if_pos rfl)

/-- What is added to the weight: the array after the run, in its second layer. -/
theorem arrayD (c : Dev nD) (p : Fin 128) (q : Fin 1024) : (dats m 0 c).arrAt 5 cfg0.N (ix3 1 p q) = (args m c).delta 1 p q :=
  ((dats m 0 c).arrAt_apply_of_coversWhere 5 (fun y => (args m c).delta 1 (y 1) (y 2)) (P := fun y => (y 0).val = 1) (fun β => β 0 = 1)
    (by decide +kernel) (fun t hf y => by
      blk_simp
      rw [after0_5]
      exact ((congrArg _ (eq_ix3 y)).trans (stored m c t (y 0) (y 1) (y 2)).2.1).trans
        (congrArg (fun i : S2x128x1024.Idx => (args m c).delta 1 (i 1) (i 2)) (place t y).2.1).symm)
    (fun j => by blk_simp [Pipeline.Window.cell_apply]; try omega) (ix3 1 p q)).trans (if_pos rfl)

/-- The first moment: the array after the run, in its second layer. -/
theorem arrayM (c : Dev nD) (p : Fin 128) (q : Fin 1024) : (dats m 0 c).arrAt 6 cfg0.N (ix3 1 p q) = (args m c).mean 1 p q :=
  ((dats m 0 c).arrAt_apply_of_coversWhere 6 (fun y => (args m c).mean 1 (y 1) (y 2)) (P := fun y => (y 0).val = 1) (fun β => β 0 = 1)
    (by decide +kernel) (fun t hf y => by
      blk_simp
      rw [after0_6]
      exact ((congrArg _ (eq_ix3 y)).trans (stored m c t (y 0) (y 1) (y 2)).2.2.1).trans
        (congrArg (fun i : S2x128x1024.Idx => (args m c).mean 1 (i 1) (i 2)) (place t y).2.2.1).symm)
    (fun j => by blk_simp [Pipeline.Window.cell_apply]; try omega) (ix3 1 p q)).trans (if_pos rfl)

/-- The second moment: the array after the run, in its second layer. -/
theorem arrayV (c : Dev nD) (p : Fin 128) (q : Fin 1024) : (dats m 0 c).arrAt 7 cfg0.N (ix3 1 p q) = (args m c).square 1 p q :=
  ((dats m 0 c).arrAt_apply_of_coversWhere 7 (fun y => (args m c).square 1 (y 1) (y 2)) (P := fun y => (y 0).val = 1) (fun β => β 0 = 1)
    (by decide +kernel) (fun t hf y => by
      blk_simp
      rw [after0_7]
      exact ((congrArg _ (eq_ix3 y)).trans (stored m c t (y 0) (y 1) (y 2)).2.2.2).trans
        (congrArg (fun i : S2x128x1024.Idx => (args m c).square 1 (i 1) (i 2)) (place t y).2.2.2).symm)
    (fun j => by blk_simp [Pipeline.Window.cell_apply]; try omega) (ix3 1 p q)).trans (if_pos rfl)

/-- The second layer of an array, as the host takes it. -/
def second (a : Cube 2 128 1024) : Mat 128 1024 :=
  shapeCast S128x1024 (extractStridedSlice S1x128x1024 ![1, 0, 0] a slices_S2x128x1024_S1x128x1024_1_0_0) shapeCasts_S1x128x1024_S128x1024

theorem second_eq (a : Cube 2 128 1024) (f : Fin 128 → Fin 1024 → EReal) (h : ∀ p q, a (ix3 1 p q) = f p q) : second a = fun y => f (y 0) (y 1) := by
  funext y
  obtain ⟨p, q, rfl⟩ : ∃ p q, y = ix2 p q := ⟨y 0, y 1, eq_ix2 y⟩
  refine Eq.trans ?_ (h p q)
  pointwise [second]

/-- What the host leaves of the four arrays. -/
theorem tail (c : Dev nD) :
    Pipeline.afterTail₀ cfgs (dats m) 0 (V0 m) [hostOps1] c main_v2 = (args m c).layerG
      ∧ Pipeline.afterTail₀ cfgs (dats m) 0 (V0 m) [hostOps1] c main_v4 = (args m c).layerD
      ∧ Pipeline.afterTail₀ cfgs (dats m) 0 (V0 m) [hostOps1] c main_v6 = (args m c).layerM
      ∧ Pipeline.afterTail₀ cfgs (dats m) 0 (V0 m) [hostOps1] c main_v8 = (args m c).layerV := by
  refine ⟨Eq.trans ?_ (second_eq _ _ (arrayG m c)), Eq.trans ?_ (second_eq _ _ (arrayD m c)), Eq.trans ?_ (second_eq _ _ (arrayM m c)),
    Eq.trans ?_ (second_eq _ _ (arrayV m c))⟩ <;>
    (unfold Pipeline.afterTail₀; show StableHlo.after hostOps1 _ (Proc.tc.devRef _) = _; unfold_abbrev_sides; after_results)
  · exact congrArg second (Pipeline.withArrays_arr spec0 (by decide) c (V0 m c) (fun w => (dats m 0 c).arrAt w cfg0.N) 4)
  · exact congrArg second (Pipeline.withArrays_arr spec0 (by decide) c (V0 m c) (fun w => (dats m 0 c).arrAt w cfg0.N) 5)
  · exact congrArg second (Pipeline.withArrays_arr spec0 (by decide) c (V0 m c) (fun w => (dats m 0 c).arrAt w cfg0.N) 6)
  · exact congrArg second (Pipeline.withArrays_arr spec0 (by decide) c (V0 m c) (fun w => (dats m 0 c).arrAt w cfg0.N) 7)

end Cert.OptOutB

end
-- ==== Proof.OptOutB.Claim.lean ====
/- The optimizer's step of w_out, second layer: the kernel and the reference end with the same arrays. -/
module

public import proofs.«01_k».proof.Defs
public import proofs.«01_k».proof.Proof.OptOutB.Kernel
public import proofs.«01_k».proof.Proof.Gen.ReferenceOptOutBIdeal.Read
public import Idealize.ShloMosaic.Lib.Quiescent

@[expose] public section

set_option maxHeartbeats 1000000

noncomputable section

namespace Cert.OptOutB

open Idealize.ShloMosaic Idealize.ShloMosaic.TcCoe Idealize.SL.Sem Cert.Common Cert.Adam

section
open ReferenceOptOutBIdeal ReferenceOptOutBIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)

variable (x : Args)

/-- The gradient, entry by entry. -/
theorem ref_grad (n : Fin 128) (q : Fin 1024) : val_main_v7 (F := Ideal) x.recv (ix2 n q) = x.grad n q := by
  pointwise [val_main_v6, val_main_cst, val_main_v7, Step.grad]

/-- The first moment, entry by entry. -/
theorem ref_mean (n : Fin 128) (q : Fin 1024) : val_main_v12 (F := Ideal) x.recv x.m (ix2 n q) = x.mean 1 n q := by
  pointwise [val_main_cst_0, val_main_v8, val_main_v2, val_main_v3, val_main_v9, val_main_cst_1, val_main_v10, val_main_v11, val_main_v12, ref_grad, Step.mean]

/-- The second moment, entry by entry. -/
theorem ref_square (n : Fin 128) (q : Fin 1024) : val_main_v18 (F := Ideal) x.recv x.v (ix2 n q) = x.square 1 n q := by
  pointwise [val_main_cst_2, val_main_v13, val_main_v4, val_main_v5, val_main_v14, val_main_cst_3, val_main_v16, val_main_v15, val_main_v17, val_main_v18, ref_grad, ref_mean, Step.square]

/-- What is added to the weight, entry by entry. -/
theorem ref_delta (n : Fin 128) (q : Fin 1024) : val_main_v31 (F := Ideal) x.recv x.w x.m x.v (ix2 n q) = x.delta 1 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta]

theorem ref_G : val_main_v7 (F := Ideal) x.recv = x.layerG := funext fun y => (congrArg _ (eq_ix2 y)).trans (ref_grad x (y 0) (y 1))

theorem ref_D : val_main_v31 (F := Ideal) x.recv x.w x.m x.v = x.layerD := funext fun y => (congrArg _ (eq_ix2 y)).trans (ref_delta x (y 0) (y 1))

theorem ref_M : val_main_v12 (F := Ideal) x.recv x.m = x.layerM := funext fun y => (congrArg _ (eq_ix2 y)).trans (ref_mean x (y 0) (y 1))

theorem ref_V : val_main_v18 (F := Ideal) x.recv x.v = x.layerV := funext fun y => (congrArg _ (eq_ix2 y)).trans (ref_square x (y 0) (y 1))

end

/-- The reference's run leaves its arguments alone and every counter at zero. -/
theorem reference_frame : quiescent_ReferenceOptOutBIdeal (hReferenceOptOutBIdeal := ReferenceOptOutBIdeal.Gen.facts) := fun m g _ =>
  (θ_run _ _ _).mono (fun r h => ⟨fun c => (h c).2.2.2.2, sem_eq_zero_of_no_sems (by decide) _⟩) (ReferenceOptOutBIdeal.Value.run m g)

open KernelOptOutBIdeal KernelOptOutBIdeal.Gen ReferenceOptOutBIdeal.Read in
/-- At the same arguments, the kernel's run ends with the arrays of the specification, and so does the reference's. -/
theorem same : algebraic_KernelOptOutBIdeal_ReferenceOptOutBIdeal (hKernelOptOutBIdeal := KernelOptOutBIdeal.Gen.facts) (hReferenceOptOutBIdeal := ReferenceOptOutBIdeal.Gen.facts) := by
  intro m g m' g' _ hagree
  have e : ∀ c, refArgs m' c = args m c := fun c => by
    unfold refArgs args
    simp only [hagree c]
  refine ⟨fun c => (args m c).layerG, fun c => (args m c).layerD, fun c => (args m c).layerM, fun c => (args m c).layerV, ?_, ?_⟩
  · exact (θ_run _ _ _).mono (fun r h c => ⟨((h c).2 main_v2 (Pipeline.mem_restRefs_of main_v2 (by decide) (by decide))).trans (tail m c).1,
      ((h c).2 main_v4 (Pipeline.mem_restRefs_of main_v4 (by decide) (by decide))).trans (tail m c).2.1,
      ((h c).2 main_v6 (Pipeline.mem_restRefs_of main_v6 (by decide) (by decide))).trans (tail m c).2.2.1,
      ((h c).2 main_v8 (Pipeline.mem_restRefs_of main_v8 (by decide) (by decide))).trans (tail m c).2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (KernelOptOutBIdeal.Gen.run_main m g)
  · exact (θ_run _ _ _).mono (fun r h c => by
      obtain ⟨h0, h1, h2, h3, ha⟩ := h c
      exact ⟨(h0.trans (val_main_v7_eq ..)).trans ((ref_G (refArgs m' c)).trans (congrArg Step.layerG (e c))),
      (h1.trans (val_main_v31_eq ..)).trans ((ref_D (refArgs m' c)).trans (congrArg Step.layerD (e c))),
      (h2.trans (val_main_v12_eq ..)).trans ((ref_M (refArgs m' c)).trans (congrArg Step.layerM (e c))),
      (h3.trans (val_main_v18_eq ..)).trans ((ref_V (refArgs m' c)).trans (congrArg Step.layerV (e c))), ha⟩) (ReferenceOptOutBIdeal.Value.run m' g')

/-- The two named constants are the reciprocals they are named for. -/
theorem preserved : preserves_KernelOptOutB_KernelOptOutBIdeal :=
  ⟨IdealRules.named_const.statement KernelOptOutBIdeal.κ "c1" .f32 0x3FC48605#32 ((8388608 / 5463681 : ℝ) : EReal) rfl,
    IdealRules.named_const.statement KernelOptOutBIdeal.κ "c2" .f32 0x42C8E6D3#32 ((268435456 / 2672307 : ℝ) : EReal) rfl⟩

end Cert.OptOutB

end
-- ==== Proof.OptOutA.Kernel.lean ====
/- The optimizer's step of w_out, first layer: what the kernel leaves in its result arrays. -/
module

public import proofs.«01_k».proof.Proof.Gen.KernelOptOutAIdeal.Value
public import Idealize.ShloMosaic.Lib.Pipeline.ValueKit
public import Idealize.ShloMosaic.Lib.Pipeline.ReadBack
public import proofs.«01_k».proof.Proof.Adam

@[expose] public section

set_option maxHeartbeats 1000000

noncomputable section

namespace Cert.OptOutA

open Idealize.ShloMosaic Idealize.ShloMosaic.TcCoe Idealize.SL.Sem Cert.Common Cert.Adam

/-- The arrays the call is given. -/
abbrev Args := Given 128 1024

open KernelOptOutAIdeal KernelOptOutAIdeal.Gen

variable (m : (ℓ : Loc nD τ sig) → Buf (Elt Ideal) ℓ)

/-- The arrays a device is given. -/
def args (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

/-- Row `n` of the blocks of the one point `t`. -/
def row (t : Fin cfg0.N) (n : Fin 128) : Fin 128 := n

/-- Where the blocks of point `t` stand. -/
theorem index : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] ∧ win0_7.index t = ![0, t.val, 0] :=
  (by decide +kernel : ∀ t : Fin grid0.N, _)

/-- The blocks of point `t` are its rows of the arrays. -/
theorem shares (c : Dev nD) (t : Fin cfg0.N) (s : Fin 8) (n : Fin 128) (q : Fin 1024) :
    iblk m c 0 t (ix3 s n q) = (args m c).recv (ix3 s (row t n) q) := by
  blk_ext [iblk, V, index t] <;> rfl

theorem block (c : Dev nD) (t : Fin cfg0.N) (z : Fin 1) (n : Fin 128) (q : Fin 1024) :
    iblk m c 1 t (ix3 z n q) = (args m c).w (ix3 0 (row t n) q) ∧ iblk m c 2 t (ix3 z n q) = (args m c).m (ix3 0 (row t n) q)
      ∧ iblk m c 3 t (ix3 z n q) = (args m c).v (ix3 0 (row t n) q) := by
  refine ⟨?_, ?_, ?_⟩ <;> blk_ext [iblk, V, index t] <;> rfl

/-- The named constants are the reciprocals of the two corrections. -/
theorem named : Named.named (F := Ideal) κ "c1" (φ := .f32) 0x3FC48605#32 = ((8388608 / 5463681 : ℝ) : EReal)
    ∧ Named.named (F := Ideal) κ "c2" (φ := .f32) 0x42C8E6D3#32 = ((268435456 / 2672307 : ℝ) : EReal) :=
  ⟨IdealRules.named_const.ideal_named_scalar _ _ _ _ rfl, IdealRules.named_const.ideal_named_scalar _ _ _ _ rfl⟩

/-- What point `t` stores in the four result blocks. -/
theorem stored (c : Dev nD) (t : Fin cfg0.N) (z : Fin 1) (n : Fin 128) (q : Fin 1024) :
    (outsAt0 m c t).1 (ix3 z n q) = (args m c).step.grad (row t n) q
      ∧ (outsAt0 m c t).2.1 (ix3 z n q) = (args m c).step.delta 0 (row t n) q
      ∧ (outsAt0 m c t).2.2.1 (ix3 z n q) = (args m c).step.mean 0 (row t n) q
      ∧ (outsAt0 m c t).2.2.2 (ix3 z n q) = (args m c).step.square 0 (row t n) q := by
  refine ⟨?_, ?_, ?_, ?_⟩ <;> (unfold outsAt0; frame_out; pointwise [k0_pay1, k0_pay2, k0_pay3, k0_pay4, k0_pay5, k0_pay6, k0_pay7, k0_pay8, k0_pay9, k0_pay10, shares, block, named.1, named.2, mul_bias1, mul_bias2, Step.grad, Step.mean, Step.square, Step.delta, Given.step, Fin.sum_univ_eight])

/-- Where an entry of a result block stands in its array. -/
theorem place (t : Fin cfg0.N) (y : S1x128x1024.Idx) :
    (win0_4.blk t).view.emb y = ix3 0 (row t (y 1)) (y 2)
      ∧ (win0_5.blk t).view.emb y = ix3 0 (row t (y 1)) (y 2)
      ∧ (win0_6.blk t).view.emb y = ix3 0 (row t (y 1)) (y 2)
      ∧ (win0_7.blk t).view.emb y = ix3 0 (row t (y 1)) (y 2) := by
  refine ⟨?_, ?_, ?_, ?_⟩ <;> (rw [eq_ix3 y]; blk_ext [index t]; rfl)

/-- Before the run the result arrays hold what is given. -/
theorem entry (c : Dev nD) : (dats m 0 c).A 4 = (args m c).givenG ∧ (dats m 0 c).A 5 = (args m c).givenD ∧ (dats m 0 c).A 6 = (args m c).givenM ∧ (dats m 0 c).A 7 = (args m c).givenV := by
  refine ⟨(A_eq m c 4).trans (show V m c main_v0_0 = _ from ?_), (A_eq m c 5).trans (show V m c main_v0_1 = _ from ?_),
    (A_eq m c 6).trans (show V m c main_v0_2 = _ from ?_), (A_eq m c 7).trans (show V m c main_v0_3 = _ from ?_)⟩ <;> (entry_read; rfl)

/-- The gradient: the array after the run. -/
theorem arrayG (c : Dev nD) : (dats m 0 c).arrAt 4 cfg0.N = (args m c).outG :=
  ((dats m 0 c).arrAt_eq_of_coversWhere 4 (args m c).outG (fun β => β 0 = 0) (by decide +kernel) (P := fun y => (y 0).val = 0)
    (fun t hf y => by
      blk_simp
      rw [after0_4]
      exact ((congrArg _ (eq_ix3 y)).trans (stored m c t (y 0) (y 1) (y 2)).1).trans
        ((congrArg (args m c).outG (place t y).1).trans (first_zero ..)).symm)
    (fun j => by blk_simp [Pipeline.Window.cell_apply]; try omega)).trans (first_of _ (entry m c).1)

/-- What is added to the weight: the array after the run. -/
theorem arrayD (c : Dev nD) : (dats m 0 c).arrAt 5 cfg0.N = (args m c).outD :=
  ((dats m 0 c).arrAt_eq_of_coversWhere 5 (args m c).outD (fun β => β 0 = 0) (by decide +kernel) (P := fun y => (y 0).val = 0)
    (fun t hf y => by
      blk_simp
      rw [after0_5]
      exact ((congrArg _ (eq_ix3 y)).trans (stored m c t (y 0) (y 1) (y 2)).2.1).trans
        ((congrArg (args m c).outD (place t y).2.1).trans (first_zero ..)).symm)
    (fun j => by blk_simp [Pipeline.Window.cell_apply]; try omega)).trans (first_of _ (entry m c).2.1)

/-- The first moment: the array after the run. -/
theorem arrayM (c : Dev nD) : (dats m 0 c).arrAt 6 cfg0.N = (args m c).outM :=
  ((dats m 0 c).arrAt_eq_of_coversWhere 6 (args m c).outM (fun β => β 0 = 0) (by decide +kernel) (P := fun y => (y 0).val = 0)
    (fun t hf y => by
      blk_simp
      rw [after0_6]
      exact ((congrArg _ (eq_ix3 y)).trans (stored m c t (y 0) (y 1) (y 2)).2.2.1).trans
        ((congrArg (args m c).outM (place t y).2.2.1).trans (first_zero ..)).symm)
    (fun j => by blk_simp [Pipeline.Window.cell_apply]; try omega)).trans (first_of _ (entry m c).2.2.1)

/-- The second moment: the array after the run. -/
theorem arrayV (c : Dev nD) : (dats m 0 c).arrAt 7 cfg0.N = (args m c).outV :=
  ((dats m 0 c).arrAt_eq_of_coversWhere 7 (args m c).outV (fun β => β 0 = 0) (by decide +kernel) (P := fun y => (y 0).val = 0)
    (fun t hf y => by
      blk_simp
      rw [after0_7]
      exact ((congrArg _ (eq_ix3 y)).trans (stored m c t (y 0) (y 1) (y 2)).2.2.2).trans
        ((congrArg (args m c).outV (place t y).2.2.2).trans (first_zero ..)).symm)
    (fun j => by blk_simp [Pipeline.Window.cell_apply]; try omega)).trans (first_of _ (entry m c).2.2.2)

end Cert.OptOutA

end
-- ==== Proof.OptOutA.Claim.lean ====
/- The optimizer's step of w_out, first layer: the kernel and the reference end with the same arrays. -/
module

public import proofs.«01_k».proof.Defs
public import proofs.«01_k».proof.Proof.OptOutA.Kernel
public import proofs.«01_k».proof.Proof.Gen.ReferenceOptOutAIdeal.Read
public import Idealize.ShloMosaic.Lib.Quiescent

@[expose] public section

set_option maxHeartbeats 1000000

noncomputable section

namespace Cert.OptOutA

open Idealize.ShloMosaic Idealize.ShloMosaic.TcCoe Idealize.SL.Sem Cert.Common Cert.Adam

section
open ReferenceOptOutAIdeal ReferenceOptOutAIdeal.Read

/-- The arrays a device of the reference is given. -/
def refArgs (m : (ℓ : Loc nD τ sig) → Buf (Elt Ideal) ℓ) (c : Dev nD) : Args where
  recv := m ((c : Thread nD τ).loc main_arg0)
  w := m ((c : Thread nD τ).loc main_arg1)
  m := m ((c : Thread nD τ).loc main_arg2)
  v := m ((c : Thread nD τ).loc main_arg3)
  givenG := m ((c : Thread nD τ).loc main_arg4)
  givenD := m ((c : Thread nD τ).loc main_arg5)
  givenM := m ((c : Thread nD τ).loc main_arg6)
  givenV := m ((c : Thread nD τ).loc main_arg7)

variable (x : Args)

/-- The gradient, entry by entry. -/
theorem ref_grad (n : Fin 128) (q : Fin 1024) : val_main_v7 (F := Ideal) x.recv (ix2 n q) = x.step.grad n q := by
  pointwise [val_main_v6, val_main_cst, val_main_v7, Step.grad, Given.step]

/-- The first moment, entry by entry. -/
theorem ref_mean (n : Fin 128) (q : Fin 1024) : val_main_v12 (F := Ideal) x.recv x.m (ix2 n q) = x.step.mean 0 n q := by
  pointwise [val_main_cst_0, val_main_v8, val_main_v2, val_main_v3, val_main_v9, val_main_cst_1, val_main_v10, val_main_v11, val_main_v12, ref_grad, Step.mean, Given.step]

/-- The second moment, entry by entry. -/
theorem ref_square (n : Fin 128) (q : Fin 1024) : val_main_v18 (F := Ideal) x.recv x.v (ix2 n q) = x.step.square 0 n q := by
  pointwise [val_main_cst_2, val_main_v13, val_main_v4, val_main_v5, val_main_v14, val_main_cst_3, val_main_v16, val_main_v15, val_main_v17, val_main_v18, ref_grad, ref_mean, Step.square, Given.step]

/-- What is added to the weight, entry by entry. -/
theorem ref_delta (n : Fin 128) (q : Fin 1024) : val_main_v31 (F := Ideal) x.recv x.w x.m x.v (ix2 n q) = x.step.delta 0 n q := by
  pointwise [val_main_cst_8, val_main_v30, val_main_cst_4, val_main_v19, val_main_v20, val_main_cst_5, val_main_v21, val_main_v22, val_main_v23, val_main_cst_6, val_main_v24, val_main_v25, val_main_v26, val_main_cst_7, val_main_v27, val_main_v0, val_main_v1, val_main_v28, val_main_v29, val_main_v31, ref_grad, ref_mean, ref_square, Step.delta, Given.step]

theorem ref_G : val_main_v36 (F := Ideal) x.recv x.givenG = x.outG := by
  refine eq_first ?_ ?_ <;> (intro n q; pointwise [val_main_v34, val_main_v32, val_main_v33, val_main_v35, val_main_v36, ref_grad])

theorem ref_D : val_main_v41 (F := Ideal) x.recv x.w x.m x.v x.givenD = x.outD := by
  refine eq_first ?_ ?_ <;> (intro n q; pointwise [val_main_v39, val_main_v37, val_main_v38, val_main_v40, val_main_v41, ref_delta])

theorem ref_M : val_main_v46 (F := Ideal) x.recv x.m x.givenM = x.outM := by
  refine eq_first ?_ ?_ <;> (intro n q; pointwise [val_main_v44, val_main_v42, val_main_v43, val_main_v45, val_main_v46, ref_mean])

theorem ref_V : val_main_v51 (F := Ideal) x.recv x.v x.givenV = x.outV := by
  refine eq_first ?_ ?_ <;> (intro n q; pointwise [val_main_v49, val_main_v47, val_main_v48, val_main_v50, val_main_v51, ref_square])

end

/-- The reference's run leaves its arguments alone and every counter at zero. -/
theorem reference_frame : quiescent_ReferenceOptOutAIdeal (hReferenceOptOutAIdeal := ReferenceOptOutAIdeal.Gen.facts) := fun m g _ =>
  (θ_run _ _ _).mono (fun r h => ⟨fun c => (h c).2.2.2.2, sem_eq_zero_of_no_sems (by decide) _⟩) (ReferenceOptOutAIdeal.Value.run m g)

open KernelOptOutAIdeal KernelOptOutAIdeal.Gen ReferenceOptOutAIdeal.Read in
/-- At the same arguments, the kernel's run ends with the arrays of the specification, and so does the reference's. -/
theorem same : algebraic_KernelOptOutAIdeal_ReferenceOptOutAIdeal (hKernelOptOutAIdeal := KernelOptOutAIdeal.Gen.facts) (hReferenceOptOutAIdeal := ReferenceOptOutAIdeal.Gen.facts) := by
  intro m g m' g' _ hagree
  have e : ∀ c, refArgs m' c = args m c := fun c => by
    unfold refArgs args
    simp only [hagree c]
  refine ⟨fun c => (args m c).outG, fun c => (args m c).outD, fun c => (args m c).outM, fun c => (args m c).outV, ?_, ?_⟩
  · exact (θ_run _ _ _).mono (fun r h c => by
      have h := h c
      rw [arrayG, arrayD, arrayM, arrayV] at h
      exact h) (KernelOptOutAIdeal.Value.run_blocks m g)
  · exact (θ_run _ _ _).mono (fun r h c => by
      obtain ⟨h0, h1, h2, h3, ha⟩ := h c
      exact ⟨(h0.trans (val_main_v36_eq ..)).trans ((ref_G (refArgs m' c)).trans (congrArg Given.outG (e c))),
      (h1.trans (val_main_v41_eq ..)).trans ((ref_D (refArgs m' c)).trans (congrArg Given.outD (e c))),
      (h2.trans (val_main_v46_eq ..)).trans ((ref_M (refArgs m' c)).trans (congrArg Given.outM (e c))),
      (h3.trans (val_main_v51_eq ..)).trans ((ref_V (refArgs m' c)).trans (congrArg Given.outV (e c))), ha⟩) (ReferenceOptOutAIdeal.Value.run m' g')

/-- The two named constants are the reciprocals they are named for. -/
theorem preserved : preserves_KernelOptOutA_KernelOptOutAIdeal :=
  ⟨IdealRules.named_const.statement KernelOptOutAIdeal.κ "c1" .f32 0x3FC48605#32 ((8388608 / 5463681 : ℝ) : EReal) rfl,
    IdealRules.named_const.statement KernelOptOutAIdeal.κ "c2" .f32 0x42C8E6D3#32 ((268435456 / 2672307 : ℝ) : EReal) rfl⟩

end Cert.OptOutA

end
-- ==== Proof.Loss.Kernel.lean ====
/- The loss of a device's rows and its gradient: what the kernel leaves in its result arrays. -/
module

public import proofs.«01_k».proof.Proof.Gen.KernelLossIdeal.Value
public import Idealize.ShloMosaic.Lib.Pipeline.ValueKit
public import Idealize.ShloMosaic.Lib.Pipeline.ReadBack
public import proofs.«01_k».proof.Proof.NormBack

@[expose] public section

set_option maxHeartbeats 1000000

noncomputable section

namespace Cert.Loss

open Idealize.ShloMosaic Idealize.ShloMosaic.TcCoe Idealize.SL.Sem
open Cert.Common Cert.Norm

/-- The arrays the call is given. -/
structure Args where
  y : Mat 8192 1024
  target : Mat 8192 1024

namespace Args
variable (a : Args)

/-- The error of an entry. -/
def err (R : Fin 8192) (k : Fin 1024) : EReal := a.y (ix2 R k) - a.target (ix2 R k)

/-- The mean square of a row's errors. -/
def square (R : Fin 8192) : EReal := (∑ k : Fin 1024, a.err R k * a.err R k) * ((1 / 1024 : ℝ) : EReal)

/-- The gradient of the loss. -/
def dy : Mat 8192 1024 := fun i => a.err (i 0) (i 1) * ((1 / 1024 : ℝ) : EReal)

/-- Half the sum of the rows' mean squares. -/
def loss : EReal := (∑ R : Fin 8192, a.square R) * ((1 / 2 : ℝ) : EReal)

def lossArray : Mat 1 1 := fun _ => a.loss

end Args

theorem inv1024 : Ideal.ofBits .f32 0x3A800000#32 = ((1 / 1024 : ℝ) : EReal) := by
  simp [Ideal.ofBits, Ideal.ieee, -EReal.coe_mul]
  norm_num

theorem half : Ideal.ofBits .f32 0x3F000000#32 = ((1 / 2 : ℝ) : EReal) := by
  simp [Ideal.ofBits, Ideal.ieee, -EReal.coe_mul]
  norm_num

open Cert.KernelLossIdeal Cert.KernelLossIdeal.Gen

variable (m : (ℓ : Loc nD τ sig) → Buf (Elt Ideal) ℓ)

/-- The arrays a device is given. -/
def args (c : Dev nD) : Args where
  y := m ((c : Thread nD τ).loc main_arg0)
  target := m ((c : Thread nD τ).loc main_arg1)

/-- Row `n` of the blocks of point `t`. -/
def row (t : Fin cfg0.N) (n : Fin 512) : Fin 8192 := ⟨512 * t.val + n.val, by have h : t.val < 16 := t.isLt; omega⟩

theorem index : ∀ t : Fin cfg0.N, win0_0.index t = ![t.val, 0] ∧ win0_1.index t = ![t.val, 0] ∧ win0_2.index t = ![t.val, 0]
    ∧ win0_3.index t = ![0, 0] := (by decide +kernel : ∀ t : Fin grid0.N, _)

theorem block (c : Dev nD) (t : Fin cfg0.N) (n : Fin 512) (k : Fin 1024) :
    iblk m c 0 t (ix2 n k) = (args m c).y (ix2 (row t n) k) ∧ iblk m c 1 t (ix2 n k) = (args m c).target (ix2 (row t n) k) := by
  refine ⟨?_, ?_⟩ <;> blk_ext [iblk, V, index t] <;> (show t.val * 512 + n.val = 512 * t.val + n.val; omega)

/-! What a point computes, at an entry. -/

theorem point_err (c : Dev nD) (t : Fin cfg0.N) (n : Fin 512) (k : Fin 1024) :
    k0_pay1 (iblk m c 0 t) (iblk m c 1 t) (ix2 n k) = (args m c).err (row t n) k := by
  pointwise [k0_pay1, block, Args.err]

theorem point_dy (c : Dev nD) (t : Fin cfg0.N) (y : S512x1024.Idx) :
    k0_pay2 (iblk m c 0 t) (iblk m c 1 t) y = (args m c).dy (ix2 (row t (y 0)) (y 1)) := by
  obtain ⟨n, k, rfl⟩ : ∃ n k, y = ix2 n k := ⟨y 0, y 1, eq_ix2 y⟩
  pointwise [k0_pay2, point_err, Args.dy, inv1024]

/-- The part of the loss that a point's rows give. -/
def part (c : Dev nD) (t : ℕ) (ht : t < cfg0.N) : EReal :=
  (∑ n : Fin 512, (args m c).square (row ⟨t, ht⟩ n)) * ((1 / 2 : ℝ) : EReal)

theorem point_part (c : Dev nD) (t : Fin cfg0.N) (z w : Fin 1) :
    k0_pay3 (iblk m c 0 t) (iblk m c 1 t) (ix2 z w) = part m c t.val t.isLt := by
  pointwise [k0_pay3, point_err, part, Args.square, inv1024, half]
  exact mul_comm _ _

theorem point_add (c : Dev nD) (t : Fin cfg0.N) (acc : S1x1.Idx → EReal) (z w : Fin 1) :
    k0_pay4 (iblk m c 0 t) (iblk m c 1 t) acc (ix2 z w) = acc (ix2 z w) + part m c t.val t.isLt := by
  pointwise [k0_pay4, point_part]

/-! What a point stores. -/

theorem first_or_later (t : Fin cfg0.N) : (t.val % 16 = 0 ∧ ¬ 1 ≤ t.val) ∨ (¬ t.val % 16 = 0 ∧ 1 ≤ t.val) := by
  have h : t.val < 16 := t.isLt
  omega

theorem stored2 (c : Dev nD) (t : Fin cfg0.N) (y : S512x1024.Idx) :
    (outsAt0 m c t.val t.isLt).1 y = (args m c).dy (ix2 (row t (y 0)) (y 1)) := by
  rcases first_or_later t with ⟨h0, h1⟩ | ⟨h0, h1⟩
  · rw [outsAt0_A m c t h0 h1]
    frame_out
    exact point_dy m c t y
  · rw [outsAt0_B m c t h0 h1]
    frame_out
    exact point_dy m c t y

/-- The first point leaves its own part of the loss, -/
theorem stored3_first (c : Dev nD) (t : Fin cfg0.N) (h : t.val % 16 = 0) (y : S1x1.Idx) :
    (outsAt0 m c t.val t.isLt).2 y = 0 + part m c t.val t.isLt := by
  rw [zero_add, eq_ix2 y]
  rcases first_or_later t with ⟨h0, h1⟩ | ⟨h0, h1⟩
  · rw [outsAt0_A m c t h0 h1]
    frame_out
    exact point_part m c t (y 0) (y 1)
  · exact absurd h h0

/-- and a later one adds its part to what is there. -/
theorem stored3_later (c : Dev nD) (t : Fin cfg0.N) (h : ¬ t.val % 16 = 0) (y : S1x1.Idx) :
    (outsAt0 m c t.val t.isLt).2 y
      = (outsAt0 m c (t.val - 1) (Nat.lt_of_le_of_lt (Nat.sub_le _ _) t.isLt)).2 y + part m c t.val t.isLt := by
  rw [eq_ix2 y]
  rcases first_or_later t with ⟨h0, h1⟩ | ⟨h0, h1⟩
  · exact absurd h0 h
  · rw [outsAt0_B m c t h0 h1]
    frame_out
    exact point_add m c t _ (y 0) (y 1)

/-- The last point leaves the loss of all rows. -/
theorem stored3_last (c : Dev nD) (t : Fin cfg0.N) (ht : t.val + 1 = cfg0.N) (y : S1x1.Idx) :
    (outsAt0 m c t.val t.isLt).2 y = (args m c).loss := by
  refine (Pipeline.eq_sum_fin_of_reset_step_apply_last (fun n h => (outsAt0 m c n h).2) 16 (fun _ => 0) _
    (fun t h j => stored3_first m c t h j) (fun t h j => stored3_later m c t h j) (Nat.le_refl 16) t ht y).trans ?_
  unfold Args.loss
  rw [zero_add, Fin.sum_univ_tiles 16 512 rfl]
  refine (sum_mul_real _ (1 / 2) (by norm_num)).trans (congrArg (· * ((1 / 2 : ℝ) : EReal)) ?_)
  refine Finset.sum_congr rfl fun p _ => Finset.sum_congr rfl fun r _ => congrArg (args m c).square ?_
  exact Fin.ext (by show 512 * p.val + r.val = p.val * 512 + r.val; omega)

/-! The arrays after the run. -/

theorem array2 (c : Dev nD) : (dats m 0 c).arrAt 2 cfg0.N = (args m c).dy := by
  refine (dats m 0 c).arrAt_eq_of_covers 2 _ (by decide +kernel) fun t hf y => ?_
  blk_simp
  rw [after0_2]
  refine (stored2 m c t y).trans (congrArg (args m c).dy ?_)
  refine Shape.idx_ext₂ ?_ ?_
  · blk_simp [index t]
    show 512 * t.val + _ = t.val * 512 + _
    omega
  · blk_simp [index t]

theorem array3 (c : Dev nD) : (dats m 0 c).arrAt 3 cfg0.N = (args m c).lossArray := by
  refine (dats m 0 c).arrAt_eq_of_covers 3 _ (by decide +kernel) fun t hf y => ?_
  blk_simp
  rw [after0_3]
  have ht : t.val % 16 = 15 := (flush0_3 t).mp hf
  have hN : t.val < 16 := t.isLt
  exact stored3_last m c t (by show t.val + 1 = 16; omega) y

end Cert.Loss

end
-- ==== Proof.Loss.Claim.lean ====
/- The loss of a device's rows and its gradient: the kernel and the reference end with the same arrays. -/
module

public import proofs.«01_k».proof.Defs
public import proofs.«01_k».proof.Proof.Loss.Kernel
public import proofs.«01_k».proof.Proof.Gen.ReferenceLossIdeal.Read
public import Idealize.ShloMosaic.Lib.Quiescent

@[expose] public section

set_option maxHeartbeats 1000000

noncomputable section

namespace Cert.Loss

open Idealize.ShloMosaic Idealize.ShloMosaic.TcCoe Idealize.SL.Sem Cert.Common Cert.Norm

section
open ReferenceLossIdeal ReferenceLossIdeal.Read

/-- The arrays a device of the reference is given. -/
def refArgs (m : (ℓ : Loc nD τ sig) → Buf (Elt Ideal) ℓ) (c : Dev nD) : Args where
  y := m ((c : Thread nD τ).loc main_arg0)
  target := m ((c : Thread nD τ).loc main_arg1)

theorem two : Ideal.ofBits .f32 0x40000000#32 = ((2 : ℝ) : EReal) := by
  simp [Ideal.ofBits, Ideal.ieee, -EReal.coe_mul]
  norm_num

theorem one : Ideal.ofBits .f32 0x3F800000#32 = ((1 : ℝ) : EReal) := by
  simp [Ideal.ofBits, Ideal.ieee, -EReal.coe_mul]
  norm_num

theorem ref_dy (a : Args) : val_main_v14 (F := Ideal) a.y a.target = a.dy := by
  funext y
  obtain ⟨R, k, rfl⟩ : ∃ R k, y = ix2 R k := ⟨y 0, y 1, eq_ix2 y⟩
  pointwise [val_main_v14, val_main_v13, val_main_v12, val_main_v11, val_main_cst_6, val_main_v10, val_main_v9, val_main_cst_5, val_main_cst_4,
    val_main_v3, val_main_v2, val_main_cst, val_main_v0, Args.dy, Args.err, one, two, half, const1024]
  rw [Ideal.div_coe (show (1024 : ℝ) ≠ 0 by norm_num), mul_comm (a.y _ - _), ← mul_assoc, ← EReal.coe_mul, ← EReal.coe_mul, ← EReal.coe_mul]
  congr 2
  norm_num

/-- The mean square of a row's errors. -/
theorem ref_square (a : Args) (R : Fin 8192) : val_main_v6 (F := Ideal) a.y a.target (ix1 R) = a.square R := by
  pointwise [val_main_v6, val_main_v5, val_main_cst_1, val_main_v4, val_main_cst_0, val_main_v1, val_main_v0, Args.square, Args.err, const1024]
  rw [Ideal.div_coe (show (1024 : ℝ) ≠ 0 by norm_num)]

theorem ref_loss (a : Args) : val_main_v15 (F := Ideal) a.y a.target = a.lossArray := by
  funext y
  obtain ⟨p, q, rfl⟩ : ∃ p q, y = ix2 p q := ⟨y 0, y 1, eq_ix2 y⟩
  pointwise [val_main_v15, val_main_v8, val_main_cst_3, val_main_v7, val_main_cst_2, ref_square, Args.lossArray, Args.loss, half]
  exact mul_comm _ _

end

/-- The reference's run leaves its arguments alone and every counter at zero. -/
theorem reference_frame : quiescent_ReferenceLossIdeal (hReferenceLossIdeal := ReferenceLossIdeal.Gen.facts) := fun m g _ =>
  (θ_run _ _ _).mono (fun r h => ⟨fun c => (h c).2.2, sem_eq_zero_of_no_sems (by decide) _⟩) (ReferenceLossIdeal.Value.run m g)

open KernelLossIdeal KernelLossIdeal.Gen ReferenceLossIdeal.Read in
/-- At the same arguments, the kernel's run ends with the arrays of the specification, and so does the reference's. -/
theorem same : algebraic_KernelLossIdeal_ReferenceLossIdeal (hKernelLossIdeal := KernelLossIdeal.Gen.facts) (hReferenceLossIdeal := ReferenceLossIdeal.Gen.facts) := by
  intro m g m' g' _ hagree
  have e : ∀ c, refArgs m' c = args m c := fun c => by
    unfold refArgs args
    simp only [hagree c]
  refine ⟨fun c => (args m c).dy, fun c => (args m c).lossArray, ?_, ?_⟩
  · exact (θ_run _ _ _).mono (fun r h c => by
      have h := h c
      rw [array2, array3] at h
      exact h) (KernelLossIdeal.Value.run_blocks m g)
  · exact (θ_run _ _ _).mono (fun r h c => by
      obtain ⟨h0, h1, ha⟩ := h c
      exact ⟨(h0.trans (val_main_v14_eq ..)).trans ((ref_dy (refArgs m' c)).trans (congrArg Args.dy (e c))),
      (h1.trans (val_main_v15_eq ..)).trans ((ref_loss (refArgs m' c)).trans (congrArg Args.lossArray (e c))), ha⟩) (ReferenceLossIdeal.Value.run m' g')

end Cert.Loss

end
-- ==== Proof.WSc.Kernel.lean ====
/- The gradient of the state-space branch's output matrix: what the kernel leaves in its result array. -/
module

public import proofs.«01_k».proof.Proof.Gen.KernelWScIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WSc

open Idealize.ShloMosaic Idealize.ShloMosaic.TcCoe Idealize.SL.Sem
open Cert.Common

/-- The arrays the call is given. -/
structure Args where
  a : Mat 8192 1024
  b : Mat 8192 256

namespace Args
variable (x : Args)

/-- An entry of the weight's gradient: the products of the two arrays' entries, summed over the rows. -/
def dw (p : Fin 1024) (q : Fin 256) : EReal := ∑ R : Fin 8192, x.a (ix2 R p) * x.b (ix2 R q)

/-- The gradient, in the layout the devices exchange. -/
def out : Quad 1 1 1024 256 := fun y => x.dw (y 2) (y 3)

end Args

open Cert.KernelWScIdeal Cert.KernelWScIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 0] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 1024) :
    iblk m c 0 t (ix3 z n p) = (args m c).a (ix2 (row t n) p) := by
  have ht : t.val < 8 := t.isLt
  unfold iblk
  blk_simp
  entry_read
  pointwise
  blk_ext [index0 t]
  · show t.val * 1024 + n.val = 1024 * (t.val % 8) + n.val
    omega

theorem block1 (c : Dev nD) (t : Fin cfg0.N) (z : Fin 1) (n : Fin 1024) (q : Fin 256) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 1024) (q : Fin 256) : EReal :=
  ∑ n : Fin 1024, (args m c).a (ix2 (row t n) p) * (args m c).b (ix2 (row t n) q)

theorem point_zero (p : Fin 1024) (q : Fin 256) : k0_pay1 (F := Ideal) (ix2 p q) = 0 := by
  pointwise [k0_pay1]

theorem point_add (s : Vec Ideal S1024x256 .f32) (u : Vec Ideal S1x1024x1024 .f32) (v : Vec Ideal S1x1024x256 .bf16)
    (p : Fin 1024) (q : Fin 256) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S1024x256 .f32) (y : S1024x256.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S1024x256.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S1024x256.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S1024x256.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

theorem point_out (s : Vec Ideal S1024x256 .f32) (y : S1x1x1024x256.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x1024x256.Idx) :
    (outsAt0 m c t.val t.isLt).1 y = (args m c).dw (y 2) (y 3) := by
  refine Eq.trans ?_ (carried_last m c t h (ix2 (y 2) (y 3)))
  rw [outsAt0_C m c t (by omega) h]
  frame_out
  exact point_out _ y

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WSc

end
-- ==== Proof.WSc.Claim.lean ====
/- The gradient of the state-space branch's output matrix: the kernel and the reference end with the same arrays. -/
module

public import proofs.«01_k».proof.Defs
public import proofs.«01_k».proof.Proof.WSc.Kernel
public import proofs.«01_k».proof.Proof.Gen.ReferenceWScIdeal.Read
public import Idealize.ShloMosaic.Lib.Quiescent

@[expose] public section

set_option maxHeartbeats 1000000

noncomputable section

namespace Cert.WSc

open Idealize.ShloMosaic Idealize.ShloMosaic.TcCoe Idealize.SL.Sem Cert.Common

section
open ReferenceWScIdeal ReferenceWScIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v5 (F := Ideal) x.a x.b = x.out := by
  funext y
  rw [eq_ix4 y]
  pointwise [val_main_v0, val_main_v1, val_main_v2, val_main_v3, val_main_v4, val_main_v5]
  simp only [Args.out, Args.dw, Nat.mul_comm 128]
  exact Finset.sum_congr rfl fun R _ => mul_comm _ _

end

/-- The reference's run leaves its arguments alone and every counter at zero. -/
theorem reference_frame : quiescent_ReferenceWScIdeal (hReferenceWScIdeal := ReferenceWScIdeal.Gen.facts) := fun m g _ =>
  (θ_run _ _ _).mono (fun r h => ⟨fun c => (h c).2, sem_eq_zero_of_no_sems (by decide) _⟩) (ReferenceWScIdeal.Value.run m g)

open KernelWScIdeal KernelWScIdeal.Gen ReferenceWScIdeal.Read in
/-- At the same arguments, the kernel's run ends with the arrays of the specification, and so does the reference's. -/
theorem same : algebraic_KernelWScIdeal_ReferenceWScIdeal (hKernelWScIdeal := KernelWScIdeal.Gen.facts) (hReferenceWScIdeal := ReferenceWScIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWScIdeal.Value.run_blocks m g)
  · exact (θ_run _ _ _).mono (fun r h c => by
      obtain ⟨h0, ha⟩ := h c
      exact ⟨(h0.trans (val_main_v5_eq ..)).trans ((ref_out (refArgs m' c)).trans (congrArg Args.out (e c))), ha⟩) (ReferenceWScIdeal.Value.run m' g')

end Cert.WSc

end
-- ==== Proof.WSb.Kernel.lean ====
/- The gradient of the state-space branch's input matrix: what the kernel leaves in its result array. -/
module

public import proofs.«01_k».proof.Proof.Gen.KernelWSbIdeal.Value
public import Idealize.ShloMosaic.Lib.Pipeline.ValueKit
public import Idealize.ShloMosaic.Lib.Pipeline.ReadBack
public import proofs.«01_k».proof.Proof.Common

@[expose] public section

set_option maxHeartbeats 1000000

noncomputable section

namespace Cert.WSb

open Idealize.ShloMosaic Idealize.ShloMosaic.TcCoe Idealize.SL.Sem
open Cert.Common

/-- The column of the input product that column `p` of the branch is: the last ones. -/
def col (p : Fin 256) : Fin 5376 := ⟨5120 + p.val, by omega⟩

/-- The arrays the call is given. -/
structure Args where
  a : Mat 8192 5376
  b : Mat 8192 1024

namespace Args
variable (x : Args)

/-- An entry of the weight's gradient: the products of the two arrays' entries, summed over the rows. -/
def dw (p : Fin 256) (q : Fin 1024) : EReal := ∑ R : Fin 8192, x.a (ix2 R (col p)) * x.b (ix2 R q)

/-- The gradient, in the layout the devices exchange. -/
def out : Quad 1 1 256 1024 := fun y => x.dw (y 2) (y 3)

end Args

open Cert.KernelWSbIdeal Cert.KernelWSbIdeal.Gen

variable (m : (ℓ : Loc nD τ sig) → Buf (Elt Ideal) ℓ)

/-- The arrays a device is given. -/
def args (c : Dev nD) : Args where
  a := m ((c : Thread nD τ).loc main_arg0)
  b := m ((c : Thread nD τ).loc main_arg1)

/-- Row `n` of the blocks of point `t`. -/
def row (t : Fin cfg0.N) (n : Fin 1024) : Fin 8192 := ⟨1024 * (t.val % 8) + n.val, by omega⟩

theorem index0 : ∀ t : Fin cfg0.N, win0_0.index t = ![0, t.val, 20] := (by decide +kernel : ∀ t : Fin grid0.N, _)
theorem index1 : ∀ t : Fin cfg0.N, win0_1.index t = ![0, t.val, 0] := (by decide +kernel : ∀ t : Fin grid0.N, _)
theorem index2 : ∀ t : Fin cfg0.N, win0_2.index t = ![0, 0, 0, 0] := (by decide +kernel : ∀ t : Fin grid0.N, _)

theorem block0 (c : Dev nD) (t : Fin cfg0.N) (z : Fin 1) (n : Fin 1024) (p : Fin 256) :
    iblk m c 0 t (ix3 z n p) = (args m c).a (ix2 (row t n) (col p)) := by
  have ht : t.val < 8 := t.isLt
  unfold iblk
  blk_simp
  entry_read
  pointwise
  blk_ext [index0 t]
  · show t.val * 1024 + n.val = 1024 * (t.val % 8) + n.val
    omega
  · show 20 * 256 + p.val = 5120 + p.val
    omega

theorem block1 (c : Dev nD) (t : Fin cfg0.N) (z : Fin 1) (n : Fin 1024) (q : Fin 1024) :
    iblk m c 1 t (ix3 z n q) = (args m c).b (ix2 (row t n) q) := by
  have ht : t.val < 8 := t.isLt
  unfold iblk
  blk_simp
  entry_read
  pointwise
  blk_ext [index1 t]
  · show t.val * 1024 + n.val = 1024 * (t.val % 8) + n.val
    omega

/-- The products of a point's rows. -/
def term (c : Dev nD) (t : Fin cfg0.N) (p : Fin 256) (q : Fin 1024) : EReal :=
  ∑ n : Fin 1024, (args m c).a (ix2 (row t n) (col p)) * (args m c).b (ix2 (row t n) q)

theorem point_zero (p : Fin 256) (q : Fin 1024) : k0_pay1 (F := Ideal) (ix2 p q) = 0 := by
  pointwise [k0_pay1]

theorem point_add (s : Vec Ideal S256x1024 .f32) (u : Vec Ideal S1x1024x256 .f32) (v : Vec Ideal S1x1024x1024 .f32)
    (p : Fin 256) (q : Fin 1024) :
    k0_pay2 s u v (ix2 p q) = s (ix2 p q) + ∑ n : Fin 1024, u (ix3 0 n p) * v (ix3 0 n q) := by
  pointwise [k0_pay2]

theorem point_term (c : Dev nD) (t : Fin cfg0.N) (s : Vec Ideal S256x1024 .f32) (y : S256x1024.Idx) :
    k0_pay2 s (iblk m c 0 t) (iblk m c 1 t) y = s y + term m c t (y 0) (y 1) := by
  rw [eq_ix2 y]
  refine (point_add _ _ _ _ _).trans ?_
  exact congrArg (_ + ·) (Finset.sum_congr rfl fun n _ => congrArg₂ (· * ·) (block0 m c t 0 n _) (block1 m c t 0 n _))

/-- The first point of a block's run starts the sum, -/
theorem carried_first (c : Dev nD) (t : Fin cfg0.N) (h : t.val % 8 = 0) (y : S256x1024.Idx) :
    (outsAt0 m c t.val t.isLt).2 y = 0 + term m c t (y 0) (y 1) := by
  rw [outsAt0_A m c t h (by omega)]
  frame_out
  rw [point_term]
  exact congrArg (· + _) ((congrArg _ (eq_ix2 y)).trans (point_zero (y 0) (y 1)))

/-- and a later one adds to it. -/
theorem carried_later (c : Dev nD) (t : Fin cfg0.N) (h : ¬ t.val % 8 = 0) (y : S256x1024.Idx) :
    (outsAt0 m c t.val t.isLt).2 y
      = (outsAt0 m c (t.val - 1) (Nat.lt_of_le_of_lt (Nat.sub_le _ _) t.isLt)).2 y + term m c t (y 0) (y 1) := by
  by_cases h7 : t.val % 8 = 7
  · rw [outsAt0_C m c t h h7]
    frame_out
    simp only [read_unread_whole]
    exact point_term m c t _ y
  · rw [outsAt0_B m c t h h7]
    frame_out
    simp only [read_unread_whole]
    exact point_term m c t _ y

theorem row_run (t : Fin cfg0.N) (s : Fin 8) (h : 8 * (t.val / 8) + s.val < cfg0.N) (r : Fin 1024) :
    row ⟨8 * (t.val / 8) + s.val, h⟩ r = ⟨s.val * 1024 + r.val, by omega⟩ :=
  Fin.ext (by show 1024 * ((8 * (t.val / 8) + s.val) % 8) + r.val = s.val * 1024 + r.val; omega)

/-- The last point of a block's run holds the gradient's entry. -/
theorem carried_last (c : Dev nD) (t : Fin cfg0.N) (h : t.val % 8 = 7) (y : S256x1024.Idx) :
    (outsAt0 m c t.val t.isLt).2 y = (args m c).dw (y 0) (y 1) := by
  refine (Pipeline.eq_sum_fin_of_reset_step_apply_of_flush (fun n h => (outsAt0 m c n h).2) 8 (fun _ => 0) _
    (fun t h j => carried_first m c t h j) (fun t h j => carried_later m c t h j) t h y).trans ?_
  unfold Args.dw term
  rw [zero_add, Fin.sum_univ_tiles 8 1024 rfl]
  refine Finset.sum_congr rfl fun s _ => Finset.sum_congr rfl fun r _ => ?_
  simp only [row_run]

theorem point_out (s : Vec Ideal S256x1024 .f32) (y : S1x1x256x1024.Idx) : k0_pay3 (F := Ideal) s y = s (ix2 (y 2) (y 3)) := by
  rw [eq_ix4 y]
  pointwise [k0_pay3]

/-- It is stored. -/
theorem stored (c : Dev nD) (t : Fin cfg0.N) (h : t.val % 8 = 7) (y : S1x1x256x1024.Idx) :
    (outsAt0 m c t.val t.isLt).1 y = (args m c).dw (y 2) (y 3) := by
  refine Eq.trans ?_ (carried_last m c t h (ix2 (y 2) (y 3)))
  rw [outsAt0_C m c t (by omega) h]
  frame_out
  exact point_out _ y

/-- The result array after the run. -/
theorem array (c : Dev nD) : (dats m 0 c).arrAt 2 cfg0.N = (args m c).out := by
  refine (dats m 0 c).arrAt_eq_of_covers 2 _ (by decide +kernel) fun t hf y => ?_
  blk_simp
  rw [after0_2]
  refine (stored m c t ((flush0_2 t).mp hf) y).trans ?_
  unfold Args.out
  congr 1 <;> refine Fin.ext ?_ <;> blk_simp [index2 t]

end Cert.WSb

end
-- ==== Proof.WSb.Claim.lean ====
/- The gradient of the state-space branch's input matrix: the kernel and the reference end with the same arrays. -/
module

public import proofs.«01_k».proof.Defs
public import proofs.«01_k».proof.Proof.WSb.Kernel
public import proofs.«01_k».proof.Proof.Gen.ReferenceWSbIdeal.Read
public import Idealize.ShloMosaic.Lib.Quiescent

@[expose] public section

set_option maxHeartbeats 1000000

noncomputable section

namespace Cert.WSb

open Idealize.ShloMosaic Idealize.ShloMosaic.TcCoe Idealize.SL.Sem Cert.Common

section
open ReferenceWSbIdeal ReferenceWSbIdeal.Read

/-- The arrays a device of the reference is given. -/
def refArgs (m : (ℓ : Loc nD τ sig) → Buf (Elt Ideal) ℓ) (c : Dev nD) : Args where
  a := m ((c : Thread nD τ).loc main_arg0)
  b := m ((c : Thread nD τ).loc main_arg1)

theorem ref_out (x : Args) : val_main_v5 (F := Ideal) x.a x.b = x.out := by
  funext y
  rw [eq_ix4 y]
  pointwise [val_main_v0, val_main_v1, val_main_v2, val_main_v3, val_main_v4, val_main_v5]
  simp only [Args.out, Args.dw, col, Nat.mul_comm 128]
  exact Finset.sum_congr rfl fun R _ => mul_comm _ _

end

/-- The reference's run leaves its arguments alone and every counter at zero. -/
theorem reference_frame : quiescent_ReferenceWSbIdeal (hReferenceWSbIdeal := ReferenceWSbIdeal.Gen.facts) := fun m g _ =>
  (θ_run _ _ _).mono (fun r h => ⟨fun c => (h c).2, sem_eq_zero_of_no_sems (by decide) _⟩) (ReferenceWSbIdeal.Value.run m g)

open KernelWSbIdeal KernelWSbIdeal.Gen ReferenceWSbIdeal.Read in
/-- At the same arguments, the kernel's run ends with the arrays of the specification, and so does the reference's. -/
theorem same : algebraic_KernelWSbIdeal_ReferenceWSbIdeal (hKernelWSbIdeal := KernelWSbIdeal.Gen.facts) (hReferenceWSbIdeal := ReferenceWSbIdeal.Gen.facts) := by
  intro m g m' g' _ hagree
  have e : ∀ c, refArgs m' c = args m c := fun c => by
    unfold refArgs args
    simp only [hagree c]
  refine ⟨fun c => (args m c).out, ?_, ?_⟩
  · exact (θ_run _ _ _).mono (fun r h c => by
      have h := h c
      rw [array] at h
      exact h) (KernelWSbIdeal.Value.run_blocks m g)
  · exact (θ_run _ _ _).mono (fun r h c => by
      obtain ⟨h0, ha⟩ := h c
      exact ⟨(h0.trans (val_main_v5_eq ..)).trans ((ref_out (refArgs m' c)).trans (congrArg Args.out (e c))), ha⟩) (ReferenceWSbIdeal.Value.run m' g')

end Cert.WSb

end
-- ==== Proof.ConvF.Kernel.lean ====
/- The convolution branch: what the kernel leaves in its result arrays. -/
module

public import proofs.«01_k».proof.Proof.Gen.KernelConvFIdeal.Value
public import Idealize.ShloMosaic.Lib.Pipeline.ValueKit
public import proofs.«01_k».proof.Proof.Common

@[expose] public section

set_option maxHeartbeats 4000000
set_option maxRecDepth 8000

noncomputable section

namespace Cert.ConvF

open Idealize.ShloMosaic Idealize.ShloMosaic.TcCoe Idealize.SL.Sem
open Cert.Common

/-- The arrays the call is given: the projection (whose columns 4608 to 5119 are the branch's), the taps (of 32 rows, the last
    unused), the convolution's bias, and the norm's gain and bias. -/
structure Args where
  proj : Mat 8192 5376
  w : Mat 32 256
  b : Mat 1 256
  g : Mat 1 256
  lb : Mat 1 256

namespace Args

variable (a : Args) (R : Fin 8192) (j : Fin 256)

/-- The gated unit of a row. -/
def unit : EReal :=
  a.proj (ix2 R ⟨4608 + j.val, by omega⟩) * Ideal.div 1 (1 + Ideal.exp (-(a.proj (ix2 R ⟨4608 + (256 + j.val), by omega⟩))))

/-- The gated unit `d` rows before, zero before the sequence. -/
def before (d : ℕ) : EReal := if d ≤ R.val % 4096 then a.unit ⟨R.val - d, by omega⟩ j else 0

/-- The bias and the first taps. -/
def taps : ℕ → EReal
  | 0 => a.b (ix2 0 j)
  | n + 1 => taps n + a.w (ix2 ⟨n % 32, by omega⟩ j) * a.before R j (30 - n)

/-- The rows after the convolution. -/
def conv : Mat 8192 256 := fun i => a.taps (i 0) (i 1) 31

/-- A row's deviation from its mean. -/
def dev : EReal := a.conv (ix2 R j) - Ideal.div (∑ k : Fin 256, a.conv (ix2 R k)) (Ideal.ofBits .f32 0x43800000#32)

/-- After the norm. -/
def normed : EReal :=
  a.dev R j * Ideal.rsqrt (Ideal.div (∑ k : Fin 256, a.dev R k * a.dev R k) (Ideal.ofBits .f32 0x43800000#32)
    + Ideal.ofBits .f32 0x358637BD#32) * a.g (ix2 0 j) + a.lb (ix2 0 j)

/-- The branch's rows. -/
def out : Mat 8192 256 := fun i => a.normed (i 0) (i 1) * Ideal.div 1 (1 + Ideal.exp (-(a.normed (i 0) (i 1))))

end Args

open Cert.KernelConvFIdeal Cert.KernelConvFIdeal.Gen

variable (m : (ℓ : Loc nD τ sig) → Buf (Elt Ideal) ℓ)

/-- The arrays a device is given. -/
def args (c : Dev nD) : Args where
  proj := m ((c : Thread nD τ).loc main_arg0)
  w := m ((c : Thread nD τ).loc main_arg1)
  b := m ((c : Thread nD τ).loc main_arg2)
  g := m ((c : Thread nD τ).loc main_arg3)
  lb := m ((c : Thread nD τ).loc main_arg4)

/-- Row `r` of the block of point `t`. -/
def row (t : Fin cfg0.N) (r : Fin 512) : Fin 8192 := ⟨512 * t.val + r.val, by have h : t.val < 16 := t.isLt; omega⟩

theorem index0 : ∀ t : Fin cfg0.N, win0_0.index t = ![t.val, 9] := (by decide +kernel : ∀ t : Fin grid0.N, _)
theorem index1 : ∀ t : Fin cfg0.N, win0_1.index t = ![16 * t.val - 1, 9] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)
theorem coord : ∀ t : Fin cfg0.N, ((grid0.coords t) 1).val = t.val % 8 := (by decide +kernel : ∀ t : Fin grid0.N, _)

theorem block0 (c : Dev nD) (t : Fin cfg0.N) (r : Fin 512) (k : Fin 512) :
    X0_0 m c t (ix2 r k) = (args m c).proj (ix2 (row t r) ⟨4608 + k.val, by omega⟩) := by
  unfold X0_0 Pipeline.Window.fill
  rw [dif_pos (moved0_0 t _)]
  show m ((c : Thread nD τ).loc main_arg0) ((win0_0.rect t).emb _) = _
  refine congrArg _ (Shape.idx_ext₂ ?_ ?_)
  · rw [win0_0.rect_emb_val t _ 0, index0 t]; show t.val * 512 + r.val = 512 * t.val + r.val; omega
  · rw [win0_0.rect_emb_val t _ 1, index0 t]; show 9 * 512 + k.val = 4608 + k.val; omega

theorem block1 (c : Dev nD) (t : Fin cfg0.N) (r : Fin 32) (k : Fin 512) :
    X0_1 m c t (ix2 r k) = (args m c).proj (ix2 ⟨(16 * t.val - 1) * 32 + r.val, by have h : t.val < 16 := t.isLt; omega⟩
      ⟨4608 + k.val, by omega⟩) := by
  unfold X0_1 Pipeline.Window.fill
  rw [dif_pos (moved0_1 t _)]
  show m ((c : Thread nD τ).loc main_arg0) ((win0_1.rect t).emb _) = _
  refine congrArg _ (Shape.idx_ext₂ ?_ ?_)
  · rw [win0_1.rect_emb_val t _ 0, index1 t]; rfl
  · rw [win0_1.rect_emb_val t _ 1, index1 t]; show 9 * 512 + k.val = 4608 + k.val; omega

theorem block2 (c : Dev nD) (t : Fin cfg0.N) (r : Fin 32) (k : Fin 256) :
    iblk m c 2 t (ix2 r k) = (args m c).w (ix2 r k) := by
  blk_ext [iblk, V, index2 t]

theorem block3 (c : Dev nD) (t : Fin cfg0.N) (r : Fin 1) (k : Fin 256) :
    iblk m c 3 t (ix2 r k) = (args m c).b (ix2 0 k) := by
  blk_ext [iblk, V, index3 t]

theorem block4 (c : Dev nD) (t : Fin cfg0.N) (r : Fin 1) (k : Fin 256) :
    iblk m c 4 t (ix2 r k) = (args m c).g (ix2 0 k) := by
  blk_ext [iblk, V, index4 t]

theorem block5 (c : Dev nD) (t : Fin cfg0.N) (r : Fin 1) (k : Fin 256) :
    iblk m c 5 t (ix2 r k) = (args m c).lb (ix2 0 k) := by
  blk_ext [iblk, V, index5 t]

/-- What a point lays down of its own rows. -/
theorem own (c : Dev nD) (t : Fin cfg0.N) (r : Fin 512) (j : Fin 256) :
    k0_pay3 (X0_0 m c t) (ix2 r j) = (args m c).unit (row t r) j := by
  pointwise [k0_pay3, block0, zero_sub, Args.unit]

theorem live : ∀ t : Fin cfg0.N, ¬t.val % 8 = 0 → Scalar.cmpi .eq (BitVec.ofNat 32 (t.val % 8)) 0#32 = 0 :=
  (by decide +kernel : ∀ t : Fin grid0.N, _)

/-- What it lays down of the rows before: nothing where its sequence starts. -/
theorem halo (c : Dev nD) (t : Fin cfg0.N) (r : Fin 32) (j : Fin 256) :
    k0_pay2 (grid0.coords t) (X0_1 m c t) (ix2 r j) =
      if t.val % 8 = 0 then 0 else (args m c).unit ⟨(16 * t.val - 1) * 32 + r.val, by have h : t.val < 16 := t.isLt; omega⟩ j := by
  by_cases h : t.val % 8 = 0
  · pointwise [k0_pay2, block1, zero_sub, coord t, h, Args.unit]
    exact mul_zero _
  · pointwise [k0_pay2, block1, zero_sub, coord t, h, Args.unit]
    rw [live t h]
    rfl

/-- What a point reads of both: the gated units of rows before. -/
theorem tap (c : Dev nD) (t : Fin cfg0.N) (o : ℕ) (i1 i2 i3) (r : Fin 512) (j : Fin 256)
    (ho : 2 ≤ o := by decide) (ho' : o ≤ 32 := by decide) :
    (View.whole cc0_scratch0).readCov (Val := Elt Ideal)
      [⟨Rect.unit ![32, 0] ![512, 256] i1, k0_pay3 (X0_0 m c t)⟩,
        ⟨Rect.unit ![0, 0] ![32, 256] i2, k0_pay2 (grid0.coords t) (X0_1 m c t)⟩]
      (Rect.unit (s := S544x256) ![o, 0] ![512, 256] i3).toLoadRect (ix2 r j) = (args m c).before (row t r) j (32 - o) := by
  have ht : t.val < 16 := t.isLt
  have hr := r.isLt
  rw [View.readCov_eq_canon']
  show View.canon _ ((Rect.unit (s := S544x256) ![o, 0] ![512, 256] i3).emb (ix2 r j)) = _
  have hR : (row t r).val = 512 * t.val + r.val := rfl
  by_cases h : 32 ≤ o + r.val
  · have e : (Rect.unit (s := S544x256) ![o, 0] ![512, 256] i3).emb (ix2 r j)
        = (Rect.unit (s := S544x256) ![32, 0] ![512, 256] i1).emb (ix2 ⟨o + r.val - 32, by omega⟩ j) :=
      Shape.idx_ext₂ (by simp; omega) (by simp)
    rw [e, View.canon_cons_emb]
    refine (own m c t _ j).trans ?_
    unfold Args.before
    rw [if_pos (by omega)]
    exact congrArg (fun R => (args m c).unit R j) (Fin.ext (by show 512 * t.val + (o + r.val - 32) = (row t r).val - (32 - o); omega))
  · have e : (Rect.unit (s := S544x256) ![o, 0] ![512, 256] i3).emb (ix2 r j)
        = (Rect.unit (s := S544x256) ![0, 0] ![32, 256] i2).emb (ix2 ⟨o + r.val, by omega⟩ j) :=
      Shape.idx_ext₂ (by simp) (by simp)
    rw [View.canon_cons_of_not_mem, e, View.canon_cons_emb]
    · refine (halo m c t _ j).trans ?_
      unfold Args.before
      split
      · rw [if_neg (by omega)]
      · rw [if_pos (by omega)]
        exact congrArg (fun R => (args m c).unit R j) (Fin.ext (by show (16 * t.val - 1) * 32 + (o + r.val) = (row t r).val - (32 - o); omega))
    · intro hm
      obtain ⟨x, hx⟩ := LoadRect.exists_idx_of_mem _ hm
      have h0 := congrArg (fun z : S544x256.Idx => (z 0).val) hx
      simp at h0
      omega

/-- The norm and the gate, over any rows that are the convolution's. -/
theorem point_out (c : Dev nD) (t : Fin cfg0.N) {v165 v166 v167 v171 v172 v176 v177 v181 v182 v186 v187}
    (h : ∀ r j, k0_pay9 (F := Ideal) v165 v166 v167 v171 v172 v176 v177 v181 v182 v186 v187 (ix2 r j) = (args m c).conv (ix2 (row t r) j))
    (r : Fin 512) (j : Fin 256) :
    k0_pay1 (iblk m c 4 t) (iblk m c 5 t) (k0_pay10 v165 v166 v167 v171 v172 v176 v177 v181 v182 v186 v187)
      (k0_pay11 v165 v166 v167 v171 v172 v176 v177 v181 v182 v186 v187) (ix2 r j) = (args m c).out (ix2 (row t r) j) := by
  have d : ∀ r j, k0_pay10 v165 v166 v167 v171 v172 v176 v177 v181 v182 v186 v187 (ix2 r j) = (args m c).dev (row t r) j := fun r j => by
    pointwise [k0_pay10, h, Args.dev]
  pointwise [k0_pay1, k0_pay11, d, block4, block5, zero_sub, Args.out, Args.normed]

theorem stored6 (c : Dev nD) (t : Fin cfg0.N) (r : Fin 512) (j : Fin 256) :
    (outsAt0 m c t).1 (ix2 r j) = (args m c).conv (ix2 (row t r) j) := by
  unfold outsAt0
  frame_out
  pointwise [k0_pay4, k0_pay5, k0_pay6, k0_pay7, k0_pay8, k0_pay9, block2, block3]
  rw [tap m c t 2, tap m c t 3, tap m c t 4, tap m c t 5, tap m c t 6, tap m c t 7, tap m c t 8, tap m c t 9,
    tap m c t 10, tap m c t 11, tap m c t 12, tap m c t 13, tap m c t 14, tap m c t 15, tap m c t 16, tap m c t 17,
    tap m c t 18, tap m c t 19, tap m c t 20, tap m c t 21, tap m c t 22, tap m c t 23, tap m c t 24, tap m c t 25,
    tap m c t 26, tap m c t 27, tap m c t 28, tap m c t 29, tap m c t 30, tap m c t 31, tap m c t 32]
  rfl

theorem stored7 (c : Dev nD) (t : Fin cfg0.N) (r : Fin 512) (j : Fin 256) :
    (outsAt0 m c t).2 (ix2 r j) = (args m c).out (ix2 (row t r) j) := by
  have h := stored6 m c t
  unfold outsAt0 at h ⊢
  frame_out at h ⊢
  exact point_out m c t h r j

/-- The convolution after the run. -/
theorem array6 (c : Dev nD) : (dats m 0 c).arrAt 6 cfg0.N = (args m c).conv := by
  refine (dats m 0 c).arrAt_eq_of_covers 6 _ (by decide +kernel) fun t hf y => ?_
  blk_simp
  rw [after0_6, eq_ix2 y]
  refine (stored6 m c t _ _).trans ?_
  congr 1
  refine Shape.idx_ext₂ ?_ ?_ <;> blk_simp [index6 t]
  show 512 * t.val + _ = t.val * 512 + _
  omega

/-- The gated norm after the run. -/
theorem array7 (c : Dev nD) : (dats m 0 c).arrAt 7 cfg0.N = (args m c).out := by
  refine (dats m 0 c).arrAt_eq_of_covers 7 _ (by decide +kernel) fun t hf y => ?_
  blk_simp
  rw [after0_7, eq_ix2 y]
  refine (stored7 m c t _ _).trans ?_
  congr 1
  refine Shape.idx_ext₂ ?_ ?_ <;> blk_simp [index7 t]
  show 512 * t.val + _ = t.val * 512 + _
  omega

end Cert.ConvF

end
-- ==== Proof.ConvF.Claim.lean ====
/- The convolution branch: the kernel and the reference end with the same arrays. -/
module

public import proofs.«01_k».proof.Defs
public import proofs.«01_k».proof.Proof.ConvF.Kernel
public import proofs.«01_k».proof.Proof.Gen.ReferenceConvFIdeal.Read
public import Idealize.ShloMosaic.Lib.Quiescent

@[expose] public section

set_option maxHeartbeats 4000000
set_option maxRecDepth 8000

noncomputable section

namespace Cert.ConvF

open Idealize.ShloMosaic Idealize.ShloMosaic.TcCoe Idealize.SL.Sem Cert.Common

section
open ReferenceConvFIdeal ReferenceConvFIdeal.Read

/-- The arrays a device of the reference is given. -/
def refArgs (m : (ℓ : Loc nD τ sig) → Buf (Elt Ideal) ℓ) (c : Dev nD) : Args where
  proj := m ((c : Thread nD τ).loc main_arg0)
  w := m ((c : Thread nD τ).loc main_arg1)
  b := m ((c : Thread nD τ).loc main_arg2)
  g := m ((c : Thread nD τ).loc main_arg3)
  lb := m ((c : Thread nD τ).loc main_arg4)

variable (a : Args) (s : Fin 2) (r : Fin 4096) (j : Fin 256)

/-- Row `r` of sequence `s`. -/
def pos (s : Fin 2) (r : Fin 4096) : Fin 8192 := ⟨4096 * s.val + r.val, by omega⟩

theorem pos_split (R : Fin 8192) (h : R.val / 4096 < 2) (h' : R.val % 4096 < 4096) : pos ⟨R.val / 4096, h⟩ ⟨R.val % 4096, h'⟩ = R :=
  Fin.ext (Nat.div_add_mod _ _)

theorem ref_unit : val_main_v10 (F := Ideal) a.proj (ix3 s r j) = a.unit (pos s r) j := by
  pointwise [val_main_v10, val_main_v9, val_main_v8, val_main_v7, val_main_v6, val_main_v5, val_main_v4, val_main_v3, val_main_v2,
    val_main_v1, val_main_v0, val_main_cst, val_main_cst_0, Args.unit, pos]
  simp only [Nat.mul_comm s.val 4096]

/-- The rows with thirty of zeros put before each sequence. -/
theorem ref_ext (n : ℕ) (hn : n ≤ 30 := by decide) :
    val_main_v13 (F := Ideal) a.proj (ix3 s ⟨n + r.val, by omega⟩ j) = a.before (pos s r) j (30 - n) := by
  have hp : (pos s r).val = 4096 * s.val + r.val := rfl
  unfold val_main_v13 Args.before
  by_cases h : n + r.val < 30
  · rw [if_neg (by omega)]
    refine (concatenate_pair_apply_left (s₁ := S2x30x256) (s₂ := S2x4096x256) (t := S2x4126x256) 1 _ _ _ _ rfl (ix3 s ⟨n + r.val, h⟩ j) fun b => match b with
      | ⟨0, _⟩ => rfl
      | ⟨1, _⟩ => rfl
      | ⟨2, _⟩ => rfl).trans ?_
    pointwise [val_main_v12, val_main_cst_1]
  · rw [if_pos (by omega)]
    refine (concatenate_pair_apply_right (s₁ := S2x30x256) (s₂ := S2x4096x256) (t := S2x4126x256) 1 _ _ _ _ rfl rfl (ix3 s ⟨n + r.val - 30, by omega⟩ j)
      (fun b hb => match b, hb with
        | ⟨0, _⟩, _ => rfl
        | ⟨1, _⟩, hb => absurd rfl hb
        | ⟨2, _⟩, _ => rfl)
      (by show n + r.val - 30 + 30 = n + r.val; omega)).trans ((ref_unit a s _ j).trans ?_)
    exact congrArg (fun R => a.unit R j) (Fin.ext (by show 4096 * s.val + (n + r.val - 30) = (pos s r).val - (30 - n); omega))

theorem ref_first : val_main_v13 (F := Ideal) a.proj (ix3 s ⟨r.val, by omega⟩ j) = a.before (pos s r) j 30 :=
  (congrArg (fun q => val_main_v13 (F := Ideal) a.proj (ix3 s q j)) (Fin.ext (Nat.zero_add _).symm)).trans (ref_ext a s r j 0)

theorem ref_taps : val_main_v232 (F := Ideal) a.proj a.w a.b (ix3 s r j) = a.conv (ix2 (pos s r) j) := by
  pointwise [val_main_v232, val_main_v231, val_main_v230, val_main_v229, val_main_v228, val_main_v227, val_main_v226, val_main_v225, val_main_v224,
    val_main_v223, val_main_v222, val_main_v221, val_main_v220, val_main_v219, val_main_v218, val_main_v217, val_main_v216, val_main_v215,
    val_main_v214, val_main_v213, val_main_v212, val_main_v211, val_main_v210, val_main_v209, val_main_v208, val_main_v207, val_main_v206,
    val_main_v205, val_main_v204, val_main_v203, val_main_v202, val_main_v201, val_main_v200, val_main_v199, val_main_v198, val_main_v197,
    val_main_v196, val_main_v195, val_main_v194, val_main_v193, val_main_v192, val_main_v191, val_main_v190, val_main_v189, val_main_v188,
    val_main_v187, val_main_v186, val_main_v185, val_main_v184, val_main_v183, val_main_v182, val_main_v181, val_main_v180, val_main_v179,
    val_main_v178, val_main_v177, val_main_v176, val_main_v175, val_main_v174, val_main_v173, val_main_v172, val_main_v171, val_main_v170,
    val_main_v169, val_main_v168, val_main_v167, val_main_v166, val_main_v165, val_main_v164, val_main_v163, val_main_v162, val_main_v161,
    val_main_v160, val_main_v159, val_main_v158, val_main_v157, val_main_v156, val_main_v155, val_main_v154, val_main_v153, val_main_v152,
    val_main_v151, val_main_v150, val_main_v149, val_main_v148, val_main_v147, val_main_v146, val_main_v145, val_main_v144, val_main_v143,
    val_main_v142, val_main_v141, val_main_v140, val_main_v139, val_main_v138, val_main_v137, val_main_v136, val_main_v135, val_main_v134,
    val_main_v133, val_main_v132, val_main_v131, val_main_v130, val_main_v129, val_main_v128, val_main_v127, val_main_v126, val_main_v125,
    val_main_v124, val_main_v123, val_main_v122, val_main_v121, val_main_v120, val_main_v119, val_main_v118, val_main_v117, val_main_v116,
    val_main_v115, val_main_v114, val_main_v113, val_main_v112, val_main_v111, val_main_v110, val_main_v109, val_main_v108, val_main_v107,
    val_main_v106, val_main_v105, val_main_v104, val_main_v103, val_main_v102, val_main_v101, val_main_v100, val_main_v99, val_main_v98,
    val_main_v97, val_main_v96, val_main_v95, val_main_v94, val_main_v93, val_main_v92, val_main_v91, val_main_v90, val_main_v89,
    val_main_v88, val_main_v87, val_main_v86, val_main_v85, val_main_v84, val_main_v83, val_main_v82, val_main_v81, val_main_v80,
    val_main_v79, val_main_v78, val_main_v77, val_main_v76, val_main_v75, val_main_v74, val_main_v73, val_main_v72, val_main_v71,
    val_main_v70, val_main_v69, val_main_v68, val_main_v67, val_main_v66, val_main_v65, val_main_v64, val_main_v63, val_main_v62,
    val_main_v61, val_main_v60, val_main_v59, val_main_v58, val_main_v57, val_main_v56, val_main_v55, val_main_v54, val_main_v53,
    val_main_v52, val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v33, val_main_v32, val_main_v31, val_main_v30, val_main_v29, val_main_v28, val_main_v27, val_main_v26,
    val_main_v25, val_main_v24, val_main_v23, val_main_v22, val_main_v21, val_main_v20, val_main_v19, val_main_v18, val_main_v17,
    val_main_v16, val_main_v15, val_main_v14, val_main_v11]
  rw [ref_first,
    ref_ext a s r j 1, ref_ext a s r j 2, ref_ext a s r j 3, ref_ext a s r j 4, ref_ext a s r j 5, ref_ext a s r j 6,
    ref_ext a s r j 7, ref_ext a s r j 8, ref_ext a s r j 9, ref_ext a s r j 10, ref_ext a s r j 11, ref_ext a s r j 12,
    ref_ext a s r j 13, ref_ext a s r j 14, ref_ext a s r j 15, ref_ext a s r j 16, ref_ext a s r j 17, ref_ext a s r j 18,
    ref_ext a s r j 19, ref_ext a s r j 20, ref_ext a s r j 21, ref_ext a s r j 22, ref_ext a s r j 23, ref_ext a s r j 24,
    ref_ext a s r j 25, ref_ext a s r j 26, ref_ext a s r j 27, ref_ext a s r j 28, ref_ext a s r j 29, ref_ext a s r j 30]
  rfl

theorem ref_dev : val_main_v239 (F := Ideal) a.proj a.w a.b (ix3 s r j) = a.dev (pos s r) j := by
  pointwise [val_main_v239, val_main_v238, val_main_v237, val_main_v236, val_main_v235, val_main_v234, val_main_cst_2, val_main_cst_3,
    ref_taps, Args.dev]

theorem ref_norm : val_main_v255 (F := Ideal) a.proj a.w a.b a.g a.lb (ix3 s r j) = a.normed (pos s r) j := by
  pointwise [val_main_v255, val_main_v254, val_main_v253, val_main_v252, val_main_v251, val_main_v250, val_main_v249, val_main_v248, val_main_v247, val_main_v246, val_main_v245, val_main_v244, val_main_v243, val_main_v242, val_main_v241, val_main_v240, val_main_cst_4,
    val_main_cst_5, val_main_cst_6, ref_dev, Args.normed]

theorem ref_conv : val_main_v233 (F := Ideal) a.proj a.w a.b = a.conv := by
  funext i
  obtain ⟨R, q, rfl⟩ : ∃ (R : Fin 8192) (q : Fin 256), i = ix2 R q := ⟨i 0, i 1, eq_ix2 i⟩
  pointwise [val_main_v233, ref_taps]
  rw [pos_split]

theorem ref_out : val_main_v257 (F := Ideal) a.proj a.w a.b a.g a.lb = a.out := by
  funext i
  obtain ⟨R, q, rfl⟩ : ∃ (R : Fin 8192) (q : Fin 256), i = ix2 R q := ⟨i 0, i 1, eq_ix2 i⟩
  pointwise [val_main_v257, val_main_v256, val_main_call0_v5, val_main_call0_v4, val_main_call0_v3,
    val_main_call0_v2, val_main_call0_v1, val_main_call0_v0, val_main_call0_cst, val_main_call0_cst_0, ref_norm, Args.out]
  rw [pos_split]

end

/-- The reference's run leaves its arguments alone and every counter at zero. -/
theorem reference_frame : quiescent_ReferenceConvFIdeal (hReferenceConvFIdeal := ReferenceConvFIdeal.Gen.facts) := fun m g _ =>
  (θ_run _ _ _).mono (fun r h => ⟨fun c => (h c).2.2, sem_eq_zero_of_no_sems (by decide) _⟩) (ReferenceConvFIdeal.Value.run m g)

open KernelConvFIdeal KernelConvFIdeal.Gen ReferenceConvFIdeal.Read in
/-- At the same arguments, the kernel's run ends with the arrays of the specification, and so does the reference's. -/
theorem same : algebraic_KernelConvFIdeal_ReferenceConvFIdeal (hKernelConvFIdeal := KernelConvFIdeal.Gen.facts) (hReferenceConvFIdeal := ReferenceConvFIdeal.Gen.facts) := by
  intro m g m' g' _ hagree
  have e : ∀ c, refArgs m' c = args m c := fun c => by
    unfold refArgs args
    simp only [hagree c]
  refine ⟨fun c => (args m c).conv, fun c => (args m c).out, ?_, ?_⟩
  · exact (θ_run _ _ _).mono (fun r h c => by
      have h := h c
      rw [array6, array7] at h
      exact h) (KernelConvFIdeal.Value.run_blocks m g)
  · exact (θ_run _ _ _).mono (fun r h c => by
      obtain ⟨h0, h1, ha⟩ := h c
      exact ⟨(h0.trans (val_main_v233_eq ..)).trans ((ref_conv (refArgs m' c)).trans (congrArg Args.conv (e c))),
      (h1.trans (val_main_v257_eq ..)).trans ((ref_out (refArgs m' c)).trans (congrArg Args.out (e c))), ha⟩) (ReferenceConvFIdeal.Value.run m' g')

end Cert.ConvF

end
-- ==== Proof.lean ====
/- The claims of `Cert.Claim`, each from the module that proves it. -/
module

public import proofs.«01_k».proof.Defs
public import proofs.«01_k».proof.Proof.Gen.Kernel.Frame
public import proofs.«01_k».proof.Proof.Merge.Claim
public import proofs.«01_k».proof.Proof.Gen.KernelWOut.Frame
public import proofs.«01_k».proof.Proof.WOut.Claim
public import proofs.«01_k».proof.Proof.Gen.KernelWIn.Frame
public import proofs.«01_k».proof.Proof.WIn.Claim
public import proofs.«01_k».proof.Proof.Gen.KernelWDown.Frame
public import proofs.«01_k».proof.Proof.WDown.Claim
public import proofs.«01_k».proof.Proof.Gen.KernelWUpA.Frame
public import proofs.«01_k».proof.Proof.WUpA.Claim
public import proofs.«01_k».proof.Proof.Gen.KernelWUpB.Frame
public import proofs.«01_k».proof.Proof.WUpB.Claim
public import proofs.«01_k».proof.Proof.Gen.KernelWBr.Frame
public import proofs.«01_k».proof.Proof.WBr.Claim
public import proofs.«01_k».proof.Proof.Gen.KernelWAttn.Frame
public import proofs.«01_k».proof.Proof.WAttn.Claim
public import proofs.«01_k».proof.Proof.Gen.KernelWGlu.Frame
public import proofs.«01_k».proof.Proof.WGlu.Claim
public import proofs.«01_k».proof.Proof.Gen.KernelFfnA.Frame
public import proofs.«01_k».proof.Proof.FfnA.Claim
public import proofs.«01_k».proof.Proof.Gen.KernelFfnB.Frame
public import proofs.«01_k».proof.Proof.FfnB.Claim
public import proofs.«01_k».proof.Proof.Gen.KernelFfnC.Frame
public import proofs.«01_k».proof.Proof.FfnC.Claim
public import proofs.«01_k».proof.Proof.Gen.KernelProj.Frame
public import proofs.«01_k».proof.Proof.Proj.Claim
public import proofs.«01_k».proof.Proof.Gen.KernelMixA.Frame
public import proofs.«01_k».proof.Proof.MixA.Claim
public import proofs.«01_k».proof.Proof.Gen.KernelMixB.Frame
public import proofs.«01_k».proof.Proof.MixB.Claim
public import proofs.«01_k».proof.Proof.Gen.KernelBackA.Frame
public import proofs.«01_k».proof.Proof.BackA.Claim
public import proofs.«01_k».proof.Proof.Gen.KernelProjA.Frame
public import proofs.«01_k».proof.Proof.ProjA.Claim
public import proofs.«01_k».proof.Proof.Gen.KernelProjB.Frame
public import proofs.«01_k».proof.Proof.ProjB.Claim
public import proofs.«01_k».proof.Proof.Gen.KernelOptSmall.Frame
public import proofs.«01_k».proof.Proof.OptSmall.Claim
public import proofs.«01_k».proof.Proof.Gen.KernelOptUpB.Frame
public import proofs.«01_k».proof.Proof.OptUpB.Claim
public import proofs.«01_k».proof.Proof.Gen.KernelOptUpA.Frame
public import proofs.«01_k».proof.Proof.OptUpA.Claim
public import proofs.«01_k».proof.Proof.Gen.KernelOptDownB.Frame
public import proofs.«01_k».proof.Proof.OptDownB.Claim
public import proofs.«01_k».proof.Proof.Gen.KernelOptDownA.Frame
public import proofs.«01_k».proof.Proof.OptDownA.Claim
public import proofs.«01_k».proof.Proof.Gen.KernelOptInB.Frame
public import proofs.«01_k».proof.Proof.OptInB.Claim
public import proofs.«01_k».proof.Proof.Gen.KernelOptInA.Frame
public import proofs.«01_k».proof.Proof.OptInA.Claim
public import proofs.«01_k».proof.Proof.Gen.KernelOptGluB.Frame
public import proofs.«01_k».proof.Proof.OptGluB.Claim
public import proofs.«01_k».proof.Proof.Gen.KernelOptGluA.Frame
public import proofs.«01_k».proof.Proof.OptGluA.Claim
public import proofs.«01_k».proof.Proof.Gen.KernelOptBrB.Frame
public import proofs.«01_k».proof.Proof.OptBrB.Claim
public import proofs.«01_k».proof.Proof.Gen.KernelOptBrA.Frame
public import proofs.«01_k».proof.Proof.OptBrA.Claim
public import proofs.«01_k».proof.Proof.Gen.KernelOptAttnB.Frame
public import proofs.«01_k».proof.Proof.OptAttnB.Claim
public import proofs.«01_k».proof.Proof.Gen.KernelOptAttnA.Frame
public import proofs.«01_k».proof.Proof.OptAttnA.Claim
public import proofs.«01_k».proof.Proof.Gen.KernelOptConvB.Frame
public import proofs.«01_k».proof.Proof.OptConvB.Claim
public import proofs.«01_k».proof.Proof.Gen.KernelOptConvA.Frame
public import proofs.«01_k».proof.Proof.OptConvA.Claim
public import proofs.«01_k».proof.Proof.Gen.KernelOptOutB.Frame
public import proofs.«01_k».proof.Proof.OptOutB.Claim
public import proofs.«01_k».proof.Proof.Gen.KernelOptOutA.Frame
public import proofs.«01_k».proof.Proof.OptOutA.Claim
public import proofs.«01_k».proof.Proof.Gen.KernelLoss.Frame
public import proofs.«01_k».proof.Proof.Loss.Claim
public import proofs.«01_k».proof.Proof.Gen.KernelWSc.Frame
public import proofs.«01_k».proof.Proof.WSc.Claim
public import proofs.«01_k».proof.Proof.Gen.KernelWSb.Frame
public import proofs.«01_k».proof.Proof.WSb.Claim
public import proofs.«01_k».proof.Proof.Gen.KernelConvF.Frame
public import proofs.«01_k».proof.Proof.ConvF.Claim

@[expose] public section

noncomputable section

namespace Cert.Proof

/-- Every claim of the certificate: the facts each program states of itself, then the frames of each program, its idealization and
its reference, then per program the rewrites (none but
the optimizer's two constants) and the equality of the results. -/
theorem claim : Cert.Claim := ⟨Kernel.Gen.facts, KernelIdeal.Gen.facts, ReferenceIdeal.Gen.facts,
  KernelWOut.Gen.facts, KernelWOutIdeal.Gen.facts, ReferenceWOutIdeal.Gen.facts,
  KernelWIn.Gen.facts, KernelWInIdeal.Gen.facts, ReferenceWInIdeal.Gen.facts,
  KernelWDown.Gen.facts, KernelWDownIdeal.Gen.facts, ReferenceWDownIdeal.Gen.facts,
  KernelWUpA.Gen.facts, KernelWUpAIdeal.Gen.facts, ReferenceWUpAIdeal.Gen.facts,
  KernelWUpB.Gen.facts, KernelWUpBIdeal.Gen.facts, ReferenceWUpBIdeal.Gen.facts,
  KernelWBr.Gen.facts, KernelWBrIdeal.Gen.facts, ReferenceWBrIdeal.Gen.facts,
  KernelWAttn.Gen.facts, KernelWAttnIdeal.Gen.facts, ReferenceWAttnIdeal.Gen.facts,
  KernelWGlu.Gen.facts, KernelWGluIdeal.Gen.facts, ReferenceWGluIdeal.Gen.facts,
  KernelFfnA.Gen.facts, KernelFfnAIdeal.Gen.facts, ReferenceFfnAIdeal.Gen.facts,
  KernelFfnB.Gen.facts, KernelFfnBIdeal.Gen.facts, ReferenceFfnBIdeal.Gen.facts,
  KernelFfnC.Gen.facts, KernelFfnCIdeal.Gen.facts, ReferenceFfnCIdeal.Gen.facts,
  KernelProj.Gen.facts, KernelProjIdeal.Gen.facts, ReferenceProjIdeal.Gen.facts,
  KernelMixA.Gen.facts, KernelMixAIdeal.Gen.facts, ReferenceMixAIdeal.Gen.facts,
  KernelMixB.Gen.facts, KernelMixBIdeal.Gen.facts, ReferenceMixBIdeal.Gen.facts,
  KernelBackA.Gen.facts, KernelBackAIdeal.Gen.facts, ReferenceBackAIdeal.Gen.facts,
  KernelProjA.Gen.facts, KernelProjAIdeal.Gen.facts, ReferenceProjAIdeal.Gen.facts,
  KernelProjB.Gen.facts, KernelProjBIdeal.Gen.facts, ReferenceProjBIdeal.Gen.facts,
  KernelOptSmall.Gen.facts, KernelOptSmallIdeal.Gen.facts, ReferenceOptSmallIdeal.Gen.facts,
  KernelOptUpB.Gen.facts, KernelOptUpBIdeal.Gen.facts, ReferenceOptUpBIdeal.Gen.facts,
  KernelOptUpA.Gen.facts, KernelOptUpAIdeal.Gen.facts, ReferenceOptUpAIdeal.Gen.facts,
  KernelOptDownB.Gen.facts, KernelOptDownBIdeal.Gen.facts, ReferenceOptDownBIdeal.Gen.facts,
  KernelOptDownA.Gen.facts, KernelOptDownAIdeal.Gen.facts, ReferenceOptDownAIdeal.Gen.facts,
  KernelOptInB.Gen.facts, KernelOptInBIdeal.Gen.facts, ReferenceOptInBIdeal.Gen.facts,
  KernelOptInA.Gen.facts, KernelOptInAIdeal.Gen.facts, ReferenceOptInAIdeal.Gen.facts,
  KernelOptGluB.Gen.facts, KernelOptGluBIdeal.Gen.facts, ReferenceOptGluBIdeal.Gen.facts,
  KernelOptGluA.Gen.facts, KernelOptGluAIdeal.Gen.facts, ReferenceOptGluAIdeal.Gen.facts,
  KernelOptBrB.Gen.facts, KernelOptBrBIdeal.Gen.facts, ReferenceOptBrBIdeal.Gen.facts,
  KernelOptBrA.Gen.facts, KernelOptBrAIdeal.Gen.facts, ReferenceOptBrAIdeal.Gen.facts,
  KernelOptAttnB.Gen.facts, KernelOptAttnBIdeal.Gen.facts, ReferenceOptAttnBIdeal.Gen.facts,
  KernelOptAttnA.Gen.facts, KernelOptAttnAIdeal.Gen.facts, ReferenceOptAttnAIdeal.Gen.facts,
  KernelOptConvB.Gen.facts, KernelOptConvBIdeal.Gen.facts, ReferenceOptConvBIdeal.Gen.facts,
  KernelOptConvA.Gen.facts, KernelOptConvAIdeal.Gen.facts, ReferenceOptConvAIdeal.Gen.facts,
  KernelOptOutB.Gen.facts, KernelOptOutBIdeal.Gen.facts, ReferenceOptOutBIdeal.Gen.facts,
  KernelOptOutA.Gen.facts, KernelOptOutAIdeal.Gen.facts, ReferenceOptOutAIdeal.Gen.facts,
  KernelLoss.Gen.facts, KernelLossIdeal.Gen.facts, ReferenceLossIdeal.Gen.facts,
  KernelWSc.Gen.facts, KernelWScIdeal.Gen.facts, ReferenceWScIdeal.Gen.facts,
  KernelWSb.Gen.facts, KernelWSbIdeal.Gen.facts, ReferenceWSbIdeal.Gen.facts,
  KernelConvF.Gen.facts, KernelConvFIdeal.Gen.facts, ReferenceConvFIdeal.Gen.facts,
  fun m ρ _ => Kernel.Gen.frame m ρ, fun m ρ _ => KernelIdeal.Gen.frame m ρ, Merge.reference_frame,
  fun m ρ _ => KernelWOut.Gen.frame m ρ, fun m ρ _ => KernelWOutIdeal.Gen.frame m ρ, WOut.reference_frame,
  fun m ρ _ => KernelWIn.Gen.frame m ρ, fun m ρ _ => KernelWInIdeal.Gen.frame m ρ, WIn.reference_frame,
  fun m ρ _ => KernelWDown.Gen.frame m ρ, fun m ρ _ => KernelWDownIdeal.Gen.frame m ρ, WDown.reference_frame,
  fun m ρ _ => KernelWUpA.Gen.frame m ρ, fun m ρ _ => KernelWUpAIdeal.Gen.frame m ρ, WUpA.reference_frame,
  fun m ρ _ => KernelWUpB.Gen.frame m ρ, fun m ρ _ => KernelWUpBIdeal.Gen.frame m ρ, WUpB.reference_frame,
  fun m ρ _ => KernelWBr.Gen.frame m ρ, fun m ρ _ => KernelWBrIdeal.Gen.frame m ρ, WBr.reference_frame,
  fun m ρ _ => KernelWAttn.Gen.frame m ρ, fun m ρ _ => KernelWAttnIdeal.Gen.frame m ρ, WAttn.reference_frame,
  fun m ρ _ => KernelWGlu.Gen.frame m ρ, fun m ρ _ => KernelWGluIdeal.Gen.frame m ρ, WGlu.reference_frame,
  fun m ρ _ => KernelFfnA.Gen.frame m ρ, fun m ρ _ => KernelFfnAIdeal.Gen.frame m ρ, FfnA.reference_frame,
  fun m ρ _ => KernelFfnB.Gen.frame m ρ, fun m ρ _ => KernelFfnBIdeal.Gen.frame m ρ, FfnB.reference_frame,
  fun m ρ _ => KernelFfnC.Gen.frame m ρ, fun m ρ _ => KernelFfnCIdeal.Gen.frame m ρ, FfnC.reference_frame,
  fun m ρ _ => KernelProj.Gen.frame m ρ, fun m ρ _ => KernelProjIdeal.Gen.frame m ρ, Proj.reference_frame,
  fun m ρ _ => KernelMixA.Gen.frame m ρ, fun m ρ _ => KernelMixAIdeal.Gen.frame m ρ, MixA.reference_frame,
  fun m ρ _ => KernelMixB.Gen.frame m ρ, fun m ρ _ => KernelMixBIdeal.Gen.frame m ρ, MixB.reference_frame,
  fun m ρ _ => KernelBackA.Gen.frame m ρ, fun m ρ _ => KernelBackAIdeal.Gen.frame m ρ, BackA.reference_frame,
  fun m ρ _ => KernelProjA.Gen.frame m ρ, fun m ρ _ => KernelProjAIdeal.Gen.frame m ρ, ProjA.reference_frame,
  fun m ρ _ => KernelProjB.Gen.frame m ρ, fun m ρ _ => KernelProjBIdeal.Gen.frame m ρ, ProjB.reference_frame,
  fun m ρ _ => KernelOptSmall.Gen.frame m ρ, fun m ρ _ => KernelOptSmallIdeal.Gen.frame m ρ, OptSmall.reference_frame,
  fun m ρ _ => KernelOptUpB.Gen.frame m ρ, fun m ρ _ => KernelOptUpBIdeal.Gen.frame m ρ, OptUpB.reference_frame,
  fun m ρ _ => KernelOptUpA.Gen.frame m ρ, fun m ρ _ => KernelOptUpAIdeal.Gen.frame m ρ, OptUpA.reference_frame,
  fun m ρ _ => KernelOptDownB.Gen.frame m ρ, fun m ρ _ => KernelOptDownBIdeal.Gen.frame m ρ, OptDownB.reference_frame,
  fun m ρ _ => KernelOptDownA.Gen.frame m ρ, fun m ρ _ => KernelOptDownAIdeal.Gen.frame m ρ, OptDownA.reference_frame,
  fun m ρ _ => KernelOptInB.Gen.frame m ρ, fun m ρ _ => KernelOptInBIdeal.Gen.frame m ρ, OptInB.reference_frame,
  fun m ρ _ => KernelOptInA.Gen.frame m ρ, fun m ρ _ => KernelOptInAIdeal.Gen.frame m ρ, OptInA.reference_frame,
  fun m ρ _ => KernelOptGluB.Gen.frame m ρ, fun m ρ _ => KernelOptGluBIdeal.Gen.frame m ρ, OptGluB.reference_frame,
  fun m ρ _ => KernelOptGluA.Gen.frame m ρ, fun m ρ _ => KernelOptGluAIdeal.Gen.frame m ρ, OptGluA.reference_frame,
  fun m ρ _ => KernelOptBrB.Gen.frame m ρ, fun m ρ _ => KernelOptBrBIdeal.Gen.frame m ρ, OptBrB.reference_frame,
  fun m ρ _ => KernelOptBrA.Gen.frame m ρ, fun m ρ _ => KernelOptBrAIdeal.Gen.frame m ρ, OptBrA.reference_frame,
  fun m ρ _ => KernelOptAttnB.Gen.frame m ρ, fun m ρ _ => KernelOptAttnBIdeal.Gen.frame m ρ, OptAttnB.reference_frame,
  fun m ρ _ => KernelOptAttnA.Gen.frame m ρ, fun m ρ _ => KernelOptAttnAIdeal.Gen.frame m ρ, OptAttnA.reference_frame,
  fun m ρ _ => KernelOptConvB.Gen.frame m ρ, fun m ρ _ => KernelOptConvBIdeal.Gen.frame m ρ, OptConvB.reference_frame,
  fun m ρ _ => KernelOptConvA.Gen.frame m ρ, fun m ρ _ => KernelOptConvAIdeal.Gen.frame m ρ, OptConvA.reference_frame,
  fun m ρ _ => KernelOptOutB.Gen.frame m ρ, fun m ρ _ => KernelOptOutBIdeal.Gen.frame m ρ, OptOutB.reference_frame,
  fun m ρ _ => KernelOptOutA.Gen.frame m ρ, fun m ρ _ => KernelOptOutAIdeal.Gen.frame m ρ, OptOutA.reference_frame,
  fun m ρ _ => KernelLoss.Gen.frame m ρ, fun m ρ _ => KernelLossIdeal.Gen.frame m ρ, Loss.reference_frame,
  fun m ρ _ => KernelWSc.Gen.frame m ρ, fun m ρ _ => KernelWScIdeal.Gen.frame m ρ, WSc.reference_frame,
  fun m ρ _ => KernelWSb.Gen.frame m ρ, fun m ρ _ => KernelWSbIdeal.Gen.frame m ρ, WSb.reference_frame,
  fun m ρ _ => KernelConvF.Gen.frame m ρ, fun m ρ _ => KernelConvFIdeal.Gen.frame m ρ, ConvF.reference_frame,
  trivial, Merge.same,
  trivial, WOut.same,
  trivial, WIn.same,
  trivial, WDown.same,
  trivial, WUpA.same,
  trivial, WUpB.same,
  trivial, WBr.same,
  trivial, WAttn.same,
  trivial, WGlu.same,
  trivial, FfnA.same,
  trivial, FfnB.same,
  trivial, FfnC.same,
  trivial, Proj.same,
  trivial, MixA.same,
  trivial, MixB.same,
  trivial, BackA.same,
  trivial, ProjA.same,
  trivial, ProjB.same,
  OptSmall.preserved, OptSmall.same,
  OptUpB.preserved, OptUpB.same,
  OptUpA.preserved, OptUpA.same,
  OptDownB.preserved, OptDownB.same,
  OptDownA.preserved, OptDownA.same,
  OptInB.preserved, OptInB.same,
  OptInA.preserved, OptInA.same,
  OptGluB.preserved, OptGluB.same,
  OptGluA.preserved, OptGluA.same,
  OptBrB.preserved, OptBrB.same,
  OptBrA.preserved, OptBrA.same,
  OptAttnB.preserved, OptAttnB.same,
  OptAttnA.preserved, OptAttnA.same,
  OptConvB.preserved, OptConvB.same,
  OptConvA.preserved, OptConvA.same,
  OptOutB.preserved, OptOutB.same,
  OptOutA.preserved, OptOutA.same,
  trivial, Loss.same,
  trivial, WSc.same,
  trivial, WSb.same,
  trivial, ConvF.same⟩

end Cert.Proof

end
